-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Reference11 (m : (ℓ : Loc Cert.Reference11.nD Cert.Reference11.τ Cert.Reference11.sig) → Buf (Elt Bits) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Reference12 (m : (ℓ : Loc Cert.Reference12.nD Cert.Reference12.τ Cert.Reference12.sig) → Buf (Elt Bits) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Reference11 [hReference11 : Cert.Reference11.Facts] : Prop :=
  ∀ (m : (ℓ : Loc Cert.Reference11.nD Cert.Reference11.τ Cert.Reference11.sig) → Buf (Elt Bits) ℓ) (g : Dev Cert.Reference11.nD → PrngReg), Pre_Reference11 m →
    θ_run (Cert.Reference11.defs (F := Bits)) (onTc (τ := Cert.Reference11.τ) (Cert.Reference11.main (F := Bits))) ⟨m, fun _ => 0, g⟩ (fun r => (∀ c : Dev Cert.Reference11.nD,
      r.2.mem ((c.tc : Thread Cert.Reference11.nD Cert.Reference11.τ).loc Cert.Reference11.main_arg0) = m ((c.tc : Thread Cert.Reference11.nD Cert.Reference11.τ).loc Cert.Reference11.main_arg0)
      ∧ r.2.mem ((c.tc : Thread Cert.Reference11.nD Cert.Reference11.τ).loc Cert.Reference11.main_arg1) = m ((c.tc : Thread Cert.Reference11.nD Cert.Reference11.τ).loc Cert.Reference11.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0))
      ∧ r.2.sem = fun _ => 0)

def quiescent_Reference12 [hReference12 : Cert.Reference12.Facts] : Prop :=
  ∀ (m : (ℓ : Loc Cert.Reference12.nD Cert.Reference12.τ Cert.Reference12.sig) → Buf (Elt Bits) ℓ) (g : Dev Cert.Reference12.nD → PrngReg), Pre_Reference12 m →
    θ_run (Cert.Reference12.defs (F := Bits)) (onTc (τ := Cert.Reference12.τ) (Cert.Reference12.main (F := Bits))) ⟨m, fun _ => 0, g⟩ (fun r => (∀ c : Dev Cert.Reference12.nD,
      r.2.mem ((c.tc : Thread Cert.Reference12.nD Cert.Reference12.τ).loc Cert.Reference12.main_arg0) = m ((c.tc : Thread Cert.Reference12.nD Cert.Reference12.τ).loc Cert.Reference12.main_arg0))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)) (v4 : (c : Dev Cert.KernelIdeal.nD) → Buf (Elt Ideal) ((c.tc : Thread Cert.KernelIdeal.nD Cert.KernelIdeal.τ).loc Cert.KernelIdeal.main_v9_4)) (v5 : (c : Dev Cert.KernelIdeal.nD) → Buf (Elt Ideal) ((c.tc : Thread Cert.KernelIdeal.nD Cert.KernelIdeal.τ).loc Cert.KernelIdeal.main_v9_5)) (v6 : (c : Dev Cert.KernelIdeal.nD) → Buf (Elt Ideal) ((c.tc : Thread Cert.KernelIdeal.nD Cert.KernelIdeal.τ).loc Cert.KernelIdeal.main_v9_6)) (v7 : (c : Dev Cert.KernelIdeal.nD) → Buf (Elt Ideal) ((c.tc : Thread Cert.KernelIdeal.nD Cert.KernelIdeal.τ).loc Cert.KernelIdeal.main_v9_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_v9_4) = v4 c
          ∧ r.2.mem ((c.tc : Thread Cert.KernelIdeal.nD Cert.KernelIdeal.τ).loc Cert.KernelIdeal.main_v9_5) = v5 c
          ∧ r.2.mem ((c.tc : Thread Cert.KernelIdeal.nD Cert.KernelIdeal.τ).loc Cert.KernelIdeal.main_v9_6) = v6 c
          ∧ r.2.mem ((c.tc : Thread Cert.KernelIdeal.nD Cert.KernelIdeal.τ).loc Cert.KernelIdeal.main_v9_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_v113) = v2 c
          ∧ r.2.mem ((c.tc : Thread Cert.ReferenceIdeal.nD Cert.ReferenceIdeal.τ).loc Cert.ReferenceIdeal.main_v114) = v3 c
          ∧ r.2.mem ((c.tc : Thread Cert.ReferenceIdeal.nD Cert.ReferenceIdeal.τ).loc Cert.ReferenceIdeal.main_v115) = v4 c
          ∧ r.2.mem ((c.tc : Thread Cert.ReferenceIdeal.nD Cert.ReferenceIdeal.τ).loc Cert.ReferenceIdeal.main_v119) = v5 c
          ∧ r.2.mem ((c.tc : Thread Cert.ReferenceIdeal.nD Cert.ReferenceIdeal.τ).loc Cert.ReferenceIdeal.main_v123) = v6 c
          ∧ r.2.mem ((c.tc : Thread Cert.ReferenceIdeal.nD Cert.ReferenceIdeal.τ).loc Cert.ReferenceIdeal.main_v124) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v14_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_v14_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_v44) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  IdealRules.named_const.Statement Cert.Kernel3Ideal.κ "exit" .f32 0xC2D20000#32 ⊥

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v54) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_v17) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v10_0)) (v1 : (c : Dev Cert.Kernel6Ideal.nD) → Buf (Elt Ideal) ((c.tc : Thread Cert.Kernel6Ideal.nD Cert.Kernel6Ideal.τ).loc Cert.Kernel6Ideal.main_v10_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10_0) = v0 c
          ∧ r.2.mem ((c.tc : Thread Cert.Kernel6Ideal.nD Cert.Kernel6Ideal.τ).loc Cert.Kernel6Ideal.main_v10_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v123) = v0 c
          ∧ r.2.mem ((c.tc : Thread Cert.Reference6Ideal.nD Cert.Reference6Ideal.τ).loc Cert.Reference6Ideal.main_v125) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v25)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v25) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v21) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v20)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v20) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v18) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v40)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v40) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v40) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v8_0)) (v1 : (c : Dev Cert.Kernel10Ideal.nD) → Buf (Elt Ideal) ((c.tc : Thread Cert.Kernel10Ideal.nD Cert.Kernel10Ideal.τ).loc Cert.Kernel10Ideal.main_v8_1)) (v2 : (c : Dev Cert.Kernel10Ideal.nD) → Buf (Elt Ideal) ((c.tc : Thread Cert.Kernel10Ideal.nD Cert.Kernel10Ideal.τ).loc Cert.Kernel10Ideal.main_v8_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v8_0) = v0 c
          ∧ r.2.mem ((c.tc : Thread Cert.Kernel10Ideal.nD Cert.Kernel10Ideal.τ).loc Cert.Kernel10Ideal.main_v8_1) = v1 c
          ∧ r.2.mem ((c.tc : Thread Cert.Kernel10Ideal.nD Cert.Kernel10Ideal.τ).loc Cert.Kernel10Ideal.main_v8_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v25) = v0 c
          ∧ r.2.mem ((c.tc : Thread Cert.Reference10Ideal.nD Cert.Reference10Ideal.τ).loc Cert.Reference10Ideal.main_v27) = v1 c
          ∧ r.2.mem ((c.tc : Thread Cert.Reference10Ideal.nD Cert.Reference10Ideal.τ).loc Cert.Reference10Ideal.main_v29) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v9) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def bitexact_Kernel11_Reference11 [hKernel11 : Cert.Kernel11.Facts] [hReference11 : Cert.Reference11.Facts] : Prop :=
  ∀ (m : (ℓ : Loc Cert.Kernel11.nD Cert.Kernel11.τ Cert.Kernel11.sig) → Buf (Elt Bits) ℓ) (g : Dev Cert.Kernel11.nD → PrngReg)
    (m' : (ℓ : Loc Cert.Reference11.nD Cert.Reference11.τ Cert.Reference11.sig) → Buf (Elt Bits) ℓ) (g' : Dev Cert.Reference11.nD → PrngReg), Pre_Kernel11 m →
    (∀ c : Dev Cert.Kernel11.nD,
      m' ((c.tc : Thread Cert.Reference11.nD Cert.Reference11.τ).loc Cert.Reference11.main_arg0) = m ((c.tc : Thread Cert.Kernel11.nD Cert.Kernel11.τ).loc Cert.Kernel11.main_arg0)
      ∧ m' ((c.tc : Thread Cert.Reference11.nD Cert.Reference11.τ).loc Cert.Reference11.main_arg1) = m ((c.tc : Thread Cert.Kernel11.nD Cert.Kernel11.τ).loc Cert.Kernel11.main_arg1)) →
    ∃ (v0 : (c : Dev Cert.Kernel11.nD) → Buf (Elt Bits) ((c.tc : Thread Cert.Kernel11.nD Cert.Kernel11.τ).loc Cert.Kernel11.main_v0)),
      θ_run (Cert.Kernel11.defs (F := Bits)) (onTc (τ := Cert.Kernel11.τ) (Cert.Kernel11.main (F := Bits))) ⟨m, fun _ => 0, g⟩ (fun r => ∀ c : Dev Cert.Kernel11.nD,
          r.2.mem ((c.tc : Thread Cert.Kernel11.nD Cert.Kernel11.τ).loc Cert.Kernel11.main_v0) = v0 c
          ∧ r.2.mem ((c.tc : Thread Cert.Kernel11.nD Cert.Kernel11.τ).loc Cert.Kernel11.main_arg0) = m ((c.tc : Thread Cert.Kernel11.nD Cert.Kernel11.τ).loc Cert.Kernel11.main_arg0)
          ∧ r.2.mem ((c.tc : Thread Cert.Kernel11.nD Cert.Kernel11.τ).loc Cert.Kernel11.main_arg1) = m ((c.tc : Thread Cert.Kernel11.nD Cert.Kernel11.τ).loc Cert.Kernel11.main_arg1))
      ∧ θ_run (Cert.Reference11.defs (F := Bits)) (onTc (τ := Cert.Reference11.τ) (Cert.Reference11.main (F := Bits))) ⟨m', fun _ => 0, g'⟩ (fun r => ∀ c : Dev Cert.Reference11.nD,
          r.2.mem ((c.tc : Thread Cert.Reference11.nD Cert.Reference11.τ).loc Cert.Reference11.main_v9) = v0 c
          ∧ r.2.mem ((c.tc : Thread Cert.Reference11.nD Cert.Reference11.τ).loc Cert.Reference11.main_arg0) = m' ((c.tc : Thread Cert.Reference11.nD Cert.Reference11.τ).loc Cert.Reference11.main_arg0)
          ∧ r.2.mem ((c.tc : Thread Cert.Reference11.nD Cert.Reference11.τ).loc Cert.Reference11.main_arg1) = m' ((c.tc : Thread Cert.Reference11.nD Cert.Reference11.τ).loc Cert.Reference11.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0))

def bitexact_Kernel12_Reference12 [hKernel12 : Cert.Kernel12.Facts] [hReference12 : Cert.Reference12.Facts] : Prop :=
  ∀ (m : (ℓ : Loc Cert.Kernel12.nD Cert.Kernel12.τ Cert.Kernel12.sig) → Buf (Elt Bits) ℓ) (g : Dev Cert.Kernel12.nD → PrngReg)
    (m' : (ℓ : Loc Cert.Reference12.nD Cert.Reference12.τ Cert.Reference12.sig) → Buf (Elt Bits) ℓ) (g' : Dev Cert.Reference12.nD → PrngReg), Pre_Kernel12 m →
    (∀ c : Dev Cert.Kernel12.nD,
      m' ((c.tc : Thread Cert.Reference12.nD Cert.Reference12.τ).loc Cert.Reference12.main_arg0) = m ((c.tc : Thread Cert.Kernel12.nD Cert.Kernel12.τ).loc Cert.Kernel12.main_arg0)) →
    ∃ (v0 : (c : Dev Cert.Kernel12.nD) → Buf (Elt Bits) ((c.tc : Thread Cert.Kernel12.nD Cert.Kernel12.τ).loc Cert.Kernel12.main_v0)),
      θ_run (Cert.Kernel12.defs (F := Bits)) (onTc (τ := Cert.Kernel12.τ) (Cert.Kernel12.main (F := Bits))) ⟨m, fun _ => 0, g⟩ (fun r => ∀ c : Dev Cert.Kernel12.nD,
          r.2.mem ((c.tc : Thread Cert.Kernel12.nD Cert.Kernel12.τ).loc Cert.Kernel12.main_v0) = v0 c
          ∧ r.2.mem ((c.tc : Thread Cert.Kernel12.nD Cert.Kernel12.τ).loc Cert.Kernel12.main_arg0) = m ((c.tc : Thread Cert.Kernel12.nD Cert.Kernel12.τ).loc Cert.Kernel12.main_arg0))
      ∧ θ_run (Cert.Reference12.defs (F := Bits)) (onTc (τ := Cert.Reference12.τ) (Cert.Reference12.main (F := Bits))) ⟨m', fun _ => 0, g'⟩ (fun r => ∀ c : Dev Cert.Reference12.nD,
          r.2.mem ((c.tc : Thread Cert.Reference12.nD Cert.Reference12.τ).loc Cert.Reference12.main_v2) = v0 c
          ∧ r.2.mem ((c.tc : Thread Cert.Reference12.nD Cert.Reference12.τ).loc Cert.Reference12.main_arg0) = m' ((c.tc : Thread Cert.Reference12.nD Cert.Reference12.τ).loc Cert.Reference12.main_arg0))

def preserves_Kernel13_Kernel13Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hReference11 : Cert.Reference11.Facts) (hKernel12 : Cert.Kernel12.Facts) (hKernel12Ideal : Cert.Kernel12Ideal.Facts) (hReference12Ideal : Cert.Reference12Ideal.Facts) (hReference12 : Cert.Reference12.Facts) (hKernel13 : Cert.Kernel13.Facts) (hKernel13Ideal : Cert.Kernel13Ideal.Facts) (hPre_finite : Cert.Pre_finite.Facts) (hPre_finite2 : Cert.Pre_finite2.Facts) (hPre_finite3 : Cert.Pre_finite3.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Reference11 (hReference11 := hReference11)
    ∧ quiescent_Kernel12 (hKernel12 := hKernel12)
    ∧ quiescent_Kernel12Ideal (hKernel12Ideal := hKernel12Ideal)
    ∧ quiescent_Reference12Ideal (hReference12Ideal := hReference12Ideal)
    ∧ quiescent_Reference12 (hReference12 := hReference12)
    ∧ quiescent_Kernel13 (hKernel13 := hKernel13)
    ∧ quiescent_Kernel13Ideal (hKernel13Ideal := hKernel13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ bitexact_Kernel11_Reference11 (hKernel11 := hKernel11) (hReference11 := hReference11)
    ∧ preserves_Kernel12_Kernel12Ideal
    ∧ algebraic_Kernel12Ideal_Reference12Ideal (hKernel12Ideal := hKernel12Ideal) (hReference12Ideal := hReference12Ideal)
    ∧ bitexact_Kernel12_Reference12 (hKernel12 := hKernel12) (hReference12 := hReference12)
    ∧ preserves_Kernel13_Kernel13Ideal
-- ==== Pre_finite.lean ====
abbrev S2x4096x1024 : Shape := ⟨3, ![2, 4096, 1024]⟩
abbrev S2x4096x6672 : Shape := ⟨3, ![2, 4096, 6672]⟩
abbrev S1x1024 : Shape := ⟨2, ![1, 1024]⟩
abbrev S1x2048x1024 : Shape := ⟨3, ![1, 2048, 1024]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S2x4096x6672 : S_.BroadcastsInDim S2x4096x6672 (![] : Fin 0 → Fin S2x4096x6672.rank)
  reducesTo_S2x4096x6672_S_d0_1_2 : S2x4096x6672.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x2048x1024 : S_.BroadcastsInDim S1x2048x1024 (![] : Fin 0 → Fin S1x2048x1024.rank)
  reducesTo_S1x2048x1024_S_d0_1_2 : S1x2048x1024.ReducesTo [0, 1, 2] S_

variable [Facts]

def fn_part2 {F : FTy → Type} [FloatOps F] (main_arg7 : FVec F S2x4096x1024 .f32) (main_v33 : IVec S_ 1) : IVec S_ 1 :=
  let main_v34 : FVec F S2x4096x1024 .f32 := Host.absf main_arg7
  let main_cst_12 : FVec F S_ .f32 := constant S_ .f32 0x7F800000#32
  let main_v35 : FVec F S2x4096x1024 .f32 := broadcastInDim S2x4096x1024 ![] bcast_S_S2x4096x1024 main_cst_12
  let main_v36 : IVec S2x4096x1024 1 := cmpf .olt main_v34 main_v35
  let main_c_13 : IVec S_ 1 := constantI S_ 1 1#1
  let main_v37 : IVec S_ 1 := (fun x v => Host.reduce IntOp.andi x v reducesTo_S2x4096x1024_S_d0_1_2 h_S_) main_v36 main_c_13
  let main_v38 : IVec S_ 1 := andi main_v33 main_v37
  main_v38

def fn_part1 {F : FTy → Type} [FloatOps F] (main_arg4 : FVec F S1x1024 .f32) (main_arg5 : FVec F S1x1024 .f32) (main_arg6 : FVec F S1x2048x1024 .f32) (main_arg7 : FVec F S2x4096x1024 .f32) (main_v13 : IVec S_ 1) (main_v16 : IVec S2x4096x1024 1) : IVec S_ 1 :=
  let main_c_5 : IVec S_ 1 := constantI S_ 1 1#1
  let main_v17 : IVec S_ 1 := (fun x v => Host.reduce IntOp.andi x v reducesTo_S2x4096x1024_S_d0_1_2 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1x2048x1024 .f32 := Host.absf main_arg6
  let main_cst_10 : FVec F S_ .f32 := constant S_ .f32 0x7F800000#32
  let main_v30 : FVec F S1x2048x1024 .f32 := broadcastInDim S1x2048x1024 ![] bcast_S_S1x2048x1024 main_cst_10
  let main_v31 : IVec S1x2048x1024 1 := cmpf .olt main_v29 main_v30
  let main_c_11 : IVec S_ 1 := constantI S_ 1 1#1
  let main_v32 : IVec S_ 1 := (fun x v => Host.reduce IntOp.andi x v reducesTo_S1x2048x1024_S_d0_1_2 h_S_) main_v31 main_c_11
  let main_v33 : IVec S_ 1 := andi main_v28 main_v32
  fn_part2 (F := F) main_arg7 main_v33

def fn {F : FTy → Type} [FloatOps F] (main_arg0 : FVec F S2x4096x1024 .f32) (main_arg1 : FVec F S2x4096x1024 .f32) (main_arg2 : FVec F S2x4096x6672 .f32) (main_arg3 : FVec F S2x4096x1024 .f32) (main_arg4 : FVec F S1x1024 .f32) (main_arg5 : FVec F S1x1024 .f32) (main_arg6 : FVec F S1x2048x1024 .f32) (main_arg7 : FVec F S2x4096x1024 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S2x4096x1024 .f32 := Host.absf main_arg1
  let main_cst_0 : FVec F S_ .f32 := constant S_ .f32 0x7F800000#32
  let main_v5 : FVec F S2x4096x1024 .f32 := broadcastInDim S2x4096x1024 ![] bcast_S_S2x4096x1024 main_cst_0
  let main_v6 : IVec S2x4096x1024 1 := cmpf .olt main_v4 main_v5
  let main_c_1 : IVec S_ 1 := constantI S_ 1 1#1
  let main_v7 : IVec S_ 1 := (fun x v => Host.reduce IntOp.andi x v reducesTo_S2x4096x1024_S_d0_1_2 h_S_) main_v6 main_c_1
  let main_v8 : IVec S_ 1 := andi main_v3 main_v7
  let main_v9 : FVec F S2x4096x6672 .f32 := Host.absf main_arg2
  let main_cst_2 : FVec F S_ .f32 := constant S_ .f32 0x7F800000#32
  let main_v10 : FVec F S2x4096x6672 .f32 := broadcastInDim S2x4096x6672 ![] bcast_S_S2x4096x6672 main_cst_2
  let main_v11 : IVec S2x4096x6672 1 := cmpf .olt main_v9 main_v10
  let main_c_3 : IVec S_ 1 := constantI S_ 1 1#1
  let main_v12 : IVec S_ 1 := (fun x v => Host.reduce IntOp.andi x v reducesTo_S2x4096x6672_S_d0_1_2 h_S_) main_v11 main_c_3
  let main_v13 : IVec S_ 1 := andi main_v8 main_v12
  let main_v14 : FVec F S2x4096x1024 .f32 := Host.absf main_arg3
  let main_cst_4 : FVec F S_ .f32 := constant S_ .f32 0x7F800000#32
  let main_v15 : FVec F S2x4096x1024 .f32 := broadcastInDim S2x4096x1024 ![] bcast_S_S2x4096x1024 main_cst_4
  let main_v16 : IVec S2x4096x1024 1 := cmpf .olt main_v14 main_v15
  fn_part1 (F := F) main_arg4 main_arg5 main_arg6 main_arg7 main_v13 main_v16
-- ==== Pre_finite2.lean ====
abbrev S2x4096x1024 : Shape := ⟨3, ![2, 4096, 1024]⟩
abbrev S1x1024 : Shape := ⟨2, ![1, 1024]⟩
abbrev S1x1024x6672 : Shape := ⟨3, ![1, 1024, 6672]⟩
abbrev S2x4096x6672 : Shape := ⟨3, ![2, 4096, 6672]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x6672 : S_.BroadcastsInDim S1x1024x6672 (![] : Fin 0 → Fin S1x1024x6672.rank)
  reducesTo_S1x1024x6672_S_d0_1_2 : S1x1024x6672.ReducesTo [0, 1, 2] S_
  bcast_S_S2x4096x6672 : S_.BroadcastsInDim S2x4096x6672 (![] : Fin 0 → Fin S2x4096x6672.rank)
  reducesTo_S2x4096x6672_S_d0_1_2 : S2x4096x6672.ReducesTo [0, 1, 2] S_

variable [Facts]

def fn_part1 {F : FTy → Type} [FloatOps F] (main_arg4 : FVec F S2x4096x1024 .f32) (main_v13 : IVec S_ 1) (main_v16 : IVec S2x4096x6672 1) : IVec S_ 1 :=
  let main_c_5 : IVec S_ 1 := constantI S_ 1 1#1
  let main_v17 : IVec S_ 1 := (fun x v => Host.reduce IntOp.andi x v reducesTo_S2x4096x6672_S_d0_1_2 h_S_) main_v16 main_c_5
  let main_v18 : IVec S_ 1 := andi main_v13 main_v17
  let main_v19 : FVec F S2x4096x1024 .f32 := Host.absf main_arg4
  let main_cst_6 : FVec F S_ .f32 := constant S_ .f32 0x7F800000#32
  let main_v20 : FVec F S2x4096x1024 .f32 := broadcastInDim S2x4096x1024 ![] bcast_S_S2x4096x1024 main_cst_6
  let main_v21 : IVec S2x4096x1024 1 := cmpf .olt main_v19 main_v20
  let main_c_7 : IVec S_ 1 := constantI S_ 1 1#1
  let main_v22 : IVec S_ 1 := (fun x v => Host.reduce IntOp.andi x v reducesTo_S2x4096x1024_S_d0_1_2 h_S_) main_v21 main_c_7
  let main_v23 : IVec S_ 1 := andi main_v18 main_v22
  main_v23

def fn {F : FTy → Type} [FloatOps F] (main_arg0 : FVec F S2x4096x1024 .f32) (main_arg1 : FVec F S1x1024 .f32) (main_arg2 : FVec F S1x1024x6672 .f32) (main_arg3 : FVec F S2x4096x6672 .f32) (main_arg4 : FVec F S2x4096x1024 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x6672 .f32 := Host.absf main_arg2
  let main_cst_2 : FVec F S_ .f32 := constant S_ .f32 0x7F800000#32
  let main_v10 : FVec F S1x1024x6672 .f32 := broadcastInDim S1x1024x6672 ![] bcast_S_S1x1024x6672 main_cst_2
  let main_v11 : IVec S1x1024x6672 1 := cmpf .olt main_v9 main_v10
  let main_c_3 : IVec S_ 1 := constantI S_ 1 1#1
  let main_v12 : IVec S_ 1 := (fun x v => Host.reduce IntOp.andi x v reducesTo_S1x1024x6672_S_d0_1_2 h_S_) main_v11 main_c_3
  let main_v13 : IVec S_ 1 := andi main_v8 main_v12
  let main_v14 : FVec F S2x4096x6672 .f32 := Host.absf main_arg3
  let main_cst_4 : FVec F S_ .f32 := constant S_ .f32 0x7F800000#32
  let main_v15 : FVec F S2x4096x6672 .f32 := broadcastInDim S2x4096x6672 ![] bcast_S_S2x4096x6672 main_cst_4
  let main_v16 : IVec S2x4096x6672 1 := cmpf .olt main_v14 main_v15
  fn_part1 (F := F) main_arg4 main_v13 main_v16
-- ==== Pre_finite3.lean ====
abbrev S2x4096x6672 : Shape := ⟨3, ![2, 4096, 6672]⟩
abbrev S1x64 : Shape := ⟨2, ![1, 64]⟩
abbrev S_ : Shape := ⟨0, ![]⟩

class Facts : Prop where
  bcast_S_S2x4096x6672 : S_.BroadcastsInDim S2x4096x6672 (![] : Fin 0 → Fin S2x4096x6672.rank)
  reducesTo_S2x4096x6672_S_d0_1_2 : S2x4096x6672.ReducesTo [0, 1, 2] S_
  h_S_ : 0 < S_.numel
  bcast_S_S1x64 : S_.BroadcastsInDim S1x64 (![] : Fin 0 → Fin S1x64.rank)
  reducesTo_S1x64_S_d0_1 : S1x64.ReducesTo [0, 1] S_

variable [Facts]

def fn {F : FTy → Type} [FloatOps F] (main_arg0 : FVec F S2x4096x6672 .f32) (main_arg1 : FVec F S1x64 .f32) (main_arg2 : FVec F S1x64 .f32) : IVec S_ 1 :=
  let main_v0 : FVec F S2x4096x6672 .f32 := Host.absf main_arg0
  let main_cst : FVec F S_ .f32 := constant S_ .f32 0x7F800000#32
  let main_v1 : FVec F S2x4096x6672 .f32 := broadcastInDim S2x4096x6672 ![] bcast_S_S2x4096x6672 main_cst
  let main_v2 : IVec S2x4096x6672 1 := cmpf .olt main_v0 main_v1
  let main_c : IVec S_ 1 := constantI S_ 1 1#1
  let main_v3 : IVec S_ 1 := (fun x v => Host.reduce IntOp.andi x v reducesTo_S2x4096x6672_S_d0_1_2 h_S_) main_v2 main_c
  let main_v4 : FVec F S1x64 .f32 := Host.absf main_arg1
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  main_v13
-- ==== Pre_finite6.lean ====
abbrev S2x4096x6672 : Shape := ⟨3, ![2, 4096, 6672]⟩
abbrev S1x4x1536 : Shape := ⟨3, ![1, 4, 1536]⟩
abbrev S1x1536 : Shape := ⟨2, ![1, 1536]⟩
abbrev S1x16 : Shape := ⟨2, ![1, 16]⟩
abbrev S_ : Shape := ⟨0, ![]⟩

class Facts : Prop where
  bcast_S_S2x4096x6672 : S_.BroadcastsInDim S2x4096x6672 (![] : Fin 0 → Fin S2x4096x6672.rank)
  reducesTo_S2x4096x6672_S_d0_1_2 : S2x4096x6672.ReducesTo [0, 1, 2] S_
  h_S_ : 0 < S_.numel
  bcast_S_S1x4x1536 : S_.BroadcastsInDim S1x4x1536 (![] : Fin 0 → Fin S1x4x1536.rank)
  reducesTo_S1x4x1536_S_d0_1_2 : S1x4x1536.ReducesTo [0, 1, 2] S_
  bcast_S_S1x1536 : S_.BroadcastsInDim S1x1536 (![] : Fin 0 → Fin S1x1536.rank)
  reducesTo_S1x1536_S_d0_1 : S1x1536.ReducesTo [0, 1] S_
  bcast_S_S1x16 : S_.BroadcastsInDim S1x16 (![] : Fin 0 → Fin S1x16.rank)
  reducesTo_S1x16_S_d0_1 : S1x16.ReducesTo [0, 1] S_

variable [Facts]

def fn_part1 {F : FTy → Type} [FloatOps F] (main_arg4 : FVec F S1x16 .f32) (main_arg5 : FVec F S1x16 .f32) (main_v13 : IVec S_ 1) (main_v16 : IVec S1x16 1) : IVec S_ 1 :=
  let main_c_5 : IVec S_ 1 := constantI S_ 1 1#1
  let main_v17 : IVec S_ 1 := (fun x v => Host.reduce IntOp.andi x v reducesTo_S1x16_S_d0_1 h_S_) main_v16 main_c_5
  let main_v18 : IVec S_ 1 := andi main_v13 main_v17
  let main_v19 : FVec F S1x16 .f32 := Host.absf main_arg4
  let main_cst_6 : FVec F S_ .f32 := constant S_ .f32 0x7F800000#32
  let main_v20 : FVec F S1x16 .f32 := broadcastInDim S1x16 ![] bcast_S_S1x16 main_cst_6
  let main_v21 : IVec S1x16 1 := cmpf .olt main_v19 main_v20
  let main_c_7 : IVec S_ 1 := constantI S_ 1 1#1
  let main_v22 : IVec S_ 1 := (fun x v => Host.reduce IntOp.andi x v reducesTo_S1x16_S_d0_1 h_S_) main_v21 main_c_7
  let main_v23 : IVec S_ 1 := andi main_v18 main_v22
  let main_v24 : FVec F S1x16 .f32 := Host.absf main_arg5
  let main_cst_8 : FVec F S_ .f32 := constant S_ .f32 0x7F800000#32
  let main_v25 : FVec F S1x16 .f32 := broadcastInDim S1x16 ![] bcast_S_S1x16 main_cst_8
  let main_v26 : IVec S1x16 1 := cmpf .olt main_v24 main_v25
  let main_c_9 : IVec S_ 1 := constantI S_ 1 1#1
  let main_v27 : IVec S_ 1 := (fun x v => Host.reduce IntOp.andi x v reducesTo_S1x16_S_d0_1 h_S_) main_v26 main_c_9
  let main_v28 : IVec S_ 1 := andi main_v23 main_v27
  main_v28

def fn {F : FTy → Type} [FloatOps F] (main_arg0 : FVec F S2x4096x6672 .f32) (main_arg1 : FVec F S1x4x1536 .f32) (main_arg2 : FVec F S1x1536 .f32) (main_arg3 : FVec F S1x16 .f32) (main_arg4 : FVec F S1x16 .f32) (main_arg5 : FVec F S1x16 .f32) : IVec S_ 1 :=
  let main_v0 : FVec F S2x4096x6672 .f32 := Host.absf main_arg0
  let main_cst : FVec F S_ .f32 := constant S_ .f32 0x7F800000#32
  let main_v1 : FVec F S2x4096x6672 .f32 := broadcastInDim S2x4096x6672 ![] bcast_S_S2x4096x6672 main_cst
  let main_v2 : IVec S2x4096x6672 1 := cmpf .olt main_v0 main_v1
  let main_c : IVec S_ 1 := constantI S_ 1 1#1
  let main_v3 : IVec S_ 1 := (fun x v => Host.reduce IntOp.andi x v reducesTo_S2x4096x6672_S_d0_1_2 h_S_) main_v2 main_c
  let main_v4 : FVec F S1x4x1536 .f32 := Host.absf main_arg1
  let main_cst_0 : FVec F S_ .f32 := constant S_ .f32 0x7F800000#32
  let main_v5 : FVec F S1x4x1536 .f32 := broadcastInDim S1x4x1536 ![] bcast_S_S1x4x1536 main_cst_0
  let main_v6 : IVec S1x4x1536 1 := cmpf .olt main_v4 main_v5
  let main_c_1 : IVec S_ 1 := constantI S_ 1 1#1
  let main_v7 : IVec S_ 1 := (fun x v => Host.reduce IntOp.andi x v reducesTo_S1x4x1536_S_d0_1_2 h_S_) main_v6 main_c_1
  let main_v8 : IVec S_ 1 := andi main_v3 main_v7
  let main_v9 : FVec F S1x1536 .f32 := Host.absf main_arg2
  let main_cst_2 : FVec F S_ .f32 := constant S_ .f32 0x7F800000#32
  let main_v10 : FVec F S1x1536 .f32 := broadcastInDim S1x1536 ![] bcast_S_S1x1536 main_cst_2
  let main_v11 : IVec S1x1536 1 := cmpf .olt main_v9 main_v10
  let main_c_3 : IVec S_ 1 := constantI S_ 1 1#1
  let main_v12 : IVec S_ 1 := (fun x v => Host.reduce IntOp.andi x v reducesTo_S1x1536_S_d0_1 h_S_) main_v11 main_c_3
  let main_v13 : IVec S_ 1 := andi main_v8 main_v12
  let main_v14 : FVec F S1x16 .f32 := Host.absf main_arg3
  let main_cst_4 : FVec F S_ .f32 := constant S_ .f32 0x7F800000#32
  let main_v15 : FVec F S1x16 .f32 := broadcastInDim S1x16 ![] bcast_S_S1x16 main_cst_4
  let main_v16 : IVec S1x16 1 := cmpf .olt main_v14 main_v15
  fn_part1 (F := F) main_arg4 main_arg5 main_v13 main_v16
-- ==== Kernel.lean ====
abbrev S2x4096x1024 : Shape := ⟨3, ![2, 4096, 1024]⟩
abbrev S2x4096x6672 : Shape := ⟨3, ![2, 4096, 6672]⟩
abbrev S1x1024 : Shape := ⟨2, ![1, 1024]⟩
abbrev S1x2048x1024 : Shape := ⟨3, ![1, 2048, 1024]⟩
abbrev S_ : Shape := ⟨0, ![]⟩
abbrev S2x4096x7168 : Shape := ⟨3, ![2, 4096, 7168]⟩
abbrev S8192x7168 : Shape := ⟨2, ![8192, 7168]⟩
abbrev S2048x1024 : Shape := ⟨2, ![2048, 1024]⟩
abbrev S8192x1024 : Shape := ⟨2, ![8192, 1024]⟩
abbrev S1024x2048 : Shape := ⟨2, ![1024, 2048]⟩
abbrev S2048x8192 : Shape := ⟨2, ![2048, 8192]⟩
abbrev S8192x2048 : Shape := ⟨2, ![8192, 2048]⟩
abbrev S8x1024 : Shape := ⟨2, ![8, 1024]⟩
abbrev S8x128 : Shape := ⟨2, ![8, 128]⟩
abbrev S256x1024 : Shape := ⟨2, ![256, 1024]⟩
abbrev S2048x256 : Shape := ⟨2, ![2048, 256]⟩
abbrev S256x2048 : Shape := ⟨2, ![256, 2048]⟩
abbrev S256 : Shape := ⟨1, ![256]⟩
abbrev S256x1 : Shape := ⟨2, ![256, 1]⟩
abbrev S1024x256 : Shape := ⟨2, ![1024, 256]⟩
abbrev S1024x1024 : Shape := ⟨2, ![1024, 1024]⟩
abbrev S1x256x1024 : Shape := ⟨3, ![1, 256, 1024]⟩
abbrev S1 : Shape := ⟨1, ![1]⟩
abbrev S1x1x1 : Shape := ⟨3, ![1, 1, 1]⟩
abbrev S1024 : Shape := ⟨1, ![1024]⟩

abbrev nBuf : Space → Nat
  | .hbm => 27
  | .vmem => 30
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x6672, .f32⟩
  | .hbm, ⟨3, _⟩ => ⟨S2x4096x1024, .f32⟩
  | .hbm, ⟨4, _⟩ => ⟨S1x1024, .f32⟩
  | .hbm, ⟨5, _⟩ => ⟨S1x1024, .f32⟩
  | .hbm, ⟨6, _⟩ => ⟨S1x2048x1024, .f32⟩
  | .hbm, ⟨7, _⟩ => ⟨S2x4096x1024, .f32⟩
  | .hbm, ⟨8, _⟩ => ⟨S_, .i32⟩
  | .hbm, ⟨9, _⟩ => ⟨S_, .f32⟩
  | .hbm, ⟨10, _⟩ => ⟨S2x4096x7168, .f32⟩
  | .hbm, ⟨11, _⟩ => ⟨S8192x7168, .f32⟩
  | .hbm, ⟨12, _⟩ => ⟨S2048x1024, .f32⟩
  | .hbm, ⟨13, _⟩ => ⟨S2048x1024, .bf16⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1024x2048, .bf16⟩
  | .hbm, ⟨19, _⟩ => ⟨S8192x1024, .f32⟩
  | .hbm, ⟨20, _⟩ => ⟨S8192x1024, .bf16⟩
  | .hbm, ⟨21, _⟩ => ⟨S2048x8192, .bf16⟩
  | .hbm, ⟨22, _⟩ => ⟨S8192x1024, .f32⟩
  | .hbm, ⟨23, _⟩ => ⟨S8192x1024, .f32⟩
  | .hbm, ⟨24, _⟩ => ⟨S8192x2048, .bf16⟩
  | .hbm, ⟨25, _⟩ => ⟨S8x1024, .f32⟩
  | .hbm, ⟨26, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S1x1024, .f32⟩
  | .local _ .vmem, ⟨14, _⟩ => ⟨S2048x1024, .bf16⟩
  | .local _ .vmem, ⟨15, _⟩ => ⟨S1024x2048, .bf16⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S2048x256, .bf16⟩
  | .local _ .vmem, ⟨21, _⟩ => ⟨S2048x256, .bf16⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x2048, .bf16⟩
  | .local _ .vmem, ⟨27, _⟩ => ⟨S256x2048, .bf16⟩
  | .local _ .vmem, ⟨28, _⟩ => ⟨S8x1024, .f32⟩
  | .local _ .vmem, ⟨29, _⟩ => ⟨S8x128, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v9_3 : Ref sig .tc := ⟨.hbm, 22, rfl⟩
abbrev main_v9_4 : Ref sig .tc := ⟨.hbm, 23, rfl⟩
abbrev main_v9_5 : Ref sig .tc := ⟨.hbm, 24, rfl⟩
abbrev main_v9_6 : Ref sig .tc := ⟨.hbm, 25, rfl⟩
abbrev main_v9_7 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg17_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem17_0 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceIdeal.lean ====
abbrev S2x4096x1024 : Shape := ⟨3, ![2, 4096, 1024]⟩
abbrev S2x4096x6672 : Shape := ⟨3, ![2, 4096, 6672]⟩
abbrev S1x1024 : Shape := ⟨2, ![1, 1024]⟩
abbrev S1x2048x1024 : Shape := ⟨3, ![1, 2048, 1024]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x4096x2048 : Shape := ⟨3, ![2, 4096, 2048]⟩
abbrev S2048x1024 : Shape := ⟨2, ![2048, 1024]⟩
abbrev S8192x1024 : Shape := ⟨2, ![8192, 1024]⟩
abbrev S8192x2048 : Shape := ⟨2, ![8192, 2048]⟩
abbrev S2048x8192 : Shape := ⟨2, ![2048, 8192]⟩
abbrev S6x1024 : Shape := ⟨2, ![6, 1024]⟩
abbrev S8x1024 : Shape := ⟨2, ![8, 1024]⟩
abbrev S8x128 : Shape := ⟨2, ![8, 128]⟩

abbrev nBuf : Space → Nat
  | .hbm => 190
  | .vmem => 0
  | .smem => 0
  | _ => 0

abbrev hbmTy0_0 (i : Nat) : BufTy := match i % 128 with
  | 0 => ⟨S2x4096x1024, .f32⟩
  | 1 => ⟨S2x4096x1024, .f32⟩
  | 2 => ⟨S2x4096x6672, .f32⟩
  | 3 => ⟨S2x4096x1024, .f32⟩
  | 4 => ⟨S1x1024, .f32⟩
  | 5 => ⟨S1x1024, .f32⟩
  | 6 => ⟨S1x2048x1024, .f32⟩
  | 7 => ⟨S2x4096x1024, .f32⟩
  | 8 => ⟨S2x4096x1024, .f32⟩
  | 9 => ⟨S2x4096x1024, .f32⟩
  | 10 => ⟨S1024, .f32⟩
  | 11 => ⟨S1024, .f32⟩
  | 12 => ⟨S2x4096x1024, .f32⟩
  | 13 => ⟨S2x4096x1024, .f32⟩
  | 14 => ⟨S_, .f32⟩
  | 15 => ⟨S2x4096x1024, .f32⟩
  | 16 => ⟨S2x4096x1024, .f32⟩
  | 17 => ⟨S_, .f32⟩
  | 18 => ⟨S2x4096x1024, .f32⟩
  | 19 => ⟨S2x4096x1024, .f32⟩
  | 20 => ⟨S_, .f32⟩
  | 21 => ⟨S2x4096x1024, .f32⟩
  | 22 => ⟨S2x4096x1024, .f32⟩
  | 23 => ⟨S2x4096x1024, .f32⟩
  | 24 => ⟨S2x4096x1024, .f32⟩
  | 25 => ⟨S2x4096x1024, .f32⟩
  | 26 => ⟨S2x4096x1024, .f32⟩
  | 27 => ⟨S_, .f32⟩
  | 28 => ⟨S2x4096, .f32⟩
  | 29 => ⟨S2x4096x1, .f32⟩
  | 30 => ⟨S_, .f32⟩
  | 31 => ⟨S2x4096x1, .f32⟩
  | 32 => ⟨S2x4096x1, .f32⟩
  | 33 => ⟨S_, .f32⟩
  | 34 => ⟨S2x4096x1, .f32⟩
  | 35 => ⟨S2x4096x1, .f32⟩
  | 36 => ⟨S2x4096x1, .f32⟩
  | 37 => ⟨S2x4096x1, .f32⟩
  | 38 => ⟨S_, .f32⟩
  | 39 => ⟨S2x4096x1, .f32⟩
  | 40 => ⟨S2x4096x1, .f32⟩
  | 41 => ⟨S2x4096x1024, .f32⟩
  | 42 => ⟨S2x4096x1024, .f32⟩
  | 43 => ⟨S1x1x1024, .f32⟩
  | 44 => ⟨S2x4096x1024, .f32⟩
  | 45 => ⟨S2x4096x1024, .f32⟩
  | 46 => ⟨S2x4096x1024, .f32⟩
  | 47 => ⟨S2x4096x1024, .f32⟩
  | 48 => ⟨S_, .f32⟩
  | 49 => ⟨S2x4096x1024, .f32⟩
  | 50 => ⟨S2x4096x1024, .f32⟩
  | 51 => ⟨S_, .f32⟩
  | 52 => ⟨S2x4096x1024, .f32⟩
  | 53 => ⟨S2x4096x1024, .f32⟩
  | 54 => ⟨S_, .f32⟩
  | 55 => ⟨S2x4096x1024, .f32⟩
  | 56 => ⟨S2x4096x1024, .f32⟩
  | 57 => ⟨S2x4096x1024, .f32⟩
  | 58 => ⟨S2x4096x1024, .f32⟩
  | 59 => ⟨S2x4096x1024, .f32⟩
  | 60 => ⟨S2x4096x1024, .f32⟩
  | 61 => ⟨S_, .f32⟩
  | 62 => ⟨S2x4096, .f32⟩
  | 63 => ⟨S2x4096x1, .f32⟩
  | 64 => ⟨S_, .f32⟩
  | 65 => ⟨S2x4096x1, .f32⟩
  | 66 => ⟨S2x4096x1, .f32⟩
  | 67 => ⟨S_, .f32⟩
  | 68 => ⟨S2x4096x1, .f32⟩
  | 69 => ⟨S2x4096x1, .f32⟩
  | 70 => ⟨S2x4096x1, .f32⟩
  | 71 => ⟨S2x4096x1, .f32⟩
  | 72 => ⟨S_, .f32⟩
  | 73 => ⟨S2x4096x1, .f32⟩
  | 74 => ⟨S2x4096x1, .f32⟩
  | 75 => ⟨S2x4096x1024, .f32⟩
  | 76 => ⟨S2x4096x1024, .f32⟩
  | 77 => ⟨S1x1x1024, .f32⟩
  | 78 => ⟨S2x4096x1024, .f32⟩
  | 79 => ⟨S2x4096x1024, .f32⟩
  | 80 => ⟨S2x4096x2048, .f32⟩
  | 81 => ⟨S2048x1024, .f32⟩
  | 82 => ⟨S2x4096x1024, .f32⟩
  | 83 => ⟨S2x4096x1024, .f32⟩
  | 84 => ⟨S2x4096x1024, .f32⟩
  | 85 => ⟨S2x4096x1024, .f32⟩
  | 86 => ⟨S_, .f32⟩
  | 87 => ⟨S2x4096x1024, .f32⟩
  | 88 => ⟨S2x4096x1024, .f32⟩
  | 89 => ⟨S_, .f32⟩
  | 90 => ⟨S2x4096, .f32⟩
  | 91 => ⟨S_, .f32⟩
  | 92 => ⟨S2x4096, .f32⟩
  | 93 => ⟨S2x4096, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S2x4096, .f32⟩
  | 102 => ⟨S_, .f32⟩
  | 103 => ⟨S2x4096, .f32⟩
  | 104 => ⟨S2x4096, .f32⟩
  | 105 => ⟨S2x4096x1024, .f32⟩
  | 106 => ⟨S2x4096x1024, .f32⟩
  | 107 => ⟨S2x4096x2048, .f32⟩
  | 108 => ⟨S2x4096x1024, .f32⟩
  | 109 => ⟨S2x4096x1024, .f32⟩
  | 110 => ⟨S2x4096x1024, .f32⟩
  | 111 => ⟨S_, .f32⟩
  | 112 => ⟨S1024, .f32⟩
  | 113 => ⟨S1x1x1024, .f32⟩
  | 114 => ⟨S2x4096x1024, .f32⟩
  | 115 => ⟨S2x4096x1024, .f32⟩
  | 116 => ⟨S_, .f32⟩
  | 117 => ⟨S1024, .f32⟩
  | 118 => ⟨S2x4096x1024, .f32⟩
  | 119 => ⟨S_, .f32⟩
  | 120 => ⟨S2x4096, .f32⟩
  | 121 => ⟨S2x4096x1, .f32⟩
  | 122 => ⟨S2x4096x1024, .f32⟩
  | 123 => ⟨S2x4096x1024, .f32⟩
  | 124 => ⟨S2x4096x1, .f32⟩
  | 125 => ⟨S_, .f32⟩
  | 126 => ⟨S2x4096x1, .f32⟩
  | 127 => ⟨S2x4096x1, .f32⟩
  | _ => ⟨S2x4096x1024, .f32⟩

abbrev hbmTy0_1 (i : Nat) : BufTy := match i % 128 with
  | 0 => ⟨S_, .f32⟩
  | 1 => ⟨S2x4096, .f32⟩
  | 2 => ⟨S2x4096x1024, .f32⟩
  | 3 => ⟨S2x4096x1024, .f32⟩
  | 4 => ⟨S2x4096x1024, .f32⟩
  | 5 => ⟨S2x4096x1024, .f32⟩
  | 6 => ⟨S2x4096x1024, .f32⟩
  | 7 => ⟨S2x4096x1024, .f32⟩
  | 8 => ⟨S2x4096x1024, .f32⟩
  | 9 => ⟨S2x4096x1024, .f32⟩
  | 10 => ⟨S2x4096x1024, .f32⟩
  | 11 => ⟨S2x4096x1024, .f32⟩
  | 12 => ⟨S2x4096x1024, .f32⟩
  | 13 => ⟨S2x4096x1024, .f32⟩
  | 14 => ⟨S_, .f32⟩
  | 15 => ⟨S1024, .f32⟩
  | 16 => ⟨S1x1x1024, .f32⟩
  | 17 => ⟨S2x4096x1024, .f32⟩
  | 18 => ⟨S2x4096x1024, .f32⟩
  | 19 => ⟨S_, .f32⟩
  | 20 => ⟨S1024, .f32⟩
  | 21 => ⟨S2x4096x1024, .f32⟩
  | 22 => ⟨S_, .f32⟩
  | 23 => ⟨S2x4096, .f32⟩
  | 24 => ⟨S2x4096x1, .f32⟩
  | 25 => ⟨S2x4096x1024, .f32⟩
  | 26 => ⟨S2x4096x1024, .f32⟩
  | 27 => ⟨S2x4096x1, .f32⟩
  | 28 => ⟨S_, .f32⟩
  | 29 => ⟨S2x4096x1, .f32⟩
  | 30 => ⟨S2x4096x1, .f32⟩
  | 31 => ⟨S_, .f32⟩
  | 32 => ⟨S2x4096, .f32⟩
  | 33 => ⟨S2x4096x1024, .f32⟩
  | 34 => ⟨S2x4096x1024, .f32⟩
  | 35 => ⟨S2x4096x1024, .f32⟩
  | 36 => ⟨S2x4096x1024, .f32⟩
  | 37 => ⟨S2x4096x1024, .f32⟩
  | 38 => ⟨S2x4096x1024, .f32⟩
  | 39 => ⟨S2x4096x1024, .f32⟩
  | 40 => ⟨S2x4096x1024, .f32⟩
  | 41 => ⟨S2x4096x1024, .f32⟩
  | 42 => ⟨S2x4096x1024, .f32⟩
  | 43 => ⟨S2x4096x1024, .f32⟩
  | 44 => ⟨S8192x1024, .f32⟩
  | 45 => ⟨S8192x1024, .f32⟩
  | 46 => ⟨S8192x1024, .bf16⟩
  | 47 => ⟨S8192x2048, .f32⟩
  | 48 => ⟨S2048x8192, .f32⟩
  | 49 => ⟨S2048x8192, .bf16⟩
  | 50 => ⟨S8192x1024, .f32⟩
  | 51 => ⟨S8192x1024, .f32⟩
  | 52 => ⟨S8192x1024, .f32⟩
  | 53 => ⟨S8192x1024, .f32⟩
  | 54 => ⟨S8192x2048, .f32⟩
  | 55 => ⟨S8192x2048, .bf16⟩
  | 56 => ⟨S1x1024, .f32⟩
  | 57 => ⟨S1x1024, .f32⟩
  | 58 => ⟨S_, .f32⟩
  | 59 => ⟨S6x1024, .f32⟩
  | 60 => ⟨S8x1024, .f32⟩
  | 61 => ⟨S8x128, .f32⟩
  | _ => ⟨S2x4096x1024, .f32⟩

abbrev hbmTy (i : Nat) : BufTy := match i / 128 with
  | 0 => hbmTy0_0 i
  | 1 => hbmTy0_1 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v4_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v4_1 : Ref sig .tc := ⟨.hbm, 23, rfl⟩
abbrev main_v4_0 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_cst_0 : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_v22_2 : Ref sig .tc := ⟨.hbm, 53, rfl⟩
abbrev main_call1_cst_1 : Ref sig .tc := ⟨.hbm, 54, rfl⟩
abbrev main_call1_v6 : Ref sig .tc := ⟨.hbm, 55, rfl⟩
abbrev main_call1_v7 : Ref sig .tc := ⟨.hbm, 56, rfl⟩
abbrev main_v22_1 : Ref sig .tc := ⟨.hbm, 57, rfl⟩
abbrev main_v22_0 : Ref sig .tc := ⟨.hbm, 58, rfl⟩
abbrev main_v23 : Ref sig .tc := ⟨.hbm, 59, rfl⟩
abbrev main_v24 : Ref sig .tc := ⟨.hbm, 60, rfl⟩
abbrev main_cst_3 : Ref sig .tc := ⟨.hbm, 61, rfl⟩
abbrev main_v25 : Ref sig .tc := ⟨.hbm, 62, rfl⟩
abbrev main_v26 : Ref sig .tc := ⟨.hbm, 63, rfl⟩
abbrev main_cst_4 : Ref sig .tc := ⟨.hbm, 64, rfl⟩
abbrev main_v27 : Ref sig .tc := ⟨.hbm, 65, rfl⟩
abbrev main_v28 : Ref sig .tc := ⟨.hbm, 66, rfl⟩
abbrev main_cst_5 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_cst_6 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_cst_7 : Ref sig .tc := ⟨.hbm, 86, rfl⟩
abbrev main_v46 : Ref sig .tc := ⟨.hbm, 87, rfl⟩
abbrev main_v47 : Ref sig .tc := ⟨.hbm, 88, rfl⟩
abbrev main_cst_8 : Ref sig .tc := ⟨.hbm, 89, rfl⟩
abbrev main_v48 : Ref sig .tc := ⟨.hbm, 90, rfl⟩
abbrev main_cst_9 : Ref sig .tc := ⟨.hbm, 91, rfl⟩
abbrev main_v49 : Ref sig .tc := ⟨.hbm, 92, rfl⟩
abbrev main_v50 : Ref sig .tc := ⟨.hbm, 93, rfl⟩
abbrev main_cst_10 : Ref sig .tc := ⟨.hbm, 94, rfl⟩
abbrev main_v51 : Ref sig .tc := ⟨.hbm, 95, rfl⟩
abbrev main_cst_11 : Ref sig .tc := ⟨.hbm, 96, rfl⟩
abbrev main_v52 : Ref sig .tc := ⟨.hbm, 97, rfl⟩
abbrev main_cst_12 : Ref sig .tc := ⟨.hbm, 98, rfl⟩
abbrev main_cst_13 : Ref sig .tc := ⟨.hbm, 99, rfl⟩
abbrev main_v53 : Ref sig .tc := ⟨.hbm, 100, rfl⟩
abbrev main_v54 : Ref sig .tc := ⟨.hbm, 101, rfl⟩
abbrev main_cst_14 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_cst_15 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_cst_16 : Ref sig .tc := ⟨.hbm, 116, rfl⟩
abbrev main_v67 : Ref sig .tc := ⟨.hbm, 117, rfl⟩
abbrev main_v68 : Ref sig .tc := ⟨.hbm, 118, rfl⟩
abbrev main_cst_17 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_cst_18 : Ref sig .tc := ⟨.hbm, 125, rfl⟩
abbrev main_v74 : Ref sig .tc := ⟨.hbm, 126, rfl⟩
abbrev main_v75 : Ref sig .tc := ⟨.hbm, 127, rfl⟩
abbrev main_cst_19 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_call2_v0 : Ref sig .tc := ⟨.hbm, 137, rfl⟩
abbrev main_call2_v1 : Ref sig .tc := ⟨.hbm, 138, rfl⟩
abbrev main_call2_v2 : Ref sig .tc := ⟨.hbm, 139, rfl⟩
abbrev main_v84 : Ref sig .tc := ⟨.hbm, 140, rfl⟩
abbrev main_v85 : Ref sig .tc := ⟨.hbm, 141, rfl⟩
abbrev main_cst_20 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_cst_21 : Ref sig .tc := ⟨.hbm, 147, rfl⟩
abbrev main_v90 : Ref sig .tc := ⟨.hbm, 148, rfl⟩
abbrev main_v91 : Ref sig .tc := ⟨.hbm, 149, rfl⟩
abbrev main_cst_22 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_cst_23 : Ref sig .tc := ⟨.hbm, 156, rfl⟩
abbrev main_v97 : Ref sig .tc := ⟨.hbm, 157, rfl⟩
abbrev main_v98 : Ref sig .tc := ⟨.hbm, 158, rfl⟩
abbrev main_cst_24 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_call3_v0 : Ref sig .tc := ⟨.hbm, 168, rfl⟩
abbrev main_call3_v1 : Ref sig .tc := ⟨.hbm, 169, rfl⟩
abbrev main_call3_v2 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_cst_25 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩

abbrev nD : Nat := 1
abbrev τ : Topo := Topo.v7x

variable {F : FTy → Type} [FloatOps F]
-- ==== Kernel2.lean ====
abbrev S2x4096x1024 : Shape := ⟨3, ![2, 4096, 1024]⟩
abbrev S1x1024 : Shape := ⟨2, ![1, 1024]⟩
abbrev S1x1024x6672 : Shape := ⟨3, ![1, 1024, 6672]⟩
abbrev S2x4096x6672 : Shape := ⟨3, ![2, 4096, 6672]⟩
abbrev S1024x6672 : Shape := ⟨2, ![1024, 6672]⟩
abbrev S6672x1024 : Shape := ⟨2, ![6672, 1024]⟩
abbrev S_ : Shape := ⟨0, ![]⟩
abbrev S7168x1024 : Shape := ⟨2, ![7168, 1024]⟩
abbrev S8192x6672 : Shape := ⟨2, ![8192, 6672]⟩
abbrev S8192x7168 : Shape := ⟨2, ![8192, 7168]⟩
abbrev S8192x1024 : Shape := ⟨2, ![8192, 1024]⟩
abbrev S8192x2048 : Shape := ⟨2, ![8192, 2048]⟩
abbrev S8x1024 : Shape := ⟨2, ![8, 1024]⟩
abbrev S1024x1024 : Shape := ⟨2, ![1024, 1024]⟩
abbrev S2 : Shape := ⟨1, ![2]⟩
abbrev S1 : Shape := ⟨1, ![1]⟩
abbrev S1024 : Shape := ⟨1, ![1024]⟩
abbrev S1024x1 : Shape := ⟨2, ![1024, 1]⟩

abbrev nBuf : Space → Nat
  | .hbm => 25
  | .vmem => 21
  | .smem => 0
  | _ => 0

abbrev bufTy : (tb : Table) → Fin (tcTables nBuf tb) → BufTy
  | .hbm, ⟨0, _⟩ => ⟨S2x4096x1024, .f32⟩
  | .hbm, ⟨1, _⟩ => ⟨S1x1024, .f32⟩
  | .hbm, ⟨2, _⟩ => ⟨S1x1024x6672, .f32⟩
  | .hbm, ⟨3, _⟩ => ⟨S2x4096x6672, .f32⟩
  | .hbm, ⟨4, _⟩ => ⟨S2x4096x1024, .f32⟩
  | .hbm, ⟨5, _⟩ => ⟨S1024x6672, .f32⟩
  | .hbm, ⟨6, _⟩ => ⟨S6672x1024, .f32⟩
  | .hbm, ⟨7, _⟩ => ⟨S6672x1024, .bf16⟩
  | .hbm, ⟨8, _⟩ => ⟨S_, .i32⟩
  | .hbm, ⟨9, _⟩ => ⟨S_, .bf16⟩
  | .hbm, ⟨10, _⟩ => ⟨S7168x1024, .bf16⟩
  | .hbm, ⟨11, _⟩ => ⟨S8192x6672, .f32⟩
  | .hbm, ⟨12, _⟩ => ⟨S8192x6672, .bf16⟩
  | .hbm, ⟨13, _⟩ => ⟨S_, .i32⟩
  | .hbm, ⟨14, _⟩ => ⟨S_, .bf16⟩
  | .hbm, ⟨15, _⟩ => ⟨S8192x7168, .bf16⟩
  | .hbm, ⟨16, _⟩ => ⟨S8192x1024, .bf16⟩
  | .hbm, ⟨17, _⟩ => ⟨S8192x1024, .bf16⟩
  | .hbm, ⟨18, _⟩ => ⟨S8192x1024, .bf16⟩
  | .hbm, ⟨19, _⟩ => ⟨S8192x2048, .bf16⟩
  | .hbm, ⟨20, _⟩ => ⟨S8192x2048, .bf16⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S8x1024, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg0 : BitVec 32 := BitVec.ofNat 32 (i 0).val
  let c1024_i32 : BitVec 32 := 1024#32
  let v23 : BitVec 32 := Scalar.muli arg0 c1024_i32
  v23
def k0_off1 (i : grid0.Coords) : Fin 2 → Nat :=
  let arg0 : BitVec 32 := BitVec.ofNat 32 (i 0).val
  let c1024_i32 : BitVec 32 := 1024#32
  let v23 : BitVec 32 := Scalar.muli arg0 c1024_i32
  let v24 : BitVec 32 := v23
  let c0_i32_12 : BitVec 32 := 0#32
  ![v24.toNat, 0]
def k0_cond7 (i : grid0.Coords) : BitVec 1 :=
  let arg1 : BitVec 32 := BitVec.ofNat 32 (i 1).val
  let c3_i32_9 : BitVec 32 := 3#32
  let v20 : BitVec 1 := Scalar.cmpi .eq arg1 c3_i32_9
  let v21 : BitVec 32 := Scalar.extui v20
  let c0_i32_10 : BitVec 32 := 0#32
  let v22 : BitVec 1 := Scalar.cmpi .ne v21 c0_i32_10
  v22

def k0_mult2 (i : grid0.Coords) : BitVec 32 :=
  let arg0 : BitVec 32 := BitVec.ofNat 32 (i 0).val
  let c1024_i32 : BitVec 32 := 1024#32
  let v23 : BitVec 32 := Scalar.muli arg0 c1024_i32
  v23
def k0_off2 (i : grid0.Coords) : Fin 2 → Nat :=
  let arg0 : BitVec 32 := BitVec.ofNat 32 (i 0).val
  let c1024_i32 : BitVec 32 := 1024#32
  let v23 : BitVec 32 := Scalar.muli arg0 c1024_i32
  let v24 : BitVec 32 := v23
  let c0_i32_12 : BitVec 32 := 0#32
  ![v24.toNat, 0]
def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.subi v0 c0_i32
  let c2_i32_0 : BitVec 32 := 2#32
  let v2 : BitVec 32 := Scalar.muli c2_i32_0 arg1
  let c0_i32_1 : BitVec 32 := 0#32
  let v3 : BitVec 1 := Scalar.cmpi .slt v2 c0_i32_1
  let v4 : BitVec 32 := Scalar.extui v3
  let v5 : BitVec 32 := Scalar.addi v1 v4
  let c0_i32_2 : BitVec 32 := 0#32
  let c0_i32_3 : BitVec 32 := 0#32
  let v6 : BitVec 32 := Scalar.maxsi c0_i32_2 v5
  let v7 : BitVec 32 := Scalar.minsi c0_i32_3 v6
  let c0_i32_4 : BitVec 32 := 0#32
  ![arg0.toNat, v7.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.subi v0 c1_i32
  let c2_i32_0 : BitVec 32 := 2#32
  let v2 : BitVec 32 := Scalar.muli c2_i32_0 arg1
  let c1_i32_1 : BitVec 32 := 1#32
  let v3 : BitVec 1 := Scalar.cmpi .slt v2 c1_i32_1
  let v4 : BitVec 32 := Scalar.extui v3
  let v5 : BitVec 32 := Scalar.addi v1 v4
  let c0_i32 : BitVec 32 := 0#32
  let c0_i32_2 : BitVec 32 := 0#32
  let v6 : BitVec 32 := Scalar.maxsi c0_i32 v5
  let v7 : BitVec 32 := Scalar.minsi c0_i32_2 v6
  let c0_i32_3 : BitVec 32 := 0#32
  ![arg0.toNat, v7.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c2_i32_0 : BitVec 32 := 2#32
  let v1 : BitVec 32 := Scalar.subi v0 c2_i32_0
  let c2_i32_1 : BitVec 32 := 2#32
  let v2 : BitVec 32 := Scalar.muli c2_i32_1 arg1
  let c2_i32_2 : BitVec 32 := 2#32
  let v3 : BitVec 1 := Scalar.cmpi .slt v2 c2_i32_2
  let v4 : BitVec 32 := Scalar.extui v3
  let v5 : BitVec 32 := Scalar.addi v1 v4
  let c0_i32 : BitVec 32 := 0#32
  let c0_i32_3 : BitVec 32 := 0#32
  let v6 : BitVec 32 := Scalar.maxsi c0_i32 v5
  let v7 : BitVec 32 := Scalar.minsi c0_i32_3 v6
  let c0_i32_4 : BitVec 32 := 0#32
  ![arg0.toNat, v7.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c3_i32 : BitVec 32 := 3#32
  let v1 : BitVec 32 := Scalar.subi v0 c3_i32
  let c2_i32_0 : BitVec 32 := 2#32
  let v2 : BitVec 32 := Scalar.muli c2_i32_0 arg1
  let c3_i32_1 : BitVec 32 := 3#32
  let v3 : BitVec 1 := Scalar.cmpi .slt v2 c3_i32_1
  let v4 : BitVec 32 := Scalar.extui v3
  let v5 : BitVec 32 := Scalar.addi v1 v4
  let c0_i32 : BitVec 32 := 0#32
  let c1_i32 : BitVec 32 := 1#32
  let v6 : BitVec 32 := Scalar.maxsi c0_i32 v5
  let v7 : BitVec 32 := Scalar.minsi c1_i32 v6
  let c0_i32_2 : BitVec 32 := 0#32
  ![arg0.toNat, v7.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c5_i32 : BitVec 32 := 5#32
  let v1 : BitVec 32 := Scalar.subi v0 c5_i32
  let c2_i32_0 : BitVec 32 := 2#32
  let v2 : BitVec 32 := Scalar.muli c2_i32_0 arg1
  let c5_i32_1 : BitVec 32 := 5#32
  let v3 : BitVec 1 := Scalar.cmpi .slt v2 c5_i32_1
  let v4 : BitVec 32 := Scalar.extui v3
  let v5 : BitVec 32 := Scalar.addi v1 v4
  let c0_i32 : BitVec 32 := 0#32
  let c1_i32 : BitVec 32 := 1#32
  let v6 : BitVec 32 := Scalar.maxsi c0_i32 v5
  let v7 : BitVec 32 := Scalar.minsi c1_i32 v6
  let c0_i32_2 : BitVec 32 := 0#32
  ![arg0.toNat, v7.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c6_i32 : BitVec 32 := 6#32
  let v1 : BitVec 32 := Scalar.minsi v0 c6_i32
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c2_i32_0 : BitVec 32 := 2#32
  let v1 : BitVec 32 := Scalar.addi v0 c2_i32_0
  let c1_i32 : BitVec 32 := 1#32
  let v2 : BitVec 32 := Scalar.subi v1 c1_i32
  let c6_i32 : BitVec 32 := 6#32
  let v3 : BitVec 32 := Scalar.minsi v2 c6_i32
  let c0_i32 : BitVec 32 := 0#32
  let c0_i32_1 : BitVec 32 := 0#32
  ![v3.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Reference2Ideal.lean ====
abbrev S2x4096x1024 : Shape := ⟨3, ![2, 4096, 1024]⟩
abbrev S1x1024 : Shape := ⟨2, ![1, 1024]⟩
abbrev S1x1024x6672 : Shape := ⟨3, ![1, 1024, 6672]⟩
abbrev S2x4096x6672 : Shape := ⟨3, ![2, 4096, 6672]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S1024x6672 : Shape := ⟨2, ![1024, 6672]⟩
abbrev S8192x1024 : Shape := ⟨2, ![8192, 1024]⟩
abbrev S7x1024 : Shape := ⟨2, ![7, 1024]⟩
abbrev S8x1024 : Shape := ⟨2, ![8, 1024]⟩

abbrev nBuf : Space → Nat
  | .hbm => 60
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1x1024, .f32⟩
  | .hbm, ⟨2, _⟩ => ⟨S1x1024x6672, .f32⟩
  | .hbm, ⟨3, _⟩ => ⟨S2x4096x6672, .f32⟩
  | .hbm, ⟨4, _⟩ => ⟨S2x4096x1024, .f32⟩
  | .hbm, ⟨5, _⟩ => ⟨S1024, .f32⟩
  | .hbm, ⟨6, _⟩ => ⟨S2x4096x1024, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S_, .f32⟩
  | .hbm, ⟨19, _⟩ => ⟨S2x4096x1, .f32⟩
  | .hbm, ⟨20, _⟩ => ⟨S2x4096x1, .f32⟩
  | .hbm, ⟨21, _⟩ => ⟨S2x4096x1024, .f32⟩
  | .hbm, ⟨22, _⟩ => ⟨S2x4096x1024, .f32⟩
  | .hbm, ⟨23, _⟩ => ⟨S1x1x1024, .f32⟩
  | .hbm, ⟨24, _⟩ => ⟨S2x4096x1024, .f32⟩
  | .hbm, ⟨25, _⟩ => ⟨S2x4096x1024, .f32⟩
  | .hbm, ⟨26, _⟩ => ⟨S1024x6672, .f32⟩
  | .hbm, ⟨27, _⟩ => ⟨S2x4096x6672, .f32⟩
  | .hbm, ⟨28, _⟩ => ⟨S2x4096x1024, .f32⟩
  | .hbm, ⟨29, _⟩ => ⟨S2x4096x1024, .f32⟩
  | .hbm, ⟨30, _⟩ => ⟨S_, .f32⟩
  | .hbm, ⟨31, _⟩ => ⟨S1024, .f32⟩
  | .hbm, ⟨32, _⟩ => ⟨S1x1x1024, .f32⟩
  | .hbm, ⟨33, _⟩ => ⟨S2x4096x1024, .f32⟩
  | .hbm, ⟨34, _⟩ => ⟨S2x4096x1024, .f32⟩
  | .hbm, ⟨35, _⟩ => ⟨S_, .f32⟩
  | .hbm, ⟨36, _⟩ => ⟨S1024, .f32⟩
  | .hbm, ⟨37, _⟩ => ⟨S2x4096x1024, .f32⟩
  | .hbm, ⟨38, _⟩ => ⟨S_, .f32⟩
  | .hbm, ⟨39, _⟩ => ⟨S2x4096, .f32⟩
  | .hbm, ⟨40, _⟩ => ⟨S2x4096x1, .f32⟩
  | .hbm, ⟨41, _⟩ => ⟨S2x4096x1024, .f32⟩
  | .hbm, ⟨42, _⟩ => ⟨S2x4096x1024, .f32⟩
  | .hbm, ⟨43, _⟩ => ⟨S2x4096x1024, .f32⟩
  | .hbm, ⟨44, _⟩ => ⟨S2x4096x1, .f32⟩
  | .hbm, ⟨45, _⟩ => ⟨S_, .f32⟩
  | .hbm, ⟨46, _⟩ => ⟨S2x4096x1, .f32⟩
  | .hbm, ⟨47, _⟩ => ⟨S2x4096x1, .f32⟩
  | .hbm, ⟨48, _⟩ => ⟨S_, .f32⟩
  | .hbm, ⟨49, _⟩ => ⟨S2x4096, .f32⟩
  | .hbm, ⟨50, _⟩ => ⟨S2x4096x1024, .f32⟩
  | .hbm, ⟨51, _⟩ => ⟨S2x4096x1024, .f32⟩
  | .hbm, ⟨52, _⟩ => ⟨S2x4096x1024, .f32⟩
  | .hbm, ⟨53, _⟩ => ⟨S2x4096x1024, .f32⟩
  | .hbm, ⟨54, _⟩ => ⟨S2x4096x1024, .f32⟩
  | .hbm, ⟨55, _⟩ => ⟨S8192x1024, .f32⟩
  | .hbm, ⟨56, _⟩ => ⟨S1x1024, .f32⟩
  | .hbm, ⟨57, _⟩ => ⟨S_, .f32⟩
  | .hbm, ⟨58, _⟩ => ⟨S7x1024, .f32⟩
  | .hbm, ⟨59, _⟩ => ⟨S8x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Kernel3.lean ====
abbrev S2x4096x6672 : Shape := ⟨3, ![2, 4096, 6672]⟩
abbrev S1x64 : Shape := ⟨2, ![1, 64]⟩
abbrev S_ : Shape := ⟨0, ![]⟩
abbrev S2x4096x7168 : Shape := ⟨3, ![2, 4096, 7168]⟩
abbrev S1x1x1x64 : Shape := ⟨4, ![1, 1, 1, 64]⟩
abbrev S1x1x2x64 : Shape := ⟨4, ![1, 1, 2, 64]⟩
abbrev S1x128 : Shape := ⟨2, ![1, 128]⟩
abbrev S2x4096x1024 : Shape := ⟨3, ![2, 4096, 1024]⟩
abbrev S1x4096x128 : Shape := ⟨3, ![1, 4096, 128]⟩
abbrev S32x256x128 : Shape := ⟨3, ![32, 256, 128]⟩
abbrev S256x256 : Shape := ⟨2, ![256, 256]⟩
abbrev S128x128 : Shape := ⟨2, ![128, 128]⟩
abbrev S2048x128 : Shape := ⟨2, ![2048, 128]⟩
abbrev S256x128 : Shape := ⟨2, ![256, 128]⟩
abbrev S1x2048x128 : Shape := ⟨3, ![1, 2048, 128]⟩
abbrev S2048x256 : Shape := ⟨2, ![2048, 256]⟩
abbrev S1x128x128 : Shape := ⟨3, ![1, 128, 128]⟩
abbrev S1x256x128 : Shape := ⟨3, ![1, 256, 128]⟩
abbrev S128x256 : Shape := ⟨2, ![128, 256]⟩
abbrev S1 : Shape := ⟨1, ![1]⟩
abbrev S1x1x1 : Shape := ⟨3, ![1, 1, 1]⟩

abbrev nBuf : Space → Nat
  | .hbm => 13
  | .vmem => 13
  | .smem => 0
  | _ => 0

abbrev bufTy : (tb : Table) → Fin (tcTables nBuf tb) → BufTy
  | .hbm, ⟨0, _⟩ => ⟨S2x4096x6672, .f32⟩
  | .hbm, ⟨1, _⟩ => ⟨S1x64, .f32⟩
  | .hbm, ⟨2, _⟩ => ⟨S1x64, .f32⟩
  | .hbm, ⟨3, _⟩ => ⟨S_, .i32⟩
  | .hbm, ⟨4, _⟩ => ⟨S_, .f32⟩
  | .hbm, ⟨5, _⟩ => ⟨S2x4096x7168, .f32⟩
  | .hbm, ⟨6, _⟩ => ⟨S1x1x1x64, .f32⟩
  | .hbm, ⟨7, _⟩ => ⟨S1x1x2x64, .f32⟩
  | .hbm, ⟨8, _⟩ => ⟨S1x128, .f32⟩
  | .hbm, ⟨9, _⟩ => ⟨S1x1x1x64, .f32⟩
  | .hbm, ⟨10, _⟩ => ⟨S1x1x2x64, .f32⟩
  | .hbm, ⟨11, _⟩ => ⟨S1x128, .f32⟩
  | .hbm, ⟨12, _⟩ => ⟨S2x4096x1024, .f32⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x128, .f32⟩
  | .local _ .vmem, ⟨7, _⟩ => ⟨S1x128, .f32⟩
  | .local _ .vmem, ⟨8, _⟩ => ⟨S1x4096x128, .f32⟩
  | .local _ .vmem, ⟨9, _⟩ => ⟨S1x4096x128, .f32⟩
  | .local _ .vmem, ⟨10, _⟩ => ⟨S32x256x128, .bf16⟩
  | .local _ .vmem, ⟨11, _⟩ => ⟨S32x256x128, .bf16⟩
  | .local _ .vmem, ⟨12, _⟩ => ⟨S32x256x128, .bf16⟩
  | _, _ => ⟨S2x4096x6672, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_15 : BitVec 32 := 0#32
  let c2_i32 : BitVec 32 := 2#32
  let v61 : BitVec 32 := Scalar.addi c0_i32_15 c2_i32
  let c1_i32_16 : BitVec 32 := 1#32
  ⟨c0_i32_15, v61, c1_i32_16⟩
def k0_mult1 (k0_t1 : Fin k0_t1_loop.trips) : BitVec 32 :=
  let c0_i32_15 : BitVec 32 := 0#32
  let c1_i32_16 : BitVec 32 := 1#32
  let arg11 : BitVec 32 := Scf.iv c0_i32_15 c1_i32_16 k0_t1
  let c2048_i32 : BitVec 32 := 2048#32
  let v330 : BitVec 32 := Scalar.muli arg11 c2048_i32
  v330
def k0_off1 (k0_t1 : Fin k0_t1_loop.trips) : Fin 3 → Nat :=
  let c0_119 : Index := 0#32
  let c0_i32_15 : BitVec 32 := 0#32
  let c1_i32_16 : BitVec 32 := 1#32
  let arg11 : BitVec 32 := Scf.iv c0_i32_15 c1_i32_16 k0_t1
  let c2048_i32 : BitVec 32 := 2048#32
  let v330 : BitVec 32 := Scalar.muli arg11 c2048_i32
  let v331 : BitVec 32 := v330
  let v332 : Index := Scalar.indexCast v331
  let c0_120 : Index := 0#32
  ![0, v332.toNat, 0]
def k0_off2 (k0_t1 : Fin k0_t1_loop.trips) (c0_i32_129 : BitVec 32) : Fin 3 → Nat :=
  let c0_i32_15 : BitVec 32 := 0#32
  let c1_i32_16 : BitVec 32 := 1#32
  let arg11 : BitVec 32 := Scf.iv c0_i32_15 c1_i32_16 k0_t1
  let c16_i32 : BitVec 32 := 16#32
  let v360 : BitVec 32 := Scalar.muli arg11 c16_i32
  let v361 : BitVec 32 := Scalar.addi v360 c0_i32_129
  let v362 : Index := Scalar.indexCast v361
  let c0_130 : Index := 0#32
  let c0_131 : Index := 0#32
  ![v362.toNat, 0, 0]
def k0_off3 (k0_t1 : Fin k0_t1_loop.trips) (c0_i32_133 : BitVec 32) : Fin 3 → Nat :=
  let c0_i32_15 : BitVec 32 := 0#32
  let c1_i32_16 : BitVec 32 := 1#32
  let arg11 : BitVec 32 := Scf.iv c0_i32_15 c1_i32_16 k0_t1
  let c16_i32_132 : BitVec 32 := 16#32
  let v367 : BitVec 32 := Scalar.muli arg11 c16_i32_132
  let v368 : BitVec 32 := Scalar.addi v367 c0_i32_133
  let v369 : Index := Scalar.indexCast v368
  let c128_134 : Index := 128#32
  let c0_135 : Index := 0#32
  ![v369.toNat, 128, 0]
@[reducible] def k0_t2_loop : Scf.Loop 32 :=
  let c0_i32_29 : BitVec 32 := 0#32
  let c2_i32_30 : BitVec 32 := 2#32
  let v94 : BitVec 32 := Scalar.addi c0_i32_29 c2_i32_30
  let c1_i32_31 : BitVec 32 := 1#32
  ⟨c0_i32_29, v94, c1_i32_31⟩
def k0_mult2 (k0_t2 : Fin k0_t2_loop.trips) : BitVec 32 :=
  let c0_i32_29 : BitVec 32 := 0#32
  let c1_i32_31 : BitVec 32 := 1#32
  let arg11 : BitVec 32 := Scf.iv c0_i32_29 c1_i32_31 k0_t2
  let c2048_i32 : BitVec 32 := 2048#32
  let v330 : BitVec 32 := Scalar.muli arg11 c2048_i32
  v330
def k0_off4 (k0_t2 : Fin k0_t2_loop.trips) : Fin 3 → Nat :=
  let c0_119 : Index := 0#32
  let c0_i32_29 : BitVec 32 := 0#32
  let c1_i32_31 : BitVec 32 := 1#32
  let arg11 : BitVec 32 := Scf.iv c0_i32_29 c1_i32_31 k0_t2
  let c2048_i32 : BitVec 32 := 2048#32
  let v330 : BitVec 32 := Scalar.muli arg11 c2048_i32
  let v331 : BitVec 32 := v330
  let v332 : Index := Scalar.indexCast v331
  let c0_120 : Index := 0#32
  ![0, v332.toNat, 0]
def k0_off5 (k0_t2 : Fin k0_t2_loop.trips) (c0_i32_128 : BitVec 32) : Fin 3 → Nat :=
  let c0_i32_29 : BitVec 32 := 0#32
  let c1_i32_31 : BitVec 32 := 1#32
  let arg11 : BitVec 32 := Scf.iv c0_i32_29 c1_i32_31 k0_t2
  let c16_i32 : BitVec 32 := 16#32
  let v358 : BitVec 32 := Scalar.muli arg11 c16_i32
  let v359 : BitVec 32 := Scalar.addi v358 c0_i32_128
  let v360 : Index := Scalar.indexCast v359
  let c0_129 : Index := 0#32
  let c0_130 : Index := 0#32
  ![v360.toNat, 0, 0]
def k0_off6 (k0_t2 : Fin k0_t2_loop.trips) (c0_i32_132 : BitVec 32) : Fin 3 → Nat :=
  let c0_i32_29 : BitVec 32 := 0#32
  let c1_i32_31 : BitVec 32 := 1#32
  let arg11 : BitVec 32 := Scf.iv c0_i32_29 c1_i32_31 k0_t2
  let c16_i32_131 : BitVec 32 := 16#32
  let v365 : BitVec 32 := Scalar.muli arg11 c16_i32_131
  let v366 : BitVec 32 := Scalar.addi v365 c0_i32_132
  let v367 : Index := Scalar.indexCast v366
  let c128_133 : Index := 128#32
  let c0_134 : Index := 0#32
  ![v367.toNat, 128, 0]
@[reducible] def k0_t3_loop : Scf.Loop 32 :=
  let c0_i32_34 : BitVec 32 := 0#32
  let c2_i32_35 : BitVec 32 := 2#32
  let v98 : BitVec 32 := Scalar.addi c0_i32_34 c2_i32_35
  let c1_i32_36 : BitVec 32 := 1#32
  ⟨c0_i32_34, v98, c1_i32_36⟩
def k0_mult3 (k0_t3 : Fin k0_t3_loop.trips) : BitVec 32 :=
  let c0_i32_34 : BitVec 32 := 0#32
  let c1_i32_36 : BitVec 32 := 1#32
  let arg11 : BitVec 32 := Scf.iv c0_i32_34 c1_i32_36 k0_t3
  let c2048_i32 : BitVec 32 := 2048#32
  let v330 : BitVec 32 := Scalar.muli arg11 c2048_i32
  v330
def k0_off7 (k0_t3 : Fin k0_t3_loop.trips) : Fin 3 → Nat :=
  let c0_119 : Index := 0#32
  let c0_i32_34 : BitVec 32 := 0#32
  let c1_i32_36 : BitVec 32 := 1#32
  let arg11 : BitVec 32 := Scf.iv c0_i32_34 c1_i32_36 k0_t3
  let c2048_i32 : BitVec 32 := 2048#32
  let v330 : BitVec 32 := Scalar.muli arg11 c2048_i32
  let v331 : BitVec 32 := v330
  let v332 : Index := Scalar.indexCast v331
  let c0_120 : Index := 0#32
  ![0, v332.toNat, 0]
def k0_off8 (k0_t3 : Fin k0_t3_loop.trips) (c0_i32_123 : BitVec 32) : Fin 3 → Nat :=
  let c0_i32_34 : BitVec 32 := 0#32
  let c1_i32_36 : BitVec 32 := 1#32
  let arg11 : BitVec 32 := Scf.iv c0_i32_34 c1_i32_36 k0_t3
  let c16_i32 : BitVec 32 := 16#32
  let v342 : BitVec 32 := Scalar.muli arg11 c16_i32
  let v343 : BitVec 32 := Scalar.addi v342 c0_i32_123
  let v344 : Index := Scalar.indexCast v343
  let c0_124 : Index := 0#32
  let c0_125 : Index := 0#32
  ![v344.toNat, 0, 0]
def k0_off9 (k0_t3 : Fin k0_t3_loop.trips) (c0_i32_127 : BitVec 32) : Fin 3 → Nat :=
  let c0_i32_34 : BitVec 32 := 0#32
  let c1_i32_36 : BitVec 32 := 1#32
  let arg11 : BitVec 32 := Scf.iv c0_i32_34 c1_i32_36 k0_t3
  let c16_i32_126 : BitVec 32 := 16#32
  let v349 : BitVec 32 := Scalar.muli arg11 c16_i32_126
  let v350 : BitVec 32 := Scalar.addi v349 c0_i32_127
  let v351 : Index := Scalar.indexCast v350
  let c128_128 : Index := 128#32
  let c0_129 : Index := 0#32
  ![v351.toNat, 128, 0]
def k0_off10 (arg11 : BitVec 32) (c0_i32_119 : BitVec 32) : Fin 3 → Nat :=
  let v330 : BitVec 32 := Scalar.subi arg11 c0_i32_119
  let v332 : Index := Scalar.indexCast v330
  let c0_121 : Index := 0#32
  let c0_122 : Index := 0#32
  ![v332.toNat, 0, 0]

def k0_chk1 (arg11 : BitVec 32) : Prop :=
  (∀ (r : Fin 2), ∀ a, (k0_off10 arg11 (BitVec.ofNat 32 r.val)) a + S1x256x128.size a ≤ S32x256x128.size a)
theorem k0_off10_inb : ∀ (arg11 : BitVec 32) (k0_hw1 : k0_chk1 arg11), ∀ (r : Fin 2), ∀ a, (k0_off10 arg11 (BitVec.ofNat 32 r.val)) a + S1x256x128.size a ≤ S32x256x128.size a := fun arg11 k0_hw1 r => k0_hw1 r

def k0_off11 (arg11 : BitVec 32) : Fin 3 → Nat :=
  let c0_i32_119 : BitVec 32 := 0#32
  let v330 : BitVec 32 := Scalar.subi arg11 c0_i32_119
  let v331 : Index := Scalar.indexCast v330
  let c0_120 : Index := 0#32
  let c0_121 : Index := 0#32
  ![v331.toNat, 0, 0]

def k0_chk2 (arg11 : BitVec 32) : Prop :=
  (∀ a, (k0_off11 arg11) a + S1x256x128.size a ≤ S32x256x128.size a)
theorem k0_off11_inb : ∀ (arg11 : BitVec 32) (k0_hw2 : k0_chk2 arg11), ∀ a, (k0_off11 arg11) a + S1x256x128.size a ≤ S32x256x128.size a := fun arg11 k0_hw2 => k0_hw2

def k0_off12 (arg11 : BitVec 32) (c0_i32_119 : BitVec 32) : Fin 3 → Nat :=
  let v330 : BitVec 32 := Scalar.subi arg11 c0_i32_119
  let v332 : Index := Scalar.indexCast v330
  let c0_121 : Index := 0#32
  let c0_122 : Index := 0#32
  ![v332.toNat, 0, 0]

def k0_chk3 (arg11 : BitVec 32) : Prop :=
  (∀ (r : Fin 2), ∀ a, (k0_off12 arg11 (BitVec.ofNat 32 r.val)) a + S1x256x128.size a ≤ S32x256x128.size a)
theorem k0_off12_inb : ∀ (arg11 : BitVec 32) (k0_hw3 : k0_chk3 arg11), ∀ (r : Fin 2), ∀ a, (k0_off12 arg11 (BitVec.ofNat 32 r.val)) a + S1x256x128.size a ≤ S32x256x128.size a := fun arg11 k0_hw3 r => k0_hw3 r

def k0_off13 (arg11 : BitVec 32) : Fin 3 → Nat :=
  let c0_i32_119 : BitVec 32 := 0#32
  let v330 : BitVec 32 := Scalar.subi arg11 c0_i32_119
  let v331 : Index := Scalar.indexCast v330
  let c0_120 : Index := 0#32
  let c0_121 : Index := 0#32
  ![v331.toNat, 0, 0]

def k0_chk4 (arg11 : BitVec 32) : Prop :=
  (∀ a, (k0_off13 arg11) a + S1x256x128.size a ≤ S32x256x128.size a)
theorem k0_off13_inb : ∀ (arg11 : BitVec 32) (k0_hw4 : k0_chk4 arg11), ∀ a, (k0_off13 arg11) a + S1x256x128.size a ≤ S32x256x128.size a := fun arg11 k0_hw4 => k0_hw4

@[reducible] def k0_t4_loop : Scf.Loop 32 :=
  let c1_i32_116 : BitVec 32 := 1#32
  let c15_i32 : BitVec 32 := 15#32
  let v329 : BitVec 32 := Scalar.addi c1_i32_116 c15_i32
  let c1_i32_117 : BitVec 32 := 1#32
  ⟨c1_i32_116, v329, c1_i32_117⟩
def k0_off14 (k0_t4 : Fin k0_t4_loop.trips) (c0_i32_120 : BitVec 32) : Fin 3 → Nat :=
  let c1_i32_116 : BitVec 32 := 1#32
  let c1_i32_117 : BitVec 32 := 1#32
  let arg11 : BitVec 32 := Scf.iv c1_i32_116 c1_i32_117 k0_t4
  let c2_i32_119 : BitVec 32 := 2#32
  let v330 : BitVec 32 := Scalar.muli arg11 c2_i32_119
  let v331 : BitVec 32 := Scalar.addi v330 c0_i32_120
  let v334 : Index := Scalar.indexCast v331
  let c0_123 : Index := 0#32
  let c0_124 : Index := 0#32
  ![v334.toNat, 0, 0]
def k0_off15 (k0_t4 : Fin k0_t4_loop.trips) (c0_i32_120 : BitVec 32) : Fin 3 → Nat :=
  let c1_i32_116 : BitVec 32 := 1#32
  let c1_i32_117 : BitVec 32 := 1#32
  let arg11 : BitVec 32 := Scf.iv c1_i32_116 c1_i32_117 k0_t4
  let c2_i32_119 : BitVec 32 := 2#32
  let v330 : BitVec 32 := Scalar.muli arg11 c2_i32_119
  let v331 : BitVec 32 := Scalar.addi v330 c0_i32_120
  let v337 : Index := Scalar.indexCast v331
  let c128_125 : Index := 128#32
  let c0_126 : Index := 0#32
  ![v337.toNat, 128, 0]
def k0_off16 (k0_t4 : Fin k0_t4_loop.trips) (c0_i32_120 : BitVec 32) (c0_i32_127 : BitVec 32) : Fin 3 → Nat :=
  let c1_i32_116 : BitVec 32 := 1#32
  let c1_i32_117 : BitVec 32 := 1#32
  let arg11 : BitVec 32 := Scf.iv c1_i32_116 c1_i32_117 k0_t4
  let c2_i32_119 : BitVec 32 := 2#32
  let v330 : BitVec 32 := Scalar.muli arg11 c2_i32_119
  let v331 : BitVec 32 := Scalar.addi v330 c0_i32_120
  let v341 : BitVec 32 := Scalar.subi v331 c0_i32_127
  let v355 : Index := Scalar.indexCast v341
  let c0_138 : Index := 0#32
  let c0_139 : Index := 0#32
  ![v355.toNat, 0, 0]
def k0_off17 (arg12 : BitVec 32) (c0_i32_244 : BitVec 32) : Fin 3 → Nat :=
  let v769 : BitVec 32 := Scalar.subi arg12 c0_i32_244
  let v771 : Index := Scalar.indexCast v769
  let c0_246 : Index := 0#32
  let c0_247 : Index := 0#32
  ![v771.toNat, 0, 0]

def k0_chk5 (arg12 : BitVec 32) : Prop :=
  (∀ (r : Fin 2), ∀ a, (k0_off17 arg12 (BitVec.ofNat 32 r.val)) a + S1x256x128.size a ≤ S32x256x128.size a)
theorem k0_off17_inb : ∀ (arg12 : BitVec 32) (k0_hw5 : k0_chk5 arg12), ∀ (r : Fin 2), ∀ a, (k0_off17 arg12 (BitVec.ofNat 32 r.val)) a + S1x256x128.size a ≤ S32x256x128.size a := fun arg12 k0_hw5 r => k0_hw5 r

def k0_off18 (arg12 : BitVec 32) : Fin 3 → Nat :=
  let c0_i32_244 : BitVec 32 := 0#32
  let v769 : BitVec 32 := Scalar.subi arg12 c0_i32_244
  let v770 : Index := Scalar.indexCast v769
  let c0_245 : Index := 0#32
  let c0_246 : Index := 0#32
  ![v770.toNat, 0, 0]

def k0_chk6 (arg12 : BitVec 32) : Prop :=
  (∀ a, (k0_off18 arg12) a + S1x256x128.size a ≤ S32x256x128.size a)
theorem k0_off18_inb : ∀ (arg12 : BitVec 32) (k0_hw6 : k0_chk6 arg12), ∀ a, (k0_off18 arg12) a + S1x256x128.size a ≤ S32x256x128.size a := fun arg12 k0_hw6 => k0_hw6

def k0_mult4 (k0_t4 : Fin k0_t4_loop.trips) : BitVec 32 :=
  let c1_i32_116 : BitVec 32 := 1#32
  let c1_i32_117 : BitVec 32 := 1#32
  let arg11 : BitVec 32 := Scf.iv c1_i32_116 c1_i32_117 k0_t4
  let c2_i32_119 : BitVec 32 := 2#32
  let v330 : BitVec 32 := Scalar.muli arg11 c2_i32_119
  let c0_i32_120 : BitVec 32 := 0#32
  let v331 : BitVec 32 := Scalar.addi v330 c0_i32_120
  let c128_i32_234 : BitVec 32 := 128#32
  let v744 : BitVec 32 := Scalar.muli v331 c128_i32_234
  v744
def k0_off19 (k0_t4 : Fin k0_t4_loop.trips) (c0_i32_120 : BitVec 32) : Fin 3 → Nat :=
  let c0_235 : Index := 0#32
  let c1_i32_116 : BitVec 32 := 1#32
  let c1_i32_117 : BitVec 32 := 1#32
  let arg11 : BitVec 32 := Scf.iv c1_i32_116 c1_i32_117 k0_t4
  let c2_i32_119 : BitVec 32 := 2#32
  let v330 : BitVec 32 := Scalar.muli arg11 c2_i32_119
  let v331 : BitVec 32 := Scalar.addi v330 c0_i32_120
  let c128_i32_234 : BitVec 32 := 128#32
  let v744 : BitVec 32 := Scalar.muli v331 c128_i32_234
  let v745 : BitVec 32 := v744
  let v746 : Index := Scalar.indexCast v745
  let c0_236 : Index := 0#32
  ![0, v746.toNat, 0]
def k0_off20 (arg12 : BitVec 32) (c0_i32_244 : BitVec 32) : Fin 3 → Nat :=
  let v769 : BitVec 32 := Scalar.subi arg12 c0_i32_244
  let v771 : Index := Scalar.indexCast v769
  let c0_246 : Index := 0#32
  let c0_247 : Index := 0#32
  ![v771.toNat, 0, 0]

def k0_chk7 (arg12 : BitVec 32) : Prop :=
  (∀ (r : Fin 2), ∀ a, (k0_off20 arg12 (BitVec.ofNat 32 r.val)) a + S1x256x128.size a ≤ S32x256x128.size a)
theorem k0_off20_inb : ∀ (arg12 : BitVec 32) (k0_hw7 : k0_chk7 arg12), ∀ (r : Fin 2), ∀ a, (k0_off20 arg12 (BitVec.ofNat 32 r.val)) a + S1x256x128.size a ≤ S32x256x128.size a := fun arg12 k0_hw7 r => k0_hw7 r

def k0_off21 (arg12 : BitVec 32) : Fin 3 → Nat :=
  let c0_i32_244 : BitVec 32 := 0#32
  let v769 : BitVec 32 := Scalar.subi arg12 c0_i32_244
  let v770 : Index := Scalar.indexCast v769
  let c0_245 : Index := 0#32
  let c0_246 : Index := 0#32
  ![v770.toNat, 0, 0]

def k0_chk8 (arg12 : BitVec 32) : Prop :=
  (∀ a, (k0_off21 arg12) a + S1x256x128.size a ≤ S32x256x128.size a)
theorem k0_off21_inb : ∀ (arg12 : BitVec 32) (k0_hw8 : k0_chk8 arg12), ∀ a, (k0_off21 arg12) a + S1x256x128.size a ≤ S32x256x128.size a := fun arg12 k0_hw8 => k0_hw8

def k0_mult5 (k0_t4 : Fin k0_t4_loop.trips) : BitVec 32 :=
  let c1_i32_116 : BitVec 32 := 1#32
  let c1_i32_117 : BitVec 32 := 1#32
  let arg11 : BitVec 32 := Scf.iv c1_i32_116 c1_i32_117 k0_t4
  let c2_i32_121 : BitVec 32 := 2#32
  let v332 : BitVec 32 := Scalar.muli arg11 c2_i32_121
  let c1_i32_122 : BitVec 32 := 1#32
  let v333 : BitVec 32 := Scalar.addi v332 c1_i32_122
  let c128_i32_241 : BitVec 32 := 128#32
  let v763 : BitVec 32 := Scalar.muli v333 c128_i32_241
  v763
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel3Ideal.lean ====
variable {F : FTy → Type} [FloatOps F] [Named F]
def κ : String → Option EReal := fun
  | "exit" => some ⊥
  | _ => none
-- ==== Reference3Ideal.lean ====
abbrev S2x4096x6672 : Shape := ⟨3, ![2, 4096, 6672]⟩
abbrev S1x64 : Shape := ⟨2, ![1, 64]⟩
abbrev S2x4096x1024 : Shape := ⟨3, ![2, 4096, 1024]⟩
abbrev S64 : Shape := ⟨1, ![64]⟩
abbrev S2x4096x16x64 : Shape := ⟨4, ![2, 4096, 16, 64]⟩
abbrev S_ : Shape := ⟨0, ![]⟩
abbrev S2x4096x16 : Shape := ⟨3, ![2, 4096, 16]⟩
abbrev S2x4096x16x1 : Shape := ⟨4, ![2, 4096, 16, 1]⟩
abbrev S1x1x1x64 : Shape := ⟨4, ![1, 1, 1, 64]⟩
abbrev S2x16x4096x4096 : Shape := ⟨4, ![2, 16, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x16x64x4096 : Shape := ⟨4, ![2, 16, 64, 4096]⟩

abbrev nBuf : Space → Nat
  | .hbm => 105
  | .vmem => 0
  | .smem => 0
  | _ => 0

abbrev bufTy : (tb : Table) → Fin (tcTables nBuf tb) → BufTy
  | .hbm, ⟨0, _⟩ => ⟨S2x4096x6672, .f32⟩
  | .hbm, ⟨1, _⟩ => ⟨S1x64, .f32⟩
  | .hbm, ⟨2, _⟩ => ⟨S1x64, .f32⟩
  | .hbm, ⟨3, _⟩ => ⟨S2x4096x1024, .f32⟩
  | .hbm, ⟨4, _⟩ => ⟨S2x4096x1024, .f32⟩
  | .hbm, ⟨5, _⟩ => ⟨S2x4096x1024, .f32⟩
  | .hbm, ⟨6, _⟩ => ⟨S64, .f32⟩
  | .hbm, ⟨7, _⟩ => ⟨S64, .f32⟩
  | .hbm, ⟨8, _⟩ => ⟨S2x4096x16x64, .f32⟩
  | .hbm, ⟨9, _⟩ => ⟨S2x4096x16x64, .f32⟩
  | .hbm, ⟨10, _⟩ => ⟨S_, .f32⟩
  | .hbm, ⟨11, _⟩ => ⟨S2x4096x16, .f32⟩
  | .hbm, ⟨12, _⟩ => ⟨S2x4096x16x1, .f32⟩
  | .hbm, ⟨13, _⟩ => ⟨S_, .f32⟩
  | .hbm, ⟨14, _⟩ => ⟨S2x4096x16x1, .f32⟩
  | .hbm, ⟨15, _⟩ => ⟨S2x4096x16x1, .f32⟩
  | .hbm, ⟨16, _⟩ => ⟨S_, .f32⟩
  | .hbm, ⟨17, _⟩ => ⟨S2x4096x16x1, .f32⟩
  | .hbm, ⟨18, _⟩ => ⟨S2x4096x16x1, .f32⟩
  | .hbm, ⟨19, _⟩ => ⟨S2x4096x16x1, .f32⟩
  | .hbm, ⟨20, _⟩ => ⟨S2x4096x16x64, .f32⟩
  | .hbm, ⟨21, _⟩ => ⟨S2x4096x16x64, .f32⟩
  | .hbm, ⟨22, _⟩ => ⟨S1x1x1x64, .f32⟩
  | .hbm, ⟨23, _⟩ => ⟨S2x4096x16x64, .f32⟩
  | .hbm, ⟨24, _⟩ => ⟨S2x4096x16x64, .f32⟩
  | .hbm, ⟨25, _⟩ => ⟨S2x4096x16x64, .f32⟩
  | .hbm, ⟨26, _⟩ => ⟨S2x4096x16x64, .f32⟩
  | .hbm, ⟨27, _⟩ => ⟨S_, .f32⟩
  | .hbm, ⟨28, _⟩ => ⟨S2x4096x16, .f32⟩
  | .hbm, ⟨29, _⟩ => ⟨S2x4096x16x1, .f32⟩
  | .hbm, ⟨30, _⟩ => ⟨S_, .f32⟩
  | .hbm, ⟨31, _⟩ => ⟨S2x4096x16x1, .f32⟩
  | .hbm, ⟨32, _⟩ => ⟨S2x4096x16x1, .f32⟩
  | .hbm, ⟨33, _⟩ => ⟨S_, .f32⟩
  | .hbm, ⟨34, _⟩ => ⟨S2x4096x16x1, .f32⟩
  | .hbm, ⟨35, _⟩ => ⟨S2x4096x16x1, .f32⟩
  | .hbm, ⟨36, _⟩ => ⟨S2x4096x16x1, .f32⟩
  | .hbm, ⟨37, _⟩ => ⟨S2x4096x16x64, .f32⟩
  | .hbm, ⟨38, _⟩ => ⟨S2x4096x16x64, .f32⟩
  | .hbm, ⟨39, _⟩ => ⟨S1x1x1x64, .f32⟩
  | .hbm, ⟨40, _⟩ => ⟨S2x4096x16x64, .f32⟩
  | .hbm, ⟨41, _⟩ => ⟨S2x4096x16x64, .f32⟩
  | .hbm, ⟨42, _⟩ => ⟨S2x4096x16x64, .f32⟩
  | .hbm, ⟨43, _⟩ => ⟨S2x16x4096x4096, .f32⟩
  | .hbm, ⟨44, _⟩ => ⟨S_, .f32⟩
  | .hbm, ⟨45, _⟩ => ⟨S2x16x4096x4096, .f32⟩
  | .hbm, ⟨46, _⟩ => ⟨S2x16x4096x4096, .f32⟩
  | .hbm, ⟨47, _⟩ => ⟨S4096, .i32⟩
  | .hbm, ⟨48, _⟩ => ⟨S1x4096, .i32⟩
  | .hbm, ⟨49, _⟩ => ⟨S4096x1, .i32⟩
  | .hbm, ⟨50, _⟩ => ⟨S4096x4096, .i32⟩
  | .hbm, ⟨51, _⟩ => ⟨S4096x4096, .i32⟩
  | .hbm, ⟨52, _⟩ => ⟨S4096x4096, .i1⟩
  | .hbm, ⟨53, _⟩ => ⟨S2x16x4096x4096, .f32⟩
  | .hbm, ⟨54, _⟩ => ⟨S2x16x4096x4096, .f32⟩
  | .hbm, ⟨55, _⟩ => ⟨S_, .f32⟩
  | .hbm, ⟨56, _⟩ => ⟨S2x16x4096x4096, .f32⟩
  | .hbm, ⟨57, _⟩ => ⟨S2x16x4096x4096, .f32⟩
  | .hbm, ⟨58, _⟩ => ⟨S2x16x4096x4096, .f32⟩
  | .hbm, ⟨59, _⟩ => ⟨S2x16x4096x4096, .f32⟩
  | .hbm, ⟨60, _⟩ => ⟨S2x16x4096x4096, .i1⟩
  | .hbm, ⟨61, _⟩ => ⟨S2x16x4096x4096, .f32⟩
  | .hbm, ⟨62, _⟩ => ⟨S2x16x4096x4096, .f32⟩
  | .hbm, ⟨63, _⟩ => ⟨S2x16x4096x4096, .f32⟩
  | .hbm, ⟨64, _⟩ => ⟨S2x16x4096x4096, .f32⟩
  | .hbm, ⟨65, _⟩ => ⟨S2x16x4096x4096, .f32⟩
  | .hbm, ⟨66, _⟩ => ⟨S2x16x4096x4096, .f32⟩
  | .hbm, ⟨67, _⟩ => ⟨S2x16x4096x4096, .f32⟩
  | .hbm, ⟨68, _⟩ => ⟨S2x16x4096x4096, .f32⟩
  | .hbm, ⟨69, _⟩ => ⟨S2x16x4096x4096, .f32⟩
  | .hbm, ⟨70, _⟩ => ⟨S_, .f32⟩
  | .hbm, ⟨71, _⟩ => ⟨S_, .f32⟩
  | .hbm, ⟨72, _⟩ => ⟨S2x16x4096x4096, .i1⟩
  | .hbm, ⟨73, _⟩ => ⟨S2x16x4096x4096, .f32⟩
  | .hbm, ⟨74, _⟩ => ⟨S2x16x4096x4096, .f32⟩
  | .hbm, ⟨75, _⟩ => ⟨S_, .f32⟩
  | .hbm, ⟨76, _⟩ => ⟨S_, .f32⟩
  | .hbm, ⟨77, _⟩ => ⟨S2x16x4096x4096, .f32⟩
  | .hbm, ⟨78, _⟩ => ⟨S2x16x4096x4096, .f32⟩
  | .hbm, ⟨79, _⟩ => ⟨S2x16x4096x4096, .f32⟩
  | .hbm, ⟨80, _⟩ => ⟨S_, .f32⟩
  | .hbm, ⟨81, _⟩ => ⟨S2x16x4096x4096, .f32⟩
  | .hbm, ⟨82, _⟩ => ⟨S2x16x4096x4096, .f32⟩
  | .hbm, ⟨83, _⟩ => ⟨S2x16x4096x4096, .f32⟩
  | .hbm, ⟨84, _⟩ => ⟨S2x16x4096x4096, .f32⟩
  | .hbm, ⟨85, _⟩ => ⟨S2x16x4096x4096, .i1⟩
  | .hbm, ⟨86, _⟩ => ⟨S2x16x4096x4096, .f32⟩
  | .hbm, ⟨87, _⟩ => ⟨S2x16x4096x4096, .f32⟩
  | .hbm, ⟨88, _⟩ => ⟨S2x16x4096x4096, .f32⟩
  | .hbm, ⟨89, _⟩ => ⟨S2x16x4096x4096, .f32⟩
  | .hbm, ⟨90, _⟩ => ⟨S2x16x4096x4096, .f32⟩
  | .hbm, ⟨91, _⟩ => ⟨S2x16x4096x4096, .f32⟩
  | .hbm, ⟨92, _⟩ => ⟨S2x16x4096x4096, .f32⟩
  | .hbm, ⟨93, _⟩ => ⟨S2x16x4096x4096, .f32⟩
  | .hbm, ⟨94, _⟩ => ⟨S2x16x4096x4096, .f32⟩
  | .hbm, ⟨95, _⟩ => ⟨S2x16x4096x4096, .f32⟩
  | .hbm, ⟨96, _⟩ => ⟨S2x16x4096x4096, .f32⟩
  | .hbm, ⟨97, _⟩ => ⟨S_, .f32⟩
  | .hbm, ⟨98, _⟩ => ⟨S_, .f32⟩
  | .hbm, ⟨99, _⟩ => ⟨S2x16x4096x4096, .i1⟩
  | .hbm, ⟨100, _⟩ => ⟨S2x16x4096x4096, .f32⟩
  | .hbm, ⟨101, _⟩ => ⟨S2x16x4096x4096, .f32⟩
  | .hbm, ⟨102, _⟩ => ⟨S2x16x64x4096, .f32⟩
  | .hbm, ⟨103, _⟩ => ⟨S2x4096x16x64, .f32⟩
  | .hbm, ⟨104, _⟩ => ⟨S2x4096x1024, .f32⟩
  | _, _ => ⟨S2x4096x6672, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_call0_v0 : Ref sig .tc := ⟨.hbm, 54, rfl⟩
abbrev main_call0_call0_cst : Ref sig .tc := ⟨.hbm, 55, rfl⟩
abbrev main_call0_call0_v0 : Ref sig .tc := ⟨.hbm, 56, rfl⟩
abbrev main_call0_call0_v1 : Ref sig .tc := ⟨.hbm, 57, rfl⟩
abbrev main_call0_call0_v2 : Ref sig .tc := ⟨.hbm, 58, rfl⟩
abbrev main_call0_call0_v3 : Ref sig .tc := ⟨.hbm, 59, rfl⟩
abbrev main_call0_call0_v4 : Ref sig .tc := ⟨.hbm, 60, rfl⟩
abbrev main_call0_call0_v5 : Ref sig .tc := ⟨.hbm, 61, rfl⟩
abbrev main_call0_call0_v6 : Ref sig .tc := ⟨.hbm, 62, rfl⟩
abbrev main_call0_call0_v7 : Ref sig .tc := ⟨.hbm, 63, rfl⟩
abbrev main_call0_call0_v8 : Ref sig .tc := ⟨.hbm, 64, rfl⟩
abbrev main_call0_call0_v9 : Ref sig .tc := ⟨.hbm, 65, rfl⟩
abbrev main_call0_call0_v10 : Ref sig .tc := ⟨.hbm, 66, rfl⟩
abbrev main_call0_call0_v11 : Ref sig .tc := ⟨.hbm, 67, rfl⟩
abbrev main_call0_v1 : Ref sig .tc := ⟨.hbm, 68, rfl⟩
abbrev main_v44 : Ref sig .tc := ⟨.hbm, 69, rfl⟩
abbrev main_cst_6 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v45 : Ref sig .tc := ⟨.hbm, 74, rfl⟩
abbrev main_call2_cst : Ref sig .tc := ⟨.hbm, 75, rfl⟩
abbrev main_call2_v0 : Ref sig .tc := ⟨.hbm, 76, rfl⟩
abbrev main_v46 : Ref sig .tc := ⟨.hbm, 77, rfl⟩
abbrev main_v47 : Ref sig .tc := ⟨.hbm, 78, rfl⟩
abbrev main_call3_v0 : Ref sig .tc := ⟨.hbm, 79, rfl⟩
abbrev main_call3_call0_cst : Ref sig .tc := ⟨.hbm, 80, rfl⟩
abbrev main_call3_call0_v0 : Ref sig .tc := ⟨.hbm, 81, rfl⟩
abbrev main_call3_call0_v1 : Ref sig .tc := ⟨.hbm, 82, rfl⟩
abbrev main_call3_call0_v2 : Ref sig .tc := ⟨.hbm, 83, rfl⟩
abbrev main_call3_call0_v3 : Ref sig .tc := ⟨.hbm, 84, rfl⟩
abbrev main_call3_call0_v4 : Ref sig .tc := ⟨.hbm, 85, rfl⟩
abbrev main_call3_call0_v5 : Ref sig .tc := ⟨.hbm, 86, rfl⟩
abbrev main_call3_call0_v6 : Ref sig .tc := ⟨.hbm, 87, rfl⟩
abbrev main_call3_call0_v7 : Ref sig .tc := ⟨.hbm, 88, rfl⟩
abbrev main_call3_call0_v8 : Ref sig .tc := ⟨.hbm, 89, rfl⟩
abbrev main_call3_call0_v9 : Ref sig .tc := ⟨.hbm, 90, rfl⟩
abbrev main_call3_call0_v10 : Ref sig .tc := ⟨.hbm, 91, rfl⟩
abbrev main_call3_call0_v11 : Ref sig .tc := ⟨.hbm, 92, rfl⟩
abbrev main_call3_v1 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_cst_7 : Ref sig .tc := ⟨.hbm, 97, rfl⟩
abbrev main_call4_v0 : Ref sig .tc := ⟨.hbm, 98, rfl⟩
abbrev main_call4_v1 : Ref sig .tc := ⟨.hbm, 99, rfl⟩
abbrev main_call4_v2 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩

abbrev nD : Nat := 1
abbrev τ : Topo := Topo.v7x

variable {F : FTy → Type} [FloatOps F]
-- ==== Kernel4.lean ====
abbrev S2x4096x6672 : Shape := ⟨3, ![2, 4096, 6672]⟩
abbrev S1x4x1536 : Shape := ⟨3, ![1, 4, 1536]⟩
abbrev S1x1536 : Shape := ⟨2, ![1, 1536]⟩
abbrev S1x16 : Shape := ⟨2, ![1, 16]⟩
abbrev S2x4096x1024 : Shape := ⟨3, ![2, 4096, 1024]⟩
abbrev S_ : Shape := ⟨0, ![]⟩
abbrev S2x4096x7168 : Shape := ⟨3, ![2, 4096, 7168]⟩
abbrev S2x4096x1536 : Shape := ⟨3, ![2, 4096, 1536]⟩
abbrev S2x4096x16 : Shape := ⟨3, ![2, 4096, 16]⟩
abbrev S4x1536 : Shape := ⟨2, ![4, 1536]⟩
abbrev S1536 : Shape := ⟨1, ![1536]⟩
abbrev S16 : Shape := ⟨1, ![16]⟩
abbrev S2x3x1536 : Shape := ⟨3, ![2, 3, 1536]⟩
abbrev S2x4099x1536 : Shape := ⟨3, ![2, 4099, 1536]⟩
abbrev S1x1x1536 : Shape := ⟨3, ![1, 1, 1536]⟩
abbrev S2x4096x256 : Shape := ⟨3, ![2, 4096, 256]⟩
abbrev S2x4096x16x64 : Shape := ⟨4, ![2, 4096, 16, 64]⟩
abbrev S1x1x16 : Shape := ⟨3, ![1, 1, 16]⟩
abbrev S2x4096x2x128 : Shape := ⟨4, ![2, 4096, 2, 128]⟩
abbrev S2x4096x16x1 : Shape := ⟨4, ![2, 4096, 16, 1]⟩
abbrev S2x32x128x2x8x64 : Shape := ⟨6, ![2, 32, 128, 2, 8, 64]⟩
abbrev S2x32x128x2x8 : Shape := ⟨5, ![2, 32, 128, 2, 8]⟩
abbrev S2x32x2x8x128 : Shape := ⟨5, ![2, 32, 2, 8, 128]⟩
abbrev S2x32x128x2x128 : Shape := ⟨5, ![2, 32, 128, 2, 128]⟩
abbrev S2x32x2x8x1 : Shape := ⟨5, ![2, 32, 2, 8, 1]⟩
abbrev S2x32x128x2x8x1 : Shape := ⟨6, ![2, 32, 128, 2, 8, 1]⟩
abbrev S2x32x2x8x64x128 : Shape := ⟨6, ![2, 32, 2, 8, 64, 128]⟩
abbrev S2x32x2x8 : Shape := ⟨4, ![2, 32, 2, 8]⟩
abbrev S2x2x8x64x128 : Shape := ⟨5, ![2, 2, 8, 64, 128]⟩
abbrev S32x2x2x8x64x128 : Shape := ⟨6, ![32, 2, 2, 8, 64, 128]⟩
abbrev S32x2x2x8 : Shape := ⟨4, ![32, 2, 2, 8]⟩
abbrev S0x2x2x8x64x128 : Shape := ⟨6, ![0, 2, 2, 8, 64, 128]⟩
abbrev S0x2x2x8 : Shape := ⟨4, ![0, 2, 2, 8]⟩
abbrev S1x2x2x8x64x128 : Shape := ⟨6, ![1, 2, 2, 8, 64, 128]⟩
abbrev S1x2x2x8 : Shape := ⟨4, ![1, 2, 2, 8]⟩
abbrev S2x2x8 : Shape := ⟨3, ![2, 2, 8]⟩
abbrev S2x2x8x1x1 : Shape := ⟨5, ![2, 2, 8, 1, 1]⟩
abbrev S16x2x2x8x64x128 : Shape := ⟨6, ![16, 2, 2, 8, 64, 128]⟩
abbrev S2x32x8x2x64x128 : Shape := ⟨6, ![2, 32, 8, 2, 64, 128]⟩
abbrev S2x32x8x128x2x64 : Shape := ⟨6, ![2, 32, 8, 128, 2, 64]⟩
abbrev S2x32x8x128x128 : Shape := ⟨5, ![2, 32, 8, 128, 128]⟩
abbrev S1x4x1024 : Shape := ⟨3, ![1, 4, 1024]⟩
abbrev S4x1024 : Shape := ⟨2, ![4, 1024]⟩
abbrev S1x4x512 : Shape := ⟨3, ![1, 4, 512]⟩
abbrev S4x512 : Shape := ⟨2, ![4, 512]⟩
abbrev S1x1024 : Shape := ⟨2, ![1, 1024]⟩
abbrev S1x512 : Shape := ⟨2, ![1, 512]⟩
abbrev S1x128 : Shape := ⟨2, ![1, 128]⟩
abbrev S2x4096x2048 : Shape := ⟨3, ![2, 4096, 2048]⟩
abbrev S8x128 : Shape := ⟨2, ![8, 128]⟩
abbrev S1x128x1024 : Shape := ⟨3, ![1, 128, 1024]⟩
abbrev S1x128x512 : Shape := ⟨3, ![1, 128, 512]⟩
abbrev S1x8x1024 : Shape := ⟨3, ![1, 8, 1024]⟩
abbrev S1x8x512 : Shape := ⟨3, ![1, 8, 512]⟩
abbrev S1x128x128 : Shape := ⟨3, ![1, 128, 128]⟩
abbrev S1x1x8x128x128 : Shape := ⟨5, ![1, 1, 8, 128, 128]⟩
abbrev S1x128x2048 : Shape := ⟨3, ![1, 128, 2048]⟩
abbrev S8x128x128 : Shape := ⟨3, ![8, 128, 128]⟩
abbrev S136x1024 : Shape := ⟨2, ![136, 1024]⟩
abbrev S136x512 : Shape := ⟨2, ![136, 512]⟩
abbrev S128x128 : Shape := ⟨2, ![128, 128]⟩
abbrev S128x1024 : Shape := ⟨2, ![128, 1024]⟩
abbrev S128x512 : Shape := ⟨2, ![128, 512]⟩
abbrev S8x1024 : Shape := ⟨2, ![8, 1024]⟩
abbrev S8x512 : Shape := ⟨2, ![8, 512]⟩
abbrev S128 : Shape := ⟨1, ![128]⟩
abbrev S128x1 : Shape := ⟨2, ![128, 1]⟩
abbrev S1 : Shape := ⟨1, ![1]⟩
abbrev S1x1 : Shape := ⟨2, ![1, 1]⟩
abbrev S1x1x1x128x128 : Shape := ⟨5, ![1, 1, 1, 128, 128]⟩
abbrev S128x384 : Shape := ⟨2, ![128, 384]⟩
abbrev S1x128x384 : Shape := ⟨3, ![1, 128, 384]⟩
abbrev S1024 : Shape := ⟨1, ![1024]⟩
abbrev S512 : Shape := ⟨1, ![512]⟩

abbrev nBuf : Space → Nat
  | .hbm => 435
  | .vmem => 45
  | .smem => 0
  | _ => 0

abbrev hbmTy0_0 (i : Nat) : BufTy := match i % 128 with
  | 0 => ⟨S2x4096x6672, .f32⟩
  | 1 => ⟨S1x4x1536, .f32⟩
  | 2 => ⟨S1x1536, .f32⟩
  | 3 => ⟨S1x16, .f32⟩
  | 4 => ⟨S1x16, .f32⟩
  | 5 => ⟨S1x16, .f32⟩
  | 6 => ⟨S2x4096x1024, .f32⟩
  | 7 => ⟨S_, .i32⟩
  | 8 => ⟨S_, .f32⟩
  | 9 => ⟨S2x4096x7168, .f32⟩
  | 10 => ⟨S2x4096x1536, .f32⟩
  | 11 => ⟨S2x4096x16, .f32⟩
  | 12 => ⟨S4x1536, .f32⟩
  | 13 => ⟨S1536, .f32⟩
  | 14 => ⟨S16, .f32⟩
  | 15 => ⟨S16, .f32⟩
  | 16 => ⟨S_, .f32⟩
  | 17 => ⟨S2x3x1536, .f32⟩
  | 18 => ⟨S2x4099x1536, .f32⟩
  | 19 => ⟨S2x4096x1536, .f32⟩
  | 20 => ⟨S1x1536, .f32⟩
  | 21 => ⟨S1536, .f32⟩
  | 22 => ⟨S1x1x1536, .f32⟩
  | 23 => ⟨S2x4096x1536, .f32⟩
  | 24 => ⟨S2x4096x1536, .f32⟩
  | 25 => ⟨S1x1x1536, .f32⟩
  | 26 => ⟨S2x4096x1536, .f32⟩
  | 27 => ⟨S2x4096x1536, .f32⟩
  | 28 => ⟨S2x4096x1536, .f32⟩
  | 29 => ⟨S1x1536, .f32⟩
  | 30 => ⟨S1536, .f32⟩
  | 31 => ⟨S1x1x1536, .f32⟩
  | 32 => ⟨S2x4096x1536, .f32⟩
  | 33 => ⟨S2x4096x1536, .f32⟩
  | 34 => ⟨S2x4096x1536, .f32⟩
  | 35 => ⟨S2x4096x1536, .f32⟩
  | 36 => ⟨S1x1536, .f32⟩
  | 37 => ⟨S1536, .f32⟩
  | 38 => ⟨S1x1x1536, .f32⟩
  | 39 => ⟨S2x4096x1536, .f32⟩
  | 40 => ⟨S2x4096x1536, .f32⟩
  | 41 => ⟨S2x4096x1536, .f32⟩
  | 42 => ⟨S2x4096x1536, .f32⟩
  | 43 => ⟨S1x1536, .f32⟩
  | 44 => ⟨S1536, .f32⟩
  | 45 => ⟨S1x1x1536, .f32⟩
  | 46 => ⟨S2x4096x1536, .f32⟩
  | 47 => ⟨S2x4096x1536, .f32⟩
  | 48 => ⟨S2x4096x1536, .f32⟩
  | 49 => ⟨S2x4096x1536, .f32⟩
  | 50 => ⟨S2x4096x1536, .f32⟩
  | 51 => ⟨S_, .f32⟩
  | 52 => ⟨S2x4096x1536, .f32⟩
  | 53 => ⟨S2x4096x1536, .f32⟩
  | 54 => ⟨S_, .f32⟩
  | 55 => ⟨S2x4096x1536, .f32⟩
  | 56 => ⟨S2x4096x1536, .f32⟩
  | 57 => ⟨S2x4096x1536, .f32⟩
  | 58 => ⟨S2x4096x1024, .f32⟩
  | 59 => ⟨S2x4096x256, .f32⟩
  | 60 => ⟨S2x4096x256, .f32⟩
  | 61 => ⟨S2x4096x16x64, .f32⟩
  | 62 => ⟨S1x1x16, .f32⟩
  | 63 => ⟨S2x4096x16, .f32⟩
  | 64 => ⟨S2x4096x16, .f32⟩
  | 65 => ⟨S_, .f32⟩
  | 66 => ⟨S2x4096x16, .f32⟩
  | 67 => ⟨S2x4096x16, .f32⟩
  | 68 => ⟨S2x4096x16, .f32⟩
  | 69 => ⟨S2x4096x16, .f32⟩
  | 70 => ⟨S2x4096x16, .i1⟩
  | 71 => ⟨S2x4096x16, .f32⟩
  | 72 => ⟨S2x4096x16, .f32⟩
  | 73 => ⟨S2x4096x16, .f32⟩
  | 74 => ⟨S2x4096x16, .f32⟩
  | 75 => ⟨S2x4096x16, .f32⟩
  | 76 => ⟨S2x4096x16, .f32⟩
  | 77 => ⟨S2x4096x16, .f32⟩
  | 78 => ⟨S2x4096x16, .f32⟩
  | 79 => ⟨S16, .f32⟩
  | 80 => ⟨S16, .f32⟩
  | 81 => ⟨S2x4096x2x128, .f32⟩
  | 82 => ⟨S2x4096x2x128, .f32⟩
  | 83 => ⟨S2x4096x16x1, .f32⟩
  | 84 => ⟨S2x4096x16x64, .f32⟩
  | 85 => ⟨S2x4096x16x64, .f32⟩
  | 86 => ⟨S2x32x128x2x8x64, .f32⟩
  | 87 => ⟨S1x1x16, .f32⟩
  | 88 => ⟨S2x4096x16, .f32⟩
  | 89 => ⟨S2x4096x16, .f32⟩
  | 90 => ⟨S2x32x128x2x8, .f32⟩
  | 91 => ⟨S2x32x2x8x128, .f32⟩
  | 92 => ⟨S2x32x128x2x128, .f32⟩
  | 93 => ⟨S_, .f32⟩
  | 94 => ⟨S_, .f32⟩
  | 95 => ⟨S2x32x2x8x128, .f32⟩
  | 96 => ⟨S2x32x2x8x1, .f32⟩
  | 97 => ⟨S2x32x2x8x128, .f32⟩
  | 98 => ⟨S2x32x2x8x128, .f32⟩
  | 99 => ⟨S2x32x2x8x128, .f32⟩
  | 100 => ⟨S2x32x128x2x8, .f32⟩
  | 101 => ⟨S2x32x128x2x8x1, .f32⟩
  | 102 => ⟨S2x32x128x2x8x64, .f32⟩
  | 103 => ⟨S2x32x128x2x8x64, .f32⟩
  | 104 => ⟨S2x32x2x8x64x128, .f32⟩
  | 105 => ⟨S2x32x2x8x1, .f32⟩
  | 106 => ⟨S2x32x2x8, .f32⟩
  | 107 => ⟨S2x32x2x8, .f32⟩
  | 108 => ⟨S_, .f32⟩
  | 109 => ⟨S2x2x8x64x128, .f32⟩
  | 110 => ⟨S32x2x2x8x64x128, .f32⟩
  | 111 => ⟨S32x2x2x8, .f32⟩
  | 112 => ⟨S0x2x2x8x64x128, .f32⟩
  | 113 => ⟨S32x2x2x8x64x128, .f32⟩
  | 114 => ⟨S0x2x2x8, .f32⟩
  | 115 => ⟨S32x2x2x8, .f32⟩
  | 116 => ⟨S_, .f32⟩
  | 117 => ⟨S0x2x2x8x64x128, .f32⟩
  | 118 => ⟨S1x2x2x8x64x128, .f32⟩
  | 119 => ⟨S2x2x8x64x128, .f32⟩
  | 120 => ⟨S1x2x2x8, .f32⟩
  | 121 => ⟨S2x2x8, .f32⟩
  | 122 => ⟨S2x2x8x1x1, .f32⟩
  | 123 => ⟨S2x2x8x64x128, .f32⟩
  | 124 => ⟨S2x2x8x64x128, .f32⟩
  | 125 => ⟨S2x2x8x64x128, .f32⟩
  | 126 => ⟨S1x2x2x8x64x128, .f32⟩
  | 127 => ⟨S2x2x8x64x128, .f32⟩
  | _ => ⟨S2x4096x6672, .f32⟩

abbrev hbmTy0_1 (i : Nat) : BufTy := match i % 128 with
  | 0 => ⟨S1x2x2x8, .f32⟩
  | 1 => ⟨S2x2x8, .f32⟩
  | 2 => ⟨S2x2x8x1x1, .f32⟩
  | 3 => ⟨S2x2x8x64x128, .f32⟩
  | 4 => ⟨S2x2x8x64x128, .f32⟩
  | 5 => ⟨S2x2x8x64x128, .f32⟩
  | 6 => ⟨S1x2x2x8x64x128, .f32⟩
  | 7 => ⟨S2x2x8x64x128, .f32⟩
  | 8 => ⟨S1x2x2x8, .f32⟩
  | 9 => ⟨S2x2x8, .f32⟩
  | 10 => ⟨S2x2x8x1x1, .f32⟩
  | 11 => ⟨S2x2x8x64x128, .f32⟩
  | 12 => ⟨S2x2x8x64x128, .f32⟩
  | 13 => ⟨S2x2x8x64x128, .f32⟩
  | 14 => ⟨S1x2x2x8x64x128, .f32⟩
  | 15 => ⟨S2x2x8x64x128, .f32⟩
  | 16 => ⟨S1x2x2x8, .f32⟩
  | 17 => ⟨S2x2x8, .f32⟩
  | 18 => ⟨S2x2x8x1x1, .f32⟩
  | 19 => ⟨S2x2x8x64x128, .f32⟩
  | 20 => ⟨S2x2x8x64x128, .f32⟩
  | 21 => ⟨S2x2x8x64x128, .f32⟩
  | 22 => ⟨S1x2x2x8x64x128, .f32⟩
  | 23 => ⟨S2x2x8x64x128, .f32⟩
  | 24 => ⟨S1x2x2x8, .f32⟩
  | 25 => ⟨S2x2x8, .f32⟩
  | 26 => ⟨S2x2x8x1x1, .f32⟩
  | 27 => ⟨S2x2x8x64x128, .f32⟩
  | 28 => ⟨S2x2x8x64x128, .f32⟩
  | 29 => ⟨S2x2x8x64x128, .f32⟩
  | 30 => ⟨S1x2x2x8x64x128, .f32⟩
  | 31 => ⟨S2x2x8x64x128, .f32⟩
  | 32 => ⟨S1x2x2x8, .f32⟩
  | 33 => ⟨S2x2x8, .f32⟩
  | 34 => ⟨S2x2x8x1x1, .f32⟩
  | 35 => ⟨S2x2x8x64x128, .f32⟩
  | 36 => ⟨S2x2x8x64x128, .f32⟩
  | 37 => ⟨S2x2x8x64x128, .f32⟩
  | 38 => ⟨S1x2x2x8x64x128, .f32⟩
  | 39 => ⟨S2x2x8x64x128, .f32⟩
  | 40 => ⟨S1x2x2x8, .f32⟩
  | 41 => ⟨S2x2x8, .f32⟩
  | 42 => ⟨S2x2x8x1x1, .f32⟩
  | 43 => ⟨S2x2x8x64x128, .f32⟩
  | 44 => ⟨S2x2x8x64x128, .f32⟩
  | 45 => ⟨S2x2x8x64x128, .f32⟩
  | 46 => ⟨S1x2x2x8x64x128, .f32⟩
  | 47 => ⟨S2x2x8x64x128, .f32⟩
  | 48 => ⟨S1x2x2x8, .f32⟩
  | 49 => ⟨S2x2x8, .f32⟩
  | 50 => ⟨S2x2x8x1x1, .f32⟩
  | 51 => ⟨S2x2x8x64x128, .f32⟩
  | 52 => ⟨S2x2x8x64x128, .f32⟩
  | 53 => ⟨S2x2x8x64x128, .f32⟩
  | 54 => ⟨S1x2x2x8x64x128, .f32⟩
  | 55 => ⟨S2x2x8x64x128, .f32⟩
  | 56 => ⟨S1x2x2x8, .f32⟩
  | 57 => ⟨S2x2x8, .f32⟩
  | 58 => ⟨S2x2x8x1x1, .f32⟩
  | 59 => ⟨S2x2x8x64x128, .f32⟩
  | 60 => ⟨S2x2x8x64x128, .f32⟩
  | 61 => ⟨S2x2x8x64x128, .f32⟩
  | 62 => ⟨S1x2x2x8x64x128, .f32⟩
  | 63 => ⟨S2x2x8x64x128, .f32⟩
  | 64 => ⟨S1x2x2x8, .f32⟩
  | 65 => ⟨S2x2x8, .f32⟩
  | 66 => ⟨S2x2x8x1x1, .f32⟩
  | 67 => ⟨S2x2x8x64x128, .f32⟩
  | 68 => ⟨S2x2x8x64x128, .f32⟩
  | 69 => ⟨S2x2x8x64x128, .f32⟩
  | 70 => ⟨S1x2x2x8x64x128, .f32⟩
  | 71 => ⟨S2x2x8x64x128, .f32⟩
  | 72 => ⟨S1x2x2x8, .f32⟩
  | 73 => ⟨S2x2x8, .f32⟩
  | 74 => ⟨S2x2x8x1x1, .f32⟩
  | 75 => ⟨S2x2x8x64x128, .f32⟩
  | 76 => ⟨S2x2x8x64x128, .f32⟩
  | 77 => ⟨S2x2x8x64x128, .f32⟩
  | 78 => ⟨S1x2x2x8x64x128, .f32⟩
  | 79 => ⟨S2x2x8x64x128, .f32⟩
  | 80 => ⟨S1x2x2x8, .f32⟩
  | 81 => ⟨S2x2x8, .f32⟩
  | 82 => ⟨S2x2x8x1x1, .f32⟩
  | 83 => ⟨S2x2x8x64x128, .f32⟩
  | 84 => ⟨S2x2x8x64x128, .f32⟩
  | 85 => ⟨S2x2x8x64x128, .f32⟩
  | 86 => ⟨S1x2x2x8x64x128, .f32⟩
  | 87 => ⟨S2x2x8x64x128, .f32⟩
  | 88 => ⟨S1x2x2x8, .f32⟩
  | 89 => ⟨S2x2x8, .f32⟩
  | 90 => ⟨S2x2x8x1x1, .f32⟩
  | 91 => ⟨S2x2x8x64x128, .f32⟩
  | 92 => ⟨S2x2x8x64x128, .f32⟩
  | 93 => ⟨S2x2x8x64x128, .f32⟩
  | 94 => ⟨S1x2x2x8x64x128, .f32⟩
  | 95 => ⟨S2x2x8x64x128, .f32⟩
  | 96 => ⟨S1x2x2x8, .f32⟩
  | 97 => ⟨S2x2x8, .f32⟩
  | 98 => ⟨S2x2x8x1x1, .f32⟩
  | 99 => ⟨S2x2x8x64x128, .f32⟩
  | 100 => ⟨S2x2x8x64x128, .f32⟩
  | 101 => ⟨S2x2x8x64x128, .f32⟩
  | 102 => ⟨S1x2x2x8x64x128, .f32⟩
  | 103 => ⟨S2x2x8x64x128, .f32⟩
  | 104 => ⟨S1x2x2x8, .f32⟩
  | 105 => ⟨S2x2x8, .f32⟩
  | 106 => ⟨S2x2x8x1x1, .f32⟩
  | 107 => ⟨S2x2x8x64x128, .f32⟩
  | 108 => ⟨S2x2x8x64x128, .f32⟩
  | 109 => ⟨S2x2x8x64x128, .f32⟩
  | 110 => ⟨S1x2x2x8x64x128, .f32⟩
  | 111 => ⟨S2x2x8x64x128, .f32⟩
  | 112 => ⟨S1x2x2x8, .f32⟩
  | 113 => ⟨S2x2x8, .f32⟩
  | 114 => ⟨S2x2x8x1x1, .f32⟩
  | 115 => ⟨S2x2x8x64x128, .f32⟩
  | 116 => ⟨S2x2x8x64x128, .f32⟩
  | 117 => ⟨S2x2x8x64x128, .f32⟩
  | 118 => ⟨S1x2x2x8x64x128, .f32⟩
  | 119 => ⟨S2x2x8x64x128, .f32⟩
  | 120 => ⟨S1x2x2x8, .f32⟩
  | 121 => ⟨S2x2x8, .f32⟩
  | 122 => ⟨S2x2x8x1x1, .f32⟩
  | 123 => ⟨S2x2x8x64x128, .f32⟩
  | 124 => ⟨S2x2x8x64x128, .f32⟩
  | 125 => ⟨S2x2x8x64x128, .f32⟩
  | 126 => ⟨S1x2x2x8x64x128, .f32⟩
  | 127 => ⟨S2x2x8x64x128, .f32⟩
  | _ => ⟨S2x4096x6672, .f32⟩

abbrev hbmTy0_2 (i : Nat) : BufTy := match i % 128 with
  | 0 => ⟨S1x2x2x8, .f32⟩
  | 1 => ⟨S2x2x8, .f32⟩
  | 2 => ⟨S2x2x8x1x1, .f32⟩
  | 3 => ⟨S2x2x8x64x128, .f32⟩
  | 4 => ⟨S2x2x8x64x128, .f32⟩
  | 5 => ⟨S2x2x8x64x128, .f32⟩
  | 6 => ⟨S1x2x2x8x64x128, .f32⟩
  | 7 => ⟨S2x2x8x64x128, .f32⟩
  | 8 => ⟨S1x2x2x8, .f32⟩
  | 9 => ⟨S2x2x8, .f32⟩
  | 10 => ⟨S2x2x8x1x1, .f32⟩
  | 11 => ⟨S2x2x8x64x128, .f32⟩
  | 12 => ⟨S2x2x8x64x128, .f32⟩
  | 13 => ⟨S2x2x8x64x128, .f32⟩
  | 14 => ⟨S1x2x2x8x64x128, .f32⟩
  | 15 => ⟨S2x2x8x64x128, .f32⟩
  | 16 => ⟨S1x2x2x8, .f32⟩
  | 17 => ⟨S2x2x8, .f32⟩
  | 18 => ⟨S2x2x8x1x1, .f32⟩
  | 19 => ⟨S2x2x8x64x128, .f32⟩
  | 20 => ⟨S2x2x8x64x128, .f32⟩
  | 21 => ⟨S2x2x8x64x128, .f32⟩
  | 22 => ⟨S1x2x2x8x64x128, .f32⟩
  | 23 => ⟨S2x2x8x64x128, .f32⟩
  | 24 => ⟨S1x2x2x8, .f32⟩
  | 25 => ⟨S2x2x8, .f32⟩
  | 26 => ⟨S2x2x8x1x1, .f32⟩
  | 27 => ⟨S2x2x8x64x128, .f32⟩
  | 28 => ⟨S2x2x8x64x128, .f32⟩
  | 29 => ⟨S2x2x8x64x128, .f32⟩
  | 30 => ⟨S1x2x2x8x64x128, .f32⟩
  | 31 => ⟨S2x2x8x64x128, .f32⟩
  | 32 => ⟨S1x2x2x8, .f32⟩
  | 33 => ⟨S2x2x8, .f32⟩
  | 34 => ⟨S2x2x8x1x1, .f32⟩
  | 35 => ⟨S2x2x8x64x128, .f32⟩
  | 36 => ⟨S2x2x8x64x128, .f32⟩
  | 37 => ⟨S2x2x8x64x128, .f32⟩
  | 38 => ⟨S1x2x2x8x64x128, .f32⟩
  | 39 => ⟨S2x2x8x64x128, .f32⟩
  | 40 => ⟨S1x2x2x8, .f32⟩
  | 41 => ⟨S2x2x8, .f32⟩
  | 42 => ⟨S2x2x8x1x1, .f32⟩
  | 43 => ⟨S2x2x8x64x128, .f32⟩
  | 44 => ⟨S2x2x8x64x128, .f32⟩
  | 45 => ⟨S2x2x8x64x128, .f32⟩
  | 46 => ⟨S1x2x2x8x64x128, .f32⟩
  | 47 => ⟨S2x2x8x64x128, .f32⟩
  | 48 => ⟨S1x2x2x8, .f32⟩
  | 49 => ⟨S2x2x8, .f32⟩
  | 50 => ⟨S2x2x8x1x1, .f32⟩
  | 51 => ⟨S2x2x8x64x128, .f32⟩
  | 52 => ⟨S2x2x8x64x128, .f32⟩
  | 53 => ⟨S2x2x8x64x128, .f32⟩
  | 54 => ⟨S1x2x2x8x64x128, .f32⟩
  | 55 => ⟨S2x2x8x64x128, .f32⟩
  | 56 => ⟨S1x2x2x8, .f32⟩
  | 57 => ⟨S2x2x8, .f32⟩
  | 58 => ⟨S2x2x8x1x1, .f32⟩
  | 59 => ⟨S2x2x8x64x128, .f32⟩
  | 60 => ⟨S2x2x8x64x128, .f32⟩
  | 61 => ⟨S2x2x8x64x128, .f32⟩
  | 62 => ⟨S1x2x2x8x64x128, .f32⟩
  | 63 => ⟨S2x2x8x64x128, .f32⟩
  | 64 => ⟨S1x2x2x8, .f32⟩
  | 65 => ⟨S2x2x8, .f32⟩
  | 66 => ⟨S2x2x8x1x1, .f32⟩
  | 67 => ⟨S2x2x8x64x128, .f32⟩
  | 68 => ⟨S2x2x8x64x128, .f32⟩
  | 69 => ⟨S2x2x8x64x128, .f32⟩
  | 70 => ⟨S1x2x2x8x64x128, .f32⟩
  | 71 => ⟨S2x2x8x64x128, .f32⟩
  | 72 => ⟨S1x2x2x8, .f32⟩
  | 73 => ⟨S2x2x8, .f32⟩
  | 74 => ⟨S2x2x8x1x1, .f32⟩
  | 75 => ⟨S2x2x8x64x128, .f32⟩
  | 76 => ⟨S2x2x8x64x128, .f32⟩
  | 77 => ⟨S2x2x8x64x128, .f32⟩
  | 78 => ⟨S1x2x2x8x64x128, .f32⟩
  | 79 => ⟨S2x2x8x64x128, .f32⟩
  | 80 => ⟨S1x2x2x8, .f32⟩
  | 81 => ⟨S2x2x8, .f32⟩
  | 82 => ⟨S2x2x8x1x1, .f32⟩
  | 83 => ⟨S2x2x8x64x128, .f32⟩
  | 84 => ⟨S2x2x8x64x128, .f32⟩
  | 85 => ⟨S2x2x8x64x128, .f32⟩
  | 86 => ⟨S1x2x2x8x64x128, .f32⟩
  | 87 => ⟨S2x2x8x64x128, .f32⟩
  | 88 => ⟨S1x2x2x8, .f32⟩
  | 89 => ⟨S2x2x8, .f32⟩
  | 90 => ⟨S2x2x8x1x1, .f32⟩
  | 91 => ⟨S2x2x8x64x128, .f32⟩
  | 92 => ⟨S2x2x8x64x128, .f32⟩
  | 93 => ⟨S2x2x8x64x128, .f32⟩
  | 94 => ⟨S1x2x2x8x64x128, .f32⟩
  | 95 => ⟨S2x2x8x64x128, .f32⟩
  | 96 => ⟨S1x2x2x8, .f32⟩
  | 97 => ⟨S2x2x8, .f32⟩
  | 98 => ⟨S2x2x8x1x1, .f32⟩
  | 99 => ⟨S2x2x8x64x128, .f32⟩
  | 100 => ⟨S2x2x8x64x128, .f32⟩
  | 101 => ⟨S2x2x8x64x128, .f32⟩
  | 102 => ⟨S1x2x2x8x64x128, .f32⟩
  | 103 => ⟨S2x2x8x64x128, .f32⟩
  | 104 => ⟨S1x2x2x8, .f32⟩
  | 105 => ⟨S2x2x8, .f32⟩
  | 106 => ⟨S2x2x8x1x1, .f32⟩
  | 107 => ⟨S2x2x8x64x128, .f32⟩
  | 108 => ⟨S2x2x8x64x128, .f32⟩
  | 109 => ⟨S2x2x8x64x128, .f32⟩
  | 110 => ⟨S1x2x2x8x64x128, .f32⟩
  | 111 => ⟨S2x2x8x64x128, .f32⟩
  | 112 => ⟨S1x2x2x8, .f32⟩
  | 113 => ⟨S2x2x8, .f32⟩
  | 114 => ⟨S2x2x8x1x1, .f32⟩
  | 115 => ⟨S2x2x8x64x128, .f32⟩
  | 116 => ⟨S2x2x8x64x128, .f32⟩
  | 117 => ⟨S2x2x8x64x128, .f32⟩
  | 118 => ⟨S1x2x2x8x64x128, .f32⟩
  | 119 => ⟨S1x2x2x8x64x128, .f32⟩
  | 120 => ⟨S1x2x2x8x64x128, .f32⟩
  | 121 => ⟨S1x2x2x8x64x128, .f32⟩
  | 122 => ⟨S1x2x2x8x64x128, .f32⟩
  | 123 => ⟨S1x2x2x8x64x128, .f32⟩
  | 124 => ⟨S1x2x2x8x64x128, .f32⟩
  | 125 => ⟨S1x2x2x8x64x128, .f32⟩
  | 126 => ⟨S1x2x2x8x64x128, .f32⟩
  | 127 => ⟨S1x2x2x8x64x128, .f32⟩
  | _ => ⟨S2x4096x6672, .f32⟩

abbrev hbmTy0_3 (i : Nat) : BufTy := match i % 128 with
  | 0 => ⟨S1x2x2x8x64x128, .f32⟩
  | 1 => ⟨S1x2x2x8x64x128, .f32⟩
  | 2 => ⟨S1x2x2x8x64x128, .f32⟩
  | 3 => ⟨S1x2x2x8x64x128, .f32⟩
  | 4 => ⟨S1x2x2x8x64x128, .f32⟩
  | 5 => ⟨S1x2x2x8x64x128, .f32⟩
  | 6 => ⟨S1x2x2x8x64x128, .f32⟩
  | 7 => ⟨S1x2x2x8x64x128, .f32⟩
  | 8 => ⟨S1x2x2x8x64x128, .f32⟩
  | 9 => ⟨S1x2x2x8x64x128, .f32⟩
  | 10 => ⟨S1x2x2x8x64x128, .f32⟩
  | 11 => ⟨S1x2x2x8x64x128, .f32⟩
  | 12 => ⟨S1x2x2x8x64x128, .f32⟩
  | 13 => ⟨S1x2x2x8x64x128, .f32⟩
  | 14 => ⟨S1x2x2x8x64x128, .f32⟩
  | 15 => ⟨S1x2x2x8x64x128, .f32⟩
  | 16 => ⟨S1x2x2x8x64x128, .f32⟩
  | 17 => ⟨S1x2x2x8x64x128, .f32⟩
  | 18 => ⟨S1x2x2x8x64x128, .f32⟩
  | 19 => ⟨S1x2x2x8x64x128, .f32⟩
  | 20 => ⟨S1x2x2x8x64x128, .f32⟩
  | 21 => ⟨S1x2x2x8x64x128, .f32⟩
  | 22 => ⟨S16x2x2x8x64x128, .f32⟩
  | 23 => ⟨S16x2x2x8x64x128, .f32⟩
  | 24 => ⟨S32x2x2x8x64x128, .f32⟩
  | 25 => ⟨S32x2x2x8x64x128, .f32⟩
  | 26 => ⟨S2x32x2x8x64x128, .f32⟩
  | 27 => ⟨S2x32x8x2x64x128, .f32⟩
  | 28 => ⟨S2x32x8x128x2x64, .f32⟩
  | 29 => ⟨S2x32x8x128x128, .f32⟩
  | 30 => ⟨S1x4x1024, .f32⟩
  | 31 => ⟨S4x1024, .f32⟩
  | 32 => ⟨S1x4x512, .f32⟩
  | 33 => ⟨S4x512, .f32⟩
  | 34 => ⟨S1x1024, .f32⟩
  | 35 => ⟨S1x512, .f32⟩
  | 36 => ⟨S_, .i32⟩
  | 37 => ⟨S_, .f32⟩
  | 38 => ⟨S1x128, .f32⟩
  | 39 => ⟨S_, .i32⟩
  | 40 => ⟨S_, .f32⟩
  | 41 => ⟨S1x128, .f32⟩
  | 42 => ⟨S_, .i32⟩
  | 43 => ⟨S_, .f32⟩
  | 44 => ⟨S1x128, .f32⟩
  | 45 => ⟨S2x4096x2048, .bf16⟩
  | 46 => ⟨S4x1024, .f32⟩
  | 47 => ⟨S4x512, .f32⟩
  | 48 => ⟨S1x1024, .f32⟩
  | 49 => ⟨S1x512, .f32⟩
  | 50 => ⟨S8x128, .f32⟩
  | _ => ⟨S2x4096x6672, .f32⟩

abbrev hbmTy (i : Nat) : BufTy := match i / 128 with
  | 0 => hbmTy0_0 i
  | 1 => hbmTy0_1 i
  | 2 => hbmTy0_2 i
  | 3 => hbmTy0_3 i
  | _ => ⟨S2x4096x6672, .f32⟩

abbrev bufTy : (tb : Table) → Fin (tcTables nBuf tb) → BufTy
  | .hbm, ⟨i, _⟩ => hbmTy i
  | .local _ .vmem, ⟨0, _⟩ => ⟨S1x128x1024, .f32⟩
  | .local _ .vmem, ⟨1, _⟩ => ⟨S1x128x1024, .f32⟩
  | .local _ .vmem, ⟨2, _⟩ => ⟨S1x128x512, .f32⟩
  | .local _ .vmem, ⟨3, _⟩ => ⟨S1x128x512, .f32⟩
  | .local _ .vmem, ⟨4, _⟩ => ⟨S1x8x1024, .f32⟩
  | .local _ .vmem, ⟨5, _⟩ => ⟨S1x8x1024, .f32⟩
  | .local _ .vmem, ⟨6, _⟩ => ⟨S1x8x512, .f32⟩
  | .local _ .vmem, ⟨7, _⟩ => ⟨S1x8x512, .f32⟩
  | .local _ .vmem, ⟨8, _⟩ => ⟨S1x128x128, .f32⟩
  | .local _ .vmem, ⟨9, _⟩ => ⟨S1x128x128, .f32⟩
  | .local _ .vmem, ⟨10, _⟩ => ⟨S4x1024, .f32⟩
  | .local _ .vmem, ⟨11, _⟩ => ⟨S4x512, .f32⟩
  | .local _ .vmem, ⟨12, _⟩ => ⟨S1x1024, .f32⟩
  | .local _ .vmem, ⟨13, _⟩ => ⟨S1x512, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x1x8x128x128, .f32⟩
  | .local _ .vmem, ⟨18, _⟩ => ⟨S1x1x8x128x128, .f32⟩
  | .local _ .vmem, ⟨19, _⟩ => ⟨S1x128x1024, .f32⟩
  | .local _ .vmem, ⟨20, _⟩ => ⟨S1x128x1024, .f32⟩
  | .local _ .vmem, ⟨21, _⟩ => ⟨S1x128x2048, .bf16⟩
  | .local _ .vmem, ⟨22, _⟩ => ⟨S1x128x2048, .bf16⟩
  | .local _ .vmem, ⟨23, _⟩ => ⟨S4x1024, .f32⟩
  | .local _ .vmem, ⟨24, _⟩ => ⟨S4x512, .f32⟩
  | .local _ .vmem, ⟨25, _⟩ => ⟨S1x1024, .f32⟩
  | .local _ .vmem, ⟨26, _⟩ => ⟨S1x512, .f32⟩
  | .local _ .vmem, ⟨27, _⟩ => ⟨S8x128, .f32⟩
  | .local _ .vmem, ⟨28, _⟩ => ⟨S8x128x128, .f32⟩
  | .local _ .vmem, ⟨29, _⟩ => ⟨S136x1024, .f32⟩
  | .local _ .vmem, ⟨30, _⟩ => ⟨S136x512, .f32⟩
  | .local _ .vmem, ⟨31, _⟩ => ⟨S128x128, .f32⟩
  | .local _ .vmem, ⟨32, _⟩ => ⟨S128x128, .f32⟩
  | .local _ .vmem, ⟨33, _⟩ => ⟨S128x1024, .f32⟩
  | .local _ .vmem, ⟨34, _⟩ => ⟨S128x512, .f32⟩
  | .local _ .vmem, ⟨35, _⟩ => ⟨S136x1024, .f32⟩
  | .local _ .vmem, ⟨36, _⟩ => ⟨S136x512, .f32⟩
  | .local _ .vmem, ⟨37, _⟩ => ⟨S8x1024, .f32⟩
  | .local _ .vmem, ⟨38, _⟩ => ⟨S8x512, .f32⟩
  | .local _ .vmem, ⟨39, _⟩ => ⟨S128x1024, .f32⟩
  | .local _ .vmem, ⟨40, _⟩ => ⟨S128x1024, .f32⟩
  | .local _ .vmem, ⟨41, _⟩ => ⟨S128x1024, .f32⟩
  | .local _ .vmem, ⟨42, _⟩ => ⟨S128x512, .f32⟩
  | .local _ .vmem, ⟨43, _⟩ => ⟨S128x512, .f32⟩
  | .local _ .vmem, ⟨44, _⟩ => ⟨S128x512, .f32⟩
  | _, _ => ⟨S2x4096x6672, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_call2_cst : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_call3_call0_cst : Ref sig .tc := ⟨.hbm, 93, rfl⟩
abbrev main_call3_call0_v0 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_0 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_1 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_v192 : Ref sig .tc := ⟨.hbm, 227, rfl⟩
abbrev main_v193 : Ref sig .tc := ⟨.hbm, 228, rfl⟩
abbrev main_v194 : Ref sig .tc := ⟨.hbm, 229, rfl⟩
abbrev main_v195 : Ref sig .tc := ⟨.hbm, 230, rfl⟩
abbrev main_v196 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_v201 : Ref sig .tc := ⟨.hbm, 236, rfl⟩
abbrev main_v202 : Ref sig .tc := ⟨.hbm, 237, rfl⟩
abbrev main_v203 : Ref sig .tc := ⟨.hbm, 238, rfl⟩
abbrev main_v204 : Ref sig .tc := ⟨.hbm, 239, rfl⟩
abbrev main_v205 : Ref sig .tc := ⟨.hbm, 240, rfl⟩
abbrev main_v206 : Ref sig .tc := ⟨.hbm, 241, rfl⟩
abbrev main_v207 : Ref sig .tc := ⟨.hbm, 242, rfl⟩
abbrev main_v208 : Ref sig .tc := ⟨.hbm, 243, rfl⟩
abbrev main_v209 : Ref sig .tc := ⟨.hbm, 244, rfl⟩
abbrev main_v210 : Ref sig .tc := ⟨.hbm, 245, rfl⟩
abbrev main_v211 : Ref sig .tc := ⟨.hbm, 246, rfl⟩
abbrev main_v212 : Ref sig .tc := ⟨.hbm, 247, rfl⟩
abbrev main_v213 : Ref sig .tc := ⟨.hbm, 248, rfl⟩
abbrev main_v214 : Ref sig .tc := ⟨.hbm, 249, rfl⟩
abbrev main_v215 : Ref sig .tc := ⟨.hbm, 250, rfl⟩
abbrev main_v216 : Ref sig .tc := ⟨.hbm, 251, rfl⟩
abbrev main_v217 : Ref sig .tc := ⟨.hbm, 252, rfl⟩
abbrev main_v218 : Ref sig .tc := ⟨.hbm, 253, rfl⟩
abbrev main_v219 : Ref sig .tc := ⟨.hbm, 254, rfl⟩
abbrev main_v220 : Ref sig .tc := ⟨.hbm, 255, rfl⟩
abbrev main_v221 : Ref sig .tc := ⟨.hbm, 256, rfl⟩
abbrev main_v222 : Ref sig .tc := ⟨.hbm, 257, rfl⟩
abbrev main_v223 : Ref sig .tc := ⟨.hbm, 258, rfl⟩
abbrev main_v224 : Ref sig .tc := ⟨.hbm, 259, rfl⟩
abbrev main_v225 : Ref sig .tc := ⟨.hbm, 260, rfl⟩
abbrev main_v226 : Ref sig .tc := ⟨.hbm, 261, rfl⟩
abbrev main_v227 : Ref sig .tc := ⟨.hbm, 262, rfl⟩
abbrev main_v228 : Ref sig .tc := ⟨.hbm, 263, rfl⟩
abbrev main_v229 : Ref sig .tc := ⟨.hbm, 264, rfl⟩
abbrev main_v230 : Ref sig .tc := ⟨.hbm, 265, rfl⟩
abbrev main_v231 : Ref sig .tc := ⟨.hbm, 266, rfl⟩
abbrev main_v232 : Ref sig .tc := ⟨.hbm, 267, rfl⟩
abbrev main_v233 : Ref sig .tc := ⟨.hbm, 268, rfl⟩
abbrev main_v234 : Ref sig .tc := ⟨.hbm, 269, rfl⟩
abbrev main_v235 : Ref sig .tc := ⟨.hbm, 270, rfl⟩
abbrev main_v236 : Ref sig .tc := ⟨.hbm, 271, rfl⟩
abbrev main_v237 : Ref sig .tc := ⟨.hbm, 272, rfl⟩
abbrev main_v238 : Ref sig .tc := ⟨.hbm, 273, rfl⟩
abbrev main_v239 : Ref sig .tc := ⟨.hbm, 274, rfl⟩
abbrev main_v240 : Ref sig .tc := ⟨.hbm, 275, rfl⟩
abbrev main_v241 : Ref sig .tc := ⟨.hbm, 276, rfl⟩
abbrev main_v242 : Ref sig .tc := ⟨.hbm, 277, rfl⟩
abbrev main_v243 : Ref sig .tc := ⟨.hbm, 278, rfl⟩
abbrev main_v244 : Ref sig .tc := ⟨.hbm, 279, rfl⟩
abbrev main_v245 : Ref sig .tc := ⟨.hbm, 280, rfl⟩
abbrev main_v246 : Ref sig .tc := ⟨.hbm, 281, rfl⟩
abbrev main_v247 : Ref sig .tc := ⟨.hbm, 282, rfl⟩
abbrev main_v248 : Ref sig .tc := ⟨.hbm, 283, rfl⟩
abbrev main_v249 : Ref sig .tc := ⟨.hbm, 284, rfl⟩
abbrev main_v250 : Ref sig .tc := ⟨.hbm, 285, rfl⟩
abbrev main_v251 : Ref sig .tc := ⟨.hbm, 286, rfl⟩
abbrev main_v252 : Ref sig .tc := ⟨.hbm, 287, rfl⟩
abbrev main_v253 : Ref sig .tc := ⟨.hbm, 288, rfl⟩
abbrev main_v254 : Ref sig .tc := ⟨.hbm, 289, rfl⟩
abbrev main_v255 : Ref sig .tc := ⟨.hbm, 290, rfl⟩
abbrev main_v256 : Ref sig .tc := ⟨.hbm, 291, rfl⟩
abbrev main_v257 : Ref sig .tc := ⟨.hbm, 292, rfl⟩
abbrev main_v258 : Ref sig .tc := ⟨.hbm, 293, rfl⟩
abbrev main_v259 : Ref sig .tc := ⟨.hbm, 294, rfl⟩
abbrev main_v260 : Ref sig .tc := ⟨.hbm, 295, rfl⟩
abbrev main_v261 : Ref sig .tc := ⟨.hbm, 296, rfl⟩
abbrev main_v262 : Ref sig .tc := ⟨.hbm, 297, rfl⟩
abbrev main_v263 : Ref sig .tc := ⟨.hbm, 298, rfl⟩
abbrev main_v264 : Ref sig .tc := ⟨.hbm, 299, rfl⟩
abbrev main_v265 : Ref sig .tc := ⟨.hbm, 300, rfl⟩
abbrev main_v266 : Ref sig .tc := ⟨.hbm, 301, rfl⟩
abbrev main_v267 : Ref sig .tc := ⟨.hbm, 302, rfl⟩
abbrev main_v268 : Ref sig .tc := ⟨.hbm, 303, rfl⟩
abbrev main_v269 : Ref sig .tc := ⟨.hbm, 304, rfl⟩
abbrev main_v270 : Ref sig .tc := ⟨.hbm, 305, rfl⟩
abbrev main_v271 : Ref sig .tc := ⟨.hbm, 306, rfl⟩
abbrev main_v272 : Ref sig .tc := ⟨.hbm, 307, rfl⟩
abbrev main_v273 : Ref sig .tc := ⟨.hbm, 308, rfl⟩
abbrev main_v274 : Ref sig .tc := ⟨.hbm, 309, rfl⟩
abbrev main_v275 : Ref sig .tc := ⟨.hbm, 310, rfl⟩
abbrev main_v276 : Ref sig .tc := ⟨.hbm, 311, rfl⟩
abbrev main_v277 : Ref sig .tc := ⟨.hbm, 312, rfl⟩
abbrev main_v278 : Ref sig .tc := ⟨.hbm, 313, rfl⟩
abbrev main_v279 : Ref sig .tc := ⟨.hbm, 314, rfl⟩
abbrev main_v280 : Ref sig .tc := ⟨.hbm, 315, rfl⟩
abbrev main_v281 : Ref sig .tc := ⟨.hbm, 316, rfl⟩
abbrev main_v282 : Ref sig .tc := ⟨.hbm, 317, rfl⟩
abbrev main_v283 : Ref sig .tc := ⟨.hbm, 318, rfl⟩
abbrev main_v284 : Ref sig .tc := ⟨.hbm, 319, rfl⟩
abbrev main_v285 : Ref sig .tc := ⟨.hbm, 320, rfl⟩
abbrev main_v286 : Ref sig .tc := ⟨.hbm, 321, rfl⟩
abbrev main_v287 : Ref sig .tc := ⟨.hbm, 322, rfl⟩
abbrev main_v288 : Ref sig .tc := ⟨.hbm, 323, rfl⟩
abbrev main_v289 : Ref sig .tc := ⟨.hbm, 324, rfl⟩
abbrev main_v290 : Ref sig .tc := ⟨.hbm, 325, rfl⟩
abbrev main_v291 : Ref sig .tc := ⟨.hbm, 326, rfl⟩
abbrev main_v292 : Ref sig .tc := ⟨.hbm, 327, rfl⟩
abbrev main_v293 : Ref sig .tc := ⟨.hbm, 328, rfl⟩
abbrev main_v294 : Ref sig .tc := ⟨.hbm, 329, rfl⟩
abbrev main_v295 : Ref sig .tc := ⟨.hbm, 330, rfl⟩
abbrev main_v296 : Ref sig .tc := ⟨.hbm, 331, rfl⟩
abbrev main_v297 : Ref sig .tc := ⟨.hbm, 332, rfl⟩
abbrev main_v298 : Ref sig .tc := ⟨.hbm, 333, rfl⟩
abbrev main_v299 : Ref sig .tc := ⟨.hbm, 334, rfl⟩
abbrev main_v300 : Ref sig .tc := ⟨.hbm, 335, rfl⟩
abbrev main_v301 : Ref sig .tc := ⟨.hbm, 336, rfl⟩
abbrev main_v302 : Ref sig .tc := ⟨.hbm, 337, rfl⟩
abbrev main_v303 : Ref sig .tc := ⟨.hbm, 338, rfl⟩
abbrev main_v304 : Ref sig .tc := ⟨.hbm, 339, rfl⟩
abbrev main_v305 : Ref sig .tc := ⟨.hbm, 340, rfl⟩
abbrev main_v306 : Ref sig .tc := ⟨.hbm, 341, rfl⟩
abbrev main_v307 : Ref sig .tc := ⟨.hbm, 342, rfl⟩
abbrev main_v308 : Ref sig .tc := ⟨.hbm, 343, rfl⟩
abbrev main_v309 : Ref sig .tc := ⟨.hbm, 344, rfl⟩
abbrev main_v310 : Ref sig .tc := ⟨.hbm, 345, rfl⟩
abbrev main_v311 : Ref sig .tc := ⟨.hbm, 346, rfl⟩
abbrev main_v312 : Ref sig .tc := ⟨.hbm, 347, rfl⟩
abbrev main_v313 : Ref sig .tc := ⟨.hbm, 348, rfl⟩
abbrev main_v314 : Ref sig .tc := ⟨.hbm, 349, rfl⟩
abbrev main_v315 : Ref sig .tc := ⟨.hbm, 350, rfl⟩
abbrev main_v316 : Ref sig .tc := ⟨.hbm, 351, rfl⟩
abbrev main_v317 : Ref sig .tc := ⟨.hbm, 352, rfl⟩
abbrev main_v318 : Ref sig .tc := ⟨.hbm, 353, rfl⟩
abbrev main_v319 : Ref sig .tc := ⟨.hbm, 354, rfl⟩
abbrev main_v320 : Ref sig .tc := ⟨.hbm, 355, rfl⟩
abbrev main_v321 : Ref sig .tc := ⟨.hbm, 356, rfl⟩
abbrev main_v322 : Ref sig .tc := ⟨.hbm, 357, rfl⟩
abbrev main_v323 : Ref sig .tc := ⟨.hbm, 358, rfl⟩
abbrev main_v324 : Ref sig .tc := ⟨.hbm, 359, rfl⟩
abbrev main_v325 : Ref sig .tc := ⟨.hbm, 360, rfl⟩
abbrev main_v326 : Ref sig .tc := ⟨.hbm, 361, rfl⟩
abbrev main_v327 : Ref sig .tc := ⟨.hbm, 362, rfl⟩
abbrev main_v328 : Ref sig .tc := ⟨.hbm, 363, rfl⟩
abbrev main_v329 : Ref sig .tc := ⟨.hbm, 364, rfl⟩
abbrev main_v330 : Ref sig .tc := ⟨.hbm, 365, rfl⟩
abbrev main_v331 : Ref sig .tc := ⟨.hbm, 366, rfl⟩
abbrev main_v332 : Ref sig .tc := ⟨.hbm, 367, rfl⟩
abbrev main_v333 : Ref sig .tc := ⟨.hbm, 368, rfl⟩
abbrev main_v334 : Ref sig .tc := ⟨.hbm, 369, rfl⟩
abbrev main_v335 : Ref sig .tc := ⟨.hbm, 370, rfl⟩
abbrev main_v336 : Ref sig .tc := ⟨.hbm, 371, rfl⟩
abbrev main_v337 : Ref sig .tc := ⟨.hbm, 372, rfl⟩
abbrev main_v338 : Ref sig .tc := ⟨.hbm, 373, rfl⟩
abbrev main_v339 : Ref sig .tc := ⟨.hbm, 374, rfl⟩
abbrev main_v340 : Ref sig .tc := ⟨.hbm, 375, rfl⟩
abbrev main_v341 : Ref sig .tc := ⟨.hbm, 376, rfl⟩
abbrev main_v342 : Ref sig .tc := ⟨.hbm, 377, rfl⟩
abbrev main_v343 : Ref sig .tc := ⟨.hbm, 378, rfl⟩
abbrev main_v344 : Ref sig .tc := ⟨.hbm, 379, rfl⟩
abbrev main_v345 : Ref sig .tc := ⟨.hbm, 380, rfl⟩
abbrev main_v346 : Ref sig .tc := ⟨.hbm, 381, rfl⟩
abbrev main_v347 : Ref sig .tc := ⟨.hbm, 382, rfl⟩
abbrev main_v348 : Ref sig .tc := ⟨.hbm, 383, rfl⟩
abbrev main_v349 : Ref sig .tc := ⟨.hbm, 384, rfl⟩
abbrev main_v350 : Ref sig .tc := ⟨.hbm, 385, rfl⟩
abbrev main_v351 : Ref sig .tc := ⟨.hbm, 386, rfl⟩
abbrev main_v352 : Ref sig .tc := ⟨.hbm, 387, rfl⟩
abbrev main_v353 : Ref sig .tc := ⟨.hbm, 388, rfl⟩
abbrev main_v354 : Ref sig .tc := ⟨.hbm, 389, rfl⟩
abbrev main_v355 : Ref sig .tc := ⟨.hbm, 390, rfl⟩
abbrev main_v356 : Ref sig .tc := ⟨.hbm, 391, rfl⟩
abbrev main_v357 : Ref sig .tc := ⟨.hbm, 392, rfl⟩
abbrev main_v358 : Ref sig .tc := ⟨.hbm, 393, rfl⟩
abbrev main_v359 : Ref sig .tc := ⟨.hbm, 394, rfl⟩
abbrev main_v360 : Ref sig .tc := ⟨.hbm, 395, rfl⟩
abbrev main_v361 : Ref sig .tc := ⟨.hbm, 396, rfl⟩
abbrev main_v362 : Ref sig .tc := ⟨.hbm, 397, rfl⟩
abbrev main_v363 : Ref sig .tc := ⟨.hbm, 398, rfl⟩
abbrev main_v364 : Ref sig .tc := ⟨.hbm, 399, rfl⟩
abbrev main_v365 : Ref sig .tc := ⟨.hbm, 400, rfl⟩
abbrev main_v366 : Ref sig .tc := ⟨.hbm, 401, rfl⟩
abbrev main_v367 : Ref sig .tc := ⟨.hbm, 402, rfl⟩
abbrev main_v368 : Ref sig .tc := ⟨.hbm, 403, rfl⟩
abbrev main_v369 : Ref sig .tc := ⟨.hbm, 404, rfl⟩
abbrev main_v370 : Ref sig .tc := ⟨.hbm, 405, rfl⟩
abbrev main_v371 : Ref sig .tc := ⟨.hbm, 406, rfl⟩
abbrev main_v372 : Ref sig .tc := ⟨.hbm, 407, rfl⟩
abbrev main_v373 : Ref sig .tc := ⟨.hbm, 408, rfl⟩
abbrev main_v374 : Ref sig .tc := ⟨.hbm, 409, rfl⟩
abbrev main_v375 : Ref sig .tc := ⟨.hbm, 410, rfl⟩
abbrev main_v376 : Ref sig .tc := ⟨.hbm, 411, rfl⟩
abbrev main_v377 : Ref sig .tc := ⟨.hbm, 412, rfl⟩
abbrev main_v378 : Ref sig .tc := ⟨.hbm, 413, rfl⟩
abbrev main_v379 : Ref sig .tc := ⟨.hbm, 414, rfl⟩
abbrev main_v380 : Ref sig .tc := ⟨.hbm, 415, rfl⟩
abbrev main_v381 : Ref sig .tc := ⟨.hbm, 416, rfl⟩
abbrev main_v382 : Ref sig .tc := ⟨.hbm, 417, rfl⟩
abbrev main_v383 : Ref sig .tc := ⟨.hbm, 418, rfl⟩
abbrev main_v384 : Ref sig .tc := ⟨.hbm, 419, rfl⟩
abbrev main_c_2 : Ref sig .tc := ⟨.hbm, 420, rfl⟩
abbrev main_call4_v0 : Ref sig .tc := ⟨.hbm, 421, rfl⟩
abbrev main_v385 : Ref sig .tc := ⟨.hbm, 422, rfl⟩
abbrev main_c_3 : Ref sig .tc := ⟨.hbm, 423, rfl⟩
abbrev main_call5_v0 : Ref sig .tc := ⟨.hbm, 424, rfl⟩
abbrev main_v386 : Ref sig .tc := ⟨.hbm, 425, rfl⟩
abbrev main_c_4 : Ref sig .tc := ⟨.hbm, 426, rfl⟩
abbrev main_call6_v0 : Ref sig .tc := ⟨.hbm, 427, rfl⟩
abbrev main_v387 : Ref sig .tc := ⟨.hbm, 428, rfl⟩
abbrev main_v388_0 : Ref sig .tc := ⟨.hbm, 429, rfl⟩
abbrev main_v388_1 : Ref sig .tc := ⟨.hbm, 430, rfl⟩
abbrev main_v388_2 : Ref sig .tc := ⟨.hbm, 431, rfl⟩
abbrev main_v388_3 : Ref sig .tc := ⟨.hbm, 432, rfl⟩
abbrev main_v388_4 : Ref sig .tc := ⟨.hbm, 433, rfl⟩
abbrev main_v388_5 : Ref sig .tc := ⟨.hbm, 434, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_scratch6 : Ref sig .tc := ⟨.vmem, 34, rfl⟩
abbrev cc0_scratch7 : Ref sig .tc := ⟨.vmem, 35, rfl⟩
abbrev cc0_scratch8 : Ref sig .tc := ⟨.vmem, 36, rfl⟩
abbrev cc0_scratch9 : Ref sig .tc := ⟨.vmem, 37, rfl⟩
abbrev cc0_scratch10 : Ref sig .tc := ⟨.vmem, 38, rfl⟩
abbrev cc0_scratch11 : Ref sig .tc := ⟨.vmem, 39, rfl⟩
abbrev cc0_scratch12 : Ref sig .tc := ⟨.vmem, 40, rfl⟩
abbrev cc0_scratch13 : Ref sig .tc := ⟨.vmem, 41, rfl⟩
abbrev cc0_scratch14 : Ref sig .tc := ⟨.vmem, 42, rfl⟩
abbrev cc0_scratch15 : Ref sig .tc := ⟨.vmem, 43, rfl⟩
abbrev cc0_scratch16 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c5_i32 : BitVec 32 := 5#32
  let c0_i32 : BitVec 32 := 0#32
  ![arg0.toNat, v0.toNat, c5_i32.toNat]

def cc0_transform_1 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c12_i32 : BitVec 32 := 12#32
  let c0_i32 : BitVec 32 := 0#32
  ![arg0.toNat, v0.toNat, c12_i32.toNat]

def cc0_transform_2 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c5_i32 : BitVec 32 := 5#32
  let c0_i32_0 : BitVec 32 := 0#32
  ![arg0.toNat, v3.toNat, c5_i32.toNat]

def cc0_transform_3 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c12_i32 : BitVec 32 := 12#32
  let c0_i32_0 : BitVec 32 := 0#32
  ![arg0.toNat, v3.toNat, c12_i32.toNat]

def cc0_transform_4 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c52_i32 : BitVec 32 := 52#32
  let c0_i32 : BitVec 32 := 0#32
  ![arg0.toNat, v0.toNat, c52_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 5 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_14 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1x8x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x128x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S4x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S4x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S8x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]
-- ==== Kernel5.lean ====
abbrev S2x4096x1024 : Shape := ⟨3, ![2, 4096, 1024]⟩
abbrev S1x1024 : Shape := ⟨2, ![1, 1024]⟩
abbrev S8192x1024 : Shape := ⟨2, ![8192, 1024]⟩
abbrev S1024x8192 : Shape := ⟨2, ![1024, 8192]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 7
  | .smem => 0
  | _ => 0

abbrev bufTy : (tb : Table) → Fin (tcTables nBuf tb) → BufTy
  | .hbm, ⟨0, _⟩ => ⟨S2x4096x1024, .f32⟩
  | .hbm, ⟨1, _⟩ => ⟨S1x1024, .f32⟩
  | .hbm, ⟨2, _⟩ => ⟨S8192x1024, .f32⟩
  | .hbm, ⟨3, _⟩ => ⟨S8192x1024, .bf16⟩
  | .hbm, ⟨4, _⟩ => ⟨S1024x8192, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S2x4096x1024 : Shape := ⟨3, ![2, 4096, 1024]⟩
abbrev S1x1024 : Shape := ⟨2, ![1, 1024]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S8192x1024 : Shape := ⟨2, ![8192, 1024]⟩
abbrev S1024x8192 : Shape := ⟨2, ![1024, 8192]⟩

abbrev nBuf : Space → Nat
  | .hbm => 23
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1x1024, .f32⟩
  | .hbm, ⟨2, _⟩ => ⟨S1024, .f32⟩
  | .hbm, ⟨3, _⟩ => ⟨S2x4096x1024, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S2x4096x1, .f32⟩
  | .hbm, ⟨14, _⟩ => ⟨S2x4096x1024, .f32⟩
  | .hbm, ⟨15, _⟩ => ⟨S2x4096x1024, .f32⟩
  | .hbm, ⟨16, _⟩ => ⟨S1x1x1024, .f32⟩
  | .hbm, ⟨17, _⟩ => ⟨S2x4096x1024, .f32⟩
  | .hbm, ⟨18, _⟩ => ⟨S2x4096x1024, .f32⟩
  | .hbm, ⟨19, _⟩ => ⟨S8192x1024, .f32⟩
  | .hbm, ⟨20, _⟩ => ⟨S8192x1024, .bf16⟩
  | .hbm, ⟨21, _⟩ => ⟨S1024x8192, .f32⟩
  | .hbm, ⟨22, _⟩ => ⟨S1024x8192, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== Kernel6.lean ====
abbrev S2x4096x6672 : Shape := ⟨3, ![2, 4096, 6672]⟩
abbrev S1x4x1536 : Shape := ⟨3, ![1, 4, 1536]⟩
abbrev S1x1536 : Shape := ⟨2, ![1, 1536]⟩
abbrev S1x16 : Shape := ⟨2, ![1, 16]⟩
abbrev S_ : Shape := ⟨0, ![]⟩
abbrev S2x4096x7168 : Shape := ⟨3, ![2, 4096, 7168]⟩
abbrev S1x4x1024 : Shape := ⟨3, ![1, 4, 1024]⟩
abbrev S4x1024 : Shape := ⟨2, ![4, 1024]⟩
abbrev S1x4x512 : Shape := ⟨3, ![1, 4, 512]⟩
abbrev S4x512 : Shape := ⟨2, ![4, 512]⟩
abbrev S1x1024 : Shape := ⟨2, ![1, 1024]⟩
abbrev S1x512 : Shape := ⟨2, ![1, 512]⟩
abbrev S1x128 : Shape := ⟨2, ![1, 128]⟩
abbrev S2x4096x1024 : Shape := ⟨3, ![2, 4096, 1024]⟩
abbrev S2x32x8x128x128 : Shape := ⟨5, ![2, 32, 8, 128, 128]⟩
abbrev S1x128x1024 : Shape := ⟨3, ![1, 128, 1024]⟩
abbrev S1x128x512 : Shape := ⟨3, ![1, 128, 512]⟩
abbrev S1x8x1024 : Shape := ⟨3, ![1, 8, 1024]⟩
abbrev S1x8x512 : Shape := ⟨3, ![1, 8, 512]⟩
abbrev S1x128x128 : Shape := ⟨3, ![1, 128, 128]⟩
abbrev S1x1x8x128x128 : Shape := ⟨5, ![1, 1, 8, 128, 128]⟩
abbrev S8x128x128 : Shape := ⟨3, ![8, 128, 128]⟩
abbrev S136x1024 : Shape := ⟨2, ![136, 1024]⟩
abbrev S136x512 : Shape := ⟨2, ![136, 512]⟩
abbrev S128x128 : Shape := ⟨2, ![128, 128]⟩
abbrev S8x1024 : Shape := ⟨2, ![8, 1024]⟩
abbrev S128x1024 : Shape := ⟨2, ![128, 1024]⟩
abbrev S8x512 : Shape := ⟨2, ![8, 512]⟩
abbrev S128x512 : Shape := ⟨2, ![128, 512]⟩
abbrev S128 : Shape := ⟨1, ![128]⟩
abbrev S128x1 : Shape := ⟨2, ![128, 1]⟩
abbrev S1 : Shape := ⟨1, ![1]⟩
abbrev S1x1 : Shape := ⟨2, ![1, 1]⟩
abbrev S1x1x1x128x128 : Shape := ⟨5, ![1, 1, 1, 128, 128]⟩

abbrev nBuf : Space → Nat
  | .hbm => 26
  | .vmem => 26
  | .smem => 0
  | _ => 0

abbrev bufTy : (tb : Table) → Fin (tcTables nBuf tb) → BufTy
  | .hbm, ⟨0, _⟩ => ⟨S2x4096x6672, .f32⟩
  | .hbm, ⟨1, _⟩ => ⟨S1x4x1536, .f32⟩
  | .hbm, ⟨2, _⟩ => ⟨S1x1536, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S_, .i32⟩
  | .hbm, ⟨7, _⟩ => ⟨S_, .f32⟩
  | .hbm, ⟨8, _⟩ => ⟨S2x4096x7168, .f32⟩
  | .hbm, ⟨9, _⟩ => ⟨S1x4x1024, .f32⟩
  | .hbm, ⟨10, _⟩ => ⟨S4x1024, .f32⟩
  | .hbm, ⟨11, _⟩ => ⟨S1x4x512, .f32⟩
  | .hbm, ⟨12, _⟩ => ⟨S4x512, .f32⟩
  | .hbm, ⟨13, _⟩ => ⟨S1x1024, .f32⟩
  | .hbm, ⟨14, _⟩ => ⟨S1x512, .f32⟩
  | .hbm, ⟨15, _⟩ => ⟨S_, .i32⟩
  | .hbm, ⟨16, _⟩ => ⟨S_, .f32⟩
  | .hbm, ⟨17, _⟩ => ⟨S1x128, .f32⟩
  | .hbm, ⟨18, _⟩ => ⟨S_, .i32⟩
  | .hbm, ⟨19, _⟩ => ⟨S_, .f32⟩
  | .hbm, ⟨20, _⟩ => ⟨S1x128, .f32⟩
  | .hbm, ⟨21, _⟩ => ⟨S_, .i32⟩
  | .hbm, ⟨22, _⟩ => ⟨S_, .f32⟩
  | .hbm, ⟨23, _⟩ => ⟨S1x128, .f32⟩
  | .hbm, ⟨24, _⟩ => ⟨S2x4096x1024, .f32⟩
  | .hbm, ⟨25, _⟩ => ⟨S2x32x8x128x128, .f32⟩
  | .local _ .vmem, ⟨0, _⟩ => ⟨S1x128x1024, .f32⟩
  | .local _ .vmem, ⟨1, _⟩ => ⟨S1x128x1024, .f32⟩
  | .local _ .vmem, ⟨2, _⟩ => ⟨S1x128x512, .f32⟩
  | .local _ .vmem, ⟨3, _⟩ => ⟨S1x128x512, .f32⟩
  | .local _ .vmem, ⟨4, _⟩ => ⟨S1x8x1024, .f32⟩
  | .local _ .vmem, ⟨5, _⟩ => ⟨S1x8x1024, .f32⟩
  | .local _ .vmem, ⟨6, _⟩ => ⟨S1x8x512, .f32⟩
  | .local _ .vmem, ⟨7, _⟩ => ⟨S1x8x512, .f32⟩
  | .local _ .vmem, ⟨8, _⟩ => ⟨S1x128x128, .f32⟩
  | .local _ .vmem, ⟨9, _⟩ => ⟨S1x128x128, .f32⟩
  | .local _ .vmem, ⟨10, _⟩ => ⟨S4x1024, .f32⟩
  | .local _ .vmem, ⟨11, _⟩ => ⟨S4x512, .f32⟩
  | .local _ .vmem, ⟨12, _⟩ => ⟨S1x1024, .f32⟩
  | .local _ .vmem, ⟨13, _⟩ => ⟨S1x512, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128x1024, .f32⟩
  | .local _ .vmem, ⟨18, _⟩ => ⟨S1x128x1024, .f32⟩
  | .local _ .vmem, ⟨19, _⟩ => ⟨S1x1x8x128x128, .f32⟩
  | .local _ .vmem, ⟨20, _⟩ => ⟨S1x1x8x128x128, .f32⟩
  | .local _ .vmem, ⟨21, _⟩ => ⟨S8x128x128, .f32⟩
  | .local _ .vmem, ⟨22, _⟩ => ⟨S136x1024, .f32⟩
  | .local _ .vmem, ⟨23, _⟩ => ⟨S136x512, .f32⟩
  | .local _ .vmem, ⟨24, _⟩ => ⟨S128x128, .f32⟩
  | .local _ .vmem, ⟨25, _⟩ => ⟨S128x128, .f32⟩
  | _, _ => ⟨S2x4096x6672, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_call1_v0 : Ref sig .tc := ⟨.hbm, 16, rfl⟩
abbrev main_v7 : Ref sig .tc := ⟨.hbm, 17, rfl⟩
abbrev main_c_1 : Ref sig .tc := ⟨.hbm, 18, rfl⟩
abbrev main_call2_v0 : Ref sig .tc := ⟨.hbm, 19, rfl⟩
abbrev main_v8 : Ref sig .tc := ⟨.hbm, 20, rfl⟩
abbrev main_c_2 : Ref sig .tc := ⟨.hbm, 21, rfl⟩
abbrev main_call3_v0 : Ref sig .tc := ⟨.hbm, 22, rfl⟩
abbrev main_v9 : Ref sig .tc := ⟨.hbm, 23, rfl⟩
abbrev main_v10_0 : Ref sig .tc := ⟨.hbm, 24, rfl⟩
abbrev main_v10_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_1 (i : grid0.Coords) : Fin 3 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, arg1.toNat, c12_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![arg0.toNat, v2.toNat, c5_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c12_i32 : BitVec 32 := 12#32
  let c0_i32_0 : BitVec 32 := 0#32
  ![arg0.toNat, v2.toNat, c12_i32.toNat]

def cc0_transform_4 (i : grid0.Coords) : Fin 3 → Nat :=
  let arg0 : BitVec 32 := BitVec.ofNat 32 (i 0).val
  let arg1 : BitVec 32 := BitVec.ofNat 32 (i 1).val
  let c52_i32 : BitVec 32 := 52#32
  let c0_i32 : BitVec 32 := 0#32
  ![arg0.toNat, arg1.toNat, c52_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x8x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference6Ideal.lean ====
abbrev S2x4096x6672 : Shape := ⟨3, ![2, 4096, 6672]⟩
abbrev S1x4x1536 : Shape := ⟨3, ![1, 4, 1536]⟩
abbrev S1x1536 : Shape := ⟨2, ![1, 1536]⟩
abbrev S1x16 : Shape := ⟨2, ![1, 16]⟩
abbrev S2x4096x1536 : Shape := ⟨3, ![2, 4096, 1536]⟩
abbrev S2x4096x16 : Shape := ⟨3, ![2, 4096, 16]⟩
abbrev S4x1536 : Shape := ⟨2, ![4, 1536]⟩
abbrev S1536 : Shape := ⟨1, ![1536]⟩
abbrev S16 : Shape := ⟨1, ![16]⟩
abbrev S_ : Shape := ⟨0, ![]⟩
abbrev S2x3x1536 : Shape := ⟨3, ![2, 3, 1536]⟩
abbrev S2x4099x1536 : Shape := ⟨3, ![2, 4099, 1536]⟩
abbrev S1x1x1536 : Shape := ⟨3, ![1, 1, 1536]⟩
abbrev S2x4096x1024 : Shape := ⟨3, ![2, 4096, 1024]⟩
abbrev S2x4096x256 : Shape := ⟨3, ![2, 4096, 256]⟩
abbrev S2x4096x16x64 : Shape := ⟨4, ![2, 4096, 16, 64]⟩
abbrev S1x1x16 : Shape := ⟨3, ![1, 1, 16]⟩
abbrev S2x4096x2x128 : Shape := ⟨4, ![2, 4096, 2, 128]⟩
abbrev S2x4096x2x8x128 : Shape := ⟨5, ![2, 4096, 2, 8, 128]⟩
abbrev S2x4096x16x128 : Shape := ⟨4, ![2, 4096, 16, 128]⟩
abbrev S4096 : Shape := ⟨1, ![4096]⟩
abbrev S2x4096x16x1 : Shape := ⟨4, ![2, 4096, 16, 1]⟩
abbrev S1x4096 : Shape := ⟨2, ![1, 4096]⟩
abbrev S4096x1 : Shape := ⟨2, ![4096, 1]⟩
abbrev S4096x4096 : Shape := ⟨2, ![4096, 4096]⟩
abbrev S2x16x4096 : Shape := ⟨3, ![2, 16, 4096]⟩
abbrev S1x4096x1x1 : Shape := ⟨4, ![1, 4096, 1, 1]⟩
abbrev S1x1x4096x1 : Shape := ⟨4, ![1, 1, 4096, 1]⟩
abbrev S1x4096x4096x1 : Shape := ⟨4, ![1, 4096, 4096, 1]⟩
abbrev S2x4096x1x16 : Shape := ⟨4, ![2, 4096, 1, 16]⟩
abbrev S2x1x4096x16 : Shape := ⟨4, ![2, 1, 4096, 16]⟩
abbrev S2x4096x4096x16 : Shape := ⟨4, ![2, 4096, 4096, 16]⟩
abbrev S2x16x4096x4096 : Shape := ⟨4, ![2, 16, 4096, 4096]⟩
abbrev S2x16x64x4096 : Shape := ⟨4, ![2, 16, 64, 4096]⟩
abbrev S32 : Shape := ⟨1, ![32]⟩
abbrev S32x1 : Shape := ⟨2, ![32, 1]⟩
abbrev S32x4096 : Shape := ⟨2, ![32, 4096]⟩
abbrev S2x16x32 : Shape := ⟨3, ![2, 16, 32]⟩
abbrev S2x32x16 : Shape := ⟨3, ![2, 32, 16]⟩
abbrev S1x32x1x1 : Shape := ⟨4, ![1, 32, 1, 1]⟩
abbrev S1x32x4096x1 : Shape := ⟨4, ![1, 32, 4096, 1]⟩
abbrev S2x32x1x16 : Shape := ⟨4, ![2, 32, 1, 16]⟩
abbrev S2x32x4096x16 : Shape := ⟨4, ![2, 32, 4096, 16]⟩
abbrev S2x32x4096x16x1 : Shape := ⟨5, ![2, 32, 4096, 16, 1]⟩
abbrev S2x1x4096x16x64 : Shape := ⟨5, ![2, 1, 4096, 16, 64]⟩
abbrev S2x32x4096x16x64 : Shape := ⟨5, ![2, 32, 4096, 16, 64]⟩
abbrev S2x16x128x32x64 : Shape := ⟨5, ![2, 16, 128, 32, 64]⟩
abbrev S2x32x128x16x64 : Shape := ⟨5, ![2, 32, 128, 16, 64]⟩
abbrev S16x1 : Shape := ⟨2, ![16, 1]⟩
abbrev S1x1x16x1 : Shape := ⟨4, ![1, 1, 16, 1]⟩
abbrev S2x32x128x8x128 : Shape := ⟨5, ![2, 32, 128, 8, 128]⟩
abbrev S2x32x8x128x128 : Shape := ⟨5, ![2, 32, 8, 128, 128]⟩

abbrev nBuf : Space → Nat
  | .hbm => 171
  | .vmem => 0
  | .smem => 0
  | _ => 0

abbrev hbmTy0_0 (i : Nat) : BufTy := match i % 128 with
  | 0 => ⟨S2x4096x6672, .f32⟩
  | 1 => ⟨S1x4x1536, .f32⟩
  | 2 => ⟨S1x1536, .f32⟩
  | 3 => ⟨S1x16, .f32⟩
  | 4 => ⟨S1x16, .f32⟩
  | 5 => ⟨S1x16, .f32⟩
  | 6 => ⟨S2x4096x1536, .f32⟩
  | 7 => ⟨S2x4096x16, .f32⟩
  | 8 => ⟨S4x1536, .f32⟩
  | 9 => ⟨S1536, .f32⟩
  | 10 => ⟨S16, .f32⟩
  | 11 => ⟨S16, .f32⟩
  | 12 => ⟨S_, .f32⟩
  | 13 => ⟨S2x3x1536, .f32⟩
  | 14 => ⟨S2x4099x1536, .f32⟩
  | 15 => ⟨S2x4096x1536, .f32⟩
  | 16 => ⟨S1x1536, .f32⟩
  | 17 => ⟨S1536, .f32⟩
  | 18 => ⟨S1x1x1536, .f32⟩
  | 19 => ⟨S2x4096x1536, .f32⟩
  | 20 => ⟨S2x4096x1536, .f32⟩
  | 21 => ⟨S1x1x1536, .f32⟩
  | 22 => ⟨S2x4096x1536, .f32⟩
  | 23 => ⟨S2x4096x1536, .f32⟩
  | 24 => ⟨S2x4096x1536, .f32⟩
  | 25 => ⟨S1x1536, .f32⟩
  | 26 => ⟨S1536, .f32⟩
  | 27 => ⟨S1x1x1536, .f32⟩
  | 28 => ⟨S2x4096x1536, .f32⟩
  | 29 => ⟨S2x4096x1536, .f32⟩
  | 30 => ⟨S2x4096x1536, .f32⟩
  | 31 => ⟨S2x4096x1536, .f32⟩
  | 32 => ⟨S1x1536, .f32⟩
  | 33 => ⟨S1536, .f32⟩
  | 34 => ⟨S1x1x1536, .f32⟩
  | 35 => ⟨S2x4096x1536, .f32⟩
  | 36 => ⟨S2x4096x1536, .f32⟩
  | 37 => ⟨S2x4096x1536, .f32⟩
  | 38 => ⟨S2x4096x1536, .f32⟩
  | 39 => ⟨S1x1536, .f32⟩
  | 40 => ⟨S1536, .f32⟩
  | 41 => ⟨S1x1x1536, .f32⟩
  | 42 => ⟨S2x4096x1536, .f32⟩
  | 43 => ⟨S2x4096x1536, .f32⟩
  | 44 => ⟨S2x4096x1536, .f32⟩
  | 45 => ⟨S2x4096x1536, .f32⟩
  | 46 => ⟨S2x4096x1536, .f32⟩
  | 47 => ⟨S_, .f32⟩
  | 48 => ⟨S2x4096x1536, .f32⟩
  | 49 => ⟨S2x4096x1536, .f32⟩
  | 50 => ⟨S_, .f32⟩
  | 51 => ⟨S2x4096x1536, .f32⟩
  | 52 => ⟨S2x4096x1536, .f32⟩
  | 53 => ⟨S2x4096x1536, .f32⟩
  | 54 => ⟨S2x4096x1024, .f32⟩
  | 55 => ⟨S2x4096x256, .f32⟩
  | 56 => ⟨S2x4096x256, .f32⟩
  | 57 => ⟨S2x4096x16x64, .f32⟩
  | 58 => ⟨S1x1x16, .f32⟩
  | 59 => ⟨S2x4096x16, .f32⟩
  | 60 => ⟨S2x4096x16, .f32⟩
  | 61 => ⟨S_, .f32⟩
  | 62 => ⟨S2x4096x16, .f32⟩
  | 63 => ⟨S2x4096x16, .f32⟩
  | 64 => ⟨S2x4096x16, .f32⟩
  | 65 => ⟨S2x4096x16, .f32⟩
  | 66 => ⟨S2x4096x16, .i1⟩
  | 67 => ⟨S2x4096x16, .f32⟩
  | 68 => ⟨S2x4096x16, .f32⟩
  | 69 => ⟨S2x4096x16, .f32⟩
  | 70 => ⟨S2x4096x16, .f32⟩
  | 71 => ⟨S2x4096x16, .f32⟩
  | 72 => ⟨S2x4096x16, .f32⟩
  | 73 => ⟨S2x4096x16, .f32⟩
  | 74 => ⟨S2x4096x16, .f32⟩
  | 75 => ⟨S16, .f32⟩
  | 76 => ⟨S16, .f32⟩
  | 77 => ⟨S2x4096x2x128, .f32⟩
  | 78 => ⟨S2x4096x2x128, .f32⟩
  | 79 => ⟨S2x4096x2x8x128, .f32⟩
  | 80 => ⟨S2x4096x16x128, .f32⟩
  | 81 => ⟨S2x4096x2x8x128, .f32⟩
  | 82 => ⟨S2x4096x16x128, .f32⟩
  | 83 => ⟨S4096, .i32⟩
  | 84 => ⟨S2x4096x16x1, .f32⟩
  | 85 => ⟨S2x4096x16x64, .f32⟩
  | 86 => ⟨S2x4096x16x64, .f32⟩
  | 87 => ⟨S1x1x16, .f32⟩
  | 88 => ⟨S2x4096x16, .f32⟩
  | 89 => ⟨S2x4096x16, .f32⟩
  | 90 => ⟨S1x4096, .i32⟩
  | 91 => ⟨S4096x1, .i32⟩
  | 92 => ⟨S4096x4096, .i32⟩
  | 93 => ⟨S4096x4096, .i32⟩
  | 94 => ⟨S4096x4096, .i1⟩
  | 95 => ⟨S_, .f32⟩
  | 96 => ⟨S_, .f32⟩
  | 97 => ⟨S4096x4096, .f32⟩
  | 98 => ⟨S4096x4096, .f32⟩
  | 99 => ⟨S4096x4096, .f32⟩
  | 100 => ⟨S2x16x4096, .f32⟩
  | 101 => ⟨S2x4096x16, .f32⟩
  | 102 => ⟨S1x4096x1x1, .i32⟩
  | 103 => ⟨S1x1x4096x1, .i32⟩
  | 104 => ⟨S1x4096x4096x1, .i32⟩
  | 105 => ⟨S1x4096x4096x1, .i32⟩
  | 106 => ⟨S1x4096x4096x1, .i1⟩
  | 107 => ⟨S2x4096x1x16, .f32⟩
  | 108 => ⟨S2x1x4096x16, .f32⟩
  | 109 => ⟨S2x4096x4096x16, .f32⟩
  | 110 => ⟨S2x4096x4096x16, .f32⟩
  | 111 => ⟨S2x4096x4096x16, .f32⟩
  | 112 => ⟨S2x4096x4096x16, .f32⟩
  | 113 => ⟨S_, .f32⟩
  | 114 => ⟨S_, .f32⟩
  | 115 => ⟨S2x4096x4096x16, .i1⟩
  | 116 => ⟨S2x4096x4096x16, .f32⟩
  | 117 => ⟨S2x4096x4096x16, .f32⟩
  | 118 => ⟨S2x16x4096x4096, .f32⟩
  | 119 => ⟨S2x4096x4096x16, .f32⟩
  | 120 => ⟨S2x4096x4096x16, .f32⟩
  | 121 => ⟨S2x16x64x4096, .f32⟩
  | 122 => ⟨S2x4096x16x64, .f32⟩
  | 123 => ⟨S32, .i32⟩
  | 124 => ⟨S_, .i32⟩
  | 125 => ⟨S32, .i32⟩
  | 126 => ⟨S32, .i32⟩
  | 127 => ⟨S1x4096, .i32⟩
  | _ => ⟨S2x4096x6672, .f32⟩

abbrev hbmTy0_1 (i : Nat) : BufTy := match i % 128 with
  | 0 => ⟨S32x1, .i32⟩
  | 1 => ⟨S32x4096, .i32⟩
  | 2 => ⟨S32x4096, .i32⟩
  | 3 => ⟨S32x4096, .i1⟩
  | 4 => ⟨S_, .f32⟩
  | 5 => ⟨S_, .f32⟩
  | 6 => ⟨S32x4096, .f32⟩
  | 7 => ⟨S32x4096, .f32⟩
  | 8 => ⟨S32x4096, .f32⟩
  | 9 => ⟨S2x16x32, .f32⟩
  | 10 => ⟨S2x32x16, .f32⟩
  | 11 => ⟨S1x1x4096x1, .i32⟩
  | 12 => ⟨S1x32x1x1, .i32⟩
  | 13 => ⟨S1x32x4096x1, .i32⟩
  | 14 => ⟨S1x32x4096x1, .i32⟩
  | 15 => ⟨S1x32x4096x1, .i1⟩
  | 16 => ⟨S2x32x1x16, .f32⟩
  | 17 => ⟨S2x1x4096x16, .f32⟩
  | 18 => ⟨S2x32x4096x16, .f32⟩
  | 19 => ⟨S2x32x4096x16, .f32⟩
  | 20 => ⟨S2x32x4096x16, .f32⟩
  | 21 => ⟨S2x32x4096x16, .f32⟩
  | 22 => ⟨S_, .f32⟩
  | 23 => ⟨S_, .f32⟩
  | 24 => ⟨S2x32x4096x16, .i1⟩
  | 25 => ⟨S2x32x4096x16, .f32⟩
  | 26 => ⟨S2x32x4096x16, .f32⟩
  | 27 => ⟨S2x32x4096x16x1, .f32⟩
  | 28 => ⟨S2x1x4096x16x64, .f32⟩
  | 29 => ⟨S2x32x4096x16x64, .f32⟩
  | 30 => ⟨S2x32x4096x16x64, .f32⟩
  | 31 => ⟨S2x32x4096x16x64, .f32⟩
  | 32 => ⟨S2x16x128x32x64, .f32⟩
  | 33 => ⟨S2x32x128x16x64, .f32⟩
  | 34 => ⟨S16, .f32⟩
  | 35 => ⟨S16x1, .f32⟩
  | 36 => ⟨S1x1x16x1, .f32⟩
  | 37 => ⟨S2x4096x16x64, .f32⟩
  | 38 => ⟨S2x4096x16x64, .f32⟩
  | 39 => ⟨S2x4096x16x64, .f32⟩
  | 40 => ⟨S2x4096x1024, .f32⟩
  | 41 => ⟨S2x32x128x8x128, .f32⟩
  | 42 => ⟨S2x32x8x128x128, .f32⟩
  | _ => ⟨S2x4096x6672, .f32⟩

abbrev hbmTy (i : Nat) : BufTy := match i / 128 with
  | 0 => hbmTy0_0 i
  | 1 => hbmTy0_1 i
  | _ => ⟨S2x4096x6672, .f32⟩

abbrev bufTy : (tb : Table) → Fin (tcTables nBuf tb) → BufTy
  | .hbm, ⟨i, _⟩ => hbmTy i
  | _, _ => ⟨S2x4096x6672, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_call1_cst : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_0 : Ref sig .tc := ⟨.hbm, 95, rfl⟩
abbrev main_cst_1 : Ref sig .tc := ⟨.hbm, 96, rfl⟩
abbrev main_call2_v0 : Ref sig .tc := ⟨.hbm, 97, rfl⟩
abbrev main_call2_v1 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_2 : Ref sig .tc := ⟨.hbm, 113, rfl⟩
abbrev main_call3_v0 : Ref sig .tc := ⟨.hbm, 114, rfl⟩
abbrev main_call3_v1 : Ref sig .tc := ⟨.hbm, 115, rfl⟩
abbrev main_call3_v2 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_c : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_3 : Ref sig .tc := ⟨.hbm, 132, rfl⟩
abbrev main_cst_4 : Ref sig .tc := ⟨.hbm, 133, rfl⟩
abbrev main_call4_v0 : Ref sig .tc := ⟨.hbm, 134, rfl⟩
abbrev main_call4_v1 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_cst_5 : Ref sig .tc := ⟨.hbm, 150, rfl⟩
abbrev main_call5_v0 : Ref sig .tc := ⟨.hbm, 151, rfl⟩
abbrev main_call5_v1 : Ref sig .tc := ⟨.hbm, 152, rfl⟩
abbrev main_call5_v2 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩

abbrev nD : Nat := 1
abbrev τ : Topo := Topo.v7x

variable {F : FTy → Type} [FloatOps F]
-- ==== Kernel7.lean ====
abbrev S2x4096x1024 : Shape := ⟨3, ![2, 4096, 1024]⟩
abbrev S1x1024 : Shape := ⟨2, ![1, 1024]⟩
abbrev S2x4096x6672 : Shape := ⟨3, ![2, 4096, 6672]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S8192x1024 : Shape := ⟨2, ![8192, 1024]⟩
abbrev S1024x8192 : Shape := ⟨2, ![1024, 8192]⟩
abbrev S8192x6672 : Shape := ⟨2, ![8192, 6672]⟩
abbrev S8192x7168 : Shape := ⟨2, ![8192, 7168]⟩
abbrev S8192x2048 : Shape := ⟨2, ![8192, 2048]⟩
abbrev S1024x7168 : Shape := ⟨2, ![1024, 7168]⟩
abbrev S1024x1024 : Shape := ⟨2, ![1024, 1024]⟩

abbrev nBuf : Space → Nat
  | .hbm => 34
  | .vmem => 14
  | .smem => 0
  | _ => 0

abbrev bufTy : (tb : Table) → Fin (tcTables nBuf tb) → BufTy
  | .hbm, ⟨0, _⟩ => ⟨S2x4096x1024, .f32⟩
  | .hbm, ⟨1, _⟩ => ⟨S1x1024, .f32⟩
  | .hbm, ⟨2, _⟩ => ⟨S2x4096x6672, .f32⟩
  | .hbm, ⟨3, _⟩ => ⟨S1024, .f32⟩
  | .hbm, ⟨4, _⟩ => ⟨S2x4096x1024, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x1024, .f32⟩
  | .hbm, ⟨16, _⟩ => ⟨S2x4096x1024, .f32⟩
  | .hbm, ⟨17, _⟩ => ⟨S1x1x1024, .f32⟩
  | .hbm, ⟨18, _⟩ => ⟨S2x4096x1024, .f32⟩
  | .hbm, ⟨19, _⟩ => ⟨S2x4096x1024, .f32⟩
  | .hbm, ⟨20, _⟩ => ⟨S8192x1024, .f32⟩
  | .hbm, ⟨21, _⟩ => ⟨S1024x8192, .f32⟩
  | .hbm, ⟨22, _⟩ => ⟨S1024x8192, .bf16⟩
  | .hbm, ⟨23, _⟩ => ⟨S8192x6672, .f32⟩
  | .hbm, ⟨24, _⟩ => ⟨S8192x6672, .bf16⟩
  | .hbm, ⟨25, _⟩ => ⟨S_, .i32⟩
  | .hbm, ⟨26, _⟩ => ⟨S_, .bf16⟩
  | .hbm, ⟨27, _⟩ => ⟨S8192x7168, .bf16⟩
  | .hbm, ⟨28, _⟩ => ⟨S8192x1024, .bf16⟩
  | .hbm, ⟨29, _⟩ => ⟨S8192x1024, .bf16⟩
  | .hbm, ⟨30, _⟩ => ⟨S8192x1024, .bf16⟩
  | .hbm, ⟨31, _⟩ => ⟨S8192x2048, .bf16⟩
  | .hbm, ⟨32, _⟩ => ⟨S8192x2048, .bf16⟩
  | .hbm, ⟨33, _⟩ => ⟨S1024x7168, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![7, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sge arg0 c0_i32_1
  let c1_i32 : BitVec 32 := 1#32
  let v4 : BitVec 1 := Scalar.cmpi .slt arg0 c1_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c1_i32_3 : BitVec 32 := 1#32
  let v8 : BitVec 1 := Scalar.cmpi .sge arg0 c1_i32_3
  let c2_i32 : BitVec 32 := 2#32
  let v9 : BitVec 1 := Scalar.cmpi .slt arg0 c2_i32
  let v10 : BitVec 1 := Scalar.andi v8 v9
  let v11 : BitVec 32 := Scalar.extui v10
  let c0_i32_4 : BitVec 32 := 0#32
  let v12 : BitVec 1 := Scalar.cmpi .ne v11 c0_i32_4
  v12

def k0_cond4 (i : grid0.Coords) : BitVec 1 :=
  let arg0 : BitVec 32 := BitVec.ofNat 32 (i 0).val
  let c2_i32_5 : BitVec 32 := 2#32
  let v13 : BitVec 1 := Scalar.cmpi .sge arg0 c2_i32_5
  let c3_i32 : BitVec 32 := 3#32
  let v14 : BitVec 1 := Scalar.cmpi .slt arg0 c3_i32
  let v15 : BitVec 1 := Scalar.andi v13 v14
  let v16 : BitVec 32 := Scalar.extui v15
  let c0_i32_6 : BitVec 32 := 0#32
  let v17 : BitVec 1 := Scalar.cmpi .ne v16 c0_i32_6
  v17

def k0_cond5 (i : grid0.Coords) : BitVec 1 :=
  let arg0 : BitVec 32 := BitVec.ofNat 32 (i 0).val
  let c3_i32_7 : BitVec 32 := 3#32
  let v18 : BitVec 1 := Scalar.cmpi .sge arg0 c3_i32_7
  let c5_i32 : BitVec 32 := 5#32
  let v19 : BitVec 1 := Scalar.cmpi .slt arg0 c5_i32
  let v20 : BitVec 1 := Scalar.andi v18 v19
  let v21 : BitVec 32 := Scalar.extui v20
  let c0_i32_8 : BitVec 32 := 0#32
  let v22 : BitVec 1 := Scalar.cmpi .ne v21 c0_i32_8
  v22

def k0_cond6 (i : grid0.Coords) : BitVec 1 :=
  let arg0 : BitVec 32 := BitVec.ofNat 32 (i 0).val
  let c5_i32_9 : BitVec 32 := 5#32
  let v23 : BitVec 1 := Scalar.cmpi .sge arg0 c5_i32_9
  let c7_i32 : BitVec 32 := 7#32
  let v24 : BitVec 1 := Scalar.cmpi .slt arg0 c7_i32
  let v25 : BitVec 1 := Scalar.andi v23 v24
  let v26 : BitVec 32 := Scalar.extui v25
  let c0_i32_10 : BitVec 32 := 0#32
  let v27 : BitVec 1 := Scalar.cmpi .ne v26 c0_i32_10
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg0 c0_i32
  let c1_i32 : BitVec 32 := 1#32
  let v1 : BitVec 1 := Scalar.cmpi .slt arg0 c1_i32
  let v2 : BitVec 1 := Scalar.andi v0 v1
  let c0_i32_0 : BitVec 32 := 0#32
  let v3 : BitVec 32 := Scalar.select v2 arg1 c0_i32_0
  let c0_i32_1 : BitVec 32 := 0#32
  let v4 : BitVec 32 := Scalar.subi arg0 c0_i32_1
  let c0_i32_2 : BitVec 32 := 0#32
  let c0_i32_3 : BitVec 32 := 0#32
  let v5 : BitVec 32 := Scalar.maxsi c0_i32_2 v4
  let v6 : BitVec 32 := Scalar.minsi c0_i32_3 v5
  let c0_i32_4 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg0 c1_i32
  let c2_i32 : BitVec 32 := 2#32
  let v1 : BitVec 1 := Scalar.cmpi .slt arg0 c2_i32
  let v2 : BitVec 1 := Scalar.andi v0 v1
  let c0_i32 : BitVec 32 := 0#32
  let v3 : BitVec 32 := Scalar.select v2 arg1 c0_i32
  let c1_i32_0 : BitVec 32 := 1#32
  let v4 : BitVec 32 := Scalar.subi arg0 c1_i32_0
  let c0_i32_1 : BitVec 32 := 0#32
  let c0_i32_2 : BitVec 32 := 0#32
  let v5 : BitVec 32 := Scalar.maxsi c0_i32_1 v4
  let v6 : BitVec 32 := Scalar.minsi c0_i32_2 v5
  let c0_i32_3 : BitVec 32 := 0#32
  ![v3.toNat, v6.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .sge arg0 c2_i32
  let c3_i32 : BitVec 32 := 3#32
  let v1 : BitVec 1 := Scalar.cmpi .slt arg0 c3_i32
  let v2 : BitVec 1 := Scalar.andi v0 v1
  let c0_i32 : BitVec 32 := 0#32
  let v3 : BitVec 32 := Scalar.select v2 arg1 c0_i32
  let c2_i32_0 : BitVec 32 := 2#32
  let v4 : BitVec 32 := Scalar.subi arg0 c2_i32_0
  let c0_i32_1 : BitVec 32 := 0#32
  let c0_i32_2 : BitVec 32 := 0#32
  let v5 : BitVec 32 := Scalar.maxsi c0_i32_1 v4
  let v6 : BitVec 32 := Scalar.minsi c0_i32_2 v5
  let c0_i32_3 : BitVec 32 := 0#32
  ![v3.toNat, v6.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .sge arg0 c3_i32
  let c5_i32 : BitVec 32 := 5#32
  let v1 : BitVec 1 := Scalar.cmpi .slt arg0 c5_i32
  let v2 : BitVec 1 := Scalar.andi v0 v1
  let c0_i32 : BitVec 32 := 0#32
  let v3 : BitVec 32 := Scalar.select v2 arg1 c0_i32
  let c3_i32_0 : BitVec 32 := 3#32
  let v4 : BitVec 32 := Scalar.subi arg0 c3_i32_0
  let c0_i32_1 : BitVec 32 := 0#32
  let c1_i32 : BitVec 32 := 1#32
  let v5 : BitVec 32 := Scalar.maxsi c0_i32_1 v4
  let v6 : BitVec 32 := Scalar.minsi c1_i32 v5
  let c0_i32_2 : BitVec 32 := 0#32
  ![v3.toNat, v6.toNat]

def cc0_transform_5 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 1 := Scalar.cmpi .sge arg0 c5_i32
  let c7_i32 : BitVec 32 := 7#32
  let v1 : BitVec 1 := Scalar.cmpi .slt arg0 c7_i32
  let v2 : BitVec 1 := Scalar.andi v0 v1
  let c0_i32 : BitVec 32 := 0#32
  let v3 : BitVec 32 := Scalar.select v2 arg1 c0_i32
  let c5_i32_0 : BitVec 32 := 5#32
  let v4 : BitVec 32 := Scalar.subi arg0 c5_i32_0
  let c0_i32_1 : BitVec 32 := 0#32
  let c1_i32 : BitVec 32 := 1#32
  let v5 : BitVec 32 := Scalar.maxsi c0_i32_1 v4
  let v6 : BitVec 32 := Scalar.minsi c1_i32 v5
  let c0_i32_2 : BitVec 32 := 0#32
  ![v3.toNat, v6.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference7Ideal.lean ====
abbrev S2x4096x1024 : Shape := ⟨3, ![2, 4096, 1024]⟩
abbrev S1x1024 : Shape := ⟨2, ![1, 1024]⟩
abbrev S2x4096x6672 : Shape := ⟨3, ![2, 4096, 6672]⟩
abbrev S_ : Shape := ⟨0, ![]⟩
abbrev S1024x6672 : Shape := ⟨2, ![1024, 6672]⟩
abbrev S1024 : Shape := ⟨1, ![1024]⟩
abbrev S2x4096 : Shape := ⟨2, ![2, 4096]⟩
abbrev S2x4096x1 : Shape := ⟨3, ![2, 4096, 1]⟩
abbrev S1x1x1024 : Shape := ⟨3, ![1, 1, 1024]⟩
abbrev S8192x1024 : Shape := ⟨2, ![8192, 1024]⟩
abbrev S8192x6672 : Shape := ⟨2, ![8192, 6672]⟩
abbrev S6672x1024 : Shape := ⟨2, ![6672, 1024]⟩
abbrev S1024x496 : Shape := ⟨2, ![1024, 496]⟩
abbrev S1024x7168 : Shape := ⟨2, ![1024, 7168]⟩

abbrev nBuf : Space → Nat
  | .hbm => 30
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1x1024, .f32⟩
  | .hbm, ⟨2, _⟩ => ⟨S2x4096x6672, .f32⟩
  | .hbm, ⟨3, _⟩ => ⟨S_, .f32⟩
  | .hbm, ⟨4, _⟩ => ⟨S1024x6672, .f32⟩
  | .hbm, ⟨5, _⟩ => ⟨S1024, .f32⟩
  | .hbm, ⟨6, _⟩ => ⟨S2x4096x1024, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x1024, .f32⟩
  | .hbm, ⟨18, _⟩ => ⟨S2x4096x1024, .f32⟩
  | .hbm, ⟨19, _⟩ => ⟨S1x1x1024, .f32⟩
  | .hbm, ⟨20, _⟩ => ⟨S2x4096x1024, .f32⟩
  | .hbm, ⟨21, _⟩ => ⟨S2x4096x1024, .f32⟩
  | .hbm, ⟨22, _⟩ => ⟨S8192x1024, .f32⟩
  | .hbm, ⟨23, _⟩ => ⟨S8192x6672, .f32⟩
  | .hbm, ⟨24, _⟩ => ⟨S8192x6672, .f32⟩
  | .hbm, ⟨25, _⟩ => ⟨S6672x1024, .f32⟩
  | .hbm, ⟨26, _⟩ => ⟨S1024x6672, .f32⟩
  | .hbm, ⟨27, _⟩ => ⟨S_, .f32⟩
  | .hbm, ⟨28, _⟩ => ⟨S1024x496, .f32⟩
  | .hbm, ⟨29, _⟩ => ⟨S1024x7168, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel8.lean ====
abbrev S2x4096x1024 : Shape := ⟨3, ![2, 4096, 1024]⟩
abbrev S1x1024 : Shape := ⟨2, ![1, 1024]⟩
abbrev S1x1024x6672 : Shape := ⟨3, ![1, 1024, 6672]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S8192x1024 : Shape := ⟨2, ![8192, 1024]⟩
abbrev S1024x6672 : Shape := ⟨2, ![1024, 6672]⟩
abbrev S6672x1024 : Shape := ⟨2, ![6672, 1024]⟩
abbrev S7168x1024 : Shape := ⟨2, ![7168, 1024]⟩
abbrev S8192x7168 : Shape := ⟨2, ![8192, 7168]⟩
abbrev S1024x1024 : Shape := ⟨2, ![1024, 1024]⟩

abbrev nBuf : Space → Nat
  | .hbm => 29
  | .vmem => 6
  | .smem => 0
  | _ => 0

abbrev bufTy : (tb : Table) → Fin (tcTables nBuf tb) → BufTy
  | .hbm, ⟨0, _⟩ => ⟨S2x4096x1024, .f32⟩
  | .hbm, ⟨1, _⟩ => ⟨S1x1024, .f32⟩
  | .hbm, ⟨2, _⟩ => ⟨S1x1024x6672, .f32⟩
  | .hbm, ⟨3, _⟩ => ⟨S1024, .f32⟩
  | .hbm, ⟨4, _⟩ => ⟨S2x4096x1024, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x1024, .f32⟩
  | .hbm, ⟨16, _⟩ => ⟨S2x4096x1024, .f32⟩
  | .hbm, ⟨17, _⟩ => ⟨S1x1x1024, .f32⟩
  | .hbm, ⟨18, _⟩ => ⟨S2x4096x1024, .f32⟩
  | .hbm, ⟨19, _⟩ => ⟨S2x4096x1024, .f32⟩
  | .hbm, ⟨20, _⟩ => ⟨S8192x1024, .f32⟩
  | .hbm, ⟨21, _⟩ => ⟨S8192x1024, .bf16⟩
  | .hbm, ⟨22, _⟩ => ⟨S1024x6672, .f32⟩
  | .hbm, ⟨23, _⟩ => ⟨S6672x1024, .f32⟩
  | .hbm, ⟨24, _⟩ => ⟨S6672x1024, .bf16⟩
  | .hbm, ⟨25, _⟩ => ⟨S_, .i32⟩
  | .hbm, ⟨26, _⟩ => ⟨S_, .bf16⟩
  | .hbm, ⟨27, _⟩ => ⟨S7168x1024, .bf16⟩
  | .hbm, ⟨28, _⟩ => ⟨S8192x7168, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S2x4096x1024 : Shape := ⟨3, ![2, 4096, 1024]⟩
abbrev S1x1024 : Shape := ⟨2, ![1, 1024]⟩
abbrev S1x1024x6672 : Shape := ⟨3, ![1, 1024, 6672]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S8192x1024 : Shape := ⟨2, ![8192, 1024]⟩
abbrev S1024x6672 : Shape := ⟨2, ![1024, 6672]⟩
abbrev S8192x6672 : Shape := ⟨2, ![8192, 6672]⟩
abbrev S8192x496 : Shape := ⟨2, ![8192, 496]⟩
abbrev S8192x7168 : Shape := ⟨2, ![8192, 7168]⟩

abbrev nBuf : Space → Nat
  | .hbm => 26
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1x1024, .f32⟩
  | .hbm, ⟨2, _⟩ => ⟨S1x1024x6672, .f32⟩
  | .hbm, ⟨3, _⟩ => ⟨S1024, .f32⟩
  | .hbm, ⟨4, _⟩ => ⟨S2x4096x1024, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x1024, .f32⟩
  | .hbm, ⟨16, _⟩ => ⟨S2x4096x1024, .f32⟩
  | .hbm, ⟨17, _⟩ => ⟨S1x1x1024, .f32⟩
  | .hbm, ⟨18, _⟩ => ⟨S2x4096x1024, .f32⟩
  | .hbm, ⟨19, _⟩ => ⟨S2x4096x1024, .f32⟩
  | .hbm, ⟨20, _⟩ => ⟨S8192x1024, .f32⟩
  | .hbm, ⟨21, _⟩ => ⟨S1024x6672, .f32⟩
  | .hbm, ⟨22, _⟩ => ⟨S8192x6672, .f32⟩
  | .hbm, ⟨23, _⟩ => ⟨S_, .f32⟩
  | .hbm, ⟨24, _⟩ => ⟨S8192x496, .f32⟩
  | .hbm, ⟨25, _⟩ => ⟨S8192x7168, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel9.lean ====
abbrev S2x4096x1024 : Shape := ⟨3, ![2, 4096, 1024]⟩
abbrev S2x4096x6672 : Shape := ⟨3, ![2, 4096, 6672]⟩
abbrev S1x1024 : Shape := ⟨2, ![1, 1024]⟩
abbrev S_ : Shape := ⟨0, ![]⟩
abbrev S1024 : Shape := ⟨1, ![1024]⟩
abbrev S2x4096 : Shape := ⟨2, ![2, 4096]⟩
abbrev S2x4096x1 : Shape := ⟨3, ![2, 4096, 1]⟩
abbrev S1x1x1024 : Shape := ⟨3, ![1, 1, 1024]⟩
abbrev S2x4096x2048 : Shape := ⟨3, ![2, 4096, 2048]⟩
abbrev S8192x2048 : Shape := ⟨2, ![8192, 2048]⟩
abbrev S2048x8192 : Shape := ⟨2, ![2048, 8192]⟩
abbrev S8192x1024 : Shape := ⟨2, ![8192, 1024]⟩
abbrev S2048x1024 : Shape := ⟨2, ![2048, 1024]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 69
  | .vmem => 6
  | .smem => 0
  | _ => 0

abbrev bufTy : (tb : Table) → Fin (tcTables nBuf tb) → BufTy
  | .hbm, ⟨0, _⟩ => ⟨S2x4096x1024, .f32⟩
  | .hbm, ⟨1, _⟩ => ⟨S2x4096x6672, .f32⟩
  | .hbm, ⟨2, _⟩ => ⟨S2x4096x1024, .f32⟩
  | .hbm, ⟨3, _⟩ => ⟨S1x1024, .f32⟩
  | .hbm, ⟨4, _⟩ => ⟨S1x1024, .f32⟩
  | .hbm, ⟨5, _⟩ => ⟨S2x4096x1024, .f32⟩
  | .hbm, ⟨6, _⟩ => ⟨S2x4096x1024, .f32⟩
  | .hbm, ⟨7, _⟩ => ⟨S2x4096x1024, .f32⟩
  | .hbm, ⟨8, _⟩ => ⟨S2x4096x1024, .f32⟩
  | .hbm, ⟨9, _⟩ => ⟨S2x4096x1024, .f32⟩
  | .hbm, ⟨10, _⟩ => ⟨S_, .f32⟩
  | .hbm, ⟨11, _⟩ => ⟨S2x4096x1024, .f32⟩
  | .hbm, ⟨12, _⟩ => ⟨S2x4096x1024, .f32⟩
  | .hbm, ⟨13, _⟩ => ⟨S_, .f32⟩
  | .hbm, ⟨14, _⟩ => ⟨S2x4096x1024, .f32⟩
  | .hbm, ⟨15, _⟩ => ⟨S2x4096x1024, .f32⟩
  | .hbm, ⟨16, _⟩ => ⟨S2x4096x1024, .f32⟩
  | .hbm, ⟨17, _⟩ => ⟨S2x4096x1024, .f32⟩
  | .hbm, ⟨18, _⟩ => ⟨S1024, .f32⟩
  | .hbm, ⟨19, _⟩ => ⟨S2x4096x1024, .f32⟩
  | .hbm, ⟨20, _⟩ => ⟨S_, .f32⟩
  | .hbm, ⟨21, _⟩ => ⟨S2x4096, .f32⟩
  | .hbm, ⟨22, _⟩ => ⟨S2x4096x1, .f32⟩
  | .hbm, ⟨23, _⟩ => ⟨S_, .f32⟩
  | .hbm, ⟨24, _⟩ => ⟨S2x4096x1, .f32⟩
  | .hbm, ⟨25, _⟩ => ⟨S2x4096x1, .f32⟩
  | .hbm, ⟨26, _⟩ => ⟨S_, .f32⟩
  | .hbm, ⟨27, _⟩ => ⟨S2x4096x1, .f32⟩
  | .hbm, ⟨28, _⟩ => ⟨S2x4096x1, .f32⟩
  | .hbm, ⟨29, _⟩ => ⟨S2x4096x1, .f32⟩
  | .hbm, ⟨30, _⟩ => ⟨S2x4096x1024, .f32⟩
  | .hbm, ⟨31, _⟩ => ⟨S2x4096x1024, .f32⟩
  | .hbm, ⟨32, _⟩ => ⟨S1x1x1024, .f32⟩
  | .hbm, ⟨33, _⟩ => ⟨S2x4096x1024, .f32⟩
  | .hbm, ⟨34, _⟩ => ⟨S2x4096x1024, .f32⟩
  | .hbm, ⟨35, _⟩ => ⟨S2x4096x1024, .f32⟩
  | .hbm, ⟨36, _⟩ => ⟨S2x4096x1024, .f32⟩
  | .hbm, ⟨37, _⟩ => ⟨S_, .f32⟩
  | .hbm, ⟨38, _⟩ => ⟨S2x4096x1024, .f32⟩
  | .hbm, ⟨39, _⟩ => ⟨S2x4096x1024, .f32⟩
  | .hbm, ⟨40, _⟩ => ⟨S_, .f32⟩
  | .hbm, ⟨41, _⟩ => ⟨S2x4096x1024, .f32⟩
  | .hbm, ⟨42, _⟩ => ⟨S2x4096x1024, .f32⟩
  | .hbm, ⟨43, _⟩ => ⟨S2x4096x1024, .f32⟩
  | .hbm, ⟨44, _⟩ => ⟨S2x4096x1024, .f32⟩
  | .hbm, ⟨45, _⟩ => ⟨S1024, .f32⟩
  | .hbm, ⟨46, _⟩ => ⟨S2x4096x1024, .f32⟩
  | .hbm, ⟨47, _⟩ => ⟨S_, .f32⟩
  | .hbm, ⟨48, _⟩ => ⟨S2x4096, .f32⟩
  | .hbm, ⟨49, _⟩ => ⟨S2x4096x1, .f32⟩
  | .hbm, ⟨50, _⟩ => ⟨S_, .f32⟩
  | .hbm, ⟨51, _⟩ => ⟨S2x4096x1, .f32⟩
  | .hbm, ⟨52, _⟩ => ⟨S2x4096x1, .f32⟩
  | .hbm, ⟨53, _⟩ => ⟨S_, .f32⟩
  | .hbm, ⟨54, _⟩ => ⟨S2x4096x1, .f32⟩
  | .hbm, ⟨55, _⟩ => ⟨S2x4096x1, .f32⟩
  | .hbm, ⟨56, _⟩ => ⟨S2x4096x1, .f32⟩
  | .hbm, ⟨57, _⟩ => ⟨S2x4096x1024, .f32⟩
  | .hbm, ⟨58, _⟩ => ⟨S2x4096x1024, .f32⟩
  | .hbm, ⟨59, _⟩ => ⟨S1x1x1024, .f32⟩
  | .hbm, ⟨60, _⟩ => ⟨S2x4096x1024, .f32⟩
  | .hbm, ⟨61, _⟩ => ⟨S2x4096x1024, .f32⟩
  | .hbm, ⟨62, _⟩ => ⟨S2x4096x2048, .f32⟩
  | .hbm, ⟨63, _⟩ => ⟨S8192x2048, .f32⟩
  | .hbm, ⟨64, _⟩ => ⟨S2048x8192, .f32⟩
  | .hbm, ⟨65, _⟩ => ⟨S2048x8192, .bf16⟩
  | .hbm, ⟨66, _⟩ => ⟨S8192x1024, .f32⟩
  | .hbm, ⟨67, _⟩ => ⟨S8192x1024, .bf16⟩
  | .hbm, ⟨68, _⟩ => ⟨S2048x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_2 : Ref sig .tc := ⟨.hbm, 47, rfl⟩
abbrev main_v22 : Ref sig .tc := ⟨.hbm, 48, rfl⟩
abbrev main_v23 : Ref sig .tc := ⟨.hbm, 49, rfl⟩
abbrev main_cst_3 : Ref sig .tc := ⟨.hbm, 50, rfl⟩
abbrev main_v24 : Ref sig .tc := ⟨.hbm, 51, rfl⟩
abbrev main_v25 : Ref sig .tc := ⟨.hbm, 52, rfl⟩
abbrev main_cst_4 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2x4096x1024 : Shape := ⟨3, ![2, 4096, 1024]⟩
abbrev S2x4096x6672 : Shape := ⟨3, ![2, 4096, 6672]⟩
abbrev S1x1024 : Shape := ⟨2, ![1, 1024]⟩
abbrev S_ : Shape := ⟨0, ![]⟩
abbrev S2048x1024 : Shape := ⟨2, ![2048, 1024]⟩
abbrev S1024 : Shape := ⟨1, ![1024]⟩
abbrev S2x4096 : Shape := ⟨2, ![2, 4096]⟩
abbrev S2x4096x1 : Shape := ⟨3, ![2, 4096, 1]⟩
abbrev S1x1x1024 : Shape := ⟨3, ![1, 1, 1024]⟩
abbrev S2x4096x2048 : Shape := ⟨3, ![2, 4096, 2048]⟩
abbrev S8192x2048 : Shape := ⟨2, ![8192, 2048]⟩
abbrev S8192x1024 : Shape := ⟨2, ![8192, 1024]⟩
abbrev S1024x2048 : Shape := ⟨2, ![1024, 2048]⟩

abbrev nBuf : Space → Nat
  | .hbm => 70
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x6672, .f32⟩
  | .hbm, ⟨2, _⟩ => ⟨S2x4096x1024, .f32⟩
  | .hbm, ⟨3, _⟩ => ⟨S1x1024, .f32⟩
  | .hbm, ⟨4, _⟩ => ⟨S1x1024, .f32⟩
  | .hbm, ⟨5, _⟩ => ⟨S2x4096x1024, .f32⟩
  | .hbm, ⟨6, _⟩ => ⟨S_, .f32⟩
  | .hbm, ⟨7, _⟩ => ⟨S2048x1024, .f32⟩
  | .hbm, ⟨8, _⟩ => ⟨S2x4096x1024, .f32⟩
  | .hbm, ⟨9, _⟩ => ⟨S2x4096x1024, .f32⟩
  | .hbm, ⟨10, _⟩ => ⟨S2x4096x1024, .f32⟩
  | .hbm, ⟨11, _⟩ => ⟨S2x4096x1024, .f32⟩
  | .hbm, ⟨12, _⟩ => ⟨S_, .f32⟩
  | .hbm, ⟨13, _⟩ => ⟨S2x4096x1024, .f32⟩
  | .hbm, ⟨14, _⟩ => ⟨S2x4096x1024, .f32⟩
  | .hbm, ⟨15, _⟩ => ⟨S_, .f32⟩
  | .hbm, ⟨16, _⟩ => ⟨S2x4096x1024, .f32⟩
  | .hbm, ⟨17, _⟩ => ⟨S2x4096x1024, .f32⟩
  | .hbm, ⟨18, _⟩ => ⟨S2x4096x1024, .f32⟩
  | .hbm, ⟨19, _⟩ => ⟨S2x4096x1024, .f32⟩
  | .hbm, ⟨20, _⟩ => ⟨S1024, .f32⟩
  | .hbm, ⟨21, _⟩ => ⟨S2x4096x1024, .f32⟩
  | .hbm, ⟨22, _⟩ => ⟨S_, .f32⟩
  | .hbm, ⟨23, _⟩ => ⟨S2x4096, .f32⟩
  | .hbm, ⟨24, _⟩ => ⟨S2x4096x1, .f32⟩
  | .hbm, ⟨25, _⟩ => ⟨S_, .f32⟩
  | .hbm, ⟨26, _⟩ => ⟨S2x4096x1, .f32⟩
  | .hbm, ⟨27, _⟩ => ⟨S2x4096x1, .f32⟩
  | .hbm, ⟨28, _⟩ => ⟨S_, .f32⟩
  | .hbm, ⟨29, _⟩ => ⟨S2x4096x1, .f32⟩
  | .hbm, ⟨30, _⟩ => ⟨S2x4096x1, .f32⟩
  | .hbm, ⟨31, _⟩ => ⟨S2x4096x1, .f32⟩
  | .hbm, ⟨32, _⟩ => ⟨S2x4096x1024, .f32⟩
  | .hbm, ⟨33, _⟩ => ⟨S2x4096x1024, .f32⟩
  | .hbm, ⟨34, _⟩ => ⟨S1x1x1024, .f32⟩
  | .hbm, ⟨35, _⟩ => ⟨S2x4096x1024, .f32⟩
  | .hbm, ⟨36, _⟩ => ⟨S2x4096x1024, .f32⟩
  | .hbm, ⟨37, _⟩ => ⟨S2x4096x1024, .f32⟩
  | .hbm, ⟨38, _⟩ => ⟨S2x4096x1024, .f32⟩
  | .hbm, ⟨39, _⟩ => ⟨S_, .f32⟩
  | .hbm, ⟨40, _⟩ => ⟨S2x4096x1024, .f32⟩
  | .hbm, ⟨41, _⟩ => ⟨S2x4096x1024, .f32⟩
  | .hbm, ⟨42, _⟩ => ⟨S_, .f32⟩
  | .hbm, ⟨43, _⟩ => ⟨S2x4096x1024, .f32⟩
  | .hbm, ⟨44, _⟩ => ⟨S2x4096x1024, .f32⟩
  | .hbm, ⟨45, _⟩ => ⟨S2x4096x1024, .f32⟩
  | .hbm, ⟨46, _⟩ => ⟨S2x4096x1024, .f32⟩
  | .hbm, ⟨47, _⟩ => ⟨S1024, .f32⟩
  | .hbm, ⟨48, _⟩ => ⟨S2x4096x1024, .f32⟩
  | .hbm, ⟨49, _⟩ => ⟨S_, .f32⟩
  | .hbm, ⟨50, _⟩ => ⟨S2x4096, .f32⟩
  | .hbm, ⟨51, _⟩ => ⟨S2x4096x1, .f32⟩
  | .hbm, ⟨52, _⟩ => ⟨S_, .f32⟩
  | .hbm, ⟨53, _⟩ => ⟨S2x4096x1, .f32⟩
  | .hbm, ⟨54, _⟩ => ⟨S2x4096x1, .f32⟩
  | .hbm, ⟨55, _⟩ => ⟨S_, .f32⟩
  | .hbm, ⟨56, _⟩ => ⟨S2x4096x1, .f32⟩
  | .hbm, ⟨57, _⟩ => ⟨S2x4096x1, .f32⟩
  | .hbm, ⟨58, _⟩ => ⟨S2x4096x1, .f32⟩
  | .hbm, ⟨59, _⟩ => ⟨S2x4096x1024, .f32⟩
  | .hbm, ⟨60, _⟩ => ⟨S2x4096x1024, .f32⟩
  | .hbm, ⟨61, _⟩ => ⟨S1x1x1024, .f32⟩
  | .hbm, ⟨62, _⟩ => ⟨S2x4096x1024, .f32⟩
  | .hbm, ⟨63, _⟩ => ⟨S2x4096x1024, .f32⟩
  | .hbm, ⟨64, _⟩ => ⟨S2x4096x2048, .f32⟩
  | .hbm, ⟨65, _⟩ => ⟨S8192x2048, .f32⟩
  | .hbm, ⟨66, _⟩ => ⟨S8192x1024, .f32⟩
  | .hbm, ⟨67, _⟩ => ⟨S8192x1024, .f32⟩
  | .hbm, ⟨68, _⟩ => ⟨S1024x2048, .f32⟩
  | .hbm, ⟨69, _⟩ => ⟨S2048x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_3 : Ref sig .tc := ⟨.hbm, 49, rfl⟩
abbrev main_v23 : Ref sig .tc := ⟨.hbm, 50, rfl⟩
abbrev main_v24 : Ref sig .tc := ⟨.hbm, 51, rfl⟩
abbrev main_cst_4 : Ref sig .tc := ⟨.hbm, 52, rfl⟩
abbrev main_v25 : Ref sig .tc := ⟨.hbm, 53, rfl⟩
abbrev main_v26 : Ref sig .tc := ⟨.hbm, 54, rfl⟩
abbrev main_cst_5 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩

abbrev nD : Nat := 1
abbrev τ : Topo := Topo.v7x

variable {F : FTy → Type} [FloatOps F]
-- ==== Kernel10.lean ====
abbrev S1x1024x1668 : Shape := ⟨3, ![1, 1024, 1668]⟩
abbrev S1024x1668 : Shape := ⟨2, ![1024, 1668]⟩
abbrev S1668x1024 : Shape := ⟨2, ![1668, 1024]⟩
abbrev S1668x128 : Shape := ⟨2, ![1668, 128]⟩

abbrev nBuf : Space → Nat
  | .hbm => 15
  | .vmem => 14
  | .smem => 0
  | _ => 0

abbrev bufTy : (tb : Table) → Fin (tcTables nBuf tb) → BufTy
  | .hbm, ⟨0, _⟩ => ⟨S1x1024x1668, .f32⟩
  | .hbm, ⟨1, _⟩ => ⟨S1x1024x1668, .f32⟩
  | .hbm, ⟨2, _⟩ => ⟨S1x1024x1668, .f32⟩
  | .hbm, ⟨3, _⟩ => ⟨S1x1024x1668, .f32⟩
  | .hbm, ⟨4, _⟩ => ⟨S1024x1668, .f32⟩
  | .hbm, ⟨5, _⟩ => ⟨S1668x1024, .f32⟩
  | .hbm, ⟨6, _⟩ => ⟨S1024x1668, .f32⟩
  | .hbm, ⟨7, _⟩ => ⟨S1668x1024, .f32⟩
  | .hbm, ⟨8, _⟩ => ⟨S1024x1668, .f32⟩
  | .hbm, ⟨9, _⟩ => ⟨S1668x1024, .f32⟩
  | .hbm, ⟨10, _⟩ => ⟨S1024x1668, .f32⟩
  | .hbm, ⟨11, _⟩ => ⟨S1668x1024, .f32⟩
  | .hbm, ⟨12, _⟩ => ⟨S1668x1024, .f32⟩
  | .hbm, ⟨13, _⟩ => ⟨S1668x1024, .f32⟩
  | .hbm, ⟨14, _⟩ => ⟨S1668x1024, .f32⟩
  | .local _ .vmem, ⟨0, _⟩ => ⟨S1668x128, .f32⟩
  | .local _ .vmem, ⟨1, _⟩ => ⟨S1668x128, .f32⟩
  | .local _ .vmem, ⟨2, _⟩ => ⟨S1668x128, .f32⟩
  | .local _ .vmem, ⟨3, _⟩ => ⟨S1668x128, .f32⟩
  | .local _ .vmem, ⟨4, _⟩ => ⟨S1668x128, .f32⟩
  | .local _ .vmem, ⟨5, _⟩ => ⟨S1668x128, .f32⟩
  | .local _ .vmem, ⟨6, _⟩ => ⟨S1668x128, .f32⟩
  | .local _ .vmem, ⟨7, _⟩ => ⟨S1668x128, .f32⟩
  | .local _ .vmem, ⟨8, _⟩ => ⟨S1668x128, .f32⟩
  | .local _ .vmem, ⟨9, _⟩ => ⟨S1668x128, .f32⟩
  | .local _ .vmem, ⟨10, _⟩ => ⟨S1668x128, .f32⟩
  | .local _ .vmem, ⟨11, _⟩ => ⟨S1668x128, .f32⟩
  | .local _ .vmem, ⟨12, _⟩ => ⟨S1668x128, .f32⟩
  | .local _ .vmem, ⟨13, _⟩ => ⟨S1668x128, .f32⟩
  | _, _ => ⟨S1x1024x1668, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1668x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1668x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1668x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1668x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1668x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1668x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1668x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference10Ideal.lean ====
abbrev S1x1024x1668 : Shape := ⟨3, ![1, 1024, 1668]⟩
abbrev S_ : Shape := ⟨0, ![]⟩
abbrev S1024x1668 : Shape := ⟨2, ![1024, 1668]⟩
abbrev S1668x1024 : Shape := ⟨2, ![1668, 1024]⟩

abbrev nBuf : Space → Nat
  | .hbm => 43
  | .vmem => 0
  | .smem => 0
  | _ => 0

abbrev bufTy : (tb : Table) → Fin (tcTables nBuf tb) → BufTy
  | .hbm, ⟨0, _⟩ => ⟨S1x1024x1668, .f32⟩
  | .hbm, ⟨1, _⟩ => ⟨S1x1024x1668, .f32⟩
  | .hbm, ⟨2, _⟩ => ⟨S1x1024x1668, .f32⟩
  | .hbm, ⟨3, _⟩ => ⟨S1x1024x1668, .f32⟩
  | .hbm, ⟨4, _⟩ => ⟨S_, .f32⟩
  | .hbm, ⟨5, _⟩ => ⟨S1x1024x1668, .f32⟩
  | .hbm, ⟨6, _⟩ => ⟨S1x1024x1668, .f32⟩
  | .hbm, ⟨7, _⟩ => ⟨S_, .f32⟩
  | .hbm, ⟨8, _⟩ => ⟨S1x1024x1668, .f32⟩
  | .hbm, ⟨9, _⟩ => ⟨S1x1024x1668, .f32⟩
  | .hbm, ⟨10, _⟩ => ⟨S1x1024x1668, .f32⟩
  | .hbm, ⟨11, _⟩ => ⟨S_, .f32⟩
  | .hbm, ⟨12, _⟩ => ⟨S1x1024x1668, .f32⟩
  | .hbm, ⟨13, _⟩ => ⟨S1x1024x1668, .f32⟩
  | .hbm, ⟨14, _⟩ => ⟨S1x1024x1668, .f32⟩
  | .hbm, ⟨15, _⟩ => ⟨S_, .f32⟩
  | .hbm, ⟨16, _⟩ => ⟨S1x1024x1668, .f32⟩
  | .hbm, ⟨17, _⟩ => ⟨S1x1024x1668, .f32⟩
  | .hbm, ⟨18, _⟩ => ⟨S1x1024x1668, .f32⟩
  | .hbm, ⟨19, _⟩ => ⟨S_, .f32⟩
  | .hbm, ⟨20, _⟩ => ⟨S1x1024x1668, .f32⟩
  | .hbm, ⟨21, _⟩ => ⟨S1x1024x1668, .f32⟩
  | .hbm, ⟨22, _⟩ => ⟨S_, .f32⟩
  | .hbm, ⟨23, _⟩ => ⟨S1x1024x1668, .f32⟩
  | .hbm, ⟨24, _⟩ => ⟨S1x1024x1668, .f32⟩
  | .hbm, ⟨25, _⟩ => ⟨S1x1024x1668, .f32⟩
  | .hbm, ⟨26, _⟩ => ⟨S_, .f32⟩
  | .hbm, ⟨27, _⟩ => ⟨S1x1024x1668, .f32⟩
  | .hbm, ⟨28, _⟩ => ⟨S1x1024x1668, .f32⟩
  | .hbm, ⟨29, _⟩ => ⟨S1x1024x1668, .f32⟩
  | .hbm, ⟨30, _⟩ => ⟨S_, .f32⟩
  | .hbm, ⟨31, _⟩ => ⟨S1x1024x1668, .f32⟩
  | .hbm, ⟨32, _⟩ => ⟨S1x1024x1668, .f32⟩
  | .hbm, ⟨33, _⟩ => ⟨S1x1024x1668, .f32⟩
  | .hbm, ⟨34, _⟩ => ⟨S_, .f32⟩
  | .hbm, ⟨35, _⟩ => ⟨S1x1024x1668, .f32⟩
  | .hbm, ⟨36, _⟩ => ⟨S1x1024x1668, .f32⟩
  | .hbm, ⟨37, _⟩ => ⟨S1024x1668, .f32⟩
  | .hbm, ⟨38, _⟩ => ⟨S1668x1024, .f32⟩
  | .hbm, ⟨39, _⟩ => ⟨S1024x1668, .f32⟩
  | .hbm, ⟨40, _⟩ => ⟨S1668x1024, .f32⟩
  | .hbm, ⟨41, _⟩ => ⟨S1024x1668, .f32⟩
  | .hbm, ⟨42, _⟩ => ⟨S1668x1024, .f32⟩
  | _, _ => ⟨S1x1024x1668, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Kernel11.lean ====
abbrev S512x1792 : Shape := ⟨2, ![512, 1792]⟩
abbrev S3x512x1792 : Shape := ⟨3, ![3, 512, 1792]⟩
abbrev S256x1792 : Shape := ⟨2, ![256, 1792]⟩
abbrev S3x256x1792 : Shape := ⟨3, ![3, 256, 1792]⟩
abbrev S1x256x1792 : Shape := ⟨3, ![1, 256, 1792]⟩

abbrev nBuf : Space → Nat
  | .hbm => 3
  | .vmem => 6
  | .smem => 0
  | _ => 0

abbrev bufTy : (tb : Table) → Fin (tcTables nBuf tb) → BufTy
  | .hbm, ⟨0, _⟩ => ⟨S512x1792, .f32⟩
  | .hbm, ⟨1, _⟩ => ⟨S3x512x1792, .bf16⟩
  | .hbm, ⟨2, _⟩ => ⟨S512x1792, .f32⟩
  | .local _ .vmem, ⟨0, _⟩ => ⟨S256x1792, .f32⟩
  | .local _ .vmem, ⟨1, _⟩ => ⟨S256x1792, .f32⟩
  | .local _ .vmem, ⟨2, _⟩ => ⟨S3x256x1792, .bf16⟩
  | .local _ .vmem, ⟨3, _⟩ => ⟨S3x256x1792, .bf16⟩
  | .local _ .vmem, ⟨4, _⟩ => ⟨S256x1792, .f32⟩
  | .local _ .vmem, ⟨5, _⟩ => ⟨S256x1792, .f32⟩
  | _, _ => ⟨S512x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11.lean ====
abbrev S512x1792 : Shape := ⟨2, ![512, 1792]⟩
abbrev S3x512x1792 : Shape := ⟨3, ![3, 512, 1792]⟩
abbrev S1x512x1792 : Shape := ⟨3, ![1, 512, 1792]⟩

abbrev nBuf : Space → Nat
  | .hbm => 12
  | .vmem => 0
  | .smem => 0
  | _ => 0

abbrev bufTy : (tb : Table) → Fin (tcTables nBuf tb) → BufTy
  | .hbm, ⟨0, _⟩ => ⟨S512x1792, .f32⟩
  | .hbm, ⟨1, _⟩ => ⟨S3x512x1792, .bf16⟩
  | .hbm, ⟨2, _⟩ => ⟨S3x512x1792, .f32⟩
  | .hbm, ⟨3, _⟩ => ⟨S1x512x1792, .f32⟩
  | .hbm, ⟨4, _⟩ => ⟨S512x1792, .f32⟩
  | .hbm, ⟨5, _⟩ => ⟨S512x1792, .f32⟩
  | .hbm, ⟨6, _⟩ => ⟨S1x512x1792, .f32⟩
  | .hbm, ⟨7, _⟩ => ⟨S512x1792, .f32⟩
  | .hbm, ⟨8, _⟩ => ⟨S512x1792, .f32⟩
  | .hbm, ⟨9, _⟩ => ⟨S1x512x1792, .f32⟩
  | .hbm, ⟨10, _⟩ => ⟨S512x1792, .f32⟩
  | .hbm, ⟨11, _⟩ => ⟨S512x1792, .f32⟩
  | _, _ => ⟨S512x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel12.lean ====
abbrev S4x1668x1024 : Shape := ⟨3, ![4, 1668, 1024]⟩
abbrev S7168x1024 : Shape := ⟨2, ![7168, 1024]⟩
abbrev S4x1668x128 : Shape := ⟨3, ![4, 1668, 128]⟩
abbrev S7168x128 : Shape := ⟨2, ![7168, 128]⟩
abbrev S1x1668x128 : Shape := ⟨3, ![1, 1668, 128]⟩
abbrev S1668x128 : Shape := ⟨2, ![1668, 128]⟩
abbrev S496x128 : Shape := ⟨2, ![496, 128]⟩

abbrev nBuf : Space → Nat
  | .hbm => 2
  | .vmem => 4
  | .smem => 0
  | _ => 0

abbrev bufTy : (tb : Table) → Fin (tcTables nBuf tb) → BufTy
  | .hbm, ⟨0, _⟩ => ⟨S4x1668x1024, .bf16⟩
  | .hbm, ⟨1, _⟩ => ⟨S7168x1024, .bf16⟩
  | .local _ .vmem, ⟨0, _⟩ => ⟨S4x1668x128, .bf16⟩
  | .local _ .vmem, ⟨1, _⟩ => ⟨S4x1668x128, .bf16⟩
  | .local _ .vmem, ⟨2, _⟩ => ⟨S7168x128, .bf16⟩
  | .local _ .vmem, ⟨3, _⟩ => ⟨S7168x128, .bf16⟩
  | _, _ => ⟨S4x1668x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x1668x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7168x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference12.lean ====
abbrev S4x1668x1024 : Shape := ⟨3, ![4, 1668, 1024]⟩
abbrev S6672x1024 : Shape := ⟨2, ![6672, 1024]⟩
abbrev S_ : Shape := ⟨0, ![]⟩
abbrev S496x1024 : Shape := ⟨2, ![496, 1024]⟩
abbrev S7168x1024 : Shape := ⟨2, ![7168, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x1668x1024, .bf16⟩
  | .hbm, ⟨1, _⟩ => ⟨S6672x1024, .bf16⟩
  | .hbm, ⟨2, _⟩ => ⟨S_, .bf16⟩
  | .hbm, ⟨3, _⟩ => ⟨S496x1024, .bf16⟩
  | .hbm, ⟨4, _⟩ => ⟨S7168x1024, .bf16⟩
  | _, _ => ⟨S4x1668x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S2x4096x6672 : Shape := ⟨3, ![2, 4096, 6672]⟩
abbrev S1x64 : Shape := ⟨2, ![1, 64]⟩
abbrev S2x4096x1024 : Shape := ⟨3, ![2, 4096, 1024]⟩
abbrev S64 : Shape := ⟨1, ![64]⟩
abbrev S2x4096x16x64 : Shape := ⟨4, ![2, 4096, 16, 64]⟩
abbrev S_ : Shape := ⟨0, ![]⟩
abbrev S2x4096x16 : Shape := ⟨3, ![2, 4096, 16]⟩
abbrev S2x4096x16x1 : Shape := ⟨4, ![2, 4096, 16, 1]⟩
abbrev S1x1x1x64 : Shape := ⟨4, ![1, 1, 1, 64]⟩
abbrev S2x16x4096x4096 : Shape := ⟨4, ![2, 16, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x16x64x4096 : Shape := ⟨4, ![2, 16, 64, 4096]⟩
abbrev S2x4096x7168 : Shape := ⟨3, ![2, 4096, 7168]⟩
abbrev S1x1x2x64 : Shape := ⟨4, ![1, 1, 2, 64]⟩
abbrev S1x128 : Shape := ⟨2, ![1, 128]⟩
abbrev S8x128 : Shape := ⟨2, ![8, 128]⟩
abbrev S1x4096x128 : Shape := ⟨3, ![1, 4096, 128]⟩
abbrev S32x256x128 : Shape := ⟨3, ![32, 256, 128]⟩
abbrev S4096x128 : Shape := ⟨2, ![4096, 128]⟩
abbrev S256x256 : Shape := ⟨2, ![256, 256]⟩
abbrev S128x128 : Shape := ⟨2, ![128, 128]⟩
abbrev S256x128 : Shape := ⟨2, ![256, 128]⟩
abbrev S2048x128 : Shape := ⟨2, ![2048, 128]⟩
abbrev S1x2048x128 : Shape := ⟨3, ![1, 2048, 128]⟩
abbrev S2048x256 : Shape := ⟨2, ![2048, 256]⟩
abbrev S1x128x128 : Shape := ⟨3, ![1, 128, 128]⟩
abbrev S128 : Shape := ⟨1, ![128]⟩
abbrev S128x1 : Shape := ⟨2, ![128, 1]⟩
abbrev S1x256x128 : Shape := ⟨3, ![1, 256, 128]⟩
abbrev S128x256 : Shape := ⟨2, ![128, 256]⟩
abbrev S1 : Shape := ⟨1, ![1]⟩
abbrev S1x1x1 : Shape := ⟨3, ![1, 1, 1]⟩

abbrev nBuf : Space → Nat
  | .hbm => 119
  | .vmem => 26
  | .smem => 0
  | _ => 0

abbrev bufTy : (tb : Table) → Fin (tcTables nBuf tb) → BufTy
  | .hbm, ⟨0, _⟩ => ⟨S2x4096x6672, .f32⟩
  | .hbm, ⟨1, _⟩ => ⟨S1x64, .f32⟩
  | .hbm, ⟨2, _⟩ => ⟨S1x64, .f32⟩
  | .hbm, ⟨3, _⟩ => ⟨S2x4096x1024, .f32⟩
  | .hbm, ⟨4, _⟩ => ⟨S2x4096x1024, .f32⟩
  | .hbm, ⟨5, _⟩ => ⟨S2x4096x1024, .f32⟩
  | .hbm, ⟨6, _⟩ => ⟨S2x4096x1024, .f32⟩
  | .hbm, ⟨7, _⟩ => ⟨S64, .f32⟩
  | .hbm, ⟨8, _⟩ => ⟨S64, .f32⟩
  | .hbm, ⟨9, _⟩ => ⟨S2x4096x16x64, .f32⟩
  | .hbm, ⟨10, _⟩ => ⟨S2x4096x16x64, .f32⟩
  | .hbm, ⟨11, _⟩ => ⟨S_, .f32⟩
  | .hbm, ⟨12, _⟩ => ⟨S2x4096x16, .f32⟩
  | .hbm, ⟨13, _⟩ => ⟨S2x4096x16x1, .f32⟩
  | .hbm, ⟨14, _⟩ => ⟨S_, .f32⟩
  | .hbm, ⟨15, _⟩ => ⟨S2x4096x16x1, .f32⟩
  | .hbm, ⟨16, _⟩ => ⟨S2x4096x16x1, .f32⟩
  | .hbm, ⟨17, _⟩ => ⟨S_, .f32⟩
  | .hbm, ⟨18, _⟩ => ⟨S2x4096x16x1, .f32⟩
  | .hbm, ⟨19, _⟩ => ⟨S2x4096x16x1, .f32⟩
  | .hbm, ⟨20, _⟩ => ⟨S2x4096x16x1, .f32⟩
  | .hbm, ⟨21, _⟩ => ⟨S2x4096x16x64, .f32⟩
  | .hbm, ⟨22, _⟩ => ⟨S2x4096x16x64, .f32⟩
  | .hbm, ⟨23, _⟩ => ⟨S1x1x1x64, .f32⟩
  | .hbm, ⟨24, _⟩ => ⟨S2x4096x16x64, .f32⟩
  | .hbm, ⟨25, _⟩ => ⟨S2x4096x16x64, .f32⟩
  | .hbm, ⟨26, _⟩ => ⟨S2x4096x16x64, .f32⟩
  | .hbm, ⟨27, _⟩ => ⟨S2x4096x16x64, .f32⟩
  | .hbm, ⟨28, _⟩ => ⟨S_, .f32⟩
  | .hbm, ⟨29, _⟩ => ⟨S2x4096x16, .f32⟩
  | .hbm, ⟨30, _⟩ => ⟨S2x4096x16x1, .f32⟩
  | .hbm, ⟨31, _⟩ => ⟨S_, .f32⟩
  | .hbm, ⟨32, _⟩ => ⟨S2x4096x16x1, .f32⟩
  | .hbm, ⟨33, _⟩ => ⟨S2x4096x16x1, .f32⟩
  | .hbm, ⟨34, _⟩ => ⟨S_, .f32⟩
  | .hbm, ⟨35, _⟩ => ⟨S2x4096x16x1, .f32⟩
  | .hbm, ⟨36, _⟩ => ⟨S2x4096x16x1, .f32⟩
  | .hbm, ⟨37, _⟩ => ⟨S2x4096x16x1, .f32⟩
  | .hbm, ⟨38, _⟩ => ⟨S2x4096x16x64, .f32⟩
  | .hbm, ⟨39, _⟩ => ⟨S2x4096x16x64, .f32⟩
  | .hbm, ⟨40, _⟩ => ⟨S1x1x1x64, .f32⟩
  | .hbm, ⟨41, _⟩ => ⟨S2x4096x16x64, .f32⟩
  | .hbm, ⟨42, _⟩ => ⟨S2x4096x16x64, .f32⟩
  | .hbm, ⟨43, _⟩ => ⟨S2x4096x16x64, .f32⟩
  | .hbm, ⟨44, _⟩ => ⟨S2x16x4096x4096, .f32⟩
  | .hbm, ⟨45, _⟩ => ⟨S_, .f32⟩
  | .hbm, ⟨46, _⟩ => ⟨S2x16x4096x4096, .f32⟩
  | .hbm, ⟨47, _⟩ => ⟨S2x16x4096x4096, .f32⟩
  | .hbm, ⟨48, _⟩ => ⟨S4096, .i32⟩
  | .hbm, ⟨49, _⟩ => ⟨S1x4096, .i32⟩
  | .hbm, ⟨50, _⟩ => ⟨S4096x1, .i32⟩
  | .hbm, ⟨51, _⟩ => ⟨S4096x4096, .i32⟩
  | .hbm, ⟨52, _⟩ => ⟨S4096x4096, .i32⟩
  | .hbm, ⟨53, _⟩ => ⟨S4096x4096, .i1⟩
  | .hbm, ⟨54, _⟩ => ⟨S2x16x4096x4096, .f32⟩
  | .hbm, ⟨55, _⟩ => ⟨S2x16x4096x4096, .f32⟩
  | .hbm, ⟨56, _⟩ => ⟨S_, .f32⟩
  | .hbm, ⟨57, _⟩ => ⟨S2x16x4096x4096, .f32⟩
  | .hbm, ⟨58, _⟩ => ⟨S2x16x4096x4096, .f32⟩
  | .hbm, ⟨59, _⟩ => ⟨S2x16x4096x4096, .f32⟩
  | .hbm, ⟨60, _⟩ => ⟨S2x16x4096x4096, .f32⟩
  | .hbm, ⟨61, _⟩ => ⟨S2x16x4096x4096, .i1⟩
  | .hbm, ⟨62, _⟩ => ⟨S2x16x4096x4096, .f32⟩
  | .hbm, ⟨63, _⟩ => ⟨S2x16x4096x4096, .f32⟩
  | .hbm, ⟨64, _⟩ => ⟨S2x16x4096x4096, .f32⟩
  | .hbm, ⟨65, _⟩ => ⟨S2x16x4096x4096, .f32⟩
  | .hbm, ⟨66, _⟩ => ⟨S2x16x4096x4096, .f32⟩
  | .hbm, ⟨67, _⟩ => ⟨S2x16x4096x4096, .f32⟩
  | .hbm, ⟨68, _⟩ => ⟨S2x16x4096x4096, .f32⟩
  | .hbm, ⟨69, _⟩ => ⟨S2x16x4096x4096, .f32⟩
  | .hbm, ⟨70, _⟩ => ⟨S2x16x4096x4096, .f32⟩
  | .hbm, ⟨71, _⟩ => ⟨S_, .f32⟩
  | .hbm, ⟨72, _⟩ => ⟨S_, .f32⟩
  | .hbm, ⟨73, _⟩ => ⟨S2x16x4096x4096, .i1⟩
  | .hbm, ⟨74, _⟩ => ⟨S2x16x4096x4096, .f32⟩
  | .hbm, ⟨75, _⟩ => ⟨S2x16x4096x4096, .f32⟩
  | .hbm, ⟨76, _⟩ => ⟨S_, .f32⟩
  | .hbm, ⟨77, _⟩ => ⟨S_, .f32⟩
  | .hbm, ⟨78, _⟩ => ⟨S2x16x4096x4096, .f32⟩
  | .hbm, ⟨79, _⟩ => ⟨S2x16x4096x4096, .f32⟩
  | .hbm, ⟨80, _⟩ => ⟨S2x16x4096x4096, .f32⟩
  | .hbm, ⟨81, _⟩ => ⟨S_, .f32⟩
  | .hbm, ⟨82, _⟩ => ⟨S2x16x4096x4096, .f32⟩
  | .hbm, ⟨83, _⟩ => ⟨S2x16x4096x4096, .f32⟩
  | .hbm, ⟨84, _⟩ => ⟨S2x16x4096x4096, .f32⟩
  | .hbm, ⟨85, _⟩ => ⟨S2x16x4096x4096, .f32⟩
  | .hbm, ⟨86, _⟩ => ⟨S2x16x4096x4096, .i1⟩
  | .hbm, ⟨87, _⟩ => ⟨S2x16x4096x4096, .f32⟩
  | .hbm, ⟨88, _⟩ => ⟨S2x16x4096x4096, .f32⟩
  | .hbm, ⟨89, _⟩ => ⟨S2x16x4096x4096, .f32⟩
  | .hbm, ⟨90, _⟩ => ⟨S2x16x4096x4096, .f32⟩
  | .hbm, ⟨91, _⟩ => ⟨S2x16x4096x4096, .f32⟩
  | .hbm, ⟨92, _⟩ => ⟨S2x16x4096x4096, .f32⟩
  | .hbm, ⟨93, _⟩ => ⟨S2x16x4096x4096, .f32⟩
  | .hbm, ⟨94, _⟩ => ⟨S2x16x4096x4096, .f32⟩
  | .hbm, ⟨95, _⟩ => ⟨S2x16x4096x4096, .f32⟩
  | .hbm, ⟨96, _⟩ => ⟨S2x16x4096x4096, .f32⟩
  | .hbm, ⟨97, _⟩ => ⟨S2x16x4096x4096, .f32⟩
  | .hbm, ⟨98, _⟩ => ⟨S_, .f32⟩
  | .hbm, ⟨99, _⟩ => ⟨S_, .f32⟩
  | .hbm, ⟨100, _⟩ => ⟨S2x16x4096x4096, .i1⟩
  | .hbm, ⟨101, _⟩ => ⟨S2x16x4096x4096, .f32⟩
  | .hbm, ⟨102, _⟩ => ⟨S2x16x4096x4096, .f32⟩
  | .hbm, ⟨103, _⟩ => ⟨S2x16x64x4096, .f32⟩
  | .hbm, ⟨104, _⟩ => ⟨S2x4096x16x64, .f32⟩
  | .hbm, ⟨105, _⟩ => ⟨S2x4096x1024, .f32⟩
  | .hbm, ⟨106, _⟩ => ⟨S_, .i32⟩
  | .hbm, ⟨107, _⟩ => ⟨S_, .f32⟩
  | .hbm, ⟨108, _⟩ => ⟨S2x4096x7168, .f32⟩
  | .hbm, ⟨109, _⟩ => ⟨S1x1x1x64, .f32⟩
  | .hbm, ⟨110, _⟩ => ⟨S1x1x2x64, .f32⟩
  | .hbm, ⟨111, _⟩ => ⟨S1x128, .f32⟩
  | .hbm, ⟨112, _⟩ => ⟨S1x1x1x64, .f32⟩
  | .hbm, ⟨113, _⟩ => ⟨S1x1x2x64, .f32⟩
  | .hbm, ⟨114, _⟩ => ⟨S1x128, .f32⟩
  | .hbm, ⟨115, _⟩ => ⟨S2x4096x1024, .bf16⟩
  | .hbm, ⟨116, _⟩ => ⟨S2x4096x1024, .bf16⟩
  | .hbm, ⟨117, _⟩ => ⟨S2x4096x1024, .bf16⟩
  | .hbm, ⟨118, _⟩ => ⟨S8x128, .f32⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x4096x128, .f32⟩
  | .local _ .vmem, ⟨7, _⟩ => ⟨S1x4096x128, .f32⟩
  | .local _ .vmem, ⟨8, _⟩ => ⟨S1x4096x128, .f32⟩
  | .local _ .vmem, ⟨9, _⟩ => ⟨S1x4096x128, .f32⟩
  | .local _ .vmem, ⟨10, _⟩ => ⟨S1x128, .f32⟩
  | .local _ .vmem, ⟨11, _⟩ => ⟨S1x128, .f32⟩
  | .local _ .vmem, ⟨12, _⟩ => ⟨S1x4096x128, .bf16⟩
  | .local _ .vmem, ⟨13, _⟩ => ⟨S1x4096x128, .bf16⟩
  | .local _ .vmem, ⟨14, _⟩ => ⟨S1x4096x128, .bf16⟩
  | .local _ .vmem, ⟨15, _⟩ => ⟨S1x4096x128, .bf16⟩
  | .local _ .vmem, ⟨16, _⟩ => ⟨S1x4096x128, .bf16⟩
  | .local _ .vmem, ⟨17, _⟩ => ⟨S1x4096x128, .bf16⟩
  | .local _ .vmem, ⟨18, _⟩ => ⟨S8x128, .f32⟩
  | .local _ .vmem, ⟨19, _⟩ => ⟨S32x256x128, .bf16⟩
  | .local _ .vmem, ⟨20, _⟩ => ⟨S32x256x128, .bf16⟩
  | .local _ .vmem, ⟨21, _⟩ => ⟨S32x256x128, .bf16⟩
  | .local _ .vmem, ⟨22, _⟩ => ⟨S32x256x128, .bf16⟩
  | .local _ .vmem, ⟨23, _⟩ => ⟨S4096x128, .f32⟩
  | .local _ .vmem, ⟨24, _⟩ => ⟨S4096x128, .f32⟩
  | .local _ .vmem, ⟨25, _⟩ => ⟨S4096x128, .f32⟩
  | _, _ => ⟨S2x4096x6672, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_call0_v0 : Ref sig .tc := ⟨.hbm, 55, rfl⟩
abbrev main_call0_call0_cst : Ref sig .tc := ⟨.hbm, 56, rfl⟩
abbrev main_call0_call0_v0 : Ref sig .tc := ⟨.hbm, 57, rfl⟩
abbrev main_call0_call0_v1 : Ref sig .tc := ⟨.hbm, 58, rfl⟩
abbrev main_call0_call0_v2 : Ref sig .tc := ⟨.hbm, 59, rfl⟩
abbrev main_call0_call0_v3 : Ref sig .tc := ⟨.hbm, 60, rfl⟩
abbrev main_call0_call0_v4 : Ref sig .tc := ⟨.hbm, 61, rfl⟩
abbrev main_call0_call0_v5 : Ref sig .tc := ⟨.hbm, 62, rfl⟩
abbrev main_call0_call0_v6 : Ref sig .tc := ⟨.hbm, 63, rfl⟩
abbrev main_call0_call0_v7 : Ref sig .tc := ⟨.hbm, 64, rfl⟩
abbrev main_call0_call0_v8 : Ref sig .tc := ⟨.hbm, 65, rfl⟩
abbrev main_call0_call0_v9 : Ref sig .tc := ⟨.hbm, 66, rfl⟩
abbrev main_call0_call0_v10 : Ref sig .tc := ⟨.hbm, 67, rfl⟩
abbrev main_call0_call0_v11 : Ref sig .tc := ⟨.hbm, 68, rfl⟩
abbrev main_call0_v1 : Ref sig .tc := ⟨.hbm, 69, rfl⟩
abbrev main_v44 : Ref sig .tc := ⟨.hbm, 70, rfl⟩
abbrev main_cst_6 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v45 : Ref sig .tc := ⟨.hbm, 75, rfl⟩
abbrev main_call2_cst : Ref sig .tc := ⟨.hbm, 76, rfl⟩
abbrev main_call2_v0 : Ref sig .tc := ⟨.hbm, 77, rfl⟩
abbrev main_v46 : Ref sig .tc := ⟨.hbm, 78, rfl⟩
abbrev main_v47 : Ref sig .tc := ⟨.hbm, 79, rfl⟩
abbrev main_call3_v0 : Ref sig .tc := ⟨.hbm, 80, rfl⟩
abbrev main_call3_call0_cst : Ref sig .tc := ⟨.hbm, 81, rfl⟩
abbrev main_call3_call0_v0 : Ref sig .tc := ⟨.hbm, 82, rfl⟩
abbrev main_call3_call0_v1 : Ref sig .tc := ⟨.hbm, 83, rfl⟩
abbrev main_call3_call0_v2 : Ref sig .tc := ⟨.hbm, 84, rfl⟩
abbrev main_call3_call0_v3 : Ref sig .tc := ⟨.hbm, 85, rfl⟩
abbrev main_call3_call0_v4 : Ref sig .tc := ⟨.hbm, 86, rfl⟩
abbrev main_call3_call0_v5 : Ref sig .tc := ⟨.hbm, 87, rfl⟩
abbrev main_call3_call0_v6 : Ref sig .tc := ⟨.hbm, 88, rfl⟩
abbrev main_call3_call0_v7 : Ref sig .tc := ⟨.hbm, 89, rfl⟩
abbrev main_call3_call0_v8 : Ref sig .tc := ⟨.hbm, 90, rfl⟩
abbrev main_call3_call0_v9 : Ref sig .tc := ⟨.hbm, 91, rfl⟩
abbrev main_call3_call0_v10 : Ref sig .tc := ⟨.hbm, 92, rfl⟩
abbrev main_call3_call0_v11 : Ref sig .tc := ⟨.hbm, 93, rfl⟩
abbrev main_call3_v1 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_cst_7 : Ref sig .tc := ⟨.hbm, 98, rfl⟩
abbrev main_call4_v0 : Ref sig .tc := ⟨.hbm, 99, rfl⟩
abbrev main_call4_v1 : Ref sig .tc := ⟨.hbm, 100, rfl⟩
abbrev main_call4_v2 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_c : Ref sig .tc := ⟨.hbm, 106, rfl⟩
abbrev main_call5_v0 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62_0 : Ref sig .tc := ⟨.hbm, 115, rfl⟩
abbrev main_v62_1 : Ref sig .tc := ⟨.hbm, 116, rfl⟩
abbrev main_v62_2 : Ref sig .tc := ⟨.hbm, 117, rfl⟩
abbrev main_v62_3 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_25 : BitVec 32 := 0#32
  let c2_i32 : BitVec 32 := 2#32
  let v90 : BitVec 32 := Scalar.addi c0_i32_25 c2_i32
  let c1_i32_26 : BitVec 32 := 1#32
  ⟨c0_i32_25, v90, c1_i32_26⟩
def k0_mult1 (k0_t1 : Fin k0_t1_loop.trips) : BitVec 32 :=
  let c0_i32_25 : BitVec 32 := 0#32
  let c1_i32_26 : BitVec 32 := 1#32
  let arg20 : BitVec 32 := Scf.iv c0_i32_25 c1_i32_26 k0_t1
  let c2048_i32 : BitVec 32 := 2048#32
  let v641 : BitVec 32 := Scalar.muli arg20 c2048_i32
  v641
def k0_off1 (k0_t1 : Fin k0_t1_loop.trips) : Fin 3 → Nat :=
  let c0_245 : Index := 0#32
  let c0_i32_25 : BitVec 32 := 0#32
  let c1_i32_26 : BitVec 32 := 1#32
  let arg20 : BitVec 32 := Scf.iv c0_i32_25 c1_i32_26 k0_t1
  let c2048_i32 : BitVec 32 := 2048#32
  let v641 : BitVec 32 := Scalar.muli arg20 c2048_i32
  let v642 : BitVec 32 := v641
  let v643 : Index := Scalar.indexCast v642
  let c0_246 : Index := 0#32
  ![0, v643.toNat, 0]
def k0_off2 (k0_t1 : Fin k0_t1_loop.trips) (c0_i32_255 : BitVec 32) : Fin 3 → Nat :=
  let c0_i32_25 : BitVec 32 := 0#32
  let c1_i32_26 : BitVec 32 := 1#32
  let arg20 : BitVec 32 := Scf.iv c0_i32_25 c1_i32_26 k0_t1
  let c16_i32 : BitVec 32 := 16#32
  let v671 : BitVec 32 := Scalar.muli arg20 c16_i32
  let v672 : BitVec 32 := Scalar.addi v671 c0_i32_255
  let v673 : Index := Scalar.indexCast v672
  let c0_256 : Index := 0#32
  let c0_257 : Index := 0#32
  ![v673.toNat, 0, 0]
def k0_off3 (k0_t1 : Fin k0_t1_loop.trips) (c0_i32_259 : BitVec 32) : Fin 3 → Nat :=
  let c0_i32_25 : BitVec 32 := 0#32
  let c1_i32_26 : BitVec 32 := 1#32
  let arg20 : BitVec 32 := Scf.iv c0_i32_25 c1_i32_26 k0_t1
  let c16_i32_258 : BitVec 32 := 16#32
  let v678 : BitVec 32 := Scalar.muli arg20 c16_i32_258
  let v679 : BitVec 32 := Scalar.addi v678 c0_i32_259
  let v680 : Index := Scalar.indexCast v679
  let c128_260 : Index := 128#32
  let c0_261 : Index := 0#32
  ![v680.toNat, 128, 0]
@[reducible] def k0_t2_loop : Scf.Loop 32 :=
  let c0_i32_39 : BitVec 32 := 0#32
  let c2_i32_40 : BitVec 32 := 2#32
  let v123 : BitVec 32 := Scalar.addi c0_i32_39 c2_i32_40
  let c1_i32_41 : BitVec 32 := 1#32
  ⟨c0_i32_39, v123, c1_i32_41⟩
def k0_mult2 (k0_t2 : Fin k0_t2_loop.trips) : BitVec 32 :=
  let c0_i32_39 : BitVec 32 := 0#32
  let c1_i32_41 : BitVec 32 := 1#32
  let arg20 : BitVec 32 := Scf.iv c0_i32_39 c1_i32_41 k0_t2
  let c2048_i32 : BitVec 32 := 2048#32
  let v641 : BitVec 32 := Scalar.muli arg20 c2048_i32
  v641
def k0_off4 (k0_t2 : Fin k0_t2_loop.trips) : Fin 3 → Nat :=
  let c0_245 : Index := 0#32
  let c0_i32_39 : BitVec 32 := 0#32
  let c1_i32_41 : BitVec 32 := 1#32
  let arg20 : BitVec 32 := Scf.iv c0_i32_39 c1_i32_41 k0_t2
  let c2048_i32 : BitVec 32 := 2048#32
  let v641 : BitVec 32 := Scalar.muli arg20 c2048_i32
  let v642 : BitVec 32 := v641
  let v643 : Index := Scalar.indexCast v642
  let c0_246 : Index := 0#32
  ![0, v643.toNat, 0]
def k0_off5 (k0_t2 : Fin k0_t2_loop.trips) (c0_i32_254 : BitVec 32) : Fin 3 → Nat :=
  let c0_i32_39 : BitVec 32 := 0#32
  let c1_i32_41 : BitVec 32 := 1#32
  let arg20 : BitVec 32 := Scf.iv c0_i32_39 c1_i32_41 k0_t2
  let c16_i32 : BitVec 32 := 16#32
  let v669 : BitVec 32 := Scalar.muli arg20 c16_i32
  let v670 : BitVec 32 := Scalar.addi v669 c0_i32_254
  let v671 : Index := Scalar.indexCast v670
  let c0_255 : Index := 0#32
  let c0_256 : Index := 0#32
  ![v671.toNat, 0, 0]
def k0_off6 (k0_t2 : Fin k0_t2_loop.trips) (c0_i32_258 : BitVec 32) : Fin 3 → Nat :=
  let c0_i32_39 : BitVec 32 := 0#32
  let c1_i32_41 : BitVec 32 := 1#32
  let arg20 : BitVec 32 := Scf.iv c0_i32_39 c1_i32_41 k0_t2
  let c16_i32_257 : BitVec 32 := 16#32
  let v676 : BitVec 32 := Scalar.muli arg20 c16_i32_257
  let v677 : BitVec 32 := Scalar.addi v676 c0_i32_258
  let v678 : Index := Scalar.indexCast v677
  let c128_259 : Index := 128#32
  let c0_260 : Index := 0#32
  ![v678.toNat, 128, 0]
@[reducible] def k0_t3_loop : Scf.Loop 32 :=
  let c0_i32_44 : BitVec 32 := 0#32
  let c2_i32_45 : BitVec 32 := 2#32
  let v127 : BitVec 32 := Scalar.addi c0_i32_44 c2_i32_45
  let c1_i32_46 : BitVec 32 := 1#32
  ⟨c0_i32_44, v127, c1_i32_46⟩
def k0_mult3 (k0_t3 : Fin k0_t3_loop.trips) : BitVec 32 :=
  let c0_i32_44 : BitVec 32 := 0#32
  let c1_i32_46 : BitVec 32 := 1#32
  let arg20 : BitVec 32 := Scf.iv c0_i32_44 c1_i32_46 k0_t3
  let c2048_i32 : BitVec 32 := 2048#32
  let v641 : BitVec 32 := Scalar.muli arg20 c2048_i32
  v641
def k0_off7 (k0_t3 : Fin k0_t3_loop.trips) : Fin 3 → Nat :=
  let c0_245 : Index := 0#32
  let c0_i32_44 : BitVec 32 := 0#32
  let c1_i32_46 : BitVec 32 := 1#32
  let arg20 : BitVec 32 := Scf.iv c0_i32_44 c1_i32_46 k0_t3
  let c2048_i32 : BitVec 32 := 2048#32
  let v641 : BitVec 32 := Scalar.muli arg20 c2048_i32
  let v642 : BitVec 32 := v641
  let v643 : Index := Scalar.indexCast v642
  let c0_246 : Index := 0#32
  ![0, v643.toNat, 0]
def k0_off8 (k0_t3 : Fin k0_t3_loop.trips) (c0_i32_249 : BitVec 32) : Fin 3 → Nat :=
  let c0_i32_44 : BitVec 32 := 0#32
  let c1_i32_46 : BitVec 32 := 1#32
  let arg20 : BitVec 32 := Scf.iv c0_i32_44 c1_i32_46 k0_t3
  let c16_i32 : BitVec 32 := 16#32
  let v653 : BitVec 32 := Scalar.muli arg20 c16_i32
  let v654 : BitVec 32 := Scalar.addi v653 c0_i32_249
  let v655 : Index := Scalar.indexCast v654
  let c0_250 : Index := 0#32
  let c0_251 : Index := 0#32
  ![v655.toNat, 0, 0]
def k0_off9 (k0_t3 : Fin k0_t3_loop.trips) (c0_i32_253 : BitVec 32) : Fin 3 → Nat :=
  let c0_i32_44 : BitVec 32 := 0#32
  let c1_i32_46 : BitVec 32 := 1#32
  let arg20 : BitVec 32 := Scf.iv c0_i32_44 c1_i32_46 k0_t3
  let c16_i32_252 : BitVec 32 := 16#32
  let v660 : BitVec 32 := Scalar.muli arg20 c16_i32_252
  let v661 : BitVec 32 := Scalar.addi v660 c0_i32_253
  let v662 : Index := Scalar.indexCast v661
  let c128_254 : Index := 128#32
  let c0_255 : Index := 0#32
  ![v662.toNat, 128, 0]
@[reducible] def k0_t4_loop : Scf.Loop 32 :=
  let c0_i32_49 : BitVec 32 := 0#32
  let c2_i32_50 : BitVec 32 := 2#32
  let v131 : BitVec 32 := Scalar.addi c0_i32_49 c2_i32_50
  let c1_i32_51 : BitVec 32 := 1#32
  ⟨c0_i32_49, v131, c1_i32_51⟩
def k0_mult4 (k0_t4 : Fin k0_t4_loop.trips) : BitVec 32 :=
  let c0_i32_49 : BitVec 32 := 0#32
  let c1_i32_51 : BitVec 32 := 1#32
  let arg20 : BitVec 32 := Scf.iv c0_i32_49 c1_i32_51 k0_t4
  let c2048_i32 : BitVec 32 := 2048#32
  let v641 : BitVec 32 := Scalar.muli arg20 c2048_i32
  v641
def k0_off10 (k0_t4 : Fin k0_t4_loop.trips) : Fin 3 → Nat :=
  let c0_245 : Index := 0#32
  let c0_i32_49 : BitVec 32 := 0#32
  let c1_i32_51 : BitVec 32 := 1#32
  let arg20 : BitVec 32 := Scf.iv c0_i32_49 c1_i32_51 k0_t4
  let c2048_i32 : BitVec 32 := 2048#32
  let v641 : BitVec 32 := Scalar.muli arg20 c2048_i32
  let v642 : BitVec 32 := v641
  let v643 : Index := Scalar.indexCast v642
  let c0_246 : Index := 0#32
  ![0, v643.toNat, 0]
def k0_off11 (k0_t4 : Fin k0_t4_loop.trips) (c0_i32_249 : BitVec 32) : Fin 3 → Nat :=
  let c0_i32_49 : BitVec 32 := 0#32
  let c1_i32_51 : BitVec 32 := 1#32
  let arg20 : BitVec 32 := Scf.iv c0_i32_49 c1_i32_51 k0_t4
  let c16_i32 : BitVec 32 := 16#32
  let v653 : BitVec 32 := Scalar.muli arg20 c16_i32
  let v654 : BitVec 32 := Scalar.addi v653 c0_i32_249
  let v655 : Index := Scalar.indexCast v654
  let c0_250 : Index := 0#32
  let c0_251 : Index := 0#32
  ![v655.toNat, 0, 0]
def k0_off12 (k0_t4 : Fin k0_t4_loop.trips) (c0_i32_253 : BitVec 32) : Fin 3 → Nat :=
  let c0_i32_49 : BitVec 32 := 0#32
  let c1_i32_51 : BitVec 32 := 1#32
  let arg20 : BitVec 32 := Scf.iv c0_i32_49 c1_i32_51 k0_t4
  let c16_i32_252 : BitVec 32 := 16#32
  let v660 : BitVec 32 := Scalar.muli arg20 c16_i32_252
  let v661 : BitVec 32 := Scalar.addi v660 c0_i32_253
  let v662 : Index := Scalar.indexCast v661
  let c128_254 : Index := 128#32
  let c0_255 : Index := 0#32
  ![v662.toNat, 128, 0]
@[reducible] def k0_t5_loop : Scf.Loop 32 :=
  let c0_i32_56 : BitVec 32 := 0#32
  let c32_i32 : BitVec 32 := 32#32
  let v137 : BitVec 32 := Scalar.addi c0_i32_56 c32_i32
  let c1_i32_57 : BitVec 32 := 1#32
  ⟨c0_i32_56, v137, c1_i32_57⟩
def k0_mult5 (k0_t5 : Fin k0_t5_loop.trips) : BitVec 32 :=
  let c0_i32_56 : BitVec 32 := 0#32
  let c1_i32_57 : BitVec 32 := 1#32
  let arg20 : BitVec 32 := Scf.iv c0_i32_56 c1_i32_57 k0_t5
  let c128_i32_245 : BitVec 32 := 128#32
  let v641 : BitVec 32 := Scalar.muli arg20 c128_i32_245
  v641
def k0_off13 (k0_t5 : Fin k0_t5_loop.trips) : Fin 2 → Nat :=
  let c0_i32_56 : BitVec 32 := 0#32
  let c1_i32_57 : BitVec 32 := 1#32
  let arg20 : BitVec 32 := Scf.iv c0_i32_56 c1_i32_57 k0_t5
  let c128_i32_245 : BitVec 32 := 128#32
  let v641 : BitVec 32 := Scalar.muli arg20 c128_i32_245
  let v642 : BitVec 32 := v641
  let v644 : Index := Scalar.indexCast v642
  let c0_247 : Index := 0#32
  ![v644.toNat, 0]
def k0_off14 (arg20 : BitVec 32) (c0_i32_245 : BitVec 32) : Fin 3 → Nat :=
  let v641 : BitVec 32 := Scalar.subi arg20 c0_i32_245
  let v643 : Index := Scalar.indexCast v641
  let c0_247 : Index := 0#32
  let c0_248 : Index := 0#32
  ![v643.toNat, 0, 0]

def k0_mult6 (arg20 : BitVec 32) : BitVec 32 :=
  let c0_i32_245 : BitVec 32 := 0#32
  let v641 : BitVec 32 := Scalar.subi arg20 c0_i32_245
  let c128_i32_279 : BitVec 32 := 128#32
  let v863 : BitVec 32 := Scalar.muli v641 c128_i32_279
  v863
def k0_off15 (arg20 : BitVec 32) (c0_i32_245 : BitVec 32) : Fin 2 → Nat :=
  let v641 : BitVec 32 := Scalar.subi arg20 c0_i32_245
  let c128_i32_279 : BitVec 32 := 128#32
  let v863 : BitVec 32 := Scalar.muli v641 c128_i32_279
  let v864 : BitVec 32 := v863
  let v865 : Index := Scalar.indexCast v864
  let c0_280 : Index := 0#32
  ![v865.toNat, 0]
def k0_mult7 (arg20 : BitVec 32) : BitVec 32 :=
  let c1_i32_246 : BitVec 32 := 1#32
  let v642 : BitVec 32 := Scalar.subi arg20 c1_i32_246
  let c128_i32_295 : BitVec 32 := 128#32
  let v893 : BitVec 32 := Scalar.muli v642 c128_i32_295
  v893

def k0_chk1 (arg20 : BitVec 32) : Prop :=
  (∀ (r : Fin 2), ∀ a, (k0_off14 arg20 (BitVec.ofNat 32 r.val)) a + S1x256x128.size a ≤ S32x256x128.size a) ∧
  (128 ∣ (k0_mult6 arg20).toNat) ∧
  (∀ (r : Fin 2), ∀ a, (k0_off15 arg20 (BitVec.ofNat 32 r.val)) a + S128x128.size a ≤ S4096x128.size a) ∧
  (128 ∣ (k0_mult7 arg20).toNat)
theorem k0_off14_inb : ∀ (arg20 : BitVec 32) (k0_hw1 : k0_chk1 arg20), ∀ (r : Fin 2), ∀ a, (k0_off14 arg20 (BitVec.ofNat 32 r.val)) a + S1x256x128.size a ≤ S32x256x128.size a := fun arg20 k0_hw1 r => k0_hw1.1 r
theorem k0_mult6_dvd : ∀ (arg20 : BitVec 32) (k0_hw1 : k0_chk1 arg20), 128 ∣ (k0_mult6 arg20).toNat := fun arg20 k0_hw1 => k0_hw1.2.1
theorem k0_off15_inb : ∀ (arg20 : BitVec 32) (k0_hw1 : k0_chk1 arg20), ∀ (r : Fin 2), ∀ a, (k0_off15 arg20 (BitVec.ofNat 32 r.val)) a + S128x128.size a ≤ S4096x128.size a := fun arg20 k0_hw1 r => k0_hw1.2.2.1 r
theorem k0_mult7_dvd : ∀ (arg20 : BitVec 32) (k0_hw1 : k0_chk1 arg20), 128 ∣ (k0_mult7 arg20).toNat := fun arg20 k0_hw1 => k0_hw1.2.2.2

def k0_off16 (arg20 : BitVec 32) : Fin 3 → Nat :=
  let c0_i32_245 : BitVec 32 := 0#32
  let v641 : BitVec 32 := Scalar.subi arg20 c0_i32_245
  let v642 : Index := Scalar.indexCast v641
  let c0_246 : Index := 0#32
  let c0_247 : Index := 0#32
  ![v642.toNat, 0, 0]

def k0_mult8 (arg20 : BitVec 32) : BitVec 32 :=
  let c0_i32_245 : BitVec 32 := 0#32
  let v641 : BitVec 32 := Scalar.subi arg20 c0_i32_245
  let c128_i32_262 : BitVec 32 := 128#32
  let v752 : BitVec 32 := Scalar.muli v641 c128_i32_262
  v752
def k0_off17 (arg20 : BitVec 32) : Fin 2 → Nat :=
  let c0_i32_245 : BitVec 32 := 0#32
  let v641 : BitVec 32 := Scalar.subi arg20 c0_i32_245
  let c128_i32_262 : BitVec 32 := 128#32
  let v752 : BitVec 32 := Scalar.muli v641 c128_i32_262
  let v753 : BitVec 32 := v752
  let v754 : Index := Scalar.indexCast v753
  let c0_263 : Index := 0#32
  ![v754.toNat, 0]

def k0_chk2 (arg20 : BitVec 32) : Prop :=
  (∀ a, (k0_off16 arg20) a + S1x256x128.size a ≤ S32x256x128.size a) ∧
  (128 ∣ (k0_mult8 arg20).toNat) ∧
  (∀ a, (k0_off17 arg20) a + S128x128.size a ≤ S4096x128.size a)
theorem k0_off16_inb : ∀ (arg20 : BitVec 32) (k0_hw2 : k0_chk2 arg20), ∀ a, (k0_off16 arg20) a + S1x256x128.size a ≤ S32x256x128.size a := fun arg20 k0_hw2 => k0_hw2.1
theorem k0_mult8_dvd : ∀ (arg20 : BitVec 32) (k0_hw2 : k0_chk2 arg20), 128 ∣ (k0_mult8 arg20).toNat := fun arg20 k0_hw2 => k0_hw2.2.1
theorem k0_off17_inb : ∀ (arg20 : BitVec 32) (k0_hw2 : k0_chk2 arg20), ∀ a, (k0_off17 arg20) a + S128x128.size a ≤ S4096x128.size a := fun arg20 k0_hw2 => k0_hw2.2.2

def k0_off18 (arg20 : BitVec 32) (c0_i32_245 : BitVec 32) : Fin 3 → Nat :=
  let v641 : BitVec 32 := Scalar.subi arg20 c0_i32_245
  let v643 : Index := Scalar.indexCast v641
  let c0_247 : Index := 0#32
  let c0_248 : Index := 0#32
  ![v643.toNat, 0, 0]

def k0_mult9 (arg20 : BitVec 32) : BitVec 32 :=
  let c0_i32_245 : BitVec 32 := 0#32
  let v641 : BitVec 32 := Scalar.subi arg20 c0_i32_245
  let c128_i32_279 : BitVec 32 := 128#32
  let v863 : BitVec 32 := Scalar.muli v641 c128_i32_279
  v863
def k0_off19 (arg20 : BitVec 32) (c0_i32_245 : BitVec 32) : Fin 2 → Nat :=
  let v641 : BitVec 32 := Scalar.subi arg20 c0_i32_245
  let c128_i32_279 : BitVec 32 := 128#32
  let v863 : BitVec 32 := Scalar.muli v641 c128_i32_279
  let v864 : BitVec 32 := v863
  let v865 : Index := Scalar.indexCast v864
  let c0_280 : Index := 0#32
  ![v865.toNat, 0]
def k0_mult10 (arg20 : BitVec 32) : BitVec 32 :=
  let c1_i32_246 : BitVec 32 := 1#32
  let v642 : BitVec 32 := Scalar.subi arg20 c1_i32_246
  let c128_i32_295 : BitVec 32 := 128#32
  let v893 : BitVec 32 := Scalar.muli v642 c128_i32_295
  v893

def k0_chk3 (arg20 : BitVec 32) : Prop :=
  (∀ (r : Fin 2), ∀ a, (k0_off18 arg20 (BitVec.ofNat 32 r.val)) a + S1x256x128.size a ≤ S32x256x128.size a) ∧
  (128 ∣ (k0_mult9 arg20).toNat) ∧
  (∀ (r : Fin 2), ∀ a, (k0_off19 arg20 (BitVec.ofNat 32 r.val)) a + S128x128.size a ≤ S4096x128.size a) ∧
  (128 ∣ (k0_mult10 arg20).toNat)
theorem k0_off18_inb : ∀ (arg20 : BitVec 32) (k0_hw3 : k0_chk3 arg20), ∀ (r : Fin 2), ∀ a, (k0_off18 arg20 (BitVec.ofNat 32 r.val)) a + S1x256x128.size a ≤ S32x256x128.size a := fun arg20 k0_hw3 r => k0_hw3.1 r
theorem k0_mult9_dvd : ∀ (arg20 : BitVec 32) (k0_hw3 : k0_chk3 arg20), 128 ∣ (k0_mult9 arg20).toNat := fun arg20 k0_hw3 => k0_hw3.2.1
theorem k0_off19_inb : ∀ (arg20 : BitVec 32) (k0_hw3 : k0_chk3 arg20), ∀ (r : Fin 2), ∀ a, (k0_off19 arg20 (BitVec.ofNat 32 r.val)) a + S128x128.size a ≤ S4096x128.size a := fun arg20 k0_hw3 r => k0_hw3.2.2.1 r
theorem k0_mult10_dvd : ∀ (arg20 : BitVec 32) (k0_hw3 : k0_chk3 arg20), 128 ∣ (k0_mult10 arg20).toNat := fun arg20 k0_hw3 => k0_hw3.2.2.2

def k0_off20 (arg20 : BitVec 32) : Fin 3 → Nat :=
  let c0_i32_245 : BitVec 32 := 0#32
  let v641 : BitVec 32 := Scalar.subi arg20 c0_i32_245
  let v642 : Index := Scalar.indexCast v641
  let c0_246 : Index := 0#32
  let c0_247 : Index := 0#32
  ![v642.toNat, 0, 0]

def k0_mult11 (arg20 : BitVec 32) : BitVec 32 :=
  let c0_i32_245 : BitVec 32 := 0#32
  let v641 : BitVec 32 := Scalar.subi arg20 c0_i32_245
  let c128_i32_262 : BitVec 32 := 128#32
  let v752 : BitVec 32 := Scalar.muli v641 c128_i32_262
  v752
def k0_off21 (arg20 : BitVec 32) : Fin 2 → Nat :=
  let c0_i32_245 : BitVec 32 := 0#32
  let v641 : BitVec 32 := Scalar.subi arg20 c0_i32_245
  let c128_i32_262 : BitVec 32 := 128#32
  let v752 : BitVec 32 := Scalar.muli v641 c128_i32_262
  let v753 : BitVec 32 := v752
  let v754 : Index := Scalar.indexCast v753
  let c0_263 : Index := 0#32
  ![v754.toNat, 0]

def k0_chk4 (arg20 : BitVec 32) : Prop :=
  (∀ a, (k0_off20 arg20) a + S1x256x128.size a ≤ S32x256x128.size a) ∧
  (128 ∣ (k0_mult11 arg20).toNat) ∧
  (∀ a, (k0_off21 arg20) a + S128x128.size a ≤ S4096x128.size a)
theorem k0_off20_inb : ∀ (arg20 : BitVec 32) (k0_hw4 : k0_chk4 arg20), ∀ a, (k0_off20 arg20) a + S1x256x128.size a ≤ S32x256x128.size a := fun arg20 k0_hw4 => k0_hw4.1
theorem k0_mult11_dvd : ∀ (arg20 : BitVec 32) (k0_hw4 : k0_chk4 arg20), 128 ∣ (k0_mult11 arg20).toNat := fun arg20 k0_hw4 => k0_hw4.2.1
theorem k0_off21_inb : ∀ (arg20 : BitVec 32) (k0_hw4 : k0_chk4 arg20), ∀ a, (k0_off21 arg20) a + S128x128.size a ≤ S4096x128.size a := fun arg20 k0_hw4 => k0_hw4.2.2

@[reducible] def k0_t6_loop : Scf.Loop 32 :=
  let c1_i32_229 : BitVec 32 := 1#32
  let c15_i32 : BitVec 32 := 15#32
  let v629 : BitVec 32 := Scalar.addi c1_i32_229 c15_i32
  let c1_i32_230 : BitVec 32 := 1#32
  ⟨c1_i32_229, v629, c1_i32_230⟩
def k0_mult12 (k0_t6 : Fin k0_t6_loop.trips) : BitVec 32 :=
  let c1_i32_229 : BitVec 32 := 1#32
  let c1_i32_230 : BitVec 32 := 1#32
  let arg20 : BitVec 32 := Scf.iv c1_i32_229 c1_i32_230 k0_t6
  let c2_i32_245 : BitVec 32 := 2#32
  let v641 : BitVec 32 := Scalar.muli arg20 c2_i32_245
  let c0_i32_246 : BitVec 32 := 0#32
  let v642 : BitVec 32 := Scalar.addi v641 c0_i32_246
  let c128_i32_249 : BitVec 32 := 128#32
  let v645 : BitVec 32 := Scalar.muli v642 c128_i32_249
  v645
def k0_off22 (k0_t6 : Fin k0_t6_loop.trips) (c0_i32_246 : BitVec 32) : Fin 3 → Nat :=
  let c0_250 : Index := 0#32
  let c1_i32_229 : BitVec 32 := 1#32
  let c1_i32_230 : BitVec 32 := 1#32
  let arg20 : BitVec 32 := Scf.iv c1_i32_229 c1_i32_230 k0_t6
  let c2_i32_245 : BitVec 32 := 2#32
  let v641 : BitVec 32 := Scalar.muli arg20 c2_i32_245
  let v642 : BitVec 32 := Scalar.addi v641 c0_i32_246
  let c128_i32_249 : BitVec 32 := 128#32
  let v645 : BitVec 32 := Scalar.muli v642 c128_i32_249
  let v646 : BitVec 32 := v645
  let v647 : Index := Scalar.indexCast v646
  let c0_251 : Index := 0#32
  ![0, v647.toNat, 0]
def k0_off23 (k0_t6 : Fin k0_t6_loop.trips) (c0_i32_246 : BitVec 32) : Fin 3 → Nat :=
  let c1_i32_229 : BitVec 32 := 1#32
  let c1_i32_230 : BitVec 32 := 1#32
  let arg20 : BitVec 32 := Scf.iv c1_i32_229 c1_i32_230 k0_t6
  let c2_i32_245 : BitVec 32 := 2#32
  let v641 : BitVec 32 := Scalar.muli arg20 c2_i32_245
  let v642 : BitVec 32 := Scalar.addi v641 c0_i32_246
  let v650 : Index := Scalar.indexCast v642
  let c0_252 : Index := 0#32
  let c0_253 : Index := 0#32
  ![v650.toNat, 0, 0]
def k0_off24 (k0_t6 : Fin k0_t6_loop.trips) (c0_i32_246 : BitVec 32) : Fin 3 → Nat :=
  let c1_i32_229 : BitVec 32 := 1#32
  let c1_i32_230 : BitVec 32 := 1#32
  let arg20 : BitVec 32 := Scf.iv c1_i32_229 c1_i32_230 k0_t6
  let c2_i32_245 : BitVec 32 := 2#32
  let v641 : BitVec 32 := Scalar.muli arg20 c2_i32_245
  let v642 : BitVec 32 := Scalar.addi v641 c0_i32_246
  let v653 : Index := Scalar.indexCast v642
  let c128_254 : Index := 128#32
  let c0_255 : Index := 0#32
  ![v653.toNat, 128, 0]
def k0_mult13 (k0_t6 : Fin k0_t6_loop.trips) : BitVec 32 :=
  let c1_i32_229 : BitVec 32 := 1#32
  let c1_i32_230 : BitVec 32 := 1#32
  let arg20 : BitVec 32 := Scf.iv c1_i32_229 c1_i32_230 k0_t6
  let c2_i32_247 : BitVec 32 := 2#32
  let v643 : BitVec 32 := Scalar.muli arg20 c2_i32_247
  let c1_i32_248 : BitVec 32 := 1#32
  let v644 : BitVec 32 := Scalar.addi v643 c1_i32_248
  let c128_i32_265 : BitVec 32 := 128#32
  let v675 : BitVec 32 := Scalar.muli v644 c128_i32_265
  v675
def k0_off25 (k0_t6 : Fin k0_t6_loop.trips) (c0_i32_246 : BitVec 32) (c0_i32_260 : BitVec 32) : Fin 3 → Nat :=
  let c1_i32_229 : BitVec 32 := 1#32
  let c1_i32_230 : BitVec 32 := 1#32
  let arg20 : BitVec 32 := Scf.iv c1_i32_229 c1_i32_230 k0_t6
  let c2_i32_245 : BitVec 32 := 2#32
  let v641 : BitVec 32 := Scalar.muli arg20 c2_i32_245
  let v642 : BitVec 32 := Scalar.addi v641 c0_i32_246
  let v663 : BitVec 32 := Scalar.subi v642 c0_i32_260
  let v706 : Index := Scalar.indexCast v663
  let c0_282 : Index := 0#32
  let c0_283 : Index := 0#32
  ![v706.toNat, 0, 0]
def k0_mult14 (k0_t6 : Fin k0_t6_loop.trips) : BitVec 32 :=
  let c1_i32_229 : BitVec 32 := 1#32
  let c1_i32_230 : BitVec 32 := 1#32
  let arg20 : BitVec 32 := Scf.iv c1_i32_229 c1_i32_230 k0_t6
  let c2_i32_245 : BitVec 32 := 2#32
  let v641 : BitVec 32 := Scalar.muli arg20 c2_i32_245
  let c0_i32_246 : BitVec 32 := 0#32
  let v642 : BitVec 32 := Scalar.addi v641 c0_i32_246
  let c0_i32_260 : BitVec 32 := 0#32
  let v663 : BitVec 32 := Scalar.subi v642 c0_i32_260
  let c128_i32_390 : BitVec 32 := 128#32
  let v1390 : BitVec 32 := Scalar.muli v663 c128_i32_390
  v1390
def k0_off26 (k0_t6 : Fin k0_t6_loop.trips) (c0_i32_246 : BitVec 32) (c0_i32_260 : BitVec 32) : Fin 2 → Nat :=
  let c1_i32_229 : BitVec 32 := 1#32
  let c1_i32_230 : BitVec 32 := 1#32
  let arg20 : BitVec 32 := Scf.iv c1_i32_229 c1_i32_230 k0_t6
  let c2_i32_245 : BitVec 32 := 2#32
  let v641 : BitVec 32 := Scalar.muli arg20 c2_i32_245
  let v642 : BitVec 32 := Scalar.addi v641 c0_i32_246
  let v663 : BitVec 32 := Scalar.subi v642 c0_i32_260
  let c128_i32_390 : BitVec 32 := 128#32
  let v1390 : BitVec 32 := Scalar.muli v663 c128_i32_390
  let v1391 : BitVec 32 := v1390
  let v1392 : Index := Scalar.indexCast v1391
  let c0_391 : Index := 0#32
  ![v1392.toNat, 0]
def k0_off27 (k0_t6 : Fin k0_t6_loop.trips) (c0_i32_246 : BitVec 32) : Fin 3 → Nat :=
  let c1_i32_229 : BitVec 32 := 1#32
  let c1_i32_230 : BitVec 32 := 1#32
  let arg20 : BitVec 32 := Scf.iv c1_i32_229 c1_i32_230 k0_t6
  let c2_i32_245 : BitVec 32 := 2#32
  let v641 : BitVec 32 := Scalar.muli arg20 c2_i32_245
  let v642 : BitVec 32 := Scalar.addi v641 c0_i32_246
  let v1395 : Index := Scalar.indexCast v642
  let c0_392 : Index := 0#32
  let c0_393 : Index := 0#32
  ![v1395.toNat, 0, 0]
def k0_mult15 (k0_t6 : Fin k0_t6_loop.trips) : BitVec 32 :=
  let c1_i32_229 : BitVec 32 := 1#32
  let c1_i32_230 : BitVec 32 := 1#32
  let arg20 : BitVec 32 := Scf.iv c1_i32_229 c1_i32_230 k0_t6
  let c2_i32_245 : BitVec 32 := 2#32
  let v641 : BitVec 32 := Scalar.muli arg20 c2_i32_245
  let c0_i32_246 : BitVec 32 := 0#32
  let v642 : BitVec 32 := Scalar.addi v641 c0_i32_246
  let c1_i32_261 : BitVec 32 := 1#32
  let v664 : BitVec 32 := Scalar.subi v642 c1_i32_261
  let c128_i32_404 : BitVec 32 := 128#32
  let v1422 : BitVec 32 := Scalar.muli v664 c128_i32_404
  v1422
def k0_mult16 (k0_t6 : Fin k0_t6_loop.trips) : BitVec 32 :=
  let c1_i32_229 : BitVec 32 := 1#32
  let c1_i32_230 : BitVec 32 := 1#32
  let arg20 : BitVec 32 := Scf.iv c1_i32_229 c1_i32_230 k0_t6
  let c2_i32_245 : BitVec 32 := 2#32
  let v641 : BitVec 32 := Scalar.muli arg20 c2_i32_245
  let c0_i32_246 : BitVec 32 := 0#32
  let v642 : BitVec 32 := Scalar.addi v641 c0_i32_246
  let c2_i32_262 : BitVec 32 := 2#32
  let v665 : BitVec 32 := Scalar.subi v642 c2_i32_262
  let c128_i32_418 : BitVec 32 := 128#32
  let v1454 : BitVec 32 := Scalar.muli v665 c128_i32_418
  v1454
def k0_mult17 (k0_t6 : Fin k0_t6_loop.trips) : BitVec 32 :=
  let c1_i32_229 : BitVec 32 := 1#32
  let c1_i32_230 : BitVec 32 := 1#32
  let arg20 : BitVec 32 := Scf.iv c1_i32_229 c1_i32_230 k0_t6
  let c2_i32_247 : BitVec 32 := 2#32
  let v643 : BitVec 32 := Scalar.muli arg20 c2_i32_247
  let c1_i32_248 : BitVec 32 := 1#32
  let v644 : BitVec 32 := Scalar.addi v643 c1_i32_248
  let c0_i32_276 : BitVec 32 := 0#32
  let v693 : BitVec 32 := Scalar.subi v644 c0_i32_276
  let c128_i32_432 : BitVec 32 := 128#32
  let v1486 : BitVec 32 := Scalar.muli v693 c128_i32_432
  v1486
def k0_mult18 (k0_t6 : Fin k0_t6_loop.trips) : BitVec 32 :=
  let c1_i32_229 : BitVec 32 := 1#32
  let c1_i32_230 : BitVec 32 := 1#32
  let arg20 : BitVec 32 := Scf.iv c1_i32_229 c1_i32_230 k0_t6
  let c2_i32_247 : BitVec 32 := 2#32
  let v643 : BitVec 32 := Scalar.muli arg20 c2_i32_247
  let c1_i32_248 : BitVec 32 := 1#32
  let v644 : BitVec 32 := Scalar.addi v643 c1_i32_248
  let c1_i32_277 : BitVec 32 := 1#32
  let v694 : BitVec 32 := Scalar.subi v644 c1_i32_277
  let c128_i32_446 : BitVec 32 := 128#32
  let v1518 : BitVec 32 := Scalar.muli v694 c128_i32_446
  v1518
def k0_mult19 (k0_t6 : Fin k0_t6_loop.trips) : BitVec 32 :=
  let c1_i32_229 : BitVec 32 := 1#32
  let c1_i32_230 : BitVec 32 := 1#32
  let arg20 : BitVec 32 := Scf.iv c1_i32_229 c1_i32_230 k0_t6
  let c2_i32_247 : BitVec 32 := 2#32
  let v643 : BitVec 32 := Scalar.muli arg20 c2_i32_247
  let c1_i32_248 : BitVec 32 := 1#32
  let v644 : BitVec 32 := Scalar.addi v643 c1_i32_248
  let c2_i32_278 : BitVec 32 := 2#32
  let v695 : BitVec 32 := Scalar.subi v644 c2_i32_278
  let c128_i32_460 : BitVec 32 := 128#32
  let v1550 : BitVec 32 := Scalar.muli v695 c128_i32_460
  v1550
def k0_off28 (arg21 : BitVec 32) (c0_i32_488 : BitVec 32) : Fin 3 → Nat :=
  let v1624 : BitVec 32 := Scalar.subi arg21 c0_i32_488
  let v1626 : Index := Scalar.indexCast v1624
  let c0_490 : Index := 0#32
  let c0_491 : Index := 0#32
  ![v1626.toNat, 0, 0]

def k0_mult20 (arg21 : BitVec 32) : BitVec 32 :=
  let c0_i32_488 : BitVec 32 := 0#32
  let v1624 : BitVec 32 := Scalar.subi arg21 c0_i32_488
  let c128_i32_522 : BitVec 32 := 128#32
  let v1846 : BitVec 32 := Scalar.muli v1624 c128_i32_522
  v1846
def k0_off29 (arg21 : BitVec 32) (c0_i32_488 : BitVec 32) : Fin 2 → Nat :=
  let v1624 : BitVec 32 := Scalar.subi arg21 c0_i32_488
  let c128_i32_522 : BitVec 32 := 128#32
  let v1846 : BitVec 32 := Scalar.muli v1624 c128_i32_522
  let v1847 : BitVec 32 := v1846
  let v1848 : Index := Scalar.indexCast v1847
  let c0_523 : Index := 0#32
  ![v1848.toNat, 0]
def k0_off30 (k0_t6 : Fin k0_t6_loop.trips) : Fin 3 → Nat :=
  let c1_i32_229 : BitVec 32 := 1#32
  let c1_i32_230 : BitVec 32 := 1#32
  let arg20 : BitVec 32 := Scf.iv c1_i32_229 c1_i32_230 k0_t6
  let c2_i32_245 : BitVec 32 := 2#32
  let v641 : BitVec 32 := Scalar.muli arg20 c2_i32_245
  let c0_i32_246 : BitVec 32 := 0#32
  let v642 : BitVec 32 := Scalar.addi v641 c0_i32_246
  let v1851 : Index := Scalar.indexCast v642
  let c0_524 : Index := 0#32
  let c0_525 : Index := 0#32
  ![v1851.toNat, 0, 0]
def k0_mult21 (arg21 : BitVec 32) : BitVec 32 :=
  let c1_i32_489 : BitVec 32 := 1#32
  let v1625 : BitVec 32 := Scalar.subi arg21 c1_i32_489
  let c128_i32_536 : BitVec 32 := 128#32
  let v1878 : BitVec 32 := Scalar.muli v1625 c128_i32_536
  v1878

def k0_chk5 (arg21 : BitVec 32) : Prop :=
  (∀ (r : Fin 2), ∀ a, (k0_off28 arg21 (BitVec.ofNat 32 r.val)) a + S1x256x128.size a ≤ S32x256x128.size a) ∧
  (128 ∣ (k0_mult20 arg21).toNat) ∧
  (∀ (r : Fin 2), ∀ a, (k0_off29 arg21 (BitVec.ofNat 32 r.val)) a + S128x128.size a ≤ S4096x128.size a) ∧
  (128 ∣ (k0_mult21 arg21).toNat)
theorem k0_off28_inb : ∀ (arg21 : BitVec 32) (k0_hw5 : k0_chk5 arg21), ∀ (r : Fin 2), ∀ a, (k0_off28 arg21 (BitVec.ofNat 32 r.val)) a + S1x256x128.size a ≤ S32x256x128.size a := fun arg21 k0_hw5 r => k0_hw5.1 r
theorem k0_mult20_dvd : ∀ (arg21 : BitVec 32) (k0_hw5 : k0_chk5 arg21), 128 ∣ (k0_mult20 arg21).toNat := fun arg21 k0_hw5 => k0_hw5.2.1
theorem k0_off29_inb : ∀ (arg21 : BitVec 32) (k0_hw5 : k0_chk5 arg21), ∀ (r : Fin 2), ∀ a, (k0_off29 arg21 (BitVec.ofNat 32 r.val)) a + S128x128.size a ≤ S4096x128.size a := fun arg21 k0_hw5 r => k0_hw5.2.2.1 r
theorem k0_mult21_dvd : ∀ (arg21 : BitVec 32) (k0_hw5 : k0_chk5 arg21), 128 ∣ (k0_mult21 arg21).toNat := fun arg21 k0_hw5 => k0_hw5.2.2.2

def k0_off31 (arg21 : BitVec 32) : Fin 3 → Nat :=
  let c0_i32_488 : BitVec 32 := 0#32
  let v1624 : BitVec 32 := Scalar.subi arg21 c0_i32_488
  let v1625 : Index := Scalar.indexCast v1624
  let c0_489 : Index := 0#32
  let c0_490 : Index := 0#32
  ![v1625.toNat, 0, 0]

def k0_mult22 (arg21 : BitVec 32) : BitVec 32 :=
  let c0_i32_488 : BitVec 32 := 0#32
  let v1624 : BitVec 32 := Scalar.subi arg21 c0_i32_488
  let c128_i32_505 : BitVec 32 := 128#32
  let v1735 : BitVec 32 := Scalar.muli v1624 c128_i32_505
  v1735
def k0_off32 (arg21 : BitVec 32) : Fin 2 → Nat :=
  let c0_i32_488 : BitVec 32 := 0#32
  let v1624 : BitVec 32 := Scalar.subi arg21 c0_i32_488
  let c128_i32_505 : BitVec 32 := 128#32
  let v1735 : BitVec 32 := Scalar.muli v1624 c128_i32_505
  let v1736 : BitVec 32 := v1735
  let v1737 : Index := Scalar.indexCast v1736
  let c0_506 : Index := 0#32
  ![v1737.toNat, 0]

def k0_chk6 (arg21 : BitVec 32) : Prop :=
  (∀ a, (k0_off31 arg21) a + S1x256x128.size a ≤ S32x256x128.size a) ∧
  (128 ∣ (k0_mult22 arg21).toNat) ∧
  (∀ a, (k0_off32 arg21) a + S128x128.size a ≤ S4096x128.size a)
theorem k0_off31_inb : ∀ (arg21 : BitVec 32) (k0_hw6 : k0_chk6 arg21), ∀ a, (k0_off31 arg21) a + S1x256x128.size a ≤ S32x256x128.size a := fun arg21 k0_hw6 => k0_hw6.1
theorem k0_mult22_dvd : ∀ (arg21 : BitVec 32) (k0_hw6 : k0_chk6 arg21), 128 ∣ (k0_mult22 arg21).toNat := fun arg21 k0_hw6 => k0_hw6.2.1
theorem k0_off32_inb : ∀ (arg21 : BitVec 32) (k0_hw6 : k0_chk6 arg21), ∀ a, (k0_off32 arg21) a + S128x128.size a ≤ S4096x128.size a := fun arg21 k0_hw6 => k0_hw6.2.2

def k0_off33 (k0_t6 : Fin k0_t6_loop.trips) : Fin 3 → Nat :=
  let c1_i32_229 : BitVec 32 := 1#32
  let c1_i32_230 : BitVec 32 := 1#32
  let arg20 : BitVec 32 := Scf.iv c1_i32_229 c1_i32_230 k0_t6
  let c2_i32_245 : BitVec 32 := 2#32
  let v641 : BitVec 32 := Scalar.muli arg20 c2_i32_245
  let c0_i32_246 : BitVec 32 := 0#32
  let v642 : BitVec 32 := Scalar.addi v641 c0_i32_246
  let v1740 : Index := Scalar.indexCast v642
  let c0_507 : Index := 0#32
  let c0_508 : Index := 0#32
  ![v1740.toNat, 0, 0]
def k0_mult23 (k0_t6 : Fin k0_t6_loop.trips) : BitVec 32 :=
  let c1_i32_229 : BitVec 32 := 1#32
  let c1_i32_230 : BitVec 32 := 1#32
  let arg20 : BitVec 32 := Scf.iv c1_i32_229 c1_i32_230 k0_t6
  let c2_i32_245 : BitVec 32 := 2#32
  let v641 : BitVec 32 := Scalar.muli arg20 c2_i32_245
  let c0_i32_246 : BitVec 32 := 0#32
  let v642 : BitVec 32 := Scalar.addi v641 c0_i32_246
  let c128_i32_479 : BitVec 32 := 128#32
  let v1597 : BitVec 32 := Scalar.muli v642 c128_i32_479
  v1597
def k0_off34 (k0_t6 : Fin k0_t6_loop.trips) (c0_i32_246 : BitVec 32) : Fin 2 → Nat :=
  let c1_i32_229 : BitVec 32 := 1#32
  let c1_i32_230 : BitVec 32 := 1#32
  let arg20 : BitVec 32 := Scf.iv c1_i32_229 c1_i32_230 k0_t6
  let c2_i32_245 : BitVec 32 := 2#32
  let v641 : BitVec 32 := Scalar.muli arg20 c2_i32_245
  let v642 : BitVec 32 := Scalar.addi v641 c0_i32_246
  let c128_i32_479 : BitVec 32 := 128#32
  let v1597 : BitVec 32 := Scalar.muli v642 c128_i32_479
  let v1598 : BitVec 32 := v1597
  let v1599 : Index := Scalar.indexCast v1598
  let c0_480 : Index := 0#32
  ![v1599.toNat, 0]
def k0_off35 (arg21 : BitVec 32) (c0_i32_488 : BitVec 32) : Fin 3 → Nat :=
  let v1624 : BitVec 32 := Scalar.subi arg21 c0_i32_488
  let v1626 : Index := Scalar.indexCast v1624
  let c0_490 : Index := 0#32
  let c0_491 : Index := 0#32
  ![v1626.toNat, 0, 0]

def k0_mult24 (arg21 : BitVec 32) : BitVec 32 :=
  let c0_i32_488 : BitVec 32 := 0#32
  let v1624 : BitVec 32 := Scalar.subi arg21 c0_i32_488
  let c128_i32_522 : BitVec 32 := 128#32
  let v1846 : BitVec 32 := Scalar.muli v1624 c128_i32_522
  v1846
def k0_off36 (arg21 : BitVec 32) (c0_i32_488 : BitVec 32) : Fin 2 → Nat :=
  let v1624 : BitVec 32 := Scalar.subi arg21 c0_i32_488
  let c128_i32_522 : BitVec 32 := 128#32
  let v1846 : BitVec 32 := Scalar.muli v1624 c128_i32_522
  let v1847 : BitVec 32 := v1846
  let v1848 : Index := Scalar.indexCast v1847
  let c0_523 : Index := 0#32
  ![v1848.toNat, 0]
def k0_off37 (k0_t6 : Fin k0_t6_loop.trips) : Fin 3 → Nat :=
  let c1_i32_229 : BitVec 32 := 1#32
  let c1_i32_230 : BitVec 32 := 1#32
  let arg20 : BitVec 32 := Scf.iv c1_i32_229 c1_i32_230 k0_t6
  let c2_i32_247 : BitVec 32 := 2#32
  let v643 : BitVec 32 := Scalar.muli arg20 c2_i32_247
  let c1_i32_248 : BitVec 32 := 1#32
  let v644 : BitVec 32 := Scalar.addi v643 c1_i32_248
  let v1851 : Index := Scalar.indexCast v644
  let c0_524 : Index := 0#32
  let c0_525 : Index := 0#32
  ![v1851.toNat, 0, 0]
def k0_mult25 (arg21 : BitVec 32) : BitVec 32 :=
  let c1_i32_489 : BitVec 32 := 1#32
  let v1625 : BitVec 32 := Scalar.subi arg21 c1_i32_489
  let c128_i32_536 : BitVec 32 := 128#32
  let v1878 : BitVec 32 := Scalar.muli v1625 c128_i32_536
  v1878

def k0_chk7 (arg21 : BitVec 32) : Prop :=
  (∀ (r : Fin 2), ∀ a, (k0_off35 arg21 (BitVec.ofNat 32 r.val)) a + S1x256x128.size a ≤ S32x256x128.size a) ∧
  (128 ∣ (k0_mult24 arg21).toNat) ∧
  (∀ (r : Fin 2), ∀ a, (k0_off36 arg21 (BitVec.ofNat 32 r.val)) a + S128x128.size a ≤ S4096x128.size a) ∧
  (128 ∣ (k0_mult25 arg21).toNat)
theorem k0_off35_inb : ∀ (arg21 : BitVec 32) (k0_hw7 : k0_chk7 arg21), ∀ (r : Fin 2), ∀ a, (k0_off35 arg21 (BitVec.ofNat 32 r.val)) a + S1x256x128.size a ≤ S32x256x128.size a := fun arg21 k0_hw7 r => k0_hw7.1 r
theorem k0_mult24_dvd : ∀ (arg21 : BitVec 32) (k0_hw7 : k0_chk7 arg21), 128 ∣ (k0_mult24 arg21).toNat := fun arg21 k0_hw7 => k0_hw7.2.1
theorem k0_off36_inb : ∀ (arg21 : BitVec 32) (k0_hw7 : k0_chk7 arg21), ∀ (r : Fin 2), ∀ a, (k0_off36 arg21 (BitVec.ofNat 32 r.val)) a + S128x128.size a ≤ S4096x128.size a := fun arg21 k0_hw7 r => k0_hw7.2.2.1 r
theorem k0_mult25_dvd : ∀ (arg21 : BitVec 32) (k0_hw7 : k0_chk7 arg21), 128 ∣ (k0_mult25 arg21).toNat := fun arg21 k0_hw7 => k0_hw7.2.2.2

def k0_off38 (arg21 : BitVec 32) : Fin 3 → Nat :=
  let c0_i32_488 : BitVec 32 := 0#32
  let v1624 : BitVec 32 := Scalar.subi arg21 c0_i32_488
  let v1625 : Index := Scalar.indexCast v1624
  let c0_489 : Index := 0#32
  let c0_490 : Index := 0#32
  ![v1625.toNat, 0, 0]

def k0_mult26 (arg21 : BitVec 32) : BitVec 32 :=
  let c0_i32_488 : BitVec 32 := 0#32
  let v1624 : BitVec 32 := Scalar.subi arg21 c0_i32_488
  let c128_i32_505 : BitVec 32 := 128#32
  let v1735 : BitVec 32 := Scalar.muli v1624 c128_i32_505
  v1735
def k0_off39 (arg21 : BitVec 32) : Fin 2 → Nat :=
  let c0_i32_488 : BitVec 32 := 0#32
  let v1624 : BitVec 32 := Scalar.subi arg21 c0_i32_488
  let c128_i32_505 : BitVec 32 := 128#32
  let v1735 : BitVec 32 := Scalar.muli v1624 c128_i32_505
  let v1736 : BitVec 32 := v1735
  let v1737 : Index := Scalar.indexCast v1736
  let c0_506 : Index := 0#32
  ![v1737.toNat, 0]

def k0_chk8 (arg21 : BitVec 32) : Prop :=
  (∀ a, (k0_off38 arg21) a + S1x256x128.size a ≤ S32x256x128.size a) ∧
  (128 ∣ (k0_mult26 arg21).toNat) ∧
  (∀ a, (k0_off39 arg21) a + S128x128.size a ≤ S4096x128.size a)
theorem k0_off38_inb : ∀ (arg21 : BitVec 32) (k0_hw8 : k0_chk8 arg21), ∀ a, (k0_off38 arg21) a + S1x256x128.size a ≤ S32x256x128.size a := fun arg21 k0_hw8 => k0_hw8.1
theorem k0_mult26_dvd : ∀ (arg21 : BitVec 32) (k0_hw8 : k0_chk8 arg21), 128 ∣ (k0_mult26 arg21).toNat := fun arg21 k0_hw8 => k0_hw8.2.1
theorem k0_off39_inb : ∀ (arg21 : BitVec 32) (k0_hw8 : k0_chk8 arg21), ∀ a, (k0_off39 arg21) a + S128x128.size a ≤ S4096x128.size a := fun arg21 k0_hw8 => k0_hw8.2.2

def k0_off40 (k0_t6 : Fin k0_t6_loop.trips) : Fin 3 → Nat :=
  let c1_i32_229 : BitVec 32 := 1#32
  let c1_i32_230 : BitVec 32 := 1#32
  let arg20 : BitVec 32 := Scf.iv c1_i32_229 c1_i32_230 k0_t6
  let c2_i32_247 : BitVec 32 := 2#32
  let v643 : BitVec 32 := Scalar.muli arg20 c2_i32_247
  let c1_i32_248 : BitVec 32 := 1#32
  let v644 : BitVec 32 := Scalar.addi v643 c1_i32_248
  let v1740 : Index := Scalar.indexCast v644
  let c0_507 : Index := 0#32
  let c0_508 : Index := 0#32
  ![v1740.toNat, 0, 0]
def k0_mult27 (k0_t6 : Fin k0_t6_loop.trips) : BitVec 32 :=
  let c1_i32_229 : BitVec 32 := 1#32
  let c1_i32_230 : BitVec 32 := 1#32
  let arg20 : BitVec 32 := Scf.iv c1_i32_229 c1_i32_230 k0_t6
  let c2_i32_247 : BitVec 32 := 2#32
  let v643 : BitVec 32 := Scalar.muli arg20 c2_i32_247
  let c1_i32_248 : BitVec 32 := 1#32
  let v644 : BitVec 32 := Scalar.addi v643 c1_i32_248
  let c128_i32_486 : BitVec 32 := 128#32
  let v1618 : BitVec 32 := Scalar.muli v644 c128_i32_486
  v1618
@[reducible] def k0_t7_loop : Scf.Loop 32 :=
  let c0_i32_233 : BitVec 32 := 0#32
  let c2_i32_234 : BitVec 32 := 2#32
  let v631 : BitVec 32 := Scalar.addi c0_i32_233 c2_i32_234
  let c1_i32_235 : BitVec 32 := 1#32
  ⟨c0_i32_233, v631, c1_i32_235⟩
def k0_mult28 (k0_t7 : Fin k0_t7_loop.trips) : BitVec 32 :=
  let c0_i32_233 : BitVec 32 := 0#32
  let c1_i32_235 : BitVec 32 := 1#32
  let arg20 : BitVec 32 := Scf.iv c0_i32_233 c1_i32_235 k0_t7
  let c2048_i32 : BitVec 32 := 2048#32
  let v641 : BitVec 32 := Scalar.muli arg20 c2048_i32
  v641
def k0_off41 (k0_t7 : Fin k0_t7_loop.trips) : Fin 3 → Nat :=
  let c0_245 : Index := 0#32
  let c0_i32_233 : BitVec 32 := 0#32
  let c1_i32_235 : BitVec 32 := 1#32
  let arg20 : BitVec 32 := Scf.iv c0_i32_233 c1_i32_235 k0_t7
  let c2048_i32 : BitVec 32 := 2048#32
  let v641 : BitVec 32 := Scalar.muli arg20 c2048_i32
  let v642 : BitVec 32 := v641
  let v643 : Index := Scalar.indexCast v642
  let c0_246 : Index := 0#32
  ![0, v643.toNat, 0]
def k0_off42 (k0_t7 : Fin k0_t7_loop.trips) : Fin 2 → Nat :=
  let c0_i32_233 : BitVec 32 := 0#32
  let c1_i32_235 : BitVec 32 := 1#32
  let arg20 : BitVec 32 := Scf.iv c0_i32_233 c1_i32_235 k0_t7
  let c2048_i32 : BitVec 32 := 2048#32
  let v641 : BitVec 32 := Scalar.muli arg20 c2048_i32
  let v642 : BitVec 32 := v641
  let v659 : Index := Scalar.indexCast v642
  let c0_250 : Index := 0#32
  ![v659.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Proof.AttnDBase.lean ====
module

public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Loops
-- ==== Proof.AttnDModel.lean ====
module

public import proofs.«01_k».proof.Proof.AttnDBase
public import Idealize.ShloMosaic.Lib.Tactic

@[expose] public section

set_option maxRecDepth 65536

/-!
# The attention backward call: what its loops over the key blocks are handed

The key block a loop begins at is one less than the number of blocks left, and every offset computed from it lies inside its array.
-/

noncomputable section

namespace Cert.AttnD

open Cert.Kernel13Ideal Cert.Kernel13Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The loops' variants: the number of key blocks left. -/
abbrev 𝒱₀ : Variants := Variants.nat

/-- The index of the last of `m` key blocks. -/
def kb (m : ℕ) : BitVec 32 := BitVec.ofNat 32 m - 1#32

theorem kb_ge0 : ∀ m : Fin 33, (Scalar.cmpi .sge (kb m) 0#32 = 1#1 → 1 ≤ m.val) := by decide +kernel
theorem kb_ge1 : ∀ m : Fin 33, (Scalar.cmpi .sge (kb m) 1#32 = 1#1 → 2 ≤ m.val) := by decide +kernel
theorem kb_sub1 : ∀ m : Fin 32, Scalar.subi (kb (m + 1)) 1#32 = kb m := by decide +kernel
theorem kb_sub2 : ∀ m : Fin 31, Scalar.subi (kb (m + 2)) 2#32 = kb m := by decide +kernel
theorem andi_left (a b : BitVec 1) : Scalar.andi a b = 1#1 → a = 1#1 := by revert a b; decide

theorem chk1 : ∀ m : Fin 31, k0_chk1 (kb (m + 2)) := by decide +kernel
theorem chk2 : ∀ m : Fin 32, k0_chk2 (kb (m + 1)) := by decide +kernel
theorem chk3 : ∀ m : Fin 31, k0_chk3 (kb (m + 2)) := by decide +kernel
theorem chk4 : ∀ m : Fin 32, k0_chk4 (kb (m + 1)) := by decide +kernel
theorem chk5 : ∀ m : Fin 31, k0_chk5 (kb (m + 2)) := by decide +kernel
theorem chk6 : ∀ m : Fin 32, k0_chk6 (kb (m + 1)) := by decide +kernel
theorem chk7 : ∀ m : Fin 31, k0_chk7 (kb (m + 2)) := by decide +kernel
theorem chk8 : ∀ m : Fin 32, k0_chk8 (kb (m + 1)) := by decide +kernel

/-- A buffer held at some contents. -/
def some' (c : Dev nD) {sp : Space} {S : Shape} {e : EltTy} (M : Memref sig .tc sp S e) : sProp 𝕄 :=
  iprop(∃ f, M.view.loc (c : Thread nD τ) ↦[M.view.set]{fullShare} f)

/-- What a loop over the key blocks reads and writes. -/
def held (c : Dev nD) (a13 a14 a15 a16 : Memref sig .tc .vmem S32x256x128 .bf16) (a18 a19 : Memref sig .tc .vmem S4096x128 .f32) : sProp 𝕄 :=
  iprop(some' c a13 ∗ some' c a14 ∗ some' c a15 ∗ some' c a16 ∗ some' c a18 ∗ some' c a19)

/-- The values a loop carries. -/
abbrev LR (F : FTy → Type) [FloatOps F] : Type :=
  BitVec 32 × FVec F S128x128 .f32 × FVec F S128x128 .f32 × FVec F S128x128 .f32 × FVec F S128x128 .f32 × FVec F S128x128 .f32 × F .f32

/-- What a loop gives back when at most `m` key blocks are left: the buffers, and a number of blocks that are left still. -/
def ends (c : Dev nD) (a13 a14 a15 a16 : Memref sig .tc .vmem S32x256x128 .bf16) (a18 a19 : Memref sig .tc .vmem S4096x128 .f32) (m : ℕ) (K : LR F → sProp 𝕄) : sProp 𝕄 :=
  iprop(∀ r : LR F, (⌜∃ n, n ≤ m ∧ r.1 = kb n⌝ ∗ held (F := F) c a13 a14 a15 a16 a18 a19) -∗ K r)

end Cert.AttnD
-- ==== Proof.AttnDWhileA.lean ====
module

public import proofs.«01_k».proof.Proof.AttnDModel

@[expose] public section

set_option maxRecDepth 65536

/-!
# The loops over the key blocks, of the first two query blocks
-/

noncomputable section

namespace Cert.AttnD

open Cert.Kernel13Ideal Cert.Kernel13Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section
variable (c : Dev nD) (a13 a14 a15 a16 : Memref sig .tc .vmem S32x256x128 .bf16) (g13 : a13.IsWhole) (g14 : a14.IsWhole) (g15 : a15.IsWhole) (g16 : a16.IsWhole)
  (a18 a19 : Memref sig .tc .vmem S4096x128 .f32) (g18 : a18.IsWhole) (g19 : a19.IsWhole)

set_option maxHeartbeats 4000000 in
/-- The loop that takes two key blocks at a time, first of its kind. -/
theorem while1 (i : grid0.Coords) (v149 : FVec F S128x128 .bf16) (v25 : FVec F S256x256 .bf16) (v150 : FVec F S128x128 .bf16) (v154 : FVec F S128x1 .f32) (v158 : FVec F S128x1 .f32) : ∀ m, m ≤ 32 →
    ∀ (K : LR F → sProp 𝕄) (w : BitVec 32) (x1 x2 x3 x4 x5 : FVec F S128x128 .f32) (x6 : F .f32),
    iprop(⌜w = kb m⌝ ∗ held (F := F) c a13 a14 a15 a16 a18 a19 ∗ ends c a13 a14 a15 a16 a18 a19 m K)
      ⊢ wp frame (wpE (defs₀ (F := F)) 𝒱₀ (c : Thread nD τ) (some m)) Set.univ
        (defs₀ (F := F) .tc 1 ⟨i, a14, g14, v149, v25, a15, g15, v150, v154, v158, a19, g19, a16, g16, a18, g18, a13, g13, w, x1, x2, x3, x4, x5, x6⟩) K := by
  intro m
  induction m using Nat.strong_induction_on with
  | _ m ih =>
    intro hm K w x1 x2 x3 x4 x5 x6
    show _ ⊢ wp frame (wpE (defs₀ (F := F)) 𝒱₀ (c : Thread nD τ) (some m)) Set.univ (cc0_while1 i a14 g14 v149 v25 a15 g15 v150 v154 v158 a19 g19 a16 g16 a18 g18 a13 g13 w x1 x2 x3 x4 x5 x6) K
    rw [cc0_while1_eq_skeleton]; unfold cc0_while1_skel
    iintro ⟨%hw, H, Hk⟩
    subst hw
    by_cases hgo : Scalar.andi (Scalar.cmpi .sge (kb m) 1#32) (Scalar.cmpf .oge x6 (Scalar.ofBits .f32 0xC2D20000#32)) = 1#1
    · obtain ⟨n, rfl⟩ : ∃ n, m = n + 2 := ⟨m - 2, by have := kb_ge1 ⟨m, by omega⟩ (andi_left _ _ hgo); dsimp only at this; omega⟩
      have hchk := chk1 ⟨n, by omega⟩
      have hsub : Scalar.subi (kb (n + 2)) 2#32 = kb n := kb_sub2 ⟨n, by omega⟩
      simp only [k0_part65_eq_skeleton, k0_part66_eq_skeleton, k0_part67_eq_skeleton, k0_part68_eq_skeleton, k0_part69_eq_skeleton, k0_part70_eq_skeleton]; unfold k0_part65_skel k0_part66_skel k0_part67_skel k0_part68_skel k0_part69_skel k0_part70_skel
      unfold held some'
      icases H with ⟨⟨%f13, H13⟩, ⟨%f14, H14⟩, ⟨%f15, H15⟩, ⟨%f16, H16⟩, ⟨%f18, H18⟩, ⟨%f19, H19⟩⟩
      sl_exec (disch := first | sl_exact hgo | sl_exact hchk)
      dsimp only
      iapply (wp_call 𝒱₀ (c : Thread nD τ) (some (n + 2)) Set.univ n (fun u hu => by cases hu; exact Nat.lt_add_of_pos_right (by decide)))
      iapply (ih n (by omega) (by omega))
      isplitr; · ipureintro; exact hsub
      isplitl [H13 H14 H15 H16 H18 H19]
      · unfold held some'
        isplitl [H13]; · iexists _; iexact H13
        isplitl [H14]; · iexists _; iexact H14
        isplitl [H15]; · iexists _; iexact H15
        isplitl [H16]; · iexists _; iexact H16
        isplitl [H18]; · iexists _; iexact H18
        iexists _; iexact H19
      unfold ends
      iintro %r ⟨%hr, H⟩
      dsimp only
      sl_step
      iapply Hk
      isplitr
      · ipureintro; obtain ⟨n', h1, h2⟩ := hr; exact ⟨n', by omega, h2⟩
      iexact H
    · sl_exec (disch := first | sl_exact hgo)
      sl_step
      unfold ends
      iapply Hk
      isplitr; · ipureintro; exact ⟨m, le_refl m, rfl⟩
      iexact H

set_option maxHeartbeats 4000000 in
/-- The loop that takes one key block at a time, first of its kind. -/
theorem while2 (i : grid0.Coords) (v149 : FVec F S128x128 .bf16) (v25 : FVec F S256x256 .bf16) (v150 : FVec F S128x128 .bf16) (v154 : FVec F S128x1 .f32) (v158 : FVec F S128x1 .f32) : ∀ m, m ≤ 32 →
    ∀ (K : LR F → sProp 𝕄) (w : BitVec 32) (x1 x2 x3 x4 x5 : FVec F S128x128 .f32) (x6 : F .f32),
    iprop(⌜w = kb m⌝ ∗ held (F := F) c a13 a14 a15 a16 a18 a19 ∗ ends c a13 a14 a15 a16 a18 a19 m K)
      ⊢ wp frame (wpE (defs₀ (F := F)) 𝒱₀ (c : Thread nD τ) (some m)) Set.univ
        (defs₀ (F := F) .tc 2 ⟨i, a14, g14, v149, v25, a15, g15, v150, v154, v158, a19, g19, a16, g16, a18, g18, a13, g13, w, x1, x2, x3, x4, x5, x6⟩) K := by
  intro m
  induction m using Nat.strong_induction_on with
  | _ m ih =>
    intro hm K w x1 x2 x3 x4 x5 x6
    show _ ⊢ wp frame (wpE (defs₀ (F := F)) 𝒱₀ (c : Thread nD τ) (some m)) Set.univ (cc0_while2 i a14 g14 v149 v25 a15 g15 v150 v154 v158 a19 g19 a16 g16 a18 g18 a13 g13 w x1 x2 x3 x4 x5 x6) K
    rw [cc0_while2_eq_skeleton]; unfold cc0_while2_skel
    iintro ⟨%hw, H, Hk⟩
    subst hw
    by_cases hgo : Scalar.andi (Scalar.cmpi .sge (kb m) 0#32) (Scalar.cmpf .oge x6 (Scalar.ofBits .f32 0xC2D20000#32)) = 1#1
    · obtain ⟨n, rfl⟩ : ∃ n, m = n + 1 := ⟨m - 1, by have := kb_ge0 ⟨m, by omega⟩ (andi_left _ _ hgo); dsimp only at this; omega⟩
      have hchk := chk2 ⟨n, by omega⟩
      have hsub : Scalar.subi (kb (n + 1)) 1#32 = kb n := kb_sub1 ⟨n, by omega⟩
      simp only [k0_part71_eq_skeleton, k0_part72_eq_skeleton, k0_part73_eq_skeleton]; unfold k0_part71_skel k0_part72_skel k0_part73_skel
      unfold held some'
      icases H with ⟨⟨%f13, H13⟩, ⟨%f14, H14⟩, ⟨%f15, H15⟩, ⟨%f16, H16⟩, ⟨%f18, H18⟩, ⟨%f19, H19⟩⟩
      sl_exec (disch := first | sl_exact hgo | sl_exact hchk)
      dsimp only
      iapply (wp_call 𝒱₀ (c : Thread nD τ) (some (n + 1)) Set.univ n (fun u hu => by cases hu; exact Nat.lt_add_of_pos_right (by decide)))
      iapply (ih n (by omega) (by omega))
      isplitr; · ipureintro; exact hsub
      isplitl [H13 H14 H15 H16 H18 H19]
      · unfold held some'
        isplitl [H13]; · iexists _; iexact H13
        isplitl [H14]; · iexists _; iexact H14
        isplitl [H15]; · iexists _; iexact H15
        isplitl [H16]; · iexists _; iexact H16
        isplitl [H18]; · iexists _; iexact H18
        iexists _; iexact H19
      unfold ends
      iintro %r ⟨%hr, H⟩
      dsimp only
      sl_step
      iapply Hk
      isplitr
      · ipureintro; obtain ⟨n', h1, h2⟩ := hr; exact ⟨n', by omega, h2⟩
      iexact H
    · sl_exec (disch := first | sl_exact hgo)
      sl_step
      unfold ends
      iapply Hk
      isplitr; · ipureintro; exact ⟨m, le_refl m, rfl⟩
      iexact H

set_option maxHeartbeats 4000000 in
/-- The loop that takes two key blocks at a time, second of its kind. -/
theorem while3 (i : grid0.Coords) (v169 : FVec F S128x128 .bf16) (v25 : FVec F S256x256 .bf16) (v170 : FVec F S128x128 .bf16) (v174 : FVec F S128x1 .f32) (v178 : FVec F S128x1 .f32) : ∀ m, m ≤ 32 →
    ∀ (K : LR F → sProp 𝕄) (w : BitVec 32) (x1 x2 x3 x4 x5 : FVec F S128x128 .f32) (x6 : F .f32),
    iprop(⌜w = kb m⌝ ∗ held (F := F) c a13 a14 a15 a16 a18 a19 ∗ ends c a13 a14 a15 a16 a18 a19 m K)
      ⊢ wp frame (wpE (defs₀ (F := F)) 𝒱₀ (c : Thread nD τ) (some m)) Set.univ
        (defs₀ (F := F) .tc 3 ⟨i, a14, g14, v169, v25, a15, g15, v170, v174, v178, a19, g19, a16, g16, a18, g18, a13, g13, w, x1, x2, x3, x4, x5, x6⟩) K := by
  intro m
  induction m using Nat.strong_induction_on with
  | _ m ih =>
    intro hm K w x1 x2 x3 x4 x5 x6
    show _ ⊢ wp frame (wpE (defs₀ (F := F)) 𝒱₀ (c : Thread nD τ) (some m)) Set.univ (cc0_while3 i a14 g14 v169 v25 a15 g15 v170 v174 v178 a19 g19 a16 g16 a18 g18 a13 g13 w x1 x2 x3 x4 x5 x6) K
    rw [cc0_while3_eq_skeleton]; unfold cc0_while3_skel
    iintro ⟨%hw, H, Hk⟩
    subst hw
    by_cases hgo : Scalar.andi (Scalar.cmpi .sge (kb m) 1#32) (Scalar.cmpf .oge x6 (Scalar.ofBits .f32 0xC2D20000#32)) = 1#1
    · obtain ⟨n, rfl⟩ : ∃ n, m = n + 2 := ⟨m - 2, by have := kb_ge1 ⟨m, by omega⟩ (andi_left _ _ hgo); dsimp only at this; omega⟩
      have hchk := chk3 ⟨n, by omega⟩
      have hsub : Scalar.subi (kb (n + 2)) 2#32 = kb n := kb_sub2 ⟨n, by omega⟩
      simp only [k0_part74_eq_skeleton, k0_part75_eq_skeleton, k0_part76_eq_skeleton, k0_part77_eq_skeleton, k0_part78_eq_skeleton, k0_part79_eq_skeleton]; unfold k0_part74_skel k0_part75_skel k0_part76_skel k0_part77_skel k0_part78_skel k0_part79_skel
      unfold held some'
      icases H with ⟨⟨%f13, H13⟩, ⟨%f14, H14⟩, ⟨%f15, H15⟩, ⟨%f16, H16⟩, ⟨%f18, H18⟩, ⟨%f19, H19⟩⟩
      sl_exec (disch := first | sl_exact hgo | sl_exact hchk)
      dsimp only
      iapply (wp_call 𝒱₀ (c : Thread nD τ) (some (n + 2)) Set.univ n (fun u hu => by cases hu; exact Nat.lt_add_of_pos_right (by decide)))
      iapply (ih n (by omega) (by omega))
      isplitr; · ipureintro; exact hsub
      isplitl [H13 H14 H15 H16 H18 H19]
      · unfold held some'
        isplitl [H13]; · iexists _; iexact H13
        isplitl [H14]; · iexists _; iexact H14
        isplitl [H15]; · iexists _; iexact H15
        isplitl [H16]; · iexists _; iexact H16
        isplitl [H18]; · iexists _; iexact H18
        iexists _; iexact H19
      unfold ends
      iintro %r ⟨%hr, H⟩
      dsimp only
      sl_step
      iapply Hk
      isplitr
      · ipureintro; obtain ⟨n', h1, h2⟩ := hr; exact ⟨n', by omega, h2⟩
      iexact H
    · sl_exec (disch := first | sl_exact hgo)
      sl_step
      unfold ends
      iapply Hk
      isplitr; · ipureintro; exact ⟨m, le_refl m, rfl⟩
      iexact H

set_option maxHeartbeats 4000000 in
/-- The loop that takes one key block at a time, second of its kind. -/
theorem while4 (i : grid0.Coords) (v169 : FVec F S128x128 .bf16) (v25 : FVec F S256x256 .bf16) (v170 : FVec F S128x128 .bf16) (v174 : FVec F S128x1 .f32) (v178 : FVec F S128x1 .f32) : ∀ m, m ≤ 32 →
    ∀ (K : LR F → sProp 𝕄) (w : BitVec 32) (x1 x2 x3 x4 x5 : FVec F S128x128 .f32) (x6 : F .f32),
    iprop(⌜w = kb m⌝ ∗ held (F := F) c a13 a14 a15 a16 a18 a19 ∗ ends c a13 a14 a15 a16 a18 a19 m K)
      ⊢ wp frame (wpE (defs₀ (F := F)) 𝒱₀ (c : Thread nD τ) (some m)) Set.univ
        (defs₀ (F := F) .tc 4 ⟨i, a14, g14, v169, v25, a15, g15, v170, v174, v178, a19, g19, a16, g16, a18, g18, a13, g13, w, x1, x2, x3, x4, x5, x6⟩) K := by
  intro m
  induction m using Nat.strong_induction_on with
  | _ m ih =>
    intro hm K w x1 x2 x3 x4 x5 x6
    show _ ⊢ wp frame (wpE (defs₀ (F := F)) 𝒱₀ (c : Thread nD τ) (some m)) Set.univ (cc0_while4 i a14 g14 v169 v25 a15 g15 v170 v174 v178 a19 g19 a16 g16 a18 g18 a13 g13 w x1 x2 x3 x4 x5 x6) K
    rw [cc0_while4_eq_skeleton]; unfold cc0_while4_skel
    iintro ⟨%hw, H, Hk⟩
    subst hw
    by_cases hgo : Scalar.andi (Scalar.cmpi .sge (kb m) 0#32) (Scalar.cmpf .oge x6 (Scalar.ofBits .f32 0xC2D20000#32)) = 1#1
    · obtain ⟨n, rfl⟩ : ∃ n, m = n + 1 := ⟨m - 1, by have := kb_ge0 ⟨m, by omega⟩ (andi_left _ _ hgo); dsimp only at this; omega⟩
      have hchk := chk4 ⟨n, by omega⟩
      have hsub : Scalar.subi (kb (n + 1)) 1#32 = kb n := kb_sub1 ⟨n, by omega⟩
      simp only [k0_part80_eq_skeleton, k0_part81_eq_skeleton, k0_part82_eq_skeleton]; unfold k0_part80_skel k0_part81_skel k0_part82_skel
      unfold held some'
      icases H with ⟨⟨%f13, H13⟩, ⟨%f14, H14⟩, ⟨%f15, H15⟩, ⟨%f16, H16⟩, ⟨%f18, H18⟩, ⟨%f19, H19⟩⟩
      sl_exec (disch := first | sl_exact hgo | sl_exact hchk)
      dsimp only
      iapply (wp_call 𝒱₀ (c : Thread nD τ) (some (n + 1)) Set.univ n (fun u hu => by cases hu; exact Nat.lt_add_of_pos_right (by decide)))
      iapply (ih n (by omega) (by omega))
      isplitr; · ipureintro; exact hsub
      isplitl [H13 H14 H15 H16 H18 H19]
      · unfold held some'
        isplitl [H13]; · iexists _; iexact H13
        isplitl [H14]; · iexists _; iexact H14
        isplitl [H15]; · iexists _; iexact H15
        isplitl [H16]; · iexists _; iexact H16
        isplitl [H18]; · iexists _; iexact H18
        iexists _; iexact H19
      unfold ends
      iintro %r ⟨%hr, H⟩
      dsimp only
      sl_step
      iapply Hk
      isplitr
      · ipureintro; obtain ⟨n', h1, h2⟩ := hr; exact ⟨n', by omega, h2⟩
      iexact H
    · sl_exec (disch := first | sl_exact hgo)
      sl_step
      unfold ends
      iapply Hk
      isplitr; · ipureintro; exact ⟨m, le_refl m, rfl⟩
      iexact H

end

end Cert.AttnD
-- ==== Proof.AttnDWhileB.lean ====
module

public import proofs.«01_k».proof.Proof.AttnDModel

@[expose] public section

set_option maxRecDepth 65536

/-!
# The loops over the key blocks, of the later query blocks
-/

noncomputable section

namespace Cert.AttnD

open Cert.Kernel13Ideal Cert.Kernel13Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section
variable (c : Dev nD) (a13 a14 a15 a16 : Memref sig .tc .vmem S32x256x128 .bf16) (g13 : a13.IsWhole) (g14 : a14.IsWhole) (g15 : a15.IsWhole) (g16 : a16.IsWhole)
  (a18 a19 : Memref sig .tc .vmem S4096x128 .f32) (g18 : a18.IsWhole) (g19 : a19.IsWhole)

set_option maxHeartbeats 4000000 in
/-- The loop that takes two key blocks at a time, third of its kind. -/
theorem while5 (i : grid0.Coords) (k0_t6 : Fin k0_t6_loop.trips) (v662 : FVec F S128x128 .bf16) (v25 : FVec F S256x256 .bf16) (v666 : FVec F S128x128 .bf16) (v670 : FVec F S128x1 .f32) (v674 : FVec F S128x1 .f32) : ∀ m, m ≤ 32 →
    ∀ (K : LR F → sProp 𝕄) (w : BitVec 32) (x1 x2 x3 x4 x5 : FVec F S128x128 .f32) (x6 : F .f32),
    iprop(⌜w = kb m⌝ ∗ held (F := F) c a13 a14 a15 a16 a18 a19 ∗ ends c a13 a14 a15 a16 a18 a19 m K)
      ⊢ wp frame (wpE (defs₀ (F := F)) 𝒱₀ (c : Thread nD τ) (some m)) Set.univ
        (defs₀ (F := F) .tc 5 ⟨i, k0_t6, a14, g14, v662, v25, a15, g15, v666, v670, v674, a19, g19, a16, g16, a18, g18, a13, g13, w, x1, x2, x3, x4, x5, x6⟩) K := by
  intro m
  induction m using Nat.strong_induction_on with
  | _ m ih =>
    intro hm K w x1 x2 x3 x4 x5 x6
    show _ ⊢ wp frame (wpE (defs₀ (F := F)) 𝒱₀ (c : Thread nD τ) (some m)) Set.univ (cc0_while5 i k0_t6 a14 g14 v662 v25 a15 g15 v666 v670 v674 a19 g19 a16 g16 a18 g18 a13 g13 w x1 x2 x3 x4 x5 x6) K
    rw [cc0_while5_eq_skeleton]; unfold cc0_while5_skel
    iintro ⟨%hw, H, Hk⟩
    subst hw
    by_cases hgo : Scalar.andi (Scalar.cmpi .sge (kb m) 1#32) (Scalar.cmpf .oge x6 (Scalar.ofBits .f32 0xC2D20000#32)) = 1#1
    · obtain ⟨n, rfl⟩ : ∃ n, m = n + 2 := ⟨m - 2, by have := kb_ge1 ⟨m, by omega⟩ (andi_left _ _ hgo); dsimp only at this; omega⟩
      have hchk := chk5 ⟨n, by omega⟩
      have hsub : Scalar.subi (kb (n + 2)) 2#32 = kb n := kb_sub2 ⟨n, by omega⟩
      simp only [k0_part83_eq_skeleton, k0_part84_eq_skeleton, k0_part85_eq_skeleton, k0_part86_eq_skeleton, k0_part87_eq_skeleton, k0_part88_eq_skeleton]; unfold k0_part83_skel k0_part84_skel k0_part85_skel k0_part86_skel k0_part87_skel k0_part88_skel
      unfold held some'
      icases H with ⟨⟨%f13, H13⟩, ⟨%f14, H14⟩, ⟨%f15, H15⟩, ⟨%f16, H16⟩, ⟨%f18, H18⟩, ⟨%f19, H19⟩⟩
      sl_exec (disch := first | sl_exact hgo | sl_exact hchk)
      dsimp only
      iapply (wp_call 𝒱₀ (c : Thread nD τ) (some (n + 2)) Set.univ n (fun u hu => by cases hu; exact Nat.lt_add_of_pos_right (by decide)))
      iapply (ih n (by omega) (by omega))
      isplitr; · ipureintro; exact hsub
      isplitl [H13 H14 H15 H16 H18 H19]
      · unfold held some'
        isplitl [H13]; · iexists _; iexact H13
        isplitl [H14]; · iexists _; iexact H14
        isplitl [H15]; · iexists _; iexact H15
        isplitl [H16]; · iexists _; iexact H16
        isplitl [H18]; · iexists _; iexact H18
        iexists _; iexact H19
      unfold ends
      iintro %r ⟨%hr, H⟩
      dsimp only
      sl_step
      iapply Hk
      isplitr
      · ipureintro; obtain ⟨n', h1, h2⟩ := hr; exact ⟨n', by omega, h2⟩
      iexact H
    · sl_exec (disch := first | sl_exact hgo)
      sl_step
      unfold ends
      iapply Hk
      isplitr; · ipureintro; exact ⟨m, le_refl m, rfl⟩
      iexact H

set_option maxHeartbeats 4000000 in
/-- The loop that takes one key block at a time, third of its kind. -/
theorem while6 (i : grid0.Coords) (k0_t6 : Fin k0_t6_loop.trips) (v662 : FVec F S128x128 .bf16) (v25 : FVec F S256x256 .bf16) (v666 : FVec F S128x128 .bf16) (v670 : FVec F S128x1 .f32) (v674 : FVec F S128x1 .f32) : ∀ m, m ≤ 32 →
    ∀ (K : LR F → sProp 𝕄) (w : BitVec 32) (x1 x2 x3 x4 x5 : FVec F S128x128 .f32) (x6 : F .f32),
    iprop(⌜w = kb m⌝ ∗ held (F := F) c a13 a14 a15 a16 a18 a19 ∗ ends c a13 a14 a15 a16 a18 a19 m K)
      ⊢ wp frame (wpE (defs₀ (F := F)) 𝒱₀ (c : Thread nD τ) (some m)) Set.univ
        (defs₀ (F := F) .tc 6 ⟨i, k0_t6, a14, g14, v662, v25, a15, g15, v666, v670, v674, a19, g19, a16, g16, a18, g18, a13, g13, w, x1, x2, x3, x4, x5, x6⟩) K := by
  intro m
  induction m using Nat.strong_induction_on with
  | _ m ih =>
    intro hm K w x1 x2 x3 x4 x5 x6
    show _ ⊢ wp frame (wpE (defs₀ (F := F)) 𝒱₀ (c : Thread nD τ) (some m)) Set.univ (cc0_while6 i k0_t6 a14 g14 v662 v25 a15 g15 v666 v670 v674 a19 g19 a16 g16 a18 g18 a13 g13 w x1 x2 x3 x4 x5 x6) K
    rw [cc0_while6_eq_skeleton]; unfold cc0_while6_skel
    iintro ⟨%hw, H, Hk⟩
    subst hw
    by_cases hgo : Scalar.andi (Scalar.cmpi .sge (kb m) 0#32) (Scalar.cmpf .oge x6 (Scalar.ofBits .f32 0xC2D20000#32)) = 1#1
    · obtain ⟨n, rfl⟩ : ∃ n, m = n + 1 := ⟨m - 1, by have := kb_ge0 ⟨m, by omega⟩ (andi_left _ _ hgo); dsimp only at this; omega⟩
      have hchk := chk6 ⟨n, by omega⟩
      have hsub : Scalar.subi (kb (n + 1)) 1#32 = kb n := kb_sub1 ⟨n, by omega⟩
      simp only [k0_part89_eq_skeleton, k0_part90_eq_skeleton, k0_part91_eq_skeleton]; unfold k0_part89_skel k0_part90_skel k0_part91_skel
      unfold held some'
      icases H with ⟨⟨%f13, H13⟩, ⟨%f14, H14⟩, ⟨%f15, H15⟩, ⟨%f16, H16⟩, ⟨%f18, H18⟩, ⟨%f19, H19⟩⟩
      sl_exec (disch := first | sl_exact hgo | sl_exact hchk)
      dsimp only
      iapply (wp_call 𝒱₀ (c : Thread nD τ) (some (n + 1)) Set.univ n (fun u hu => by cases hu; exact Nat.lt_add_of_pos_right (by decide)))
      iapply (ih n (by omega) (by omega))
      isplitr; · ipureintro; exact hsub
      isplitl [H13 H14 H15 H16 H18 H19]
      · unfold held some'
        isplitl [H13]; · iexists _; iexact H13
        isplitl [H14]; · iexists _; iexact H14
        isplitl [H15]; · iexists _; iexact H15
        isplitl [H16]; · iexists _; iexact H16
        isplitl [H18]; · iexists _; iexact H18
        iexists _; iexact H19
      unfold ends
      iintro %r ⟨%hr, H⟩
      dsimp only
      sl_step
      iapply Hk
      isplitr
      · ipureintro; obtain ⟨n', h1, h2⟩ := hr; exact ⟨n', by omega, h2⟩
      iexact H
    · sl_exec (disch := first | sl_exact hgo)
      sl_step
      unfold ends
      iapply Hk
      isplitr; · ipureintro; exact ⟨m, le_refl m, rfl⟩
      iexact H

set_option maxHeartbeats 4000000 in
/-- The loop that takes two key blocks at a time, fourth of its kind. -/
theorem while7 (i : grid0.Coords) (k0_t6 : Fin k0_t6_loop.trips) (v692 : FVec F S128x128 .bf16) (v25 : FVec F S256x256 .bf16) (v696 : FVec F S128x128 .bf16) (v700 : FVec F S128x1 .f32) (v704 : FVec F S128x1 .f32) : ∀ m, m ≤ 32 →
    ∀ (K : LR F → sProp 𝕄) (w : BitVec 32) (x1 x2 x3 x4 x5 : FVec F S128x128 .f32) (x6 : F .f32),
    iprop(⌜w = kb m⌝ ∗ held (F := F) c a13 a14 a15 a16 a18 a19 ∗ ends c a13 a14 a15 a16 a18 a19 m K)
      ⊢ wp frame (wpE (defs₀ (F := F)) 𝒱₀ (c : Thread nD τ) (some m)) Set.univ
        (defs₀ (F := F) .tc 7 ⟨i, k0_t6, a14, g14, v692, v25, a15, g15, v696, v700, v704, a19, g19, a16, g16, a18, g18, a13, g13, w, x1, x2, x3, x4, x5, x6⟩) K := by
  intro m
  induction m using Nat.strong_induction_on with
  | _ m ih =>
    intro hm K w x1 x2 x3 x4 x5 x6
    show _ ⊢ wp frame (wpE (defs₀ (F := F)) 𝒱₀ (c : Thread nD τ) (some m)) Set.univ (cc0_while7 i k0_t6 a14 g14 v692 v25 a15 g15 v696 v700 v704 a19 g19 a16 g16 a18 g18 a13 g13 w x1 x2 x3 x4 x5 x6) K
    rw [cc0_while7_eq_skeleton]; unfold cc0_while7_skel
    iintro ⟨%hw, H, Hk⟩
    subst hw
    by_cases hgo : Scalar.andi (Scalar.cmpi .sge (kb m) 1#32) (Scalar.cmpf .oge x6 (Scalar.ofBits .f32 0xC2D20000#32)) = 1#1
    · obtain ⟨n, rfl⟩ : ∃ n, m = n + 2 := ⟨m - 2, by have := kb_ge1 ⟨m, by omega⟩ (andi_left _ _ hgo); dsimp only at this; omega⟩
      have hchk := chk7 ⟨n, by omega⟩
      have hsub : Scalar.subi (kb (n + 2)) 2#32 = kb n := kb_sub2 ⟨n, by omega⟩
      simp only [k0_part92_eq_skeleton, k0_part93_eq_skeleton, k0_part94_eq_skeleton, k0_part95_eq_skeleton, k0_part96_eq_skeleton, k0_part97_eq_skeleton]; unfold k0_part92_skel k0_part93_skel k0_part94_skel k0_part95_skel k0_part96_skel k0_part97_skel
      unfold held some'
      icases H with ⟨⟨%f13, H13⟩, ⟨%f14, H14⟩, ⟨%f15, H15⟩, ⟨%f16, H16⟩, ⟨%f18, H18⟩, ⟨%f19, H19⟩⟩
      sl_exec (disch := first | sl_exact hgo | sl_exact hchk)
      dsimp only
      iapply (wp_call 𝒱₀ (c : Thread nD τ) (some (n + 2)) Set.univ n (fun u hu => by cases hu; exact Nat.lt_add_of_pos_right (by decide)))
      iapply (ih n (by omega) (by omega))
      isplitr; · ipureintro; exact hsub
      isplitl [H13 H14 H15 H16 H18 H19]
      · unfold held some'
        isplitl [H13]; · iexists _; iexact H13
        isplitl [H14]; · iexists _; iexact H14
        isplitl [H15]; · iexists _; iexact H15
        isplitl [H16]; · iexists _; iexact H16
        isplitl [H18]; · iexists _; iexact H18
        iexists _; iexact H19
      unfold ends
      iintro %r ⟨%hr, H⟩
      dsimp only
      sl_step
      iapply Hk
      isplitr
      · ipureintro; obtain ⟨n', h1, h2⟩ := hr; exact ⟨n', by omega, h2⟩
      iexact H
    · sl_exec (disch := first | sl_exact hgo)
      sl_step
      unfold ends
      iapply Hk
      isplitr; · ipureintro; exact ⟨m, le_refl m, rfl⟩
      iexact H

set_option maxHeartbeats 4000000 in
/-- The loop that takes one key block at a time, fourth of its kind. -/
theorem while8 (i : grid0.Coords) (k0_t6 : Fin k0_t6_loop.trips) (v692 : FVec F S128x128 .bf16) (v25 : FVec F S256x256 .bf16) (v696 : FVec F S128x128 .bf16) (v700 : FVec F S128x1 .f32) (v704 : FVec F S128x1 .f32) : ∀ m, m ≤ 32 →
    ∀ (K : LR F → sProp 𝕄) (w : BitVec 32) (x1 x2 x3 x4 x5 : FVec F S128x128 .f32) (x6 : F .f32),
    iprop(⌜w = kb m⌝ ∗ held (F := F) c a13 a14 a15 a16 a18 a19 ∗ ends c a13 a14 a15 a16 a18 a19 m K)
      ⊢ wp frame (wpE (defs₀ (F := F)) 𝒱₀ (c : Thread nD τ) (some m)) Set.univ
        (defs₀ (F := F) .tc 8 ⟨i, k0_t6, a14, g14, v692, v25, a15, g15, v696, v700, v704, a19, g19, a16, g16, a18, g18, a13, g13, w, x1, x2, x3, x4, x5, x6⟩) K := by
  intro m
  induction m using Nat.strong_induction_on with
  | _ m ih =>
    intro hm K w x1 x2 x3 x4 x5 x6
    show _ ⊢ wp frame (wpE (defs₀ (F := F)) 𝒱₀ (c : Thread nD τ) (some m)) Set.univ (cc0_while8 i k0_t6 a14 g14 v692 v25 a15 g15 v696 v700 v704 a19 g19 a16 g16 a18 g18 a13 g13 w x1 x2 x3 x4 x5 x6) K
    rw [cc0_while8_eq_skeleton]; unfold cc0_while8_skel
    iintro ⟨%hw, H, Hk⟩
    subst hw
    by_cases hgo : Scalar.andi (Scalar.cmpi .sge (kb m) 0#32) (Scalar.cmpf .oge x6 (Scalar.ofBits .f32 0xC2D20000#32)) = 1#1
    · obtain ⟨n, rfl⟩ : ∃ n, m = n + 1 := ⟨m - 1, by have := kb_ge0 ⟨m, by omega⟩ (andi_left _ _ hgo); dsimp only at this; omega⟩
      have hchk := chk8 ⟨n, by omega⟩
      have hsub : Scalar.subi (kb (n + 1)) 1#32 = kb n := kb_sub1 ⟨n, by omega⟩
      simp only [k0_part98_eq_skeleton, k0_part99_eq_skeleton, k0_part100_eq_skeleton]; unfold k0_part98_skel k0_part99_skel k0_part100_skel
      unfold held some'
      icases H with ⟨⟨%f13, H13⟩, ⟨%f14, H14⟩, ⟨%f15, H15⟩, ⟨%f16, H16⟩, ⟨%f18, H18⟩, ⟨%f19, H19⟩⟩
      sl_exec (disch := first | sl_exact hgo | sl_exact hchk)
      dsimp only
      iapply (wp_call 𝒱₀ (c : Thread nD τ) (some (n + 1)) Set.univ n (fun u hu => by cases hu; exact Nat.lt_add_of_pos_right (by decide)))
      iapply (ih n (by omega) (by omega))
      isplitr; · ipureintro; exact hsub
      isplitl [H13 H14 H15 H16 H18 H19]
      · unfold held some'
        isplitl [H13]; · iexists _; iexact H13
        isplitl [H14]; · iexists _; iexact H14
        isplitl [H15]; · iexists _; iexact H15
        isplitl [H16]; · iexists _; iexact H16
        isplitl [H18]; · iexists _; iexact H18
        iexists _; iexact H19
      unfold ends
      iintro %r ⟨%hr, H⟩
      dsimp only
      sl_step
      iapply Hk
      isplitr
      · ipureintro; obtain ⟨n', h1, h2⟩ := hr; exact ⟨n', by omega, h2⟩
      iexact H
    · sl_exec (disch := first | sl_exact hgo)
      sl_step
      unfold ends
      iapply Hk
      isplitr; · ipureintro; exact ⟨m, le_refl m, rfl⟩
      iexact H

end

end Cert.AttnD
-- ==== Proof.AttnDBody.lean ====
module

public import proofs.«01_k».proof.Proof.AttnDWhileA
public import proofs.«01_k».proof.Proof.AttnDWhileB

@[expose] public section

set_option maxRecDepth 65536

/-!
# One point of the launch
-/

noncomputable section

namespace Cert.AttnD

open Cert.Kernel13Ideal Cert.Kernel13Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem bind_seq {E : Type → Type _} {α β : Type} (p : Prog E α) (f : α → Prog E β) : Prog.bind p f = p >>= f := rfl

theorem trip_off : ∀ k : Fin k0_t6_loop.trips,
    (Scalar.subi (Scalar.subi (Scalar.addi (Scalar.muli (Scf.iv 1#32 1#32 k) 2#32) 0#32) 2#32) 1#32 = kb (2 * k.val))
    ∧ (Scalar.subi (Scalar.subi (Scalar.addi (Scalar.muli (Scf.iv 1#32 1#32 k) 2#32) 1#32) 2#32) 1#32 = kb (2 * k.val + 1)) := by decide +kernel
theorem trips6 (k : Fin k0_t6_loop.trips) : k.val < 15 := lt_of_lt_of_eq k.isLt (by decide +kernel)

section
variable (c : Dev nD) (i : grid0.Coords) (a2 : Memref sig .tc .vmem S1x4096x128 .f32) (g2 : a2.IsWhole) (a3 : Memref sig .tc .vmem S1x4096x128 .f32) (g3 : a3.IsWhole) (a4 : Memref sig .tc .vmem S1x4096x128 .f32) (g4 : a4.IsWhole) (a5 : Memref sig .tc .vmem S1x4096x128 .f32) (g5 : a5.IsWhole) (a6 : Memref sig .tc .vmem S1x4096x128 .f32) (g6 : a6.IsWhole) (a7 : Memref sig .tc .vmem S1x128 .f32) (g7 : a7.IsWhole) (a8 : Memref sig .tc .vmem S1x128 .f32) (g8 : a8.IsWhole) (a9 : Memref sig .tc .vmem S1x4096x128 .bf16) (g9 : a9.IsWhole) (a10 : Memref sig .tc .vmem S1x4096x128 .bf16) (g10 : a10.IsWhole) (a11 : Memref sig .tc .vmem S1x4096x128 .bf16) (g11 : a11.IsWhole) (a12 : Memref sig .tc .vmem S8x128 .f32) (g12 : a12.IsWhole) (a13 : Memref sig .tc .vmem S32x256x128 .bf16) (g13 : a13.IsWhole) (a14 : Memref sig .tc .vmem S32x256x128 .bf16) (g14 : a14.IsWhole) (a15 : Memref sig .tc .vmem S32x256x128 .bf16) (g15 : a15.IsWhole) (a16 : Memref sig .tc .vmem S32x256x128 .bf16) (g16 : a16.IsWhole) (a17 : Memref sig .tc .vmem S4096x128 .f32) (g17 : a17.IsWhole) (a18 : Memref sig .tc .vmem S4096x128 .f32) (g18 : a18.IsWhole) (a19 : Memref sig .tc .vmem S4096x128 .f32) (g19 : a19.IsWhole)

/-- What the loop over the later query blocks reads and writes. -/
def inv6 (x5 : Buf (Elt F) (a5.view.loc (c : Thread nD τ))) : sProp 𝕄 :=
  iprop((a5.view.loc (c : Thread nD τ) ↦[a5.view.set]{fullShare} x5) ∗ some' c a17 ∗ held (F := F) c a13 a14 a15 a16 a18 a19)

set_option maxHeartbeats 40000000 in
/-- One trip of the loop over the later query blocks. -/
theorem trip6 (v25 : FVec F S256x256 .bf16) (v28 : IVec S128x128 1) (v57 : FVec F S256x128 .bf16) (v138 : FVec F S128x128 .f32) (v149 : FVec F S128x128 .bf16) (v150 : FVec F S128x128 .bf16) (v154 : FVec F S128x1 .f32) (v158 : FVec F S128x1 .f32) (v169 : FVec F S128x128 .bf16) (v170 : FVec F S128x128 .bf16) (v174 : FVec F S128x1 .f32) (v178 : FVec F S128x1 .f32) (v312 : FVec F S128x128 .f32) (v320 : FVec F S128x128 .f32) (v342 : FVec F S128x128 .f32) (v348 : FVec F S128x128 .f32) (v424 : FVec F S128x128 .f32) (v438 : FVec F S128x128 .f32) (v480 : FVec F S128x128 .f32) (v492 : FVec F S128x128 .f32) (v550 : FVec F S128x128 .f32) (v596 : FVec F S128x128 .f32) (v597 : FVec F S1x128x128 .f32) (x5 : Buf (Elt F) (a5.view.loc (c : Thread nD τ))) (k : Fin k0_t6_loop.trips) :
    inv6 (F := F) c a5 a13 a14 a15 a16 a17 a18 a19 x5 ⊢ wp frame (wpE (defs₀ (F := F)) 𝒱₀ (c : Thread nD τ) none) Set.univ
      (k0_t6_body i a2 g2 a3 g3 a4 g4 a5 g5 a6 g6 a7 g7 a8 g8 a9 g9 a10 g10 a11 g11 a12 g12 a13 g13 a14 g14 a15 g15 a16 g16 a17 g17 a18 g18 a19 g19 v25 v28 v57 v138 v149 v150 v154 v158 v169 v170 v174 v178 v312 v320 v342 v348 v424 v438 v480 v492 v550 v596 v597 k ()) (fun _ => inv6 (F := F) c a5 a13 a14 a15 a16 a17 a18 a19 x5) := by
    obtain ⟨e5, e7⟩ := trip_off k
    have hk := trips6 k
    unfold k0_t6_body
    rw [k0_part47_eq_skeleton]; unfold k0_part47_skel
    simp only [k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    unfold k0_part46_skel k0_part45_skel k0_part44_skel k0_part43_skel k0_part42_skel k0_part41_skel k0_part40_skel k0_part39_skel k0_part38_skel k0_part37_skel k0_part36_skel k0_part35_skel k0_part34_skel k0_part33_skel k0_part32_skel k0_part31_skel k0_part30_skel k0_part29_skel k0_part28_skel k0_part27_skel
    unfold inv6 held some'
    iintro ⟨H5, ⟨%f17, H17⟩, ⟨%f13, H13⟩, ⟨%f14, H14⟩, ⟨%f15, H15⟩, ⟨%f16, H16⟩, ⟨%f18, H18⟩, ⟨%f19, H19⟩⟩
    sl_exec
    dsimp only
    iapply (wp_call 𝒱₀ (c : Thread nD τ) none Set.univ (2 * k.val) (fun u hu => nomatch hu))
    iapply (while5 (F := F) c a13 a14 a15 a16 g13 g14 g15 g16 a18 a19 g18 g19 i k _ _ _ _ _ (2 * k.val) (by omega))
    isplitr; · ipureintro; exact e5
    isplitl [H13 H14 H15 H16 H18 H19]
    · unfold held some'
      isplitl [H13]; · iexists _; iexact H13
      isplitl [H14]; · iexists _; iexact H14
      isplitl [H15]; · iexists _; iexact H15
      isplitl [H16]; · iexists _; iexact H16
      isplitl [H18]; · iexists _; iexact H18
      iexists _; iexact H19
    unfold ends
    iintro %r5 ⟨%hr5, H⟩
    obtain ⟨n5, hl5, hw5⟩ := hr5
    dsimp only
    iapply (wp_call 𝒱₀ (c : Thread nD τ) none Set.univ n5 (fun u hu => nomatch hu))
    iapply (while6 (F := F) c a13 a14 a15 a16 g13 g14 g15 g16 a18 a19 g18 g19 i k _ _ _ _ _ n5 (by omega))
    isplitr; · ipureintro; exact hw5
    isplitl [H]; · iexact H
    unfold ends
    iintro %r6 ⟨%hr6, H⟩
    simp only [bind_seq, Prog.pure_eq_ret, Prog.bind_ret]
    unfold held some'
    icases H with ⟨⟨%f135, H13⟩, ⟨%f145, H14⟩, ⟨%f155, H15⟩, ⟨%f165, H16⟩, ⟨%f185, H18⟩, ⟨%f195, H19⟩⟩
    sl_exec
    dsimp only
    iapply (wp_call 𝒱₀ (c : Thread nD τ) none Set.univ (2 * k.val + 1) (fun u hu => nomatch hu))
    iapply (while7 (F := F) c a13 a14 a15 a16 g13 g14 g15 g16 a18 a19 g18 g19 i k _ _ _ _ _ (2 * k.val + 1) (by omega))
    isplitr; · ipureintro; exact e7
    isplitl [H13 H14 H15 H16 H18 H19]
    · unfold held some'
      isplitl [H13]; · iexists _; iexact H13
      isplitl [H14]; · iexists _; iexact H14
      isplitl [H15]; · iexists _; iexact H15
      isplitl [H16]; · iexists _; iexact H16
      isplitl [H18]; · iexists _; iexact H18
      iexists _; iexact H19
    unfold ends
    iintro %r7 ⟨%hr7, H⟩
    obtain ⟨n7, hl7, hw7⟩ := hr7
    dsimp only
    iapply (wp_call 𝒱₀ (c : Thread nD τ) none Set.univ n7 (fun u hu => nomatch hu))
    iapply (while8 (F := F) c a13 a14 a15 a16 g13 g14 g15 g16 a18 a19 g18 g19 i k _ _ _ _ _ n7 (by omega))
    isplitr; · ipureintro; exact hw7
    isplitl [H]; · iexact H
    unfold ends
    iintro %r8 ⟨%hr8, H⟩
    simp only [bind_seq, Prog.pure_eq_ret, Prog.bind_ret]
    unfold held some'
    icases H with ⟨⟨%f137, H13⟩, ⟨%f147, H14⟩, ⟨%f157, H15⟩, ⟨%f167, H16⟩, ⟨%f187, H18⟩, ⟨%f197, H19⟩⟩
    sl_exec
    dsimp only
    sl_step
    isplitl [H5]; · iexact H5
    isplitl [H17]; · iexists _; iexact H17
    isplitl [H13]; · iexists _; iexact H13
    isplitl [H14]; · iexists _; iexact H14
    isplitl [H15]; · iexists _; iexact H15
    isplitl [H16]; · iexists _; iexact H16
    isplitl [H18]; · iexists _; iexact H18
    iexists _; iexact H19

set_option warn.classDefReducibility false in
/-- The loop over the later query blocks, by what it holds. -/
@[reducible] def loop6 (v25 : FVec F S256x256 .bf16) (v28 : IVec S128x128 1) (v57 : FVec F S256x128 .bf16) (v138 : FVec F S128x128 .f32) (v149 : FVec F S128x128 .bf16) (v150 : FVec F S128x128 .bf16) (v154 : FVec F S128x1 .f32) (v158 : FVec F S128x1 .f32) (v169 : FVec F S128x128 .bf16) (v170 : FVec F S128x128 .bf16) (v174 : FVec F S128x1 .f32) (v178 : FVec F S128x1 .f32) (v312 : FVec F S128x128 .f32) (v320 : FVec F S128x128 .f32) (v342 : FVec F S128x128 .f32) (v348 : FVec F S128x128 .f32) (v424 : FVec F S128x128 .f32) (v438 : FVec F S128x128 .f32) (v480 : FVec F S128x128 .f32) (v492 : FVec F S128x128 .f32) (v550 : FVec F S128x128 .f32) (v596 : FVec F S128x128 .f32) (v597 : FVec F S1x128x128 .f32) (x5 : Buf (Elt F) (a5.view.loc (c : Thread nD τ))) :
    LoopInvTy_k0_t6 (F := F) Unit ℕ (UR sig nD τ) ℕ 𝒱₀ c none Set.univ i a2 g2 a3 g3 a4 g4 a5 g5 a6 g6 a7 g7 a8 g8 a9 g9 a10 g10 a11 g11 a12 g12 a13 g13 a14 g14 a15 g15 a16 g16 a17 g17 a18 g18 a19 g19 v25 v28 v57 v138 v149 v150 v154 v158 v169 v170 v174 v178 v312 v320 v342 v348 v424 v438 v480 v492 v550 v596 v597 where
  inv _ _ := inv6 (F := F) c a5 a13 a14 a15 a16 a17 a18 a19 x5
  step k _ := trip6 c i a2 g2 a3 g3 a4 g4 a5 g5 a6 g6 a7 g7 a8 g8 a9 g9 a10 g10 a11 g11 a12 g12 a13 g13 a14 g14 a15 g15 a16 g16 a17 g17 a18 g18 a19 g19 v25 v28 v57 v138 v149 v150 v154 v158 v169 v170 v174 v178 v312 v320 v342 v348 v424 v438 v480 v492 v550 v596 v597 x5 k

theorem loop6_spec (v25 : FVec F S256x256 .bf16) (v28 : IVec S128x128 1) (v57 : FVec F S256x128 .bf16) (v138 : FVec F S128x128 .f32) (v149 : FVec F S128x128 .bf16) (v150 : FVec F S128x128 .bf16) (v154 : FVec F S128x1 .f32) (v158 : FVec F S128x1 .f32) (v169 : FVec F S128x128 .bf16) (v170 : FVec F S128x128 .bf16) (v174 : FVec F S128x1 .f32) (v178 : FVec F S128x1 .f32) (v312 : FVec F S128x128 .f32) (v320 : FVec F S128x128 .f32) (v342 : FVec F S128x128 .f32) (v348 : FVec F S128x128 .f32) (v424 : FVec F S128x128 .f32) (v438 : FVec F S128x128 .f32) (v480 : FVec F S128x128 .f32) (v492 : FVec F S128x128 .f32) (v550 : FVec F S128x128 .f32) (v596 : FVec F S128x128 .f32) (v597 : FVec F S1x128x128 .f32) (x5 : Buf (Elt F) (a5.view.loc (c : Thread nD τ))) {β : Type} (kk : PUnit → Prog (TpuEff nD τ sig (Elt F) (Λ₀ F) .tc) β) (Q : β → sProp 𝕄) :
    inv6 (F := F) c a5 a13 a14 a15 a16 a17 a18 a19 x5 ⊢ iprop((inv6 (F := F) c a5 a13 a14 a15 a16 a17 a18 a19 x5
        -∗ wp frame (wpE (defs₀ (F := F)) 𝒱₀ (c : Thread nD τ) none) Set.univ (kk ⟨⟩) Q)
      -∗ wp frame (wpE (defs₀ (F := F)) 𝒱₀ (c : Thread nD τ) none) Set.univ
        (Scf.Loop.for k0_t6_loop k0_t6_ok ⟨⟩ (k0_t6_body i a2 g2 a3 g3 a4 g4 a5 g5 a6 g6 a7 g7 a8 g8 a9 g9 a10 g10 a11 g11 a12 g12 a13 g13 a14 g14 a15 g15 a16 g16 a17 g17 a18 g18 a19 g19 v25 v28 v57 v138 v149 v150 v154 v158 v169 v170 v174 v178 v312 v320 v342 v348 v424 v438 v480 v492 v550 v596 v597) >>= kk) Q) := by
  have h := exec_loop frame (wpE (defs₀ (F := F)) 𝒱₀ (c : Thread nD τ) none) Set.univ _ _ _ _ _ _ (loop6 c i a2 g2 a3 g3 a4 g4 a5 g5 a6 g6 a7 g7 a8 g8 a9 g9 a10 g10 a11 g11 a12 g12 a13 g13 a14 g14 a15 g15 a16 g16 a17 g17 a18 g18 a19 g19 v25 v28 v57 v138 v149 v150 v154 v158 v169 v170 v174 v178 v312 v320 v342 v348 v424 v438 v480 v492 v550 v596 v597 x5) (kk := kk) (Q := Q)
  iintro H Hk
  iapply h $$ [H]
  · iexact H
  iintro %acc H
  iapply Hk
  iexact H

/-- The windows and the buffers of a point: the arguments at what they hold, the rest at anything. -/
def owned (x2 : Buf (Elt F) (a2.view.loc (c : Thread nD τ))) (x3 : Buf (Elt F) (a3.view.loc (c : Thread nD τ))) (x4 : Buf (Elt F) (a4.view.loc (c : Thread nD τ))) (x5 : Buf (Elt F) (a5.view.loc (c : Thread nD τ))) (x6 : Buf (Elt F) (a6.view.loc (c : Thread nD τ))) (x7 : Buf (Elt F) (a7.view.loc (c : Thread nD τ))) (x8 : Buf (Elt F) (a8.view.loc (c : Thread nD τ))) : sProp 𝕄 :=
  iprop(((a2.view.loc (c : Thread nD τ) ↦[a2.view.set]{fullShare} x2) ∗ (a3.view.loc (c : Thread nD τ) ↦[a3.view.set]{fullShare} x3) ∗ (a4.view.loc (c : Thread nD τ) ↦[a4.view.set]{fullShare} x4) ∗ (a5.view.loc (c : Thread nD τ) ↦[a5.view.set]{fullShare} x5) ∗ (a6.view.loc (c : Thread nD τ) ↦[a6.view.set]{fullShare} x6) ∗ (a7.view.loc (c : Thread nD τ) ↦[a7.view.set]{fullShare} x7) ∗ (a8.view.loc (c : Thread nD τ) ↦[a8.view.set]{fullShare} x8)) ∗ some' c a9 ∗ some' c a10 ∗ some' c a11 ∗ some' c a12 ∗ some' c a13 ∗ some' c a14 ∗ some' c a15 ∗ some' c a16 ∗ some' c a17 ∗ some' c a18 ∗ some' c a19)

set_option maxHeartbeats 40000000 in
/-- One point of the launch. -/
theorem body (x2 : Buf (Elt F) (a2.view.loc (c : Thread nD τ))) (x3 : Buf (Elt F) (a3.view.loc (c : Thread nD τ))) (x4 : Buf (Elt F) (a4.view.loc (c : Thread nD τ))) (x5 : Buf (Elt F) (a5.view.loc (c : Thread nD τ))) (x6 : Buf (Elt F) (a6.view.loc (c : Thread nD τ))) (x7 : Buf (Elt F) (a7.view.loc (c : Thread nD τ))) (x8 : Buf (Elt F) (a8.view.loc (c : Thread nD τ))) :
    owned c a2 a3 a4 a5 a6 a7 a8 a9 a10 a11 a12 a13 a14 a15 a16 a17 a18 a19 x2 x3 x4 x5 x6 x7 x8 ⊢ wp frame (wpE (defs₀ (F := F)) 𝒱₀ (c : Thread nD τ) none) Set.univ
      (cc0_sb_attn_bwd_skel i a2 g2 a3 g3 a4 g4 a5 g5 a6 g6 a7 g7 a8 g8 a9 g9 a10 g10 a11 g11 a12 g12 a13 g13 a14 g14 a15 g15 a16 g16 a17 g17 a18 g18 a19 g19) (fun _ => owned c a2 a3 a4 a5 a6 a7 a8 a9 a10 a11 a12 a13 a14 a15 a16 a17 a18 a19 x2 x3 x4 x5 x6 x7 x8) := by
    unfold cc0_sb_attn_bwd_skel
    simp only [k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton]
    unfold k0_part64_skel k0_part63_skel k0_part62_skel k0_part61_skel k0_part60_skel k0_part59_skel k0_part58_skel k0_part57_skel k0_part56_skel k0_part55_skel k0_part54_skel k0_part53_skel k0_part52_skel k0_part51_skel k0_part50_skel
    simp only [Prog.bind_assoc, Prog.bind_ret, Prog.pure_eq_ret]
    unfold owned some'
    iintro ⟨⟨H2, H3, H4, H5, H6, H7, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩⟩
    sl_exec
    dsimp only
    iapply (wp_call 𝒱₀ (c : Thread nD τ) none Set.univ 0 (fun u hu => nomatch hu))
    iapply (while1 (F := F) c a13 a14 a15 a16 g13 g14 g15 g16 a18 a19 g18 g19 i _ _ _ _ _ 0 (by omega))
    isplitr; · ipureintro; exact rfl
    isplitl [H13 H14 H15 H16 H18 H19]
    · unfold held some'
      isplitl [H13]; · iexists _; iexact H13
      isplitl [H14]; · iexists _; iexact H14
      isplitl [H15]; · iexists _; iexact H15
      isplitl [H16]; · iexists _; iexact H16
      isplitl [H18]; · iexists _; iexact H18
      iexists _; iexact H19
    unfold ends
    iintro %r1 ⟨%hr1, H⟩
    obtain ⟨n1, hl1, hw1⟩ := hr1
    dsimp only
    iapply (wp_call 𝒱₀ (c : Thread nD τ) none Set.univ n1 (fun u hu => nomatch hu))
    iapply (while2 (F := F) c a13 a14 a15 a16 g13 g14 g15 g16 a18 a19 g18 g19 i _ _ _ _ _ n1 (by omega))
    isplitr; · ipureintro; exact hw1
    isplitl [H]; · iexact H
    unfold ends
    iintro %r2 ⟨%hr2, H⟩
    simp only [bind_seq, Prog.pure_eq_ret, Prog.bind_ret]
    unfold held some'
    icases H with ⟨⟨%f131, H13⟩, ⟨%f141, H14⟩, ⟨%f151, H15⟩, ⟨%f161, H16⟩, ⟨%f181, H18⟩, ⟨%f191, H19⟩⟩
    sl_exec
    dsimp only
    iapply (wp_call 𝒱₀ (c : Thread nD τ) none Set.univ 0 (fun u hu => nomatch hu))
    iapply (while3 (F := F) c a13 a14 a15 a16 g13 g14 g15 g16 a18 a19 g18 g19 i _ _ _ _ _ 0 (by omega))
    isplitr; · ipureintro; exact rfl
    isplitl [H13 H14 H15 H16 H18 H19]
    · unfold held some'
      isplitl [H13]; · iexists _; iexact H13
      isplitl [H14]; · iexists _; iexact H14
      isplitl [H15]; · iexists _; iexact H15
      isplitl [H16]; · iexists _; iexact H16
      isplitl [H18]; · iexists _; iexact H18
      iexists _; iexact H19
    unfold ends
    iintro %r3 ⟨%hr3, H⟩
    obtain ⟨n3, hl3, hw3⟩ := hr3
    dsimp only
    iapply (wp_call 𝒱₀ (c : Thread nD τ) none Set.univ n3 (fun u hu => nomatch hu))
    iapply (while4 (F := F) c a13 a14 a15 a16 g13 g14 g15 g16 a18 a19 g18 g19 i _ _ _ _ _ n3 (by omega))
    isplitr; · ipureintro; exact hw3
    isplitl [H]; · iexact H
    unfold ends
    iintro %r4 ⟨%hr4, H⟩
    simp only [bind_seq, Prog.pure_eq_ret, Prog.bind_ret]
    unfold held some'
    icases H with ⟨⟨%f133, H13⟩, ⟨%f143, H14⟩, ⟨%f153, H15⟩, ⟨%f163, H16⟩, ⟨%f183, H18⟩, ⟨%f193, H19⟩⟩
    sl_exec
    dsimp only
    iapply (loop6_spec c i a2 g2 a3 g3 a4 g4 a5 g5 a6 g6 a7 g7 a8 g8 a9 g9 a10 g10 a11 g11 a12 g12 a13 g13 a14 g14 a15 g15 a16 g16 a17 g17 a18 g18 a19 g19 _ _ _ _ _ _ _ _ _ _ _ _ _ _ _ _ _ _ _ _ _ _ _ x5) $$ [H5 H17 H13 H14 H15 H16 H18 H19]
    · unfold inv6
      isplitl [H5]; · iexact H5
      isplitl [H17]; · unfold some'; iexists _; iexact H17
      unfold held some'
      isplitl [H13]; · iexists _; iexact H13
      isplitl [H14]; · iexists _; iexact H14
      isplitl [H15]; · iexists _; iexact H15
      isplitl [H16]; · iexists _; iexact H16
      isplitl [H18]; · iexists _; iexact H18
      iexists _; iexact H19
    unfold inv6 held some'
    iintro ⟨H5, ⟨%f17', H17⟩, ⟨%f13', H13⟩, ⟨%f14', H14⟩, ⟨%f15', H15⟩, ⟨%f16', H16⟩, ⟨%f18', H18⟩, ⟨%f19', H19⟩⟩
    sl_exec
    sl_step
    isplitl [H2 H3 H4 H5 H6 H7 H8]
    · isplitl [H2]; · iexact H2
      isplitl [H3]; · iexact H3
      isplitl [H4]; · iexact H4
      isplitl [H5]; · iexact H5
      isplitl [H6]; · iexact H6
      isplitl [H7]; · iexact H7
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19
end

end Cert.AttnD
-- ==== Proof.AttnDFrame.lean ====
module

public import proofs.«01_k».proof.Proof.AttnDBody
public import Idealize.ShloMosaic.Lib.Pipeline.Frame
public import Idealize.ShloMosaic.Lib.Pipeline.FrameBody
public import Idealize.ShloMosaic.Lib.Claim

@[expose] public section

set_option maxRecDepth 65536

/-!
# The attention backward call: its run

The call ends on all arguments and leaves them unchanged. What it computes is not named: each result's block is handed to a point at some contents and taken back at some contents.
-/

noncomputable section

namespace Cert.AttnD

open Cert.Kernel13Ideal Cert.Kernel13Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The core's buffers when the call begins: after the host lines before it. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11]) (fun b => m (c, b)) b

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor
theorem fresh3 : (hostOps0_3 : List (HloOp τ sig (Elt F))).Forall fun op => op.fresh = ∅ := by
  simp only [List.Forall]; repeat' constructor
theorem fresh4 : (hostOps0_4 : List (HloOp τ sig (Elt F))).Forall fun op => op.fresh = ∅ := by
  simp only [List.Forall]; repeat' constructor
theorem fresh5 : (hostOps0_5 : List (HloOp τ sig (Elt F))).Forall fun op => op.fresh = ∅ := by
  simp only [List.Forall]; repeat' constructor
theorem fresh6 : (hostOps0_6 : List (HloOp τ sig (Elt F))).Forall fun op => op.fresh = ∅ := by
  simp only [List.Forall]; repeat' constructor
theorem fresh7 : (hostOps0_7 : List (HloOp τ sig (Elt F))).Forall fun op => op.fresh = ∅ := by
  simp only [List.Forall]; repeat' constructor
theorem fresh8 : (hostOps0_8 : List (HloOp τ sig (Elt F))).Forall fun op => op.fresh = ∅ := by
  simp only [List.Forall]; repeat' constructor
theorem fresh9 : (hostOps0_9 : List (HloOp τ sig (Elt F))).Forall fun op => op.fresh = ∅ := by
  simp only [List.Forall]; repeat' constructor
theorem fresh10 : (hostOps0_10 : List (HloOp τ sig (Elt F))).Forall fun op => op.fresh = ∅ := by
  simp only [List.Forall]; repeat' constructor
theorem fresh11 : (hostOps0_11 : List (HloOp τ sig (Elt F))).Forall fun op => op.fresh = ∅ := by
  simp only [List.Forall]; repeat' constructor

/-- The host lines, then the call. -/
theorem host_then_call : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub⟩)
    (by simp only [List.Forall]; exact ⟨fresh0, fresh1, fresh2, fresh3, fresh4, fresh5, fresh6, fresh7, fresh8, fresh9, fresh10, fresh11⟩) main_chain

set_option maxHeartbeats 4000000 in
/-- No host line writes an argument. -/
theorem kept (c : Dev nD) (b : Ref sig .tc) (h : b = main_arg0 ∨ b = main_arg1 ∨ b = main_arg2 ∨ b = main_arg3) :
    V m c b = m ((c : Thread nD τ).loc b) := by
  refine StableHlo.after_of_forall_not_mem (b := Proc.devRef .tc b) _ _ (List.forall_iff_forall_mem.mp ?_)
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append, List.Forall,
    StableHlo.TRef.nullary, StableHlo.TRef.unary, StableHlo.TRef.binary, StableHlo.TRef.ternary,
    StableHlo.nullary_writes, StableHlo.unary_writes, StableHlo.binary_writes, StableHlo.ternary_writes, StableHlo.reshape_writes, Finset.mem_singleton]
  rcases h with rfl | rfl | rfl | rfl <;> (repeat' apply And.intro) <;> exact StableHlo.devRef_ne_of_ne (by decide)

/-- A window's block at a point. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The results' windows: their contents are not named. -/
def fgt : Fin 11 → Bool := fun w => Nat.ble 7 w.val

/-- The proof data: inputs at their blocks, the results' blocks not named, each shared array in equal parts. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => fun _ => Classical.arbitrary _
    | ⟨8, _⟩ => fun _ => Classical.arbitrary _
    | ⟨9, _⟩ => fun _ => Classical.arbitrary _
    | ⟨10, _⟩ => fun _ => Classical.arbitrary _
    | ⟨_ + 11, h⟩ => absurd h (Nat.not_lt.2 (Nat.le_add_left _ _))
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]
theorem after_0 (c : Dev nD) (t : Fin (cfg0 (F := F)).N) : (dats m 0 c).after 0 t = iblk m c 0 t := by dsimp only [dats]; rfl
theorem before_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem after_1 (c : Dev nD) (t : Fin (cfg0 (F := F)).N) : (dats m 0 c).after 1 t = iblk m c 1 t := by dsimp only [dats]; rfl
theorem before_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem after_2 (c : Dev nD) (t : Fin (cfg0 (F := F)).N) : (dats m 0 c).after 2 t = iblk m c 2 t := by dsimp only [dats]; rfl
theorem before_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem after_3 (c : Dev nD) (t : Fin (cfg0 (F := F)).N) : (dats m 0 c).after 3 t = iblk m c 3 t := by dsimp only [dats]; rfl
theorem before_3 (c : Dev nD) (t : Fin (cfg0 (F := F)).N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem after_4 (c : Dev nD) (t : Fin (cfg0 (F := F)).N) : (dats m 0 c).after 4 t = iblk m c 4 t := by dsimp only [dats]; rfl
theorem before_4 (c : Dev nD) (t : Fin (cfg0 (F := F)).N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem after_5 (c : Dev nD) (t : Fin (cfg0 (F := F)).N) : (dats m 0 c).after 5 t = iblk m c 5 t := by dsimp only [dats]; rfl
theorem before_5 (c : Dev nD) (t : Fin (cfg0 (F := F)).N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem after_6 (c : Dev nD) (t : Fin (cfg0 (F := F)).N) : (dats m 0 c).after 6 t = iblk m c 6 t := by dsimp only [dats]; rfl
theorem before_6 (c : Dev nD) (t : Fin (cfg0 (F := F)).N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)

/-! ## The body at a point -/

def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ X, owns (c : Thread nD τ) (st0_7 t) fullShare X)
    ∗ (∃ X, owns (c : Thread nD τ) (st0_8 t) fullShare X)
    ∗ (∃ X, owns (c : Thread nD τ) (st0_9 t) fullShare X)
    ∗ (∃ X, owns (c : Thread nD τ) (st0_10 t) fullShare X))
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, owns (c : Thread nD τ) (st0_7 t) fullShare X)
    ∗ (∃ X, owns (c : Thread nD τ) (st0_8 t) fullShare X)
    ∗ (∃ X, owns (c : Thread nD τ) (st0_9 t) fullShare X)
    ∗ (∃ X, owns (c : Thread nD τ) (st0_10 t) fullShare X))

/-- A whole scratch buffer held at some contents. -/
theorem scratch_some (c : Dev nD) (b : Ref sig .tc) : (some' (F := F) c (Memref.whole b)) = iprop(∃ f : Buf (Elt F) ((c : Thread nD τ).loc b), ((c : Thread nD τ).loc b) ↦{fullShare} f) := by
  unfold some'; rw [(Memref.isWhole_whole b).set_eq_univ]

set_option maxHeartbeats 6400000 in
/-- The body at any point. -/
theorem sound_body (c : Dev nD) (t : Fin (cfg0 (F := F)).N) :
    bodyPre m c t ⊢ wp frame (wpE (defs₀ (F := F)) 𝒱₀ c none) Set.univ (bodyAt0 t) (fun _ => bodyPost m c t) := by
  have hb := body (F := F) c (grid0.coords t) (win0_0.stage ((cfg0 (F := F)).slots t 0)) (hstage0_0 (((cfg0 (F := F)).slots t 0).cast nbuf0_0)) (win0_1.stage ((cfg0 (F := F)).slots t 1)) (hstage0_1 (((cfg0 (F := F)).slots t 1).cast nbuf0_1)) (win0_2.stage ((cfg0 (F := F)).slots t 2)) (hstage0_2 (((cfg0 (F := F)).slots t 2).cast nbuf0_2)) (win0_3.stage ((cfg0 (F := F)).slots t 3)) (hstage0_3 (((cfg0 (F := F)).slots t 3).cast nbuf0_3)) (win0_4.stage ((cfg0 (F := F)).slots t 4)) (hstage0_4 (((cfg0 (F := F)).slots t 4).cast nbuf0_4)) (win0_5.stage ((cfg0 (F := F)).slots t 5)) (hstage0_5 (((cfg0 (F := F)).slots t 5).cast nbuf0_5)) (win0_6.stage ((cfg0 (F := F)).slots t 6)) (hstage0_6 (((cfg0 (F := F)).slots t 6).cast nbuf0_6)) (win0_7.stage ((cfg0 (F := F)).slots t 7)) (hstage0_7 (((cfg0 (F := F)).slots t 7).cast nbuf0_7)) (win0_8.stage ((cfg0 (F := F)).slots t 8)) (hstage0_8 (((cfg0 (F := F)).slots t 8).cast nbuf0_8)) (win0_9.stage ((cfg0 (F := F)).slots t 9)) (hstage0_9 (((cfg0 (F := F)).slots t 9).cast nbuf0_9)) (win0_10.stage ((cfg0 (F := F)).slots t 10)) (hstage0_10 (((cfg0 (F := F)).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)
  unfold bodyPre bodyPost bodyAt0
  simp only [before_0, before_1, before_2, before_3, before_4, before_5, before_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after_0, after_1, after_2, after_3, after_4, after_5, after_6,
    cc0_sb_attn_bwd_eq_skeleton]
  unfold Pipeline.ΦA
  rw [scopedRest0_eq]
  unfold owned at hb
  simp only [scratch_some] at hb
  unfold some' at hb
  unfold owns
  iintro ⟨⟨⟨S0, S1, S2, S3, S4, S5, S6⟩, Hr⟩, Ho, ⟨%d0, %x0, %e0, H0⟩, ⟨%d1, %x1, %e1, H1⟩, ⟨%d2, %x2, %e2, H2⟩, ⟨%d3, %x3, %e3, H3⟩, ⟨%d4, %x4, %e4, H4⟩, ⟨%d5, %x5, %e5, H5⟩, ⟨%d6, %x6, %e6, H6⟩, ⟨%d7, %x7, %e7, H7⟩, ⟨%d8, %x8, %e8, H8⟩, ⟨%d9, %x9, %e9, H9⟩, ⟨%d10, %x10, %e10, H10⟩⟩
  iapply (wp_wand_r frame (wpE (defs₀ (F := F)) 𝒱₀ (c : Thread nD τ) none) Set.univ)
  isplitl [S0 S1 S2 S3 S4 S5 S6 H0 H1 H2 H3 H4 H5 H6 H7 H8 H9 H10]
  · iapply (hb x0 x1 x2 x3 x4 x5 x6)
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexists _; iexact H7
    isplitl [H8]; · iexists _; iexact H8
    isplitl [H9]; · iexists _; iexact H9
    isplitl [H10]; · iexists _; iexact H10
    isplitl [S0]; · iexact S0
    isplitl [S1]; · iexact S1
    isplitl [S2]; · iexact S2
    isplitl [S3]; · iexact S3
    isplitl [S4]; · iexact S4
    isplitl [S5]; · iexact S5
    iexact S6
  iintro %u ⟨⟨H0, H1, H2, H3, H4, H5, H6⟩, ⟨%y7, H7⟩, ⟨%y8, H8⟩, ⟨%y9, H9⟩, ⟨%y10, H10⟩, S0, S1, S2, S3, S4, S5, S6⟩
  isplitl [Hr S0 S1 S2 S3 S4 S5 S6]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hr
  isplitl [Ho]; · iexact Ho
  isplitl [H0]
  · iexists x0; isplitr; · ipureintro; exact e0
    iexact H0
  isplitl [H1]
  · iexists x1; isplitr; · ipureintro; exact e1
    iexact H1
  isplitl [H2]
  · iexists x2; isplitr; · ipureintro; exact e2
    iexact H2
  isplitl [H3]
  · iexists x3; isplitr; · ipureintro; exact e3
    iexact H3
  isplitl [H4]
  · iexists x4; isplitr; · ipureintro; exact e4
    iexact H4
  isplitl [H5]
  · iexists x5; isplitr; · ipureintro; exact e5
    iexact H5
  isplitl [H6]
  · iexists x6; isplitr; · ipureintro; exact e6
    iexact H6
  isplitl [H7]
  · iexists _; iexists y7; isplitr; · ipureintro; rfl
    iexact H7
  isplitl [H8]
  · iexists _; iexists y8; isplitr; · ipureintro; rfl
    iexact H8
  isplitl [H9]
  · iexists _; iexists y9; isplitr; · ipureintro; rfl
    iexact H9
  iexists _; iexists y10; isplitr; · ipureintro; rfl
  iexact H10

theorem row (t : Fin (cfg0 (F := F)).N) : defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ fgt := fun t => by
  rw [bigSep_W0, bigSep_W0, row]
  exact triple_restated (sound_body m c t) rfl .rfl fun _ => .rfl

/-! ## The run -/

set_option backward.isDefEq.respectTransparency.types false in
theorem run_quiescent : θ_run defs (onTc (τ := τ) (main (F := F))) (s₀ m ρ) (fun r => (Pipeline.RDat.FramePost (cfgs 0) (fun c => (dats m 0 c).toRForget fgt) (V m)) r ∧ r.2.sem = fun _ => 0) :=
  Pipeline.θ_run_frame_forget_shared (Q' := _) cfgs (dats m) (0 : Fin 1) launch₀0 defs₀ 𝒱₀ fgt m ρ main
    (hbody := fun c => (body_obligation m c).loose) (hq := fun _ _ _ => rfl)
    (howed := fun _ _ => rfl) (V := V m) (hmain := host_then_call m) (hA := A_eq m) (hΦ := fun _ _ => rfl) (hQ' := fun _ h => h)

/-- A buffer that is no window's array ends as the call found it. -/
theorem rest_kept {cfg₁ : Cfg sig (Λ₀ F)} {rdat : (c : Dev nD) → Pipeline.RDat τ (Elt F) Unit ℕ (UR sig nD τ) ℕ cfg₁ c}
    {V : (c : Dev nD) → (b : Ref sig .tc) → Buf (Elt F) ((c.tc : Thread nD τ).loc b)} {r : PUnit × MemSt nD τ sig (Elt F)}
    (h : Pipeline.RDat.FramePost cfg₁ rdat V r) (c : Dev nD) (b : Ref sig .tc) (hb : b ∈ Pipeline.restRefs sig cfg₁.spec) :
    r.2.mem ((c.tc : Thread nD τ).loc b) = V c b :=
  (h c).2 b hb

/-- The fifth window's array is the last argument. -/
theorem ref4 : Pipeline.arrRef spec0 4 = main_arg3 := rfl

theorem kept4 (c : Dev nD) : V m c (Pipeline.arrRef spec0 4) = m ((c.tc : Thread nD τ).loc (Pipeline.arrRef spec0 4)) :=
  kept m c _ (.inr (.inr (.inr ref4)))

/-- It is as launched. -/
theorem array4 (c : Dev nD) : (dats m 0 c).A 4 = m ((c.tc : Thread nD τ).loc (Pipeline.arrRef spec0 4)) :=
  (A_eq m c 4).trans (kept4 m c)

set_option maxHeartbeats 2000000 in
/-- The arguments are unchanged and no counter is left up. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) := by
  refine (θ_run defs _ _).mono ?_ (run_quiescent m ρ)
  intro r h
  obtain ⟨h1, h2⟩ := h
  refine ⟨fun c => ⟨?_, ?_, ?_, ?_⟩, h2⟩
  · exact (rest_kept h1 c main_arg0 (Pipeline.mem_restRefs_of main_arg0 (by decide) (show ∀ w : Fin 11, (spec0 w).arr.view.ref ≠ main_arg0 by decide))).trans (kept m c main_arg0 (.inl rfl))
  · exact (rest_kept h1 c main_arg1 (Pipeline.mem_restRefs_of main_arg1 (by decide) (show ∀ w : Fin 11, (spec0 w).arr.view.ref ≠ main_arg1 by decide))).trans (kept m c main_arg1 (.inr (.inl rfl)))
  · exact (rest_kept h1 c main_arg2 (Pipeline.mem_restRefs_of main_arg2 (by decide) (show ∀ w : Fin 11, (spec0 w).arr.view.ref ≠ main_arg2 by decide))).trans (kept m c main_arg2 (.inr (.inr (.inl rfl))))
  · exact (h1.arr_in c 4 rfl).trans (array4 m c)

end Cert.AttnD

end
-- ==== Proof.AttnDBitsBase.lean ====
module

public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Loops
-- ==== Proof.Lift.lean ====
/- Real arrays read as extended reals: the lifts of vectors, matrices and stacks, and the equations by which a lifted
   operation is the lift of the real operation. -/
module

public import Idealize.ShloMosaic.Lib.Pointwise
public import Idealize.ShloMosaic.PureOps.Ideal.Laws
public import Mathlib.Analysis.SpecialFunctions.Trigonometric.DerivHyp

@[expose] public section

noncomputable section

namespace Cert.Lift

open Idealize.ShloMosaic

/-- A real matrix as a two-axis array of extended reals. -/
def up2 {n m : ℕ} (a : Fin n → Fin m → ℝ) : (⟨2, ![n, m]⟩ : Shape).Idx → EReal := fun i => ((a (i 0) (i 1) : ℝ) : EReal)

/-- A real stack of matrices as a three-axis array of extended reals. -/
def up3 {k n m : ℕ} (a : Fin k → Fin n → Fin m → ℝ) : (⟨3, ![k, n, m]⟩ : Shape).Idx → EReal :=
  fun i => ((a (i 0) (i 1) (i 2) : ℝ) : EReal)

theorem up2_ix {n m : ℕ} (a : Fin n → Fin m → ℝ) (p : Fin n) (d : Fin m) : up2 a (ix2 p d) = ((a p d : ℝ) : EReal) := rfl

theorem up3_ix {k n m : ℕ} (a : Fin k → Fin n → Fin m → ℝ) (b : Fin k) (p : Fin n) (d : Fin m) :
    up3 a (ix3 b p d) = ((a b p d : ℝ) : EReal) := rfl

theorem coe_sum {ι : Type*} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

theorem coe_div {x y : ℝ} (h : y ≠ 0) : Ideal.div (x : EReal) (y : EReal) = ((x / y : ℝ) : EReal) := by
  rw [Ideal.div_coe h, ← EReal.coe_mul]; congr 1; ring

theorem coe_rsqrt {x : ℝ} (h : 0 < x) : Ideal.rsqrt (x : EReal) = (((Real.sqrt x)⁻¹ : ℝ) : EReal) := by
  rw [Ideal.rsqrt_coe, if_neg (not_lt.mpr h.le), if_neg h.ne']

/-- The small constant under the root of a norm: the binary value nearest a millionth. -/
def eps : ℝ := 8796093 / 2 ^ 43

theorem eps_pos : 0 < eps := by unfold eps; positivity

theorem bits_zero : Ideal.ofBits .f32 0x00000000#32 = ((0 : ℝ) : EReal) := by simp [Ideal.ofBits, Ideal.ieee]
theorem bits_eps : Ideal.ofBits .f32 0x358637BD#32 = ((eps : ℝ) : EReal) := by
  simp [Ideal.ofBits, Ideal.ieee, eps, ← EReal.coe_mul]; norm_num
theorem bits_half : Ideal.ofBits .f32 0x3F000000#32 = (((1 : ℝ) / 2 : ℝ) : EReal) := by
  simp [Ideal.ofBits, Ideal.ieee, ← EReal.coe_mul]; norm_num
theorem bits_neg_half : Ideal.ofBits .f32 0xBF000000#32 = ((-((1 : ℝ) / 2) : ℝ) : EReal) := by
  simp [Ideal.ofBits, Ideal.ieee, ← EReal.coe_mul, ← EReal.coe_neg]; norm_num
theorem bits_one : Ideal.ofBits .f32 0x3F800000#32 = ((1 : ℝ) : EReal) := by
  simp [Ideal.ofBits, Ideal.ieee, ← EReal.coe_mul]; norm_num
theorem bits_two : Ideal.ofBits .f32 0x40000000#32 = ((2 : ℝ) : EReal) := by
  simp [Ideal.ofBits, Ideal.ieee, ← EReal.coe_mul]; norm_num
theorem bits_1024 : Ideal.ofBits .f32 0x44800000#32 = ((1024 : ℝ) : EReal) := by
  simp [Ideal.ofBits, Ideal.ieee, ← EReal.coe_mul]; norm_num
theorem bits_inv1024 : Ideal.ofBits .f32 0x3A800000#32 = (((1 : ℝ) / 1024 : ℝ) : EReal) := by
  simp [Ideal.ofBits, Ideal.ieee, ← EReal.coe_mul]; norm_num
theorem bits_inv2048 : Ideal.ofBits .f32 0x3A000000#32 = (((1 : ℝ) / 2048 : ℝ) : EReal) := by
  simp [Ideal.ofBits, Ideal.ieee, ← EReal.coe_mul]; norm_num

/-- The logistic function. -/
def sg (x : ℝ) : ℝ := 1 / (1 + Real.exp (-x))

/-- The logistic function by the hyperbolic tangent. -/
theorem half_tanh (x : ℝ) : 1 / 2 * Real.tanh (1 / 2 * x) + 1 / 2 = sg x := by
  have h1 : Real.exp (-x) = Real.exp (-(1 / 2 * x)) * Real.exp (-(1 / 2 * x)) := by rw [← Real.exp_add]; congr 1; ring
  have h2 : Real.exp (1 / 2 * x) * Real.exp (-(1 / 2 * x)) = 1 := by rw [← Real.exp_add]; simp
  have p1 := Real.exp_pos (1 / 2 * x)
  have p2 := Real.exp_pos (-(1 / 2 * x))
  rw [sg, h1, Real.tanh_eq_sinh_div_cosh, Real.sinh_eq, Real.cosh_eq]
  generalize Real.exp (1 / 2 * x) = u at *
  generalize Real.exp (-(1 / 2 * x)) = v at *
  have : u = 1 / v := by field_simp; linarith
  subst this
  field_simp
  ring

end Cert.Lift
-- ==== Proof.GateModel.lean ====
/- One token's mathematics of the gated norms, the out projection, the loss and their gradients, over the reals: a gated
   branch is the attention's or the recurrence's output `o` times the swish of its gate `z`, divided by the root of its
   mean square and scaled by `w`. -/
module

public import proofs.«01_k».proof.Proof.Lift

@[expose] public section

noncomputable section

namespace Cert.Gate

open Cert.Lift

/-- A row of 1024 channels. -/
abbrev Row := Fin 1024 → ℝ

/-- The swish of the gate. -/
def sil (z : Row) : Row := fun d => z d * sg (z d)
/-- The gated branch. -/
def gg (o z : Row) : Row := fun d => o d * sil z d
/-- Its mean square, with the small constant. -/
def ms (o z : Row) : ℝ := (∑ k, gg o z k * gg o z k) / 1024 + eps
/-- The reciprocal root of the mean square. -/
def rr (o z : Row) : ℝ := (Real.sqrt (ms o z))⁻¹
/-- The normalised branch. -/
def nn (o z : Row) : Row := fun d => gg o z d * rr o z
/-- The branch as it enters the out projection. -/
def yy (o z w : Row) : Row := fun d => nn o z d * w d

/-- The derivative of the swish. -/
def dsil (z : Row) : Row := fun d => sg (z d) * (1 + z d * (1 - sg (z d)))
/-- The gated branch's gradient, from the gradient `dm` of the branch as it enters the projection. -/
def dg (o z w dm : Row) : Row := fun d => rr o z * (dm d * w d - nn o z d * ((∑ k, dm k * w k * nn o z k) / 1024))
/-- The gradient of the branch's output. -/
def dox (o z w dm : Row) : Row := fun d => dg o z w dm d * sil z d
/-- The gradient of the branch's gate. -/
def dz (o z w dm : Row) : Row := fun d => dg o z w dm d * o d * dsil z d

/-- The token's error: the residual stream plus the projection of both branches, less the target. -/
def err (x t y₁ y₂ : Row) (W₁ W₂ : Fin 1024 → Row) : Row :=
  fun d => x d + ((∑ k, y₁ k * W₁ k d) + ∑ k, y₂ k * W₂ k d) - t d
/-- The gradient of the token's output. -/
def dout (e : Row) : Row := fun d => e d * (1 / 1024)
/-- A branch's gradient as it leaves the projection. -/
def dmix (e : Row) (W : Fin 1024 → Row) : Row := fun k => ∑ d, dout e d * W k d

theorem ms_pos (o z : Row) : 0 < ms o z := by
  unfold ms
  have : 0 ≤ (∑ k, gg o z k * gg o z k) / 1024 := div_nonneg (Finset.sum_nonneg fun k _ => mul_self_nonneg _) (by norm_num)
  have := eps_pos
  linarith

/-- The norm's gradient as the derivative of the reciprocal root gives it. -/
theorem dg_eq (o z w dm : Row) (d : Fin 1024) :
    dm d * w d * rr o z + (gg o z d * (((∑ k, gg o z k * (dm k * w k)) * (-(1 / 2) * (rr o z / ms o z))) / 1024) +
      gg o z d * (((∑ k, gg o z k * (dm k * w k)) * (-(1 / 2) * (rr o z / ms o z))) / 1024)) = dg o z w dm d := by
  have hms := ms_pos o z
  have hr : rr o z / ms o z = rr o z * rr o z * rr o z := by
    have : rr o z * rr o z = 1 / ms o z := by
      unfold rr; rw [← mul_inv, Real.mul_self_sqrt hms.le, one_div]
    rw [this]; ring
  have hs : (∑ k, dm k * w k * nn o z k) = (∑ k, gg o z k * (dm k * w k)) * rr o z := by
    rw [Finset.sum_mul]; exact Finset.sum_congr rfl fun k _ => by unfold nn; ring
  unfold dg
  rw [hr, hs]
  unfold nn
  ring

end Cert.Gate
-- ==== Proof.GateKernel.lean ====
/- The tile's arithmetic of the kernel, over real blocks: each value the body computes is the lift of the row's own
   mathematics, row by row. -/
module

public import proofs.«01_k».proof.Proof.GateModel
public import proofs.«01_k».proof.Proof.Gen.KernelIdeal.Skeleton

@[expose] public section

set_option maxRecDepth 16384

noncomputable section

namespace Cert.KernelIdeal.Gate

open Cert.KernelIdeal Cert.KernelIdeal.Gen Idealize.ShloMosaic Cert.Lift Cert.Gate

/-- A tile of 256 tokens. -/
abbrev Tile := Fin 256 → Row
/-- A weight row as the one-row block the kernel holds. -/
abbrev one (w : Row) : Vec Ideal S1x1024 .f32 := up2 fun _ => w

theorem pay9_eq (z : Tile) : k0_pay9 (F := Ideal) (up2 z) = up2 fun p d => sg (z p d) := by
  funext i; idx_vars i
  pointwise [k0_pay9, k0_pay6]
  simp only [up2_ix, Ideal.addf_def, Ideal.mulf_def, bits_half, Ideal.tanh_coe, Ideal.tanh_def, ← EReal.coe_mul, ← EReal.coe_add, half_tanh]

theorem pay10_eq (z : Tile) : k0_pay10 (F := Ideal) (up2 z) = up2 fun p => sil (z p) := by
  unfold k0_pay10; rw [pay9_eq]
  funext i; idx_vars i
  pointwise [k0_pay6]
  simp only [up2_ix, ← EReal.coe_mul, sil]

theorem pay11_eq (o z : Tile) : k0_pay11 (F := Ideal) (up2 o) (up2 z) = up2 fun p => gg (o p) (z p) := by
  unfold k0_pay11; rw [pay10_eq]
  funext i; idx_vars i
  pointwise [k0_pay5]
  simp only [up2_ix, ← EReal.coe_mul, gg]

theorem pay12_eq (o z : Tile) : k0_pay12 (F := Ideal) (up2 o) (up2 z) = up2 fun p _ => rr (o p) (z p) := by
  unfold k0_pay12; rw [pay11_eq]
  funext i; idx_vars i
  pointwise
  simp only [up2_ix, bits_1024, bits_eps, bits_zero, ← EReal.coe_mul, coe_sum, ← EReal.coe_add, coe_div (show (1024 : ℝ) ≠ 0 by norm_num)]
  exact coe_rsqrt (ms_pos _ _)

theorem pay13_eq (o z : Tile) : k0_pay13 (F := Ideal) (up2 o) (up2 z) = up2 fun p => nn (o p) (z p) := by
  unfold k0_pay13; rw [pay11_eq, pay12_eq]
  funext i; idx_vars i
  pointwise
  simp only [up2_ix, ← EReal.coe_mul, nn]

theorem pay14_eq (o z : Tile) (w : Row) : k0_pay14 (F := Ideal) (up2 o) (up2 z) (one w) = up2 fun p => yy (o p) (z p) w := by
  unfold k0_pay14; rw [pay13_eq]
  funext i; idx_vars i
  pointwise
  simp only [up2_ix, ← EReal.coe_mul, yy]

/-- The second branch's values are the first's, of the second's blocks. -/
theorem pay21_eq (o z : Tile) (w : Row) :
    k0_pay21 (F := Ideal) (k0_pay7 (up2 o)) (k0_pay8 (up2 z)) (one w) (k0_pay15 (up2 z)) = up2 fun p => yy (o p) (z p) w :=
  (show _ = k0_pay14 (F := Ideal) (up2 o) (up2 z) (one w) from rfl).trans (pay14_eq o z w)

theorem pay22_eq (y : Tile) : k0_pay22 (F := Ideal) (up2 y) = up2 fun d p => y p d := by
  funext i; idx_vars i
  pointwise [k0_pay22]
  rfl

theorem pay23_eq (o z : Tile) (w : Row) :
    k0_pay23 (F := Ideal) (k0_pay7 (up2 o)) (k0_pay8 (up2 z)) (one w) (k0_pay15 (up2 z)) = up2 fun d p => yy (o p) (z p) w d := by
  unfold k0_pay23; rw [pay21_eq]
  funext i; idx_vars i
  pointwise
  rfl

/-- The tile's error. -/
abbrev errs (x t o₁ z₁ o₂ z₂ : Tile) (w₁ w₂ : Row) (W₁ W₂ : Fin 1024 → Row) : Tile :=
  fun p => err (x p) (t p) (yy (o₁ p) (z₁ p) w₁) (yy (o₂ p) (z₂ p) w₂) W₁ W₂

theorem pay24_eq (x t o₁ z₁ o₂ z₂ : Tile) (w₁ w₂ : Row) (W₁ W₂ : Fin 1024 → Row) :
    k0_pay24 (F := Ideal) (k0_pay7 (up2 o₂)) (k0_pay8 (up2 z₂)) (one w₂) (k0_pay14 (up2 o₁) (up2 z₁) (one w₁)) (k0_pay15 (up2 z₂))
      (up2 x) (up2 W₁) (up2 W₂) (up2 t) = up2 (errs x t o₁ z₁ o₂ z₂ w₁ w₂ W₁ W₂) := by
  unfold k0_pay24; rw [pay21_eq, pay14_eq]
  funext i; idx_vars i
  pointwise
  simp only [up2_ix, ← EReal.coe_mul, coe_sum, ← EReal.coe_add, ← EReal.coe_sub, err]

/-- The whole tile's sum, as the body takes it: over the two tile axes of the tile under a leading unit axis. -/
theorem sum_tile (f : FVec Ideal S256x1024 .f32) :
    extractAt ![0, 0, 0] (shapeCast S1x1x1 (multiReduction .add [1, 2] S1 (shapeCast S1x256x1024 f shapeCasts_S256x1024_S1x256x1024)
      0x00000000#32 reduces_S1x256x1024_S1 (.inl rfl) rfl) shapeCasts_S1_S1x1x1) inpos_S1x1x1_p0_0_0
      = ∑ p : Fin 256, ∑ d : Fin 1024, f (ix2 p d) :=
  ((Ideal.multiReduction_add_total (shapeCast S1x256x1024 f shapeCasts_S256x1024_S1x256x1024) 0x00000000#32 reduces_S1x256x1024_S1
    (by decide) (.inl rfl) rfl _).trans
    (Equiv.sum_comp (Shape.reshapeEquiv (s := S256x1024) (s' := S1x256x1024) shapeCasts_S256x1024_S1x256x1024) f)).trans (sum_idx2 f)

/-- The squares' sum over the tile is the lift of the real one. -/
theorem sum_squares (e : Tile) (f : FVec Ideal S256x1024 .f32) (hf : ∀ p d, f (ix2 p d) = ((e p d * e p d : ℝ) : EReal)) (s : EReal)
    (h : s = ∑ p : Fin 256, ∑ d : Fin 1024, f (ix2 p d)) :
    s * Ideal.ofBits .f32 0x3A000000#32 = (((∑ p, ∑ d, e p d * e p d) * (1 / 2048) : ℝ) : EReal) := by
  rw [h, bits_inv2048, EReal.coe_mul, ← coe_sum]
  congr 1
  refine Finset.sum_congr rfl fun p _ => ?_
  rw [← coe_sum]
  exact Finset.sum_congr rfl fun d _ => hf p d

/-- The loss tile: the block before plus the tile's scaled sum of squares, in every place. -/
theorem pay25_open (e : FVec Ideal S256x1024 .f32) (v : Vec Ideal S8x128 .f32) :
    k0_pay25 (F := Ideal) e v = addf v (broadcast S8x128 (Scalar.mulf (extractAt ![0, 0, 0] (shapeCast S1x1x1
      (multiReduction .add [1, 2] S1 (shapeCast S1x256x1024 (mulf e e) shapeCasts_S256x1024_S1x256x1024)
        0x00000000#32 reduces_S1x256x1024_S1 (.inl rfl) rfl) shapeCasts_S1_S1x1x1) inpos_S1x1x1_p0_0_0) (Ideal.ofBits .f32 0x3A000000#32))) := by
  unfold k0_pay25
  dsimp only
  rw [shapeCast_self]
  rfl

theorem addf_broadcast_mulf (v : FVec Ideal S8x128 .f32) (s k : EReal) (i : S8x128.Idx) :
    addf v (broadcast S8x128 (Scalar.mulf (F := Ideal) (φ := .f32) s k)) i = v i + s * k := rfl

theorem pay25_eq (e : Tile) (v : Vec Ideal S8x128 .f32) (i : S8x128.Idx) :
    k0_pay25 (F := Ideal) (up2 e) v i = v i + (((∑ p, ∑ d, e p d * e p d) * (1 / 2048) : ℝ) : EReal) := by
  rw [pay25_open, sum_tile, addf_broadcast_mulf, sum_squares e _ (fun p d => rfl) _ rfl]

theorem pay26_eq (e : Tile) : k0_pay26 (F := Ideal) (up2 e) = up2 fun p => dout (e p) := by
  funext i; idx_vars i
  pointwise [k0_pay26]
  simp only [up2_ix, ← EReal.coe_mul, bits_inv1024, dout]

theorem pay27_eq (e : Tile) : k0_pay27 (F := Ideal) (up2 e) = up2 fun p => dout (e p) := by
  unfold k0_pay27; rw [pay26_eq]; rfl

theorem pay28_eq (e : Tile) (W : Fin 1024 → Row) :
    k0_pay28 (F := Ideal) (up2 e) (up2 fun d k => W k d) = up2 fun p => dmix (e p) W := by
  unfold k0_pay28; rw [pay27_eq]
  funext i; idx_vars i
  pointwise
  simp only [up2_ix, ← EReal.coe_mul, coe_sum, dmix]

/-- The gradients as they leave the projection. -/
abbrev dms (e : Tile) (W : Fin 1024 → Row) : Tile := fun p => dmix (e p) W

theorem pay29_eq (e o z : Tile) (w : Row) (W : Fin 1024 → Row) :
    k0_pay29 (F := Ideal) (one w) (k0_pay12 (up2 o) (up2 z)) (k0_pay13 (up2 o) (up2 z)) (up2 e) (up2 fun d k => W k d)
      = up2 fun p => dg (o p) (z p) w (dms e W p) := by
  unfold k0_pay29; rw [pay28_eq, pay12_eq, pay13_eq]
  funext i; idx_vars i
  pointwise
  simp only [up2_ix, bits_1024, bits_zero, ← EReal.coe_mul, coe_sum, ← EReal.coe_add, ← EReal.coe_sub, coe_div (show (1024 : ℝ) ≠ 0 by norm_num), dg]

theorem pay30_eq (e o z : Tile) (w : Row) (W : Fin 1024 → Row) :
    k0_pay30 (F := Ideal) (one w) (k0_pay10 (up2 z)) (k0_pay12 (up2 o) (up2 z)) (k0_pay13 (up2 o) (up2 z)) (up2 e) (up2 fun d k => W k d)
      = up2 fun p => dox (o p) (z p) w (dms e W p) := by
  unfold k0_pay30; rw [pay29_eq, pay10_eq]
  funext i; idx_vars i
  pointwise
  simp only [up2_ix, ← EReal.coe_mul, dox]

theorem pay32_eq (z : Tile) : k0_pay32 (F := Ideal) (k0_pay6 (up2 z)) (k0_pay9 (up2 z)) = up2 fun p => dsil (z p) := by
  unfold k0_pay32; rw [pay9_eq]
  funext i; idx_vars i
  pointwise [k0_pay6]
  simp only [up2_ix, ← EReal.coe_one, ← EReal.coe_mul, ← EReal.coe_add, ← EReal.coe_sub, dsil]

theorem pay38_eq (e o z : Tile) (w : Row) (W : Fin 1024 → Row) :
    k0_pay38 (F := Ideal) (k0_pay31 (k0_pay5 (up2 o)) (one w) (k0_pay12 (up2 o) (up2 z)) (k0_pay13 (up2 o) (up2 z)) (up2 e) (up2 fun d k => W k d))
      (k0_pay32 (k0_pay6 (up2 z)) (k0_pay9 (up2 z))) = up2 fun p => dz (o p) (z p) w (dms e W p) := by
  unfold k0_pay38 k0_pay31; rw [pay29_eq, pay32_eq]
  funext i; idx_vars i
  pointwise [k0_pay5]
  simp only [up2_ix, ← EReal.coe_mul, dz]

theorem pay33_eq (e o z : Tile) (W : Fin 1024 → Row) :
    k0_pay33 (F := Ideal) (k0_pay13 (up2 o) (up2 z)) (k0_pay28 (up2 e) (up2 fun d k => W k d))
      = one fun d => ∑ p, dms e W p d * nn (o p) (z p) d := by
  unfold k0_pay33; rw [pay28_eq, pay13_eq]
  funext i; idx_vars i
  pointwise
  simp only [up2_ix, bits_zero, ← EReal.coe_mul, coe_sum, ← EReal.coe_add, zero_add]

/-! ## The second branch, by the first's values at its own blocks -/

theorem pay36_eq (e o z : Tile) (w : Row) (W : Fin 1024 → Row) :
    k0_pay36 (F := Ideal) (one w) (k0_pay17 (k0_pay8 (up2 z)) (k0_pay15 (up2 z))) (k0_pay19 (k0_pay7 (up2 o)) (k0_pay8 (up2 z)) (k0_pay15 (up2 z)))
      (k0_pay20 (k0_pay7 (up2 o)) (k0_pay8 (up2 z)) (k0_pay15 (up2 z))) (k0_pay27 (up2 e)) (up2 fun d k => W k d)
      = up2 fun p => dox (o p) (z p) w (dms e W p) :=
  (show _ = k0_pay30 (F := Ideal) (one w) (k0_pay10 (up2 z)) (k0_pay12 (up2 o) (up2 z)) (k0_pay13 (up2 o) (up2 z)) (up2 e) (up2 fun d k => W k d)
    from rfl).trans (pay30_eq e o z w W)

theorem pay37_eq (e o z : Tile) (W : Fin 1024 → Row) :
    k0_pay37 (F := Ideal) (k0_pay20 (k0_pay7 (up2 o)) (k0_pay8 (up2 z)) (k0_pay15 (up2 z))) (k0_pay27 (up2 e)) (up2 fun d k => W k d)
      = one fun d => ∑ p, dms e W p d * nn (o p) (z p) d :=
  (show _ = k0_pay33 (F := Ideal) (k0_pay13 (up2 o) (up2 z)) (k0_pay28 (up2 e) (up2 fun d k => W k d)) from rfl).trans (pay33_eq e o z W)

theorem pay39_eq (e o z : Tile) (w : Row) (W : Fin 1024 → Row) :
    k0_pay39 (F := Ideal) (k0_pay7 (up2 o)) (k0_pay8 (up2 z)) (one w) (k0_pay16 (k0_pay15 (up2 z)))
      (k0_pay19 (k0_pay7 (up2 o)) (k0_pay8 (up2 z)) (k0_pay15 (up2 z))) (k0_pay20 (k0_pay7 (up2 o)) (k0_pay8 (up2 z)) (k0_pay15 (up2 z)))
      (k0_pay27 (up2 e)) (up2 fun d k => W k d) = up2 fun p => dz (o p) (z p) w (dms e W p) :=
  (show _ = k0_pay38 (F := Ideal) (k0_pay31 (k0_pay5 (up2 o)) (one w) (k0_pay12 (up2 o) (up2 z)) (k0_pay13 (up2 o) (up2 z)) (up2 e) (up2 fun d k => W k d))
    (k0_pay32 (k0_pay6 (up2 z)) (k0_pay9 (up2 z))) from rfl).trans (pay38_eq e o z w W)

theorem pay1_eq (s v : FVec Ideal S1x1024 .f32) (i : S1x1024.Idx) : k0_pay1 (F := Ideal) s v i = v i + s i := by
  unfold k0_pay1; rw [shapeCast_self]; rfl

theorem pay2_eq (s v : FVec Ideal S1x1024 .f32) (i : S1x1024.Idx) : k0_pay2 (F := Ideal) s v i = v i + s i := by
  unfold k0_pay2; rw [shapeCast_self]; rfl

theorem pay3_eq (i : S8x1024.Idx) : k0_pay3 (F := Ideal) i = 0 := bits_zero
theorem pay4_eq (i : S8x128.Idx) : k0_pay4 (F := Ideal) i = 0 := bits_zero

end Cert.KernelIdeal.Gate
-- ==== Proof.GateHost.lean ====
/- The kernel's windows over real arguments: what the host operations before the region leave, and each window's block at a
   grid point, as lifts of the arguments' own rows. -/
module

public import proofs.«01_k».proof.Proof.GateKernel
public import proofs.«01_k».proof.Proof.Gen.KernelIdeal.Value
public import Idealize.ShloMosaic.Lib.Pipeline.ValueKit
public import Idealize.ShloMosaic.Lib.KernelVsHost

@[expose] public section

set_option maxRecDepth 16384

noncomputable section

namespace Cert.Gate

/-- The arguments as real arrays. -/
structure Args where
  x : Fin 2 → Fin 4096 → Row
  o : Fin 2 → Fin 4096 → Row
  proj : Fin 2 → Fin 4096 → Fin 6672 → ℝ
  y : Fin 2 → Fin 4096 → Row
  w₁ : Row
  w₂ : Row
  w : Fin 2048 → Row
  tgt : Fin 2 → Fin 4096 → Row

/-- The rows of both batch entries, one after the other. -/
def flat {α : Type*} (a : Fin 2 → Fin 4096 → α) : Fin 8192 → α := fun r => a ⟨r.val / 4096, by omega⟩ ⟨r.val % 4096, by omega⟩

namespace Args
variable (a : Args)
/-- The attention's gate, a column block of the in projection. -/
def z₁ : Fin 2 → Fin 4096 → Row := fun b s d => a.proj b s ⟨3072 + d.val, by omega⟩
/-- The recurrence's gate. -/
def z₂ : Fin 2 → Fin 4096 → Row := fun b s d => a.proj b s ⟨4096 + d.val, by omega⟩
/-- The rows of the out projection that the attention's branch meets. -/
def W₁ : Fin 1024 → Row := fun k => a.w ⟨k.val, by omega⟩
/-- Those of the recurrence's branch. -/
def W₂ : Fin 1024 → Row := fun k => a.w ⟨1024 + k.val, by omega⟩
end Args

end Cert.Gate

namespace Cert.KernelIdeal.Gate

open Cert.KernelIdeal Cert.KernelIdeal.Gen Idealize.ShloMosaic Idealize.ShloMosaic.TcCoe Cert.Lift Cert.Gate

variable (m : (ℓ : Loc nD τ sig) → Buf (Elt Ideal) ℓ)

/-- Device `c`'s arguments are the lifts of `a`. -/
structure Holds (c : Dev nD) (a : Args) : Prop where
  x : m ((c : Thread nD τ).loc main_arg0) = up3 a.x
  o : m ((c : Thread nD τ).loc main_arg1) = up3 a.o
  proj : m ((c : Thread nD τ).loc main_arg2) = up3 a.proj
  y : m ((c : Thread nD τ).loc main_arg3) = up3 a.y
  w₁ : m ((c : Thread nD τ).loc main_arg4) = up2 fun _ : Fin 1 => a.w₁
  w₂ : m ((c : Thread nD τ).loc main_arg5) = up2 fun _ : Fin 1 => a.w₂
  w : m ((c : Thread nD τ).loc main_arg6) = up3 fun _ : Fin 1 => a.w
  tgt : m ((c : Thread nD τ).loc main_arg7) = up3 a.tgt

variable {m} {c : Dev nD} {a : Args} (h : Holds m c a)

/-- Grid point `t`'s rows. -/
def tile {α : Type*} (f : Fin 8192 → α) (t : Fin cfg0.N) : Fin 256 → α := fun p => f ⟨256 * t.val + p.val, by have : t.val < 32 := t.isLt; omega⟩

theorem e0 : ∀ t : Fin cfg0.N, win0_0.index t = ![t.val, 0] := (by decide +kernel : ∀ t : Fin grid0.N, win0_0.index t = ![t.val, 0])
theorem e1 : ∀ t : Fin cfg0.N, win0_1.index t = ![t.val, 0] := (by decide +kernel : ∀ t : Fin grid0.N, win0_1.index t = ![t.val, 0])
theorem e2 : ∀ t : Fin cfg0.N, win0_2.index t = ![t.val, 0] := (by decide +kernel : ∀ t : Fin grid0.N, win0_2.index t = ![t.val, 0])
theorem e3 : ∀ t : Fin cfg0.N, win0_3.index t = ![t.val, 3] := (by decide +kernel : ∀ t : Fin grid0.N, win0_3.index t = ![t.val, 3])
theorem e4 : ∀ t : Fin cfg0.N, win0_4.index t = ![t.val, 0] := (by decide +kernel : ∀ t : Fin grid0.N, win0_4.index t = ![t.val, 0])
theorem e5 : ∀ t : Fin cfg0.N, win0_5.index t = ![t.val, 4] := (by decide +kernel : ∀ t : Fin grid0.N, win0_5.index t = ![t.val, 4])
theorem e6 : ∀ t : Fin cfg0.N, win0_6.index t = ![0, 0] := (by decide +kernel : ∀ t : Fin grid0.N, win0_6.index t = ![0, 0])
theorem e7 : ∀ t : Fin cfg0.N, win0_7.index t = ![0, 0] := (by decide +kernel : ∀ t : Fin grid0.N, win0_7.index t = ![0, 0])
theorem e8 : ∀ t : Fin cfg0.N, win0_8.index t = ![0, 0] := (by decide +kernel : ∀ t : Fin grid0.N, win0_8.index t = ![0, 0])
theorem e9 : ∀ t : Fin cfg0.N, win0_9.index t = ![0, 0] := (by decide +kernel : ∀ t : Fin grid0.N, win0_9.index t = ![0, 0])
theorem e10 : ∀ t : Fin cfg0.N, win0_10.index t = ![t.val, 0] := (by decide +kernel : ∀ t : Fin grid0.N, win0_10.index t = ![t.val, 0])
theorem e11 : ∀ t : Fin cfg0.N, win0_11.index t = ![t.val, 0] := (by decide +kernel : ∀ t : Fin grid0.N, win0_11.index t = ![t.val, 0])
theorem e12 : ∀ t : Fin cfg0.N, win0_12.index t = ![0, t.val] := (by decide +kernel : ∀ t : Fin grid0.N, win0_12.index t = ![0, t.val])
theorem e13 : ∀ t : Fin cfg0.N, win0_13.index t = ![t.val, 0] := (by decide +kernel : ∀ t : Fin grid0.N, win0_13.index t = ![t.val, 0])
theorem e14 : ∀ t : Fin cfg0.N, win0_14.index t = ![t.val, 0] := (by decide +kernel : ∀ t : Fin grid0.N, win0_14.index t = ![t.val, 0])
theorem e15 : ∀ t : Fin cfg0.N, win0_15.index t = ![t.val, 0] := (by decide +kernel : ∀ t : Fin grid0.N, win0_15.index t = ![t.val, 0])
theorem e16 : ∀ t : Fin cfg0.N, win0_16.index t = ![0, 0] := (by decide +kernel : ∀ t : Fin grid0.N, win0_16.index t = ![0, 0])
theorem e17 : ∀ t : Fin cfg0.N, win0_17.index t = ![0, 0] := (by decide +kernel : ∀ t : Fin grid0.N, win0_17.index t = ![0, 0])

theorem reshape_up3 {k : ℕ} (f : Fin 2 → Fin 4096 → Fin k → ℝ)
    (hs : (⟨3, ![2, 4096, k]⟩ : Shape).ShapeCasts ⟨2, ![8192, k]⟩) :
    shapeCast ⟨2, ![8192, k]⟩ (up3 f) hs = up2 (flat f) := by
  funext j
  have e : up2 (flat f) j = up3 f (ix3 ⟨(j 0).val / 4096, by have := (j 0).isLt; simp at this; omega⟩ ⟨(j 0).val % 4096, by omega⟩ (j 1)) := rfl
  rw [e]
  refine shapeCast_apply _ _ _ _ ?_
  rw [Shape.rowMajor_val_three, Shape.rowMajor_val_two]
  show ((j 0).val / 4096 * 4096 + (j 0).val % 4096) * k + (j 1).val = (j 0).val * k + (j 1).val
  rw [Nat.div_add_mod']
include h

theorem V_v4 : V m c main_v4 = up2 (flat a.x) := by
  unfold V
  simp only [hostOps0, hostOps0_1, hostOps0_2, List.flatten_cons, List.flatten_nil, List.append_nil, List.cons_append, List.nil_append]
  after_results
  refine Eq.trans ?_ (reshape_up3 a.x shapeCasts_S2x4096x1024_S8192x1024)
  rw [← h.x]
  rfl

theorem V_v5 : V m c main_v5 = up2 (flat a.tgt) := by
  unfold V
  simp only [hostOps0, hostOps0_1, hostOps0_2, List.flatten_cons, List.flatten_nil, List.append_nil, List.cons_append, List.nil_append]
  after_results
  refine Eq.trans ?_ (reshape_up3 a.tgt shapeCasts_S2x4096x1024_S8192x1024)
  rw [← h.tgt]
  rfl

theorem V_v6 : V m c main_v6 = up2 (flat a.o) := by
  unfold V
  simp only [hostOps0, hostOps0_1, hostOps0_2, List.flatten_cons, List.flatten_nil, List.append_nil, List.cons_append, List.nil_append]
  after_results
  refine Eq.trans ?_ (reshape_up3 a.o shapeCasts_S2x4096x1024_S8192x1024)
  rw [← h.o]
  rfl

theorem V_v7 : V m c main_v7 = up2 (flat a.y) := by
  unfold V
  simp only [hostOps0, hostOps0_1, hostOps0_2, List.flatten_cons, List.flatten_nil, List.append_nil, List.cons_append, List.nil_append]
  after_results
  refine Eq.trans ?_ (reshape_up3 a.y shapeCasts_S2x4096x1024_S8192x1024)
  rw [← h.y]
  rfl

theorem V_v3 : V m c main_v3 = up2 a.w := by
  unfold V
  simp only [hostOps0, hostOps0_1, hostOps0_2, List.flatten_cons, List.flatten_nil, List.append_nil, List.cons_append, List.nil_append]
  after_results
  have e := h.w
  refine Eq.trans (b := shapeCast S2048x1024 (up3 fun _ : Fin 1 => a.w) shapeCasts_S1x2048x1024_S2048x1024) (by rw [← e]; rfl) ?_
  funext i; idx_vars i
  pointwise
  rfl

theorem V_v8 : V m c main_v8 = up2 fun d k => a.w k d := by
  have e : V m c main_v8 = transpose S1024x2048 [1, 0] (V m c main_v3) transposes_S2048x1024_S1024x2048_1_0 := by
    unfold V
    simp only [hostOps0, hostOps0_1, hostOps0_2, List.flatten_cons, List.flatten_nil, List.append_nil, List.cons_append, List.nil_append]
    after_results
  rw [e, V_v3 h]
  funext i; idx_vars i
  pointwise
  rfl

theorem V_v1 (r : Fin 8192) (d : Fin 6672) : V m c main_v1 (ix2 r ⟨d.val, by omega⟩) = ((flat a.proj r d : ℝ) : EReal) := by
  unfold V
  simp only [hostOps0, hostOps0_1, hostOps0_2, List.flatten_cons, List.flatten_nil, List.append_nil, List.cons_append, List.nil_append]
  after_results
  have e := h.proj
  refine Eq.trans (b := pad S2x4096x7168 ![0, 0, 0] ![0, 0, 496] ![0, 0, 0] (up3 a.proj) (sitofp (F := Ideal) .f32 (constantI S_ 32 0#32))
    pads_S2x4096x6672_S2x4096x7168_000_000_04960 h_S_ (ix3 ⟨r.val / 4096, by omega⟩ ⟨r.val % 4096, by omega⟩ ⟨d.val, by omega⟩)) ?_ ?_
  · rw [← e]
    refine shapeCast_apply _ _ _ _ ?_
    refine (Shape.rowMajor_val_three (d := ![2, 4096, 7168]) _).trans (Eq.trans ?_ (Shape.rowMajor_val_two (d := ![8192, 7168]) _).symm)
    show (r.val / 4096 * 4096 + r.val % 4096) * 7168 + d.val = r.val * 7168 + d.val
    rw [Nat.div_add_mod']
  · refine (pad_apply_of_inside _ _ _ _ _ _ _ _ (ix3 ⟨r.val / 4096, by omega⟩ ⟨r.val % 4096, by omega⟩ d) fun i => ?_).trans rfl
    fin_cases i <;> simp [ix3]

/-! ## The windows' blocks -/

theorem iblk0 (t : Fin cfg0.N) : iblk m c 0 t = up2 (tile (flat a.x) t) := by
  funext i; idx_vars i
  blk_simp [iblk]
  have ht : t.val < 32 := t.isLt
  have e : (win0_0.blk t).view.emb (ix2 i0 i1) = ix2 ⟨256 * t.val + i0.val, by omega⟩ i1 := by blk_ext [e0]
  rw [V_v4 h, e]
  rfl

theorem iblk1 (t : Fin cfg0.N) : iblk m c 1 t = up2 (tile (flat a.tgt) t) := by
  funext i; idx_vars i
  blk_simp [iblk]
  have ht : t.val < 32 := t.isLt
  have e : (win0_1.blk t).view.emb (ix2 i0 i1) = ix2 ⟨256 * t.val + i0.val, by omega⟩ i1 := by blk_ext [e1]
  rw [V_v5 h, e]
  rfl

theorem iblk2 (t : Fin cfg0.N) : iblk m c 2 t = up2 (tile (flat a.o) t) := by
  funext i; idx_vars i
  blk_simp [iblk]
  have ht : t.val < 32 := t.isLt
  have e : (win0_2.blk t).view.emb (ix2 i0 i1) = ix2 ⟨256 * t.val + i0.val, by omega⟩ i1 := by blk_ext [e2]
  rw [V_v6 h, e]
  rfl

theorem iblk3 (t : Fin cfg0.N) : iblk m c 3 t = up2 (tile (flat a.z₁) t) := by
  funext i; idx_vars i
  blk_simp [iblk]
  have ht : t.val < 32 := t.isLt
  have e : (win0_3.blk t).view.emb (ix2 i0 i1) = ix2 ⟨256 * t.val + i0.val, by omega⟩ ⟨3072 + i1.val, by omega⟩ := by blk_ext [e3]
  rw [e]
  exact V_v1 h _ ⟨3072 + i1.val, by omega⟩

theorem iblk4 (t : Fin cfg0.N) : iblk m c 4 t = up2 (tile (flat a.y) t) := by
  funext i; idx_vars i
  blk_simp [iblk]
  have ht : t.val < 32 := t.isLt
  have e : (win0_4.blk t).view.emb (ix2 i0 i1) = ix2 ⟨256 * t.val + i0.val, by omega⟩ i1 := by blk_ext [e4]
  rw [V_v7 h, e]
  rfl

theorem iblk5 (t : Fin cfg0.N) : iblk m c 5 t = up2 (tile (flat a.z₂) t) := by
  funext i; idx_vars i
  blk_simp [iblk]
  have ht : t.val < 32 := t.isLt
  have e : (win0_5.blk t).view.emb (ix2 i0 i1) = ix2 ⟨256 * t.val + i0.val, by omega⟩ ⟨4096 + i1.val, by omega⟩ := by blk_ext [e5]
  rw [e]
  exact V_v1 h _ ⟨4096 + i1.val, by omega⟩

theorem iblk6 (t : Fin cfg0.N) : iblk m c 6 t = one a.w₁ := by
  funext i; idx_vars i
  blk_simp [iblk]
  have e : (win0_6.blk t).view.emb (ix2 i0 i1) = ix2 i0 i1 := by blk_ext [e6]
  rw [V_main_arg4, h.w₁, e]

theorem iblk7 (t : Fin cfg0.N) : iblk m c 7 t = one a.w₂ := by
  funext i; idx_vars i
  blk_simp [iblk]
  have e : (win0_7.blk t).view.emb (ix2 i0 i1) = ix2 i0 i1 := by blk_ext [e7]
  rw [V_main_arg5, h.w₂, e]

theorem iblk8 (t : Fin cfg0.N) : iblk m c 8 t = up2 a.w := by
  funext i; idx_vars i
  blk_simp [iblk]
  have e : (win0_8.blk t).view.emb (ix2 i0 i1) = ix2 i0 i1 := by blk_ext [e8]
  rw [V_v3 h, e]

theorem iblk9 (t : Fin cfg0.N) : iblk m c 9 t = up2 fun d k => a.w k d := by
  funext i; idx_vars i
  blk_simp [iblk]
  have e : (win0_9.blk t).view.emb (ix2 i0 i1) = ix2 i0 i1 := by blk_ext [e9]
  rw [V_v8 h, e]

end Cert.KernelIdeal.Gate
-- ==== Proof.GatePre.lean ====
/- The precondition read: every element of every argument is finite, so the arguments are lifts of real arrays. -/
module

public import proofs.«01_k».proof.Defs
public import proofs.«01_k».proof.Proof.Gen.Pre_finite
public import proofs.«01_k».proof.Proof.GateHost
public import Idealize.ShloMosaic.Lib.ReduceAll

@[expose] public section

noncomputable section

namespace Cert.KernelIdeal.Gate

open Idealize.ShloMosaic Cert.Lift Cert.Gate

/-- An array whose every magnitude is below the infinity is a lift at every index. -/
theorem finite_of {s u : Shape} {axes : List (Fin s.rank)} (x : s.Idx → EReal) (b : s.Idx → EReal) (hb : ∀ i, b i = ⊤)
    (init : u.Idx → BitVec 1) (hr : s.ReducesTo axes ⟨0, ![]⟩) (hu : 0 < u.numel) (j : (⟨0, ![]⟩ : Shape).Idx)
    (e : Host.reduce IntOp.andi (cmpf (F := Ideal) (φ := .f32) .olt (Host.absf (F := Ideal) (φ := .f32) x) b) init hr hu j = 1#1)
    (i : s.Idx) : ((x i).toReal : EReal) = x i := by
  haveI : Subsingleton ((⟨0, ![]⟩ : Shape).Idx) := ⟨fun p q => funext fun k => k.elim0⟩
  have h := Host.reduce_andi_all _ _ hr hu j e i
  have h' : Ideal.cmp .olt (max (x i) (-(x i))) (b i) = 1 := h
  rw [Ideal.cmp_olt_eq_one, hb, max_lt_iff] at h'
  refine EReal.coe_toReal h'.1.ne fun hbot => ?_
  rw [hbot] at h'
  exact absurd h'.2 (by simp)

theorem bits_inf : Ideal.ofBits .f32 0x7F800000#32 = (⊤ : EReal) := by simp [Ideal.ofBits, Ideal.ieee]

theorem andi_parts {s : Shape} (p q : s.Idx → BitVec 1) (j : s.Idx) (h : andi p q j = 1#1) : p j = 1#1 ∧ q j = 1#1 :=
  IntOp.andi_eq_one.1 h

/-- Under the precondition device `c`'s arguments are lifts of real arrays. -/
theorem exists_args (m : (ℓ : Loc nD τ sig) → Buf (Elt Ideal) ℓ) (c : Dev nD)
    (h : Cert.Pre_finite.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
        = fun _ => 1#1) : ∃ a : Args, Holds m c a := by
  have h := congrFun h (fun k => k.elim0)
  unfold Cert.Pre_finite.fn Cert.Pre_finite.fn_part1 Cert.Pre_finite.fn_part2 at h
  obtain ⟨h, h7⟩ := andi_parts _ _ _ h
  obtain ⟨h, h6⟩ := andi_parts _ _ _ h
  obtain ⟨h, h5⟩ := andi_parts _ _ _ h
  obtain ⟨h, h4⟩ := andi_parts _ _ _ h
  obtain ⟨h, h3⟩ := andi_parts _ _ _ h
  obtain ⟨h, h2⟩ := andi_parts _ _ _ h
  obtain ⟨h0, h1⟩ := andi_parts _ _ _ h
  have f0 := finite_of (m ((c.tc : Thread nD τ).loc main_arg0)) _ (fun _ => bits_inf) _ _ _ _ h0
  have f1 := finite_of (m ((c.tc : Thread nD τ).loc main_arg1)) _ (fun _ => bits_inf) _ _ _ _ h1
  have f2 := finite_of (m ((c.tc : Thread nD τ).loc main_arg2)) _ (fun _ => bits_inf) _ _ _ _ h2
  have f3 := finite_of (m ((c.tc : Thread nD τ).loc main_arg3)) _ (fun _ => bits_inf) _ _ _ _ h3
  have f4 := finite_of (m ((c.tc : Thread nD τ).loc main_arg4)) _ (fun _ => bits_inf) _ _ _ _ h4
  have f5 := finite_of (m ((c.tc : Thread nD τ).loc main_arg5)) _ (fun _ => bits_inf) _ _ _ _ h5
  have f6 := finite_of (m ((c.tc : Thread nD τ).loc main_arg6)) _ (fun _ => bits_inf) _ _ _ _ h6
  have f7 := finite_of (m ((c.tc : Thread nD τ).loc main_arg7)) _ (fun _ => bits_inf) _ _ _ _ h7
  refine ⟨⟨fun b s d => (m ((c.tc : Thread nD τ).loc main_arg0) (ix3 b s d)).toReal, fun b s d => (m ((c.tc : Thread nD τ).loc main_arg1) (ix3 b s d)).toReal,
    fun b s d => (m ((c.tc : Thread nD τ).loc main_arg2) (ix3 b s d)).toReal, fun b s d => (m ((c.tc : Thread nD τ).loc main_arg3) (ix3 b s d)).toReal,
    fun d => (m ((c.tc : Thread nD τ).loc main_arg4) (ix2 (n0 := 1) 0 d)).toReal, fun d => (m ((c.tc : Thread nD τ).loc main_arg5) (ix2 (n0 := 1) 0 d)).toReal,
    fun k d => (m ((c.tc : Thread nD τ).loc main_arg6) (ix3 (n0 := 1) 0 k d)).toReal, fun b s d => (m ((c.tc : Thread nD τ).loc main_arg7) (ix3 b s d)).toReal⟩,
    ?_, ?_, ?_, ?_, ?_, ?_, ?_, ?_⟩
  · funext i; idx_vars i; exact (f0 _).symm
  · funext i; idx_vars i; exact (f1 _).symm
  · funext i; idx_vars i; exact (f2 _).symm
  · funext i; idx_vars i; exact (f3 _).symm
  · funext i; obtain ⟨p, q, rfl⟩ : ∃ (p : Fin 1) (q : Fin 1024), i = ix2 p q := ⟨i 0, i 1, eq_ix2 i⟩
    obtain rfl : p = 0 := Subsingleton.elim _ _
    exact (f4 _).symm
  · funext i; obtain ⟨p, q, rfl⟩ : ∃ (p : Fin 1) (q : Fin 1024), i = ix2 p q := ⟨i 0, i 1, eq_ix2 i⟩
    obtain rfl : p = 0 := Subsingleton.elim _ _
    exact (f5 _).symm
  · funext i; obtain ⟨p, q, r, rfl⟩ : ∃ (p : Fin 1) (q : Fin 2048) (r : Fin 1024), i = ix3 p q r := ⟨i 0, i 1, i 2, eq_ix3 i⟩
    obtain rfl : p = 0 := Subsingleton.elim _ _
    exact (f6 _).symm
  · funext i; idx_vars i; exact (f7 _).symm

end Cert.KernelIdeal.Gate

end
-- ==== Proof.GateValue.lean ====
/- What the kernel leaves in its result arrays over real arguments. -/
module

public import proofs.«01_k».proof.Proof.GateHost
public import Idealize.ShloMosaic.Lib.WritesUnit
public import Idealize.ShloMosaic.Lib.Pipeline.ReadBack

@[expose] public section

set_option maxRecDepth 16384

noncomputable section

namespace Cert.Gate

namespace Args
variable (a : Args)
/-- The branches as they enter the out projection. -/
def y₁ : Fin 2 → Fin 4096 → Row := fun b s => yy (a.o b s) (a.z₁ b s) a.w₁
def y₂ : Fin 2 → Fin 4096 → Row := fun b s => yy (a.y b s) (a.z₂ b s) a.w₂
/-- The tokens' errors. -/
def err : Fin 2 → Fin 4096 → Row := fun b s => Cert.Gate.err (a.x b s) (a.tgt b s) (a.y₁ b s) (a.y₂ b s) a.W₁ a.W₂
/-- The gradient of the output, of the two branches, of their outputs and of their gates. -/
def dout : Fin 2 → Fin 4096 → Row := fun b s => Cert.Gate.dout (a.err b s)
def dm₁ : Fin 2 → Fin 4096 → Row := fun b s => dmix (a.err b s) a.W₁
def dm₂ : Fin 2 → Fin 4096 → Row := fun b s => dmix (a.err b s) a.W₂
def do₁ : Fin 2 → Fin 4096 → Row := fun b s => dox (a.o b s) (a.z₁ b s) a.w₁ (a.dm₁ b s)
def do₂ : Fin 2 → Fin 4096 → Row := fun b s => dox (a.y b s) (a.z₂ b s) a.w₂ (a.dm₂ b s)
def dz₁ : Fin 2 → Fin 4096 → Row := fun b s => dz (a.o b s) (a.z₁ b s) a.w₁ (a.dm₁ b s)
def dz₂ : Fin 2 → Fin 4096 → Row := fun b s => dz (a.y b s) (a.z₂ b s) a.w₂ (a.dm₂ b s)
/-- A token's part of the norm weights' gradients, and of the loss. -/
def dw₁ : Fin 2 → Fin 4096 → Row := fun b s d => a.dm₁ b s d * nn (a.o b s) (a.z₁ b s) d
def dw₂ : Fin 2 → Fin 4096 → Row := fun b s d => a.dm₂ b s d * nn (a.y b s) (a.z₂ b s) d
def sq : Fin 2 → Fin 4096 → ℝ := fun b s => ∑ d, a.err b s d * a.err b s d
end Args

/-- Two row blocks side by side. -/
def beside {α : Type*} (f g : Fin 1024 → α) : Fin 2048 → α :=
  fun k => if h : k.val < 1024 then f ⟨k.val, h⟩ else g ⟨k.val - 1024, by omega⟩

theorem beside_lo {α : Type*} (f g : Fin 1024 → α) (k : Fin 2048) (h : k.val < 1024) : beside f g k = f ⟨k.val, h⟩ := dif_pos h
theorem beside_hi {α : Type*} (f g : Fin 1024 → α) (k : Fin 2048) (h : ¬k.val < 1024) : beside f g k = g ⟨k.val - 1024, by omega⟩ := dif_neg h

/-- The norm weights' gradients in the first two of eight rows. -/
def rows8 (f g : Row) : Fin 8 → Row := fun r => if r = 0 then f else if r = 1 then g else 0

end Cert.Gate

namespace Cert.KernelIdeal.Gate

open Cert.KernelIdeal Cert.KernelIdeal.Gen Idealize.ShloMosaic Idealize.ShloMosaic.TcCoe Cert.Lift Cert.Gate

variable {m : (ℓ : Loc nD τ sig) → Buf (Elt Ideal) ℓ} {c : Dev nD} {a : Args} (h : Holds m c a)

theorem ld8_0 : (View.ld (Val := Elt Ideal) (S := S2048x1024) (e' := .bf16) (up2 a.w) (Rect.unit (s := S2048x1024) ![0, 0] ![1024, 1024] inb_S2048x1024_S1024x1024_0_0) : Vec Ideal S1024x1024 .bf16) = up2 a.W₁ := by
  funext i
  exact (View.ld_unit_apply_of _ _ _ _ _ (ix2 ⟨(i 0).val, by have : (i 0).val < 1024 := (i 0).isLt; omega⟩ (i 1)) (by intro k; fin_cases k <;> simp)).trans rfl

theorem ld8_1 : (View.ld (Val := Elt Ideal) (S := S2048x1024) (e' := .bf16) (up2 a.w) (Rect.unit (s := S2048x1024) ![1024, 0] ![1024, 1024] inb_S2048x1024_S1024x1024_1024_0) : Vec Ideal S1024x1024 .bf16) = up2 a.W₂ := by
  funext i
  exact (View.ld_unit_apply_of _ _ _ _ _ (ix2 ⟨1024 + (i 0).val, by have : (i 0).val < 1024 := (i 0).isLt; omega⟩ (i 1)) (by intro k; fin_cases k <;> simp)).trans rfl

theorem ld9_0 : (View.ld (Val := Elt Ideal) (S := S1024x2048) (e' := .bf16) (up2 fun d k => a.w k d) (Rect.unit (s := S1024x2048) ![0, 0] ![1024, 1024] inb_S1024x2048_S1024x1024_0_0) : Vec Ideal S1024x1024 .bf16) = up2 fun d k => a.W₁ k d := by
  funext i
  exact (View.ld_unit_apply_of _ _ _ _ _ (ix2 (i 0) ⟨(i 1).val, by have : (i 1).val < 1024 := (i 1).isLt; omega⟩) (by intro k; fin_cases k <;> simp)).trans rfl

theorem ld9_1 : (View.ld (Val := Elt Ideal) (S := S1024x2048) (e' := .bf16) (up2 fun d k => a.w k d) (Rect.unit (s := S1024x2048) ![0, 1024] ![1024, 1024] inb_S1024x2048_S1024x1024_0_1024) : Vec Ideal S1024x1024 .bf16) = up2 fun d k => a.W₂ k d := by
  funext i
  exact (View.ld_unit_apply_of _ _ _ _ _ (ix2 (i 0) ⟨1024 + (i 1).val, by have : (i 1).val < 1024 := (i 1).isLt; omega⟩) (by intro k; fin_cases k <;> simp)).trans rfl

include h

theorem l8_0 (t : Fin cfg0.N) : (View.ld (Val := Elt Ideal) (S := S2048x1024) (e' := .bf16) (iblk m c 8 t) (Rect.unit (s := S2048x1024) ![0, 0] ![1024, 1024] inb_S2048x1024_S1024x1024_0_0) : Vec Ideal S1024x1024 .bf16) = up2 a.W₁ := by
  rw [iblk8 h]; exact ld8_0
theorem l8_1 (t : Fin cfg0.N) : (View.ld (Val := Elt Ideal) (S := S2048x1024) (e' := .bf16) (iblk m c 8 t) (Rect.unit (s := S2048x1024) ![1024, 0] ![1024, 1024] inb_S2048x1024_S1024x1024_1024_0) : Vec Ideal S1024x1024 .bf16) = up2 a.W₂ := by
  rw [iblk8 h]; exact ld8_1
theorem l9_0 (t : Fin cfg0.N) : (View.ld (Val := Elt Ideal) (S := S1024x2048) (e' := .bf16) (iblk m c 9 t) (Rect.unit (s := S1024x2048) ![0, 0] ![1024, 1024] inb_S1024x2048_S1024x1024_0_0) : Vec Ideal S1024x1024 .bf16) = up2 fun d k => a.W₁ k d := by
  rw [iblk9 h]; exact ld9_0
theorem l9_1 (t : Fin cfg0.N) : (View.ld (Val := Elt Ideal) (S := S1024x2048) (e' := .bf16) (iblk m c 9 t) (Rect.unit (s := S1024x2048) ![0, 1024] ![1024, 1024] inb_S1024x2048_S1024x1024_0_1024) : Vec Ideal S1024x1024 .bf16) = up2 fun d k => a.W₂ k d := by
  rw [iblk9 h]; exact ld9_1

/-- The point's error tile, over the two row blocks of the weight. -/
theorem errb (t : Fin cfg0.N) (V₁ V₂ : Vec Ideal S1024x1024 .bf16) (h₁ : V₁ = up2 a.W₁) (h₂ : V₂ = up2 a.W₂) :
    k0_pay24 (F := Ideal) (k0_pay7 (iblk m c 4 t)) (k0_pay8 (iblk m c 5 t)) (iblk m c 7 t) (k0_pay14 (iblk m c 2 t) (iblk m c 3 t) (iblk m c 6 t))
      (k0_pay15 (iblk m c 5 t)) (iblk m c 0 t) V₁ V₂ (iblk m c 1 t) = up2 (tile (flat a.err) t) := by
  rw [iblk0 h, iblk1 h, iblk2 h, iblk3 h, iblk4 h, iblk5 h, iblk6 h, iblk7 h, h₁, h₂]
  exact pay24_eq ..

theorem outs10 (t : Fin cfg0.N) : (outsAt0 m c t.val t.isLt).1 = up2 (tile (flat a.dout) t) := by
  by_cases h0 : t.val % 32 = 0
  · rw [outsAt0_A m c t h0]; dsimp only; frame_out
    exact (congrArg k0_pay26 (errb h t _ _ (l8_0 h t) (l8_1 h t))).trans (pay26_eq _)
  · rw [outsAt0_B m c t h0]; dsimp only; frame_out
    exact (congrArg k0_pay26 (errb h t _ _ (l8_0 h t) (l8_1 h t))).trans (pay26_eq _)

theorem outs11 (t : Fin cfg0.N) : (outsAt0 m c t.val t.isLt).2.1 = up2 (tile (flat a.dout) t) := by
  by_cases h0 : t.val % 32 = 0
  · rw [outsAt0_A m c t h0]; dsimp only; frame_out
    exact (congrArg k0_pay27 (errb h t _ _ (l8_0 h t) (l8_1 h t))).trans (pay27_eq _)
  · rw [outsAt0_B m c t h0]; dsimp only; frame_out
    exact (congrArg k0_pay27 (errb h t _ _ (l8_0 h t) (l8_1 h t))).trans (pay27_eq _)

theorem outs13 (t : Fin cfg0.N) : (outsAt0 m c t.val t.isLt).2.2.2.1 = up2 (tile (flat a.do₁) t) := by
  have e := pay30_eq (tile (flat a.err) t) (tile (flat a.o) t) (tile (flat a.z₁) t) a.w₁ a.W₁
  by_cases h0 : t.val % 32 = 0
  · rw [outsAt0_A m c t h0]; dsimp only; frame_out
    refine (congrArg₂ (k0_pay30 _ _ _ _) (errb h t _ _ (l8_0 h t) (l8_1 h t)) (l9_0 h t)).trans ?_
    rw [iblk2 h, iblk3 h, iblk6 h]; exact e
  · rw [outsAt0_B m c t h0]; dsimp only; frame_out
    refine (congrArg₂ (k0_pay30 _ _ _ _) (errb h t _ _ (l8_0 h t) (l8_1 h t)) (l9_0 h t)).trans ?_
    rw [iblk2 h, iblk3 h, iblk6 h]; exact e

theorem outs14 (t : Fin cfg0.N) : (outsAt0 m c t.val t.isLt).2.2.2.2.1 = up2 (tile (flat a.do₂) t) := by
  have e := pay36_eq (tile (flat a.err) t) (tile (flat a.y) t) (tile (flat a.z₂) t) a.w₂ a.W₂
  by_cases h0 : t.val % 32 = 0
  · rw [outsAt0_A m c t h0]; dsimp only; frame_out
    refine (congrArg₂ (k0_pay36 _ _ _ _) (congrArg k0_pay27 (errb h t _ _ (l8_0 h t) (l8_1 h t))) (l9_1 h t)).trans ?_
    rw [iblk4 h, iblk5 h, iblk7 h]; exact e
  · rw [outsAt0_B m c t h0]; dsimp only; frame_out
    refine (congrArg₂ (k0_pay36 _ _ _ _) (congrArg k0_pay27 (errb h t _ _ (l8_0 h t) (l8_1 h t))) (l9_1 h t)).trans ?_
    rw [iblk4 h, iblk5 h, iblk7 h]; exact e

omit h in
theorem beside_rows_hi (f g : Tile) (x : S1024x256.Idx) (y : S2048x256.Idx) (h0 : (y 0).val = 1024 + (x 0).val) (h1 : (y 1).val = (x 1).val) :
    up2 (fun d p => g p d) x = up2 (fun k p => beside (f p) (g p) k) y := by
  have e : (y 1 : Fin 256) = x 1 := Fin.ext h1
  have e0 : (⟨(y 0).val - 1024, by have : (y 0).val < 2048 := (y 0).isLt; omega⟩ : Fin 1024) = x 0 := Fin.ext (by simp [h0])
  show ((g (x 1) (x 0) : ℝ) : EReal) = ((beside (f (y 1)) (g (y 1)) (y 0) : ℝ) : EReal)
  exact congrArg (fun r : ℝ => (r : EReal)) ((congrArg₂ g e.symm e0.symm).trans (beside_hi _ _ _ (by omega)).symm)

omit h in
theorem beside_rows_lo (f g : Tile) (x : S1024x256.Idx) (y : S2048x256.Idx) (h0 : (y 0).val = (x 0).val) (h1 : (y 1).val = (x 1).val) :
    up2 (fun d p => f p d) x = up2 (fun k p => beside (f p) (g p) k) y := by
  have e : (y 1 : Fin 256) = x 1 := Fin.ext h1
  have hl : (y 0).val < 1024 := h0 ▸ (x 0).isLt
  have e0 : (⟨(y 0).val, hl⟩ : Fin 1024) = x 0 := Fin.ext h0
  show ((f (x 1) (x 0) : ℝ) : EReal) = ((beside (f (y 1)) (g (y 1)) (y 0) : ℝ) : EReal)
  exact congrArg (fun r : ℝ => (r : EReal)) ((congrArg₂ f e.symm e0.symm).trans (beside_lo _ _ _ hl).symm)

omit h in
theorem beside_cols_hi (f g : Tile) (x : S256x1024.Idx) (y : S256x2048.Idx) (h0 : (y 0).val = (x 0).val) (h1 : (y 1).val = 1024 + (x 1).val) :
    up2 g x = up2 (fun p k => beside (f p) (g p) k) y := by
  have e : (y 0 : Fin 256) = x 0 := Fin.ext h0
  have e0 : (⟨(y 1).val - 1024, by have : (y 1).val < 2048 := (y 1).isLt; omega⟩ : Fin 1024) = x 1 := Fin.ext (by simp [h1])
  show ((g (x 0) (x 1) : ℝ) : EReal) = ((beside (f (y 0)) (g (y 0)) (y 1) : ℝ) : EReal)
  exact congrArg (fun r : ℝ => (r : EReal)) ((congrArg₂ g e.symm e0.symm).trans (beside_hi _ _ _ (by omega)).symm)

omit h in
theorem beside_cols_lo (f g : Tile) (x : S256x1024.Idx) (y : S256x2048.Idx) (h0 : (y 0).val = (x 0).val) (h1 : (y 1).val = (x 1).val) :
    up2 f x = up2 (fun p k => beside (f p) (g p) k) y := by
  have e : (y 0 : Fin 256) = x 0 := Fin.ext h0
  have hl : (y 1).val < 1024 := h1 ▸ (x 1).isLt
  have e0 : (⟨(y 1).val, hl⟩ : Fin 1024) = x 1 := Fin.ext h1
  show ((f (x 0) (x 1) : ℝ) : EReal) = ((beside (f (y 0)) (g (y 0)) (y 1) : ℝ) : EReal)
  exact congrArg (fun r : ℝ => (r : EReal)) ((congrArg₂ f e.symm e0.symm).trans (beside_lo _ _ _ hl).symm)

/-- The two branches' columns of the point, one block of rows above the other. -/
theorem outs12 (t : Fin cfg0.N) :
    (outsAt0 m c t.val t.isLt).2.2.1 = up2 fun k p => beside (tile (flat a.y₁) t p) (tile (flat a.y₂) t p) k := by
  have e₁ := (pay22_eq fun p => yy (tile (flat a.o) t p) (tile (flat a.z₁) t p) a.w₁)
  rw [← pay14_eq, ← iblk2 h, ← iblk3 h, ← iblk6 h t] at e₁
  have e₂ := pay23_eq (tile (flat a.y) t) (tile (flat a.z₂) t) a.w₂
  rw [← iblk4 h, ← iblk5 h, ← iblk7 h t] at e₂
  by_cases h0 : t.val % 32 = 0
  · rw [outsAt0_A m c t h0]; dsimp only; frame_out
    funext y
    canon_tiles x hx using View.cover_of_tiled_head _ _ _ (by rfl) y
    · exact (congrFun e₂ x).trans (beside_rows_hi _ _ x y hx0 hx1)
    · exact (congrFun e₁ x).trans (beside_rows_lo _ _ x y hx0 hx1)
  · rw [outsAt0_B m c t h0]; dsimp only; frame_out
    funext y
    canon_tiles x hx using View.cover_of_tiled_head _ _ _ (by rfl) y
    · exact (congrFun e₂ x).trans (beside_rows_hi _ _ x y hx0 hx1)
    · exact (congrFun e₁ x).trans (beside_rows_lo _ _ x y hx0 hx1)

theorem outs15 (t : Fin cfg0.N) :
    (outsAt0 m c t.val t.isLt).2.2.2.2.2.1 = up2 fun p k => beside (tile (flat a.dz₁) t p) (tile (flat a.dz₂) t p) k := by
  have e₁ := pay38_eq (tile (flat a.err) t) (tile (flat a.o) t) (tile (flat a.z₁) t) a.w₁ a.W₁
  have e₂ := pay39_eq (tile (flat a.err) t) (tile (flat a.y) t) (tile (flat a.z₂) t) a.w₂ a.W₂
  rw [← iblk2 h, ← iblk3 h, ← iblk6 h t] at e₁
  rw [← iblk4 h, ← iblk5 h, ← iblk7 h t] at e₂
  by_cases h0 : t.val % 32 = 0
  · rw [outsAt0_A m c t h0]; dsimp only; frame_out
    funext y
    canon_tiles x hx using View.cover_of_tiled_head _ _ _ (by rfl) y
    · refine (congrFun (congrArg₂ (k0_pay39 _ _ _ _ _ _) (congrArg k0_pay27 (errb h t _ _ (l8_0 h t) (l8_1 h t))) (l9_1 h t)) x).trans ?_
      exact (congrFun e₂ x).trans (beside_cols_hi _ _ x y hx0 hx1)
    · refine (congrFun (congrArg (k0_pay38 · _) (congrArg₂ (k0_pay31 _ _ _ _) (errb h t _ _ (l8_0 h t) (l8_1 h t)) (l9_0 h t))) x).trans ?_
      exact (congrFun e₁ x).trans (beside_cols_lo _ _ x y hx0 hx1)
  · rw [outsAt0_B m c t h0]; dsimp only; frame_out
    funext y
    canon_tiles x hx using View.cover_of_tiled_head _ _ _ (by rfl) y
    · refine (congrFun (congrArg₂ (k0_pay39 _ _ _ _ _ _) (congrArg k0_pay27 (errb h t _ _ (l8_0 h t) (l8_1 h t))) (l9_1 h t)) x).trans ?_
      exact (congrFun e₂ x).trans (beside_cols_hi _ _ x y hx0 hx1)
    · refine (congrFun (congrArg (k0_pay38 · _) (congrArg₂ (k0_pay31 _ _ _ _) (errb h t _ _ (l8_0 h t) (l8_1 h t)) (l9_0 h t))) x).trans ?_
      exact (congrFun e₁ x).trans (beside_cols_lo _ _ x y hx0 hx1)

/-- The norm weights' parts of point `t`, and the loss's. -/
def nwt (a : Args) (t : Fin cfg0.N) : Fin 8 → Row :=
  rows8 (fun d => ∑ p, tile (flat a.dw₁) t p d) (fun d => ∑ p, tile (flat a.dw₂) t p d)
def lst (a : Args) (t : Fin cfg0.N) : ℝ := (∑ p, tile (flat a.sq) t p) * (1 / 2048)

omit h in
/-- Two one-row stores, over what was there. -/
theorem two_rows (v : View sig .tc .vmem S8x1024 .f32) (f) (P₁ P₀ : Vec Ideal S1x1024 .f32) (L) (r : Fin 8) (d : Fin 1024) :
    v.read (Elt Ideal) (v.writes (Elt Ideal) f (⟨Rect.unit ![1, 0] ![1, 1024] inb_S8x1024_S1x1024_1_0, P₁⟩ :: ⟨Rect.unit ![0, 0] ![1, 1024] inb_S8x1024_S1x1024_0_0, P₀⟩ :: L)) (ix2 r d)
      = if r = 0 then P₀ (ix2 0 d) else if r = 1 then P₁ (ix2 0 d) else v.read (Elt Ideal) (v.writes (Elt Ideal) f L) (ix2 r d) := by
  rcases eq_or_ne r 0 with rfl | h0
  · rw [if_pos rfl]
    refine (View.read_writes_cons_rows_of_not_mem v f _ _ _ _ rfl rfl (Or.inl (show 0 < 1 by decide))).trans ?_
    exact View.read_writes_cons_rows_of_mem v f _ _ _ _ (ix2 0 d) rfl rfl rfl
  · rcases eq_or_ne r 1 with rfl | h1
    · rw [if_neg h0, if_pos rfl]
      exact View.read_writes_cons_rows_of_mem v f _ _ _ _ (ix2 0 d) rfl rfl rfl
    · rw [if_neg h0, if_neg h1]
      have := Fin.val_ne_of_ne h0; have := Fin.val_ne_of_ne h1
      refine (View.read_writes_cons_rows_of_not_mem v f _ _ _ _ rfl rfl (Or.inr (show 1 + 1 ≤ r.val by simp_all; omega))).trans ?_
      exact View.read_writes_cons_rows_of_not_mem v f _ _ _ _ rfl rfl (Or.inr (show 0 + 1 ≤ r.val by simp_all; omega))

theorem outs17_A (t : Fin cfg0.N) (h0 : t.val % 32 = 0) (i : S8x128.Idx) :
    (outsAt0 m c t.val t.isLt).2.2.2.2.2.2.2 i = ((lst a t : ℝ) : EReal) := by
  rw [outsAt0_A m c t h0]; dsimp only; frame_out
  refine (congrFun (congrArg (k0_pay25 · _) (errb h t _ _ (l8_0 h t) (l8_1 h t))) i).trans ((pay25_eq _ _ i).trans ?_)
  rw [pay4_eq, zero_add]; rfl

theorem outs17_B (t : Fin cfg0.N) (h0 : ¬t.val % 32 = 0) (i : S8x128.Idx) :
    (outsAt0 m c t.val t.isLt).2.2.2.2.2.2.2 i
      = (outsAt0 m c (t.val - 1) (Nat.lt_of_le_of_lt (Nat.sub_le _ _) t.isLt)).2.2.2.2.2.2.2 i + ((lst a t : ℝ) : EReal) := by
  rw [outsAt0_B m c t h0]; dsimp only; frame_out
  exact (congrFun (congrArg (k0_pay25 · _) (errb h t _ _ (l8_0 h t) (l8_1 h t))) i).trans (pay25_eq _ _ i)

/-- Row 0's and row 1's parts as the body computes them. -/
theorem part0 (t : Fin cfg0.N) (V₁ V₂ V₃ : Vec Ideal S1024x1024 .bf16) (h₁ : V₁ = up2 a.W₁) (h₂ : V₂ = up2 a.W₂) (h₃ : V₃ = up2 fun d k => a.W₁ k d) :
    k0_pay33 (F := Ideal) (k0_pay13 (iblk m c 2 t) (iblk m c 3 t)) (k0_pay28 (k0_pay24 (k0_pay7 (iblk m c 4 t)) (k0_pay8 (iblk m c 5 t)) (iblk m c 7 t)
      (k0_pay14 (iblk m c 2 t) (iblk m c 3 t) (iblk m c 6 t)) (k0_pay15 (iblk m c 5 t)) (iblk m c 0 t) V₁ V₂ (iblk m c 1 t)) V₃) = one (nwt a t 0) := by
  rw [errb h t _ _ h₁ h₂, iblk2 h, iblk3 h, h₃]
  exact pay33_eq ..

theorem part1 (t : Fin cfg0.N) (V₁ V₂ V₃ : Vec Ideal S1024x1024 .bf16) (h₁ : V₁ = up2 a.W₁) (h₂ : V₂ = up2 a.W₂) (h₃ : V₃ = up2 fun d k => a.W₂ k d) :
    k0_pay37 (F := Ideal) (k0_pay20 (k0_pay7 (iblk m c 4 t)) (k0_pay8 (iblk m c 5 t)) (k0_pay15 (iblk m c 5 t)))
      (k0_pay27 (k0_pay24 (k0_pay7 (iblk m c 4 t)) (k0_pay8 (iblk m c 5 t)) (iblk m c 7 t)
      (k0_pay14 (iblk m c 2 t) (iblk m c 3 t) (iblk m c 6 t)) (k0_pay15 (iblk m c 5 t)) (iblk m c 0 t) V₁ V₂ (iblk m c 1 t))) V₃ = one (nwt a t 1) := by
  rw [errb h t _ _ h₁ h₂, iblk4 h, iblk5 h, h₃]
  exact pay37_eq ..

omit h in
theorem nwt_ne (t : Fin cfg0.N) (r : Fin 8) (h0 : r ≠ 0) (h1 : r ≠ 1) (d : Fin 1024) : nwt a t r d = 0 := by
  unfold nwt rows8; rw [if_neg h0, if_neg h1]; rfl

theorem outs16_B (t : Fin cfg0.N) (h0 : ¬t.val % 32 = 0) (r : Fin 8) (d : Fin 1024) :
    (outsAt0 m c t.val t.isLt).2.2.2.2.2.2.1 (ix2 r d)
      = (outsAt0 m c (t.val - 1) (Nat.lt_of_le_of_lt (Nat.sub_le _ _) t.isLt)).2.2.2.2.2.2.1 (ix2 r d) + ((nwt a t r d : ℝ) : EReal) := by
  have e₁ := part0 h t _ _ _ (l8_0 h t) (l8_1 h t) (l9_0 h t)
  have e₂ := part1 h t _ _ _ (l8_0 h t) (l8_1 h t) (l9_1 h t)
  rw [outsAt0_B m c t h0]; dsimp only; frame_out
  rw [two_rows]
  split_ifs with r0 r1
  · subst r0
    refine (pay1_eq _ _ _).trans (congrArg₂ (· + ·) ?_ (congrFun e₁ (ix2 0 d)))
    exact View.ld_unit_apply_of _ _ _ _ _ (ix2 0 d) (by intro k; fin_cases k <;> simp)
  · subst r1
    refine (pay2_eq _ _ _).trans (congrArg₂ (· + ·) ?_ (congrFun e₂ (ix2 0 d)))
    exact View.ld_unit_apply_of _ _ _ _ _ (ix2 1 d) (by intro k; fin_cases k <;> simp)
  · rw [nwt_ne t r r0 r1, EReal.coe_zero, add_zero]
    exact congrFun ((hs0_16 t).read_unread _) _

theorem outs16_A (t : Fin cfg0.N) (h0 : t.val % 32 = 0) (r : Fin 8) (d : Fin 1024) :
    (outsAt0 m c t.val t.isLt).2.2.2.2.2.2.1 (ix2 r d) = ((nwt a t r d : ℝ) : EReal) := by
  have e₁ := part0 h t _ _ _ (l8_0 h t) (l8_1 h t) (l9_0 h t)
  have e₂ := part1 h t _ _ _ (l8_0 h t) (l8_1 h t) (l9_1 h t)
  rw [outsAt0_A m c t h0]; dsimp only; frame_out
  rw [← View.read_writes_apply_eq_canon (ms0_16 t).view ((hs0_16 t).unread (k0_pay3 (F := Ideal))) _ _
    (by
      obtain ⟨q, hq, hy⟩ := View.cover_of_tiled_head (Val := Elt Ideal) (e := .f32) (Rect.unit ![0, 0] ![8, 1024] inb_S8x1024_S8x1024_0_0) (k0_pay3 (F := Ideal)) [] (by rfl) (ix2 r d)
      exact ⟨q, List.mem_cons_of_mem _ (List.mem_cons_of_mem _ hq), hy⟩)]
  rw [two_rows]
  split_ifs with r0 r1
  · subst r0
    refine (pay1_eq _ _ _).trans ((congrArg₂ (· + ·) ?_ (congrFun e₁ (ix2 0 d))).trans (zero_add _))
    rw [View.readCov_fill]
    · exact pay3_eq _
    · intro k; fin_cases k <;> rfl
  · subst r1
    refine (pay2_eq _ _ _).trans ((congrArg₂ (· + ·) ?_ (congrFun e₂ (ix2 0 d))).trans (zero_add _))
    rw [View.readCov_skip _ _ _ _ _ (by rfl), View.readCov_fill]
    · exact pay3_eq _
    · intro k; fin_cases k <;> rfl
  · rw [nwt_ne t r r0 r1, EReal.coe_zero]
    refine (View.read_writes_cons_unit_of_mem _ _ _ _ _ _ (ix2 r d) rfl (by intro k; fin_cases k <;> simp)).trans (pay3_eq _)

/-- The accumulated blocks after point `n`. -/
theorem outs16 (n : ℕ) (hn : n < cfg0.N) (r : Fin 8) (d : Fin 1024) : (outsAt0 m c n hn).2.2.2.2.2.2.1 (ix2 r d)
    = ((∑ k : Fin (n + 1), nwt a ⟨k.val, Nat.lt_of_lt_of_le k.isLt hn⟩ r d : ℝ) : EReal) := by
  induction n with
  | zero => rw [outs16_A h ⟨0, hn⟩ rfl]; simp
  | succ n ih =>
    have hN : n + 1 < 32 := hn
    rw [outs16_B h ⟨n + 1, hn⟩ (by show ¬(n + 1) % 32 = 0; omega), Fin.sum_univ_castSucc, EReal.coe_add]
    exact congrArg (· + _) (ih (Nat.lt_of_succ_lt hn))

theorem outs17 (n : ℕ) (hn : n < cfg0.N) (i : S8x128.Idx) : (outsAt0 m c n hn).2.2.2.2.2.2.2 i
    = ((∑ k : Fin (n + 1), lst a ⟨k.val, Nat.lt_of_lt_of_le k.isLt hn⟩ : ℝ) : EReal) := by
  induction n with
  | zero => rw [outs17_A h ⟨0, hn⟩ rfl]; simp
  | succ n ih =>
    have hN : n + 1 < 32 := hn
    rw [outs17_B h ⟨n + 1, hn⟩ (by show ¬(n + 1) % 32 = 0; omega), Fin.sum_univ_castSucc, EReal.coe_add]
    exact congrArg (· + _) (ih (Nat.lt_of_succ_lt hn))

omit h in
/-- A sum over the points' rows is the sum over all tokens. -/
theorem sum_tiles (f : Fin 2 → Fin 4096 → ℝ) :
    (∑ k : Fin 32, ∑ p : Fin 256, tile (flat f) (k : Fin cfg0.N) p) = ∑ b, ∑ s, f b s := by
  have e₁ := Equiv.sum_comp (finProdFinEquiv (m := 32) (n := 256)) (flat f)
  have e₂ := Equiv.sum_comp (finProdFinEquiv (m := 2) (n := 4096)) (flat f)
  rw [Fintype.sum_prod_type] at e₁ e₂
  calc _ = ∑ k : Fin 32, ∑ p : Fin 256, flat f (finProdFinEquiv (k, p)) := by
        refine Finset.sum_congr rfl fun k _ => Finset.sum_congr rfl fun p _ => ?_
        exact congrArg (flat f) (Fin.ext (by simp [finProdFinEquiv]; omega))
    _ = _ := e₁.trans e₂.symm
    _ = _ := by
        refine Finset.sum_congr rfl fun b _ => Finset.sum_congr rfl fun s _ => ?_
        have e : (finProdFinEquiv (b, s)).val = s.val + 4096 * b.val := rfl
        have := b.isLt; have := s.isLt
        exact congrArg₂ f (Fin.ext (show _ / 4096 = b.val by omega)) (Fin.ext (show _ % 4096 = s.val by omega))

end Cert.KernelIdeal.Gate
-- ==== Proof.GateArr.lean ====
/- The kernel's result arrays over real arguments. -/
module

public import proofs.«01_k».proof.Proof.GateValue

@[expose] public section

set_option maxRecDepth 16384

noncomputable section

namespace Cert.KernelIdeal.Gate

open Cert.KernelIdeal Cert.KernelIdeal.Gen Idealize.ShloMosaic Idealize.ShloMosaic.TcCoe Cert.Lift Cert.Gate

variable {m : (ℓ : Loc nD τ sig) → Buf (Elt Ideal) ℓ} {c : Dev nD} {a : Args} (h : Holds m c a)
include h

theorem arr10 : (dats m 0 c).arrAt 10 cfg0.N = up2 (flat a.dout) :=
  (dats m 0 c).arrAt_eq_of_covers 10 (up2 (flat a.dout)) (by decide +kernel) fun t hf y => by
    blk_simp
    rw [after0_10, outs10 h t]
    idx_vars y
    have e : (win0_10.blk t).view.emb (ix2 y0 y1) = ix2 ⟨256 * t.val + y0.val, by have : t.val < 32 := t.isLt; omega⟩ y1 := by blk_ext [e10]
    rw [e]; rfl

theorem arr11 : (dats m 0 c).arrAt 11 cfg0.N = up2 (flat a.dout) :=
  (dats m 0 c).arrAt_eq_of_covers 11 (up2 (flat a.dout)) (by decide +kernel) fun t hf y => by
    blk_simp
    rw [after0_11, outs11 h t]
    idx_vars y
    have e : (win0_11.blk t).view.emb (ix2 y0 y1) = ix2 ⟨256 * t.val + y0.val, by have : t.val < 32 := t.isLt; omega⟩ y1 := by blk_ext [e11]
    rw [e]; rfl

theorem arr12 : (dats m 0 c).arrAt 12 cfg0.N = up2 (n := 2048) (m := 8192) fun k r => beside (flat a.y₁ r) (flat a.y₂ r) k :=
  (dats m 0 c).arrAt_eq_of_covers 12 (up2 (n := 2048) (m := 8192) fun k r => beside (flat a.y₁ r) (flat a.y₂ r) k) (by decide +kernel) fun t hf y => by
    blk_simp
    rw [after0_12, outs12 h t]
    idx_vars y
    have e : (win0_12.blk t).view.emb (ix2 y0 y1) = ix2 y0 ⟨256 * t.val + y1.val, by have : t.val < 32 := t.isLt; omega⟩ := by blk_ext [e12]
    rw [e]; rfl

theorem arr13 : (dats m 0 c).arrAt 13 cfg0.N = up2 (flat a.do₁) :=
  (dats m 0 c).arrAt_eq_of_covers 13 (up2 (flat a.do₁)) (by decide +kernel) fun t hf y => by
    blk_simp
    rw [after0_13, outs13 h t]
    idx_vars y
    have e : (win0_13.blk t).view.emb (ix2 y0 y1) = ix2 ⟨256 * t.val + y0.val, by have : t.val < 32 := t.isLt; omega⟩ y1 := by blk_ext [e13]
    rw [e]; rfl

theorem arr14 : (dats m 0 c).arrAt 14 cfg0.N = up2 (flat a.do₂) :=
  (dats m 0 c).arrAt_eq_of_covers 14 (up2 (flat a.do₂)) (by decide +kernel) fun t hf y => by
    blk_simp
    rw [after0_14, outs14 h t]
    idx_vars y
    have e : (win0_14.blk t).view.emb (ix2 y0 y1) = ix2 ⟨256 * t.val + y0.val, by have : t.val < 32 := t.isLt; omega⟩ y1 := by blk_ext [e14]
    rw [e]; rfl

theorem arr15 : (dats m 0 c).arrAt 15 cfg0.N = up2 (n := 8192) (m := 2048) fun r => beside (flat a.dz₁ r) (flat a.dz₂ r) :=
  (dats m 0 c).arrAt_eq_of_covers 15 (up2 (n := 8192) (m := 2048) fun r => beside (flat a.dz₁ r) (flat a.dz₂ r)) (by decide +kernel) fun t hf y => by
    blk_simp
    rw [after0_15, outs15 h t]
    idx_vars y
    have e : (win0_15.blk t).view.emb (ix2 y0 y1) = ix2 ⟨256 * t.val + y0.val, by have : t.val < 32 := t.isLt; omega⟩ y1 := by blk_ext [e15]
    rw [e]; rfl

omit h in
theorem sum_points {n : ℕ} (hn : n = 32) (f : ∀ k : Fin n, ℝ) (g : Fin 32 → ℝ) (hf : ∀ k : Fin n, f k = g (Fin.cast hn k)) : ∑ k, f k = ∑ k, g k := by
  subst hn
  exact Finset.sum_congr rfl fun k _ => hf k

theorem after16 (t : Fin cfg0.N) (ht : t.val + 1 = 32) (j : S8x1024.Idx) :
    (dats m 0 c).after 16 t j = up2 (n := 8) (m := 1024) (rows8 (fun d => ∑ b, ∑ s, a.dw₁ b s d) (fun d => ∑ b, ∑ s, a.dw₂ b s d)) j := by
  rw [after0_16]
  idx_vars j
  refine (outs16 h t.val t.isLt j0 j1).trans (congrArg (fun r : ℝ => (r : EReal)) ?_)
  refine (sum_points ht _ (fun k => nwt a k j0 j1) fun k => rfl).trans ?_
  show _ = rows8 (fun d => ∑ b, ∑ s, a.dw₁ b s d) (fun d => ∑ b, ∑ s, a.dw₂ b s d) j0 j1
  unfold nwt rows8
  split_ifs with h0 h1
  · exact sum_tiles fun b s => a.dw₁ b s j1
  · exact sum_tiles fun b s => a.dw₂ b s j1
  · exact Finset.sum_const_zero

theorem after17 (t : Fin cfg0.N) (ht : t.val + 1 = 32) (j : S8x128.Idx) :
    (dats m 0 c).after 17 t j = ((1 / 2 * ∑ b, ∑ s, a.sq b s / 1024 : ℝ) : EReal) := by
  rw [after0_17]
  refine (outs17 h t.val t.isLt j).trans (congrArg (fun r : ℝ => (r : EReal)) ?_)
  refine (sum_points ht _ (fun k => lst a k) fun k => rfl).trans ?_
  rw [← sum_tiles, Finset.mul_sum]
  refine Finset.sum_congr rfl fun k _ => ?_
  unfold lst
  rw [Finset.sum_mul, Finset.mul_sum]
  refine Finset.sum_congr rfl fun p _ => ?_
  generalize hx : tile (flat a.sq) k p = x
  show x * (1 / 2048) = 1 / 2 * (tile (flat a.sq) k p / 1024)
  rw [hx]; ring

omit h in
theorem whole16 : ∀ t : Fin cfg0.N, t.val = 31 → (cfg0.win 16).WholeAt t := by decide +kernel
omit h in
theorem whole17 : ∀ t : Fin cfg0.N, t.val = 31 → (cfg0.win 17).WholeAt t := by decide +kernel

theorem arr16 : (dats m 0 c).arrAt 16 cfg0.N = up2 (n := 8) (m := 1024) (rows8 (fun d => ∑ b, ∑ s, a.dw₁ b s d) (fun d => ∑ b, ∑ s, a.dw₂ b s d)) := by
  obtain ⟨t, ht⟩ : ∃ t : Fin cfg0.N, t.val = 31 := ⟨⟨31, by decide⟩, rfl⟩
  funext i
  refine ((dats m 0 c).arrAt_emb_eq_after_last 16 t (whole16 t ht) i).trans ?_
  blk_simp
  exact after16 h t (by omega) _

theorem arr17 : (dats m 0 c).arrAt 17 cfg0.N = fun _ => ((1 / 2 * ∑ b, ∑ s, a.sq b s / 1024 : ℝ) : EReal) := by
  obtain ⟨t, ht⟩ : ∃ t : Fin cfg0.N, t.val = 31 := ⟨⟨31, by decide⟩, rfl⟩
  funext i
  refine ((dats m 0 c).arrAt_emb_eq_after_last 17 t (whole17 t ht) i).trans ?_
  blk_simp
  exact after17 h t (by omega) _

end Cert.KernelIdeal.Gate
-- ==== Proof.GateRef.lean ====
/- The reference's stages over real arguments, each the lift of its real function. -/
module

public import proofs.«01_k».proof.Proof.GateValue
public import proofs.«01_k».proof.Proof.Gen.ReferenceIdeal.Read

@[expose] public section

set_option maxRecDepth 16384

noncomputable section

namespace Cert.ReferenceIdeal.Gate

open Cert.ReferenceIdeal Cert.ReferenceIdeal.Gen Cert.ReferenceIdeal.Value Cert.ReferenceIdeal.Read Idealize.ShloMosaic Idealize.ShloMosaic.TcCoe Cert.Lift Cert.Gate

/-- The sum over the first two axes of three. -/
theorem sum_front {n₀ n₁ n₂ : ℕ} (h : (⟨3, ![n₀, n₁, n₂]⟩ : Shape).ReducesTo [0, 1] ⟨1, ![n₂]⟩)
    (x : (⟨3, ![n₀, n₁, n₂]⟩ : Shape).Idx → EReal) (z : EReal) (j : (⟨1, ![n₂]⟩ : Shape).Idx) :
    Ideal.hostReduceAdd h x z j = z + ∑ b : Fin n₀, ∑ s : Fin n₁, x (ix3 b s (j 0)) := by
  unfold Ideal.hostReduceAdd
  congr 1
  rw [← Fintype.sum_prod_type' (f := fun b s => x (ix3 b s (j 0)))]
  refine Finset.sum_nbij' (fun i => ((i 0 : Fin n₀), (i 1 : Fin n₁))) (fun q => ix3 q.1 q.2 (j 0)) ?_ ?_ ?_ ?_ ?_
  · intro i _; exact Finset.mem_univ _
  · intro q _
    refine Finset.mem_filter.mpr ⟨Finset.mem_univ _, ?_⟩
    funext k; fin_cases k; rfl
  · intro i hi
    have e := (Finset.mem_filter.mp hi).2
    have e2 : i 2 = j 0 := by rw [← e]; rfl
    funext k; fin_cases k
    · rfl
    · rfl
    · exact e2.symm
  · intro q _; rfl
  · intro i hi
    have e := (Finset.mem_filter.mp hi).2
    have e2 : i 2 = j 0 := by rw [← e]; rfl
    congr 1
    funext k; fin_cases k
    · rfl
    · rfl
    · exact e2

variable (a : Args)

theorem r_v0 : val_main_v0 (F := Ideal) (up3 a.proj) = up3 (k := 2) (n := 4096) (m := 1024) fun b s d => a.z₁ b s d := by
  funext i
  rw [val_main_v0_apply]
  rfl

theorem r_v2 : val_main_v2 (F := Ideal) (up2 fun _ : Fin 1 => a.w₁) = fun i => ((a.w₁ (i 0) : ℝ) : EReal) := by
  funext i
  rw [val_main_v2_apply]
  exact congrArg (fun k : Fin 1024 => ((a.w₁ k : ℝ) : EReal)) (Fin.ext (show (i 0).val % 1024 = (i 0).val from Nat.mod_eq_of_lt (i 0).isLt))

theorem r_call0_v0 : val_main_call0_v0 (F := Ideal) (up3 a.proj) = up3 (k := 2) (n := 4096) (m := 1024) fun b s d => -a.z₁ b s d := by
  funext i
  rw [val_main_call0_v0_apply, r_v0]
  exact (EReal.coe_neg _).symm

theorem r_call0_v1 : val_main_call0_v1 (F := Ideal) (up3 a.proj) = up3 (k := 2) (n := 4096) (m := 1024) fun b s d => Real.exp (-a.z₁ b s d) := by
  funext i
  rw [val_main_call0_v1_apply, r_call0_v0]
  rfl

theorem r_call0_v2 : val_main_call0_v2 (F := Ideal) = up3 (k := 2) (n := 4096) (m := 1024) fun b s d => (1 : ℝ) := by
  funext i
  rw [val_main_call0_v2_apply, val_main_call0_cst_apply]
  exact bits_one

theorem r_call0_v4 : val_main_call0_v4 (F := Ideal) = up3 (k := 2) (n := 4096) (m := 1024) fun b s d => (1 : ℝ) := by
  funext i
  rw [val_main_call0_v4_apply, val_main_call0_cst_0_apply]
  exact bits_one

theorem r_call0_v6 : val_main_call0_v6 (F := Ideal) = up3 (k := 2) (n := 4096) (m := 1024) fun b s d => (1 : ℝ) := by
  funext i
  rw [val_main_call0_v6_apply, val_main_call0_cst_1_apply]
  exact bits_one

theorem r_call0_v3 : val_main_call0_v3 (F := Ideal) (up3 a.proj) = up3 (k := 2) (n := 4096) (m := 1024) fun b s d => 1 + Real.exp (-a.z₁ b s d) := by
  funext i
  rw [val_main_call0_v3_apply, r_call0_v2, r_call0_v1]
  exact (EReal.coe_add _ _).symm

theorem r_v4_2 : val_main_v4_2 (F := Ideal) (up3 a.proj) = up3 (k := 2) (n := 4096) (m := 1024) fun b s d => sg (a.z₁ b s d) := by
  funext i
  rw [val_main_v4_2_apply, r_call0_v4, r_call0_v3]
  exact coe_div (by positivity)

theorem r_call0_v7 : val_main_call0_v7 (F := Ideal) (up3 a.proj) = up3 (k := 2) (n := 4096) (m := 1024) fun b s d => 1 - sg (a.z₁ b s d) := by
  funext i
  rw [val_main_call0_v7_apply, r_call0_v6, r_v4_2]
  exact (EReal.coe_sub _ _).symm

theorem r_v4_1 : val_main_v4_1 (F := Ideal) (up3 a.proj) = up3 (k := 2) (n := 4096) (m := 1024) fun b s d => sg (a.z₁ b s d) * (1 - sg (a.z₁ b s d)) := by
  funext i
  rw [val_main_v4_1_apply, r_v4_2, r_call0_v7]
  exact (EReal.coe_mul _ _).symm

theorem r_v4_0 : val_main_v4_0 (F := Ideal) (up3 a.proj) = up3 (k := 2) (n := 4096) (m := 1024) fun b s d => sil (a.z₁ b s) d := by
  funext i
  rw [val_main_v4_0_apply, r_v0, r_v4_2]
  exact (EReal.coe_mul _ _).symm

theorem r_v5 : val_main_v5 (F := Ideal) (up3 a.o) (up3 a.proj) = up3 (k := 2) (n := 4096) (m := 1024) fun b s d => gg (a.o b s) (a.z₁ b s) d := by
  funext i
  rw [val_main_v5_apply, r_v4_0]
  exact (EReal.coe_mul _ _).symm

theorem r_v6 : val_main_v6 (F := Ideal) (up3 a.o) (up3 a.proj) = up3 (k := 2) (n := 4096) (m := 1024) fun b s d => gg (a.o b s) (a.z₁ b s) d * gg (a.o b s) (a.z₁ b s) d := by
  funext i
  rw [val_main_v6_apply, r_v5]
  exact (EReal.coe_mul _ _).symm

theorem r_v7 : val_main_v7 (F := Ideal) (up3 a.o) (up3 a.proj) = up2 (n := 2) (m := 4096) fun b s => ∑ k, gg (a.o b s) (a.z₁ b s) k * gg (a.o b s) (a.z₁ b s) k := by
  funext i
  rw [val_main_v7_apply, r_v6, val_main_cst_apply]
  refine (congrArg (· + _) bits_zero).trans ((zero_add _).trans ?_)
  exact coe_sum _ _

theorem r_v8 : val_main_v8 (F := Ideal) (up3 a.o) (up3 a.proj) = up3 (k := 2) (n := 4096) (m := 1) fun b s _ => ∑ k, gg (a.o b s) (a.z₁ b s) k * gg (a.o b s) (a.z₁ b s) k := by
  funext i
  rw [val_main_v8_apply, r_v7]
  rfl

theorem r_v9 : val_main_v9 (F := Ideal) = up3 (k := 2) (n := 4096) (m := 1) fun b s _ => (1024 : ℝ) := by
  funext i
  rw [val_main_v9_apply, val_main_cst_0_apply]
  exact bits_1024

theorem r_v10 : val_main_v10 (F := Ideal) (up3 a.o) (up3 a.proj) = up3 (k := 2) (n := 4096) (m := 1) fun b s _ => (∑ k, gg (a.o b s) (a.z₁ b s) k * gg (a.o b s) (a.z₁ b s) k) / 1024 := by
  funext i
  rw [val_main_v10_apply, r_v8, r_v9]
  exact coe_div (by norm_num)

theorem r_v11 : val_main_v11 (F := Ideal) = up3 (k := 2) (n := 4096) (m := 1) fun b s _ => eps := by
  funext i
  rw [val_main_v11_apply, val_main_cst_1_apply]
  exact bits_eps

theorem r_v12 : val_main_v12 (F := Ideal) (up3 a.o) (up3 a.proj) = up3 (k := 2) (n := 4096) (m := 1) fun b s _ => ms (a.o b s) (a.z₁ b s) := by
  funext i
  rw [val_main_v12_apply, r_v10, r_v11]
  exact (EReal.coe_add _ _).symm

theorem r_v13 : val_main_v13 (F := Ideal) (up3 a.o) (up3 a.proj) = up3 (k := 2) (n := 4096) (m := 1) fun b s _ => rr (a.o b s) (a.z₁ b s) := by
  funext i
  rw [val_main_v13_apply, r_v12]
  exact coe_rsqrt (ms_pos _ _)

theorem r_v14 : val_main_v14 (F := Ideal) (up3 a.o) (up3 a.proj) = up3 (k := 2) (n := 4096) (m := 1) fun b s _ => rr (a.o b s) (a.z₁ b s) / ms (a.o b s) (a.z₁ b s) := by
  funext i
  rw [val_main_v14_apply, r_v13, r_v12]
  exact coe_div (ms_pos _ _).ne'

theorem r_v15 : val_main_v15 (F := Ideal) = up3 (k := 2) (n := 4096) (m := 1) fun b s _ => (-((1 : ℝ) / 2)) := by
  funext i
  rw [val_main_v15_apply, val_main_cst_2_apply]
  exact bits_neg_half

theorem r_v16 : val_main_v16 (F := Ideal) (up3 a.o) (up3 a.proj) = up3 (k := 2) (n := 4096) (m := 1) fun b s _ => -(1 / 2) * (rr (a.o b s) (a.z₁ b s) / ms (a.o b s) (a.z₁ b s)) := by
  funext i
  rw [val_main_v16_apply, r_v15, r_v14]
  exact (EReal.coe_mul _ _).symm

theorem r_v17 : val_main_v17 (F := Ideal) (up3 a.o) (up3 a.proj) = up3 (k := 2) (n := 4096) (m := 1024) fun b s d => rr (a.o b s) (a.z₁ b s) := by
  funext i
  rw [val_main_v17_apply, r_v13]
  rfl

theorem r_v18 : val_main_v18 (F := Ideal) (up3 a.o) (up3 a.proj) = up3 (k := 2) (n := 4096) (m := 1024) fun b s d => nn (a.o b s) (a.z₁ b s) d := by
  funext i
  rw [val_main_v18_apply, r_v5, r_v17]
  exact (EReal.coe_mul _ _).symm

theorem r_v19 : val_main_v19 (F := Ideal) (up2 fun _ : Fin 1 => a.w₁) = up3 (k := 1) (n := 1) (m := 1024) fun _ _ d => a.w₁ d := by
  funext i
  rw [val_main_v19_apply, r_v2]
  rfl

theorem r_v20 : val_main_v20 (F := Ideal) (up2 fun _ : Fin 1 => a.w₁) = up3 (k := 2) (n := 4096) (m := 1024) fun b s d => a.w₁ d := by
  funext i
  rw [val_main_v20_apply, r_v19]
  rfl

theorem r_v21 : val_main_v21 (F := Ideal) (up3 a.o) (up3 a.proj) (up2 fun _ : Fin 1 => a.w₁) = up3 (k := 2) (n := 4096) (m := 1024) fun b s d => yy (a.o b s) (a.z₁ b s) a.w₁ d := by
  funext i
  rw [val_main_v21_apply, r_v18, r_v20]
  exact (EReal.coe_mul _ _).symm

theorem r_v1 : val_main_v1 (F := Ideal) (up3 a.proj) = up3 (k := 2) (n := 4096) (m := 1024) fun b s d => a.z₂ b s d := by
  funext i
  rw [val_main_v1_apply]
  rfl

theorem r_v3 : val_main_v3 (F := Ideal) (up2 fun _ : Fin 1 => a.w₂) = fun i => ((a.w₂ (i 0) : ℝ) : EReal) := by
  funext i
  rw [val_main_v3_apply]
  exact congrArg (fun k : Fin 1024 => ((a.w₂ k : ℝ) : EReal)) (Fin.ext (show (i 0).val % 1024 = (i 0).val from Nat.mod_eq_of_lt (i 0).isLt))

theorem r_call1_v0 : val_main_call1_v0 (F := Ideal) (up3 a.proj) = up3 (k := 2) (n := 4096) (m := 1024) fun b s d => -a.z₂ b s d := by
  funext i
  rw [val_main_call1_v0_apply, r_v1]
  exact (EReal.coe_neg _).symm

theorem r_call1_v1 : val_main_call1_v1 (F := Ideal) (up3 a.proj) = up3 (k := 2) (n := 4096) (m := 1024) fun b s d => Real.exp (-a.z₂ b s d) := by
  funext i
  rw [val_main_call1_v1_apply, r_call1_v0]
  rfl

theorem r_call1_v2 : val_main_call1_v2 (F := Ideal) = up3 (k := 2) (n := 4096) (m := 1024) fun b s d => (1 : ℝ) := by
  funext i
  rw [val_main_call1_v2_apply, val_main_call1_cst_apply]
  exact bits_one

theorem r_call1_v4 : val_main_call1_v4 (F := Ideal) = up3 (k := 2) (n := 4096) (m := 1024) fun b s d => (1 : ℝ) := by
  funext i
  rw [val_main_call1_v4_apply, val_main_call1_cst_0_apply]
  exact bits_one

theorem r_call1_v6 : val_main_call1_v6 (F := Ideal) = up3 (k := 2) (n := 4096) (m := 1024) fun b s d => (1 : ℝ) := by
  funext i
  rw [val_main_call1_v6_apply, val_main_call1_cst_1_apply]
  exact bits_one

theorem r_call1_v3 : val_main_call1_v3 (F := Ideal) (up3 a.proj) = up3 (k := 2) (n := 4096) (m := 1024) fun b s d => 1 + Real.exp (-a.z₂ b s d) := by
  funext i
  rw [val_main_call1_v3_apply, r_call1_v2, r_call1_v1]
  exact (EReal.coe_add _ _).symm

theorem r_v22_2 : val_main_v22_2 (F := Ideal) (up3 a.proj) = up3 (k := 2) (n := 4096) (m := 1024) fun b s d => sg (a.z₂ b s d) := by
  funext i
  rw [val_main_v22_2_apply, r_call1_v4, r_call1_v3]
  exact coe_div (by positivity)

theorem r_call1_v7 : val_main_call1_v7 (F := Ideal) (up3 a.proj) = up3 (k := 2) (n := 4096) (m := 1024) fun b s d => 1 - sg (a.z₂ b s d) := by
  funext i
  rw [val_main_call1_v7_apply, r_call1_v6, r_v22_2]
  exact (EReal.coe_sub _ _).symm

theorem r_v22_1 : val_main_v22_1 (F := Ideal) (up3 a.proj) = up3 (k := 2) (n := 4096) (m := 1024) fun b s d => sg (a.z₂ b s d) * (1 - sg (a.z₂ b s d)) := by
  funext i
  rw [val_main_v22_1_apply, r_v22_2, r_call1_v7]
  exact (EReal.coe_mul _ _).symm

theorem r_v22_0 : val_main_v22_0 (F := Ideal) (up3 a.proj) = up3 (k := 2) (n := 4096) (m := 1024) fun b s d => sil (a.z₂ b s) d := by
  funext i
  rw [val_main_v22_0_apply, r_v1, r_v22_2]
  exact (EReal.coe_mul _ _).symm

theorem r_v23 : val_main_v23 (F := Ideal) (up3 a.proj) (up3 a.y) = up3 (k := 2) (n := 4096) (m := 1024) fun b s d => gg (a.y b s) (a.z₂ b s) d := by
  funext i
  rw [val_main_v23_apply, r_v22_0]
  exact (EReal.coe_mul _ _).symm

theorem r_v24 : val_main_v24 (F := Ideal) (up3 a.proj) (up3 a.y) = up3 (k := 2) (n := 4096) (m := 1024) fun b s d => gg (a.y b s) (a.z₂ b s) d * gg (a.y b s) (a.z₂ b s) d := by
  funext i
  rw [val_main_v24_apply, r_v23]
  exact (EReal.coe_mul _ _).symm

theorem r_v25 : val_main_v25 (F := Ideal) (up3 a.proj) (up3 a.y) = up2 (n := 2) (m := 4096) fun b s => ∑ k, gg (a.y b s) (a.z₂ b s) k * gg (a.y b s) (a.z₂ b s) k := by
  funext i
  rw [val_main_v25_apply, r_v24, val_main_cst_3_apply]
  refine (congrArg (· + _) bits_zero).trans ((zero_add _).trans ?_)
  exact coe_sum _ _

theorem r_v26 : val_main_v26 (F := Ideal) (up3 a.proj) (up3 a.y) = up3 (k := 2) (n := 4096) (m := 1) fun b s _ => ∑ k, gg (a.y b s) (a.z₂ b s) k * gg (a.y b s) (a.z₂ b s) k := by
  funext i
  rw [val_main_v26_apply, r_v25]
  rfl

theorem r_v27 : val_main_v27 (F := Ideal) = up3 (k := 2) (n := 4096) (m := 1) fun b s _ => (1024 : ℝ) := by
  funext i
  rw [val_main_v27_apply, val_main_cst_4_apply]
  exact bits_1024

theorem r_v28 : val_main_v28 (F := Ideal) (up3 a.proj) (up3 a.y) = up3 (k := 2) (n := 4096) (m := 1) fun b s _ => (∑ k, gg (a.y b s) (a.z₂ b s) k * gg (a.y b s) (a.z₂ b s) k) / 1024 := by
  funext i
  rw [val_main_v28_apply, r_v26, r_v27]
  exact coe_div (by norm_num)

theorem r_v29 : val_main_v29 (F := Ideal) = up3 (k := 2) (n := 4096) (m := 1) fun b s _ => eps := by
  funext i
  rw [val_main_v29_apply, val_main_cst_5_apply]
  exact bits_eps

theorem r_v30 : val_main_v30 (F := Ideal) (up3 a.proj) (up3 a.y) = up3 (k := 2) (n := 4096) (m := 1) fun b s _ => ms (a.y b s) (a.z₂ b s) := by
  funext i
  rw [val_main_v30_apply, r_v28, r_v29]
  exact (EReal.coe_add _ _).symm

theorem r_v31 : val_main_v31 (F := Ideal) (up3 a.proj) (up3 a.y) = up3 (k := 2) (n := 4096) (m := 1) fun b s _ => rr (a.y b s) (a.z₂ b s) := by
  funext i
  rw [val_main_v31_apply, r_v30]
  exact coe_rsqrt (ms_pos _ _)

theorem r_v32 : val_main_v32 (F := Ideal) (up3 a.proj) (up3 a.y) = up3 (k := 2) (n := 4096) (m := 1) fun b s _ => rr (a.y b s) (a.z₂ b s) / ms (a.y b s) (a.z₂ b s) := by
  funext i
  rw [val_main_v32_apply, r_v31, r_v30]
  exact coe_div (ms_pos _ _).ne'

theorem r_v33 : val_main_v33 (F := Ideal) = up3 (k := 2) (n := 4096) (m := 1) fun b s _ => (-((1 : ℝ) / 2)) := by
  funext i
  rw [val_main_v33_apply, val_main_cst_6_apply]
  exact bits_neg_half

theorem r_v34 : val_main_v34 (F := Ideal) (up3 a.proj) (up3 a.y) = up3 (k := 2) (n := 4096) (m := 1) fun b s _ => -(1 / 2) * (rr (a.y b s) (a.z₂ b s) / ms (a.y b s) (a.z₂ b s)) := by
  funext i
  rw [val_main_v34_apply, r_v33, r_v32]
  exact (EReal.coe_mul _ _).symm

theorem r_v35 : val_main_v35 (F := Ideal) (up3 a.proj) (up3 a.y) = up3 (k := 2) (n := 4096) (m := 1024) fun b s d => rr (a.y b s) (a.z₂ b s) := by
  funext i
  rw [val_main_v35_apply, r_v31]
  rfl

theorem r_v36 : val_main_v36 (F := Ideal) (up3 a.proj) (up3 a.y) = up3 (k := 2) (n := 4096) (m := 1024) fun b s d => nn (a.y b s) (a.z₂ b s) d := by
  funext i
  rw [val_main_v36_apply, r_v23, r_v35]
  exact (EReal.coe_mul _ _).symm

theorem r_v37 : val_main_v37 (F := Ideal) (up2 fun _ : Fin 1 => a.w₂) = up3 (k := 1) (n := 1) (m := 1024) fun _ _ d => a.w₂ d := by
  funext i
  rw [val_main_v37_apply, r_v3]
  rfl

theorem r_v38 : val_main_v38 (F := Ideal) (up2 fun _ : Fin 1 => a.w₂) = up3 (k := 2) (n := 4096) (m := 1024) fun b s d => a.w₂ d := by
  funext i
  rw [val_main_v38_apply, r_v37]
  rfl

theorem r_v39 : val_main_v39 (F := Ideal) (up3 a.proj) (up3 a.y) (up2 fun _ : Fin 1 => a.w₂) = up3 (k := 2) (n := 4096) (m := 1024) fun b s d => yy (a.y b s) (a.z₂ b s) a.w₂ d := by
  funext i
  rw [val_main_v39_apply, r_v36, r_v38]
  exact (EReal.coe_mul _ _).symm

theorem r_v40 : val_main_v40 (F := Ideal) (up3 a.o) (up3 a.proj) (up3 a.y) (up2 fun _ : Fin 1 => a.w₁) (up2 fun _ : Fin 1 => a.w₂) = up3 (k := 2) (n := 4096) (m := 2048) fun b s => beside (a.y₁ b s) (a.y₂ b s) := by
  unfold val_main_v40
  rw [r_v21, r_v39]
  funext i
  by_cases hk : (i 2).val < 1024
  · refine (concatenate_pair_apply_left (s₁ := S2x4096x1024) (s₂ := S2x4096x1024) 2 _ _ _ i rfl (ix3 (i 0) (i 1) ⟨(i 2).val, hk⟩) (by intro b; fin_cases b <;> rfl)).trans ?_
    exact congrArg (fun r : ℝ => (r : EReal)) (beside_lo (a.y₁ (i 0) (i 1)) (a.y₂ (i 0) (i 1)) (i 2) hk).symm
  · have h2 : (i 2).val < 2048 := (i 2).isLt
    refine (concatenate_pair_apply_right (s₁ := S2x4096x1024) (s₂ := S2x4096x1024) 2 _ _ _ i rfl rfl (ix3 (i 0) (i 1) ⟨(i 2).val - 1024, by omega⟩) (by intro b hb; fin_cases b <;> first | rfl | exact absurd rfl hb) (show (i 2).val - 1024 + 1024 = (i 2).val by omega)).trans ?_
    exact congrArg (fun r : ℝ => (r : EReal)) (beside_hi (a.y₁ (i 0) (i 1)) (a.y₂ (i 0) (i 1)) (i 2) hk).symm

theorem sum_beside (f g : Row) (w : Fin 2048 → ℝ) :
    (∑ k, beside f g k * w k) = (∑ k : Fin 1024, f k * w ⟨k.val, by omega⟩) + ∑ k : Fin 1024, g k * w ⟨1024 + k.val, by omega⟩ := by
  refine (Fin.sum_univ_add (a := 1024) (b := 1024) fun k => beside f g k * w k).trans ?_
  refine congrArg₂ (· + ·) (Finset.sum_congr rfl fun k _ => ?_) (Finset.sum_congr rfl fun k _ => ?_)
  · rw [beside_lo f g _ (show (Fin.castAdd 1024 k).val < 1024 from k.isLt)]; rfl
  · rw [beside_hi f g _ (show ¬(Fin.natAdd 1024 k).val < 1024 by simp)]
    exact congrArg (· * _) (congrArg g (Fin.ext (by simp)))

theorem r_v41 : val_main_v41 (F := Ideal) (up3 fun _ : Fin 1 => a.w) = up2 a.w := by
  funext i
  rw [val_main_v41_apply]
  have h1 : (i 1).val < 1024 := (i 1).isLt
  refine congrArg₂ (fun (k : Fin 2048) (d : Fin 1024) => ((a.w k d : ℝ) : EReal)) (Fin.ext ?_) (Fin.ext ?_)
  · show _ % 2048 = _; have h0 : (i 0).val < 2048 := (i 0).isLt; omega
  · show _ % 1024 = _; omega

theorem r_v42 : val_main_v42 (F := Ideal) (up3 a.o) (up3 a.proj) (up3 a.y) (up2 fun _ : Fin 1 => a.w₁) (up2 fun _ : Fin 1 => a.w₂) (up3 fun _ : Fin 1 => a.w) = up3 (k := 2) (n := 4096) (m := 1024) fun b s d => (∑ k, a.y₁ b s k * a.W₁ k d) + ∑ k, a.y₂ b s k * a.W₂ k d := by
  funext i
  rw [val_main_v42_apply, r_v40, r_v41]
  refine (Finset.sum_congr rfl fun k _ => (EReal.coe_mul _ _).symm).trans ((coe_sum _ _).trans (congrArg _ ?_))
  exact sum_beside (a.y₁ (i 0) (i 1)) (a.y₂ (i 0) (i 1)) (fun k => a.w k (i 2))

theorem r_v43 : val_main_v43 (F := Ideal) (up3 a.x) (up3 a.o) (up3 a.proj) (up3 a.y) (up2 fun _ : Fin 1 => a.w₁) (up2 fun _ : Fin 1 => a.w₂) (up3 fun _ : Fin 1 => a.w) = up3 (k := 2) (n := 4096) (m := 1024) fun b s d => a.x b s d + ((∑ k, a.y₁ b s k * a.W₁ k d) + ∑ k, a.y₂ b s k * a.W₂ k d) := by
  funext i
  rw [val_main_v43_apply, r_v42]
  exact (EReal.coe_add _ _).symm

theorem r_v44 : val_main_v44 (F := Ideal) (up3 a.x) (up3 a.o) (up3 a.proj) (up3 a.y) (up2 fun _ : Fin 1 => a.w₁) (up2 fun _ : Fin 1 => a.w₂) (up3 fun _ : Fin 1 => a.w) (up3 a.tgt) = up3 (k := 2) (n := 4096) (m := 1024) fun b s d => a.err b s d := by
  funext i
  rw [val_main_v44_apply, r_v43]
  exact (EReal.coe_sub _ _).symm

theorem r_v45 : val_main_v45 (F := Ideal) (up3 a.x) (up3 a.o) (up3 a.proj) (up3 a.y) (up2 fun _ : Fin 1 => a.w₁) (up2 fun _ : Fin 1 => a.w₂) (up3 fun _ : Fin 1 => a.w) (up3 a.tgt) = up3 (k := 2) (n := 4096) (m := 1024) fun b s d => a.err b s d * a.err b s d := by
  funext i
  rw [val_main_v45_apply, r_v44]
  exact (EReal.coe_mul _ _).symm

theorem r_v46 : val_main_v46 (F := Ideal) = up3 (k := 2) (n := 4096) (m := 1024) fun b s d => (2 : ℝ) := by
  funext i
  rw [val_main_v46_apply, val_main_cst_7_apply]
  exact bits_two

theorem r_v47 : val_main_v47 (F := Ideal) (up3 a.x) (up3 a.o) (up3 a.proj) (up3 a.y) (up2 fun _ : Fin 1 => a.w₁) (up2 fun _ : Fin 1 => a.w₂) (up3 fun _ : Fin 1 => a.w) (up3 a.tgt) = up3 (k := 2) (n := 4096) (m := 1024) fun b s d => 2 * a.err b s d := by
  funext i
  rw [val_main_v47_apply, r_v46, r_v44]
  exact (EReal.coe_mul _ _).symm

theorem r_v48 : val_main_v48 (F := Ideal) (up3 a.x) (up3 a.o) (up3 a.proj) (up3 a.y) (up2 fun _ : Fin 1 => a.w₁) (up2 fun _ : Fin 1 => a.w₂) (up3 fun _ : Fin 1 => a.w) (up3 a.tgt) = up2 a.sq := by
  funext i
  rw [val_main_v48_apply, r_v45, val_main_cst_8_apply]
  refine (congrArg (· + _) bits_zero).trans ((zero_add _).trans ?_)
  exact coe_sum _ _

theorem r_v49 : val_main_v49 (F := Ideal) = up2 (n := 2) (m := 4096) fun b s => (1024 : ℝ) := by
  funext i
  rw [val_main_v49_apply, val_main_cst_9_apply]
  exact bits_1024

theorem r_v50 : val_main_v50 (F := Ideal) (up3 a.x) (up3 a.o) (up3 a.proj) (up3 a.y) (up2 fun _ : Fin 1 => a.w₁) (up2 fun _ : Fin 1 => a.w₂) (up3 fun _ : Fin 1 => a.w) (up3 a.tgt) = up2 (n := 2) (m := 4096) fun b s => a.sq b s / 1024 := by
  funext i
  rw [val_main_v50_apply, r_v48, r_v49]
  exact coe_div (by norm_num)

theorem r_v51 : val_main_v51 (F := Ideal) (up3 a.x) (up3 a.o) (up3 a.proj) (up3 a.y) (up2 fun _ : Fin 1 => a.w₁) (up2 fun _ : Fin 1 => a.w₂) (up3 fun _ : Fin 1 => a.w) (up3 a.tgt) = fun _ => ((∑ b, ∑ s, a.sq b s / 1024 : ℝ) : EReal) := by
  funext i
  rw [val_main_v51_apply, r_v50, val_main_cst_10_apply]
  refine (congrArg (· + _) bits_zero).trans ((zero_add _).trans ?_)
  rw [sum_idx2]
  exact (Finset.sum_congr rfl fun b _ => coe_sum _ _).trans (coe_sum _ _)

theorem r_v52 : val_main_v52 (F := Ideal) (up3 a.x) (up3 a.o) (up3 a.proj) (up3 a.y) (up2 fun _ : Fin 1 => a.w₁) (up2 fun _ : Fin 1 => a.w₂) (up3 fun _ : Fin 1 => a.w) (up3 a.tgt) = fun _ => ((1 / 2 * ∑ b, ∑ s, a.sq b s / 1024 : ℝ) : EReal) := by
  funext i
  rw [val_main_v52_apply, r_v51, val_main_cst_11_apply]
  exact (congrArg (· * _) bits_half).trans (EReal.coe_mul _ _).symm

theorem r_v53 : val_main_v53 (F := Ideal) = fun _ => ((1 / 2 * 1 : ℝ) : EReal) := by
  funext i
  rw [val_main_v53_apply, val_main_cst_12_apply, val_main_cst_13_apply]
  exact (congrArg₂ (· * ·) bits_half bits_one).trans (EReal.coe_mul _ _).symm

theorem r_v54 : val_main_v54 (F := Ideal) = up2 (n := 2) (m := 4096) fun b s => (1 / 2 * 1 : ℝ) := by
  funext i
  rw [val_main_v54_apply, r_v53]
  rfl

theorem r_v55 : val_main_v55 (F := Ideal) = up2 (n := 2) (m := 4096) fun b s => (1024 : ℝ) := by
  funext i
  rw [val_main_v55_apply, val_main_cst_14_apply]
  exact bits_1024

theorem r_v56 : val_main_v56 (F := Ideal) = up2 (n := 2) (m := 4096) fun b s => (1 / 2 * 1 / 1024 : ℝ) := by
  funext i
  rw [val_main_v56_apply, r_v54, r_v55]
  exact coe_div (by norm_num)

theorem r_v57 : val_main_v57 (F := Ideal) = up3 (k := 2) (n := 4096) (m := 1024) fun b s d => (1 / 2 * 1 / 1024 : ℝ) := by
  funext i
  rw [val_main_v57_apply, r_v56]
  rfl

theorem r_v58 : val_main_v58 (F := Ideal) (up3 a.x) (up3 a.o) (up3 a.proj) (up3 a.y) (up2 fun _ : Fin 1 => a.w₁) (up2 fun _ : Fin 1 => a.w₂) (up3 fun _ : Fin 1 => a.w) (up3 a.tgt) = up3 a.dout := by
  funext i
  rw [val_main_v58_apply, r_v57, r_v47]
  refine (EReal.coe_mul _ _).symm.trans (congrArg _ ?_)
  show _ = a.err _ _ _ * (1 / 1024)
  ring

theorem r_v59 : val_main_v59 (F := Ideal) (up3 a.x) (up3 a.o) (up3 a.proj) (up3 a.y) (up2 fun _ : Fin 1 => a.w₁) (up2 fun _ : Fin 1 => a.w₂) (up3 fun _ : Fin 1 => a.w) (up3 a.tgt) = up3 (k := 2) (n := 4096) (m := 2048) fun b s k => ∑ d, a.dout b s d * a.w k d := by
  funext i
  rw [val_main_v59_apply, r_v58, r_v41]
  exact (Finset.sum_congr rfl fun k _ => (EReal.coe_mul _ _).symm).trans (coe_sum _ _)

theorem r_v60 : val_main_v60 (F := Ideal) (up3 a.x) (up3 a.o) (up3 a.proj) (up3 a.y) (up2 fun _ : Fin 1 => a.w₁) (up2 fun _ : Fin 1 => a.w₂) (up3 fun _ : Fin 1 => a.w) (up3 a.tgt) = up3 a.dm₁ := by
  funext i
  rw [val_main_v60_apply, r_v59]
  rfl

theorem r_v61 : val_main_v61 (F := Ideal) (up3 a.x) (up3 a.o) (up3 a.proj) (up3 a.y) (up2 fun _ : Fin 1 => a.w₁) (up2 fun _ : Fin 1 => a.w₂) (up3 fun _ : Fin 1 => a.w) (up3 a.tgt) = up3 a.dm₂ := by
  funext i
  rw [val_main_v61_apply, r_v59]
  exact congrArg (fun k : Fin 2048 => ((∑ d, a.dout (i 0) (i 1) d * a.w k d : ℝ) : EReal)) (Fin.ext (by simp [Nat.add_comm]))

theorem r_v62 : val_main_v62 (F := Ideal) (up3 a.x) (up3 a.o) (up3 a.proj) (up3 a.y) (up2 fun _ : Fin 1 => a.w₁) (up2 fun _ : Fin 1 => a.w₂) (up3 fun _ : Fin 1 => a.w) (up3 a.tgt) = up3 a.dw₂ := by
  funext i
  rw [val_main_v62_apply, r_v36, r_v61]
  refine (EReal.coe_mul _ _).symm.trans (congrArg _ (mul_comm _ _))

theorem r_v63 : val_main_v63 (F := Ideal) (up3 a.x) (up3 a.o) (up3 a.proj) (up3 a.y) (up2 fun _ : Fin 1 => a.w₁) (up2 fun _ : Fin 1 => a.w₂) (up3 fun _ : Fin 1 => a.w) (up3 a.tgt) = fun i => ((∑ b, ∑ s, a.dw₂ b s (i 0) : ℝ) : EReal) := by
  unfold val_main_v63
  rw [r_v62]
  funext i
  refine (sum_front reducesTo_S2x4096x1024_S1024_d0_1 (up3 a.dw₂) _ i).trans ?_
  refine (congrArg (· + _) bits_zero).trans ((zero_add _).trans ?_)
  exact (Finset.sum_congr rfl fun b _ => coe_sum _ _).trans (coe_sum _ _)

theorem r_v64 : val_main_v64 (F := Ideal) (up3 a.x) (up3 a.o) (up3 a.proj) (up3 a.y) (up2 fun _ : Fin 1 => a.w₁) (up2 fun _ : Fin 1 => a.w₂) (up3 fun _ : Fin 1 => a.w) (up3 a.tgt) = up3 (k := 1) (n := 1) (m := 1024) fun _ _ d => ∑ b, ∑ s, a.dw₂ b s d := by
  funext i
  rw [val_main_v64_apply, r_v63]
  have h0 : (i 0).val < 1 := (i 0).isLt
  have h1 : (i 1).val < 1 := (i 1).isLt
  exact congrArg (fun k : Fin 1024 => ((∑ b, ∑ s, a.dw₂ b s k : ℝ) : EReal)) (Fin.ext (show ((i 0).val * 1 + (i 1).val) * 1024 + (i 2).val = (i 2).val by omega))

theorem r_v65 : val_main_v65 (F := Ideal) (up2 fun _ : Fin 1 => a.w₂) = up3 (k := 2) (n := 4096) (m := 1024) fun b s d => a.w₂ d := by
  funext i
  rw [val_main_v65_apply, r_v37]
  rfl

theorem r_v66 : val_main_v66 (F := Ideal) (up3 a.x) (up3 a.o) (up3 a.proj) (up3 a.y) (up2 fun _ : Fin 1 => a.w₁) (up2 fun _ : Fin 1 => a.w₂) (up3 fun _ : Fin 1 => a.w) (up3 a.tgt) = up3 (k := 2) (n := 4096) (m := 1024) fun b s d => a.dm₂ b s d * a.w₂ d := by
  funext i
  rw [val_main_v66_apply, r_v61, r_v65]
  exact (EReal.coe_mul _ _).symm

theorem r_v67 : val_main_v67 (F := Ideal) (up3 a.x) (up3 a.o) (up3 a.proj) (up3 a.y) (up2 fun _ : Fin 1 => a.w₁) (up2 fun _ : Fin 1 => a.w₂) (up3 fun _ : Fin 1 => a.w) (up3 a.tgt) = fun i => ((∑ b, ∑ s, a.dw₂ b s (i 0) : ℝ) : EReal) := by
  unfold val_main_v67
  rw [r_v64]
  funext i
  refine (sum_front reducesTo_S1x1x1024_S1024_d0_1 _ _ i).trans ?_
  refine (congrArg (· + _) bits_zero).trans ((zero_add _).trans ?_)
  rw [Fin.sum_univ_one, Fin.sum_univ_one]
  rfl

theorem r_v68 : val_main_v68 (F := Ideal) (up3 a.x) (up3 a.o) (up3 a.proj) (up3 a.y) (up2 fun _ : Fin 1 => a.w₁) (up2 fun _ : Fin 1 => a.w₂) (up3 fun _ : Fin 1 => a.w) (up3 a.tgt) = up3 (k := 2) (n := 4096) (m := 1024) fun b s d => gg (a.y b s) (a.z₂ b s) d * (a.dm₂ b s d * a.w₂ d) := by
  funext i
  rw [val_main_v68_apply, r_v23, r_v66]
  exact (EReal.coe_mul _ _).symm

theorem r_v69 : val_main_v69 (F := Ideal) (up3 a.x) (up3 a.o) (up3 a.proj) (up3 a.y) (up2 fun _ : Fin 1 => a.w₁) (up2 fun _ : Fin 1 => a.w₂) (up3 fun _ : Fin 1 => a.w) (up3 a.tgt) = up2 (n := 2) (m := 4096) fun b s => ∑ k, gg (a.y b s) (a.z₂ b s) k * (a.dm₂ b s k * a.w₂ k) := by
  funext i
  rw [val_main_v69_apply, r_v68, val_main_cst_17_apply]
  refine (congrArg (· + _) bits_zero).trans ((zero_add _).trans ?_)
  exact coe_sum _ _

theorem r_v70 : val_main_v70 (F := Ideal) (up3 a.x) (up3 a.o) (up3 a.proj) (up3 a.y) (up2 fun _ : Fin 1 => a.w₁) (up2 fun _ : Fin 1 => a.w₂) (up3 fun _ : Fin 1 => a.w) (up3 a.tgt) = up3 (k := 2) (n := 4096) (m := 1) fun b s _ => ∑ k, gg (a.y b s) (a.z₂ b s) k * (a.dm₂ b s k * a.w₂ k) := by
  funext i
  rw [val_main_v70_apply, r_v69]
  have h0 : (i 0).val < 2 := (i 0).isLt
  have h1 : (i 1).val < 4096 := (i 1).isLt
  have h2 : (i 2).val < 1 := (i 2).isLt
  refine congrArg₂ (fun (b : Fin 2) (s : Fin 4096) => (((∑ k, gg (a.y b s) (a.z₂ b s) k * (a.dm₂ b s k * a.w₂ k)) : ℝ) : EReal)) (Fin.ext ?_) (Fin.ext ?_)
  · show (((i 0).val * 4096 + (i 1).val) * 1 + (i 2).val) / 4096 = (i 0).val; omega
  · show (((i 0).val * 4096 + (i 1).val) * 1 + (i 2).val) % 4096 = (i 1).val; omega

theorem r_v71 : val_main_v71 (F := Ideal) (up3 a.proj) (up3 a.y) = up3 (k := 2) (n := 4096) (m := 1024) fun b s d => rr (a.y b s) (a.z₂ b s) := by
  funext i
  rw [val_main_v71_apply, r_v31]
  rfl

theorem r_v72 : val_main_v72 (F := Ideal) (up3 a.x) (up3 a.o) (up3 a.proj) (up3 a.y) (up2 fun _ : Fin 1 => a.w₁) (up2 fun _ : Fin 1 => a.w₂) (up3 fun _ : Fin 1 => a.w) (up3 a.tgt) = up3 (k := 2) (n := 4096) (m := 1024) fun b s d => a.dm₂ b s d * a.w₂ d * rr (a.y b s) (a.z₂ b s) := by
  funext i
  rw [val_main_v72_apply, r_v66, r_v71]
  exact (EReal.coe_mul _ _).symm

theorem r_v73 : val_main_v73 (F := Ideal) (up3 a.x) (up3 a.o) (up3 a.proj) (up3 a.y) (up2 fun _ : Fin 1 => a.w₁) (up2 fun _ : Fin 1 => a.w₂) (up3 fun _ : Fin 1 => a.w) (up3 a.tgt) = up3 (k := 2) (n := 4096) (m := 1) fun b s _ => (∑ k, gg (a.y b s) (a.z₂ b s) k * (a.dm₂ b s k * a.w₂ k)) * (-(1 / 2) * (rr (a.y b s) (a.z₂ b s) / ms (a.y b s) (a.z₂ b s))) := by
  funext i
  rw [val_main_v73_apply, r_v70, r_v34]
  exact (EReal.coe_mul _ _).symm

theorem r_v74 : val_main_v74 (F := Ideal) = up3 (k := 2) (n := 4096) (m := 1) fun b s _ => (1024 : ℝ) := by
  funext i
  rw [val_main_v74_apply, val_main_cst_18_apply]
  exact bits_1024

theorem r_v75 : val_main_v75 (F := Ideal) (up3 a.x) (up3 a.o) (up3 a.proj) (up3 a.y) (up2 fun _ : Fin 1 => a.w₁) (up2 fun _ : Fin 1 => a.w₂) (up3 fun _ : Fin 1 => a.w) (up3 a.tgt) = up3 (k := 2) (n := 4096) (m := 1) fun b s _ => ((∑ k, gg (a.y b s) (a.z₂ b s) k * (a.dm₂ b s k * a.w₂ k)) * (-(1 / 2) * (rr (a.y b s) (a.z₂ b s) / ms (a.y b s) (a.z₂ b s)))) / 1024 := by
  funext i
  rw [val_main_v75_apply, r_v73, r_v74]
  exact coe_div (by norm_num)

theorem r_v76 : val_main_v76 (F := Ideal) (up3 a.x) (up3 a.o) (up3 a.proj) (up3 a.y) (up2 fun _ : Fin 1 => a.w₁) (up2 fun _ : Fin 1 => a.w₂) (up3 fun _ : Fin 1 => a.w) (up3 a.tgt) = up2 (n := 2) (m := 4096) fun b s => ((∑ k, gg (a.y b s) (a.z₂ b s) k * (a.dm₂ b s k * a.w₂ k)) * (-(1 / 2) * (rr (a.y b s) (a.z₂ b s) / ms (a.y b s) (a.z₂ b s)))) / 1024 := by
  funext i
  rw [val_main_v76_apply, r_v75, val_main_cst_19_apply]
  refine (congrArg (· + _) bits_zero).trans ((zero_add _).trans ?_)
  rw [Fin.sum_univ_one]
  rfl

theorem r_v77 : val_main_v77 (F := Ideal) (up3 a.x) (up3 a.o) (up3 a.proj) (up3 a.y) (up2 fun _ : Fin 1 => a.w₁) (up2 fun _ : Fin 1 => a.w₂) (up3 fun _ : Fin 1 => a.w) (up3 a.tgt) = up3 (k := 2) (n := 4096) (m := 1024) fun b s d => ((∑ k, gg (a.y b s) (a.z₂ b s) k * (a.dm₂ b s k * a.w₂ k)) * (-(1 / 2) * (rr (a.y b s) (a.z₂ b s) / ms (a.y b s) (a.z₂ b s)))) / 1024 := by
  funext i
  rw [val_main_v77_apply, r_v76]
  rfl

theorem r_v78 : val_main_v78 (F := Ideal) (up3 a.x) (up3 a.o) (up3 a.proj) (up3 a.y) (up2 fun _ : Fin 1 => a.w₁) (up2 fun _ : Fin 1 => a.w₂) (up3 fun _ : Fin 1 => a.w) (up3 a.tgt) = up3 (k := 2) (n := 4096) (m := 1024) fun b s d => gg (a.y b s) (a.z₂ b s) d * (((∑ k, gg (a.y b s) (a.z₂ b s) k * (a.dm₂ b s k * a.w₂ k)) * (-(1 / 2) * (rr (a.y b s) (a.z₂ b s) / ms (a.y b s) (a.z₂ b s)))) / 1024) := by
  funext i
  rw [val_main_v78_apply, r_v23, r_v77]
  exact (EReal.coe_mul _ _).symm

theorem r_v79 : val_main_v79 (F := Ideal) (up3 a.x) (up3 a.o) (up3 a.proj) (up3 a.y) (up2 fun _ : Fin 1 => a.w₁) (up2 fun _ : Fin 1 => a.w₂) (up3 fun _ : Fin 1 => a.w) (up3 a.tgt) = up3 (k := 2) (n := 4096) (m := 1024) fun b s d => a.dm₂ b s d * a.w₂ d * rr (a.y b s) (a.z₂ b s) + gg (a.y b s) (a.z₂ b s) d * (((∑ k, gg (a.y b s) (a.z₂ b s) k * (a.dm₂ b s k * a.w₂ k)) * (-(1 / 2) * (rr (a.y b s) (a.z₂ b s) / ms (a.y b s) (a.z₂ b s)))) / 1024) := by
  funext i
  rw [val_main_v79_apply, r_v72, r_v78]
  exact (EReal.coe_add _ _).symm

theorem r_v80 : val_main_v80 (F := Ideal) (up3 a.x) (up3 a.o) (up3 a.proj) (up3 a.y) (up2 fun _ : Fin 1 => a.w₁) (up2 fun _ : Fin 1 => a.w₂) (up3 fun _ : Fin 1 => a.w) (up3 a.tgt) = up3 (k := 2) (n := 4096) (m := 1024) fun b s d => gg (a.y b s) (a.z₂ b s) d * (((∑ k, gg (a.y b s) (a.z₂ b s) k * (a.dm₂ b s k * a.w₂ k)) * (-(1 / 2) * (rr (a.y b s) (a.z₂ b s) / ms (a.y b s) (a.z₂ b s)))) / 1024) := by
  funext i
  rw [val_main_v80_apply, r_v77, r_v23]
  exact (EReal.coe_mul _ _).symm.trans (congrArg _ (mul_comm _ _))

theorem r_v81 : val_main_v81 (F := Ideal) (up3 a.x) (up3 a.o) (up3 a.proj) (up3 a.y) (up2 fun _ : Fin 1 => a.w₁) (up2 fun _ : Fin 1 => a.w₂) (up3 fun _ : Fin 1 => a.w) (up3 a.tgt) = up3 (k := 2) (n := 4096) (m := 1024) fun b s d => dg (a.y b s) (a.z₂ b s) a.w₂ (a.dm₂ b s) d := by
  funext i
  rw [val_main_v81_apply, r_v79, r_v80]
  refine (EReal.coe_add _ _).symm.trans (congrArg _ ((add_assoc _ _ _).trans ?_))
  exact dg_eq _ _ _ _ _

theorem r_v82 : val_main_v82 (F := Ideal) (up3 a.x) (up3 a.o) (up3 a.proj) (up3 a.y) (up2 fun _ : Fin 1 => a.w₁) (up2 fun _ : Fin 1 => a.w₂) (up3 fun _ : Fin 1 => a.w) (up3 a.tgt) = up3 (k := 2) (n := 4096) (m := 1024) fun b s d => a.y b s d * dg (a.y b s) (a.z₂ b s) a.w₂ (a.dm₂ b s) d := by
  funext i
  rw [val_main_v82_apply, r_v81]
  exact (EReal.coe_mul _ _).symm

theorem r_v83 : val_main_v83 (F := Ideal) (up3 a.x) (up3 a.o) (up3 a.proj) (up3 a.y) (up2 fun _ : Fin 1 => a.w₁) (up2 fun _ : Fin 1 => a.w₂) (up3 fun _ : Fin 1 => a.w) (up3 a.tgt) = up3 a.do₂ := by
  funext i
  rw [val_main_v83_apply, r_v81, r_v22_0]
  exact (EReal.coe_mul _ _).symm

theorem r_call2_v0 : val_main_call2_v0 (F := Ideal) (up3 a.x) (up3 a.o) (up3 a.proj) (up3 a.y) (up2 fun _ : Fin 1 => a.w₁) (up2 fun _ : Fin 1 => a.w₂) (up3 fun _ : Fin 1 => a.w) (up3 a.tgt) = up3 (k := 2) (n := 4096) (m := 1024) fun b s d => a.z₂ b s d * (a.y b s d * dg (a.y b s) (a.z₂ b s) a.w₂ (a.dm₂ b s) d) := by
  funext i
  rw [val_main_call2_v0_apply, r_v1, r_v82]
  exact (EReal.coe_mul _ _).symm

theorem r_call2_v1 : val_main_call2_v1 (F := Ideal) (up3 a.x) (up3 a.o) (up3 a.proj) (up3 a.y) (up2 fun _ : Fin 1 => a.w₁) (up2 fun _ : Fin 1 => a.w₂) (up3 fun _ : Fin 1 => a.w) (up3 a.tgt) = up3 (k := 2) (n := 4096) (m := 1024) fun b s d => a.y b s d * dg (a.y b s) (a.z₂ b s) a.w₂ (a.dm₂ b s) d * sg (a.z₂ b s d) := by
  funext i
  rw [val_main_call2_v1_apply, r_v82, r_v22_2]
  exact (EReal.coe_mul _ _).symm

theorem r_call2_v2 : val_main_call2_v2 (F := Ideal) (up3 a.x) (up3 a.o) (up3 a.proj) (up3 a.y) (up2 fun _ : Fin 1 => a.w₁) (up2 fun _ : Fin 1 => a.w₂) (up3 fun _ : Fin 1 => a.w) (up3 a.tgt) = up3 (k := 2) (n := 4096) (m := 1024) fun b s d => a.z₂ b s d * (a.y b s d * dg (a.y b s) (a.z₂ b s) a.w₂ (a.dm₂ b s) d) * (sg (a.z₂ b s d) * (1 - sg (a.z₂ b s d))) := by
  funext i
  rw [val_main_call2_v2_apply, r_call2_v0, r_v22_1]
  exact (EReal.coe_mul _ _).symm

theorem r_v84 : val_main_v84 (F := Ideal) (up3 a.x) (up3 a.o) (up3 a.proj) (up3 a.y) (up2 fun _ : Fin 1 => a.w₁) (up2 fun _ : Fin 1 => a.w₂) (up3 fun _ : Fin 1 => a.w) (up3 a.tgt) = up3 a.dz₂ := by
  funext i
  rw [val_main_v84_apply, r_call2_v1, r_call2_v2]
  refine (EReal.coe_add _ _).symm.trans (congrArg _ ?_)
  show _ = dg (a.y (i 0) (i 1)) (a.z₂ (i 0) (i 1)) a.w₂ (a.dm₂ (i 0) (i 1)) (i 2) * a.y (i 0) (i 1) (i 2) * (sg (a.z₂ (i 0) (i 1) (i 2)) * (1 + a.z₂ (i 0) (i 1) (i 2) * (1 - sg (a.z₂ (i 0) (i 1) (i 2)))))
  ring

theorem r_v85 : val_main_v85 (F := Ideal) (up3 a.x) (up3 a.o) (up3 a.proj) (up3 a.y) (up2 fun _ : Fin 1 => a.w₁) (up2 fun _ : Fin 1 => a.w₂) (up3 fun _ : Fin 1 => a.w) (up3 a.tgt) = up3 a.dw₁ := by
  funext i
  rw [val_main_v85_apply, r_v18, r_v60]
  refine (EReal.coe_mul _ _).symm.trans (congrArg _ (mul_comm _ _))

theorem r_v86 : val_main_v86 (F := Ideal) (up3 a.x) (up3 a.o) (up3 a.proj) (up3 a.y) (up2 fun _ : Fin 1 => a.w₁) (up2 fun _ : Fin 1 => a.w₂) (up3 fun _ : Fin 1 => a.w) (up3 a.tgt) = fun i => ((∑ b, ∑ s, a.dw₁ b s (i 0) : ℝ) : EReal) := by
  unfold val_main_v86
  rw [r_v85]
  funext i
  refine (sum_front reducesTo_S2x4096x1024_S1024_d0_1 (up3 a.dw₁) _ i).trans ?_
  refine (congrArg (· + _) bits_zero).trans ((zero_add _).trans ?_)
  exact (Finset.sum_congr rfl fun b _ => coe_sum _ _).trans (coe_sum _ _)

theorem r_v87 : val_main_v87 (F := Ideal) (up3 a.x) (up3 a.o) (up3 a.proj) (up3 a.y) (up2 fun _ : Fin 1 => a.w₁) (up2 fun _ : Fin 1 => a.w₂) (up3 fun _ : Fin 1 => a.w) (up3 a.tgt) = up3 (k := 1) (n := 1) (m := 1024) fun _ _ d => ∑ b, ∑ s, a.dw₁ b s d := by
  funext i
  rw [val_main_v87_apply, r_v86]
  have h0 : (i 0).val < 1 := (i 0).isLt
  have h1 : (i 1).val < 1 := (i 1).isLt
  exact congrArg (fun k : Fin 1024 => ((∑ b, ∑ s, a.dw₁ b s k : ℝ) : EReal)) (Fin.ext (show ((i 0).val * 1 + (i 1).val) * 1024 + (i 2).val = (i 2).val by omega))

theorem r_v88 : val_main_v88 (F := Ideal) (up2 fun _ : Fin 1 => a.w₁) = up3 (k := 2) (n := 4096) (m := 1024) fun b s d => a.w₁ d := by
  funext i
  rw [val_main_v88_apply, r_v19]
  rfl

theorem r_v89 : val_main_v89 (F := Ideal) (up3 a.x) (up3 a.o) (up3 a.proj) (up3 a.y) (up2 fun _ : Fin 1 => a.w₁) (up2 fun _ : Fin 1 => a.w₂) (up3 fun _ : Fin 1 => a.w) (up3 a.tgt) = up3 (k := 2) (n := 4096) (m := 1024) fun b s d => a.dm₁ b s d * a.w₁ d := by
  funext i
  rw [val_main_v89_apply, r_v60, r_v88]
  exact (EReal.coe_mul _ _).symm

theorem r_v90 : val_main_v90 (F := Ideal) (up3 a.x) (up3 a.o) (up3 a.proj) (up3 a.y) (up2 fun _ : Fin 1 => a.w₁) (up2 fun _ : Fin 1 => a.w₂) (up3 fun _ : Fin 1 => a.w) (up3 a.tgt) = fun i => ((∑ b, ∑ s, a.dw₁ b s (i 0) : ℝ) : EReal) := by
  unfold val_main_v90
  rw [r_v87]
  funext i
  refine (sum_front reducesTo_S1x1x1024_S1024_d0_1 _ _ i).trans ?_
  refine (congrArg (· + _) bits_zero).trans ((zero_add _).trans ?_)
  rw [Fin.sum_univ_one, Fin.sum_univ_one]
  rfl

theorem r_v91 : val_main_v91 (F := Ideal) (up3 a.x) (up3 a.o) (up3 a.proj) (up3 a.y) (up2 fun _ : Fin 1 => a.w₁) (up2 fun _ : Fin 1 => a.w₂) (up3 fun _ : Fin 1 => a.w) (up3 a.tgt) = up3 (k := 2) (n := 4096) (m := 1024) fun b s d => gg (a.o b s) (a.z₁ b s) d * (a.dm₁ b s d * a.w₁ d) := by
  funext i
  rw [val_main_v91_apply, r_v5, r_v89]
  exact (EReal.coe_mul _ _).symm

theorem r_v92 : val_main_v92 (F := Ideal) (up3 a.x) (up3 a.o) (up3 a.proj) (up3 a.y) (up2 fun _ : Fin 1 => a.w₁) (up2 fun _ : Fin 1 => a.w₂) (up3 fun _ : Fin 1 => a.w) (up3 a.tgt) = up2 (n := 2) (m := 4096) fun b s => ∑ k, gg (a.o b s) (a.z₁ b s) k * (a.dm₁ b s k * a.w₁ k) := by
  funext i
  rw [val_main_v92_apply, r_v91, val_main_cst_22_apply]
  refine (congrArg (· + _) bits_zero).trans ((zero_add _).trans ?_)
  exact coe_sum _ _

theorem r_v93 : val_main_v93 (F := Ideal) (up3 a.x) (up3 a.o) (up3 a.proj) (up3 a.y) (up2 fun _ : Fin 1 => a.w₁) (up2 fun _ : Fin 1 => a.w₂) (up3 fun _ : Fin 1 => a.w) (up3 a.tgt) = up3 (k := 2) (n := 4096) (m := 1) fun b s _ => ∑ k, gg (a.o b s) (a.z₁ b s) k * (a.dm₁ b s k * a.w₁ k) := by
  funext i
  rw [val_main_v93_apply, r_v92]
  have h0 : (i 0).val < 2 := (i 0).isLt
  have h1 : (i 1).val < 4096 := (i 1).isLt
  have h2 : (i 2).val < 1 := (i 2).isLt
  refine congrArg₂ (fun (b : Fin 2) (s : Fin 4096) => (((∑ k, gg (a.o b s) (a.z₁ b s) k * (a.dm₁ b s k * a.w₁ k)) : ℝ) : EReal)) (Fin.ext ?_) (Fin.ext ?_)
  · show (((i 0).val * 4096 + (i 1).val) * 1 + (i 2).val) / 4096 = (i 0).val; omega
  · show (((i 0).val * 4096 + (i 1).val) * 1 + (i 2).val) % 4096 = (i 1).val; omega

theorem r_v94 : val_main_v94 (F := Ideal) (up3 a.o) (up3 a.proj) = up3 (k := 2) (n := 4096) (m := 1024) fun b s d => rr (a.o b s) (a.z₁ b s) := by
  funext i
  rw [val_main_v94_apply, r_v13]
  rfl

theorem r_v95 : val_main_v95 (F := Ideal) (up3 a.x) (up3 a.o) (up3 a.proj) (up3 a.y) (up2 fun _ : Fin 1 => a.w₁) (up2 fun _ : Fin 1 => a.w₂) (up3 fun _ : Fin 1 => a.w) (up3 a.tgt) = up3 (k := 2) (n := 4096) (m := 1024) fun b s d => a.dm₁ b s d * a.w₁ d * rr (a.o b s) (a.z₁ b s) := by
  funext i
  rw [val_main_v95_apply, r_v89, r_v94]
  exact (EReal.coe_mul _ _).symm

theorem r_v96 : val_main_v96 (F := Ideal) (up3 a.x) (up3 a.o) (up3 a.proj) (up3 a.y) (up2 fun _ : Fin 1 => a.w₁) (up2 fun _ : Fin 1 => a.w₂) (up3 fun _ : Fin 1 => a.w) (up3 a.tgt) = up3 (k := 2) (n := 4096) (m := 1) fun b s _ => (∑ k, gg (a.o b s) (a.z₁ b s) k * (a.dm₁ b s k * a.w₁ k)) * (-(1 / 2) * (rr (a.o b s) (a.z₁ b s) / ms (a.o b s) (a.z₁ b s))) := by
  funext i
  rw [val_main_v96_apply, r_v93, r_v16]
  exact (EReal.coe_mul _ _).symm

theorem r_v97 : val_main_v97 (F := Ideal) = up3 (k := 2) (n := 4096) (m := 1) fun b s _ => (1024 : ℝ) := by
  funext i
  rw [val_main_v97_apply, val_main_cst_23_apply]
  exact bits_1024

theorem r_v98 : val_main_v98 (F := Ideal) (up3 a.x) (up3 a.o) (up3 a.proj) (up3 a.y) (up2 fun _ : Fin 1 => a.w₁) (up2 fun _ : Fin 1 => a.w₂) (up3 fun _ : Fin 1 => a.w) (up3 a.tgt) = up3 (k := 2) (n := 4096) (m := 1) fun b s _ => ((∑ k, gg (a.o b s) (a.z₁ b s) k * (a.dm₁ b s k * a.w₁ k)) * (-(1 / 2) * (rr (a.o b s) (a.z₁ b s) / ms (a.o b s) (a.z₁ b s)))) / 1024 := by
  funext i
  rw [val_main_v98_apply, r_v96, r_v97]
  exact coe_div (by norm_num)

theorem r_v99 : val_main_v99 (F := Ideal) (up3 a.x) (up3 a.o) (up3 a.proj) (up3 a.y) (up2 fun _ : Fin 1 => a.w₁) (up2 fun _ : Fin 1 => a.w₂) (up3 fun _ : Fin 1 => a.w) (up3 a.tgt) = up2 (n := 2) (m := 4096) fun b s => ((∑ k, gg (a.o b s) (a.z₁ b s) k * (a.dm₁ b s k * a.w₁ k)) * (-(1 / 2) * (rr (a.o b s) (a.z₁ b s) / ms (a.o b s) (a.z₁ b s)))) / 1024 := by
  funext i
  rw [val_main_v99_apply, r_v98, val_main_cst_24_apply]
  refine (congrArg (· + _) bits_zero).trans ((zero_add _).trans ?_)
  rw [Fin.sum_univ_one]
  rfl

theorem r_v100 : val_main_v100 (F := Ideal) (up3 a.x) (up3 a.o) (up3 a.proj) (up3 a.y) (up2 fun _ : Fin 1 => a.w₁) (up2 fun _ : Fin 1 => a.w₂) (up3 fun _ : Fin 1 => a.w) (up3 a.tgt) = up3 (k := 2) (n := 4096) (m := 1024) fun b s d => ((∑ k, gg (a.o b s) (a.z₁ b s) k * (a.dm₁ b s k * a.w₁ k)) * (-(1 / 2) * (rr (a.o b s) (a.z₁ b s) / ms (a.o b s) (a.z₁ b s)))) / 1024 := by
  funext i
  rw [val_main_v100_apply, r_v99]
  rfl

theorem r_v101 : val_main_v101 (F := Ideal) (up3 a.x) (up3 a.o) (up3 a.proj) (up3 a.y) (up2 fun _ : Fin 1 => a.w₁) (up2 fun _ : Fin 1 => a.w₂) (up3 fun _ : Fin 1 => a.w) (up3 a.tgt) = up3 (k := 2) (n := 4096) (m := 1024) fun b s d => gg (a.o b s) (a.z₁ b s) d * (((∑ k, gg (a.o b s) (a.z₁ b s) k * (a.dm₁ b s k * a.w₁ k)) * (-(1 / 2) * (rr (a.o b s) (a.z₁ b s) / ms (a.o b s) (a.z₁ b s)))) / 1024) := by
  funext i
  rw [val_main_v101_apply, r_v5, r_v100]
  exact (EReal.coe_mul _ _).symm

theorem r_v102 : val_main_v102 (F := Ideal) (up3 a.x) (up3 a.o) (up3 a.proj) (up3 a.y) (up2 fun _ : Fin 1 => a.w₁) (up2 fun _ : Fin 1 => a.w₂) (up3 fun _ : Fin 1 => a.w) (up3 a.tgt) = up3 (k := 2) (n := 4096) (m := 1024) fun b s d => a.dm₁ b s d * a.w₁ d * rr (a.o b s) (a.z₁ b s) + gg (a.o b s) (a.z₁ b s) d * (((∑ k, gg (a.o b s) (a.z₁ b s) k * (a.dm₁ b s k * a.w₁ k)) * (-(1 / 2) * (rr (a.o b s) (a.z₁ b s) / ms (a.o b s) (a.z₁ b s)))) / 1024) := by
  funext i
  rw [val_main_v102_apply, r_v95, r_v101]
  exact (EReal.coe_add _ _).symm

theorem r_v103 : val_main_v103 (F := Ideal) (up3 a.x) (up3 a.o) (up3 a.proj) (up3 a.y) (up2 fun _ : Fin 1 => a.w₁) (up2 fun _ : Fin 1 => a.w₂) (up3 fun _ : Fin 1 => a.w) (up3 a.tgt) = up3 (k := 2) (n := 4096) (m := 1024) fun b s d => gg (a.o b s) (a.z₁ b s) d * (((∑ k, gg (a.o b s) (a.z₁ b s) k * (a.dm₁ b s k * a.w₁ k)) * (-(1 / 2) * (rr (a.o b s) (a.z₁ b s) / ms (a.o b s) (a.z₁ b s)))) / 1024) := by
  funext i
  rw [val_main_v103_apply, r_v100, r_v5]
  exact (EReal.coe_mul _ _).symm.trans (congrArg _ (mul_comm _ _))

theorem r_v104 : val_main_v104 (F := Ideal) (up3 a.x) (up3 a.o) (up3 a.proj) (up3 a.y) (up2 fun _ : Fin 1 => a.w₁) (up2 fun _ : Fin 1 => a.w₂) (up3 fun _ : Fin 1 => a.w) (up3 a.tgt) = up3 (k := 2) (n := 4096) (m := 1024) fun b s d => dg (a.o b s) (a.z₁ b s) a.w₁ (a.dm₁ b s) d := by
  funext i
  rw [val_main_v104_apply, r_v102, r_v103]
  refine (EReal.coe_add _ _).symm.trans (congrArg _ ((add_assoc _ _ _).trans ?_))
  exact dg_eq _ _ _ _ _

theorem r_v105 : val_main_v105 (F := Ideal) (up3 a.x) (up3 a.o) (up3 a.proj) (up3 a.y) (up2 fun _ : Fin 1 => a.w₁) (up2 fun _ : Fin 1 => a.w₂) (up3 fun _ : Fin 1 => a.w) (up3 a.tgt) = up3 (k := 2) (n := 4096) (m := 1024) fun b s d => a.o b s d * dg (a.o b s) (a.z₁ b s) a.w₁ (a.dm₁ b s) d := by
  funext i
  rw [val_main_v105_apply, r_v104]
  exact (EReal.coe_mul _ _).symm

theorem r_v106 : val_main_v106 (F := Ideal) (up3 a.x) (up3 a.o) (up3 a.proj) (up3 a.y) (up2 fun _ : Fin 1 => a.w₁) (up2 fun _ : Fin 1 => a.w₂) (up3 fun _ : Fin 1 => a.w) (up3 a.tgt) = up3 a.do₁ := by
  funext i
  rw [val_main_v106_apply, r_v104, r_v4_0]
  exact (EReal.coe_mul _ _).symm

theorem r_call3_v0 : val_main_call3_v0 (F := Ideal) (up3 a.x) (up3 a.o) (up3 a.proj) (up3 a.y) (up2 fun _ : Fin 1 => a.w₁) (up2 fun _ : Fin 1 => a.w₂) (up3 fun _ : Fin 1 => a.w) (up3 a.tgt) = up3 (k := 2) (n := 4096) (m := 1024) fun b s d => a.z₁ b s d * (a.o b s d * dg (a.o b s) (a.z₁ b s) a.w₁ (a.dm₁ b s) d) := by
  funext i
  rw [val_main_call3_v0_apply, r_v0, r_v105]
  exact (EReal.coe_mul _ _).symm

theorem r_call3_v1 : val_main_call3_v1 (F := Ideal) (up3 a.x) (up3 a.o) (up3 a.proj) (up3 a.y) (up2 fun _ : Fin 1 => a.w₁) (up2 fun _ : Fin 1 => a.w₂) (up3 fun _ : Fin 1 => a.w) (up3 a.tgt) = up3 (k := 2) (n := 4096) (m := 1024) fun b s d => a.o b s d * dg (a.o b s) (a.z₁ b s) a.w₁ (a.dm₁ b s) d * sg (a.z₁ b s d) := by
  funext i
  rw [val_main_call3_v1_apply, r_v105, r_v4_2]
  exact (EReal.coe_mul _ _).symm

theorem r_call3_v2 : val_main_call3_v2 (F := Ideal) (up3 a.x) (up3 a.o) (up3 a.proj) (up3 a.y) (up2 fun _ : Fin 1 => a.w₁) (up2 fun _ : Fin 1 => a.w₂) (up3 fun _ : Fin 1 => a.w) (up3 a.tgt) = up3 (k := 2) (n := 4096) (m := 1024) fun b s d => a.z₁ b s d * (a.o b s d * dg (a.o b s) (a.z₁ b s) a.w₁ (a.dm₁ b s) d) * (sg (a.z₁ b s d) * (1 - sg (a.z₁ b s d))) := by
  funext i
  rw [val_main_call3_v2_apply, r_call3_v0, r_v4_1]
  exact (EReal.coe_mul _ _).symm

theorem r_v107 : val_main_v107 (F := Ideal) (up3 a.x) (up3 a.o) (up3 a.proj) (up3 a.y) (up2 fun _ : Fin 1 => a.w₁) (up2 fun _ : Fin 1 => a.w₂) (up3 fun _ : Fin 1 => a.w) (up3 a.tgt) = up3 a.dz₁ := by
  funext i
  rw [val_main_v107_apply, r_call3_v1, r_call3_v2]
  refine (EReal.coe_add _ _).symm.trans (congrArg _ ?_)
  show _ = dg (a.o (i 0) (i 1)) (a.z₁ (i 0) (i 1)) a.w₁ (a.dm₁ (i 0) (i 1)) (i 2) * a.o (i 0) (i 1) (i 2) * (sg (a.z₁ (i 0) (i 1) (i 2)) * (1 + a.z₁ (i 0) (i 1) (i 2) * (1 - sg (a.z₁ (i 0) (i 1) (i 2)))))
  ring

theorem r_v108 : val_main_v108 (F := Ideal) (up3 a.x) (up3 a.o) (up3 a.proj) (up3 a.y) (up2 fun _ : Fin 1 => a.w₁) (up2 fun _ : Fin 1 => a.w₂) (up3 fun _ : Fin 1 => a.w) (up3 a.tgt) = up2 (flat a.dout) := by
  unfold val_main_v108
  rw [r_v58]
  exact Cert.KernelIdeal.Gate.reshape_up3 _ _

theorem r_v109 : val_main_v109 (F := Ideal) (up3 a.x) (up3 a.o) (up3 a.proj) (up3 a.y) (up2 fun _ : Fin 1 => a.w₁) (up2 fun _ : Fin 1 => a.w₂) (up3 fun _ : Fin 1 => a.w) (up3 a.tgt) = up2 (flat a.dout) := by
  unfold val_main_v109
  rw [r_v58]
  exact Cert.KernelIdeal.Gate.reshape_up3 _ _

theorem r_v110 : val_main_v110 (F := Ideal) (up3 a.x) (up3 a.o) (up3 a.proj) (up3 a.y) (up2 fun _ : Fin 1 => a.w₁) (up2 fun _ : Fin 1 => a.w₂) (up3 fun _ : Fin 1 => a.w) (up3 a.tgt) = up2 (flat a.dout) := by
  unfold val_main_v110
  rw [r_v109]
  rfl

theorem r_v111 : val_main_v111 (F := Ideal) (up3 a.o) (up3 a.proj) (up3 a.y) (up2 fun _ : Fin 1 => a.w₁) (up2 fun _ : Fin 1 => a.w₂) = up2 (flat fun b s => beside (a.y₁ b s) (a.y₂ b s)) := by
  unfold val_main_v111
  rw [r_v40]
  exact Cert.KernelIdeal.Gate.reshape_up3 _ _

theorem r_v113 : val_main_v113 (F := Ideal) (up3 a.o) (up3 a.proj) (up3 a.y) (up2 fun _ : Fin 1 => a.w₁) (up2 fun _ : Fin 1 => a.w₂) = up2 (n := 2048) (m := 8192) fun k r => beside (flat a.y₁ r) (flat a.y₂ r) k := by
  funext i
  rw [val_main_v113_apply, val_main_v112_apply, r_v111]
  rfl

theorem r_v114 : val_main_v114 (F := Ideal) (up3 a.x) (up3 a.o) (up3 a.proj) (up3 a.y) (up2 fun _ : Fin 1 => a.w₁) (up2 fun _ : Fin 1 => a.w₂) (up3 fun _ : Fin 1 => a.w) (up3 a.tgt) = up2 (flat a.do₁) := by
  unfold val_main_v114
  rw [r_v106]
  exact Cert.KernelIdeal.Gate.reshape_up3 _ _

theorem r_v115 : val_main_v115 (F := Ideal) (up3 a.x) (up3 a.o) (up3 a.proj) (up3 a.y) (up2 fun _ : Fin 1 => a.w₁) (up2 fun _ : Fin 1 => a.w₂) (up3 fun _ : Fin 1 => a.w) (up3 a.tgt) = up2 (flat a.do₂) := by
  unfold val_main_v115
  rw [r_v83]
  exact Cert.KernelIdeal.Gate.reshape_up3 _ _

theorem r_v116 : val_main_v116 (F := Ideal) (up3 a.x) (up3 a.o) (up3 a.proj) (up3 a.y) (up2 fun _ : Fin 1 => a.w₁) (up2 fun _ : Fin 1 => a.w₂) (up3 fun _ : Fin 1 => a.w) (up3 a.tgt) = up2 (flat a.dz₁) := by
  unfold val_main_v116
  rw [r_v107]
  exact Cert.KernelIdeal.Gate.reshape_up3 _ _

theorem r_v117 : val_main_v117 (F := Ideal) (up3 a.x) (up3 a.o) (up3 a.proj) (up3 a.y) (up2 fun _ : Fin 1 => a.w₁) (up2 fun _ : Fin 1 => a.w₂) (up3 fun _ : Fin 1 => a.w) (up3 a.tgt) = up2 (flat a.dz₂) := by
  unfold val_main_v117
  rw [r_v84]
  exact Cert.KernelIdeal.Gate.reshape_up3 _ _

theorem r_v119 : val_main_v119 (F := Ideal) (up3 a.x) (up3 a.o) (up3 a.proj) (up3 a.y) (up2 fun _ : Fin 1 => a.w₁) (up2 fun _ : Fin 1 => a.w₂) (up3 fun _ : Fin 1 => a.w) (up3 a.tgt) = up2 (n := 8192) (m := 2048) fun r => beside (flat a.dz₁ r) (flat a.dz₂ r) := by
  funext i
  rw [val_main_v119_apply]
  unfold val_main_v118
  rw [r_v116, r_v117]
  by_cases hk : (i 1).val < 1024
  · refine (concatenate_pair_apply_left (s₁ := S8192x1024) (s₂ := S8192x1024) 1 _ _ concatenates_S8192x1024_S8192x1024_S8192x2048_d1 i rfl (ix2 (i 0) ⟨(i 1).val, hk⟩) (by intro b; fin_cases b <;> rfl)).trans ?_
    exact congrArg (fun r : ℝ => (r : EReal)) (beside_lo (flat a.dz₁ (i 0)) (flat a.dz₂ (i 0)) (i 1) hk).symm
  · have h2 : (i 1).val < 2048 := (i 1).isLt
    refine (concatenate_pair_apply_right (s₁ := S8192x1024) (s₂ := S8192x1024) 1 _ _ concatenates_S8192x1024_S8192x1024_S8192x2048_d1 i rfl rfl (ix2 (i 0) ⟨(i 1).val - 1024, by omega⟩) (by intro b hb; fin_cases b <;> first | rfl | exact absurd rfl hb) (show (i 1).val - 1024 + 1024 = (i 1).val by omega)).trans ?_
    exact congrArg (fun r : ℝ => (r : EReal)) (beside_hi (flat a.dz₁ (i 0)) (flat a.dz₂ (i 0)) (i 1) hk).symm

theorem r_v124 : val_main_v124 (F := Ideal) (up3 a.x) (up3 a.o) (up3 a.proj) (up3 a.y) (up2 fun _ : Fin 1 => a.w₁) (up2 fun _ : Fin 1 => a.w₂) (up3 fun _ : Fin 1 => a.w) (up3 a.tgt) = fun _ => ((1 / 2 * ∑ b, ∑ s, a.sq b s / 1024 : ℝ) : EReal) := by
  funext i
  rw [val_main_v124_apply, r_v52]

theorem r_v120 : val_main_v120 (F := Ideal) (up3 a.x) (up3 a.o) (up3 a.proj) (up3 a.y) (up2 fun _ : Fin 1 => a.w₁) (up2 fun _ : Fin 1 => a.w₂) (up3 fun _ : Fin 1 => a.w) (up3 a.tgt) = up2 (n := 1) (m := 1024) fun _ d => ∑ b, ∑ s, a.dw₁ b s d := by
  funext i
  rw [val_main_v120_apply, r_v90]
  rfl

theorem r_v121 : val_main_v121 (F := Ideal) (up3 a.x) (up3 a.o) (up3 a.proj) (up3 a.y) (up2 fun _ : Fin 1 => a.w₁) (up2 fun _ : Fin 1 => a.w₂) (up3 fun _ : Fin 1 => a.w) (up3 a.tgt) = up2 (n := 1) (m := 1024) fun _ d => ∑ b, ∑ s, a.dw₂ b s d := by
  funext i
  rw [val_main_v121_apply, r_v67]
  rfl

theorem r_v122 : val_main_v122 (F := Ideal) = fun _ => ((0 : ℝ) : EReal) := by
  funext i
  rw [val_main_v122_apply, val_main_cst_25_apply]
  exact bits_zero

theorem r_v123 : val_main_v123 (F := Ideal) (up3 a.x) (up3 a.o) (up3 a.proj) (up3 a.y) (up2 fun _ : Fin 1 => a.w₁) (up2 fun _ : Fin 1 => a.w₂) (up3 fun _ : Fin 1 => a.w) (up3 a.tgt) = up2 (n := 8) (m := 1024) (rows8 (fun d => ∑ b, ∑ s, a.dw₁ b s d) (fun d => ∑ b, ∑ s, a.dw₂ b s d)) := by
  unfold val_main_v123
  rw [r_v120, r_v121, r_v122]
  funext i
  have hi : (i 0).val < 8 := (i 0).isLt
  unfold up2 rows8
  split_ifs with h0 h1
  · have e0 : (i 0).val = 0 := congrArg Fin.val h0
    refine (concatenate_apply_piece 0 _ _ i 0 (by simp) S1x1024 _ rfl rfl 0 rfl (ix2 ⟨0, by decide⟩ (i 1)) (by intro b hb; fin_cases b <;> first | rfl | exact absurd rfl hb) (by rw [e0]; rfl)).trans rfl
  · have e0 : (i 0).val = 1 := congrArg Fin.val h1
    refine (concatenate_apply_piece 0 _ _ i 1 (by simp) S1x1024 _ rfl rfl 1 rfl (ix2 ⟨0, by decide⟩ (i 1)) (by intro b hb; fin_cases b <;> first | rfl | exact absurd rfl hb) (by rw [e0]; rfl)).trans rfl
  · have g0 : (i 0).val ≠ 0 := fun e => h0 (Fin.ext e)
    have g1 : (i 0).val ≠ 1 := fun e => h1 (Fin.ext e)
    refine (concatenate_apply_piece 0 _ _ i 2 (by simp) S6x1024 _ rfl rfl 2 rfl (ix2 ⟨(i 0).val - 2, by omega⟩ (i 1)) (by intro b hb; fin_cases b <;> first | rfl | exact absurd rfl hb) (show 2 + ((i 0).val - 2) = (i 0).val by omega)).trans rfl

end Cert.ReferenceIdeal.Gate
-- ==== Proof.GateClaim.lean ====
/- The gate call's value claim: the kernel's arrays and the reference's are the same lifts. -/
module

public import proofs.«01_k».proof.Proof.GatePre
public import proofs.«01_k».proof.Proof.GateArr
public import proofs.«01_k».proof.Proof.GateRef
public import proofs.«01_k».proof.Proof.Gen.KernelIdeal.Value

@[expose] public section

noncomputable section

namespace Cert.Gate

open Idealize.ShloMosaic Idealize.SL.Sem Cert.Lift

open Cert.ReferenceIdeal.Value Cert.ReferenceIdeal.Read in
theorem algebraic : Cert.algebraic_KernelIdeal_ReferenceIdeal_pre_finite := by
  intro m g m' g' hpre hargs
  choose a ha using fun c => Cert.KernelIdeal.Gate.exists_args m c (hpre c)
  refine ⟨fun c => up2 (flat (a c).dout), fun c => up2 (flat (a c).dout),
    fun c => up2 (n := 2048) (m := 8192) fun k r => beside (flat (a c).y₁ r) (flat (a c).y₂ r) k,
    fun c => up2 (flat (a c).do₁), fun c => up2 (flat (a c).do₂),
    fun c => up2 (n := 8192) (m := 2048) fun r => beside (flat (a c).dz₁ r) (flat (a c).dz₂ r),
    fun c => up2 (n := 8) (m := 1024) (rows8 (fun d => ∑ b, ∑ s, (a c).dw₁ b s d) (fun d => ∑ b, ∑ s, (a c).dw₂ b s d)),
    fun c _ => ((1 / 2 * ∑ b, ∑ s, (a c).sq b s / 1024 : ℝ) : EReal), ?_, ?_⟩
  · refine (θ_run _ _ _).mono (fun r h c => ?_) (Cert.KernelIdeal.Value.run_blocks m g)
    obtain ⟨h0, h1, h2, h3, h4, h5, h6, h7, hr⟩ := h c
    exact ⟨h0.trans (Cert.KernelIdeal.Gate.arr10 (ha c)), h1.trans (Cert.KernelIdeal.Gate.arr11 (ha c)),
      h2.trans (Cert.KernelIdeal.Gate.arr12 (ha c)), h3.trans (Cert.KernelIdeal.Gate.arr13 (ha c)),
      h4.trans (Cert.KernelIdeal.Gate.arr14 (ha c)), h5.trans (Cert.KernelIdeal.Gate.arr15 (ha c)),
      h6.trans (Cert.KernelIdeal.Gate.arr16 (ha c)), h7.trans (Cert.KernelIdeal.Gate.arr17 (ha c)), hr⟩
  · refine (θ_run _ _ _).mono (fun r h c => ?_) (Cert.ReferenceIdeal.Value.run m' g')
    obtain ⟨h0, h1, h2, h3, h4, h5, h6, h7, hr⟩ := h c
    obtain ⟨e0, e1, e2, e3, e4, e5, e6, e7⟩ := hargs c
    have e0 := e0.trans (ha c).x
    have e1 := e1.trans (ha c).o
    have e2 := e2.trans (ha c).proj
    have e3 := e3.trans (ha c).y
    have e4 := e4.trans (ha c).w₁
    have e5 := e5.trans (ha c).w₂
    have e6 := e6.trans (ha c).w
    have e7 := e7.trans (ha c).tgt
    have s0 := val_main_v108_eq (F := Ideal) (StableHlo.launchContents m' c)
    have s1 := val_main_v110_eq (F := Ideal) (StableHlo.launchContents m' c)
    have s2 := val_main_v113_eq (F := Ideal) (StableHlo.launchContents m' c)
    have s3 := val_main_v114_eq (F := Ideal) (StableHlo.launchContents m' c)
    have s4 := val_main_v115_eq (F := Ideal) (StableHlo.launchContents m' c)
    have s5 := val_main_v119_eq (F := Ideal) (StableHlo.launchContents m' c)
    have s6 := val_main_v123_eq (F := Ideal) (StableHlo.launchContents m' c)
    have s7 := val_main_v124_eq (F := Ideal) (StableHlo.launchContents m' c)
    simp only [StableHlo.launchContents_devRef, e0, e1, e2, e3, e4, e5, e6, e7] at s0 s1 s2 s3 s4 s5 s6 s7
    exact ⟨h0.trans (s0.trans (Cert.ReferenceIdeal.Gate.r_v108 (a c))), h1.trans (s1.trans (Cert.ReferenceIdeal.Gate.r_v110 (a c))),
      h2.trans (s2.trans (Cert.ReferenceIdeal.Gate.r_v113 (a c))), h3.trans (s3.trans (Cert.ReferenceIdeal.Gate.r_v114 (a c))),
      h4.trans (s4.trans (Cert.ReferenceIdeal.Gate.r_v115 (a c))), h5.trans (s5.trans (Cert.ReferenceIdeal.Gate.r_v119 (a c))),
      h6.trans (s6.trans (Cert.ReferenceIdeal.Gate.r_v123 (a c))), h7.trans (s7.trans (Cert.ReferenceIdeal.Gate.r_v124 (a c))), hr⟩

end Cert.Gate

end
-- ==== Proof.NormClaim.lean ====
/- The pre-attention norm's value claim: the kernel's normalised input and its transpose are the reference's. -/
module

public import proofs.«01_k».proof.Defs
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Lift
public import Idealize.ShloMosaic.Lib.Pipeline.ValueKit
public import Idealize.ShloMosaic.Lib.KernelVsHost

@[expose] public section

set_option maxRecDepth 16384

noncomputable section

namespace Cert.Norm

open Idealize.ShloMosaic

/-- The row of the flattened input: its batch and position. -/
def at3 (r : Fin 8192) (d : Fin 1024) : (⟨3, ![2, 4096, 1024]⟩ : Shape).Idx := ix3 ⟨r.val / 4096, by omega⟩ ⟨r.val % 4096, by omega⟩ d

/-- The normalised input at a row of the flattened input. -/
def normed (x : (⟨3, ![2, 4096, 1024]⟩ : Shape).Idx → EReal) (w : (⟨2, ![1, 1024]⟩ : Shape).Idx → EReal) (r : Fin 8192) (d : Fin 1024) : EReal :=
  x (at3 r d) * Ideal.rsqrt (Ideal.div (∑ k : Fin 1024, x (at3 r k) * x (at3 r k)) (Ideal.ofBits .f32 0x44800000#32) + Ideal.ofBits .f32 0x358637BD#32)
    * w (ix2 0 d)

end Cert.Norm

namespace Cert.Reference5Ideal.Norm

open Cert.Reference5Ideal Cert.Reference5Ideal.Gen Cert.Reference5Ideal.Read Idealize.ShloMosaic Cert.Norm

theorem r_v14 (x : (⟨S2x4096x1024, .f32⟩ : BufTy).Contents (Elt Ideal)) (w : (⟨S1x1024, .f32⟩ : BufTy).Contents (Elt Ideal)) (r : Fin 8192) (d : Fin 1024) :
    val_main_v14 (F := Ideal) x w (ix2 r d) = normed x w r d := by
  have hr := r.isLt
  have e : idx_main_v14 (ix2 r d) = at3 r d := by
    funext a; refine Fin.ext ?_
    match a with
    | ⟨0, _⟩ => show (r.val * 1024 + d.val) / 4194304 = r.val / 4096; have := d.isLt; omega
    | ⟨1, _⟩ => show (r.val * 1024 + d.val) / 1024 % 4096 = r.val % 4096; have := d.isLt; omega
    | ⟨2, _⟩ => show (r.val * 1024 + d.val) % 1024 = d.val; have := d.isLt; omega
  have e2 (k : Fin 1024) : idx_main_v2 (idx_main_v3 (idx_main_v9 (at3 r d))) k = at3 r k := by
    funext a; match a with | ⟨0, _⟩ => rfl | ⟨1, _⟩ => rfl | ⟨2, _⟩ => rfl
  have e0 : idx_main_v0 (idx_main_v11 (idx_main_v12 (at3 r d))) = ix2 0 d := by
    funext a; refine Fin.ext ?_
    match a with
    | ⟨0, _⟩ => rfl
    | ⟨1, _⟩ => exact Nat.mod_eq_of_lt d.isLt
  rw [val_main_v14_apply, e, val_main_v13_apply, val_main_v10_apply, val_main_v9_apply, val_main_v8_apply, val_main_v7_apply,
    val_main_v5_apply, val_main_v3_apply, val_main_v2_apply, val_main_v12_apply, val_main_v11_apply, val_main_v0_apply, e0]
  simp only [val_main_v1_apply, e2]
  have z : val_main_cst (F := Ideal) (Shape.Idx.first h_S_) = ((0 : ℝ) : EReal) := Cert.Lift.bits_zero
  rw [z, EReal.coe_zero, zero_add]
  rfl

theorem r_v15 (x : (⟨S2x4096x1024, .f32⟩ : BufTy).Contents (Elt Ideal)) (w : (⟨S1x1024, .f32⟩ : BufTy).Contents (Elt Ideal)) :
    val_main_v15 (F := Ideal) x w = fun i => normed x w (i 0) (i 1) := by
  funext i; idx_vars i
  exact r_v14 x w i0 i1

theorem r_v17 (x : (⟨S2x4096x1024, .f32⟩ : BufTy).Contents (Elt Ideal)) (w : (⟨S1x1024, .f32⟩ : BufTy).Contents (Elt Ideal)) :
    val_main_v17 (F := Ideal) x w = fun i => normed x w (i 1) (i 0) := by
  funext i; idx_vars i
  rw [val_main_v17_apply, val_main_v16_apply]
  refine Eq.trans (congrArg (val_main_v14 (F := Ideal) x w) ?_) (r_v14 x w i1 i0)
  funext a; match a with | ⟨0, _⟩ => rfl | ⟨1, _⟩ => rfl

end Cert.Reference5Ideal.Norm

namespace Cert.Kernel5Ideal.Norm

open Cert.Kernel5Ideal Cert.Kernel5Ideal.Gen Idealize.ShloMosaic Idealize.ShloMosaic.TcCoe Cert.Norm

variable (m : (ℓ : Loc nD τ sig) → Buf (Elt Ideal) ℓ) (c : Dev nD)

theorem e0 : ∀ t : Fin cfg0.N, win0_0.index t = ![t.val, 0] := (by decide +kernel : ∀ t : Fin grid0.N, win0_0.index t = ![t.val, 0])
theorem e1 : ∀ t : Fin cfg0.N, win0_1.index t = ![0, 0] := (by decide +kernel : ∀ t : Fin grid0.N, win0_1.index t = ![0, 0])
theorem e2 : ∀ t : Fin cfg0.N, win0_2.index t = ![t.val, 0] := (by decide +kernel : ∀ t : Fin grid0.N, win0_2.index t = ![t.val, 0])
theorem e3 : ∀ t : Fin cfg0.N, win0_3.index t = ![0, t.val] := (by decide +kernel : ∀ t : Fin grid0.N, win0_3.index t = ![0, t.val])

/-- The two arguments on a device. -/
abbrev argX : (⟨3, ![2, 4096, 1024]⟩ : Shape).Idx → EReal := m ((c : Thread nD τ).loc main_arg0)
abbrev argW : (⟨2, ![1, 1024]⟩ : Shape).Idx → EReal := m ((c : Thread nD τ).loc main_arg1)

theorem V_v0 (r : Fin 8192) (d : Fin 1024) : V m c main_v0 (ix2 r d) = argX m c (at3 r d) := by
  unfold V
  simp only [hostOps0, List.flatten_cons, List.flatten_nil, List.append_nil, List.cons_append, List.nil_append]
  after_results
  refine (shapeCast_apply (argX m c) shapeCasts_S2x4096x1024_S8192x1024 (ix2 r d) (at3 r d) ?_)
  refine (Shape.rowMajor_val_three (d := ![2, 4096, 1024]) _).trans (Eq.trans ?_ (Shape.rowMajor_val_two (d := ![8192, 1024]) _).symm)
  show (r.val / 4096 * 4096 + r.val % 4096) * 1024 + d.val = r.val * 1024 + d.val
  rw [Nat.div_add_mod']

theorem iblk0 (t : Fin cfg0.N) (i : Fin 1024) (d : Fin 1024) :
    iblk m c 0 t (ix2 i d) = argX m c (at3 ⟨1024 * t.val + i.val, by have : t.val < 8 := t.isLt; omega⟩ d) := by
  blk_simp [iblk]
  have ht : t.val < 8 := t.isLt
  have e : (win0_0.blk t).view.emb (ix2 i d) = ix2 ⟨1024 * t.val + i.val, by omega⟩ d := by blk_ext [e0]
  rw [e]
  exact V_v0 m c _ _

theorem iblk1 (t : Fin cfg0.N) (d : Fin 1024) : iblk m c 1 t (ix2 0 d) = argW m c (ix2 0 d) := by
  blk_simp [iblk]
  have e : (win0_1.blk t).view.emb (ix2 0 d) = ix2 0 d := by blk_ext [e1]
  rw [e, V_main_arg1]

theorem pay1 (x : Vec Ideal S1024x1024 .f32) (w : Vec Ideal S1x1024 .f32) (i d : Fin 1024) :
    k0_pay1 x w (ix2 i d) = x (ix2 i d) * Ideal.rsqrt (Ideal.div (∑ k : Fin 1024, x (ix2 i k) * x (ix2 i k)) (Ideal.ofBits .f32 0x44800000#32) + Ideal.ofBits .f32 0x358637BD#32)
      * w (ix2 0 d) := by
  pointwise [k0_pay1]

theorem block (t : Fin cfg0.N) (i d : Fin 1024) :
    k0_pay1 (iblk m c 0 t) (iblk m c 1 t) (ix2 i d) = normed (argX m c) (argW m c) ⟨1024 * t.val + i.val, by have : t.val < 8 := t.isLt; omega⟩ d := by
  rw [pay1, iblk1]
  unfold normed
  simp only [iblk0]

theorem arr2 : (dats m 0 c).arrAt 2 cfg0.N = fun i => normed (argX m c) (argW m c) (i 0) (i 1) :=
  (dats m 0 c).arrAt_eq_of_covers 2 (fun i => normed (argX m c) (argW m c) (i 0) (i 1)) (by decide +kernel) fun t hf y => by
    blk_simp
    rw [after0_2]
    idx_vars y
    have e : (win0_2.blk t).view.emb (ix2 y0 y1) = ix2 ⟨1024 * t.val + y0.val, by have : t.val < 8 := t.isLt; omega⟩ y1 := by blk_ext [e2]
    rw [e]
    refine Eq.trans ?_ (block m c t y0 y1)
    unfold out0_2
    frame_out
    rfl

theorem arr3 : (dats m 0 c).arrAt 3 cfg0.N = fun i => normed (argX m c) (argW m c) (i 1) (i 0) :=
  (dats m 0 c).arrAt_eq_of_covers 3 (fun i => normed (argX m c) (argW m c) (i 1) (i 0)) (by decide +kernel) fun t hf y => by
    blk_simp
    rw [after0_3]
    idx_vars y
    have e : (win0_3.blk t).view.emb (ix2 y0 y1) = ix2 y0 ⟨1024 * t.val + y1.val, by have : t.val < 8 := t.isLt; omega⟩ := by blk_ext [e3]
    rw [e]
    refine Eq.trans ?_ (block m c t y1 y0)
    unfold out0_3
    frame_out
    pointwise [k0_pay3]

end Cert.Kernel5Ideal.Norm

namespace Cert.Norm

open Idealize.ShloMosaic Idealize.ShloMosaic.TcCoe Idealize.SL.Sem Cert.Reference5Ideal.Value Cert.Reference5Ideal.Read

theorem algebraic : Cert.algebraic_Kernel5Ideal_Reference5Ideal := by
  intro m g m' g' _ hargs
  refine ⟨fun c i => normed (Cert.Kernel5Ideal.Norm.argX m c) (Cert.Kernel5Ideal.Norm.argW m c) (i 0) (i 1),
    fun c i => normed (Cert.Kernel5Ideal.Norm.argX m c) (Cert.Kernel5Ideal.Norm.argW m c) (i 1) (i 0), ?_, ?_⟩
  · refine (θ_run _ _ _).mono (fun r h c => ?_) (Cert.Kernel5Ideal.Value.run_blocks m g)
    obtain ⟨h0, h1, hr⟩ := h c
    exact ⟨h0.trans (Cert.Kernel5Ideal.Norm.arr2 m c), h1.trans (Cert.Kernel5Ideal.Norm.arr3 m c), hr⟩
  · refine (θ_run _ _ _).mono (fun r h c => ?_) (Cert.Reference5Ideal.Value.run m' g')
    obtain ⟨h0, h1, hr⟩ := h c
    obtain ⟨e0, e1⟩ := hargs c
    rw [e0, e1] at h0 h1
    exact ⟨h0.trans ((val_main_v15_eq _ _).trans (Cert.Reference5Ideal.Norm.r_v15 _ _)),
      h1.trans ((val_main_v17_eq _ _).trans (Cert.Reference5Ideal.Norm.r_v17 _ _)), hr⟩

end Cert.Norm

end
-- ==== Proof.DhnRun.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Dhn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A whole buffer held at the contents `f`. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f
abbrev xM : Memref sig .tc .hbm S8192x1024 .f32 := Memref.whole main_v12
abbrev dM : Memref sig .tc .hbm S8192x1024 .f32 := Memref.whole main_v13
abbrev accM : Memref sig .tc .vmem S1024x1024 .f32 := Memref.whole cc0_scratch0
abbrev xsM : Memref sig .tc .vmem S1024x1024 .f32 := Memref.whole cc0_scratch1
abbrev dsM : Memref sig .tc .vmem S1024x1024 .f32 := Memref.whole cc0_scratch2

/-- Which of the four column steps a point is at. -/
def step (i : grid0.Coords) (k : BitVec 32) : BitVec 1 :=
  Scalar.cmpi .ne (Scalar.extui (Scalar.cmpi .eq (BitVec.ofNat 32 (i 1).val) k) : BitVec 32) 0#32

/-- The rows of one grid row, out of an array left in HBM. -/
abbrev rowsOf (M : Memref sig .tc .hbm S8192x1024 .f32) (o : Fin 2 → ℕ) (ho : ∀ a, o a + S1024x1024.size a ≤ S8192x1024.size a) : Memref sig .tc .hbm S1024x1024 .f32 :=
  M.slice (Rect.unit (s := S8192x1024) o S1024x1024.size ho) (fun _ => rfl)

/-- The running sum of the products, held at `A`. -/
abbrev accP (c : Dev nD) (A : Vec F S1024x1024 .f32) : sProp 𝕄 :=
  iprop(∃ f : HbBuf (F := F) c accM, ⌜accM.view.read (Elt F) f = A⌝ ∗ hbPt c accM f)

/-- The transfer of a grid row's rows of `M` into the buffer `T`, in flight on the semaphore `n`. -/
abbrev flyP (c : Dev nD) (n : DmaSem sig) (M : Memref sig .tc .hbm S8192x1024 .f32) (T : Memref sig .tc .vmem S1024x1024 .f32)
    (o : Fin 2 → ℕ) (ho : ∀ a, o a + S1024x1024.size a ≤ S8192x1024.size a) (X : HbBuf (F := F) c M) : sProp 𝕄 :=
  iprop(∃ e : HbBuf (F := F) c T, Transfers.Flight (countersEmb (U := Pipeline.UD sig nD τ)) (c : Thread nD τ) (SemLoc.dma n) () 131072
    iprop(hbPt c T (View.write (Elt F) T.view e (ReadAs.same.apply ((rowsOf M o ho).view.read (Elt F) X)) Finset.univ)
      ∗ (M.view.loc (c : Thread nD τ) ↦[(rowsOf M o ho).view.set]{fullShare} X)))

/-- What of `M` its transfer does not borrow. -/
abbrev restP (c : Dev nD) (M : Memref sig .tc .hbm S8192x1024 .f32)
    (o : Fin 2 → ℕ) (ho : ∀ a, o a + S1024x1024.size a ≤ S8192x1024.size a) (X : HbBuf (F := F) c M) : sProp 𝕄 :=
  iprop(M.view.loc (c : Thread nD τ) ↦[Finset.univ \ (rowsOf M o ho).view.set]{fullShare} X)

/-- The body on its buffers. -/
abbrev bodyOf (i : grid0.Coords)
    (a2 a3 a4 a5 a6 a7 a8 : Memref sig .tc .vmem S1024x1024 .bf16) (g2 : a2.IsWhole) (g3 : a3.IsWhole) (g4 : a4.IsWhole) (g5 : a5.IsWhole) (g6 : a6.IsWhole) (g7 : a7.IsWhole) (g8 : a8.IsWhole)
    (a11 : Memref sig .tc .vmem S1x1024 .f32) (g11 : a11.IsWhole) (a12 : Memref sig .tc .vmem S1024x1024 .f32) (g12 : a12.IsWhole)
    (a13 : Memref sig .tc .vmem S8x1024 .f32) (g13 : a13.IsWhole) : Prog (TpuEff nD τ sig (Elt F) Λ₀ .tc) PUnit :=
  cc0_dhn i a2 g2 a3 g3 a4 g4 a5 g5 a6 g6 a7 g7 a8 g8 xM (Memref.isWhole_whole _) dM (Memref.isWhole_whole _)
    a11 g11 a12 g12 a13 g13 accM (Memref.isWhole_whole _) xsM (Memref.isWhole_whole _) dsM (Memref.isWhole_whole _) cc0_scratch3

set_option maxHeartbeats 1000000 in
/-- The first column step of the first grid row: both transfers are issued, the running sum starts anew, the weight gradient at zero. -/
theorem run0a (c : Dev nD) (i : grid0.Coords)
    (h0 : step i 0#32 = 1#1) (h1 : ¬ step i 1#32 = 1#1) (h2 : ¬ step i 2#32 = 1#1) (h3 : ¬ step i 3#32 = 1#1) (hA : k0_cond1 i = 1#1) (hC : ¬ k0_cond7 i = 1#1) (hI : k0_cond2 i = 1#1)
    (a2 a3 a4 a5 a6 a7 a8 : Memref sig .tc .vmem S1024x1024 .bf16) (g2 : a2.IsWhole) (g3 : a3.IsWhole) (g4 : a4.IsWhole) (g5 : a5.IsWhole) (g6 : a6.IsWhole) (g7 : a7.IsWhole) (g8 : a8.IsWhole)
    (a11 : Memref sig .tc .vmem S1x1024 .f32) (g11 : a11.IsWhole) (a12 : Memref sig .tc .vmem S1024x1024 .f32) (g12 : a12.IsWhole)
    (a13 : Memref sig .tc .vmem S8x1024 .f32) (g13 : a13.IsWhole)
    (x2 x3 x7 x8 : Vec F S1024x1024 .bf16) (X : HbBuf (F := F) c xM) (D : HbBuf (F := F) c dM)
    (W : Waits sig Unit) (K : PUnit → sProp 𝕄) :
    iprop(owns (c : Thread nD τ) a2 fullShare x2 ∗ owns (c : Thread nD τ) a3 fullShare x3 ∗ owns (c : Thread nD τ) a7 fullShare x7 ∗ owns (c : Thread nD τ) a8 fullShare x8
      ∗ (∃ d, owns (c : Thread nD τ) a13 fullShare d)
      ∗ (∃ f, hbPt c accM f) ∗ (∃ f, hbPt c xsM f) ∗ (∃ f, hbPt c dsM f) ∗ hbPt c xM X ∗ hbPt c dM D
      ∗ semVal ((c : Thread nD τ), SemLoc.dma 18) 0 ∗ semVal ((c : Thread nD τ), SemLoc.dma 19) 0
      ∗ owes (c : Thread nD τ) 0 W
      ∗ (iprop(owns (c : Thread nD τ) a2 fullShare x2 ∗ owns (c : Thread nD τ) a3 fullShare x3 ∗ owns (c : Thread nD τ) a7 fullShare x7 ∗ owns (c : Thread nD τ) a8 fullShare x8
          ∗ owns (c : Thread nD τ) a13 fullShare (k0_pay1 (F := F))
          ∗ accP c (k0_pay2 x2 x7 x3 x8)
          ∗ flyP c 18 xM xsM (k0_off1 i) (k0_off1_inb i hA) X ∗ restP c xM (k0_off1 i) (k0_off1_inb i hA) X
          ∗ flyP c 19 dM dsM (k0_off1 i) (k0_off1_inb i hA) D ∗ restP c dM (k0_off1 i) (k0_off1_inb i hA) D
          ∗ owes (c : Thread nD τ) 0 W) -∗ K ⟨⟩))
    ⊢ wp frame (wpE (defs₀ (F := F)) Variants.none c none) Set.univ
      (bodyOf (F := F) i a2 a3 a4 a5 a6 a7 a8 g2 g3 g4 g5 g6 g7 g8 a11 g11 a12 g12 a13 g13) K := by
  unfold bodyOf
  simp only [cc0_dhn_eq_skeleton]; unfold cc0_dhn_skel
  unfold owns
  iintro ⟨⟨%f2, %hf2, H2⟩, ⟨%f3, %hf3, H3⟩, ⟨%f7, %hf7, H7⟩, ⟨%f8, %hf8, H8⟩, ⟨%d13, %f13, -, H13⟩, ⟨%e14, H14⟩, ⟨%e15, H15⟩, ⟨%e16, H16⟩, HX, HD, HA, HB, HO, Hk⟩
  obtain rfl := g2.eq_unread hf2; obtain rfl := g3.eq_unread hf3; obtain rfl := g7.eq_unread hf7; obtain rfl := g8.eq_unread hf8
  sl_exec (disch := first | sl_exact h0 | sl_exact h1 | sl_exact h2 | sl_exact h3 | sl_exact hA | sl_exact hC | sl_exact hI)
  sl_step
  iapply Hk
  isplitl [H2]
  · iexists _; isplitr; · ipureintro; exact g2.read_unread _
    iexact H2
  isplitl [H3]
  · iexists _; isplitr; · ipureintro; exact g3.read_unread _
    iexact H3
  isplitl [H7]
  · iexists _; isplitr; · ipureintro; exact g7.read_unread _
    iexact H7
  isplitl [H8]
  · iexists _; isplitr; · ipureintro; exact g8.read_unread _
    iexact H8
  isplitl [H13]
  · iexists _; isplitr; swap; · iexact H13
    ipureintro; exact View.read_writes_full _ _ _ _ _
  isplitl [H14]
  · iexists _; isplitr; swap; · iexact H14
    ipureintro
    refine (View.read_writes_full accM.view _ _ _ _).trans ?_
    rw [View.readAt_full a2.view, hf2, View.readAt_full a3.view, hf3, View.readAt_full a7.view, hf7, View.readAt_full a8.view, hf8]
  isplitl [HA]; · iexists _; iexact HA
  isplitl [HX]; · iexact HX
  isplitl [HB]; · iexists _; iexact HB
  isplitl [HD]; · iexact HD
  iexact HO

set_option maxHeartbeats 1000000 in
/-- The first column step of a later grid row: both transfers are issued, the running sum starts anew. -/
theorem run0b (c : Dev nD) (i : grid0.Coords)
    (h0 : step i 0#32 = 1#1) (h1 : ¬ step i 1#32 = 1#1) (h2 : ¬ step i 2#32 = 1#1) (h3 : ¬ step i 3#32 = 1#1) (hA : k0_cond1 i = 1#1) (hC : ¬ k0_cond7 i = 1#1) (hI : ¬ k0_cond2 i = 1#1)
    (a2 a3 a4 a5 a6 a7 a8 : Memref sig .tc .vmem S1024x1024 .bf16) (g2 : a2.IsWhole) (g3 : a3.IsWhole) (g4 : a4.IsWhole) (g5 : a5.IsWhole) (g6 : a6.IsWhole) (g7 : a7.IsWhole) (g8 : a8.IsWhole)
    (a11 : Memref sig .tc .vmem S1x1024 .f32) (g11 : a11.IsWhole) (a12 : Memref sig .tc .vmem S1024x1024 .f32) (g12 : a12.IsWhole)
    (a13 : Memref sig .tc .vmem S8x1024 .f32) (g13 : a13.IsWhole)
    (x2 x3 x7 x8 : Vec F S1024x1024 .bf16) (X : HbBuf (F := F) c xM) (D : HbBuf (F := F) c dM)
    (W : Waits sig Unit) (K : PUnit → sProp 𝕄) :
    iprop(owns (c : Thread nD τ) a2 fullShare x2 ∗ owns (c : Thread nD τ) a3 fullShare x3 ∗ owns (c : Thread nD τ) a7 fullShare x7 ∗ owns (c : Thread nD τ) a8 fullShare x8
      ∗ (∃ f, hbPt c accM f) ∗ (∃ f, hbPt c xsM f) ∗ (∃ f, hbPt c dsM f) ∗ hbPt c xM X ∗ hbPt c dM D
      ∗ semVal ((c : Thread nD τ), SemLoc.dma 18) 0 ∗ semVal ((c : Thread nD τ), SemLoc.dma 19) 0
      ∗ owes (c : Thread nD τ) 0 W
      ∗ (iprop(owns (c : Thread nD τ) a2 fullShare x2 ∗ owns (c : Thread nD τ) a3 fullShare x3 ∗ owns (c : Thread nD τ) a7 fullShare x7 ∗ owns (c : Thread nD τ) a8 fullShare x8
          ∗ accP c (k0_pay2 x2 x7 x3 x8)
          ∗ flyP c 18 xM xsM (k0_off1 i) (k0_off1_inb i hA) X ∗ restP c xM (k0_off1 i) (k0_off1_inb i hA) X
          ∗ flyP c 19 dM dsM (k0_off1 i) (k0_off1_inb i hA) D ∗ restP c dM (k0_off1 i) (k0_off1_inb i hA) D
          ∗ owes (c : Thread nD τ) 0 W) -∗ K ⟨⟩))
    ⊢ wp frame (wpE (defs₀ (F := F)) Variants.none c none) Set.univ
      (bodyOf (F := F) i a2 a3 a4 a5 a6 a7 a8 g2 g3 g4 g5 g6 g7 g8 a11 g11 a12 g12 a13 g13) K := by
  unfold bodyOf
  simp only [cc0_dhn_eq_skeleton]; unfold cc0_dhn_skel
  unfold owns
  iintro ⟨⟨%f2, %hf2, H2⟩, ⟨%f3, %hf3, H3⟩, ⟨%f7, %hf7, H7⟩, ⟨%f8, %hf8, H8⟩, ⟨%e14, H14⟩, ⟨%e15, H15⟩, ⟨%e16, H16⟩, HX, HD, HA, HB, HO, Hk⟩
  obtain rfl := g2.eq_unread hf2; obtain rfl := g3.eq_unread hf3; obtain rfl := g7.eq_unread hf7; obtain rfl := g8.eq_unread hf8
  sl_exec (disch := first | sl_exact h0 | sl_exact h1 | sl_exact h2 | sl_exact h3 | sl_exact hA | sl_exact hC | sl_exact hI)
  sl_step
  iapply Hk
  isplitl [H2]
  · iexists _; isplitr; · ipureintro; exact g2.read_unread _
    iexact H2
  isplitl [H3]
  · iexists _; isplitr; · ipureintro; exact g3.read_unread _
    iexact H3
  isplitl [H7]
  · iexists _; isplitr; · ipureintro; exact g7.read_unread _
    iexact H7
  isplitl [H8]
  · iexists _; isplitr; · ipureintro; exact g8.read_unread _
    iexact H8
  isplitl [H14]
  · iexists _; isplitr; swap; · iexact H14
    ipureintro
    refine (View.read_writes_full accM.view _ _ _ _).trans ?_
    rw [View.readAt_full a2.view, hf2, View.readAt_full a3.view, hf3, View.readAt_full a7.view, hf7, View.readAt_full a8.view, hf8]
  isplitl [HA]; · iexists _; iexact HA
  isplitl [HX]; · iexact HX
  isplitl [HB]; · iexists _; iexact HB
  isplitl [HD]; · iexact HD
  iexact HO

set_option maxHeartbeats 1000000 in
/-- The second column step: the products of two more column blocks are added. -/
theorem run1 (c : Dev nD) (i : grid0.Coords)
    (h0 : ¬ step i 0#32 = 1#1) (h1 : step i 1#32 = 1#1) (h2 : ¬ step i 2#32 = 1#1) (h3 : ¬ step i 3#32 = 1#1) (hA : ¬ k0_cond1 i = 1#1) (hC : ¬ k0_cond7 i = 1#1) (hI : ¬ k0_cond2 i = 1#1)
    (a2 a3 a4 a5 a6 a7 a8 : Memref sig .tc .vmem S1024x1024 .bf16) (g2 : a2.IsWhole) (g3 : a3.IsWhole) (g4 : a4.IsWhole) (g5 : a5.IsWhole) (g6 : a6.IsWhole) (g7 : a7.IsWhole) (g8 : a8.IsWhole)
    (a11 : Memref sig .tc .vmem S1x1024 .f32) (g11 : a11.IsWhole) (a12 : Memref sig .tc .vmem S1024x1024 .f32) (g12 : a12.IsWhole)
    (a13 : Memref sig .tc .vmem S8x1024 .f32) (g13 : a13.IsWhole)
    (x4 x5 x7 x8 : Vec F S1024x1024 .bf16) (A : Vec F S1024x1024 .f32) (K : PUnit → sProp 𝕄) :
    iprop(owns (c : Thread nD τ) a4 fullShare x4 ∗ owns (c : Thread nD τ) a5 fullShare x5 ∗ owns (c : Thread nD τ) a7 fullShare x7 ∗ owns (c : Thread nD τ) a8 fullShare x8 ∗ accP c A
      ∗ (iprop(owns (c : Thread nD τ) a4 fullShare x4 ∗ owns (c : Thread nD τ) a5 fullShare x5 ∗ owns (c : Thread nD τ) a7 fullShare x7 ∗ owns (c : Thread nD τ) a8 fullShare x8 ∗ accP c (k0_pay3 x4 x7 x5 x8 A)) -∗ K ⟨⟩))
    ⊢ wp frame (wpE (defs₀ (F := F)) Variants.none c none) Set.univ
      (bodyOf (F := F) i a2 a3 a4 a5 a6 a7 a8 g2 g3 g4 g5 g6 g7 g8 a11 g11 a12 g12 a13 g13) K := by
  unfold bodyOf
  simp only [cc0_dhn_eq_skeleton]; unfold cc0_dhn_skel
  unfold owns
  iintro ⟨⟨%f4, %hf4, H4⟩, ⟨%f5, %hf5, H5⟩, ⟨%f7, %hf7, H7⟩, ⟨%f8, %hf8, H8⟩, ⟨%e14, %hA14, H14⟩, Hk⟩
  obtain rfl := g4.eq_unread hf4; obtain rfl := g5.eq_unread hf5; obtain rfl := g7.eq_unread hf7; obtain rfl := g8.eq_unread hf8
  sl_exec (disch := first | sl_exact h0 | sl_exact h1 | sl_exact h2 | sl_exact h3 | sl_exact hA | sl_exact hC | sl_exact hI)
  sl_step
  iapply Hk
  isplitl [H4]
  · iexists _; isplitr; · ipureintro; exact g4.read_unread _
    iexact H4
  isplitl [H5]
  · iexists _; isplitr; · ipureintro; exact g5.read_unread _
    iexact H5
  isplitl [H7]
  · iexists _; isplitr; · ipureintro; exact g7.read_unread _
    iexact H7
  isplitl [H8]
  · iexists _; isplitr; · ipureintro; exact g8.read_unread _
    iexact H8
  iexists _; isplitr; swap; · iexact H14
  ipureintro
  have hA' : accM.view.readAt (Elt F) (Rect.unit (s := S1024x1024) ![0, 0] S1024x1024.size inb_S1024x1024_S1024x1024_0_0).toLoadRect e14 = A := (View.readAt_full _ _ _).trans hA14
  refine (View.read_writes_full accM.view _ _ _ _).trans ?_
  rw [hA', View.readAt_full a4.view, hf4, View.readAt_full a5.view, hf5, View.readAt_full a7.view, hf7, View.readAt_full a8.view, hf8]

set_option maxHeartbeats 1000000 in
/-- The third column step: the products of two more column blocks are added. -/
theorem run2 (c : Dev nD) (i : grid0.Coords)
    (h0 : ¬ step i 0#32 = 1#1) (h1 : ¬ step i 1#32 = 1#1) (h2 : step i 2#32 = 1#1) (h3 : ¬ step i 3#32 = 1#1) (hA : ¬ k0_cond1 i = 1#1) (hC : ¬ k0_cond7 i = 1#1) (hI : ¬ k0_cond2 i = 1#1)
    (a2 a3 a4 a5 a6 a7 a8 : Memref sig .tc .vmem S1024x1024 .bf16) (g2 : a2.IsWhole) (g3 : a3.IsWhole) (g4 : a4.IsWhole) (g5 : a5.IsWhole) (g6 : a6.IsWhole) (g7 : a7.IsWhole) (g8 : a8.IsWhole)
    (a11 : Memref sig .tc .vmem S1x1024 .f32) (g11 : a11.IsWhole) (a12 : Memref sig .tc .vmem S1024x1024 .f32) (g12 : a12.IsWhole)
    (a13 : Memref sig .tc .vmem S8x1024 .f32) (g13 : a13.IsWhole)
    (x5 x6 x7 x8 : Vec F S1024x1024 .bf16) (A : Vec F S1024x1024 .f32) (K : PUnit → sProp 𝕄) :
    iprop(owns (c : Thread nD τ) a5 fullShare x5 ∗ owns (c : Thread nD τ) a6 fullShare x6 ∗ owns (c : Thread nD τ) a7 fullShare x7 ∗ owns (c : Thread nD τ) a8 fullShare x8 ∗ accP c A
      ∗ (iprop(owns (c : Thread nD τ) a5 fullShare x5 ∗ owns (c : Thread nD τ) a6 fullShare x6 ∗ owns (c : Thread nD τ) a7 fullShare x7 ∗ owns (c : Thread nD τ) a8 fullShare x8 ∗ accP c (k0_pay4 x5 x7 x6 x8 A)) -∗ K ⟨⟩))
    ⊢ wp frame (wpE (defs₀ (F := F)) Variants.none c none) Set.univ
      (bodyOf (F := F) i a2 a3 a4 a5 a6 a7 a8 g2 g3 g4 g5 g6 g7 g8 a11 g11 a12 g12 a13 g13) K := by
  unfold bodyOf
  simp only [cc0_dhn_eq_skeleton]; unfold cc0_dhn_skel
  unfold owns
  iintro ⟨⟨%f5, %hf5, H5⟩, ⟨%f6, %hf6, H6⟩, ⟨%f7, %hf7, H7⟩, ⟨%f8, %hf8, H8⟩, ⟨%e14, %hA14, H14⟩, Hk⟩
  obtain rfl := g5.eq_unread hf5; obtain rfl := g6.eq_unread hf6; obtain rfl := g7.eq_unread hf7; obtain rfl := g8.eq_unread hf8
  sl_exec (disch := first | sl_exact h0 | sl_exact h1 | sl_exact h2 | sl_exact h3 | sl_exact hA | sl_exact hC | sl_exact hI)
  sl_step
  iapply Hk
  isplitl [H5]
  · iexists _; isplitr; · ipureintro; exact g5.read_unread _
    iexact H5
  isplitl [H6]
  · iexists _; isplitr; · ipureintro; exact g6.read_unread _
    iexact H6
  isplitl [H7]
  · iexists _; isplitr; · ipureintro; exact g7.read_unread _
    iexact H7
  isplitl [H8]
  · iexists _; isplitr; · ipureintro; exact g8.read_unread _
    iexact H8
  iexists _; isplitr; swap; · iexact H14
  ipureintro
  have hA' : accM.view.readAt (Elt F) (Rect.unit (s := S1024x1024) ![0, 0] S1024x1024.size inb_S1024x1024_S1024x1024_0_0).toLoadRect e14 = A := (View.readAt_full _ _ _).trans hA14
  refine (View.read_writes_full accM.view _ _ _ _).trans ?_
  rw [hA', View.readAt_full a5.view, hf5, View.readAt_full a6.view, hf6, View.readAt_full a7.view, hf7, View.readAt_full a8.view, hf8]

set_option maxHeartbeats 1000000 in
/-- The last column step: both transfers are waited for, the rows of the result are written and the weight gradient's row is added to. -/
theorem run3 (c : Dev nD) (i : grid0.Coords)
    (h0 : ¬ step i 0#32 = 1#1) (h1 : ¬ step i 1#32 = 1#1) (h2 : ¬ step i 2#32 = 1#1) (h3 : step i 3#32 = 1#1) (hA : ¬ k0_cond1 i = 1#1) (hC : k0_cond7 i = 1#1) (hI : ¬ k0_cond2 i = 1#1)
    (a2 a3 a4 a5 a6 a7 a8 : Memref sig .tc .vmem S1024x1024 .bf16) (g2 : a2.IsWhole) (g3 : a3.IsWhole) (g4 : a4.IsWhole) (g5 : a5.IsWhole) (g6 : a6.IsWhole) (g7 : a7.IsWhole) (g8 : a8.IsWhole)
    (a11 : Memref sig .tc .vmem S1x1024 .f32) (g11 : a11.IsWhole) (a12 : Memref sig .tc .vmem S1024x1024 .f32) (g12 : a12.IsWhole)
    (a13 : Memref sig .tc .vmem S8x1024 .f32) (g13 : a13.IsWhole)
    (x6 x7 : Vec F S1024x1024 .bf16) (A : Vec F S1024x1024 .f32) (x11 : Vec F S1x1024 .f32) (x13 : Vec F S8x1024 .f32)
    (o : Fin 2 → ℕ) (ho : ∀ a, o a + S1024x1024.size a ≤ S8192x1024.size a) (X : HbBuf (F := F) c xM) (D : HbBuf (F := F) c dM)
    (W : Waits sig Unit) (K : PUnit → sProp 𝕄) :
    iprop(owns (c : Thread nD τ) a6 fullShare x6 ∗ owns (c : Thread nD τ) a7 fullShare x7 ∗ owns (c : Thread nD τ) a11 fullShare x11 ∗ (∃ d, owns (c : Thread nD τ) a12 fullShare d) ∗ owns (c : Thread nD τ) a13 fullShare x13 ∗ accP c A
      ∗ flyP c 18 xM xsM o ho X ∗ restP c xM o ho X ∗ flyP c 19 dM dsM o ho D ∗ restP c dM o ho D ∗ owes (c : Thread nD τ) 0 W
      ∗ (iprop(owns (c : Thread nD τ) a6 fullShare x6 ∗ owns (c : Thread nD τ) a7 fullShare x7 ∗ owns (c : Thread nD τ) a11 fullShare x11
          ∗ owns (c : Thread nD τ) a12 fullShare (k0_pay9 ((rowsOf xM o ho).view.read (Elt F) X) (k0_pay5 x6 x7 A) x11 ((rowsOf dM o ho).view.read (Elt F) D))
          ∗ owns (c : Thread nD τ) a13 fullShare (VecWindow.put x13 ![0, 0] S1x1024.size (k0_pay6 (k0_pay8 ((rowsOf xM o ho).view.read (Elt F) X)) (k0_pay5 x6 x7 A) (VecWindow.window x13 ![0, 0] S1x1024.size inb_S8x1024_S1x1024_0_0)))
          ∗ (∃ f, hbPt c accM f) ∗ (∃ f, hbPt c xsM f) ∗ (∃ f, hbPt c dsM f) ∗ hbPt c xM X ∗ hbPt c dM D
          ∗ semVal ((c : Thread nD τ), SemLoc.dma 18) 0 ∗ semVal ((c : Thread nD τ), SemLoc.dma 19) 0
          ∗ (∃ W', owes (c : Thread nD τ) 0 W')) -∗ K ⟨⟩))
    ⊢ wp frame (wpE (defs₀ (F := F)) Variants.none c none) Set.univ
      (bodyOf (F := F) i a2 a3 a4 a5 a6 a7 a8 g2 g3 g4 g5 g6 g7 g8 a11 g11 a12 g12 a13 g13) K := by
  unfold bodyOf
  simp only [cc0_dhn_eq_skeleton]; unfold cc0_dhn_skel
  simp only [k0_part1_eq_skeleton]; unfold k0_part1_skel
  unfold owns
  iintro ⟨⟨%f6, %hf6, H6⟩, ⟨%f7, %hf7, H7⟩, ⟨%f11, %hf11, H11⟩, ⟨%d12, %f12, -, H12⟩, ⟨%f13, %hf13, H13⟩, ⟨%e14, %hA14, H14⟩, ⟨%e15, HA⟩, HX, ⟨%e16, HB⟩, HD, HO, Hk⟩
  obtain rfl := g6.eq_unread hf6; obtain rfl := g7.eq_unread hf7; obtain rfl := g11.eq_unread hf11; obtain rfl := g13.eq_unread hf13
  sl_exec (disch := first | sl_exact h0 | sl_exact h1 | sl_exact h2 | sl_exact h3 | sl_exact hA | sl_exact hC | sl_exact hI)
  sl_step
  have hx : xsM.view.readAt (Elt F) (Rect.unit (s := S1024x1024) ![0, 0] S1024x1024.size inb_S1024x1024_S1024x1024_0_0).toLoadRect
      (View.write (Elt F) xsM.view e15 (ReadAs.same.apply ((rowsOf xM o ho).view.read (Elt F) X)) Finset.univ) = (rowsOf xM o ho).view.read (Elt F) X :=
    (View.readAt_full _ _ _).trans (View.read_write_univ _ _)
  have hd : dsM.view.readAt (Elt F) (Rect.unit (s := S1024x1024) ![0, 0] S1024x1024.size inb_S1024x1024_S1024x1024_0_0).toLoadRect
      (View.write (Elt F) dsM.view e16 (ReadAs.same.apply ((rowsOf dM o ho).view.read (Elt F) D)) Finset.univ) = (rowsOf dM o ho).view.read (Elt F) D :=
    (View.readAt_full _ _ _).trans (View.read_write_univ _ _)
  have hA' : accM.view.readAt (Elt F) (Rect.unit (s := S1024x1024) ![0, 0] S1024x1024.size inb_S1024x1024_S1024x1024_0_0).toLoadRect e14 = A := (View.readAt_full _ _ _).trans hA14
  have hv : run3.sl.v42 c a6 a7 g6 g7 x6 x7 e14 = k0_pay5 x6 x7 A := by
    refine (View.readCov_full accM.view _ _ _ _).trans ?_
    rw [hA', View.readAt_full a6.view, hf6, View.readAt_full a7.view, hf7]
  iapply Hk
  isplitl [H6]
  · iexists _; isplitr; · ipureintro; exact hf6
    iexact H6
  isplitl [H7]
  · iexists _; isplitr; · ipureintro; exact hf7
    iexact H7
  isplitl [H11]
  · iexists _; isplitr; · ipureintro; exact hf11
    iexact H11
  isplitl [H12]
  · iexists _; isplitr; swap; · iexact H12
    ipureintro
    refine (View.read_writes_full a12.view _ _ _ _).trans ?_
    rw [hx, hd, hv, View.readAt_full a11.view, hf11]
  isplitl [H13]
  · iexists _; isplitr; swap; · iexact H13
    ipureintro
    refine (View.read_writes_cons_put a13.view _ _ _ _ rfl).trans ?_
    rw [View.writes_nil, hf13, hx, hv, View.readAt_unit a13.view _ _ rfl, hf13]
  isplitl [H14]; · iexists _; iexact H14
  isplitl [HA_dst]; · iexists _; iexact HA_dst
  isplitl [HB_dst]; · iexists _; iexact HB_dst
  isplitl [HX]; · iexact HX
  isplitl [HD]; · iexact HD
  isplitl [HA]; · iexact HA
  isplitl [HB]; · iexact HB
  iexists _; iexact HO

end Cert.Dhn
-- ==== Proof.DhnFrame.lean ====
module

public import proofs.«01_k».proof.Proof.Gen.Kernel2Ideal.Launch
public import proofs.«01_k».proof.Proof.Gen.Kernel2Ideal.Skeleton
public import proofs.«01_k».proof.Proof.Gen.Kernel2Ideal.Points
public import proofs.«01_k».proof.Proof.Gen.Kernel2Ideal.Frame
public import proofs.«01_k».proof.Proof.DhnRun
public import Idealize.ShloMosaic.Lib.Pipeline.FrameBody
public import Idealize.ShloMosaic.Lib.Pipeline.TableIdle
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Dhn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the body computes, by grid row and column step -/

/-- The point of a number. -/
def pt (n : ℕ) : Fin cfg0.N := ⟨n % 32, lt_of_lt_of_eq (Nat.mod_lt _ (by decide)) N_0.symm⟩
theorem pt_val (t : Fin cfg0.N) : pt t.val = t := Fin.ext (Nat.mod_eq_of_lt (lt_of_lt_of_eq t.isLt N_0))
theorem pt_eq (t : Fin cfg0.N) (n : ℕ) (h : n = t.val) : pt n = t := by rw [h]; exact pt_val t

/-- Where grid row `b`'s rows begin. -/
abbrev rowOff (b : ℕ) : Fin 2 → ℕ := ![1024 * (b % 8), 0]
theorem rowOff_inb (b : ℕ) : ∀ a, rowOff b a + S1024x1024.size a ≤ S8192x1024.size a := by
  intro a
  have := Nat.mod_lt b (show 0 < 8 by decide)
  fin_cases a
  · show 1024 * (b % 8) + 1024 ≤ 8192; omega
  · show 0 + 1024 ≤ 1024; omega

/-- Grid row `b`'s rows of the activation and of the passed-on gradient. -/
def xRows (c : Dev nD) (b : ℕ) : Vec F S1024x1024 .f32 := (rowsOf xM (rowOff b) (rowOff_inb b)).view.read (Elt F) (V m c main_v12)
def dRows (c : Dev nD) (b : ℕ) : Vec F S1024x1024 .f32 := (rowsOf dM (rowOff b) (rowOff_inb b)).view.read (Elt F) (V m c main_v13)

/-- The running sum after a column step. -/
def acc0 (c : Dev nD) (b : ℕ) : Vec F S1024x1024 .f32 :=
  k0_pay2 (iblk m c 0 (pt (4 * b))) (iblk m c 5 (pt (4 * b))) (iblk m c 1 (pt (4 * b))) (iblk m c 6 (pt (4 * b)))
def acc1 (c : Dev nD) (b : ℕ) : Vec F S1024x1024 .f32 :=
  k0_pay3 (iblk m c 2 (pt (4 * b + 1))) (iblk m c 5 (pt (4 * b + 1))) (iblk m c 3 (pt (4 * b + 1))) (iblk m c 6 (pt (4 * b + 1))) (acc0 m c b)
def acc2 (c : Dev nD) (b : ℕ) : Vec F S1024x1024 .f32 :=
  k0_pay4 (iblk m c 3 (pt (4 * b + 2))) (iblk m c 5 (pt (4 * b + 2))) (iblk m c 4 (pt (4 * b + 2))) (iblk m c 6 (pt (4 * b + 2))) (acc1 m c b)
def acc3 (c : Dev nD) (b : ℕ) : Vec F S1024x1024 .f32 :=
  k0_pay5 (iblk m c 4 (pt (4 * b + 3))) (iblk m c 5 (pt (4 * b + 3))) (acc2 m c b)

/-- The rows of the result that grid row `b` writes. -/
def gxOut (c : Dev nD) (b : ℕ) : Vec F S1024x1024 .f32 :=
  k0_pay9 (xRows m c b) (acc3 m c b) (iblk m c 7 (pt (4 * b + 3))) (dRows m c b)

/-- The weight gradient's block before grid row `b`. -/
def dwIn (c : Dev nD) : ℕ → Vec F S8x1024 .f32
  | 0 => k0_pay1
  | b + 1 => VecWindow.put (dwIn c b) ![0, 0] S1x1024.size
      (k0_pay6 (k0_pay8 (xRows m c b)) (acc3 m c b) (VecWindow.window (dwIn c b) ![0, 0] S1x1024.size inb_S8x1024_S1x1024_0_0))

/-! ## The invariant between points -/

/-- The kernel's own buffers between grid rows. -/
def homeP (c : Dev nD) : sProp 𝕄 :=
  iprop((∃ f, hbPt (F := F) c accM f) ∗ (∃ f, hbPt (F := F) c xsM f) ∗ (∃ f, hbPt (F := F) c dsM f) ∗ hbPt c xM (V m c main_v12) ∗ hbPt c dM (V m c main_v13)
    ∗ semVal ((c : Thread nD τ), SemLoc.dma 18) 0 ∗ semVal ((c : Thread nD τ), SemLoc.dma 19) 0)
/-- The kernel's own buffers inside grid row `b`, the running sum at `A`. -/
def midP (c : Dev nD) (b : ℕ) (A : Vec F S1024x1024 .f32) : sProp 𝕄 :=
  iprop(accP c A
    ∗ flyP c 18 xM xsM (rowOff b) (rowOff_inb b) (V m c main_v12) ∗ restP c xM (rowOff b) (rowOff_inb b) (V m c main_v12)
    ∗ flyP c 19 dM dsM (rowOff b) (rowOff_inb b) (V m c main_v13) ∗ restP c dM (rowOff b) (rowOff_inb b) (V m c main_v13))
def phi (c : Dev nD) (p : ℕ) : sProp 𝕄 :=
  if p % 4 = 0 then homeP m c else if p % 4 = 1 then midP m c (p / 4) (acc0 m c (p / 4))
    else if p % 4 = 2 then midP m c (p / 4) (acc1 m c (p / 4)) else midP m c (p / 4) (acc2 m c (p / 4))

/-- The proof data: inputs at their blocks, the result's rows and the weight gradient as above, each shared array in equal parts. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => gxOut m c (t.val / 4)
    | ⟨9, _⟩ => dwIn m c ((t.val + 1) / 4)
    | ⟨_ + 10, h⟩ => absurd h (Nat.not_lt.2 (Nat.le_add_left _ _))
  Φ p := iprop((∃ r, prngReg c r) ∗ phi m c p.val)
  q w := Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem after0_8 (c : Dev nD) (t : Fin cfg0.N) : (dats m 0 c).after 8 t = gxOut m c (t.val / 4) := by dsimp only [dats]
theorem after0_9 (c : Dev nD) (t : Fin cfg0.N) : (dats m 0 c).after 9 t = dwIn m c ((t.val + 1) / 4) := by dsimp only [dats]

/-! ## The conditions and the schedule, in the points -/

theorem cond_step : ∀ t : Fin cfg0.N,
    (step (grid0.coords t) 0#32 = 1#1 ↔ t.val % 4 = 0) ∧ (step (grid0.coords t) 1#32 = 1#1 ↔ t.val % 4 = 1)
    ∧ (step (grid0.coords t) 2#32 = 1#1 ↔ t.val % 4 = 2) ∧ (step (grid0.coords t) 3#32 = 1#1 ↔ t.val % 4 = 3)
    ∧ (k0_cond1 (grid0.coords t) = 1#1 ↔ t.val % 4 = 0) ∧ (k0_cond7 (grid0.coords t) = 1#1 ↔ t.val % 4 = 3)
    ∧ (k0_cond2 (grid0.coords t) = 1#1 ↔ t.val = 0) := by decide +kernel
theorem off_row : ∀ t : Fin cfg0.N, k0_off1 (grid0.coords t) = rowOff (t.val / 4) := by decide +kernel
theorem idle8 : ∀ t : Fin cfg0.N, cfg0.idle 8 (cfg0.grid.coords t) = decide (t.val % 4 ≠ 3) := by decide +kernel
theorem idle9 : ∀ t : Fin cfg0.N, cfg0.idle 9 (cfg0.grid.coords t) = decide (t.val ≠ 0 ∧ t.val % 4 ≠ 3) := by decide +kernel
theorem flush8 : ∀ t : Fin cfg0.N, (cfg0.win 8).flush t = decide (t.val % 4 = 3) := by decide +kernel
theorem flush9 : ∀ t : Fin cfg0.N, (cfg0.win 9).flush t = decide (t.val = 31) := by decide +kernel
theorem fresh9 (t : Fin cfg0.N) (h : t.val ≠ 0) : cfg0.fresh 9 t.val = false := by
  have hN : t.val < 32 := lt_of_lt_of_eq t.isLt N_0
  rw [Pipeline.Cfg.fresh_tab cfg0 9 (fun n => decide (n = 0 ∨ n = 32)) rfl (by decide +kernel) t.val (le_of_lt t.isLt)]
  exact decide_eq_false (by omega)

/-- The weight gradient's block is carried from point to point. -/
theorem before0_9 (c : Dev nD) (t : Fin cfg0.N) (h : t.val ≠ 0) (d) : (dats m 0 c).before 9 t d = dwIn m c (t.val / 4) := by
  rw [(dats m 0 c).before_out_traj 9 rfl (fun _ _ => rfl) (fun t ht hi _ => by
    rw [after0_9, after0_9]
    rw [idle9] at hi
    have hi := of_decide_eq_true hi
    congr 1; show (t.val + 1) / 4 = (t.val - 1 + 1) / 4; omega) t.val t rfl d, fresh9 t h, if_neg Bool.false_ne_true, after0_9]
  congr 1; show (t.val - 1 + 1) / 4 = t.val / 4; omega

/-! ## The body at a point -/

abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev ms3 (t : Fin cfg0.N) := win0_3.stage (cfg0.slots t 3)
abbrev ms4 (t : Fin cfg0.N) := win0_4.stage (cfg0.slots t 4)
abbrev ms5 (t : Fin cfg0.N) := win0_5.stage (cfg0.slots t 5)
abbrev ms6 (t : Fin cfg0.N) := win0_6.stage (cfg0.slots t 6)
abbrev ms7 (t : Fin cfg0.N) := win0_7.stage (cfg0.slots t 7)
abbrev ms8 (t : Fin cfg0.N) := win0_8.stage (cfg0.slots t 8)
abbrev ms9 (t : Fin cfg0.N) := win0_9.stage (cfg0.slots t 9)

/-- What the body leaves in an output window's buffer: handed back as found where the body does not store into it. -/
def post8 (c : Dev nD) (t : Fin cfg0.N) : sProp 𝕄 :=
  match cfg0.idle 8 (cfg0.grid.coords t) with
  | true => match (cfg0.win 8).flush t with
    | false => iprop(∃ d, owns (c : Thread nD τ) (ms8 t) fullShare ((dats m 0 c).before 8 t d))
    | true => owns (c : Thread nD τ) (ms8 t) fullShare ((dats m 0 c).after 8 t)
  | false => owns (c : Thread nD τ) (ms8 t) fullShare ((dats m 0 c).after 8 t)
def post9 (c : Dev nD) (t : Fin cfg0.N) : sProp 𝕄 :=
  match cfg0.idle 9 (cfg0.grid.coords t) with
  | true => match (cfg0.win 9).flush t with
    | false => iprop(∃ d, owns (c : Thread nD τ) (ms9 t) fullShare ((dats m 0 c).before 9 t d))
    | true => owns (c : Thread nD τ) (ms9 t) fullShare ((dats m 0 c).after 9 t)
  | false => owns (c : Thread nD τ) (ms9 t) fullShare ((dats m 0 c).after 9 t)
theorem post8_idle (c : Dev nD) (t : Fin cfg0.N) (h : t.val % 4 ≠ 3) :
    post8 m c t = iprop(∃ d, owns (c : Thread nD τ) (ms8 t) fullShare ((dats m 0 c).before 8 t d)) := by
  unfold post8; rw [idle8, flush8, decide_eq_true h, decide_eq_false h]
theorem post8_live (c : Dev nD) (t : Fin cfg0.N) (h : t.val % 4 = 3) :
    post8 m c t = owns (c : Thread nD τ) (ms8 t) fullShare (gxOut m c (t.val / 4)) := by
  unfold post8; rw [idle8, decide_eq_false (not_not.mpr h), after0_8]
theorem post9_idle (c : Dev nD) (t : Fin cfg0.N) (h : t.val ≠ 0 ∧ t.val % 4 ≠ 3) :
    post9 m c t = iprop(∃ d, owns (c : Thread nD τ) (ms9 t) fullShare ((dats m 0 c).before 9 t d)) := by
  unfold post9; rw [idle9, flush9, decide_eq_true h, decide_eq_false (by omega)]
theorem post9_live (c : Dev nD) (t : Fin cfg0.N) (h : ¬ (t.val ≠ 0 ∧ t.val % 4 ≠ 3)) :
    post9 m c t = owns (c : Thread nD τ) (ms9 t) fullShare (dwIn m c ((t.val + 1) / 4)) := by
  unfold post9; rw [idle9, decide_eq_false h, after0_9]

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ post8 m c t ∗ post9 m c t)

omit [FloatOps F] in
/-- A transfer's rows may be named by any equal offsets. -/
theorem fly_congr (c : Dev nD) (n : DmaSem sig) (M : Memref sig .tc .hbm S8192x1024 .f32) (T : Memref sig .tc .vmem S1024x1024 .f32)
    (o o' : Fin 2 → ℕ) (e : o = o') (ho ho') (X : HbBuf (F := F) c M) : flyP c n M T o ho X = flyP c n M T o' ho' X := by subst e; rfl
omit [FloatOps F] in
theorem rest_congr (c : Dev nD) (M : Memref sig .tc .hbm S8192x1024 .f32)
    (o o' : Fin 2 → ℕ) (e : o = o') (ho ho') (X : HbBuf (F := F) c M) : restP c M o ho X = restP c M o' ho' X := by subst e; rfl

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [after0_0, after0_1, after0_2, after0_3, after0_4, after0_5, after0_6, after0_7]
  rw [show (dats m 0 c).Φ t.castSucc = iprop((∃ r, prngReg c r) ∗ phi m c t.val) from rfl,
    show (dats m 0 c).Φ t.succ = iprop((∃ r, prngReg c r) ∗ phi m c (t.val + 1)) from rfl]
  unfold Dat.owesAt Pipeline.owesWithin
  rw [show (dats m 0 c).owed t.castSucc = 0 from rfl, show (dats m 0 c).owed t.succ = 0 from rfl]
  have hN : t.val < 32 := lt_of_lt_of_eq t.isLt N_0
  obtain ⟨c0, c1, c2, c3, cA, cC, cI⟩ := cond_step t
  by_cases k0 : t.val % 4 = 0
  · by_cases hz : t.val = 0
    · rw [show phi m c t.val = homeP m c from by unfold phi; rw [if_pos (by omega)]]
      rw [show phi m c (t.val + 1) = midP m c (t.val / 4) (acc0 m c (t.val / 4)) from by unfold phi; rw [if_neg (by omega)]; rw [if_pos (by omega)]; rw [show (t.val + 1) / 4 = t.val / 4 by omega]]
      unfold midP; rw [show acc0 m c (t.val / 4) = _ from by unfold acc0; rw [pt_eq t (4 * (t.val / 4)) (by omega)]]
      rw [post8_idle m c t (by omega)]
      rw [post9_live m c t (by omega)]
      rw [show (t.val + 1) / 4 = 0 by omega]
      unfold homeP dwIn
      rw [← fly_congr c 18 xM xsM _ _ (off_row t) (k0_off1_inb _ (cA.mpr k0)), ← fly_congr c 19 dM dsM _ _ (off_row t) (k0_off1_inb _ (cA.mpr k0)), ← rest_congr c xM _ _ (off_row t) (k0_off1_inb _ (cA.mpr k0)), ← rest_congr c dM _ _ (off_row t) (k0_off1_inb _ (cA.mpr k0))]
      iintro ⟨⟨Hg, ⟨A14, A15, A16, HX, HD, HA, HB⟩⟩, ⟨%W, -, HW⟩, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩⟩
      iapply (run0a c (grid0.coords t) (c0.mpr (by omega)) (fun h => absurd (c1.mp h) (by omega)) (fun h => absurd (c2.mp h) (by omega)) (fun h => absurd (c3.mp h) (by omega)) (cA.mpr (by omega)) (fun h => absurd (cC.mp h) (by omega)) (cI.mpr (by omega)) _ _ _ _ _ _ _ _ _ _ _ _ _ _ _ _ _ _ _ _ (iblk m c 0 t) (iblk m c 1 t) (iblk m c 5 t) (iblk m c 6 t) (V m c main_v12) (V m c main_v13) W _)
      isplitl [W0]; · iexact W0
      isplitl [W1]; · iexact W1
      isplitl [W5]; · iexact W5
      isplitl [W6]; · iexact W6
      isplitl [W9]; · iexists _; iexact W9
      isplitl [A14]; · iexact A14
      isplitl [A15]; · iexact A15
      isplitl [A16]; · iexact A16
      isplitl [HX]; · iexact HX
      isplitl [HD]; · iexact HD
      isplitl [HA]; · iexact HA
      isplitl [HB]; · iexact HB
      isplitl [HW]; · iexact HW
      iintro ⟨W0, W1, W5, W6, W9, A14, HA, HX, HB, HD, HW⟩
      isplitl [Hg A14 HA HX HB HD]
      · isplitl [Hg]; · iexact Hg
        isplitl [A14]; · iexact A14
        isplitl [HA]; · iexact HA
        isplitl [HX]; · iexact HX
        isplitl [HB]; · iexact HB
        iexact HD
      isplitl [HW]
      · iexists _; isplitr; swap; · iexact HW
        ipureintro; exact fun _ _ => Or.inl trivial
      isplitl [W0]; · iexact W0
      isplitl [W1]; · iexact W1
      isplitl [W2]; · iexact W2
      isplitl [W3]; · iexact W3
      isplitl [W4]; · iexact W4
      isplitl [W5]; · iexact W5
      isplitl [W6]; · iexact W6
      isplitl [W7]; · iexact W7
      isplitl [W8]; · iexists _; iexact W8
      iexact W9
    · rw [show phi m c t.val = homeP m c from by unfold phi; rw [if_pos (by omega)]]
      rw [show phi m c (t.val + 1) = midP m c (t.val / 4) (acc0 m c (t.val / 4)) from by unfold phi; rw [if_neg (by omega)]; rw [if_pos (by omega)]; rw [show (t.val + 1) / 4 = t.val / 4 by omega]]
      unfold midP; rw [show acc0 m c (t.val / 4) = _ from by unfold acc0; rw [pt_eq t (4 * (t.val / 4)) (by omega)]]
      rw [post8_idle m c t (by omega)]
      rw [post9_idle m c t (by omega)]
      unfold homeP
      rw [← fly_congr c 18 xM xsM _ _ (off_row t) (k0_off1_inb _ (cA.mpr k0)), ← fly_congr c 19 dM dsM _ _ (off_row t) (k0_off1_inb _ (cA.mpr k0)), ← rest_congr c xM _ _ (off_row t) (k0_off1_inb _ (cA.mpr k0)), ← rest_congr c dM _ _ (off_row t) (k0_off1_inb _ (cA.mpr k0))]
      iintro ⟨⟨Hg, ⟨A14, A15, A16, HX, HD, HA, HB⟩⟩, ⟨%W, -, HW⟩, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩⟩
      iapply (run0b c (grid0.coords t) (c0.mpr (by omega)) (fun h => absurd (c1.mp h) (by omega)) (fun h => absurd (c2.mp h) (by omega)) (fun h => absurd (c3.mp h) (by omega)) (cA.mpr (by omega)) (fun h => absurd (cC.mp h) (by omega)) (fun h => absurd (cI.mp h) (by omega)) _ _ _ _ _ _ _ _ _ _ _ _ _ _ _ _ _ _ _ _ (iblk m c 0 t) (iblk m c 1 t) (iblk m c 5 t) (iblk m c 6 t) (V m c main_v12) (V m c main_v13) W _)
      isplitl [W0]; · iexact W0
      isplitl [W1]; · iexact W1
      isplitl [W5]; · iexact W5
      isplitl [W6]; · iexact W6
      isplitl [A14]; · iexact A14
      isplitl [A15]; · iexact A15
      isplitl [A16]; · iexact A16
      isplitl [HX]; · iexact HX
      isplitl [HD]; · iexact HD
      isplitl [HA]; · iexact HA
      isplitl [HB]; · iexact HB
      isplitl [HW]; · iexact HW
      iintro ⟨W0, W1, W5, W6, A14, HA, HX, HB, HD, HW⟩
      isplitl [Hg A14 HA HX HB HD]
      · isplitl [Hg]; · iexact Hg
        isplitl [A14]; · iexact A14
        isplitl [HA]; · iexact HA
        isplitl [HX]; · iexact HX
        isplitl [HB]; · iexact HB
        iexact HD
      isplitl [HW]
      · iexists _; isplitr; swap; · iexact HW
        ipureintro; exact fun _ _ => Or.inl trivial
      isplitl [W0]; · iexact W0
      isplitl [W1]; · iexact W1
      isplitl [W2]; · iexact W2
      isplitl [W3]; · iexact W3
      isplitl [W4]; · iexact W4
      isplitl [W5]; · iexact W5
      isplitl [W6]; · iexact W6
      isplitl [W7]; · iexact W7
      isplitl [W8]; · iexists _; iexact W8
      iexists _; iexact W9
  by_cases k1 : t.val % 4 = 1
  · rw [show phi m c t.val = midP m c (t.val / 4) (acc0 m c (t.val / 4)) from by unfold phi; rw [if_neg (by omega)]; rw [if_pos (by omega)]]
    rw [show phi m c (t.val + 1) = midP m c (t.val / 4) (acc1 m c (t.val / 4)) from by unfold phi; rw [if_neg (by omega)]; rw [if_neg (by omega)]; rw [if_pos (by omega)]; rw [show (t.val + 1) / 4 = t.val / 4 by omega]]
    unfold midP; rw [show acc1 m c (t.val / 4) = _ from by unfold acc1; rw [pt_eq t (4 * (t.val / 4) + 1) (by omega)]]
    rw [post8_idle m c t (by omega)]
    rw [post9_idle m c t (by omega)]
    iintro ⟨⟨Hg, ⟨A14, HA, HX, HB, HD⟩⟩, ⟨%W, -, HW⟩, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩⟩
    iapply (run1 c (grid0.coords t) (fun h => absurd (c0.mp h) (by omega)) (c1.mpr (by omega)) (fun h => absurd (c2.mp h) (by omega)) (fun h => absurd (c3.mp h) (by omega)) (fun h => absurd (cA.mp h) (by omega)) (fun h => absurd (cC.mp h) (by omega)) (fun h => absurd (cI.mp h) (by omega)) _ _ _ _ _ _ _ _ _ _ _ _ _ _ _ _ _ _ _ _ (iblk m c 2 t) (iblk m c 3 t) (iblk m c 5 t) (iblk m c 6 t) (acc0 m c (t.val / 4)) _)
    isplitl [W2]; · iexact W2
    isplitl [W3]; · iexact W3
    isplitl [W5]; · iexact W5
    isplitl [W6]; · iexact W6
    isplitl [A14]; · iexact A14
    iintro ⟨W2, W3, W5, W6, A14⟩
    isplitl [Hg A14 HA HX HB HD]
    · isplitl [Hg]; · iexact Hg
      isplitl [A14]; · iexact A14
      isplitl [HA]; · iexact HA
      isplitl [HX]; · iexact HX
      isplitl [HB]; · iexact HB
      iexact HD
    isplitl [HW]
    · iexists _; isplitr; swap; · iexact HW
      ipureintro; exact fun _ _ => Or.inl trivial
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexists _; iexact W8
    iexists _; iexact W9
  by_cases k2 : t.val % 4 = 2
  · rw [show phi m c t.val = midP m c (t.val / 4) (acc1 m c (t.val / 4)) from by unfold phi; rw [if_neg (by omega)]; rw [if_neg (by omega)]; rw [if_pos (by omega)]]
    rw [show phi m c (t.val + 1) = midP m c (t.val / 4) (acc2 m c (t.val / 4)) from by unfold phi; rw [if_neg (by omega)]; rw [if_neg (by omega)]; rw [if_neg (by omega)]; skip; rw [show (t.val + 1) / 4 = t.val / 4 by omega]]
    unfold midP; rw [show acc2 m c (t.val / 4) = _ from by unfold acc2; rw [pt_eq t (4 * (t.val / 4) + 2) (by omega)]]
    rw [post8_idle m c t (by omega)]
    rw [post9_idle m c t (by omega)]
    iintro ⟨⟨Hg, ⟨A14, HA, HX, HB, HD⟩⟩, ⟨%W, -, HW⟩, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩⟩
    iapply (run2 c (grid0.coords t) (fun h => absurd (c0.mp h) (by omega)) (fun h => absurd (c1.mp h) (by omega)) (c2.mpr (by omega)) (fun h => absurd (c3.mp h) (by omega)) (fun h => absurd (cA.mp h) (by omega)) (fun h => absurd (cC.mp h) (by omega)) (fun h => absurd (cI.mp h) (by omega)) _ _ _ _ _ _ _ _ _ _ _ _ _ _ _ _ _ _ _ _ (iblk m c 3 t) (iblk m c 4 t) (iblk m c 5 t) (iblk m c 6 t) (acc1 m c (t.val / 4)) _)
    isplitl [W3]; · iexact W3
    isplitl [W4]; · iexact W4
    isplitl [W5]; · iexact W5
    isplitl [W6]; · iexact W6
    isplitl [A14]; · iexact A14
    iintro ⟨W3, W4, W5, W6, A14⟩
    isplitl [Hg A14 HA HX HB HD]
    · isplitl [Hg]; · iexact Hg
      isplitl [A14]; · iexact A14
      isplitl [HA]; · iexact HA
      isplitl [HX]; · iexact HX
      isplitl [HB]; · iexact HB
      iexact HD
    isplitl [HW]
    · iexists _; isplitr; swap; · iexact HW
      ipureintro; exact fun _ _ => Or.inl trivial
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexists _; iexact W8
    iexists _; iexact W9
  rw [show phi m c t.val = midP m c (t.val / 4) (acc2 m c (t.val / 4)) from by unfold phi; rw [if_neg (by omega)]; rw [if_neg (by omega)]; rw [if_neg (by omega)]; skip]
  rw [show phi m c (t.val + 1) = homeP m c from by unfold phi; rw [if_pos (by omega)]]
  rw [post8_live m c t (by omega)]
  rw [post9_live m c t (by omega)]
  rw [show (t.val + 1) / 4 = t.val / 4 + 1 by omega]
  unfold midP homeP gxOut dwIn; rw [show acc3 m c (t.val / 4) = _ from by unfold acc3; rw [pt_eq t (4 * (t.val / 4) + 3) (by omega)], pt_eq t (4 * (t.val / 4) + 3) (by omega)]
  simp only [before0_9 m c t (by omega)]
  unfold xRows dRows
  iintro ⟨⟨Hg, ⟨A14, HA, HX, HB, HD⟩⟩, ⟨%W, -, HW⟩, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩⟩
  iapply (run3 c (grid0.coords t) (fun h => absurd (c0.mp h) (by omega)) (fun h => absurd (c1.mp h) (by omega)) (fun h => absurd (c2.mp h) (by omega)) (c3.mpr (by omega)) (fun h => absurd (cA.mp h) (by omega)) (cC.mpr (by omega)) (fun h => absurd (cI.mp h) (by omega)) _ _ _ _ _ _ _ _ _ _ _ _ _ _ _ _ _ _ _ _ (iblk m c 4 t) (iblk m c 5 t) (acc2 m c (t.val / 4)) (iblk m c 7 t) (dwIn m c (t.val / 4)) (rowOff (t.val / 4)) (rowOff_inb (t.val / 4)) (V m c main_v12) (V m c main_v13) W _)
  isplitl [W4]; · iexact W4
  isplitl [W5]; · iexact W5
  isplitl [W7]; · iexact W7
  isplitl [W8]; · iexists _; iexact W8
  isplitl [W9]; · iexact W9
  isplitl [A14]; · iexact A14
  isplitl [HA]; · iexact HA
  isplitl [HX]; · iexact HX
  isplitl [HB]; · iexact HB
  isplitl [HD]; · iexact HD
  isplitl [HW]; · iexact HW
  iintro ⟨W4, W5, W7, W8, W9, A14, A15, A16, HX, HD, HA, HB, ⟨%W', HW⟩⟩
  isplitl [Hg A14 A15 A16 HX HD HA HB]
  · isplitl [Hg]; · iexact Hg
    isplitl [A14]; · iexact A14
    isplitl [A15]; · iexact A15
    isplitl [A16]; · iexact A16
    isplitl [HX]; · iexact HX
    isplitl [HD]; · iexact HD
    isplitl [HA]; · iexact HA
    iexact HB
  isplitl [HW]
  · iexists _; isplitr; swap; · iexact HW
    ipureintro; exact fun _ _ => Or.inl trivial
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  iexact W9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The body's two semaphores. -/
abbrev ownSem : Fin 2 → SemLoc sig := fun j => (![SemLoc.dma 18, SemLoc.dma 19] : Fin 2 → SemLoc sig) j
theorem ownSemFacts : Pipeline.OwnSemFacts spec0 ownSem := by decide
/-- The arrays the body's transfers read. -/
def inHbm : Finset (Ref sig .tc) := {main_v12, main_v13}
theorem inHbm_sub : inHbm ⊆ Pipeline.restRefs sig spec0 := by decide

theorem homeP_eq (c : Dev nD) :
    (Pipeline.ΦD ownSem spec0 inHbm (V m) c : sProp 𝕄)
      = iprop(iprop((∃ f, hbPt (F := F) c accM f) ∗ (∃ f, hbPt (F := F) c xsM f) ∗ (∃ f, hbPt (F := F) c dsM f)) ∗ (∃ r, prngReg c r)
          ∗ iprop(semVal ((c : Thread nD τ), SemLoc.dma 18) 0 ∗ semVal ((c : Thread nD τ), SemLoc.dma 19) 0)
          ∗ iprop(hbPt c xM (V m c main_v12) ∗ hbPt c dM (V m c main_v13))) := by
  rw [Pipeline.ΦD_eq, scopedRest0_eq, Pipeline.ownSems0_eq_of_list c ownSem [0, 1] (by decide) (by decide),
    BI.bigSep_eq_bigSepL_of_eq [main_v12, main_v13] (by decide) (by decide)]
  rfl

theorem enter (c : Dev nD) : (Pipeline.ΦD ownSem spec0 inHbm (V m) c : sProp 𝕄) ⊢ (dats m 0 c).Φ 0 := by
  rw [homeP_eq, show (dats m 0 c).Φ 0 = iprop((∃ r, prngReg c r) ∗ homeP m c) from rfl]
  unfold homeP
  iintro ⟨⟨H1, H2, H3⟩, Hg, ⟨HA, HB⟩, HX, HD⟩
  isplitl [Hg]; · iexact Hg
  isplitl [H1]; · iexact H1
  isplitl [H2]; · iexact H2
  isplitl [H3]; · iexact H3
  isplitl [HX]; · iexact HX
  isplitl [HD]; · iexact HD
  isplitl [HA]; · iexact HA
  iexact HB

theorem leave (c : Dev nD) : (dats m 0 c).Φ (Fin.last cfg0.N) ⊢ (Pipeline.ΦD ownSem spec0 inHbm (V m) c : sProp 𝕄) := by
  rw [homeP_eq, show (dats m 0 c).Φ (Fin.last cfg0.N) = iprop((∃ r, prngReg c r) ∗ phi m c cfg0.N) from rfl,
    show phi m c cfg0.N = homeP m c from by unfold phi; rw [if_pos (by decide)]]
  unfold homeP
  iintro ⟨Hg, H1, H2, H3, HX, HD, HA, HB⟩
  isplitl [H1 H2 H3]
  · isplitl [H1]; · iexact H1
    isplitl [H2]; · iexact H2
    iexact H3
  isplitl [Hg]; · iexact Hg
  isplitl [HA HB]
  · isplitl [HA]; · iexact HA
    iexact HB
  isplitl [HX]; · iexact HX
  iexact HD

set_option backward.isDefEq.respectTransparency.types false in
/-- The launch: every fair run ends, the arrays at what the proof data say, every counter at zero. -/
theorem run_main : θ_run defs (onTc (τ := τ) (main (F := F))) (s₀ m ρ) (fun r => Pipeline.FramePost cfgs (dats m) 0 (V m) r ∧ r.2.sem = fun _ => 0) :=
  Pipeline.θ_run_frame_dma_shared (Q' := _) cfgs (dats m) (0 : Fin 1) launch₀0 ownSem defs₀ Variants.none ownSemFacts inHbm inHbm_sub m ρ main
    (hbody := fun c => (body_obligation m c).loose) (hq := fun _ _ _ => rfl)
    (howed := fun _ _ => rfl) (V := V m) (hmain := hmainD m Variants.none) (hA := A_eq m)
    (hin := enter m) (hout := leave m)

/-- What the run leaves in the arguments. -/
theorem args_kept (r) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).1 7).trans (((dats m 0 c).arrAt_in 7 rfl _).trans ((A_eq m c 7).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- The frame: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨args_kept m r h.1, h.2⟩) (run_main m ρ)

end Cert.Dhn
-- ==== Proof.DhnModel.lean ====
/- One token's mathematics of the first norm's gradient, over the reals: the gradient `dh` of the normalised, scaled
   activation, and from it the gradient of the activation and of the norm's weight. -/
module

public import proofs.«01_k».proof.Proof.GateHost

@[expose] public section

set_option maxRecDepth 16384

noncomputable section

namespace Cert.Dhn

open Cert.Lift Cert.Gate

/-- The activation's mean square, with the small constant. -/
def msq (x : Row) : ℝ := (∑ k, x k * x k) / 1024 + eps
/-- The reciprocal root of the mean square. -/
def irt (x : Row) : ℝ := (Real.sqrt (msq x))⁻¹
/-- The normalised activation. -/
def xh (x : Row) : Row := fun d => x d * irt x
/-- The activation's gradient: the one passed on by the residual stream, plus the one through the norm. -/
def gx (x w dh e : Row) : Row := fun d => e d + irt x * (dh d * w d - xh x d * ((∑ k, dh k * w k * xh x k) / 1024))
/-- The token's part of the weight's gradient. -/
def gw (x dh : Row) : Row := fun d => dh d * xh x d

theorem msq_pos (x : Row) : 0 < msq x := by
  unfold msq
  have : 0 ≤ (∑ k, x k * x k) / 1024 := div_nonneg (Finset.sum_nonneg fun k _ => mul_self_nonneg _) (by norm_num)
  have := eps_pos
  linarith

/-- The gradient as the derivative of the reciprocal root gives it. -/
theorem gx_eq (x w dh e : Row) (d : Fin 1024) :
    e d + dh d * w d * irt x + x d * (((∑ k, x k * (dh k * w k)) * (-(1 / 2) * (irt x / msq x))) / 1024) +
      ((∑ k, x k * (dh k * w k)) * (-(1 / 2) * (irt x / msq x))) / 1024 * x d = gx x w dh e d := by
  have hms := msq_pos x
  have hr : irt x / msq x = irt x * irt x * irt x := by
    have : irt x * irt x = 1 / msq x := by
      unfold irt; rw [← mul_inv, Real.mul_self_sqrt hms.le, one_div]
    rw [this]; ring
  have hs : (∑ k, dh k * w k * xh x k) = (∑ k, x k * (dh k * w k)) * irt x := by
    rw [Finset.sum_mul]; exact Finset.sum_congr rfl fun k _ => by unfold xh; ring
  unfold gx
  rw [hr, hs]
  unfold xh
  ring

/-- The arguments as real arrays: the activation, the norm's weight, the in projection, its gradient and the gradient that
    the residual stream passes on. -/
structure Args where
  x : Fin 2 → Fin 4096 → Row
  w : Row
  W : Fin 1024 → Fin 6672 → ℝ
  p : Fin 2 → Fin 4096 → Fin 6672 → ℝ
  e : Fin 2 → Fin 4096 → Row

namespace Args
variable (a : Args)
/-- The gradient as it leaves the projection. -/
def dh : Fin 2 → Fin 4096 → Row := fun b s d => ∑ j, a.p b s j * a.W d j
/-- The activation's gradient. -/
def gx : Fin 2 → Fin 4096 → Row := fun b s => Dhn.gx (a.x b s) a.w (a.dh b s) (a.e b s)
/-- The tokens' parts of the weight's gradient. -/
def gw : Fin 2 → Fin 4096 → Row := fun b s => Dhn.gw (a.x b s) (a.dh b s)
/-- The weight's gradient in row 0 of eight, the other rows zero. -/
def gw8 : Fin 8 → Row := fun k d => if k.val = 0 then ∑ b, ∑ s, a.gw b s d else 0

/-- The projection's gradient, continued by zeros. -/
def pz (r j : ℕ) : ℝ := if h : r < 8192 ∧ j < 6672 then flat a.p ⟨r, h.1⟩ ⟨j, h.2⟩ else 0
/-- The projection, continued by zeros. -/
def Wz (j : ℕ) (d : Fin 1024) : ℝ := if h : j < 6672 then a.W d ⟨j, h⟩ else 0
/-- Row block `b` and column block `q` of the former. -/
def pB (b q : ℕ) (p k : Fin 1024) : ℝ := a.pz (1024 * b + p.val) (1024 * q + k.val)
/-- Block `q` of the latter. -/
def WB (q : ℕ) (k d : Fin 1024) : ℝ := a.Wz (1024 * q + k.val) d
/-- One column block's part of the product. -/
def part (b q : ℕ) (p d : Fin 1024) : ℝ := ∑ k, a.pB b q p k * a.WB q k d

theorem part_range (b q : ℕ) (p d : Fin 1024) :
    a.part b q p d = ∑ k ∈ Finset.range 1024, a.pz (1024 * b + p.val) (1024 * q + k) * a.Wz (1024 * q + k) d :=
  Fin.sum_univ_eq_sum_range (fun k => a.pz (1024 * b + p.val) (1024 * q + k) * a.Wz (1024 * q + k) d) 1024

/-- The seven parts add up to the whole product. -/
theorem parts (b : ℕ) (hb : b < 8) (p d : Fin 1024) :
    a.part b 0 p d + a.part b 1 p d + (a.part b 2 p d + a.part b 3 p d) + (a.part b 4 p d + a.part b 5 p d) + a.part b 6 p d
      = flat a.dh ⟨1024 * b + p.val, by omega⟩ d := by
  have hr : 1024 * b + p.val < 8192 := by omega
  have e : flat a.dh ⟨1024 * b + p.val, by omega⟩ d
      = ∑ j ∈ Finset.range (1024 + 1024 + 1024 + 1024 + 1024 + 1024 + 1024), a.pz (1024 * b + p.val) j * a.Wz j d := by
    have e1 : flat a.dh ⟨1024 * b + p.val, hr⟩ d = ∑ j : Fin 6672, a.pz (1024 * b + p.val) j.val * a.Wz j.val d := by
      show ∑ j : Fin 6672, flat a.p ⟨1024 * b + p.val, hr⟩ j * a.W d j = _
      refine Finset.sum_congr rfl fun j _ => ?_
      unfold pz Wz
      rw [dif_pos ⟨hr, j.isLt⟩, dif_pos j.isLt]
    rw [e1, Fin.sum_univ_eq_sum_range (fun j => a.pz (1024 * b + p.val) j * a.Wz j d) 6672,
      show 1024 + 1024 + 1024 + 1024 + 1024 + 1024 + 1024 = 6672 + 496 by norm_num, Finset.sum_range_add]
    refine (add_eq_left.2 <| (Finset.sum_eq_zero fun k _ => ?_)).symm
    unfold Wz
    rw [dif_neg (show ¬(6672 + k < 6672) by omega), mul_zero]
  rw [e]
  simp only [Finset.sum_range_add, part_range]
  simp only [Nat.mul_zero, Nat.zero_add, Nat.reduceMul, Nat.reduceAdd]
  ring
end Args

end Cert.Dhn
-- ==== Proof.DhnHost.lean ====
/- The in projection's gradient call over real arguments: what the host operations before the region leave, and each
   window's block at a grid point. -/
module

public import proofs.«01_k».proof.Proof.DhnFrame
public import proofs.«01_k».proof.Proof.DhnModel
public import Idealize.ShloMosaic.Lib.Pipeline.ValueKit
public import Idealize.ShloMosaic.Lib.KernelVsHost

@[expose] public section

set_option maxRecDepth 16384

noncomputable section

namespace Cert.Dhn

open Cert.Kernel2Ideal Cert.Kernel2Ideal.Gen Idealize.ShloMosaic Idealize.ShloMosaic.TcCoe Cert.Lift Cert.Gate

variable (m : (ℓ : Loc nD τ sig) → Buf (Elt Ideal) ℓ)

/-- Device `c`'s arguments are the lifts of `a`. -/
structure Holds (c : Dev nD) (a : Args) : Prop where
  x : m ((c : Thread nD τ).loc main_arg0) = up3 a.x
  w : m ((c : Thread nD τ).loc main_arg1) = up2 fun _ : Fin 1 => a.w
  W : m ((c : Thread nD τ).loc main_arg2) = up3 fun _ : Fin 1 => a.W
  p : m ((c : Thread nD τ).loc main_arg3) = up3 a.p
  e : m ((c : Thread nD τ).loc main_arg4) = up3 a.e

variable {m} {c : Dev nD} {a : Args} (h : Holds m c a)

theorem wi0 : ∀ t : Fin cfg0.N, win0_0.index t = ![t.val / 4, 0] := (by decide +kernel : ∀ t : Fin grid0.N, win0_0.index t = ![t.val / 4, 0])
theorem wi1 : ∀ t : Fin cfg0.N, win0_1.index t = ![t.val / 4, 0] := (by decide +kernel : ∀ t : Fin grid0.N, win0_1.index t = ![t.val / 4, 0])
theorem wi2 : ∀ t : Fin cfg0.N, win0_2.index t = ![t.val / 4, 0] := (by decide +kernel : ∀ t : Fin grid0.N, win0_2.index t = ![t.val / 4, 0])
theorem wi3 : ∀ t : Fin cfg0.N, win0_3.index t = ![t.val / 4, if t.val % 4 ≤ 1 then 0 else 1] := (by decide +kernel : ∀ t : Fin grid0.N, win0_3.index t = ![t.val / 4, if t.val % 4 ≤ 1 then 0 else 1])
theorem wi4 : ∀ t : Fin cfg0.N, win0_4.index t = ![t.val / 4, if t.val % 4 ≤ 2 then 0 else 1] := (by decide +kernel : ∀ t : Fin grid0.N, win0_4.index t = ![t.val / 4, if t.val % 4 ≤ 2 then 0 else 1])
theorem wi5 : ∀ t : Fin cfg0.N, win0_5.index t = ![2 * (t.val % 4), 0] := (by decide +kernel : ∀ t : Fin grid0.N, win0_5.index t = ![2 * (t.val % 4), 0])
theorem wi6 : ∀ t : Fin cfg0.N, win0_6.index t = ![min (2 * (t.val % 4) + 1) 6, 0] := (by decide +kernel : ∀ t : Fin grid0.N, win0_6.index t = ![min (2 * (t.val % 4) + 1) 6, 0])
theorem wi7 : ∀ t : Fin cfg0.N, win0_7.index t = ![0, 0] := (by decide +kernel : ∀ t : Fin grid0.N, win0_7.index t = ![0, 0])
theorem wi8 : ∀ t : Fin cfg0.N, win0_8.index t = ![t.val / 4, 0] := (by decide +kernel : ∀ t : Fin grid0.N, win0_8.index t = ![t.val / 4, 0])
theorem wi9 : ∀ t : Fin cfg0.N, win0_9.index t = ![0, 0] := (by decide +kernel : ∀ t : Fin grid0.N, win0_9.index t = ![0, 0])

theorem zero_int (j : S_.Idx) : sitofp (F := Ideal) .bf16 (constantI S_ 32 0#32) j = ((0 : ℝ) : EReal) := by
  show ((((0#32 : BitVec 32).toInt : ℝ)) : EReal) = _
  norm_num

open Cert.KernelIdeal.Gate (reshape_up3)

include h

theorem V_v12 : V m c main_v12 = up2 (flat a.x) := by
  unfold V
  simp only [hostOps0, hostOps0_1, hostOps0_2, hostOps0_3, hostOps0_4, List.flatten_cons, List.flatten_nil, List.append_nil, List.cons_append, List.nil_append]
  after_results
  refine Eq.trans ?_ (reshape_up3 a.x shapeCasts_S2x4096x1024_S8192x1024)
  rw [← h.x]
  rfl

theorem V_v13 : V m c main_v13 = up2 (flat a.e) := by
  unfold V
  simp only [hostOps0, hostOps0_1, hostOps0_2, hostOps0_3, hostOps0_4, List.flatten_cons, List.flatten_nil, List.append_nil, List.cons_append, List.nil_append]
  after_results
  refine Eq.trans ?_ (reshape_up3 a.e shapeCasts_S2x4096x1024_S8192x1024)
  rw [← h.e]
  rfl

theorem V_v2 : V m c main_v2 = up2 (n := 6672) (m := 1024) fun j d => a.W d j := by
  unfold V
  simp only [hostOps0, hostOps0_1, hostOps0_2, hostOps0_3, hostOps0_4, List.flatten_cons, List.flatten_nil, List.append_nil, List.cons_append, List.nil_append]
  after_results
  have e := h.W
  refine Eq.trans (b := transpose S6672x1024 [1, 0] (shapeCast S1024x6672 (up3 fun _ : Fin 1 => a.W) shapeCasts_S1x1024x6672_S1024x6672) transposes_S1024x6672_S6672x1024_1_0) (by rw [← e]; rfl) ?_
  funext i; idx_vars i
  pointwise
  rfl

theorem V_v3 (j : Fin 7168) (d : Fin 1024) : V m c main_v3 (ix2 j d) = ((a.Wz j.val d : ℝ) : EReal) := by
  have e : V m c main_v3 = pad S7168x1024 ![0, 0] ![496, 0] ![0, 0] (V m c main_v2) (sitofp (F := Ideal) .bf16 (constantI S_ 32 0#32))
      pads_S6672x1024_S7168x1024_04960_000 h_S_ := by
    unfold V
    simp only [hostOps0, hostOps0_1, hostOps0_2, hostOps0_3, hostOps0_4, List.flatten_cons, List.flatten_nil, List.append_nil, List.cons_append, List.nil_append]
    after_results
    rfl
  rw [e, V_v2 h]
  unfold Args.Wz
  by_cases hj : j.val < 6672
  · rw [dif_pos hj]
    refine (pad_apply_of_inside _ _ _ _ _ _ _ _ (ix2 ⟨j.val, hj⟩ d) fun i => ?_).trans rfl
    fin_cases i <;> simp [ix2]
  · rw [dif_neg hj]
    refine (pad_apply_of_not_inside _ _ _ _ _ _ _ _ 0 ?_).trans (zero_int _)
    show ¬(0 ≤ j.val ∧ (j.val - 0) % (0 + 1) = 0 ∧ (j.val - 0) / (0 + 1) < 6672)
    omega

theorem V_v5 : V m c main_v5 = up2 (flat a.p) := by
  unfold V
  simp only [hostOps0, hostOps0_1, hostOps0_2, hostOps0_3, hostOps0_4, List.flatten_cons, List.flatten_nil, List.append_nil, List.cons_append, List.nil_append]
  after_results
  refine Eq.trans ?_ (reshape_up3 a.p shapeCasts_S2x4096x6672_S8192x6672)
  rw [← h.p]
  rfl

theorem V_v6 (r : Fin 8192) (j : Fin 7168) : V m c main_v6 (ix2 r j) = ((a.pz r.val j.val : ℝ) : EReal) := by
  have e : V m c main_v6 = pad S8192x7168 ![0, 0] ![0, 496] ![0, 0] (V m c main_v5) (sitofp (F := Ideal) .bf16 (constantI S_ 32 0#32))
      pads_S8192x6672_S8192x7168_000_04960 h_S_ := by
    unfold V
    simp only [hostOps0, hostOps0_1, hostOps0_2, hostOps0_3, hostOps0_4, List.flatten_cons, List.flatten_nil, List.append_nil, List.cons_append, List.nil_append]
    after_results
    rfl
  rw [e, V_v5 h]
  unfold Args.pz
  by_cases hj : j.val < 6672
  · rw [dif_pos ⟨r.isLt, hj⟩]
    refine (pad_apply_of_inside _ _ _ _ _ _ _ _ (ix2 r ⟨j.val, hj⟩) fun i => ?_).trans rfl
    fin_cases i <;> simp [ix2]
  · rw [dif_neg fun q => hj q.2]
    refine (pad_apply_of_not_inside _ _ _ _ _ _ _ _ 1 ?_).trans (zero_int _)
    show ¬(0 ≤ j.val ∧ (j.val - 0) % (0 + 1) = 0 ∧ (j.val - 0) / (0 + 1) < 6672)
    omega

theorem V_v7 (r : Fin 8192) (j : Fin 1024) : V m c main_v7 (ix2 r j) = ((a.pz r.val (0 + j.val) : ℝ) : EReal) := by
  have e : V m c main_v7 = extractStridedSlice S8192x1024 ![0, 0] (V m c main_v6) slices_S8192x7168_S8192x1024_0_0 := by
    unfold V
    simp only [hostOps0, hostOps0_1, hostOps0_2, hostOps0_3, hostOps0_4, List.flatten_cons, List.flatten_nil, List.append_nil, List.cons_append, List.nil_append]
    after_results
  rw [e]
  refine (extractStridedSlice_apply _ _ _ _ (ix2 r ⟨0 + j.val, by omega⟩) fun i => ?_).trans (V_v6 h r _)
  fin_cases i <;> simp [ix2]

theorem V_v8 (r : Fin 8192) (j : Fin 1024) : V m c main_v8 (ix2 r j) = ((a.pz r.val (1024 + j.val) : ℝ) : EReal) := by
  have e : V m c main_v8 = extractStridedSlice S8192x1024 ![0, 1024] (V m c main_v6) slices_S8192x7168_S8192x1024_0_1024 := by
    unfold V
    simp only [hostOps0, hostOps0_1, hostOps0_2, hostOps0_3, hostOps0_4, List.flatten_cons, List.flatten_nil, List.append_nil, List.cons_append, List.nil_append]
    after_results
  rw [e]
  refine (extractStridedSlice_apply _ _ _ _ (ix2 r ⟨1024 + j.val, by omega⟩) fun i => ?_).trans (V_v6 h r _)
  fin_cases i <;> simp [ix2]

theorem V_v9 (r : Fin 8192) (j : Fin 1024) : V m c main_v9 (ix2 r j) = ((a.pz r.val (2048 + j.val) : ℝ) : EReal) := by
  have e : V m c main_v9 = extractStridedSlice S8192x1024 ![0, 2048] (V m c main_v6) slices_S8192x7168_S8192x1024_0_2048 := by
    unfold V
    simp only [hostOps0, hostOps0_1, hostOps0_2, hostOps0_3, hostOps0_4, List.flatten_cons, List.flatten_nil, List.append_nil, List.cons_append, List.nil_append]
    after_results
  rw [e]
  refine (extractStridedSlice_apply _ _ _ _ (ix2 r ⟨2048 + j.val, by omega⟩) fun i => ?_).trans (V_v6 h r _)
  fin_cases i <;> simp [ix2]

theorem V_v10 (r : Fin 8192) (j : Fin 2048) : V m c main_v10 (ix2 r j) = ((a.pz r.val (3072 + j.val) : ℝ) : EReal) := by
  have e : V m c main_v10 = extractStridedSlice S8192x2048 ![0, 3072] (V m c main_v6) slices_S8192x7168_S8192x2048_0_3072 := by
    unfold V
    simp only [hostOps0, hostOps0_1, hostOps0_2, hostOps0_3, hostOps0_4, List.flatten_cons, List.flatten_nil, List.append_nil, List.cons_append, List.nil_append]
    after_results
  rw [e]
  refine (extractStridedSlice_apply _ _ _ _ (ix2 r ⟨3072 + j.val, by omega⟩) fun i => ?_).trans (V_v6 h r _)
  fin_cases i <;> simp [ix2]

theorem V_v11 (r : Fin 8192) (j : Fin 2048) : V m c main_v11 (ix2 r j) = ((a.pz r.val (5120 + j.val) : ℝ) : EReal) := by
  have e : V m c main_v11 = extractStridedSlice S8192x2048 ![0, 5120] (V m c main_v6) slices_S8192x7168_S8192x2048_0_5120 := by
    unfold V
    simp only [hostOps0, hostOps0_1, hostOps0_2, hostOps0_3, hostOps0_4, List.flatten_cons, List.flatten_nil, List.append_nil, List.cons_append, List.nil_append]
    after_results
  rw [e]
  refine (extractStridedSlice_apply _ _ _ _ (ix2 r ⟨5120 + j.val, by omega⟩) fun i => ?_).trans (V_v6 h r _)
  fin_cases i <;> simp [ix2]

/-! ## The windows' blocks -/

theorem iblk0_0 (t : Fin cfg0.N) (b : ℕ) (ht : t.val = 4 * b + 0) : iblk m c 0 t = up2 (a.pB b 0) := by
  funext i; idx_vars i
  blk_simp [iblk]
  have hN : t.val < 32 := t.isLt
  have ei : win0_0.index t = ![b, 0] := by rw [wi0, show t.val / 4 = b by omega]
  have e : (win0_0.blk t).view.emb (ix2 i0 i1) = ix2 ⟨1024 * b + i0.val, by omega⟩ ⟨0 + i1.val, by omega⟩ := by blk_ext [ei]
  rw [e, V_v7 h]
  exact congrArg (fun n : ℕ => ((a.pz (1024 * b + i0.val) n : ℝ) : EReal)) (by show _ = 1024 * 0 + i1.val; simp only []; omega)

theorem iblk1_1 (t : Fin cfg0.N) (b : ℕ) (ht : t.val = 4 * b + 0) : iblk m c 1 t = up2 (a.pB b 1) := by
  funext i; idx_vars i
  blk_simp [iblk]
  have hN : t.val < 32 := t.isLt
  have ei : win0_1.index t = ![b, 0] := by rw [wi1, show t.val / 4 = b by omega]
  have e : (win0_1.blk t).view.emb (ix2 i0 i1) = ix2 ⟨1024 * b + i0.val, by omega⟩ ⟨0 + i1.val, by omega⟩ := by blk_ext [ei]
  rw [e, V_v8 h]
  exact congrArg (fun n : ℕ => ((a.pz (1024 * b + i0.val) n : ℝ) : EReal)) (by show _ = 1024 * 1 + i1.val; simp only []; omega)

theorem iblk2_2 (t : Fin cfg0.N) (b : ℕ) (ht : t.val = 4 * b + 1) : iblk m c 2 t = up2 (a.pB b 2) := by
  funext i; idx_vars i
  blk_simp [iblk]
  have hN : t.val < 32 := t.isLt
  have ei : win0_2.index t = ![b, 0] := by rw [wi2, show t.val / 4 = b by omega]
  have e : (win0_2.blk t).view.emb (ix2 i0 i1) = ix2 ⟨1024 * b + i0.val, by omega⟩ ⟨0 + i1.val, by omega⟩ := by blk_ext [ei]
  rw [e, V_v9 h]
  exact congrArg (fun n : ℕ => ((a.pz (1024 * b + i0.val) n : ℝ) : EReal)) (by show _ = 1024 * 2 + i1.val; simp only []; omega)

theorem iblk3_3 (t : Fin cfg0.N) (b : ℕ) (ht : t.val = 4 * b + 1) : iblk m c 3 t = up2 (a.pB b 3) := by
  funext i; idx_vars i
  blk_simp [iblk]
  have hN : t.val < 32 := t.isLt
  have ei : win0_3.index t = ![b, 0] := by rw [wi3, show t.val / 4 = b by omega]; rw [if_pos (show (t.val % 4 ≤ 1) by omega)]
  have e : (win0_3.blk t).view.emb (ix2 i0 i1) = ix2 ⟨1024 * b + i0.val, by omega⟩ ⟨0 + i1.val, by omega⟩ := by blk_ext [ei]
  rw [e, V_v10 h]
  exact congrArg (fun n : ℕ => ((a.pz (1024 * b + i0.val) n : ℝ) : EReal)) (by show _ = 1024 * 3 + i1.val; simp only []; omega)

theorem iblk3_4 (t : Fin cfg0.N) (b : ℕ) (ht : t.val = 4 * b + 2) : iblk m c 3 t = up2 (a.pB b 4) := by
  funext i; idx_vars i
  blk_simp [iblk]
  have hN : t.val < 32 := t.isLt
  have ei : win0_3.index t = ![b, 1] := by rw [wi3, show t.val / 4 = b by omega]; rw [if_neg (show ¬(t.val % 4 ≤ 1) by omega)]
  have e : (win0_3.blk t).view.emb (ix2 i0 i1) = ix2 ⟨1024 * b + i0.val, by omega⟩ ⟨1024 + i1.val, by omega⟩ := by blk_ext [ei]
  rw [e, V_v10 h]
  exact congrArg (fun n : ℕ => ((a.pz (1024 * b + i0.val) n : ℝ) : EReal)) (by show _ = 1024 * 4 + i1.val; simp only []; omega)

theorem iblk4_5 (t : Fin cfg0.N) (b : ℕ) (ht : t.val = 4 * b + 2) : iblk m c 4 t = up2 (a.pB b 5) := by
  funext i; idx_vars i
  blk_simp [iblk]
  have hN : t.val < 32 := t.isLt
  have ei : win0_4.index t = ![b, 0] := by rw [wi4, show t.val / 4 = b by omega]; rw [if_pos (show (t.val % 4 ≤ 2) by omega)]
  have e : (win0_4.blk t).view.emb (ix2 i0 i1) = ix2 ⟨1024 * b + i0.val, by omega⟩ ⟨0 + i1.val, by omega⟩ := by blk_ext [ei]
  rw [e, V_v11 h]
  exact congrArg (fun n : ℕ => ((a.pz (1024 * b + i0.val) n : ℝ) : EReal)) (by show _ = 1024 * 5 + i1.val; simp only []; omega)

theorem iblk4_6 (t : Fin cfg0.N) (b : ℕ) (ht : t.val = 4 * b + 3) : iblk m c 4 t = up2 (a.pB b 6) := by
  funext i; idx_vars i
  blk_simp [iblk]
  have hN : t.val < 32 := t.isLt
  have ei : win0_4.index t = ![b, 1] := by rw [wi4, show t.val / 4 = b by omega]; rw [if_neg (show ¬(t.val % 4 ≤ 2) by omega)]
  have e : (win0_4.blk t).view.emb (ix2 i0 i1) = ix2 ⟨1024 * b + i0.val, by omega⟩ ⟨1024 + i1.val, by omega⟩ := by blk_ext [ei]
  rw [e, V_v11 h]
  exact congrArg (fun n : ℕ => ((a.pz (1024 * b + i0.val) n : ℝ) : EReal)) (by show _ = 1024 * 6 + i1.val; simp only []; omega)

theorem iblk5_0 (t : Fin cfg0.N) (b : ℕ) (ht : t.val = 4 * b + 0) : iblk m c 5 t = up2 (a.WB 0) := by
  funext i; idx_vars i
  blk_simp [iblk]
  have ei : win0_5.index t = ![0, 0] := by rw [wi5]; congr 1; omega
  have e : (win0_5.blk t).view.emb (ix2 i0 i1) = ix2 ⟨1024 * 0 + i0.val, by omega⟩ i1 := by blk_ext [ei]
  rw [e, V_v3 h]
  rfl

theorem iblk6_1 (t : Fin cfg0.N) (b : ℕ) (ht : t.val = 4 * b + 0) : iblk m c 6 t = up2 (a.WB 1) := by
  funext i; idx_vars i
  blk_simp [iblk]
  have ei : win0_6.index t = ![1, 0] := by rw [wi6]; congr 1; omega
  have e : (win0_6.blk t).view.emb (ix2 i0 i1) = ix2 ⟨1024 * 1 + i0.val, by omega⟩ i1 := by blk_ext [ei]
  rw [e, V_v3 h]
  rfl

theorem iblk5_2 (t : Fin cfg0.N) (b : ℕ) (ht : t.val = 4 * b + 1) : iblk m c 5 t = up2 (a.WB 2) := by
  funext i; idx_vars i
  blk_simp [iblk]
  have ei : win0_5.index t = ![2, 0] := by rw [wi5]; congr 1; omega
  have e : (win0_5.blk t).view.emb (ix2 i0 i1) = ix2 ⟨1024 * 2 + i0.val, by omega⟩ i1 := by blk_ext [ei]
  rw [e, V_v3 h]
  rfl

theorem iblk6_3 (t : Fin cfg0.N) (b : ℕ) (ht : t.val = 4 * b + 1) : iblk m c 6 t = up2 (a.WB 3) := by
  funext i; idx_vars i
  blk_simp [iblk]
  have ei : win0_6.index t = ![3, 0] := by rw [wi6]; congr 1; omega
  have e : (win0_6.blk t).view.emb (ix2 i0 i1) = ix2 ⟨1024 * 3 + i0.val, by omega⟩ i1 := by blk_ext [ei]
  rw [e, V_v3 h]
  rfl

theorem iblk5_4 (t : Fin cfg0.N) (b : ℕ) (ht : t.val = 4 * b + 2) : iblk m c 5 t = up2 (a.WB 4) := by
  funext i; idx_vars i
  blk_simp [iblk]
  have ei : win0_5.index t = ![4, 0] := by rw [wi5]; congr 1; omega
  have e : (win0_5.blk t).view.emb (ix2 i0 i1) = ix2 ⟨1024 * 4 + i0.val, by omega⟩ i1 := by blk_ext [ei]
  rw [e, V_v3 h]
  rfl

theorem iblk6_5 (t : Fin cfg0.N) (b : ℕ) (ht : t.val = 4 * b + 2) : iblk m c 6 t = up2 (a.WB 5) := by
  funext i; idx_vars i
  blk_simp [iblk]
  have ei : win0_6.index t = ![5, 0] := by rw [wi6]; congr 1; omega
  have e : (win0_6.blk t).view.emb (ix2 i0 i1) = ix2 ⟨1024 * 5 + i0.val, by omega⟩ i1 := by blk_ext [ei]
  rw [e, V_v3 h]
  rfl

theorem iblk5_6 (t : Fin cfg0.N) (b : ℕ) (ht : t.val = 4 * b + 3) : iblk m c 5 t = up2 (a.WB 6) := by
  funext i; idx_vars i
  blk_simp [iblk]
  have ei : win0_5.index t = ![6, 0] := by rw [wi5]; congr 1; omega
  have e : (win0_5.blk t).view.emb (ix2 i0 i1) = ix2 ⟨1024 * 6 + i0.val, by omega⟩ i1 := by blk_ext [ei]
  rw [e, V_v3 h]
  rfl

theorem iblk7 (t : Fin cfg0.N) : iblk m c 7 t = up2 (fun _ : Fin 1 => a.w) := by
  funext i; idx_vars i
  blk_simp [iblk]
  have e : (win0_7.blk t).view.emb (ix2 i0 i1) = ix2 i0 i1 := by blk_ext [wi7]
  rw [V_main_arg1, h.w, e]

end Cert.Dhn
-- ==== Proof.DhnValue.lean ====
/- The in projection's gradient call over real arguments: what each step computes, and the two result arrays. -/
module

public import proofs.«01_k».proof.Proof.DhnHost

@[expose] public section

set_option maxRecDepth 16384

noncomputable section

namespace Cert.Dhn

open Cert.Kernel2Ideal Cert.Kernel2Ideal.Gen Idealize.ShloMosaic Idealize.ShloMosaic.TcCoe Cert.Lift Cert.Gate

/-! ## The steps over real blocks -/

abbrev Blk := Fin 1024 → Row
/-- The product of two blocks. -/
def mm (x y : Blk) : Blk := fun p d => ∑ k, x p k * y k d

theorem pay2_eq (x y x' y' : Blk) : k0_pay2 (F := Ideal) (up2 x) (up2 y) (up2 x') (up2 y') = up2 fun p d => mm x y p d + mm x' y' p d := by
  funext i; idx_vars i
  pointwise [k0_pay2]
  simp only [up2_ix, bits_zero, ← EReal.coe_mul, coe_sum, ← EReal.coe_add, zero_add]
  rfl

theorem pay3_eq (x y x' y' s : Blk) : k0_pay3 (F := Ideal) (up2 x) (up2 y) (up2 x') (up2 y') (up2 s) = up2 fun p d => s p d + (mm x y p d + mm x' y' p d) := by
  funext i; idx_vars i
  pointwise [k0_pay3]
  simp only [up2_ix, bits_zero, ← EReal.coe_mul, coe_sum, ← EReal.coe_add, zero_add]
  rfl

theorem pay4_eq (x y x' y' s : Blk) : k0_pay4 (F := Ideal) (up2 x) (up2 y) (up2 x') (up2 y') (up2 s) = up2 fun p d => s p d + (mm x y p d + mm x' y' p d) :=
  pay3_eq x y x' y' s

theorem pay5_eq (x y s : Blk) : k0_pay5 (F := Ideal) (up2 x) (up2 y) (up2 s) = up2 fun p d => s p d + mm x y p d := by
  funext i; idx_vars i
  pointwise [k0_pay5]
  simp only [up2_ix, bits_zero, ← EReal.coe_mul, coe_sum, ← EReal.coe_add, zero_add]
  rfl

theorem pay6_eq (n g : Blk) (s : Fin 1 → Row) : k0_pay6 (F := Ideal) (up2 n) (up2 g) (up2 s) = up2 fun r d => s r d + ∑ p, g p d * n p d := by
  funext i; idx_vars i
  pointwise [k0_pay6]
  simp only [up2_ix, bits_zero, ← EReal.coe_mul, coe_sum, ← EReal.coe_add, zero_add]

theorem pay7_eq (x : Blk) : k0_pay7 (F := Ideal) (up2 x) = up2 fun p _ => irt (x p) := by
  funext i; idx_vars i
  pointwise [k0_pay7]
  simp only [up2_ix, bits_zero, bits_1024, bits_eps, ← EReal.coe_mul, coe_sum, ← EReal.coe_add, zero_add, coe_div (show (1024 : ℝ) ≠ 0 by norm_num)]
  exact coe_rsqrt (msq_pos _)

theorem pay8_eq (x : Blk) : k0_pay8 (F := Ideal) (up2 x) = up2 fun p => xh (x p) := by
  funext i; idx_vars i
  pointwise [k0_pay8]
  rw [pay7_eq]
  exact (EReal.coe_mul _ _).symm

theorem pay9_eq (x g e : Blk) (w : Row) : k0_pay9 (F := Ideal) (up2 x) (up2 g) (up2 fun _ : Fin 1 => w) (up2 e) = up2 fun p => gx (x p) w (g p) (e p) := by
  funext i; idx_vars i
  pointwise [k0_pay9]
  rw [pay7_eq, pay8_eq]
  simp only [up2_ix, bits_zero, bits_1024, ← EReal.coe_mul, coe_sum, ← EReal.coe_add, ← EReal.coe_sub, zero_add, coe_div (show (1024 : ℝ) ≠ 0 by norm_num)]
  rfl

/-! ## The running sum, the result's rows and the weight's gradient -/

theorem pt_at {n : ℕ} (hn : n < 32) : (pt n).val = n := Nat.mod_eq_of_lt hn

/-- A token's part of the weight's gradient by its number, zero past the last token. -/
def gwz (a : Args) (r : ℕ) (d : Fin 1024) : ℝ := if h : r < 8192 then flat a.gw ⟨r, h⟩ d else 0

/-- A sum over a range, block by block. -/
theorem sum_blocks (f : ℕ → ℝ) (k n : ℕ) : ∑ b ∈ Finset.range n, ∑ p ∈ Finset.range k, f (k * b + p) = ∑ r ∈ Finset.range (k * n), f r := by
  induction n with
  | zero => simp
  | succ n ih => rw [Finset.sum_range_succ, ih, Nat.mul_succ, Finset.sum_range_add]

theorem gw_tokens (a : Args) (d : Fin 1024) : ∑ b : Fin 2, ∑ s : Fin 4096, a.gw b s d = ∑ b ∈ Finset.range 8, ∑ p : Fin 1024, gwz a (1024 * b + p.val) d := by
  have e1 : ∑ b : Fin 2, ∑ s : Fin 4096, a.gw b s d = ∑ b ∈ Finset.range 2, ∑ s ∈ Finset.range 4096, gwz a (4096 * b + s) d := by
    rw [← Fin.sum_univ_eq_sum_range (fun b => ∑ s ∈ Finset.range 4096, gwz a (4096 * b + s) d) 2]
    refine Finset.sum_congr rfl fun b _ => ?_
    rw [← Fin.sum_univ_eq_sum_range (fun s => gwz a (4096 * b.val + s) d) 4096]
    refine Finset.sum_congr rfl fun s _ => ?_
    unfold gwz flat
    rw [dif_pos (show 4096 * b.val + s.val < 8192 by omega)]
    have e0 : b = ⟨(4096 * b.val + s.val) / 4096, by omega⟩ := Fin.ext (show b.val = (4096 * b.val + s.val) / 4096 by omega)
    have e1 : s = ⟨(4096 * b.val + s.val) % 4096, by omega⟩ := Fin.ext (show s.val = (4096 * b.val + s.val) % 4096 by omega)
    exact congrFun (congrArg₂ a.gw e0 e1) d
  rw [e1, sum_blocks (fun r => gwz a r d) 4096 2]
  refine Eq.symm ((Finset.sum_congr rfl fun b _ => Fin.sum_univ_eq_sum_range (fun p => gwz a (1024 * b + p) d) 1024).trans ?_)
  exact sum_blocks (fun r => gwz a r d) 1024 8

variable {m : (ℓ : Loc nD τ sig) → Buf (Elt Ideal) ℓ} {c : Dev nD} {a : Args} (h : Holds m c a)
include h

/-- A block of rows of both batch entries. -/
def rowsAt {α : Type*} (f : Fin 8192 → α) (b : ℕ) (hb : b < 8) : Fin 1024 → α := fun p => f ⟨1024 * b + p.val, by omega⟩

theorem xRows_eq (b : ℕ) (hb : b < 8) : xRows m c b = up2 (rowsAt (flat a.x) b hb) := by
  funext i; idx_vars i
  have e : (rowsOf xM (rowOff b) (rowOff_inb b)).view.emb (ix2 i0 i1) = ix2 ⟨1024 * b + i0.val, by omega⟩ i1 := by
    funext k
    fin_cases k
    · exact Fin.ext (show 1024 * (b % 8) + 1 * i0.val = 1024 * b + i0.val by omega)
    · exact Fin.ext (show 0 + 1 * i1.val = i1.val by omega)
  show V m c main_v12 ((rowsOf xM (rowOff b) (rowOff_inb b)).view.emb (ix2 i0 i1)) = _
  rw [e, V_v12 h]
  rfl

theorem dRows_eq (b : ℕ) (hb : b < 8) : dRows m c b = up2 (rowsAt (flat a.e) b hb) := by
  funext i; idx_vars i
  have e : (rowsOf dM (rowOff b) (rowOff_inb b)).view.emb (ix2 i0 i1) = ix2 ⟨1024 * b + i0.val, by omega⟩ i1 := by
    funext k
    fin_cases k
    · exact Fin.ext (show 1024 * (b % 8) + 1 * i0.val = 1024 * b + i0.val by omega)
    · exact Fin.ext (show 0 + 1 * i1.val = i1.val by omega)
  show V m c main_v13 ((rowsOf dM (rowOff b) (rowOff_inb b)).view.emb (ix2 i0 i1)) = _
  rw [e, V_v13 h]
  rfl

theorem acc0_eq (b : ℕ) (hb : b < 8) : acc0 m c b = up2 fun p d => a.part b 0 p d + a.part b 1 p d := by
  have ht := pt_at (show 4 * b < 32 by omega)
  unfold acc0
  rw [iblk0_0 h _ b ht, iblk5_0 h _ b ht, iblk1_1 h _ b ht, iblk6_1 h _ b ht]
  exact pay2_eq _ _ _ _

theorem acc1_eq (b : ℕ) (hb : b < 8) : acc1 m c b = up2 fun p d => a.part b 0 p d + a.part b 1 p d + (a.part b 2 p d + a.part b 3 p d) := by
  have ht := pt_at (show 4 * b + 1 < 32 by omega)
  unfold acc1
  rw [acc0_eq h b hb, iblk2_2 h _ b ht, iblk5_2 h _ b ht, iblk3_3 h _ b ht, iblk6_3 h _ b ht]
  exact pay3_eq _ _ _ _ _

theorem acc2_eq (b : ℕ) (hb : b < 8) : acc2 m c b
    = up2 fun p d => a.part b 0 p d + a.part b 1 p d + (a.part b 2 p d + a.part b 3 p d) + (a.part b 4 p d + a.part b 5 p d) := by
  have ht := pt_at (show 4 * b + 2 < 32 by omega)
  unfold acc2
  rw [acc1_eq h b hb, iblk3_4 h _ b ht, iblk5_4 h _ b ht, iblk4_5 h _ b ht, iblk6_5 h _ b ht]
  exact pay4_eq _ _ _ _ _

theorem acc3_eq (b : ℕ) (hb : b < 8) : acc3 m c b = up2 (rowsAt (flat a.dh) b hb) := by
  have ht := pt_at (show 4 * b + 3 < 32 by omega)
  unfold acc3
  rw [acc2_eq h b hb, iblk4_6 h _ b ht, iblk5_6 h _ b ht]
  refine (pay5_eq _ _ _).trans (congrArg up2 ?_)
  funext p d
  exact a.parts b hb p d

theorem gxOut_eq (b : ℕ) (hb : b < 8) : gxOut m c b = up2 (rowsAt (flat a.gx) b hb) := by
  unfold gxOut
  rw [xRows_eq h b hb, dRows_eq h b hb, acc3_eq h b hb, iblk7 h]
  exact pay9_eq _ _ _ _

omit h in
theorem window0 (x : Fin 8 → Row) :
    (VecWindow.window (up2 x) ![0, 0] S1x1024.size inb_S8x1024_S1x1024_0_0 : Vec Ideal S1x1024 .f32) = up2 (n := 1) fun _ => x 0 := by
  funext i
  obtain ⟨p, q, rfl⟩ : ∃ (p : Fin 1) (q : Fin 1024), i = ix2 p q := ⟨i 0, i 1, eq_ix2 i⟩
  obtain rfl : p = 0 := Subsingleton.elim _ _
  unfold VecWindow.window up2
  exact congrArg (fun k : Fin 1024 => ((x 0 k : ℝ) : EReal)) (Fin.ext (show 0 + 1 * q.val = q.val by omega))

omit h in
theorem put0 (x : Fin 8 → Row) (y : Fin 1 → Row) :
    (VecWindow.put (up2 x) ![0, 0] S1x1024.size (up2 y) : Vec Ideal S8x1024 .f32) = up2 fun k d => if k.val = 0 then y 0 d else x k d := by
  funext i; idx_vars i
  unfold VecWindow.put
  rw [up2_ix, up2_ix]
  by_cases hk : i0.val = 0
  · rw [if_pos hk, dif_pos (fun k => by
      fin_cases k
      · exact ⟨Nat.zero_le _, show i0.val < 0 + 1 by omega⟩
      · exact ⟨Nat.zero_le _, show i1.val < 0 + 1024 by omega⟩)]
    unfold up2
    exact congrArg₂ (fun (r : Fin 1) (k : Fin 1024) => ((y r k : ℝ) : EReal)) (Subsingleton.elim _ _) (Fin.ext (show i1.val - 0 = i1.val by omega))
  · rw [if_neg hk, dif_neg fun q => by
      have := (q 0).2
      exact hk (by have : i0.val < 0 + 1 := this; omega)]

theorem dwIn_eq (b : ℕ) (hb : b ≤ 8) : dwIn m c b
    = up2 (n := 8) (m := 1024) fun k d => if k.val = 0 then ∑ r ∈ Finset.range b, ∑ p : Fin 1024, gwz a (1024 * r + p.val) d else 0 := by
  induction b with
  | zero =>
    funext i; idx_vars i
    unfold dwIn
    pointwise [k0_pay1]
    simp only [up2_ix, bits_zero, Finset.range_zero, Finset.sum_empty, ite_self]
    rfl
  | succ b ih =>
    have hb' : b < 8 := hb
    unfold dwIn
    rw [ih (by omega), xRows_eq h b hb', acc3_eq h b hb', pay8_eq, window0, pay6_eq, put0]
    refine congrArg up2 ?_
    funext k d
    by_cases hk : k.val = 0
    · rw [if_pos hk, if_pos hk, Finset.sum_range_succ, if_pos (show (0 : Fin 8).val = 0 from rfl)]
      refine congrArg (_ + ·) (Finset.sum_congr rfl fun p _ => ?_)
      unfold gwz
      rw [dif_pos (show 1024 * b + p.val < 8192 by omega)]
      rfl
    · rw [if_neg hk, if_neg hk, if_neg hk]

/-! ## The arrays -/

theorem arr8 : (dats m 0 c).arrAt 8 cfg0.N = up2 (flat a.gx) :=
  (dats m 0 c).arrAt_eq_of_covers 8 (up2 (flat a.gx)) (by decide +kernel) fun t hf y => by
    have hN : t.val < 32 := t.isLt
    blk_simp
    rw [after0_8, gxOut_eq h (t.val / 4) (by omega)]
    idx_vars y
    have e : (win0_8.blk t).view.emb (ix2 y0 y1) = ix2 ⟨1024 * (t.val / 4) + y0.val, by omega⟩ y1 := by blk_ext [wi8]
    rw [e]; rfl

omit h in
theorem whole9 : ∀ t : Fin cfg0.N, t.val = 31 → (cfg0.win 9).WholeAt t := by decide +kernel

theorem arr9 : (dats m 0 c).arrAt 9 cfg0.N = up2 a.gw8 := by
  obtain ⟨t, ht⟩ : ∃ t : Fin cfg0.N, t.val = 31 := ⟨⟨31, by decide⟩, rfl⟩
  have e : (dats m 0 c).after 9 t = up2 a.gw8 := by
    rw [after0_9, show (t.val + 1) / 4 = 8 by omega, dwIn_eq h 8 le_rfl]
    refine congrArg up2 ?_
    funext k d
    unfold Args.gw8
    rw [gw_tokens]
  funext i
  refine ((dats m 0 c).arrAt_emb_eq_after_last 9 t (whole9 t ht) i).trans ?_
  blk_simp
  exact congrFun e _

end Cert.Dhn
-- ==== Proof.DhnRef.lean ====
/- The reference's stages over real arguments, each the lift of its real function. -/
module

public import proofs.«01_k».proof.Proof.DhnModel
public import proofs.«01_k».proof.Proof.GateRef
public import proofs.«01_k».proof.Proof.Gen.Reference2Ideal.Read

@[expose] public section

set_option maxRecDepth 16384

noncomputable section

namespace Cert.Dhn.Ref

open Cert.Reference2Ideal Cert.Reference2Ideal.Gen Cert.Reference2Ideal.Value Cert.Reference2Ideal.Read Idealize.ShloMosaic Idealize.ShloMosaic.TcCoe Cert.Lift Cert.Gate Cert.Dhn
open Cert.ReferenceIdeal.Gate (sum_front)

variable (a : Args)

theorem r_v0 : val_main_v0 (F := Ideal) (up2 fun _ : Fin 1 => a.w) = fun i => ((a.w (i 0) : ℝ) : EReal) := by
  funext i
  rw [val_main_v0_apply]
  exact congrArg (fun k : Fin 1024 => ((a.w k : ℝ) : EReal)) (Fin.ext (show (i 0).val % 1024 = (i 0).val from Nat.mod_eq_of_lt (i 0).isLt))

theorem r_v1 : val_main_v1 (F := Ideal) (up3 a.x) = up3 (k := 2) (n := 4096) (m := 1024) fun b s d => a.x b s d * a.x b s d := by
  funext i
  rw [val_main_v1_apply]
  exact (EReal.coe_mul _ _).symm

theorem r_v2 : val_main_v2 (F := Ideal) (up3 a.x) = up2 (n := 2) (m := 4096) fun b s => ∑ k, a.x b s k * a.x b s k := by
  funext i
  rw [val_main_v2_apply, r_v1]
  refine (congrArg (· + _) bits_zero).trans ((zero_add _).trans ?_)
  exact coe_sum _ _

theorem r_v5 : val_main_v5 (F := Ideal) (up3 a.x) = up3 (k := 2) (n := 4096) (m := 1) fun b s d => (∑ k, a.x b s k * a.x b s k) / 1024 := by
  funext i
  rw [val_main_v5_apply, val_main_v3_apply, val_main_v4_apply, r_v2]
  refine (congrArg (Ideal.div _) bits_1024).trans ?_
  exact coe_div (show (1024 : ℝ) ≠ 0 by norm_num)

theorem r_v7 : val_main_v7 (F := Ideal) (up3 a.x) = up3 (k := 2) (n := 4096) (m := 1) fun b s d => msq (a.x b s) := by
  funext i
  rw [val_main_v7_apply, r_v5, val_main_v6_apply]
  refine (congrArg (_ + ·) bits_eps).trans ?_
  exact (EReal.coe_add _ _).symm

theorem r_v8 : val_main_v8 (F := Ideal) (up3 a.x) = up3 (k := 2) (n := 4096) (m := 1) fun b s d => irt (a.x b s) := by
  funext i
  rw [val_main_v8_apply, r_v7]
  exact coe_rsqrt (msq_pos _)

theorem r_v9 : val_main_v9 (F := Ideal) (up3 a.x) = up3 (k := 2) (n := 4096) (m := 1) fun b s d => irt (a.x b s) / msq (a.x b s) := by
  funext i
  rw [val_main_v9_apply, r_v7, r_v8]
  exact coe_div (msq_pos _).ne'

theorem r_v11 : val_main_v11 (F := Ideal) (up3 a.x) = up3 (k := 2) (n := 4096) (m := 1) fun b s d => -(1 / 2) * (irt (a.x b s) / msq (a.x b s)) := by
  funext i
  rw [val_main_v11_apply, val_main_v10_apply, r_v9]
  refine (congrArg (· * _) bits_neg_half).trans ?_
  exact (EReal.coe_mul _ _).symm

theorem r_v13 : val_main_v13 (F := Ideal) (up3 a.x) = up3 (k := 2) (n := 4096) (m := 1024) fun b s d => xh (a.x b s) d := by
  funext i
  rw [val_main_v13_apply, val_main_v12_apply, r_v8]
  exact (EReal.coe_mul _ _).symm

theorem r_v17 : val_main_v17 (F := Ideal) (up3 fun _ : Fin 1 => a.W) = up2 a.W := by
  funext i
  rw [val_main_v17_apply]
  have h0 : (i 0).val < 1024 := (i 0).isLt
  have h1 : (i 1).val < 6672 := (i 1).isLt
  unfold up2 up3
  refine congrArg₂ (fun (d : Fin 1024) (j : Fin 6672) => ((a.W d j : ℝ) : EReal)) (Fin.ext ?_) (Fin.ext ?_)
  · show ((i 0).val * 6672 + (i 1).val) / 6672 % 1024 = (i 0).val; omega
  · show ((i 0).val * 6672 + (i 1).val) % 6672 = (i 1).val; omega

theorem r_v19 : val_main_v19 (F := Ideal) (up3 fun _ : Fin 1 => a.W) (up3 a.p) = up3 (k := 2) (n := 4096) (m := 1024) fun b s d => a.dh b s d := by
  funext i
  rw [val_main_v19_apply, r_v17]
  exact (Finset.sum_congr rfl fun k _ => (EReal.coe_mul _ _).symm).trans (coe_sum _ _)

theorem r_v20 : val_main_v20 (F := Ideal) (up3 a.x) (up3 fun _ : Fin 1 => a.W) (up3 a.p) = up3 (k := 2) (n := 4096) (m := 1024) fun b s d => a.gw b s d := by
  funext i
  rw [val_main_v20_apply, r_v13, r_v19]
  exact (EReal.coe_mul _ _).symm.trans (congrArg _ (mul_comm _ _))

theorem r_v21 : val_main_v21 (F := Ideal) (up3 a.x) (up3 fun _ : Fin 1 => a.W) (up3 a.p) = fun i => ((∑ b, ∑ s, a.gw b s (i 0) : ℝ) : EReal) := by
  unfold val_main_v21
  rw [r_v20]
  funext i
  refine (sum_front reducesTo_S2x4096x1024_S1024_d0_1 (up3 a.gw) _ i).trans ?_
  refine (congrArg (· + _) bits_zero).trans ((zero_add _).trans ?_)
  exact (Finset.sum_congr rfl fun b _ => coe_sum _ _).trans (coe_sum _ _)

theorem r_v22 : val_main_v22 (F := Ideal) (up3 a.x) (up3 fun _ : Fin 1 => a.W) (up3 a.p) = up3 (k := 1) (n := 1) (m := 1024) fun _ _ d => ∑ b, ∑ s, a.gw b s d := by
  funext i
  rw [val_main_v22_apply, r_v21]
  have h0 : (i 0).val < 1 := (i 0).isLt
  have h1 : (i 1).val < 1 := (i 1).isLt
  exact congrArg (fun k : Fin 1024 => ((∑ b, ∑ s, a.gw b s k : ℝ) : EReal)) (Fin.ext (show ((i 0).val * 1 + (i 1).val) * 1024 + (i 2).val = (i 2).val by omega))

theorem r_v25 : val_main_v25 (F := Ideal) (up3 a.x) (up3 fun _ : Fin 1 => a.W) (up3 a.p) = fun i => ((∑ b, ∑ s, a.gw b s (i 0) : ℝ) : EReal) := by
  unfold val_main_v25
  rw [r_v22]
  funext i
  refine (sum_front reducesTo_S1x1x1024_S1024_d0_1 _ _ i).trans ?_
  refine (congrArg (· + _) bits_zero).trans ((zero_add _).trans ?_)
  rw [Fin.sum_univ_one, Fin.sum_univ_one]
  rfl

theorem r_v23 : val_main_v23 (F := Ideal) (up2 fun _ : Fin 1 => a.w) = up3 (k := 2) (n := 4096) (m := 1024) fun b s d => a.w d := by
  funext i
  rw [val_main_v23_apply, val_main_v14_apply, r_v0]
  rfl

theorem r_v24 : val_main_v24 (F := Ideal) (up2 fun _ : Fin 1 => a.w) (up3 fun _ : Fin 1 => a.W) (up3 a.p) = up3 (k := 2) (n := 4096) (m := 1024) fun b s d => a.dh b s d * a.w d := by
  funext i
  rw [val_main_v24_apply, r_v19, r_v23]
  exact (EReal.coe_mul _ _).symm

theorem r_v26 : val_main_v26 (F := Ideal) (up3 a.x) (up2 fun _ : Fin 1 => a.w) (up3 fun _ : Fin 1 => a.W) (up3 a.p) = up3 (k := 2) (n := 4096) (m := 1024) fun b s d => a.x b s d * (a.dh b s d * a.w d) := by
  funext i
  rw [val_main_v26_apply, r_v24]
  exact (EReal.coe_mul _ _).symm

theorem r_v27 : val_main_v27 (F := Ideal) (up3 a.x) (up2 fun _ : Fin 1 => a.w) (up3 fun _ : Fin 1 => a.W) (up3 a.p) = up2 (n := 2) (m := 4096) fun b s => ∑ k, a.x b s k * (a.dh b s k * a.w k) := by
  funext i
  rw [val_main_v27_apply, r_v26]
  refine (congrArg (· + _) bits_zero).trans ((zero_add _).trans ?_)
  exact coe_sum _ _

theorem r_v28 : val_main_v28 (F := Ideal) (up3 a.x) (up2 fun _ : Fin 1 => a.w) (up3 fun _ : Fin 1 => a.W) (up3 a.p) = up3 (k := 2) (n := 4096) (m := 1) fun b s d => ∑ k, a.x b s k * (a.dh b s k * a.w k) := by
  funext i
  rw [val_main_v28_apply, r_v27]
  have h0 : (i 0).val < 2 := (i 0).isLt
  have h1 : (i 1).val < 4096 := (i 1).isLt
  have h2 : (i 2).val < 1 := (i 2).isLt
  unfold up2 up3
  refine congrArg₂ (fun (b : Fin 2) (s : Fin 4096) => ((∑ k, a.x b s k * (a.dh b s k * a.w k) : ℝ) : EReal)) (Fin.ext ?_) (Fin.ext ?_)
  · show (((i 0).val * 4096 + (i 1).val) * 1 + (i 2).val) / 4096 = (i 0).val; omega
  · show (((i 0).val * 4096 + (i 1).val) * 1 + (i 2).val) % 4096 = (i 1).val; omega

theorem r_v30 : val_main_v30 (F := Ideal) (up3 a.x) (up2 fun _ : Fin 1 => a.w) (up3 fun _ : Fin 1 => a.W) (up3 a.p) = up3 (k := 2) (n := 4096) (m := 1024) fun b s d => a.dh b s d * a.w d * irt (a.x b s) := by
  funext i
  rw [val_main_v30_apply, val_main_v29_apply, r_v24, r_v8]
  exact (EReal.coe_mul _ _).symm

theorem r_v31 : val_main_v31 (F := Ideal) (up3 a.x) (up2 fun _ : Fin 1 => a.w) (up3 fun _ : Fin 1 => a.W) (up3 a.p) (up3 a.e) = up3 (k := 2) (n := 4096) (m := 1024) fun b s d => a.e b s d + a.dh b s d * a.w d * irt (a.x b s) := by
  funext i
  rw [val_main_v31_apply, r_v30]
  exact (EReal.coe_add _ _).symm

theorem r_v32 : val_main_v32 (F := Ideal) (up3 a.x) (up2 fun _ : Fin 1 => a.w) (up3 fun _ : Fin 1 => a.W) (up3 a.p) = up3 (k := 2) (n := 4096) (m := 1) fun b s d => (∑ k, a.x b s k * (a.dh b s k * a.w k)) * (-(1 / 2) * (irt (a.x b s) / msq (a.x b s))) := by
  funext i
  rw [val_main_v32_apply, r_v28, r_v11]
  exact (EReal.coe_mul _ _).symm

theorem r_v34 : val_main_v34 (F := Ideal) (up3 a.x) (up2 fun _ : Fin 1 => a.w) (up3 fun _ : Fin 1 => a.W) (up3 a.p) = up3 (k := 2) (n := 4096) (m := 1) fun b s d => (∑ k, a.x b s k * (a.dh b s k * a.w k)) * (-(1 / 2) * (irt (a.x b s) / msq (a.x b s))) / 1024 := by
  funext i
  rw [val_main_v34_apply, r_v32, val_main_v33_apply]
  refine (congrArg (Ideal.div _) bits_1024).trans ?_
  exact coe_div (show (1024 : ℝ) ≠ 0 by norm_num)

theorem r_v35 : val_main_v35 (F := Ideal) (up3 a.x) (up2 fun _ : Fin 1 => a.w) (up3 fun _ : Fin 1 => a.W) (up3 a.p) = up2 (n := 2) (m := 4096) fun b s => (∑ k, a.x b s k * (a.dh b s k * a.w k)) * (-(1 / 2) * (irt (a.x b s) / msq (a.x b s))) / 1024 := by
  funext i
  rw [val_main_v35_apply, r_v34]
  refine (congrArg (· + _) bits_zero).trans ((zero_add _).trans ?_)
  rw [Fin.sum_univ_one]
  rfl

theorem r_v37 : val_main_v37 (F := Ideal) (up3 a.x) (up2 fun _ : Fin 1 => a.w) (up3 fun _ : Fin 1 => a.W) (up3 a.p) = up3 (k := 2) (n := 4096) (m := 1024) fun b s d => a.x b s d * ((∑ k, a.x b s k * (a.dh b s k * a.w k)) * (-(1 / 2) * (irt (a.x b s) / msq (a.x b s))) / 1024) := by
  funext i
  rw [val_main_v37_apply, val_main_v36_apply, r_v35]
  exact (EReal.coe_mul _ _).symm

theorem r_v38 : val_main_v38 (F := Ideal) (up3 a.x) (up2 fun _ : Fin 1 => a.w) (up3 fun _ : Fin 1 => a.W) (up3 a.p) (up3 a.e) = up3 (k := 2) (n := 4096) (m := 1024) fun b s d => a.e b s d + a.dh b s d * a.w d * irt (a.x b s) + a.x b s d * ((∑ k, a.x b s k * (a.dh b s k * a.w k)) * (-(1 / 2) * (irt (a.x b s) / msq (a.x b s))) / 1024) := by
  funext i
  rw [val_main_v38_apply, r_v31, r_v37]
  exact (EReal.coe_add _ _).symm

theorem r_v39 : val_main_v39 (F := Ideal) (up3 a.x) (up2 fun _ : Fin 1 => a.w) (up3 fun _ : Fin 1 => a.W) (up3 a.p) = up3 (k := 2) (n := 4096) (m := 1024) fun b s d => (∑ k, a.x b s k * (a.dh b s k * a.w k)) * (-(1 / 2) * (irt (a.x b s) / msq (a.x b s))) / 1024 * a.x b s d := by
  funext i
  rw [val_main_v39_apply, val_main_v36_apply, r_v35]
  exact (EReal.coe_mul _ _).symm

theorem r_v40 : val_main_v40 (F := Ideal) (up3 a.x) (up2 fun _ : Fin 1 => a.w) (up3 fun _ : Fin 1 => a.W) (up3 a.p) (up3 a.e) = up3 a.gx := by
  funext i
  rw [val_main_v40_apply, r_v38, r_v39]
  exact (EReal.coe_add _ _).symm.trans (congrArg _ (gx_eq (a.x (i 0) (i 1)) a.w (a.dh (i 0) (i 1)) (a.e (i 0) (i 1)) (i 2)))

theorem r_v41 : val_main_v41 (F := Ideal) (up3 a.x) (up2 fun _ : Fin 1 => a.w) (up3 fun _ : Fin 1 => a.W) (up3 a.p) (up3 a.e) = up2 (flat a.gx) := by
  unfold val_main_v41
  rw [r_v40]
  exact Cert.KernelIdeal.Gate.reshape_up3 _ _

theorem r_v42 : val_main_v42 (F := Ideal) (up3 a.x) (up3 fun _ : Fin 1 => a.W) (up3 a.p) = up2 (n := 1) (m := 1024) fun _ d => ∑ b, ∑ s, a.gw b s d := by
  funext i
  rw [val_main_v42_apply, r_v25]
  rfl

theorem r_v43 : val_main_v43 (F := Ideal) = up2 (n := 7) (m := 1024) fun _ _ => 0 := by
  funext i
  rw [val_main_v43_apply]
  exact bits_zero

theorem r_v44 : val_main_v44 (F := Ideal) (up3 a.x) (up3 fun _ : Fin 1 => a.W) (up3 a.p) = up2 a.gw8 := by
  unfold val_main_v44
  rw [r_v42, r_v43]
  funext i
  have hi : (i 0).val < 8 := (i 0).isLt
  unfold up2 Args.gw8
  split_ifs with h0
  · refine (concatenate_apply_piece 0 _ _ i 0 (by simp) S1x1024 _ rfl rfl 0 rfl (ix2 ⟨0, by decide⟩ (i 1)) (by intro b hb; fin_cases b <;> first | rfl | exact absurd rfl hb) (by rw [h0]; rfl)).trans rfl
  · refine (concatenate_apply_piece 0 _ _ i 1 (by simp) S7x1024 _ rfl rfl 1 rfl (ix2 ⟨(i 0).val - 1, by omega⟩ (i 1)) (by intro b hb; fin_cases b <;> first | rfl | exact absurd rfl hb) (show 1 + ((i 0).val - 1) = (i 0).val by omega)).trans rfl

end Cert.Dhn.Ref
-- ==== Proof.DhnClaim.lean ====
/- The in projection's gradient call's value claim: the precondition read, and the two programs' results the same lifts. -/
module

public import proofs.«01_k».proof.Defs
public import proofs.«01_k».proof.Proof.Gen.Pre_finite2
public import proofs.«01_k».proof.Proof.Gen.Reference2Ideal.Run
public import proofs.«01_k».proof.Proof.GatePre
public import proofs.«01_k».proof.Proof.DhnValue
public import proofs.«01_k».proof.Proof.DhnRef

@[expose] public section

noncomputable section

namespace Cert.Dhn

open Idealize.ShloMosaic Idealize.SL.Sem Cert.Lift Cert.Gate
open Cert.KernelIdeal.Gate (finite_of bits_inf andi_parts)

section
open Cert.Kernel2Ideal Cert.Kernel2Ideal.Gen Idealize.ShloMosaic.TcCoe

/-- Under the precondition device `c`'s arguments are lifts of real arrays. -/
theorem exists_args (m : (ℓ : Loc nD τ sig) → Buf (Elt Ideal) ℓ) (c : Dev nD)
    (h : Cert.Pre_finite2.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
        = fun _ => 1#1) : ∃ a : Args, Holds m c a := by
  have h := congrFun h (fun k => k.elim0)
  unfold Cert.Pre_finite2.fn Cert.Pre_finite2.fn_part1 at h
  obtain ⟨h, h4⟩ := andi_parts _ _ _ h
  obtain ⟨h, h3⟩ := andi_parts _ _ _ h
  obtain ⟨h, h2⟩ := andi_parts _ _ _ h
  obtain ⟨h0, h1⟩ := andi_parts _ _ _ h
  have f0 := finite_of (m ((c.tc : Thread nD τ).loc main_arg0)) _ (fun _ => bits_inf) _ _ _ _ h0
  have f1 := finite_of (m ((c.tc : Thread nD τ).loc main_arg1)) _ (fun _ => bits_inf) _ _ _ _ h1
  have f2 := finite_of (m ((c.tc : Thread nD τ).loc main_arg2)) _ (fun _ => bits_inf) _ _ _ _ h2
  have f3 := finite_of (m ((c.tc : Thread nD τ).loc main_arg3)) _ (fun _ => bits_inf) _ _ _ _ h3
  have f4 := finite_of (m ((c.tc : Thread nD τ).loc main_arg4)) _ (fun _ => bits_inf) _ _ _ _ h4
  refine ⟨⟨fun b s d => (m ((c.tc : Thread nD τ).loc main_arg0) (ix3 b s d)).toReal, fun d => (m ((c.tc : Thread nD τ).loc main_arg1) (ix2 (n0 := 1) 0 d)).toReal,
    fun d j => (m ((c.tc : Thread nD τ).loc main_arg2) (ix3 (n0 := 1) 0 d j)).toReal, fun b s j => (m ((c.tc : Thread nD τ).loc main_arg3) (ix3 b s j)).toReal,
    fun b s d => (m ((c.tc : Thread nD τ).loc main_arg4) (ix3 b s d)).toReal⟩, ?_, ?_, ?_, ?_, ?_⟩
  · funext i; idx_vars i; exact (f0 _).symm
  · funext i; obtain ⟨p, q, rfl⟩ : ∃ (p : Fin 1) (q : Fin 1024), i = ix2 p q := ⟨i 0, i 1, eq_ix2 i⟩
    obtain rfl : p = 0 := Subsingleton.elim _ _
    exact (f1 _).symm
  · funext i; obtain ⟨p, q, r, rfl⟩ : ∃ (p : Fin 1) (q : Fin 1024) (r : Fin 6672), i = ix3 p q r := ⟨i 0, i 1, i 2, eq_ix3 i⟩
    obtain rfl : p = 0 := Subsingleton.elim _ _
    exact (f2 _).symm
  · funext i; idx_vars i; exact (f3 _).symm
  · funext i; idx_vars i; exact (f4 _).symm

/-- The run with the result arrays. -/
theorem run_arrays (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      (r.2.mem ((c.tc : Thread nD τ).loc main_v14_0) = (dats m 0 c).arrAt 8 cfg0.N
      ∧ r.2.mem ((c.tc : Thread nD τ).loc main_v14_1) = (dats m 0 c).arrAt 9 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨⟨(h.1 c).1 8, (h.1 c).1 9⟩, args_kept m r h.1 c⟩) (run_main m ρ)
end

open Cert.Reference2Ideal.Value Cert.Reference2Ideal.Read in
theorem algebraic : Cert.algebraic_Kernel2Ideal_Reference2Ideal_pre_finite2 := by
  intro m g m' g' hpre hargs
  choose a ha using fun c => exists_args m c (hpre c)
  refine ⟨fun c => up2 (flat (a c).gx), fun c => up2 (a c).gw8, ?_, ?_⟩
  · refine (θ_run _ _ _).mono (fun r h c => ?_) (run_arrays m g)
    obtain ⟨⟨h0, h1⟩, hr⟩ := h c
    exact ⟨h0.trans (arr8 (ha c)), h1.trans (arr9 (ha c)), hr⟩
  · refine (θ_run _ _ _).mono (fun r h c => ?_) (Cert.Reference2Ideal.Value.run m' g')
    obtain ⟨h0, h1, hr⟩ := h c
    obtain ⟨e0, e1, e2, e3, e4⟩ := hargs c
    have e0 := e0.trans (ha c).x
    have e1 := e1.trans (ha c).w
    have e2 := e2.trans (ha c).W
    have e3 := e3.trans (ha c).p
    have e4 := e4.trans (ha c).e
    have s0 := val_main_v41_eq (F := Ideal) m' c
    have s1 := h1.trans (val_main_v44_eq (F := Ideal) _ _ _)
    rw [e0, e1, e2, e3, e4] at s0
    rw [e0, e2, e3] at s1
    exact ⟨h0.trans (s0.trans (Ref.r_v41 (a c))), s1.trans (Ref.r_v44 (a c)), hr⟩

end Cert.Dhn
-- ==== Proof.AttnModel.lean ====
module

public import proofs.«01_k».proof.Proof.Gen.Kernel3Ideal.Skeleton
public import proofs.«01_k».proof.Proof.Gen.Kernel3Ideal.Points
public import Idealize.ShloMosaic.Lib.VecWindow
public import Idealize.ShloMosaic.Lib.Pointwise.Index
public import Idealize.ShloMosaic.Lib.Tactic

@[expose] public section

set_option maxRecDepth 16384

/-!
# One key block of the attention, as a function

The kernel walks the key blocks from the diagonal backwards, and for each of the two heads of a pair it carries the sum of
the later keys' logarithms (`r0`, `r1`), the weighted sum of the values (`acc`) and the largest carried sum (`mx`).
-/

noncomputable section

namespace Cert.Attn

open Cert.Kernel3Ideal Cert.Kernel3Ideal.Gen
open Idealize.ShloMosaic

variable {F : FTy → Type} [FloatOps F] [Named F]

/-- The scores of a query block against both heads of a key block, the heads side by side. -/
def zz (q : FVec F S128x128 .bf16) (km : Vec F S1x256x128 .bf16) : FVec F S128x256 .f32 :=
  matmul dot_S128x128_S256x128_S128x256_1_1_0_0_n_n none q (shapeCast S256x128 km shapeCasts_S1x256x128_S256x128) (constant S128x256 .f32 0x00000000#32)
/-- The left and the right half of such a pair. -/
def half0 (x : FVec F S128x256 .f32) : FVec F S128x128 .f32 := extractStridedSlice S128x128 ![0, 0] x slices_S128x256_o0_0_S128x128
def half1 (x : FVec F S128x256 .f32) : FVec F S128x128 .f32 := extractStridedSlice S128x128 ![0, 128] x slices_S128x256_o0_128_S128x128
/-- The logarithm of the sigmoid of a score. -/
def lsig (z : FVec F S128x128 .f32) : FVec F S128x128 .f32 :=
  subf (minimumf z (broadcast S128x128 (Scalar.ofBits .f32 0x00000000#32)))
    (log (addf (broadcast S128x128 (Scalar.ofBits .f32 0x3F800000#32)) (exp (subf (broadcast S128x128 (Scalar.ofBits .f32 0x00000000#32)) (absf z)))))
/-- The logarithm of what a key leaves to the earlier ones. -/
def lrest (z : FVec F S128x128 .f32) : FVec F S128x128 .f32 := subf (lsig z) z
/-- The mask of the diagonal block, and a weight under it. -/
def lmask (mk : IVec S128x128 1) (x : FVec F S128x128 .f32) : FVec F S128x128 .f32 := select mk x (broadcast S128x128 (Scalar.ofBits .f32 0x00000000#32))
/-- The sums over the later keys of the block (left half) and over the whole block (right half). -/
def csum (uo : FVec F S256x256 .bf16) (l : FVec F S128x128 .f32) : FVec F S128x256 .f32 :=
  matmul dot_S128x256_S256x256_S128x256_1_0_0_1_n_n none
    (concatenate S128x256 1 [⟨S128x128, truncf .bf16 l bitsLt_bf16_f32⟩, ⟨S128x128, truncf .bf16 (subf l (extf .f32 (truncf .bf16 l bitsLt_bf16_f32) bitsLt_bf16_f32)) bitsLt_bf16_f32⟩] concatenates_S128x128_S128x128_S128x256_d1)
    uo (constant S128x256 .f32 0x00000000#32)
/-- The weights of a block. -/
def wts (la rest : FVec F S128x128 .f32) (cs : FVec F S128x256 .f32) : FVec F S128x128 .f32 := exp (addf (addf la rest) (half0 cs))
/-- The weighted values of a block, both heads at once. -/
def wv (w0 w1 : FVec F S128x128 .f32) (vm : Vec F S1x256x128 .bf16) : FVec F S128x128 .f32 :=
  matmul dot_S128x256_S256x128_S128x128_1_0_0_1_n_n none
    (concatenate S128x256 1 [⟨S128x128, truncf .bf16 w0 bitsLt_bf16_f32⟩, ⟨S128x128, truncf .bf16 w1 bitsLt_bf16_f32⟩] concatenates_S128x128_S128x128_S128x256_d1)
    (shapeCast S256x128 vm shapeCasts_S1x256x128_S256x128) (constant S128x128 .f32 0x00000000#32)
/-- The largest entry of two sums. -/
def top1 (r : FVec F S128x128 .f32) : F .f32 :=
  extractAt ![0, 0, 0] (shapeCast S1x1x1 (multiReduction .maximumf [1, 2] S1 (shapeCast S1x128x128 r shapeCasts_S128x128_S1x128x128) 0xFF800000#32 reduces_S1x128x128_S1 (.inl rfl) rfl) shapeCasts_S1_S1x1x1) inpos_S1x1x1_p0_0_0
def top (r0 r1 : FVec F S128x128 .f32) : F .f32 := Scalar.maximumf (top1 r0) (top1 r1)

/-- What is carried from key block to key block. -/
structure St (F : FTy → Type) [FloatOps F] where
  r0 : FVec F S128x128 .f32
  r1 : FVec F S128x128 .f32
  acc : FVec F S128x128 .f32

/-- One key block off the diagonal. -/
def tstep (q : FVec F S128x128 .bf16) (uo : FVec F S256x256 .bf16) (km vm : Vec F S1x256x128 .bf16) (s : St F) : St F where
  r0 := addf s.r0 (half1 (csum uo (lrest (half0 (zz q km)))))
  r1 := addf s.r1 (half1 (csum uo (lrest (half1 (zz q km)))))
  acc := addf s.acc (wv (wts (lsig (half0 (zz q km))) s.r0 (csum uo (lrest (half0 (zz q km))))) (wts (lsig (half1 (zz q km))) s.r1 (csum uo (lrest (half1 (zz q km))))) vm)

/-- The diagonal key block. -/
def mstep (mk : IVec S128x128 1) (q : FVec F S128x128 .bf16) (uo : FVec F S256x256 .bf16) (km vm : Vec F S1x256x128 .bf16) (s : St F) : St F where
  r0 := addf s.r0 (half1 (csum uo (lmask mk (lrest (half0 (zz q km))))))
  r1 := addf s.r1 (half1 (csum uo (lmask mk (lrest (half1 (zz q km))))))
  acc := addf s.acc (wv (lmask mk (wts (lsig (half0 (zz q km))) s.r0 (csum uo (lmask mk (lrest (half0 (zz q km)))))))
    (lmask mk (wts (lsig (half1 (zz q km))) s.r1 (csum uo (lmask mk (lrest (half1 (zz q km))))))) vm)

/-- What a loop over key blocks hands on: the number of blocks left, what is carried, and the largest carried sum. -/
abbrev LR (F : FTy → Type) [FloatOps F] : Type := BitVec 32 × FVec F S128x128 .f32 × FVec F S128x128 .f32 × FVec F S128x128 .f32 × F .f32
/-- The number of the next key block when `m` are left. -/
def kb (m : ℕ) : BitVec 32 := BitVec.ofNat 32 m - 1#32
def out (r : ℕ × St F × F .f32) : LR F := (kb r.1, r.2.1.r0, r.2.1.r1, r.2.1.acc, r.2.2)
/-- Whether a loop goes on: the largest carried sum is not below the threshold. -/
def goes (x : F .f32) : Bool := decide (Scalar.cmpf .oge x (Named.named κ "exit" 0xC2D20000#32) = 1#1)

/-- Key block `n` of a prepared array. -/
def blk (X : Vec F S32x256x128 .bf16) (n : ℕ) : Vec F S1x256x128 .bf16 := fun x => X (ix3 (⟨n % 32, Nat.mod_lt _ (by decide)⟩ : Fin 32) (x 1) (x 2))

/-- The loop that takes two blocks at a time, with `m` blocks left. -/
def two (q : FVec F S128x128 .bf16) (uo : FVec F S256x256 .bf16) (X Y : Vec F S32x256x128 .bf16) : ℕ → St F → F .f32 → ℕ × St F × F .f32
  | m + 2, s, x =>
    if goes x then
      let s' := tstep q uo (blk X m) (blk Y m) (tstep q uo (blk X (m + 1)) (blk Y (m + 1)) s)
      two q uo X Y m s' (top s'.r0 s'.r1)
    else (m + 2, s, x)
  | m, s, x => (m, s, x)
/-- The loop that takes one block at a time. -/
def one (q : FVec F S128x128 .bf16) (uo : FVec F S256x256 .bf16) (X Y : Vec F S32x256x128 .bf16) : ℕ → St F → F .f32 → ℕ × St F × F .f32
  | m + 1, s, x =>
    if goes x then
      let s' := tstep q uo (blk X m) (blk Y m) s
      one q uo X Y m s' (top s'.r0 s'.r1)
    else (m + 1, s, x)
  | 0, s, x => (0, s, x)

theorem two_le (q : FVec F S128x128 .bf16) (uo : FVec F S256x256 .bf16) (X Y : Vec F S32x256x128 .bf16) :
    ∀ (m : ℕ) (s : St F) (x : F .f32), (two q uo X Y m s x).1 ≤ m := by
  intro m
  induction m using Nat.strong_induction_on with
  | _ m ih =>
    intro s x
    match m, ih with
    | 0, _ => exact le_refl _
    | 1, _ => exact le_refl _
    | m + 2, ih =>
      rw [two]
      split
      · exact (ih m (by omega) _ _).trans (by omega)
      · exact le_refl _

/-! ## A query block -/

/-- The zero block, and what is carried before the diagonal. -/
def zero : FVec F S128x128 .f32 := broadcast S128x128 (Scalar.ofBits .f32 0x00000000#32)
def st0 : St F := ⟨zero, zero, zero⟩
/-- The rows of the two heads of query block `n`, and their sum. -/
def lo (X : Vec F S32x256x128 .bf16) (n : ℕ) : Vec F S1x128x128 .bf16 := fun x =>
  X (ix3 (⟨n % 32, Nat.mod_lt _ (by decide)⟩ : Fin 32) (⟨(x 1).val, lt_of_lt_of_le (x 1).isLt (by decide)⟩ : Fin 256) (x 2))
def hi (X : Vec F S32x256x128 .bf16) (n : ℕ) : Vec F S1x128x128 .bf16 := fun x =>
  X (ix3 (⟨n % 32, Nat.mod_lt _ (by decide)⟩ : Fin 32) (⟨128 + (x 1).val, Nat.add_lt_add_left (show (x 1).val < 128 from (x 1).isLt) 128⟩ : Fin 256) (x 2))
def qpair (X : Vec F S32x256x128 .bf16) (n : ℕ) : FVec F S128x128 .bf16 :=
  addf (shapeCast S128x128 (lo X n) shapeCasts_S1x128x128_S128x128) (shapeCast S128x128 (hi X n) shapeCasts_S1x128x128_S128x128)

section
variable (uo : FVec F S256x256 .bf16) (mk : IVec S128x128 1) (Q X Y : Vec F S32x256x128 .bf16)
/-- The diagonal block and the first two off it. -/
def st1 (n : ℕ) : St F := mstep mk (qpair Q n) uo (blk X n) (blk Y n) st0
def st2 (n : ℕ) : St F := tstep (qpair Q (n + 1)) uo (blk X n) (blk Y n) (st1 uo mk Q X Y (n + 1))
def st3 (n : ℕ) : St F := tstep (qpair Q (n + 2)) uo (blk X n) (blk Y n) (st2 uo mk Q X Y (n + 1))
/-- The result's rows of query block `n`. -/
def oBlk : ℕ → FVec F S128x128 .f32
  | 0 => (st1 uo mk Q X Y 0).acc
  | 1 => (st2 uo mk Q X Y 0).acc
  | n + 2 =>
    let s := st3 uo mk Q X Y n
    let r := two (qpair Q (n + 2)) uo X Y n s (top s.r0 s.r1)
    (one (qpair Q (n + 2)) uo X Y r.1 r.2.1 r.2.2).2.1.acc
end

theorem kb_ge0 : ∀ m : Fin 33, (Scalar.cmpi .sge (kb m) 0#32 = 1#1 ↔ 1 ≤ m.val) := by decide +kernel
theorem kb_ge1 : ∀ m : Fin 33, (Scalar.cmpi .sge (kb m) 1#32 = 1#1 ↔ 2 ≤ m.val) := by decide +kernel
theorem kb_off6 : ∀ m : Fin 32, k0_off18 (kb (m + 1)) = ![m.val, 0, 0] := by decide +kernel
theorem kb_off8 : ∀ m : Fin 32, k0_off21 (kb (m + 1)) = ![m.val, 0, 0] := by decide +kernel
theorem kb_off5 : ∀ m : Fin 31, k0_off17 (kb (m + 2)) 0#32 = ![m.val + 1, 0, 0] ∧ k0_off17 (kb (m + 2)) 1#32 = ![m.val, 0, 0] := by decide +kernel
theorem kb_off7 : ∀ m : Fin 31, k0_off20 (kb (m + 2)) 0#32 = ![m.val + 1, 0, 0] ∧ k0_off20 (kb (m + 2)) 1#32 = ![m.val, 0, 0] := by decide +kernel
theorem kb_sub1 : ∀ m : Fin 32, Scalar.subi (kb (m + 1)) 1#32 = kb m := by decide +kernel
theorem kb_sub2 : ∀ m : Fin 31, Scalar.subi (kb (m + 2)) 2#32 = kb m := by decide +kernel

theorem andi_true (a b : BitVec 1) : Scalar.andi a b = 1#1 ↔ a = 1#1 ∧ b = 1#1 := by revert a b; decide

end Cert.Attn
-- ==== Proof.AttnWhile.lean ====
module

public import proofs.«01_k».proof.Proof.AttnModel
public import proofs.«01_k».proof.Proof.Gen.Kernel3Ideal.Launch

@[expose] public section

set_option maxRecDepth 16384

/-!
# The loops over the key blocks

Each loop is a label that calls itself. It only reads the prepared keys and values, and hands on what the functions `two` and `one` say.
-/

noncomputable section

namespace Cert.Attn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The loops' variants: the number of key blocks left. -/
abbrev 𝒱₀ : Variants := Variants.nat

/-- A whole buffer held at the contents `f`. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

theorem window_blk (X : Vec F S32x256x128 .bf16) (n : ℕ) (hn : n < 32) (h) : VecWindow.window X ![n, 0, 0] S1x256x128.size h = blk X n := by
  funext y
  unfold VecWindow.window blk
  congr 1
  funext a
  apply Fin.ext
  have h0 : (y 0).val = 0 := Nat.lt_one_iff.mp (y 0).isLt
  fin_cases a
  · show n + 1 * (y 0).val = n % 32; rw [h0, Nat.mod_eq_of_lt hn]; rfl
  · show 0 + 1 * (y 1).val = (y 1).val; omega
  · show 0 + 1 * (y 2).val = (y 2).val; omega

/-- A load of one block reads that block. -/
theorem read_blk (v : View sig .tc .vmem S32x256x128 .bf16) (f : v.ty.Contents (Elt F)) (off : Fin 3 → ℕ) (inb) (n : ℕ) (hn : n < 32) (h : off = ![n, 0, 0]) :
    v.readAt (Elt F) (Rect.unit (s := S32x256x128) off S1x256x128.size inb).toLoadRect f = blk (v.read (Elt F) f) n := by
  subst h
  exact (View.readAt_unit v f inb rfl inb).trans (window_blk _ n hn _)

section
variable (c : Dev nD) (a9 a10 : Memref sig .tc .vmem S32x256x128 .bf16) (f9 : HbBuf (F := F) c a9) (f10 : HbBuf (F := F) c a10)

def held : sProp 𝕄 := iprop(hbPt c a9 f9 ∗ hbPt c a10 f10)
def spec (r : LR F) : sWPT 𝕄 (LR F) := do
  sWPT.consume (held c a9 a10 f9 f10)
  sWPT.produce (held c a9 a10 f9 f10)
  pure r
theorem spec_apply (r : LR F) (K : LR F → sProp 𝕄) : spec c a9 a10 f9 f10 r K = iprop(held c a9 a10 f9 f10 ∗ (held c a9 a10 f9 f10 -∗ K r)) := rfl

variable (g9 : a9.IsWhole) (g10 : a10.IsWhole) (i : grid0.Coords) (q : FVec F S128x128 .bf16) (uo : FVec F S256x256 .bf16) (k4 : Fin k0_t4_loop.trips)

theorem spec5 (E : Set ℕ) : ∀ m, m ≤ 32 → ∀ (s : St F) (x : F .f32) K,
    spec c a9 a10 f9 f10 (out (two q uo (a9.view.read (Elt F) f9) (a10.view.read (Elt F) f10) m s x)) K
      ⊢ wp frame (wpE (defs₀ (F := F)) 𝒱₀ (c : Thread nD τ) (some m)) E
        (defs₀ (F := F) .tc 5 ⟨i, k4, a9, g9, q, uo, a10, g10, kb m, s.r0, s.r1, s.acc, x⟩) K := by
  intro m
  induction m using Nat.strong_induction_on with
  | _ m ih =>
    intro hm s x K
    rw [spec_apply]
    show _ ⊢ wp frame (wpE (defs₀ (F := F)) 𝒱₀ (c : Thread nD τ) (some m)) E (cc0_while5 i k4 a9 g9 q uo a10 g10 (kb m) s.r0 s.r1 s.acc x) K
    rw [cc0_while5_eq_skeleton]; unfold cc0_while5_skel
    by_cases hgo : 2 ≤ m ∧ Scalar.cmpf .oge x (Named.named κ "exit" 0xC2D20000#32) = 1#1
    · obtain ⟨h2, hx⟩ := hgo
      obtain ⟨n, rfl⟩ : ∃ n, m = n + 2 := ⟨m - 2, by omega⟩
      have htest : Scalar.andi (Scalar.cmpi .sge (kb (n + 2)) 1#32) (Scalar.cmpf .oge x (Named.named κ "exit" 0xC2D20000#32)) = 1#1 :=
        (andi_true _ _).mpr ⟨(kb_ge1 ⟨n + 2, by omega⟩).mpr h2, hx⟩
      have hoff0 : k0_off17 (kb (n + 2)) 0#32 = ![n + 1, 0, 0] := (kb_off5 ⟨n, by omega⟩).1
      have hoff1 : k0_off17 (kb (n + 2)) 1#32 = ![n, 0, 0] := (kb_off5 ⟨n, by omega⟩).2
      have hsub : Scalar.subi (kb (n + 2)) 2#32 = kb n := kb_sub2 ⟨n, by omega⟩
      have hchk : k0_chk5 (kb (n + 2)) := by
        unfold k0_chk5; intro r a
        fin_cases r
        · show k0_off17 (kb (n + 2)) 0#32 a + _ ≤ _
          rw [hoff0]; fin_cases a
          · show n + 1 + 1 ≤ 32; omega
          · show 0 + 256 ≤ 256; omega
          · show 0 + 128 ≤ 128; omega
        · show k0_off17 (kb (n + 2)) 1#32 a + _ ≤ _
          rw [hoff1]; fin_cases a
          · show n + 1 ≤ 32; omega
          · show 0 + 256 ≤ 256; omega
          · show 0 + 128 ≤ 128; omega
      rw [two, show goes x = true from decide_eq_true hx, if_pos rfl]
      simp only [k0_part43_eq_skeleton, k0_part44_eq_skeleton]; unfold k0_part43_skel k0_part44_skel
      simp only [htest, ↓reduceIte, Prog.lift, Prog.bind_op, Prog.bind_ret, Prog.pure_eq_ret]
      unfold held
      iintro ⟨⟨H9, H10⟩, Hk⟩
      iapply (wp_assume 𝒱₀ (c : Thread nD τ) (some (n + 2)) E hchk)
      iapply (wp_load 𝒱₀ (c : Thread nD τ) (some (n + 2)) E (m := a9) (Finset.subset_univ _)) $$ H9; iintro H9
      iapply (wp_load 𝒱₀ (c : Thread nD τ) (some (n + 2)) E (m := a9) (Finset.subset_univ _)) $$ H9; iintro H9
      iapply (wp_load 𝒱₀ (c : Thread nD τ) (some (n + 2)) E (m := a10) (Finset.subset_univ _)) $$ H10; iintro H10
      iapply (wp_load 𝒱₀ (c : Thread nD τ) (some (n + 2)) E (m := a10) (Finset.subset_univ _)) $$ H10; iintro H10
      rw [read_blk a9.view f9 _ _ (n + 1) (by omega) hoff0, read_blk a10.view f10 _ _ (n + 1) (by omega) hoff0,
        read_blk a9.view f9 _ _ n (by omega) hoff1, read_blk a10.view f10 _ _ n (by omega) hoff1, hsub]
      iapply (wp_call_spec 𝒱₀ (c : Thread nD τ) (some (n + 2)) E
        (spec c a9 a10 f9 f10 (out <| two q uo (a9.view.read (Elt F) f9) (a10.view.read (Elt F) f10) n
          (tstep q uo (blk (a9.view.read (Elt F) f9) n) (blk (a10.view.read (Elt F) f10) n) (tstep q uo (blk (a9.view.read (Elt F) f9) (n + 1)) (blk (a10.view.read (Elt F) f10) (n + 1)) s))
          (top (tstep q uo (blk (a9.view.read (Elt F) f9) n) (blk (a10.view.read (Elt F) f10) n) (tstep q uo (blk (a9.view.read (Elt F) f9) (n + 1)) (blk (a10.view.read (Elt F) f10) (n + 1)) s)).r0
            (tstep q uo (blk (a9.view.read (Elt F) f9) n) (blk (a10.view.read (Elt F) f10) n) (tstep q uo (blk (a9.view.read (Elt F) f9) (n + 1)) (blk (a10.view.read (Elt F) f10) (n + 1)) s)).r1))) n
        (fun u hu => by cases hu; exact Nat.lt_add_of_pos_right (by decide)) (ih n (by omega) (by omega) _ _))
      rw [spec_apply]; unfold held
      isplitl [H9 H10]
      · isplitl [H9]; · iexact H9
        iexact H10
      iintro H
      rw [wp_ret]; imodintro
      iapply Hk
      iexact H
    · have htest : ¬ Scalar.andi (Scalar.cmpi .sge (kb m) 1#32) (Scalar.cmpf .oge x (Named.named κ "exit" 0xC2D20000#32)) = 1#1 := fun h =>
        hgo ⟨(kb_ge1 ⟨m, by omega⟩).mp ((andi_true _ _).mp h).1, ((andi_true _ _).mp h).2⟩
      rw [show out (two q uo (a9.view.read (Elt F) f9) (a10.view.read (Elt F) f10) m s x) = (kb m, s.r0, s.r1, s.acc, x) from by
        match m, hgo with
        | 0, _ => rfl
        | 1, _ => rfl
        | m + 2, hgo => rw [two, show goes x = false from decide_eq_false fun h => hgo ⟨by omega, h⟩, if_neg Bool.false_ne_true]; rfl]
      simp only [htest, ↓reduceIte, Prog.pure_eq_ret]
      iintro ⟨H, Hk⟩
      rw [wp_ret]; imodintro
      iapply Hk
      iexact H

theorem spec7 (E : Set ℕ) : ∀ m, m ≤ 32 → ∀ (s : St F) (x : F .f32) K,
    spec c a9 a10 f9 f10 (out (two q uo (a9.view.read (Elt F) f9) (a10.view.read (Elt F) f10) m s x)) K
      ⊢ wp frame (wpE (defs₀ (F := F)) 𝒱₀ (c : Thread nD τ) (some m)) E
        (defs₀ (F := F) .tc 7 ⟨i, k4, a9, g9, q, uo, a10, g10, kb m, s.r0, s.r1, s.acc, x⟩) K := by
  intro m
  induction m using Nat.strong_induction_on with
  | _ m ih =>
    intro hm s x K
    rw [spec_apply]
    show _ ⊢ wp frame (wpE (defs₀ (F := F)) 𝒱₀ (c : Thread nD τ) (some m)) E (cc0_while7 i k4 a9 g9 q uo a10 g10 (kb m) s.r0 s.r1 s.acc x) K
    rw [cc0_while7_eq_skeleton]; unfold cc0_while7_skel
    by_cases hgo : 2 ≤ m ∧ Scalar.cmpf .oge x (Named.named κ "exit" 0xC2D20000#32) = 1#1
    · obtain ⟨h2, hx⟩ := hgo
      obtain ⟨n, rfl⟩ : ∃ n, m = n + 2 := ⟨m - 2, by omega⟩
      have htest : Scalar.andi (Scalar.cmpi .sge (kb (n + 2)) 1#32) (Scalar.cmpf .oge x (Named.named κ "exit" 0xC2D20000#32)) = 1#1 :=
        (andi_true _ _).mpr ⟨(kb_ge1 ⟨n + 2, by omega⟩).mpr h2, hx⟩
      have hoff0 : k0_off20 (kb (n + 2)) 0#32 = ![n + 1, 0, 0] := (kb_off7 ⟨n, by omega⟩).1
      have hoff1 : k0_off20 (kb (n + 2)) 1#32 = ![n, 0, 0] := (kb_off7 ⟨n, by omega⟩).2
      have hsub : Scalar.subi (kb (n + 2)) 2#32 = kb n := kb_sub2 ⟨n, by omega⟩
      have hchk : k0_chk7 (kb (n + 2)) := by
        unfold k0_chk7; intro r a
        fin_cases r
        · show k0_off20 (kb (n + 2)) 0#32 a + _ ≤ _
          rw [hoff0]; fin_cases a
          · show n + 1 + 1 ≤ 32; omega
          · show 0 + 256 ≤ 256; omega
          · show 0 + 128 ≤ 128; omega
        · show k0_off20 (kb (n + 2)) 1#32 a + _ ≤ _
          rw [hoff1]; fin_cases a
          · show n + 1 ≤ 32; omega
          · show 0 + 256 ≤ 256; omega
          · show 0 + 128 ≤ 128; omega
      rw [two, show goes x = true from decide_eq_true hx, if_pos rfl]
      simp only [k0_part46_eq_skeleton, k0_part47_eq_skeleton]; unfold k0_part46_skel k0_part47_skel
      simp only [htest, ↓reduceIte, Prog.lift, Prog.bind_op, Prog.bind_ret, Prog.pure_eq_ret]
      unfold held
      iintro ⟨⟨H9, H10⟩, Hk⟩
      iapply (wp_assume 𝒱₀ (c : Thread nD τ) (some (n + 2)) E hchk)
      iapply (wp_load 𝒱₀ (c : Thread nD τ) (some (n + 2)) E (m := a9) (Finset.subset_univ _)) $$ H9; iintro H9
      iapply (wp_load 𝒱₀ (c : Thread nD τ) (some (n + 2)) E (m := a9) (Finset.subset_univ _)) $$ H9; iintro H9
      iapply (wp_load 𝒱₀ (c : Thread nD τ) (some (n + 2)) E (m := a10) (Finset.subset_univ _)) $$ H10; iintro H10
      iapply (wp_load 𝒱₀ (c : Thread nD τ) (some (n + 2)) E (m := a10) (Finset.subset_univ _)) $$ H10; iintro H10
      rw [read_blk a9.view f9 _ _ (n + 1) (by omega) hoff0, read_blk a10.view f10 _ _ (n + 1) (by omega) hoff0,
        read_blk a9.view f9 _ _ n (by omega) hoff1, read_blk a10.view f10 _ _ n (by omega) hoff1, hsub]
      iapply (wp_call_spec 𝒱₀ (c : Thread nD τ) (some (n + 2)) E
        (spec c a9 a10 f9 f10 (out <| two q uo (a9.view.read (Elt F) f9) (a10.view.read (Elt F) f10) n
          (tstep q uo (blk (a9.view.read (Elt F) f9) n) (blk (a10.view.read (Elt F) f10) n) (tstep q uo (blk (a9.view.read (Elt F) f9) (n + 1)) (blk (a10.view.read (Elt F) f10) (n + 1)) s))
          (top (tstep q uo (blk (a9.view.read (Elt F) f9) n) (blk (a10.view.read (Elt F) f10) n) (tstep q uo (blk (a9.view.read (Elt F) f9) (n + 1)) (blk (a10.view.read (Elt F) f10) (n + 1)) s)).r0
            (tstep q uo (blk (a9.view.read (Elt F) f9) n) (blk (a10.view.read (Elt F) f10) n) (tstep q uo (blk (a9.view.read (Elt F) f9) (n + 1)) (blk (a10.view.read (Elt F) f10) (n + 1)) s)).r1))) n
        (fun u hu => by cases hu; exact Nat.lt_add_of_pos_right (by decide)) (ih n (by omega) (by omega) _ _))
      rw [spec_apply]; unfold held
      isplitl [H9 H10]
      · isplitl [H9]; · iexact H9
        iexact H10
      iintro H
      rw [wp_ret]; imodintro
      iapply Hk
      iexact H
    · have htest : ¬ Scalar.andi (Scalar.cmpi .sge (kb m) 1#32) (Scalar.cmpf .oge x (Named.named κ "exit" 0xC2D20000#32)) = 1#1 := fun h =>
        hgo ⟨(kb_ge1 ⟨m, by omega⟩).mp ((andi_true _ _).mp h).1, ((andi_true _ _).mp h).2⟩
      rw [show out (two q uo (a9.view.read (Elt F) f9) (a10.view.read (Elt F) f10) m s x) = (kb m, s.r0, s.r1, s.acc, x) from by
        match m, hgo with
        | 0, _ => rfl
        | 1, _ => rfl
        | m + 2, hgo => rw [two, show goes x = false from decide_eq_false fun h => hgo ⟨by omega, h⟩, if_neg Bool.false_ne_true]; rfl]
      simp only [htest, ↓reduceIte, Prog.pure_eq_ret]
      iintro ⟨H, Hk⟩
      rw [wp_ret]; imodintro
      iapply Hk
      iexact H

theorem spec6 (E : Set ℕ) : ∀ m, m ≤ 32 → ∀ (s : St F) (x : F .f32) K,
    spec c a9 a10 f9 f10 (out (one q uo (a9.view.read (Elt F) f9) (a10.view.read (Elt F) f10) m s x)) K
      ⊢ wp frame (wpE (defs₀ (F := F)) 𝒱₀ (c : Thread nD τ) (some m)) E
        (defs₀ (F := F) .tc 6 ⟨i, k4, a9, g9, q, uo, a10, g10, kb m, s.r0, s.r1, s.acc, x⟩) K := by
  intro m
  induction m with
  | zero =>
    intro hm s x K
    rw [spec_apply, show out (one q uo (a9.view.read (Elt F) f9) (a10.view.read (Elt F) f10) 0 s x) = (kb 0, s.r0, s.r1, s.acc, x) from rfl]
    show _ ⊢ wp frame (wpE (defs₀ (F := F)) 𝒱₀ (c : Thread nD τ) (some 0)) E (cc0_while6 i k4 a9 g9 q uo a10 g10 (kb 0) s.r0 s.r1 s.acc x) K
    rw [cc0_while6_eq_skeleton]; unfold cc0_while6_skel
    have htest : ¬ Scalar.andi (Scalar.cmpi .sge (kb 0) 0#32) (Scalar.cmpf .oge x (Named.named κ "exit" 0xC2D20000#32)) = 1#1 := fun h =>
      absurd ((kb_ge0 ⟨0, by decide⟩).mp ((andi_true _ _).mp h).1) (by decide)
    simp only [htest, ↓reduceIte, Prog.pure_eq_ret]
    iintro ⟨H, Hk⟩
    rw [wp_ret]; imodintro
    iapply Hk
    iexact H
  | succ m ih =>
    intro hm s x K
    rw [spec_apply]
    show _ ⊢ wp frame (wpE (defs₀ (F := F)) 𝒱₀ (c : Thread nD τ) (some (m + 1))) E (cc0_while6 i k4 a9 g9 q uo a10 g10 (kb (m + 1)) s.r0 s.r1 s.acc x) K
    rw [cc0_while6_eq_skeleton]; unfold cc0_while6_skel
    have h0 : Scalar.cmpi .sge (kb (m + 1)) 0#32 = 1#1 := (kb_ge0 ⟨m + 1, by omega⟩).mpr (Nat.le_add_left 1 m)
    by_cases hx : Scalar.cmpf .oge x (Named.named κ "exit" 0xC2D20000#32) = 1#1
    · have htest : Scalar.andi (Scalar.cmpi .sge (kb (m + 1)) 0#32) (Scalar.cmpf .oge x (Named.named κ "exit" 0xC2D20000#32)) = 1#1 := (andi_true _ _).mpr ⟨h0, hx⟩
      have hoff : k0_off18 (kb (m + 1)) = ![m, 0, 0] := kb_off6 ⟨m, by omega⟩
      have hsub : Scalar.subi (kb (m + 1)) 1#32 = kb m := kb_sub1 ⟨m, by omega⟩
      have hchk : k0_chk6 (kb (m + 1)) := by
        unfold k0_chk6; rw [hoff]; intro a; fin_cases a
        · show m + 1 ≤ 32; omega
        · show 0 + 256 ≤ 256; omega
        · show 0 + 128 ≤ 128; omega
      rw [one, show goes x = true from decide_eq_true hx, if_pos rfl]
      simp only [k0_part45_eq_skeleton]; unfold k0_part45_skel
      simp only [htest, ↓reduceIte, Prog.lift, Prog.bind_op, Prog.bind_ret, Prog.pure_eq_ret]
      unfold held
      iintro ⟨⟨H9, H10⟩, Hk⟩
      iapply (wp_assume 𝒱₀ (c : Thread nD τ) (some (m + 1)) E hchk)
      iapply (wp_load 𝒱₀ (c : Thread nD τ) (some (m + 1)) E (m := a9) (Finset.subset_univ _)) $$ H9; iintro H9
      iapply (wp_load 𝒱₀ (c : Thread nD τ) (some (m + 1)) E (m := a10) (Finset.subset_univ _)) $$ H10; iintro H10
      rw [read_blk a9.view f9 _ _ m (by omega) hoff, read_blk a10.view f10 _ _ m (by omega) hoff, hsub]
      iapply (wp_call_spec 𝒱₀ (c : Thread nD τ) (some (m + 1)) E
        (spec c a9 a10 f9 f10 (out <| one q uo (a9.view.read (Elt F) f9) (a10.view.read (Elt F) f10) m
          (tstep q uo (blk (a9.view.read (Elt F) f9) m) (blk (a10.view.read (Elt F) f10) m) s)
          (top (tstep q uo (blk (a9.view.read (Elt F) f9) m) (blk (a10.view.read (Elt F) f10) m) s).r0 (tstep q uo (blk (a9.view.read (Elt F) f9) m) (blk (a10.view.read (Elt F) f10) m) s).r1))) m
        (fun u hu => by cases hu; exact Nat.lt_succ_self m) (ih (by omega) _ _))
      rw [spec_apply]; unfold held
      isplitl [H9 H10]
      · isplitl [H9]; · iexact H9
        iexact H10
      iintro H
      rw [wp_ret]; imodintro
      iapply Hk
      iexact H
    · have htest : ¬ Scalar.andi (Scalar.cmpi .sge (kb (m + 1)) 0#32) (Scalar.cmpf .oge x (Named.named κ "exit" 0xC2D20000#32)) = 1#1 := fun h => hx ((andi_true _ _).mp h).2
      rw [one, show goes x = false from decide_eq_false hx, if_neg Bool.false_ne_true]; unfold out
      simp only [htest, ↓reduceIte, Prog.pure_eq_ret]
      iintro ⟨H, Hk⟩
      rw [wp_ret]; imodintro
      iapply Hk
      iexact H

theorem spec8 (E : Set ℕ) : ∀ m, m ≤ 32 → ∀ (s : St F) (x : F .f32) K,
    spec c a9 a10 f9 f10 (out (one q uo (a9.view.read (Elt F) f9) (a10.view.read (Elt F) f10) m s x)) K
      ⊢ wp frame (wpE (defs₀ (F := F)) 𝒱₀ (c : Thread nD τ) (some m)) E
        (defs₀ (F := F) .tc 8 ⟨i, k4, a9, g9, q, uo, a10, g10, kb m, s.r0, s.r1, s.acc, x⟩) K := by
  intro m
  induction m with
  | zero =>
    intro hm s x K
    rw [spec_apply, show out (one q uo (a9.view.read (Elt F) f9) (a10.view.read (Elt F) f10) 0 s x) = (kb 0, s.r0, s.r1, s.acc, x) from rfl]
    show _ ⊢ wp frame (wpE (defs₀ (F := F)) 𝒱₀ (c : Thread nD τ) (some 0)) E (cc0_while8 i k4 a9 g9 q uo a10 g10 (kb 0) s.r0 s.r1 s.acc x) K
    rw [cc0_while8_eq_skeleton]; unfold cc0_while8_skel
    have htest : ¬ Scalar.andi (Scalar.cmpi .sge (kb 0) 0#32) (Scalar.cmpf .oge x (Named.named κ "exit" 0xC2D20000#32)) = 1#1 := fun h =>
      absurd ((kb_ge0 ⟨0, by decide⟩).mp ((andi_true _ _).mp h).1) (by decide)
    simp only [htest, ↓reduceIte, Prog.pure_eq_ret]
    iintro ⟨H, Hk⟩
    rw [wp_ret]; imodintro
    iapply Hk
    iexact H
  | succ m ih =>
    intro hm s x K
    rw [spec_apply]
    show _ ⊢ wp frame (wpE (defs₀ (F := F)) 𝒱₀ (c : Thread nD τ) (some (m + 1))) E (cc0_while8 i k4 a9 g9 q uo a10 g10 (kb (m + 1)) s.r0 s.r1 s.acc x) K
    rw [cc0_while8_eq_skeleton]; unfold cc0_while8_skel
    have h0 : Scalar.cmpi .sge (kb (m + 1)) 0#32 = 1#1 := (kb_ge0 ⟨m + 1, by omega⟩).mpr (Nat.le_add_left 1 m)
    by_cases hx : Scalar.cmpf .oge x (Named.named κ "exit" 0xC2D20000#32) = 1#1
    · have htest : Scalar.andi (Scalar.cmpi .sge (kb (m + 1)) 0#32) (Scalar.cmpf .oge x (Named.named κ "exit" 0xC2D20000#32)) = 1#1 := (andi_true _ _).mpr ⟨h0, hx⟩
      have hoff : k0_off21 (kb (m + 1)) = ![m, 0, 0] := kb_off8 ⟨m, by omega⟩
      have hsub : Scalar.subi (kb (m + 1)) 1#32 = kb m := kb_sub1 ⟨m, by omega⟩
      have hchk : k0_chk8 (kb (m + 1)) := by
        unfold k0_chk8; rw [hoff]; intro a; fin_cases a
        · show m + 1 ≤ 32; omega
        · show 0 + 256 ≤ 256; omega
        · show 0 + 128 ≤ 128; omega
      rw [one, show goes x = true from decide_eq_true hx, if_pos rfl]
      simp only [k0_part48_eq_skeleton]; unfold k0_part48_skel
      simp only [htest, ↓reduceIte, Prog.lift, Prog.bind_op, Prog.bind_ret, Prog.pure_eq_ret]
      unfold held
      iintro ⟨⟨H9, H10⟩, Hk⟩
      iapply (wp_assume 𝒱₀ (c : Thread nD τ) (some (m + 1)) E hchk)
      iapply (wp_load 𝒱₀ (c : Thread nD τ) (some (m + 1)) E (m := a9) (Finset.subset_univ _)) $$ H9; iintro H9
      iapply (wp_load 𝒱₀ (c : Thread nD τ) (some (m + 1)) E (m := a10) (Finset.subset_univ _)) $$ H10; iintro H10
      rw [read_blk a9.view f9 _ _ m (by omega) hoff, read_blk a10.view f10 _ _ m (by omega) hoff, hsub]
      iapply (wp_call_spec 𝒱₀ (c : Thread nD τ) (some (m + 1)) E
        (spec c a9 a10 f9 f10 (out <| one q uo (a9.view.read (Elt F) f9) (a10.view.read (Elt F) f10) m
          (tstep q uo (blk (a9.view.read (Elt F) f9) m) (blk (a10.view.read (Elt F) f10) m) s)
          (top (tstep q uo (blk (a9.view.read (Elt F) f9) m) (blk (a10.view.read (Elt F) f10) m) s).r0 (tstep q uo (blk (a9.view.read (Elt F) f9) m) (blk (a10.view.read (Elt F) f10) m) s).r1))) m
        (fun u hu => by cases hu; exact Nat.lt_succ_self m) (ih (by omega) _ _))
      rw [spec_apply]; unfold held
      isplitl [H9 H10]
      · isplitl [H9]; · iexact H9
        iexact H10
      iintro H
      rw [wp_ret]; imodintro
      iapply Hk
      iexact H
    · have htest : ¬ Scalar.andi (Scalar.cmpi .sge (kb (m + 1)) 0#32) (Scalar.cmpf .oge x (Named.named κ "exit" 0xC2D20000#32)) = 1#1 := fun h => hx ((andi_true _ _).mp h).2
      rw [one, show goes x = false from decide_eq_false hx, if_neg Bool.false_ne_true]; unfold out
      simp only [htest, ↓reduceIte, Prog.pure_eq_ret]
      iintro ⟨H, Hk⟩
      rw [wp_ret]; imodintro
      iapply Hk
      iexact H

/-! The first pair of query blocks has no key block off the diagonal: its loops end at once. -/

theorem spec1 (E : Set ℕ) (s : St F) (x : F .f32) (K) :
    spec c a9 a10 f9 f10 (out (0, s, x)) K
      ⊢ wp frame (wpE (defs₀ (F := F)) 𝒱₀ (c : Thread nD τ) (some 0)) E (defs₀ (F := F) .tc 1 ⟨i, a9, g9, q, uo, a10, g10, kb 0, s.r0, s.r1, s.acc, x⟩) K := by
  rw [spec_apply]
  show _ ⊢ wp frame (wpE (defs₀ (F := F)) 𝒱₀ (c : Thread nD τ) (some 0)) E (cc0_while1 i a9 g9 q uo a10 g10 (kb 0) s.r0 s.r1 s.acc x) K
  rw [cc0_while1_eq_skeleton]; unfold cc0_while1_skel
  have htest : ¬ Scalar.andi (Scalar.cmpi .sge (kb 0) 1#32) (Scalar.cmpf .oge x (Named.named κ "exit" 0xC2D20000#32)) = 1#1 := fun h =>
    absurd ((kb_ge1 ⟨0, by decide⟩).mp ((andi_true _ _).mp h).1) (by decide)
  simp only [htest, ↓reduceIte, Prog.pure_eq_ret]
  unfold out
  iintro ⟨H, Hk⟩
  rw [wp_ret]; imodintro
  iapply Hk
  iexact H

theorem spec2 (E : Set ℕ) (s : St F) (x : F .f32) (K) :
    spec c a9 a10 f9 f10 (out (0, s, x)) K
      ⊢ wp frame (wpE (defs₀ (F := F)) 𝒱₀ (c : Thread nD τ) (some 0)) E (defs₀ (F := F) .tc 2 ⟨i, a9, g9, q, uo, a10, g10, kb 0, s.r0, s.r1, s.acc, x⟩) K := by
  rw [spec_apply]
  show _ ⊢ wp frame (wpE (defs₀ (F := F)) 𝒱₀ (c : Thread nD τ) (some 0)) E (cc0_while2 i a9 g9 q uo a10 g10 (kb 0) s.r0 s.r1 s.acc x) K
  rw [cc0_while2_eq_skeleton]; unfold cc0_while2_skel
  have htest : ¬ Scalar.andi (Scalar.cmpi .sge (kb 0) 0#32) (Scalar.cmpf .oge x (Named.named κ "exit" 0xC2D20000#32)) = 1#1 := fun h =>
    absurd ((kb_ge0 ⟨0, by decide⟩).mp ((andi_true _ _).mp h).1) (by decide)
  simp only [htest, ↓reduceIte, Prog.pure_eq_ret]
  unfold out
  iintro ⟨H, Hk⟩
  rw [wp_ret]; imodintro
  iapply Hk
  iexact H

theorem spec3 (E : Set ℕ) (s : St F) (x : F .f32) (K) :
    spec c a9 a10 f9 f10 (out (0, s, x)) K
      ⊢ wp frame (wpE (defs₀ (F := F)) 𝒱₀ (c : Thread nD τ) (some 0)) E (defs₀ (F := F) .tc 3 ⟨i, a9, g9, q, uo, a10, g10, kb 0, s.r0, s.r1, s.acc, x⟩) K := by
  rw [spec_apply]
  show _ ⊢ wp frame (wpE (defs₀ (F := F)) 𝒱₀ (c : Thread nD τ) (some 0)) E (cc0_while3 i a9 g9 q uo a10 g10 (kb 0) s.r0 s.r1 s.acc x) K
  rw [cc0_while3_eq_skeleton]; unfold cc0_while3_skel
  have htest : ¬ Scalar.andi (Scalar.cmpi .sge (kb 0) 1#32) (Scalar.cmpf .oge x (Named.named κ "exit" 0xC2D20000#32)) = 1#1 := fun h =>
    absurd ((kb_ge1 ⟨0, by decide⟩).mp ((andi_true _ _).mp h).1) (by decide)
  simp only [htest, ↓reduceIte, Prog.pure_eq_ret]
  unfold out
  iintro ⟨H, Hk⟩
  rw [wp_ret]; imodintro
  iapply Hk
  iexact H

theorem spec4 (E : Set ℕ) (s : St F) (x : F .f32) (K) :
    spec c a9 a10 f9 f10 (out (0, s, x)) K
      ⊢ wp frame (wpE (defs₀ (F := F)) 𝒱₀ (c : Thread nD τ) (some 0)) E (defs₀ (F := F) .tc 4 ⟨i, a9, g9, q, uo, a10, g10, kb 0, s.r0, s.r1, s.acc, x⟩) K := by
  rw [spec_apply]
  show _ ⊢ wp frame (wpE (defs₀ (F := F)) 𝒱₀ (c : Thread nD τ) (some 0)) E (cc0_while4 i a9 g9 q uo a10 g10 (kb 0) s.r0 s.r1 s.acc x) K
  rw [cc0_while4_eq_skeleton]; unfold cc0_while4_skel
  have htest : ¬ Scalar.andi (Scalar.cmpi .sge (kb 0) 0#32) (Scalar.cmpf .oge x (Named.named κ "exit" 0xC2D20000#32)) = 1#1 := fun h =>
    absurd ((kb_ge0 ⟨0, by decide⟩).mp ((andi_true _ _).mp h).1) (by decide)
  simp only [htest, ↓reduceIte, Prog.pure_eq_ret]
  unfold out
  iintro ⟨H, Hk⟩
  rw [wp_ret]; imodintro
  iapply Hk
  iexact H

end

end Cert.Attn
-- ==== Proof.AttnBody.lean ====
module

public import proofs.«01_k».proof.Proof.AttnWhile
public import proofs.«01_k».proof.Proof.Gen.Kernel3Ideal.Loops

@[expose] public section

set_option maxRecDepth 65536

/-!
# A pair of query blocks

One trip of the loop over pairs of query blocks: the diagonal blocks and the two before them at once, then the loops over the earlier key blocks.
-/

noncomputable section

namespace Cert.Attn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

theorem trip_off : ∀ k : Fin k0_t4_loop.trips,
    (k0_off14 k 0#32 = ![2 * k.val + 2, 0, 0] ∧ k0_off14 k 1#32 = ![2 * k.val + 3, 0, 0])
    ∧ (k0_off15 k 0#32 = ![2 * k.val + 2, 128, 0] ∧ k0_off15 k 1#32 = ![2 * k.val + 3, 128, 0])
    ∧ (k0_off16 k 0#32 0#32 = ![2 * k.val + 2, 0, 0] ∧ k0_off16 k 0#32 1#32 = ![2 * k.val + 1, 0, 0] ∧ k0_off16 k 0#32 2#32 = ![2 * k.val, 0, 0])
    ∧ (k0_off16 k 1#32 0#32 = ![2 * k.val + 3, 0, 0] ∧ k0_off16 k 1#32 1#32 = ![2 * k.val + 2, 0, 0] ∧ k0_off16 k 1#32 2#32 = ![2 * k.val + 1, 0, 0])
    ∧ (k0_off19 k 0#32 = ![0, 128 * (2 * k.val + 2), 0] ∧ k0_off19 k 1#32 = ![0, 128 * (2 * k.val + 3), 0])
    ∧ (Scalar.subi (Scalar.subi (Scalar.addi (Scalar.muli (Scf.iv 1#32 1#32 k) 2#32) 0#32) 2#32) 1#32 = kb (2 * k.val))
    ∧ (Scalar.subi (Scalar.subi (Scalar.addi (Scalar.muli (Scf.iv 1#32 1#32 k) 2#32) 1#32) 2#32) 1#32 = kb (2 * k.val + 1)) := by decide +kernel
theorem trips4 (k : Fin k0_t4_loop.trips) : k.val < 15 := lt_of_lt_of_eq k.isLt (by decide +kernel)

theorem window_lo (X : Vec F S32x256x128 .bf16) (n : ℕ) (hn : n < 32) (h) : VecWindow.window X ![n, 0, 0] S1x128x128.size h = lo X n := by
  funext y
  unfold VecWindow.window lo
  congr 1
  funext a
  apply Fin.ext
  have h0 : (y 0).val = 0 := Nat.lt_one_iff.mp (y 0).isLt
  fin_cases a
  · show n + 1 * (y 0).val = n % 32; rw [h0, Nat.mod_eq_of_lt hn]; rfl
  · show 0 + 1 * (y 1).val = (y 1).val; omega
  · show 0 + 1 * (y 2).val = (y 2).val; omega
theorem window_hi (X : Vec F S32x256x128 .bf16) (n : ℕ) (hn : n < 32) (h) : VecWindow.window X ![n, 128, 0] S1x128x128.size h = hi X n := by
  funext y
  unfold VecWindow.window hi
  congr 1
  funext a
  apply Fin.ext
  have h0 : (y 0).val = 0 := Nat.lt_one_iff.mp (y 0).isLt
  fin_cases a
  · show n + 1 * (y 0).val = n % 32; rw [h0, Nat.mod_eq_of_lt hn]; rfl
  · show 128 + 1 * (y 1).val = 128 + (y 1).val; omega
  · show 0 + 1 * (y 2).val = (y 2).val; omega
theorem read_lo (v : View sig .tc .vmem S32x256x128 .bf16) (f : v.ty.Contents (Elt F)) (off : Fin 3 → ℕ) (inb) (n : ℕ) (hn : n < 32) (h : off = ![n, 0, 0]) :
    v.readAt (Elt F) (Rect.unit (s := S32x256x128) off S1x128x128.size inb).toLoadRect f = lo (v.read (Elt F) f) n := by
  subst h
  exact (View.readAt_unit v f inb rfl inb).trans (window_lo _ n hn _)
theorem read_hi (v : View sig .tc .vmem S32x256x128 .bf16) (f : v.ty.Contents (Elt F)) (off : Fin 3 → ℕ) (inb) (n : ℕ) (hn : n < 32) (h : off = ![n, 128, 0]) :
    v.readAt (Elt F) (Rect.unit (s := S32x256x128) off S1x128x128.size inb).toLoadRect f = hi (v.read (Elt F) f) n := by
  subst h
  exact (View.readAt_unit v f inb rfl inb).trans (window_hi _ n hn _)

/-- The whole result of a pair of heads. -/
def oArr (uo : FVec F S256x256 .bf16) (mk : IVec S128x128 1) (Q X Y : Vec F S32x256x128 .bf16) : Vec F S1x4096x128 .f32 := fun y =>
  oBlk uo mk Q X Y ((y 1).val / 128) (ix2 (⟨(y 1).val % 128, Nat.mod_lt _ (by decide)⟩ : Fin 128) (y 2))

/-- A query block's rows of it. -/
def oRows (uo : FVec F S256x256 .bf16) (mk : IVec S128x128 1) (Q X Y : Vec F S32x256x128 .bf16) (n : ℕ) : FVec F S1x128x128 .f32 :=
  shapeCast S1x128x128 (oBlk uo mk Q X Y n) shapeCasts_S128x128_S1x128x128

section
variable (c : Dev nD) (i : grid0.Coords) (a2 a3 a4 : Memref sig .tc .vmem S1x4096x128 .f32) (g2 : a2.IsWhole) (g3 : a3.IsWhole) (g4 : a4.IsWhole)
  (a5 a6 : Memref sig .tc .vmem S1x128 .f32) (g5 : a5.IsWhole) (g6 : a6.IsWhole) (a7 : Memref sig .tc .vmem S1x4096x128 .f32) (g7 : a7.IsWhole)
  (a8 a9 a10 : Memref sig .tc .vmem S32x256x128 .bf16) (g8 : a8.IsWhole) (g9 : a9.IsWhole) (g10 : a10.IsWhole)
  (f8 : HbBuf (F := F) c a8) (f9 : HbBuf (F := F) c a9) (f10 : HbBuf (F := F) c a10)

set_option maxHeartbeats 4000000 in
theorem trip4 (uo : FVec F S256x256 .bf16) (mk : IVec S128x128 1) (k : Fin k0_t4_loop.trips) (f7 : HbBuf (F := F) c a7) (K : PUnit → sProp 𝕄) :
    iprop(hbPt c a8 f8 ∗ held c a9 a10 f9 f10 ∗ hbPt c a7 f7 ∗ ((hbPt c a8 f8 ∗ held c a9 a10 f9 f10
        ∗ hbPt c a7 (a7.view.writes (Elt F) f7 [⟨Rect.unit (s := S1x4096x128) (k0_off19 k 1#32) S1x128x128.size (k0_off19_inb k 1), oRows uo mk (a8.view.read (Elt F) f8) (a9.view.read (Elt F) f9) (a10.view.read (Elt F) f10) (2 * k.val + 3)⟩,
          ⟨Rect.unit (s := S1x4096x128) (k0_off19 k 0#32) S1x128x128.size (k0_off19_inb k 0), oRows uo mk (a8.view.read (Elt F) f8) (a9.view.read (Elt F) f9) (a10.view.read (Elt F) f10) (2 * k.val + 2)⟩])) -∗ K ⟨⟩))
      ⊢ wp frame (wpE (defs₀ (F := F)) 𝒱₀ (c : Thread nD τ) none) Set.univ
        (k0_t4_body i a2 g2 a3 g3 a4 g4 a5 g5 a6 g6 a7 g7 a8 g8 a9 g9 a10 g10 uo mk zero k ⟨⟩) K := by
  obtain ⟨⟨o14a, o14b⟩, ⟨o15a, o15b⟩, ⟨p0, p1, p2⟩, ⟨p3, p4, p5⟩, ⟨o19a, o19b⟩, e5, e7⟩ := trip_off k
  have hk := trips4 k
  unfold k0_t4_body
  simp only [k0_part21_eq_skeleton, k0_part22_eq_skeleton, k0_part23_eq_skeleton, k0_part24_eq_skeleton, k0_part25_eq_skeleton,
    k0_part26_eq_skeleton, k0_part27_eq_skeleton, k0_part28_eq_skeleton, k0_part29_eq_skeleton]
  unfold k0_part21_skel k0_part22_skel k0_part23_skel k0_part24_skel k0_part25_skel k0_part26_skel k0_part27_skel k0_part28_skel k0_part29_skel
  simp only [Prog.lift, Prog.bind_op, Prog.bind_ret, Prog.pure_eq_ret]
  unfold held
  iintro ⟨H8, ⟨H9, H10⟩, H7, Hk⟩
  iapply (wp_load 𝒱₀ (c : Thread nD τ) none Set.univ (m := a8) (Finset.subset_univ _)) $$ H8; iintro H8
  iapply (wp_load 𝒱₀ (c : Thread nD τ) none Set.univ (m := a8) (Finset.subset_univ _)) $$ H8; iintro H8
  iapply (wp_load 𝒱₀ (c : Thread nD τ) none Set.univ (m := a8) (Finset.subset_univ _)) $$ H8; iintro H8
  iapply (wp_load 𝒱₀ (c : Thread nD τ) none Set.univ (m := a8) (Finset.subset_univ _)) $$ H8; iintro H8
  iapply (wp_load 𝒱₀ (c : Thread nD τ) none Set.univ (m := a9) (Finset.subset_univ _)) $$ H9; iintro H9
  iapply (wp_load 𝒱₀ (c : Thread nD τ) none Set.univ (m := a9) (Finset.subset_univ _)) $$ H9; iintro H9
  iapply (wp_load 𝒱₀ (c : Thread nD τ) none Set.univ (m := a9) (Finset.subset_univ _)) $$ H9; iintro H9
  iapply (wp_load 𝒱₀ (c : Thread nD τ) none Set.univ (m := a9) (Finset.subset_univ _)) $$ H9; iintro H9
  iapply (wp_load 𝒱₀ (c : Thread nD τ) none Set.univ (m := a9) (Finset.subset_univ _)) $$ H9; iintro H9
  iapply (wp_load 𝒱₀ (c : Thread nD τ) none Set.univ (m := a9) (Finset.subset_univ _)) $$ H9; iintro H9
  iapply (wp_load 𝒱₀ (c : Thread nD τ) none Set.univ (m := a10) (Finset.subset_univ _)) $$ H10; iintro H10
  iapply (wp_load 𝒱₀ (c : Thread nD τ) none Set.univ (m := a10) (Finset.subset_univ _)) $$ H10; iintro H10
  iapply (wp_load 𝒱₀ (c : Thread nD τ) none Set.univ (m := a10) (Finset.subset_univ _)) $$ H10; iintro H10
  iapply (wp_load 𝒱₀ (c : Thread nD τ) none Set.univ (m := a10) (Finset.subset_univ _)) $$ H10; iintro H10
  iapply (wp_load 𝒱₀ (c : Thread nD τ) none Set.univ (m := a10) (Finset.subset_univ _)) $$ H10; iintro H10
  iapply (wp_load 𝒱₀ (c : Thread nD τ) none Set.univ (m := a10) (Finset.subset_univ _)) $$ H10; iintro H10
  rw [read_lo a8.view f8 _ _ _ (by omega) o14a, read_lo a8.view f8 _ _ _ (by omega) o14b, read_hi a8.view f8 _ _ _ (by omega) o15a, read_hi a8.view f8 _ _ _ (by omega) o15b,
    read_blk a9.view f9 _ _ _ (by omega) p0, read_blk a9.view f9 _ _ _ (by omega) p1, read_blk a9.view f9 _ _ _ (by omega) p2,
    read_blk a9.view f9 _ _ _ (by omega) p3, read_blk a9.view f9 _ _ _ (by omega) p4, read_blk a9.view f9 _ _ _ (by omega) p5,
    read_blk a10.view f10 _ _ _ (by omega) p0, read_blk a10.view f10 _ _ _ (by omega) p1, read_blk a10.view f10 _ _ _ (by omega) p2,
    read_blk a10.view f10 _ _ _ (by omega) p3, read_blk a10.view f10 _ _ _ (by omega) p4, read_blk a10.view f10 _ _ _ (by omega) p5, e5, e7]
  generalize hQ : a8.view.read (Elt F) f8 = Q
  iapply (wp_call_spec 𝒱₀ (c : Thread nD τ) none Set.univ (spec c a9 a10 f9 f10 (out (two (qpair Q (2 * k.val + 2)) uo (a9.view.read (Elt F) f9) (a10.view.read (Elt F) f10) (2 * k.val) (st3 uo mk Q (a9.view.read (Elt F) f9) (a10.view.read (Elt F) f10) (2 * k.val)) (top (st3 uo mk Q (a9.view.read (Elt F) f9) (a10.view.read (Elt F) f10) (2 * k.val)).r0 (st3 uo mk Q (a9.view.read (Elt F) f9) (a10.view.read (Elt F) f10) (2 * k.val)).r1)))) (2 * k.val)
    (fun u hu => nomatch hu) (spec5 c a9 a10 f9 f10 g9 g10 i (qpair Q (2 * k.val + 2)) uo k Set.univ (2 * k.val) (by omega) _ _))
  rw [spec_apply]; unfold held
  isplitl [H9 H10]
  · isplitl [H9]; · iexact H9
    iexact H10
  iintro ⟨H9, H10⟩
  iapply (wp_call_spec 𝒱₀ (c : Thread nD τ) none Set.univ (spec c a9 a10 f9 f10 (out (one (qpair Q (2 * k.val + 2)) uo (a9.view.read (Elt F) f9) (a10.view.read (Elt F) f10)
      (two (qpair Q (2 * k.val + 2)) uo (a9.view.read (Elt F) f9) (a10.view.read (Elt F) f10) (2 * k.val) (st3 uo mk Q (a9.view.read (Elt F) f9) (a10.view.read (Elt F) f10) (2 * k.val)) (top (st3 uo mk Q (a9.view.read (Elt F) f9) (a10.view.read (Elt F) f10) (2 * k.val)).r0 (st3 uo mk Q (a9.view.read (Elt F) f9) (a10.view.read (Elt F) f10) (2 * k.val)).r1)).1 (two (qpair Q (2 * k.val + 2)) uo (a9.view.read (Elt F) f9) (a10.view.read (Elt F) f10) (2 * k.val) (st3 uo mk Q (a9.view.read (Elt F) f9) (a10.view.read (Elt F) f10) (2 * k.val)) (top (st3 uo mk Q (a9.view.read (Elt F) f9) (a10.view.read (Elt F) f10) (2 * k.val)).r0 (st3 uo mk Q (a9.view.read (Elt F) f9) (a10.view.read (Elt F) f10) (2 * k.val)).r1)).2.1 (two (qpair Q (2 * k.val + 2)) uo (a9.view.read (Elt F) f9) (a10.view.read (Elt F) f10) (2 * k.val) (st3 uo mk Q (a9.view.read (Elt F) f9) (a10.view.read (Elt F) f10) (2 * k.val)) (top (st3 uo mk Q (a9.view.read (Elt F) f9) (a10.view.read (Elt F) f10) (2 * k.val)).r0 (st3 uo mk Q (a9.view.read (Elt F) f9) (a10.view.read (Elt F) f10) (2 * k.val)).r1)).2.2))) (two (qpair Q (2 * k.val + 2)) uo (a9.view.read (Elt F) f9) (a10.view.read (Elt F) f10) (2 * k.val) (st3 uo mk Q (a9.view.read (Elt F) f9) (a10.view.read (Elt F) f10) (2 * k.val)) (top (st3 uo mk Q (a9.view.read (Elt F) f9) (a10.view.read (Elt F) f10) (2 * k.val)).r0 (st3 uo mk Q (a9.view.read (Elt F) f9) (a10.view.read (Elt F) f10) (2 * k.val)).r1)).1
    (fun u hu => nomatch hu) (spec6 c a9 a10 f9 f10 g9 g10 i (qpair Q (2 * k.val + 2)) uo k Set.univ _ ((two_le _ _ _ _ _ _ _).trans (by omega)) _ _))
  rw [spec_apply]; unfold held
  isplitl [H9 H10]
  · isplitl [H9]; · iexact H9
    iexact H10
  iintro ⟨H9, H10⟩
  iapply (wp_load 𝒱₀ (c : Thread nD τ) none Set.univ (m := a7) (Finset.subset_univ _)) $$ H7; iintro H7
  iapply (wp_store 𝒱₀ (c : Thread nD τ) none Set.univ (m := a7) (r := Rect.unit (s := S1x4096x128) (k0_off19 k 0#32) S1x128x128.size (k0_off19_inb k 0)) (Mk := Finset.univ) (Finset.subset_univ _)) $$ H7; iintro H7
  iapply (wp_call_spec 𝒱₀ (c : Thread nD τ) none Set.univ (spec c a9 a10 f9 f10 (out (two (qpair Q (2 * k.val + 3)) uo (a9.view.read (Elt F) f9) (a10.view.read (Elt F) f10) (2 * k.val + 1) (st3 uo mk Q (a9.view.read (Elt F) f9) (a10.view.read (Elt F) f10) (2 * k.val + 1)) (top (st3 uo mk Q (a9.view.read (Elt F) f9) (a10.view.read (Elt F) f10) (2 * k.val + 1)).r0 (st3 uo mk Q (a9.view.read (Elt F) f9) (a10.view.read (Elt F) f10) (2 * k.val + 1)).r1)))) (2 * k.val + 1)
    (fun u hu => nomatch hu) (spec7 c a9 a10 f9 f10 g9 g10 i (qpair Q (2 * k.val + 3)) uo k Set.univ (2 * k.val + 1) (by omega) _ _))
  rw [spec_apply]; unfold held
  isplitl [H9 H10]
  · isplitl [H9]; · iexact H9
    iexact H10
  iintro ⟨H9, H10⟩
  iapply (wp_call_spec 𝒱₀ (c : Thread nD τ) none Set.univ (spec c a9 a10 f9 f10 (out (one (qpair Q (2 * k.val + 3)) uo (a9.view.read (Elt F) f9) (a10.view.read (Elt F) f10)
      (two (qpair Q (2 * k.val + 3)) uo (a9.view.read (Elt F) f9) (a10.view.read (Elt F) f10) (2 * k.val + 1) (st3 uo mk Q (a9.view.read (Elt F) f9) (a10.view.read (Elt F) f10) (2 * k.val + 1)) (top (st3 uo mk Q (a9.view.read (Elt F) f9) (a10.view.read (Elt F) f10) (2 * k.val + 1)).r0 (st3 uo mk Q (a9.view.read (Elt F) f9) (a10.view.read (Elt F) f10) (2 * k.val + 1)).r1)).1 (two (qpair Q (2 * k.val + 3)) uo (a9.view.read (Elt F) f9) (a10.view.read (Elt F) f10) (2 * k.val + 1) (st3 uo mk Q (a9.view.read (Elt F) f9) (a10.view.read (Elt F) f10) (2 * k.val + 1)) (top (st3 uo mk Q (a9.view.read (Elt F) f9) (a10.view.read (Elt F) f10) (2 * k.val + 1)).r0 (st3 uo mk Q (a9.view.read (Elt F) f9) (a10.view.read (Elt F) f10) (2 * k.val + 1)).r1)).2.1 (two (qpair Q (2 * k.val + 3)) uo (a9.view.read (Elt F) f9) (a10.view.read (Elt F) f10) (2 * k.val + 1) (st3 uo mk Q (a9.view.read (Elt F) f9) (a10.view.read (Elt F) f10) (2 * k.val + 1)) (top (st3 uo mk Q (a9.view.read (Elt F) f9) (a10.view.read (Elt F) f10) (2 * k.val + 1)).r0 (st3 uo mk Q (a9.view.read (Elt F) f9) (a10.view.read (Elt F) f10) (2 * k.val + 1)).r1)).2.2))) (two (qpair Q (2 * k.val + 3)) uo (a9.view.read (Elt F) f9) (a10.view.read (Elt F) f10) (2 * k.val + 1) (st3 uo mk Q (a9.view.read (Elt F) f9) (a10.view.read (Elt F) f10) (2 * k.val + 1)) (top (st3 uo mk Q (a9.view.read (Elt F) f9) (a10.view.read (Elt F) f10) (2 * k.val + 1)).r0 (st3 uo mk Q (a9.view.read (Elt F) f9) (a10.view.read (Elt F) f10) (2 * k.val + 1)).r1)).1
    (fun u hu => nomatch hu) (spec8 c a9 a10 f9 f10 g9 g10 i (qpair Q (2 * k.val + 3)) uo k Set.univ _ ((two_le _ _ _ _ _ _ _).trans (by omega)) _ _))
  rw [spec_apply]; unfold held
  isplitl [H9 H10]
  · isplitl [H9]; · iexact H9
    iexact H10
  iintro ⟨H9, H10⟩
  iapply (wp_load 𝒱₀ (c : Thread nD τ) none Set.univ (m := a7) (Finset.subset_univ _)) $$ H7; iintro H7
  iapply (wp_store 𝒱₀ (c : Thread nD τ) none Set.univ (m := a7) (r := Rect.unit (s := S1x4096x128) (k0_off19 k 1#32) S1x128x128.size (k0_off19_inb k 1)) (Mk := Finset.univ) (Finset.subset_univ _)) $$ H7; iintro H7
  rw [wp_ret]; imodintro
  iapply Hk
  isplitl [H8]; · iexact H8
  isplitl [H9 H10]
  · isplitl [H9]; · iexact H9
    iexact H10
  iexact H7
end

end Cert.Attn
-- ==== Proof.AttnPrep.lean ====
module

public import proofs.«01_k».proof.Proof.AttnBody
public import Idealize.ShloMosaic.Lib.Pointwise
public import Idealize.ShloMosaic.Lib.Writes

@[expose] public section

set_option maxRecDepth 65536

/-!
# The prepared queries, keys and values

Each of the three loops over halves of the sequence writes its array block by block: first the rows with one head's lanes, then with the other's.
-/

noncomputable section

namespace Cert.Attn

open Cert.Kernel3Ideal Cert.Kernel3Ideal.Gen
open Idealize.ShloMosaic Idealize.ShloMosaic.TcCoe Idealize.ShloMosaic.Tactic

variable {F : FTy → Type} [FloatOps F] [Named F]

/-- A half of the sequence. -/
def rows (x : Vec F S1x4096x128 .f32) (k : ℕ) : Vec F S1x2048x128 .f32 := fun y =>
  x (ix3 (y 0) (⟨(2048 * k + (y 1).val) % 4096, Nat.mod_lt _ (by decide)⟩ : Fin 4096) (y 2))
theorem read_rows (v : View sig .tc .vmem S1x4096x128 .f32) (f : v.ty.Contents (Elt F)) (off : Fin 3 → ℕ) (inb) (k : ℕ) (hk : k < 2) (h : off = ![0, 2048 * k, 0]) :
    v.readAt (Elt F) (Rect.unit (s := S1x4096x128) off S1x2048x128.size inb).toLoadRect f = rows (v.read (Elt F) f) k := by
  subst h
  refine (View.readAt_unit v f inb rfl inb).trans ?_
  funext y
  unfold VecWindow.window rows
  congr 1
  funext a
  apply Fin.ext
  have h1 : (y 1).val < 2048 := (y 1).isLt
  fin_cases a
  · show 0 + 1 * (y 0).val = (y 0).val; omega
  · show 2048 * k + 1 * (y 1).val = (2048 * k + (y 1).val) % 4096; omega
  · show 0 + 1 * (y 2).val = (y 2).val; omega

/-- The two heads' rows, block by block. -/
def prep (A B : ℕ → FVec F S2048x128 .bf16) : Vec F S32x256x128 .bf16 := fun y =>
  if (y 1).val < 128 then A ((y 0).val / 16) (ix2 (⟨(128 * ((y 0).val % 16) + (y 1).val) % 2048, Nat.mod_lt _ (by decide)⟩ : Fin 2048) (y 2))
  else B ((y 0).val / 16) (ix2 (⟨(128 * ((y 0).val % 16) + ((y 1).val - 128)) % 2048, Nat.mod_lt _ (by decide)⟩ : Fin 2048) (y 2))

theorem slab_apply (A : FVec F S2048x128 .bf16) (j : ℕ) (h) (hj : j < 16) (x : S1x128x128.Idx) :
    shapeCast S1x128x128 (extractStridedSlice S128x128 ![128 * j, 0] A h) shapeCasts_S128x128_S1x128x128 x
      = A (ix2 (⟨(128 * j + (x 1).val) % 2048, Nat.mod_lt _ (by decide)⟩ : Fin 2048) (x 2)) := by
  idx_vars x
  pointwise
  congr 2
  exact Fin.ext (Nat.mod_eq_of_lt (by have := x1.isLt; omega)).symm

/-- A stored block of the first head's rows is what `prep` says, and of the second's. -/
theorem piece_lo (A B : ℕ → FVec F S2048x128 .bf16) (k : ℕ) (V : FVec F S2048x128 .bf16) (hV : V = A k) (j : ℕ) (hk : k < 2) (hj : j < 16) (h) (off : Fin 3 → ℕ) (inb) (ho : off = ![16 * k + j, 0, 0])
    (x : (Rect.unit (s := S32x256x128) off S1x128x128.size inb).shape.Idx) :
    shapeCast S1x128x128 (extractStridedSlice S128x128 ![128 * j, 0] V h) shapeCasts_S128x128_S1x128x128 x
      = prep A B ((Rect.unit (s := S32x256x128) off S1x128x128.size inb).emb x) := by
  subst ho
  subst hV
  refine (slab_apply (A k) j h hj x).trans ?_
  have h0 : (x 0).val = 0 := Nat.lt_one_iff.mp (x 0).isLt
  have h1 : (x 1).val < 128 := (x 1).isLt
  have e0 : ((Rect.unit (s := S32x256x128) ![16 * k + j, 0, 0] S1x128x128.size inb).emb x 0).val = 16 * k + j := by
    show 16 * k + j + 1 * (x 0).val = _; omega
  have e1 : ((Rect.unit (s := S32x256x128) ![16 * k + j, 0, 0] S1x128x128.size inb).emb x 1).val = (x 1).val := by
    show 0 + 1 * (x 1).val = _; omega
  have e2 : ((Rect.unit (s := S32x256x128) ![16 * k + j, 0, 0] S1x128x128.size inb).emb x 2) = x 2 := Fin.ext (by
    show 0 + 1 * (x 2).val = _; omega)
  unfold prep
  rw [if_pos (by rw [e1]; exact h1)]
  have q0 : (16 * k + j) / 16 = k := by omega
  have q1 : (16 * k + j) % 16 = j := by omega
  simp only [e0, e1, q0, q1]
  congr 2
  exact e2.symm
theorem piece_hi (A B : ℕ → FVec F S2048x128 .bf16) (k : ℕ) (V : FVec F S2048x128 .bf16) (hV : V = B k) (j : ℕ) (hk : k < 2) (hj : j < 16) (h) (off : Fin 3 → ℕ) (inb) (ho : off = ![16 * k + j, 128, 0])
    (x : (Rect.unit (s := S32x256x128) off S1x128x128.size inb).shape.Idx) :
    shapeCast S1x128x128 (extractStridedSlice S128x128 ![128 * j, 0] V h) shapeCasts_S128x128_S1x128x128 x
      = prep A B ((Rect.unit (s := S32x256x128) off S1x128x128.size inb).emb x) := by
  subst ho
  subst hV
  refine (slab_apply (B k) j h hj x).trans ?_
  have h0 : (x 0).val = 0 := Nat.lt_one_iff.mp (x 0).isLt
  have h1 : (x 1).val < 128 := (x 1).isLt
  have e0 : ((Rect.unit (s := S32x256x128) ![16 * k + j, 128, 0] S1x128x128.size inb).emb x 0).val = 16 * k + j := by
    show 16 * k + j + 1 * (x 0).val = _; omega
  have e1 : ((Rect.unit (s := S32x256x128) ![16 * k + j, 128, 0] S1x128x128.size inb).emb x 1).val = 128 + (x 1).val := by
    show 128 + 1 * (x 1).val = _; omega
  have e2 : ((Rect.unit (s := S32x256x128) ![16 * k + j, 128, 0] S1x128x128.size inb).emb x 2) = x 2 := Fin.ext (by
    show 0 + 1 * (x 2).val = _; omega)
  unfold prep
  rw [if_neg (by rw [e1]; omega)]
  have q0 : (16 * k + j) / 16 = k := by omega
  have q1 : (16 * k + j) % 16 = j := by omega
  have q2 : 128 + (x 1).val - 128 = (x 1).val := by omega
  simp only [e0, e1, q0, q1, q2]
  congr 2
  exact e2.symm

/-- Where a block's rows lie. -/
theorem mem_lo (off : Fin 3 → ℕ) (inb) (n : ℕ) (ho : off = ![n, 0, 0]) (y : S32x256x128.Idx) (h0 : (y 0).val = n) (h1 : (y 1).val < 128) :
    y ∈ (Rect.unit (s := S32x256x128) off S1x128x128.size inb).set := by
  subst ho
  rw [Rect.mem_set_unit]
  have h2 : (y 2).val < 128 := (y 2).isLt
  intro a
  fin_cases a
  · exact ⟨le_of_eq h0.symm, by show (y 0).val < n + 1; omega⟩
  · exact ⟨Nat.zero_le _, by show (y 1).val < 0 + 128; omega⟩
  · exact ⟨Nat.zero_le _, by show (y 2).val < 0 + 128; omega⟩
theorem mem_hi (off : Fin 3 → ℕ) (inb) (n : ℕ) (ho : off = ![n, 128, 0]) (y : S32x256x128.Idx) (h0 : (y 0).val = n) (h1 : ¬ (y 1).val < 128) :
    y ∈ (Rect.unit (s := S32x256x128) off S1x128x128.size inb).set := by
  subst ho
  rw [Rect.mem_set_unit]
  have h2 : (y 2).val < 128 := (y 2).isLt
  have h3 : (y 1).val < 256 := (y 1).isLt
  intro a
  fin_cases a
  · exact ⟨le_of_eq h0.symm, by show (y 0).val < n + 1; omega⟩
  · exact ⟨by show 128 ≤ (y 1).val; omega, by show (y 1).val < 128 + 128; omega⟩
  · exact ⟨Nat.zero_le _, by show (y 2).val < 0 + 128; omega⟩

end Cert.Attn
-- ==== Proof.AttnPrepK.lean ====
module

public import proofs.«01_k».proof.Proof.AttnPrep
public import Idealize.ShloMosaic.Lib.Pointwise
public import Idealize.ShloMosaic.Lib.Writes

@[expose] public section

set_option maxRecDepth 65536

/-! # The loop that prepares this array -/

noncomputable section

namespace Cert.Attn

open Cert.Kernel3Ideal Cert.Kernel3Ideal.Gen
open Idealize.ShloMosaic Idealize.ShloMosaic.TcCoe Idealize.ShloMosaic.Tactic

variable {F : FTy → Type} [FloatOps F] [Named F]

def prepK (x : Vec F S1x4096x128 .f32) (w : Vec F S1x128 .f32) : Vec F S32x256x128 .bf16 :=
  prep (fun k => k0_pay77 k0_pay283 (k0_pay285 k0_pay284) (rows x k) w) (fun k => k0_pay78 k0_pay283 (k0_pay285 k0_pay284) (rows x k) w)

section
variable (c : Dev nD) (i : grid0.Coords) (a2 a3 a4 : Memref sig .tc .vmem S1x4096x128 .f32) (g2 : a2.IsWhole) (g3 : a3.IsWhole) (g4 : a4.IsWhole)
  (a5 a6 : Memref sig .tc .vmem S1x128 .f32) (g5 : a5.IsWhole) (g6 : a6.IsWhole) (a7 : Memref sig .tc .vmem S1x4096x128 .f32) (g7 : a7.IsWhole)
  (a8 a9 a10 : Memref sig .tc .vmem S32x256x128 .bf16) (g8 : a8.IsWhole) (g9 : a9.IsWhole) (g10 : a10.IsWhole)

theorem off_t2 : ∀ (k : Fin k0_t2_loop.trips) (j : Fin 16), k0_off5 k (BitVec.ofNat 32 j.val) = ![16 * k.val + j.val, 0, 0] ∧ k0_off6 k (BitVec.ofNat 32 j.val) = ![16 * k.val + j.val, 128, 0] := by decide +kernel
theorem load_t2 : ∀ k : Fin k0_t2_loop.trips, k0_off4 k = ![0, 2048 * k.val, 0] := by decide +kernel

set_option maxHeartbeats 4000000 in
theorem pieces2 (X : BufTy.Contents (Elt F) a3.view.ty) (W : BufTy.Contents (Elt F) a6.view.ty) (k : Fin k0_t2_loop.trips) : ∀ p ∈ tripL_k0_t2 (F := F) 𝒱₀ c none i a2 g2 a3 g3 a4 g4 a5 g5 a6 g6 a7 g7 a8 g8 a9 g9 a10 g10 k0_pay283 k0_pay284 X W k, ∀ x, p.2 x = prepK (a3.view.read (Elt F) X) (a6.view.read (Elt F) W) (p.1.emb x) := by
  have hk : k.val < 2 := lt_of_lt_of_eq k.isLt (by decide +kernel)
  have hr := read_rows a3.view X _ (k0_off4_inb k) k.val hk (load_t2 k)
  have hw := View.readAt_full a6.view W inb_S1x128_S1x128_0_0
  have hA := fun (j : Fin 16) (h) (inb) => piece_lo (fun k => k0_pay77 k0_pay283 (k0_pay285 k0_pay284) (rows (a3.view.read (Elt F) X) k) (a6.view.read (Elt F) W)) (fun k => k0_pay78 k0_pay283 (k0_pay285 k0_pay284) (rows (a3.view.read (Elt F) X) k) (a6.view.read (Elt F) W)) k.val (k0_pay77 k0_pay283 (k0_pay285 k0_pay284) (a3.view.readAt (Elt F) (Rect.unit (s := S1x4096x128) (k0_off4 k) S1x2048x128.size (k0_off4_inb k)).toLoadRect X) (a6.view.readAt (Elt F) (Rect.unit (s := S1x128) ![0, 0] S1x128.size inb_S1x128_S1x128_0_0).toLoadRect W)) (by rw [hr, hw]) j.val hk j.isLt h (k0_off5 k (BitVec.ofNat 32 j.val)) inb (off_t2 k j).1
  have hB := fun (j : Fin 16) (h) (inb) => piece_hi (fun k => k0_pay77 k0_pay283 (k0_pay285 k0_pay284) (rows (a3.view.read (Elt F) X) k) (a6.view.read (Elt F) W)) (fun k => k0_pay78 k0_pay283 (k0_pay285 k0_pay284) (rows (a3.view.read (Elt F) X) k) (a6.view.read (Elt F) W)) k.val (k0_pay78 k0_pay283 (k0_pay285 k0_pay284) (a3.view.readAt (Elt F) (Rect.unit (s := S1x4096x128) (k0_off4 k) S1x2048x128.size (k0_off4_inb k)).toLoadRect X) (a6.view.readAt (Elt F) (Rect.unit (s := S1x128) ![0, 0] S1x128.size inb_S1x128_S1x128_0_0).toLoadRect W)) (by rw [hr, hw]) j.val hk j.isLt h (k0_off6 k (BitVec.ofNat 32 j.val)) inb (off_t2 k j).2
  unfold prepK
  unfold tripL_k0_t2 trip_k0_t2
  dsimp only
  simp only [List.forall_mem_cons]
  refine ⟨hB 15 slices_S2048x128_o1920_0_S128x128 (k0_off6_inb k 15), ?_⟩
  refine ⟨hA 15 slices_S2048x128_o1920_0_S128x128 (k0_off5_inb k 15), ?_⟩
  refine ⟨hB 14 slices_S2048x128_o1792_0_S128x128 (k0_off6_inb k 14), ?_⟩
  refine ⟨hA 14 slices_S2048x128_o1792_0_S128x128 (k0_off5_inb k 14), ?_⟩
  refine ⟨hB 13 slices_S2048x128_o1664_0_S128x128 (k0_off6_inb k 13), ?_⟩
  refine ⟨hA 13 slices_S2048x128_o1664_0_S128x128 (k0_off5_inb k 13), ?_⟩
  refine ⟨hB 12 slices_S2048x128_o1536_0_S128x128 (k0_off6_inb k 12), ?_⟩
  refine ⟨hA 12 slices_S2048x128_o1536_0_S128x128 (k0_off5_inb k 12), ?_⟩
  refine ⟨hB 11 slices_S2048x128_o1408_0_S128x128 (k0_off6_inb k 11), ?_⟩
  refine ⟨hA 11 slices_S2048x128_o1408_0_S128x128 (k0_off5_inb k 11), ?_⟩
  refine ⟨hB 10 slices_S2048x128_o1280_0_S128x128 (k0_off6_inb k 10), ?_⟩
  refine ⟨hA 10 slices_S2048x128_o1280_0_S128x128 (k0_off5_inb k 10), ?_⟩
  refine ⟨hB 9 slices_S2048x128_o1152_0_S128x128 (k0_off6_inb k 9), ?_⟩
  refine ⟨hA 9 slices_S2048x128_o1152_0_S128x128 (k0_off5_inb k 9), ?_⟩
  refine ⟨hB 8 slices_S2048x128_o1024_0_S128x128 (k0_off6_inb k 8), ?_⟩
  refine ⟨hA 8 slices_S2048x128_o1024_0_S128x128 (k0_off5_inb k 8), ?_⟩
  refine ⟨hB 7 slices_S2048x128_o896_0_S128x128 (k0_off6_inb k 7), ?_⟩
  refine ⟨hA 7 slices_S2048x128_o896_0_S128x128 (k0_off5_inb k 7), ?_⟩
  refine ⟨hB 6 slices_S2048x128_o768_0_S128x128 (k0_off6_inb k 6), ?_⟩
  refine ⟨hA 6 slices_S2048x128_o768_0_S128x128 (k0_off5_inb k 6), ?_⟩
  refine ⟨hB 5 slices_S2048x128_o640_0_S128x128 (k0_off6_inb k 5), ?_⟩
  refine ⟨hA 5 slices_S2048x128_o640_0_S128x128 (k0_off5_inb k 5), ?_⟩
  refine ⟨hB 4 slices_S2048x128_o512_0_S128x128 (k0_off6_inb k 4), ?_⟩
  refine ⟨hA 4 slices_S2048x128_o512_0_S128x128 (k0_off5_inb k 4), ?_⟩
  refine ⟨hB 3 slices_S2048x128_o384_0_S128x128 (k0_off6_inb k 3), ?_⟩
  refine ⟨hA 3 slices_S2048x128_o384_0_S128x128 (k0_off5_inb k 3), ?_⟩
  refine ⟨hB 2 slices_S2048x128_o256_0_S128x128 (k0_off6_inb k 2), ?_⟩
  refine ⟨hA 2 slices_S2048x128_o256_0_S128x128 (k0_off5_inb k 2), ?_⟩
  refine ⟨hB 1 slices_S2048x128_o128_0_S128x128 (k0_off6_inb k 1), ?_⟩
  refine ⟨hA 1 slices_S2048x128_o128_0_S128x128 (k0_off5_inb k 1), ?_⟩
  refine ⟨hB 0 slices_S2048x128_o0_0_S128x128 (k0_off6_inb k 0), ?_⟩
  refine ⟨hA 0 slices_S2048x128_o0_0_S128x128 (k0_off5_inb k 0), ?_⟩
  exact fun _ h => absurd h List.not_mem_nil

theorem cover2 (X : BufTy.Contents (Elt F) a3.view.ty) (W : BufTy.Contents (Elt F) a6.view.ty) (k : Fin k0_t2_loop.trips) (y : S32x256x128.Idx) (hy : (y 0).val / 16 = k.val) : ∃ p ∈ tripL_k0_t2 (F := F) 𝒱₀ c none i a2 g2 a3 g3 a4 g4 a5 g5 a6 g6 a7 g7 a8 g8 a9 g9 a10 g10 k0_pay283 k0_pay284 X W k, y ∈ p.1.set := by
  unfold tripL_k0_t2 trip_k0_t2
  dsimp only
  obtain ⟨j, hj⟩ : ∃ j : Fin 16, (y 0).val = 16 * k.val + j.val := ⟨⟨(y 0).val % 16, Nat.mod_lt _ (by decide)⟩, by show (y 0).val = 16 * k.val + (y 0).val % 16; omega⟩
  have hl := fun inb => mem_lo (k0_off5 k (BitVec.ofNat 32 j.val)) inb _ (off_t2 k j).1 y hj
  have hh := fun inb => mem_hi (k0_off6 k (BitVec.ofNat 32 j.val)) inb _ (off_t2 k j).2 y hj
  by_cases h1 : (y 1).val < 128
  · fin_cases j
    · exact ⟨_, List.mem_of_getElem? (i := 31) rfl, hl (k0_off5_inb k 0) h1⟩
    · exact ⟨_, List.mem_of_getElem? (i := 29) rfl, hl (k0_off5_inb k 1) h1⟩
    · exact ⟨_, List.mem_of_getElem? (i := 27) rfl, hl (k0_off5_inb k 2) h1⟩
    · exact ⟨_, List.mem_of_getElem? (i := 25) rfl, hl (k0_off5_inb k 3) h1⟩
    · exact ⟨_, List.mem_of_getElem? (i := 23) rfl, hl (k0_off5_inb k 4) h1⟩
    · exact ⟨_, List.mem_of_getElem? (i := 21) rfl, hl (k0_off5_inb k 5) h1⟩
    · exact ⟨_, List.mem_of_getElem? (i := 19) rfl, hl (k0_off5_inb k 6) h1⟩
    · exact ⟨_, List.mem_of_getElem? (i := 17) rfl, hl (k0_off5_inb k 7) h1⟩
    · exact ⟨_, List.mem_of_getElem? (i := 15) rfl, hl (k0_off5_inb k 8) h1⟩
    · exact ⟨_, List.mem_of_getElem? (i := 13) rfl, hl (k0_off5_inb k 9) h1⟩
    · exact ⟨_, List.mem_of_getElem? (i := 11) rfl, hl (k0_off5_inb k 10) h1⟩
    · exact ⟨_, List.mem_of_getElem? (i := 9) rfl, hl (k0_off5_inb k 11) h1⟩
    · exact ⟨_, List.mem_of_getElem? (i := 7) rfl, hl (k0_off5_inb k 12) h1⟩
    · exact ⟨_, List.mem_of_getElem? (i := 5) rfl, hl (k0_off5_inb k 13) h1⟩
    · exact ⟨_, List.mem_of_getElem? (i := 3) rfl, hl (k0_off5_inb k 14) h1⟩
    · exact ⟨_, List.mem_of_getElem? (i := 1) rfl, hl (k0_off5_inb k 15) h1⟩
  · fin_cases j
    · exact ⟨_, List.mem_of_getElem? (i := 30) rfl, hh (k0_off6_inb k 0) h1⟩
    · exact ⟨_, List.mem_of_getElem? (i := 28) rfl, hh (k0_off6_inb k 1) h1⟩
    · exact ⟨_, List.mem_of_getElem? (i := 26) rfl, hh (k0_off6_inb k 2) h1⟩
    · exact ⟨_, List.mem_of_getElem? (i := 24) rfl, hh (k0_off6_inb k 3) h1⟩
    · exact ⟨_, List.mem_of_getElem? (i := 22) rfl, hh (k0_off6_inb k 4) h1⟩
    · exact ⟨_, List.mem_of_getElem? (i := 20) rfl, hh (k0_off6_inb k 5) h1⟩
    · exact ⟨_, List.mem_of_getElem? (i := 18) rfl, hh (k0_off6_inb k 6) h1⟩
    · exact ⟨_, List.mem_of_getElem? (i := 16) rfl, hh (k0_off6_inb k 7) h1⟩
    · exact ⟨_, List.mem_of_getElem? (i := 14) rfl, hh (k0_off6_inb k 8) h1⟩
    · exact ⟨_, List.mem_of_getElem? (i := 12) rfl, hh (k0_off6_inb k 9) h1⟩
    · exact ⟨_, List.mem_of_getElem? (i := 10) rfl, hh (k0_off6_inb k 10) h1⟩
    · exact ⟨_, List.mem_of_getElem? (i := 8) rfl, hh (k0_off6_inb k 11) h1⟩
    · exact ⟨_, List.mem_of_getElem? (i := 6) rfl, hh (k0_off6_inb k 12) h1⟩
    · exact ⟨_, List.mem_of_getElem? (i := 4) rfl, hh (k0_off6_inb k 13) h1⟩
    · exact ⟨_, List.mem_of_getElem? (i := 2) rfl, hh (k0_off6_inb k 14) h1⟩
    · exact ⟨_, List.mem_of_getElem? (i := 0) rfl, hh (k0_off6_inb k 15) h1⟩

theorem prepped2 (X : BufTy.Contents (Elt F) a3.view.ty) (W : BufTy.Contents (Elt F) a6.view.ty) (G : a9.view.ty.Contents (Elt F)) :
    a9.view.read (Elt F) (a9.view.writes (Elt F) G (pb_k0_t2 (F := F) 𝒱₀ c none i a2 g2 a3 g3 a4 g4 a5 g5 a6 g6 a7 g7 a8 g8 a9 g9 a10 g10 k0_pay283 k0_pay284 X W k0_t2_loop.trips)) = prepK (a3.view.read (Elt F) X) (a6.view.read (Elt F) W) := by
  have e : pb_k0_t2 (F := F) 𝒱₀ c none i a2 g2 a3 g3 a4 g4 a5 g5 a6 g6 a7 g7 a8 g8 a9 g9 a10 g10 k0_pay283 k0_pay284 X W k0_t2_loop.trips = tripL_k0_t2 (F := F) 𝒱₀ c none i a2 g2 a3 g3 a4 g4 a5 g5 a6 g6 a7 g7 a8 g8 a9 g9 a10 g10 k0_pay283 k0_pay284 X W ⟨1, by decide +kernel⟩ ++ tripL_k0_t2 (F := F) 𝒱₀ c none i a2 g2 a3 g3 a4 g4 a5 g5 a6 g6 a7 g7 a8 g8 a9 g9 a10 g10 k0_pay283 k0_pay284 X W ⟨0, by decide +kernel⟩ := by
    refine (pb_k0_t2_succ (F := F) 𝒱₀ c none i a2 g2 a3 g3 a4 g4 a5 g5 a6 g6 a7 g7 a8 g8 a9 g9 a10 g10 k0_pay283 k0_pay284 X W ⟨1, by decide +kernel⟩).trans ?_
    congr 1
    refine (pb_k0_t2_succ (F := F) 𝒱₀ c none i a2 g2 a3 g3 a4 g4 a5 g5 a6 g6 a7 g7 a8 g8 a9 g9 a10 g10 k0_pay283 k0_pay284 X W ⟨0, by decide +kernel⟩).trans ?_
    exact List.append_nil _
  rw [e]
  funext y
  refine View.read_writes_apply_of_pieces _ _ _ _ (fun p hp => ?_) y ?_
  · rcases List.mem_append.mp hp with h | h
    · exact pieces2 c i a2 a3 a4 g2 g3 g4 a5 a6 g5 g6 a7 g7 a8 a9 a10 g8 g9 g10 X W _ p h
    · exact pieces2 c i a2 a3 a4 g2 g3 g4 a5 a6 g5 g6 a7 g7 a8 a9 a10 g8 g9 g10 X W _ p h
  · have h32 : (y 0).val < 32 := (y 0).isLt
    by_cases h : (y 0).val / 16 = 1
    · obtain ⟨p, hp, hy⟩ := cover2 c i a2 a3 a4 g2 g3 g4 a5 a6 g5 g6 a7 g7 a8 a9 a10 g8 g9 g10 X W ⟨1, by decide +kernel⟩ y h
      exact ⟨p, List.mem_append_left _ hp, hy⟩
    · obtain ⟨p, hp, hy⟩ := cover2 c i a2 a3 a4 g2 g3 g4 a5 a6 g5 g6 a7 g7 a8 a9 a10 g8 g9 g10 X W ⟨0, by decide +kernel⟩ y (by show _ = 0; omega)
      exact ⟨p, List.mem_append_right _ hp, hy⟩

end

end Cert.Attn
-- ==== Proof.AttnPrepQ.lean ====
module

public import proofs.«01_k».proof.Proof.AttnPrep
public import Idealize.ShloMosaic.Lib.Pointwise
public import Idealize.ShloMosaic.Lib.Writes

@[expose] public section

set_option maxRecDepth 65536

/-! # The loop that prepares this array -/

noncomputable section

namespace Cert.Attn

open Cert.Kernel3Ideal Cert.Kernel3Ideal.Gen
open Idealize.ShloMosaic Idealize.ShloMosaic.TcCoe Idealize.ShloMosaic.Tactic

variable {F : FTy → Type} [FloatOps F] [Named F]

def prepQ (x : Vec F S1x4096x128 .f32) (w : Vec F S1x128 .f32) : Vec F S32x256x128 .bf16 :=
  prep (fun k => k0_pay36 k0_pay277 (k0_pay281 128#32 k0_pay278 k0_pay279 k0_pay280 0#1) (rows x k) w) (fun k => k0_pay37 k0_pay277 (k0_pay281 128#32 k0_pay278 k0_pay279 k0_pay280 0#1) (rows x k) w)

section
variable (c : Dev nD) (i : grid0.Coords) (a2 a3 a4 : Memref sig .tc .vmem S1x4096x128 .f32) (g2 : a2.IsWhole) (g3 : a3.IsWhole) (g4 : a4.IsWhole)
  (a5 a6 : Memref sig .tc .vmem S1x128 .f32) (g5 : a5.IsWhole) (g6 : a6.IsWhole) (a7 : Memref sig .tc .vmem S1x4096x128 .f32) (g7 : a7.IsWhole)
  (a8 a9 a10 : Memref sig .tc .vmem S32x256x128 .bf16) (g8 : a8.IsWhole) (g9 : a9.IsWhole) (g10 : a10.IsWhole)

theorem off_t1 : ∀ (k : Fin k0_t1_loop.trips) (j : Fin 16), k0_off2 k (BitVec.ofNat 32 j.val) = ![16 * k.val + j.val, 0, 0] ∧ k0_off3 k (BitVec.ofNat 32 j.val) = ![16 * k.val + j.val, 128, 0] := by decide +kernel
theorem load_t1 : ∀ k : Fin k0_t1_loop.trips, k0_off1 k = ![0, 2048 * k.val, 0] := by decide +kernel

set_option maxHeartbeats 4000000 in
theorem pieces1 (X : BufTy.Contents (Elt F) a2.view.ty) (W : BufTy.Contents (Elt F) a5.view.ty) (k : Fin k0_t1_loop.trips) : ∀ p ∈ tripL_k0_t1 (F := F) 𝒱₀ c none i a2 g2 a3 g3 a4 g4 a5 g5 a6 g6 a7 g7 a8 g8 a9 g9 a10 g10 k0_pay277 128#32 k0_pay278 k0_pay279 k0_pay280 0#1 X W k, ∀ x, p.2 x = prepQ (a2.view.read (Elt F) X) (a5.view.read (Elt F) W) (p.1.emb x) := by
  have hk : k.val < 2 := lt_of_lt_of_eq k.isLt (by decide +kernel)
  have hr := read_rows a2.view X _ (k0_off1_inb k) k.val hk (load_t1 k)
  have hw := View.readAt_full a5.view W inb_S1x128_S1x128_0_0
  have hA := fun (j : Fin 16) (h) (inb) => piece_lo (fun k => k0_pay36 k0_pay277 (k0_pay281 128#32 k0_pay278 k0_pay279 k0_pay280 0#1) (rows (a2.view.read (Elt F) X) k) (a5.view.read (Elt F) W)) (fun k => k0_pay37 k0_pay277 (k0_pay281 128#32 k0_pay278 k0_pay279 k0_pay280 0#1) (rows (a2.view.read (Elt F) X) k) (a5.view.read (Elt F) W)) k.val (k0_pay36 k0_pay277 (k0_pay281 128#32 k0_pay278 k0_pay279 k0_pay280 0#1) (a2.view.readAt (Elt F) (Rect.unit (s := S1x4096x128) (k0_off1 k) S1x2048x128.size (k0_off1_inb k)).toLoadRect X) (a5.view.readAt (Elt F) (Rect.unit (s := S1x128) ![0, 0] S1x128.size inb_S1x128_S1x128_0_0).toLoadRect W)) (by rw [hr, hw]) j.val hk j.isLt h (k0_off2 k (BitVec.ofNat 32 j.val)) inb (off_t1 k j).1
  have hB := fun (j : Fin 16) (h) (inb) => piece_hi (fun k => k0_pay36 k0_pay277 (k0_pay281 128#32 k0_pay278 k0_pay279 k0_pay280 0#1) (rows (a2.view.read (Elt F) X) k) (a5.view.read (Elt F) W)) (fun k => k0_pay37 k0_pay277 (k0_pay281 128#32 k0_pay278 k0_pay279 k0_pay280 0#1) (rows (a2.view.read (Elt F) X) k) (a5.view.read (Elt F) W)) k.val (k0_pay37 k0_pay277 (k0_pay281 128#32 k0_pay278 k0_pay279 k0_pay280 0#1) (a2.view.readAt (Elt F) (Rect.unit (s := S1x4096x128) (k0_off1 k) S1x2048x128.size (k0_off1_inb k)).toLoadRect X) (a5.view.readAt (Elt F) (Rect.unit (s := S1x128) ![0, 0] S1x128.size inb_S1x128_S1x128_0_0).toLoadRect W)) (by rw [hr, hw]) j.val hk j.isLt h (k0_off3 k (BitVec.ofNat 32 j.val)) inb (off_t1 k j).2
  unfold prepQ
  unfold tripL_k0_t1 trip_k0_t1
  dsimp only
  simp only [List.forall_mem_cons]
  refine ⟨hB 15 slices_S2048x128_o1920_0_S128x128 (k0_off3_inb k 15), ?_⟩
  refine ⟨hA 15 slices_S2048x128_o1920_0_S128x128 (k0_off2_inb k 15), ?_⟩
  refine ⟨hB 14 slices_S2048x128_o1792_0_S128x128 (k0_off3_inb k 14), ?_⟩
  refine ⟨hA 14 slices_S2048x128_o1792_0_S128x128 (k0_off2_inb k 14), ?_⟩
  refine ⟨hB 13 slices_S2048x128_o1664_0_S128x128 (k0_off3_inb k 13), ?_⟩
  refine ⟨hA 13 slices_S2048x128_o1664_0_S128x128 (k0_off2_inb k 13), ?_⟩
  refine ⟨hB 12 slices_S2048x128_o1536_0_S128x128 (k0_off3_inb k 12), ?_⟩
  refine ⟨hA 12 slices_S2048x128_o1536_0_S128x128 (k0_off2_inb k 12), ?_⟩
  refine ⟨hB 11 slices_S2048x128_o1408_0_S128x128 (k0_off3_inb k 11), ?_⟩
  refine ⟨hA 11 slices_S2048x128_o1408_0_S128x128 (k0_off2_inb k 11), ?_⟩
  refine ⟨hB 10 slices_S2048x128_o1280_0_S128x128 (k0_off3_inb k 10), ?_⟩
  refine ⟨hA 10 slices_S2048x128_o1280_0_S128x128 (k0_off2_inb k 10), ?_⟩
  refine ⟨hB 9 slices_S2048x128_o1152_0_S128x128 (k0_off3_inb k 9), ?_⟩
  refine ⟨hA 9 slices_S2048x128_o1152_0_S128x128 (k0_off2_inb k 9), ?_⟩
  refine ⟨hB 8 slices_S2048x128_o1024_0_S128x128 (k0_off3_inb k 8), ?_⟩
  refine ⟨hA 8 slices_S2048x128_o1024_0_S128x128 (k0_off2_inb k 8), ?_⟩
  refine ⟨hB 7 slices_S2048x128_o896_0_S128x128 (k0_off3_inb k 7), ?_⟩
  refine ⟨hA 7 slices_S2048x128_o896_0_S128x128 (k0_off2_inb k 7), ?_⟩
  refine ⟨hB 6 slices_S2048x128_o768_0_S128x128 (k0_off3_inb k 6), ?_⟩
  refine ⟨hA 6 slices_S2048x128_o768_0_S128x128 (k0_off2_inb k 6), ?_⟩
  refine ⟨hB 5 slices_S2048x128_o640_0_S128x128 (k0_off3_inb k 5), ?_⟩
  refine ⟨hA 5 slices_S2048x128_o640_0_S128x128 (k0_off2_inb k 5), ?_⟩
  refine ⟨hB 4 slices_S2048x128_o512_0_S128x128 (k0_off3_inb k 4), ?_⟩
  refine ⟨hA 4 slices_S2048x128_o512_0_S128x128 (k0_off2_inb k 4), ?_⟩
  refine ⟨hB 3 slices_S2048x128_o384_0_S128x128 (k0_off3_inb k 3), ?_⟩
  refine ⟨hA 3 slices_S2048x128_o384_0_S128x128 (k0_off2_inb k 3), ?_⟩
  refine ⟨hB 2 slices_S2048x128_o256_0_S128x128 (k0_off3_inb k 2), ?_⟩
  refine ⟨hA 2 slices_S2048x128_o256_0_S128x128 (k0_off2_inb k 2), ?_⟩
  refine ⟨hB 1 slices_S2048x128_o128_0_S128x128 (k0_off3_inb k 1), ?_⟩
  refine ⟨hA 1 slices_S2048x128_o128_0_S128x128 (k0_off2_inb k 1), ?_⟩
  refine ⟨hB 0 slices_S2048x128_o0_0_S128x128 (k0_off3_inb k 0), ?_⟩
  refine ⟨hA 0 slices_S2048x128_o0_0_S128x128 (k0_off2_inb k 0), ?_⟩
  exact fun _ h => absurd h List.not_mem_nil

theorem cover1 (X : BufTy.Contents (Elt F) a2.view.ty) (W : BufTy.Contents (Elt F) a5.view.ty) (k : Fin k0_t1_loop.trips) (y : S32x256x128.Idx) (hy : (y 0).val / 16 = k.val) : ∃ p ∈ tripL_k0_t1 (F := F) 𝒱₀ c none i a2 g2 a3 g3 a4 g4 a5 g5 a6 g6 a7 g7 a8 g8 a9 g9 a10 g10 k0_pay277 128#32 k0_pay278 k0_pay279 k0_pay280 0#1 X W k, y ∈ p.1.set := by
  unfold tripL_k0_t1 trip_k0_t1
  dsimp only
  obtain ⟨j, hj⟩ : ∃ j : Fin 16, (y 0).val = 16 * k.val + j.val := ⟨⟨(y 0).val % 16, Nat.mod_lt _ (by decide)⟩, by show (y 0).val = 16 * k.val + (y 0).val % 16; omega⟩
  have hl := fun inb => mem_lo (k0_off2 k (BitVec.ofNat 32 j.val)) inb _ (off_t1 k j).1 y hj
  have hh := fun inb => mem_hi (k0_off3 k (BitVec.ofNat 32 j.val)) inb _ (off_t1 k j).2 y hj
  by_cases h1 : (y 1).val < 128
  · fin_cases j
    · exact ⟨_, List.mem_of_getElem? (i := 31) rfl, hl (k0_off2_inb k 0) h1⟩
    · exact ⟨_, List.mem_of_getElem? (i := 29) rfl, hl (k0_off2_inb k 1) h1⟩
    · exact ⟨_, List.mem_of_getElem? (i := 27) rfl, hl (k0_off2_inb k 2) h1⟩
    · exact ⟨_, List.mem_of_getElem? (i := 25) rfl, hl (k0_off2_inb k 3) h1⟩
    · exact ⟨_, List.mem_of_getElem? (i := 23) rfl, hl (k0_off2_inb k 4) h1⟩
    · exact ⟨_, List.mem_of_getElem? (i := 21) rfl, hl (k0_off2_inb k 5) h1⟩
    · exact ⟨_, List.mem_of_getElem? (i := 19) rfl, hl (k0_off2_inb k 6) h1⟩
    · exact ⟨_, List.mem_of_getElem? (i := 17) rfl, hl (k0_off2_inb k 7) h1⟩
    · exact ⟨_, List.mem_of_getElem? (i := 15) rfl, hl (k0_off2_inb k 8) h1⟩
    · exact ⟨_, List.mem_of_getElem? (i := 13) rfl, hl (k0_off2_inb k 9) h1⟩
    · exact ⟨_, List.mem_of_getElem? (i := 11) rfl, hl (k0_off2_inb k 10) h1⟩
    · exact ⟨_, List.mem_of_getElem? (i := 9) rfl, hl (k0_off2_inb k 11) h1⟩
    · exact ⟨_, List.mem_of_getElem? (i := 7) rfl, hl (k0_off2_inb k 12) h1⟩
    · exact ⟨_, List.mem_of_getElem? (i := 5) rfl, hl (k0_off2_inb k 13) h1⟩
    · exact ⟨_, List.mem_of_getElem? (i := 3) rfl, hl (k0_off2_inb k 14) h1⟩
    · exact ⟨_, List.mem_of_getElem? (i := 1) rfl, hl (k0_off2_inb k 15) h1⟩
  · fin_cases j
    · exact ⟨_, List.mem_of_getElem? (i := 30) rfl, hh (k0_off3_inb k 0) h1⟩
    · exact ⟨_, List.mem_of_getElem? (i := 28) rfl, hh (k0_off3_inb k 1) h1⟩
    · exact ⟨_, List.mem_of_getElem? (i := 26) rfl, hh (k0_off3_inb k 2) h1⟩
    · exact ⟨_, List.mem_of_getElem? (i := 24) rfl, hh (k0_off3_inb k 3) h1⟩
    · exact ⟨_, List.mem_of_getElem? (i := 22) rfl, hh (k0_off3_inb k 4) h1⟩
    · exact ⟨_, List.mem_of_getElem? (i := 20) rfl, hh (k0_off3_inb k 5) h1⟩
    · exact ⟨_, List.mem_of_getElem? (i := 18) rfl, hh (k0_off3_inb k 6) h1⟩
    · exact ⟨_, List.mem_of_getElem? (i := 16) rfl, hh (k0_off3_inb k 7) h1⟩
    · exact ⟨_, List.mem_of_getElem? (i := 14) rfl, hh (k0_off3_inb k 8) h1⟩
    · exact ⟨_, List.mem_of_getElem? (i := 12) rfl, hh (k0_off3_inb k 9) h1⟩
    · exact ⟨_, List.mem_of_getElem? (i := 10) rfl, hh (k0_off3_inb k 10) h1⟩
    · exact ⟨_, List.mem_of_getElem? (i := 8) rfl, hh (k0_off3_inb k 11) h1⟩
    · exact ⟨_, List.mem_of_getElem? (i := 6) rfl, hh (k0_off3_inb k 12) h1⟩
    · exact ⟨_, List.mem_of_getElem? (i := 4) rfl, hh (k0_off3_inb k 13) h1⟩
    · exact ⟨_, List.mem_of_getElem? (i := 2) rfl, hh (k0_off3_inb k 14) h1⟩
    · exact ⟨_, List.mem_of_getElem? (i := 0) rfl, hh (k0_off3_inb k 15) h1⟩

theorem prepped1 (X : BufTy.Contents (Elt F) a2.view.ty) (W : BufTy.Contents (Elt F) a5.view.ty) (G : a8.view.ty.Contents (Elt F)) :
    a8.view.read (Elt F) (a8.view.writes (Elt F) G (pb_k0_t1 (F := F) 𝒱₀ c none i a2 g2 a3 g3 a4 g4 a5 g5 a6 g6 a7 g7 a8 g8 a9 g9 a10 g10 k0_pay277 128#32 k0_pay278 k0_pay279 k0_pay280 0#1 X W k0_t1_loop.trips)) = prepQ (a2.view.read (Elt F) X) (a5.view.read (Elt F) W) := by
  have e : pb_k0_t1 (F := F) 𝒱₀ c none i a2 g2 a3 g3 a4 g4 a5 g5 a6 g6 a7 g7 a8 g8 a9 g9 a10 g10 k0_pay277 128#32 k0_pay278 k0_pay279 k0_pay280 0#1 X W k0_t1_loop.trips = tripL_k0_t1 (F := F) 𝒱₀ c none i a2 g2 a3 g3 a4 g4 a5 g5 a6 g6 a7 g7 a8 g8 a9 g9 a10 g10 k0_pay277 128#32 k0_pay278 k0_pay279 k0_pay280 0#1 X W ⟨1, by decide +kernel⟩ ++ tripL_k0_t1 (F := F) 𝒱₀ c none i a2 g2 a3 g3 a4 g4 a5 g5 a6 g6 a7 g7 a8 g8 a9 g9 a10 g10 k0_pay277 128#32 k0_pay278 k0_pay279 k0_pay280 0#1 X W ⟨0, by decide +kernel⟩ := by
    refine (pb_k0_t1_succ (F := F) 𝒱₀ c none i a2 g2 a3 g3 a4 g4 a5 g5 a6 g6 a7 g7 a8 g8 a9 g9 a10 g10 k0_pay277 128#32 k0_pay278 k0_pay279 k0_pay280 0#1 X W ⟨1, by decide +kernel⟩).trans ?_
    congr 1
    refine (pb_k0_t1_succ (F := F) 𝒱₀ c none i a2 g2 a3 g3 a4 g4 a5 g5 a6 g6 a7 g7 a8 g8 a9 g9 a10 g10 k0_pay277 128#32 k0_pay278 k0_pay279 k0_pay280 0#1 X W ⟨0, by decide +kernel⟩).trans ?_
    exact List.append_nil _
  rw [e]
  funext y
  refine View.read_writes_apply_of_pieces _ _ _ _ (fun p hp => ?_) y ?_
  · rcases List.mem_append.mp hp with h | h
    · exact pieces1 c i a2 a3 a4 g2 g3 g4 a5 a6 g5 g6 a7 g7 a8 a9 a10 g8 g9 g10 X W _ p h
    · exact pieces1 c i a2 a3 a4 g2 g3 g4 a5 a6 g5 g6 a7 g7 a8 a9 a10 g8 g9 g10 X W _ p h
  · have h32 : (y 0).val < 32 := (y 0).isLt
    by_cases h : (y 0).val / 16 = 1
    · obtain ⟨p, hp, hy⟩ := cover1 c i a2 a3 a4 g2 g3 g4 a5 a6 g5 g6 a7 g7 a8 a9 a10 g8 g9 g10 X W ⟨1, by decide +kernel⟩ y h
      exact ⟨p, List.mem_append_left _ hp, hy⟩
    · obtain ⟨p, hp, hy⟩ := cover1 c i a2 a3 a4 g2 g3 g4 a5 a6 g5 g6 a7 g7 a8 a9 a10 g8 g9 g10 X W ⟨0, by decide +kernel⟩ y (by show _ = 0; omega)
      exact ⟨p, List.mem_append_right _ hp, hy⟩

end

end Cert.Attn
-- ==== Proof.AttnPrepV.lean ====
module

public import proofs.«01_k».proof.Proof.AttnPrep
public import Idealize.ShloMosaic.Lib.Pointwise
public import Idealize.ShloMosaic.Lib.Writes

@[expose] public section

set_option maxRecDepth 65536

/-! # The loop that prepares this array -/

noncomputable section

namespace Cert.Attn

open Cert.Kernel3Ideal Cert.Kernel3Ideal.Gen
open Idealize.ShloMosaic Idealize.ShloMosaic.TcCoe Idealize.ShloMosaic.Tactic

variable {F : FTy → Type} [FloatOps F] [Named F]

def prepV (x : Vec F S1x4096x128 .f32) : Vec F S32x256x128 .bf16 :=
  prep (fun k => k0_pay118 k0_pay287 (rows x k)) (fun k => k0_pay119 k0_pay287 (rows x k))

section
variable (c : Dev nD) (i : grid0.Coords) (a2 a3 a4 : Memref sig .tc .vmem S1x4096x128 .f32) (g2 : a2.IsWhole) (g3 : a3.IsWhole) (g4 : a4.IsWhole)
  (a5 a6 : Memref sig .tc .vmem S1x128 .f32) (g5 : a5.IsWhole) (g6 : a6.IsWhole) (a7 : Memref sig .tc .vmem S1x4096x128 .f32) (g7 : a7.IsWhole)
  (a8 a9 a10 : Memref sig .tc .vmem S32x256x128 .bf16) (g8 : a8.IsWhole) (g9 : a9.IsWhole) (g10 : a10.IsWhole)

theorem off_t3 : ∀ (k : Fin k0_t3_loop.trips) (j : Fin 16), k0_off8 k (BitVec.ofNat 32 j.val) = ![16 * k.val + j.val, 0, 0] ∧ k0_off9 k (BitVec.ofNat 32 j.val) = ![16 * k.val + j.val, 128, 0] := by decide +kernel
theorem load_t3 : ∀ k : Fin k0_t3_loop.trips, k0_off7 k = ![0, 2048 * k.val, 0] := by decide +kernel

set_option maxHeartbeats 4000000 in
theorem pieces3 (X : BufTy.Contents (Elt F) a4.view.ty) (k : Fin k0_t3_loop.trips) : ∀ p ∈ tripL_k0_t3 (F := F) 𝒱₀ c none i a2 g2 a3 g3 a4 g4 a5 g5 a6 g6 a7 g7 a8 g8 a9 g9 a10 g10 k0_pay283 k0_pay284 X k, ∀ x, p.2 x = prepV (a4.view.read (Elt F) X) (p.1.emb x) := by
  have hk : k.val < 2 := lt_of_lt_of_eq k.isLt (by decide +kernel)
  have hr := read_rows a4.view X _ (k0_off7_inb k) k.val hk (load_t3 k)
  have hA := fun (j : Fin 16) (h) (inb) => piece_lo (fun k => k0_pay118 k0_pay287 (rows (a4.view.read (Elt F) X) k)) (fun k => k0_pay119 k0_pay287 (rows (a4.view.read (Elt F) X) k)) k.val (k0_pay118 k0_pay287 (a4.view.readAt (Elt F) (Rect.unit (s := S1x4096x128) (k0_off7 k) S1x2048x128.size (k0_off7_inb k)).toLoadRect X)) (by rw [hr]) j.val hk j.isLt h (k0_off8 k (BitVec.ofNat 32 j.val)) inb (off_t3 k j).1
  have hB := fun (j : Fin 16) (h) (inb) => piece_hi (fun k => k0_pay118 k0_pay287 (rows (a4.view.read (Elt F) X) k)) (fun k => k0_pay119 k0_pay287 (rows (a4.view.read (Elt F) X) k)) k.val (k0_pay119 k0_pay287 (a4.view.readAt (Elt F) (Rect.unit (s := S1x4096x128) (k0_off7 k) S1x2048x128.size (k0_off7_inb k)).toLoadRect X)) (by rw [hr]) j.val hk j.isLt h (k0_off9 k (BitVec.ofNat 32 j.val)) inb (off_t3 k j).2
  unfold prepV
  unfold tripL_k0_t3 trip_k0_t3
  dsimp only
  simp only [List.forall_mem_cons]
  refine ⟨hB 15 slices_S2048x128_o1920_0_S128x128 (k0_off9_inb k 15), ?_⟩
  refine ⟨hA 15 slices_S2048x128_o1920_0_S128x128 (k0_off8_inb k 15), ?_⟩
  refine ⟨hB 14 slices_S2048x128_o1792_0_S128x128 (k0_off9_inb k 14), ?_⟩
  refine ⟨hA 14 slices_S2048x128_o1792_0_S128x128 (k0_off8_inb k 14), ?_⟩
  refine ⟨hB 13 slices_S2048x128_o1664_0_S128x128 (k0_off9_inb k 13), ?_⟩
  refine ⟨hA 13 slices_S2048x128_o1664_0_S128x128 (k0_off8_inb k 13), ?_⟩
  refine ⟨hB 12 slices_S2048x128_o1536_0_S128x128 (k0_off9_inb k 12), ?_⟩
  refine ⟨hA 12 slices_S2048x128_o1536_0_S128x128 (k0_off8_inb k 12), ?_⟩
  refine ⟨hB 11 slices_S2048x128_o1408_0_S128x128 (k0_off9_inb k 11), ?_⟩
  refine ⟨hA 11 slices_S2048x128_o1408_0_S128x128 (k0_off8_inb k 11), ?_⟩
  refine ⟨hB 10 slices_S2048x128_o1280_0_S128x128 (k0_off9_inb k 10), ?_⟩
  refine ⟨hA 10 slices_S2048x128_o1280_0_S128x128 (k0_off8_inb k 10), ?_⟩
  refine ⟨hB 9 slices_S2048x128_o1152_0_S128x128 (k0_off9_inb k 9), ?_⟩
  refine ⟨hA 9 slices_S2048x128_o1152_0_S128x128 (k0_off8_inb k 9), ?_⟩
  refine ⟨hB 8 slices_S2048x128_o1024_0_S128x128 (k0_off9_inb k 8), ?_⟩
  refine ⟨hA 8 slices_S2048x128_o1024_0_S128x128 (k0_off8_inb k 8), ?_⟩
  refine ⟨hB 7 slices_S2048x128_o896_0_S128x128 (k0_off9_inb k 7), ?_⟩
  refine ⟨hA 7 slices_S2048x128_o896_0_S128x128 (k0_off8_inb k 7), ?_⟩
  refine ⟨hB 6 slices_S2048x128_o768_0_S128x128 (k0_off9_inb k 6), ?_⟩
  refine ⟨hA 6 slices_S2048x128_o768_0_S128x128 (k0_off8_inb k 6), ?_⟩
  refine ⟨hB 5 slices_S2048x128_o640_0_S128x128 (k0_off9_inb k 5), ?_⟩
  refine ⟨hA 5 slices_S2048x128_o640_0_S128x128 (k0_off8_inb k 5), ?_⟩
  refine ⟨hB 4 slices_S2048x128_o512_0_S128x128 (k0_off9_inb k 4), ?_⟩
  refine ⟨hA 4 slices_S2048x128_o512_0_S128x128 (k0_off8_inb k 4), ?_⟩
  refine ⟨hB 3 slices_S2048x128_o384_0_S128x128 (k0_off9_inb k 3), ?_⟩
  refine ⟨hA 3 slices_S2048x128_o384_0_S128x128 (k0_off8_inb k 3), ?_⟩
  refine ⟨hB 2 slices_S2048x128_o256_0_S128x128 (k0_off9_inb k 2), ?_⟩
  refine ⟨hA 2 slices_S2048x128_o256_0_S128x128 (k0_off8_inb k 2), ?_⟩
  refine ⟨hB 1 slices_S2048x128_o128_0_S128x128 (k0_off9_inb k 1), ?_⟩
  refine ⟨hA 1 slices_S2048x128_o128_0_S128x128 (k0_off8_inb k 1), ?_⟩
  refine ⟨hB 0 slices_S2048x128_o0_0_S128x128 (k0_off9_inb k 0), ?_⟩
  refine ⟨hA 0 slices_S2048x128_o0_0_S128x128 (k0_off8_inb k 0), ?_⟩
  exact fun _ h => absurd h List.not_mem_nil

theorem cover3 (X : BufTy.Contents (Elt F) a4.view.ty) (k : Fin k0_t3_loop.trips) (y : S32x256x128.Idx) (hy : (y 0).val / 16 = k.val) : ∃ p ∈ tripL_k0_t3 (F := F) 𝒱₀ c none i a2 g2 a3 g3 a4 g4 a5 g5 a6 g6 a7 g7 a8 g8 a9 g9 a10 g10 k0_pay283 k0_pay284 X k, y ∈ p.1.set := by
  unfold tripL_k0_t3 trip_k0_t3
  dsimp only
  obtain ⟨j, hj⟩ : ∃ j : Fin 16, (y 0).val = 16 * k.val + j.val := ⟨⟨(y 0).val % 16, Nat.mod_lt _ (by decide)⟩, by show (y 0).val = 16 * k.val + (y 0).val % 16; omega⟩
  have hl := fun inb => mem_lo (k0_off8 k (BitVec.ofNat 32 j.val)) inb _ (off_t3 k j).1 y hj
  have hh := fun inb => mem_hi (k0_off9 k (BitVec.ofNat 32 j.val)) inb _ (off_t3 k j).2 y hj
  by_cases h1 : (y 1).val < 128
  · fin_cases j
    · exact ⟨_, List.mem_of_getElem? (i := 31) rfl, hl (k0_off8_inb k 0) h1⟩
    · exact ⟨_, List.mem_of_getElem? (i := 29) rfl, hl (k0_off8_inb k 1) h1⟩
    · exact ⟨_, List.mem_of_getElem? (i := 27) rfl, hl (k0_off8_inb k 2) h1⟩
    · exact ⟨_, List.mem_of_getElem? (i := 25) rfl, hl (k0_off8_inb k 3) h1⟩
    · exact ⟨_, List.mem_of_getElem? (i := 23) rfl, hl (k0_off8_inb k 4) h1⟩
    · exact ⟨_, List.mem_of_getElem? (i := 21) rfl, hl (k0_off8_inb k 5) h1⟩
    · exact ⟨_, List.mem_of_getElem? (i := 19) rfl, hl (k0_off8_inb k 6) h1⟩
    · exact ⟨_, List.mem_of_getElem? (i := 17) rfl, hl (k0_off8_inb k 7) h1⟩
    · exact ⟨_, List.mem_of_getElem? (i := 15) rfl, hl (k0_off8_inb k 8) h1⟩
    · exact ⟨_, List.mem_of_getElem? (i := 13) rfl, hl (k0_off8_inb k 9) h1⟩
    · exact ⟨_, List.mem_of_getElem? (i := 11) rfl, hl (k0_off8_inb k 10) h1⟩
    · exact ⟨_, List.mem_of_getElem? (i := 9) rfl, hl (k0_off8_inb k 11) h1⟩
    · exact ⟨_, List.mem_of_getElem? (i := 7) rfl, hl (k0_off8_inb k 12) h1⟩
    · exact ⟨_, List.mem_of_getElem? (i := 5) rfl, hl (k0_off8_inb k 13) h1⟩
    · exact ⟨_, List.mem_of_getElem? (i := 3) rfl, hl (k0_off8_inb k 14) h1⟩
    · exact ⟨_, List.mem_of_getElem? (i := 1) rfl, hl (k0_off8_inb k 15) h1⟩
  · fin_cases j
    · exact ⟨_, List.mem_of_getElem? (i := 30) rfl, hh (k0_off9_inb k 0) h1⟩
    · exact ⟨_, List.mem_of_getElem? (i := 28) rfl, hh (k0_off9_inb k 1) h1⟩
    · exact ⟨_, List.mem_of_getElem? (i := 26) rfl, hh (k0_off9_inb k 2) h1⟩
    · exact ⟨_, List.mem_of_getElem? (i := 24) rfl, hh (k0_off9_inb k 3) h1⟩
    · exact ⟨_, List.mem_of_getElem? (i := 22) rfl, hh (k0_off9_inb k 4) h1⟩
    · exact ⟨_, List.mem_of_getElem? (i := 20) rfl, hh (k0_off9_inb k 5) h1⟩
    · exact ⟨_, List.mem_of_getElem? (i := 18) rfl, hh (k0_off9_inb k 6) h1⟩
    · exact ⟨_, List.mem_of_getElem? (i := 16) rfl, hh (k0_off9_inb k 7) h1⟩
    · exact ⟨_, List.mem_of_getElem? (i := 14) rfl, hh (k0_off9_inb k 8) h1⟩
    · exact ⟨_, List.mem_of_getElem? (i := 12) rfl, hh (k0_off9_inb k 9) h1⟩
    · exact ⟨_, List.mem_of_getElem? (i := 10) rfl, hh (k0_off9_inb k 10) h1⟩
    · exact ⟨_, List.mem_of_getElem? (i := 8) rfl, hh (k0_off9_inb k 11) h1⟩
    · exact ⟨_, List.mem_of_getElem? (i := 6) rfl, hh (k0_off9_inb k 12) h1⟩
    · exact ⟨_, List.mem_of_getElem? (i := 4) rfl, hh (k0_off9_inb k 13) h1⟩
    · exact ⟨_, List.mem_of_getElem? (i := 2) rfl, hh (k0_off9_inb k 14) h1⟩
    · exact ⟨_, List.mem_of_getElem? (i := 0) rfl, hh (k0_off9_inb k 15) h1⟩

theorem prepped3 (X : BufTy.Contents (Elt F) a4.view.ty) (G : a10.view.ty.Contents (Elt F)) :
    a10.view.read (Elt F) (a10.view.writes (Elt F) G (pb_k0_t3 (F := F) 𝒱₀ c none i a2 g2 a3 g3 a4 g4 a5 g5 a6 g6 a7 g7 a8 g8 a9 g9 a10 g10 k0_pay283 k0_pay284 X k0_t3_loop.trips)) = prepV (a4.view.read (Elt F) X) := by
  have e : pb_k0_t3 (F := F) 𝒱₀ c none i a2 g2 a3 g3 a4 g4 a5 g5 a6 g6 a7 g7 a8 g8 a9 g9 a10 g10 k0_pay283 k0_pay284 X k0_t3_loop.trips = tripL_k0_t3 (F := F) 𝒱₀ c none i a2 g2 a3 g3 a4 g4 a5 g5 a6 g6 a7 g7 a8 g8 a9 g9 a10 g10 k0_pay283 k0_pay284 X ⟨1, by decide +kernel⟩ ++ tripL_k0_t3 (F := F) 𝒱₀ c none i a2 g2 a3 g3 a4 g4 a5 g5 a6 g6 a7 g7 a8 g8 a9 g9 a10 g10 k0_pay283 k0_pay284 X ⟨0, by decide +kernel⟩ := by
    refine (pb_k0_t3_succ (F := F) 𝒱₀ c none i a2 g2 a3 g3 a4 g4 a5 g5 a6 g6 a7 g7 a8 g8 a9 g9 a10 g10 k0_pay283 k0_pay284 X ⟨1, by decide +kernel⟩).trans ?_
    congr 1
    refine (pb_k0_t3_succ (F := F) 𝒱₀ c none i a2 g2 a3 g3 a4 g4 a5 g5 a6 g6 a7 g7 a8 g8 a9 g9 a10 g10 k0_pay283 k0_pay284 X ⟨0, by decide +kernel⟩).trans ?_
    exact List.append_nil _
  rw [e]
  funext y
  refine View.read_writes_apply_of_pieces _ _ _ _ (fun p hp => ?_) y ?_
  · rcases List.mem_append.mp hp with h | h
    · exact pieces3 c i a2 a3 a4 g2 g3 g4 a5 a6 g5 g6 a7 g7 a8 a9 a10 g8 g9 g10 X _ p h
    · exact pieces3 c i a2 a3 a4 g2 g3 g4 a5 a6 g5 g6 a7 g7 a8 a9 a10 g8 g9 g10 X _ p h
  · have h32 : (y 0).val < 32 := (y 0).isLt
    by_cases h : (y 0).val / 16 = 1
    · obtain ⟨p, hp, hy⟩ := cover3 c i a2 a3 a4 g2 g3 g4 a5 a6 g5 g6 a7 g7 a8 a9 a10 g8 g9 g10 X ⟨1, by decide +kernel⟩ y h
      exact ⟨p, List.mem_append_left _ hp, hy⟩
    · obtain ⟨p, hp, hy⟩ := cover3 c i a2 a3 a4 g2 g3 g4 a5 a6 g5 g6 a7 g7 a8 a9 a10 g8 g9 g10 X ⟨0, by decide +kernel⟩ y (by show _ = 0; omega)
      exact ⟨p, List.mem_append_right _ hp, hy⟩

end

end Cert.Attn
-- ==== Proof.AttnRun.lean ====
module

public import proofs.«01_k».proof.Proof.AttnPrepK
public import proofs.«01_k».proof.Proof.AttnPrepQ
public import proofs.«01_k».proof.Proof.AttnPrepV

@[expose] public section

set_option maxRecDepth 65536

/-!
# A pair of heads

The whole body at one grid point: the three arrays prepared, the first two query blocks, then the loop over pairs of query blocks.
-/

noncomputable section

namespace Cert.Attn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- A store of a query block's rows. -/
theorem read_rows_put (uo : FVec F S256x256 .bf16) (mk : IVec S128x128 1) (Q X Y : Vec F S32x256x128 .bf16) (v : View sig .tc .vmem S1x4096x128 .f32) (f : v.ty.Contents (Elt F))
    (off : Fin 3 → ℕ) (inb) (n : ℕ) (h : off = ![0, 128 * n, 0]) (L : List (View.Piece (Elt F) S1x4096x128 .f32)) (y : S1x4096x128.Idx) :
    v.read (Elt F) (v.writes (Elt F) f (⟨Rect.unit (s := S1x4096x128) off S1x128x128.size inb, oRows uo mk Q X Y n⟩ :: L)) y
      = if (y 1).val / 128 = n then oArr uo mk Q X Y y else v.read (Elt F) (v.writes (Elt F) f L) y := by
  rw [View.read_writes_cons_put v f inb _ L h]
  unfold VecWindow.put
  have h0 : (y 0).val = 0 := Nat.lt_one_iff.mp (y 0).isLt
  have h2 : (y 2).val < 128 := (y 2).isLt
  by_cases hy : (y 1).val / 128 = n
  · rw [if_pos hy, dif_pos (fun a => by
      fin_cases a
      · exact ⟨Nat.zero_le _, by show (y 0).val < 0 + 1; omega⟩
      · exact ⟨by show 128 * n ≤ (y 1).val; omega, by show (y 1).val < 128 * n + 128; omega⟩
      · exact ⟨Nat.zero_le _, by show (y 2).val < 0 + 128; omega⟩)]
    unfold oRows oArr
    generalize hg : Rect.unitLocal (s := S1x4096x128) _ _ = g
    have g1 : (g 1).val = (y 1).val % 128 := by rw [← hg]; show (y 1).val - 128 * n = _; omega
    have g2 : g 2 = y 2 := by rw [← hg]; apply Fin.ext; show (y 2).val - 0 = _; omega
    refine Eq.trans (b := oBlk uo mk Q X Y n (ix2 (g 1) (g 2))) ?_ ?_
    · clear hg g1 g2
      revert g
      intro (g : S1x128x128.Idx)
      idx_vars g
      pointwise
    · rw [hy, g2]
      congr 2
      exact Fin.ext g1
  · rw [if_neg hy, dif_neg (fun hh => by
      have := hh 1
      have a1 : 128 * n ≤ (y 1).val := this.1
      have a2 : (y 1).val < 128 * n + 128 := this.2
      omega)]

section
variable (c : Dev nD) (i : grid0.Coords) (a2 a3 a4 : Memref sig .tc .vmem S1x4096x128 .f32) (g2 : a2.IsWhole) (g3 : a3.IsWhole) (g4 : a4.IsWhole)
  (a5 a6 : Memref sig .tc .vmem S1x128 .f32) (g5 : a5.IsWhole) (g6 : a6.IsWhole) (a7 : Memref sig .tc .vmem S1x4096x128 .f32) (g7 : a7.IsWhole)
  (a8 a9 a10 : Memref sig .tc .vmem S32x256x128 .bf16) (g8 : a8.IsWhole) (g9 : a9.IsWhole) (g10 : a10.IsWhole)

set_option warn.classDefReducibility false in
/-- The loop over pairs of query blocks: before each, the rows of the earlier blocks are the result's. -/
def inv4 (f8 : HbBuf (F := F) c a8) (f9 : HbBuf (F := F) c a9) (f10 : HbBuf (F := F) c a10) (uo : FVec F S256x256 .bf16) (mk : IVec S128x128 1) :
    LoopInvTy_k0_t4 (F := F) Unit ℕ (UR sig nD τ) ℕ 𝒱₀ c none Set.univ i a2 g2 a3 g3 a4 g4 a5 g5 a6 g6 a7 g7 a8 g8 a9 g9 a10 g10 uo mk zero where
  inv k _ := iprop(hbPt c a8 f8 ∗ held c a9 a10 f9 f10 ∗ ∃ f, hbPt c a7 f
    ∗ ⌜∀ y : S1x4096x128.Idx, (y 1).val < 256 * (k + 1) → a7.view.read (Elt F) f y = oArr uo mk (a8.view.read (Elt F) f8) (a9.view.read (Elt F) f9) (a10.view.read (Elt F) f10) y⌝)
  step k acc := by
    iintro ⟨H8, H, ⟨%f, H7, %h⟩⟩
    iapply (trip4 c i a2 a3 a4 g2 g3 g4 a5 a6 g5 g6 a7 g7 a8 a9 a10 g8 g9 g10 f8 f9 f10 uo mk k f)
    isplitl [H8]; · iexact H8
    isplitl [H]; · iexact H
    isplitl [H7]; · iexact H7
    iintro ⟨H8, H, H7⟩
    isplitl [H8]; · iexact H8
    isplitl [H]; · iexact H
    iexists _
    isplitl [H7]; · iexact H7
    ipureintro
    intro y hy
    have o := (trip_off k).2.2.2.2.1
    rw [read_rows_put uo mk _ _ _ a7.view f _ _ (2 * k.val + 3) o.2, read_rows_put uo mk _ _ _ a7.view f _ _ (2 * k.val + 2) o.1]
    by_cases h3 : (y 1).val / 128 = 2 * k.val + 3
    · rw [if_pos h3]
    rw [if_neg h3]
    by_cases h2 : (y 1).val / 128 = 2 * k.val + 2
    · rw [if_pos h2]
    rw [if_neg h2]
    exact h y (by omega)

/-- The loop that prepares this array. -/
theorem loop1 (X : HbBuf (F := F) c a2) (W : HbBuf (F := F) c a5) (G : HbBuf (F := F) c a8) {β : Type} (kk : PUnit → Prog (TpuEff nD τ sig (Elt F) (Λ₀ F) .tc) β) (Q : β → sProp 𝕄) :
    iprop(hbPt c a2 X ∗ hbPt c a5 W ∗ hbPt c a8 G) ⊢ iprop((∀ f, (hbPt c a2 X ∗ hbPt c a5 W ∗ hbPt c a8 f ∗ ⌜a8.view.read (Elt F) f = prepQ (a2.view.read (Elt F) X) (a5.view.read (Elt F) W)⌝)
        -∗ wp frame (wpE (defs₀ (F := F)) 𝒱₀ (c : Thread nD τ) none) Set.univ (kk ⟨⟩) Q)
      -∗ wp frame (wpE (defs₀ (F := F)) 𝒱₀ (c : Thread nD τ) none) Set.univ
        (Scf.Loop.for k0_t1_loop k0_t1_ok ⟨⟩ (k0_t1_body i a2 g2 a3 g3 a4 g4 a5 g5 a6 g6 a7 g7 a8 g8 a9 g9 a10 g10 k0_pay277 128#32 k0_pay278 k0_pay279 k0_pay280 0#1) >>= kk) Q) := by
  have es : a2.view.set = Finset.univ := g2.set_eq_univ
  have ew : a5.view.set = Finset.univ := g5.set_eq_univ
  have ed : a8.view.set = Finset.univ := g8.set_eq_univ
  have h0 : iprop(hbPt c a2 X ∗ hbPt c a5 W ∗ hbPt c a8 G) ⊢ (loopInv_k0_t1 (F := F) 𝒱₀ c none Set.univ i a2 g2 a3 g3 a4 g4 a5 g5 a6 g6 a7 g7 a8 g8 a9 g9 a10 g10 k0_pay277 128#32 k0_pay278 k0_pay279 k0_pay280 0#1 X W G).inv 0 ⟨⟩ := by
    show _ ⊢ inv_k0_t1 (F := F) 𝒱₀ c none i a2 g2 a3 g3 a4 g4 a5 g5 a6 g6 a7 g7 a8 g8 a9 g9 a10 g10 k0_pay277 128#32 k0_pay278 k0_pay279 k0_pay280 0#1 X W G 0 ()
    unfold inv_k0_t1
    rw [es, ew, ed]
    iintro ⟨HX, HW, HG⟩
    isplitl [HX]; · iexact HX
    isplitl [HW]; · iexact HW
    iexists _
    isplitl [HG]; · iexact HG
    ipureintro
    rfl
  have h1 : ∀ acc, (loopInv_k0_t1 (F := F) 𝒱₀ c none Set.univ i a2 g2 a3 g3 a4 g4 a5 g5 a6 g6 a7 g7 a8 g8 a9 g9 a10 g10 k0_pay277 128#32 k0_pay278 k0_pay279 k0_pay280 0#1 X W G).inv (Scf.trips k0_t1_loop.lb k0_t1_loop.ub k0_t1_loop.st) acc ⊢ iprop(∃ f, hbPt c a2 X ∗ hbPt c a5 W ∗ hbPt c a8 f ∗ ⌜a8.view.read (Elt F) f = prepQ (a2.view.read (Elt F) X) (a5.view.read (Elt F) W)⌝) := by
    intro acc
    show inv_k0_t1 (F := F) 𝒱₀ c none i a2 g2 a3 g3 a4 g4 a5 g5 a6 g6 a7 g7 a8 g8 a9 g9 a10 g10 k0_pay277 128#32 k0_pay278 k0_pay279 k0_pay280 0#1 X W G k0_t1_loop.trips acc ⊢ _
    unfold inv_k0_t1
    rw [es, ew, ed]
    iintro ⟨HX, HW, ⟨%f, HG, %h⟩⟩
    iexists f
    isplitl [HX]; · iexact HX
    isplitl [HW]; · iexact HW
    isplitl [HG]; · iexact HG
    ipureintro
    rw [h]
    exact prepped1 c i a2 a3 a4 g2 g3 g4 a5 a6 g5 g6 a7 g7 a8 a9 a10 g8 g9 g10 X W G
  have hx : iprop(hbPt c a2 X ∗ hbPt c a5 W ∗ hbPt c a8 G) ⊢ iprop((∀ acc, (loopInv_k0_t1 (F := F) 𝒱₀ c none Set.univ i a2 g2 a3 g3 a4 g4 a5 g5 a6 g6 a7 g7 a8 g8 a9 g9 a10 g10 k0_pay277 128#32 k0_pay278 k0_pay279 k0_pay280 0#1 X W G).inv (Scf.trips k0_t1_loop.lb k0_t1_loop.ub k0_t1_loop.st) acc -∗ wp frame (wpE (defs₀ (F := F)) 𝒱₀ (c : Thread nD τ) none) Set.univ (kk ⟨⟩) Q)
      -∗ wp frame (wpE (defs₀ (F := F)) 𝒱₀ (c : Thread nD τ) none) Set.univ
        (Scf.Loop.for k0_t1_loop k0_t1_ok ⟨⟩ (k0_t1_body i a2 g2 a3 g3 a4 g4 a5 g5 a6 g6 a7 g7 a8 g8 a9 g9 a10 g10 k0_pay277 128#32 k0_pay278 k0_pay279 k0_pay280 0#1) >>= kk) Q) :=
    h0.trans (exec_loop frame (wpE (defs₀ (F := F)) 𝒱₀ (c : Thread nD τ) none) Set.univ _ _ _ _ _ _ (loopInv_k0_t1 (F := F) 𝒱₀ c none Set.univ i a2 g2 a3 g3 a4 g4 a5 g5 a6 g6 a7 g7 a8 g8 a9 g9 a10 g10 k0_pay277 128#32 k0_pay278 k0_pay279 k0_pay280 0#1 X W G))
  iintro H Hk
  ihave H3 := hx $$ H
  iapply H3
  iintro %acc H
  ihave H2 := (h1 acc) $$ H
  icases H2 with ⟨%f, H2⟩
  iapply Hk
  iexact H2

/-- The loop that prepares this array. -/
theorem loop2 (X : HbBuf (F := F) c a3) (W : HbBuf (F := F) c a6) (G : HbBuf (F := F) c a9) {β : Type} (kk : PUnit → Prog (TpuEff nD τ sig (Elt F) (Λ₀ F) .tc) β) (Q : β → sProp 𝕄) :
    iprop(hbPt c a3 X ∗ hbPt c a6 W ∗ hbPt c a9 G) ⊢ iprop((∀ f, (hbPt c a3 X ∗ hbPt c a6 W ∗ hbPt c a9 f ∗ ⌜a9.view.read (Elt F) f = prepK (a3.view.read (Elt F) X) (a6.view.read (Elt F) W)⌝)
        -∗ wp frame (wpE (defs₀ (F := F)) 𝒱₀ (c : Thread nD τ) none) Set.univ (kk ⟨⟩) Q)
      -∗ wp frame (wpE (defs₀ (F := F)) 𝒱₀ (c : Thread nD τ) none) Set.univ
        (Scf.Loop.for k0_t2_loop k0_t2_ok ⟨⟩ (k0_t2_body i a2 g2 a3 g3 a4 g4 a5 g5 a6 g6 a7 g7 a8 g8 a9 g9 a10 g10 k0_pay283 k0_pay284) >>= kk) Q) := by
  have es : a3.view.set = Finset.univ := g3.set_eq_univ
  have ew : a6.view.set = Finset.univ := g6.set_eq_univ
  have ed : a9.view.set = Finset.univ := g9.set_eq_univ
  have h0 : iprop(hbPt c a3 X ∗ hbPt c a6 W ∗ hbPt c a9 G) ⊢ (loopInv_k0_t2 (F := F) 𝒱₀ c none Set.univ i a2 g2 a3 g3 a4 g4 a5 g5 a6 g6 a7 g7 a8 g8 a9 g9 a10 g10 k0_pay283 k0_pay284 X W G).inv 0 ⟨⟩ := by
    show _ ⊢ inv_k0_t2 (F := F) 𝒱₀ c none i a2 g2 a3 g3 a4 g4 a5 g5 a6 g6 a7 g7 a8 g8 a9 g9 a10 g10 k0_pay283 k0_pay284 X W G 0 ()
    unfold inv_k0_t2
    rw [es, ew, ed]
    iintro ⟨HX, HW, HG⟩
    isplitl [HX]; · iexact HX
    isplitl [HW]; · iexact HW
    iexists _
    isplitl [HG]; · iexact HG
    ipureintro
    rfl
  have h1 : ∀ acc, (loopInv_k0_t2 (F := F) 𝒱₀ c none Set.univ i a2 g2 a3 g3 a4 g4 a5 g5 a6 g6 a7 g7 a8 g8 a9 g9 a10 g10 k0_pay283 k0_pay284 X W G).inv (Scf.trips k0_t2_loop.lb k0_t2_loop.ub k0_t2_loop.st) acc ⊢ iprop(∃ f, hbPt c a3 X ∗ hbPt c a6 W ∗ hbPt c a9 f ∗ ⌜a9.view.read (Elt F) f = prepK (a3.view.read (Elt F) X) (a6.view.read (Elt F) W)⌝) := by
    intro acc
    show inv_k0_t2 (F := F) 𝒱₀ c none i a2 g2 a3 g3 a4 g4 a5 g5 a6 g6 a7 g7 a8 g8 a9 g9 a10 g10 k0_pay283 k0_pay284 X W G k0_t2_loop.trips acc ⊢ _
    unfold inv_k0_t2
    rw [es, ew, ed]
    iintro ⟨HX, HW, ⟨%f, HG, %h⟩⟩
    iexists f
    isplitl [HX]; · iexact HX
    isplitl [HW]; · iexact HW
    isplitl [HG]; · iexact HG
    ipureintro
    rw [h]
    exact prepped2 c i a2 a3 a4 g2 g3 g4 a5 a6 g5 g6 a7 g7 a8 a9 a10 g8 g9 g10 X W G
  have hx : iprop(hbPt c a3 X ∗ hbPt c a6 W ∗ hbPt c a9 G) ⊢ iprop((∀ acc, (loopInv_k0_t2 (F := F) 𝒱₀ c none Set.univ i a2 g2 a3 g3 a4 g4 a5 g5 a6 g6 a7 g7 a8 g8 a9 g9 a10 g10 k0_pay283 k0_pay284 X W G).inv (Scf.trips k0_t2_loop.lb k0_t2_loop.ub k0_t2_loop.st) acc -∗ wp frame (wpE (defs₀ (F := F)) 𝒱₀ (c : Thread nD τ) none) Set.univ (kk ⟨⟩) Q)
      -∗ wp frame (wpE (defs₀ (F := F)) 𝒱₀ (c : Thread nD τ) none) Set.univ
        (Scf.Loop.for k0_t2_loop k0_t2_ok ⟨⟩ (k0_t2_body i a2 g2 a3 g3 a4 g4 a5 g5 a6 g6 a7 g7 a8 g8 a9 g9 a10 g10 k0_pay283 k0_pay284) >>= kk) Q) :=
    h0.trans (exec_loop frame (wpE (defs₀ (F := F)) 𝒱₀ (c : Thread nD τ) none) Set.univ _ _ _ _ _ _ (loopInv_k0_t2 (F := F) 𝒱₀ c none Set.univ i a2 g2 a3 g3 a4 g4 a5 g5 a6 g6 a7 g7 a8 g8 a9 g9 a10 g10 k0_pay283 k0_pay284 X W G))
  iintro H Hk
  ihave H3 := hx $$ H
  iapply H3
  iintro %acc H
  ihave H2 := (h1 acc) $$ H
  icases H2 with ⟨%f, H2⟩
  iapply Hk
  iexact H2

/-- The loop that prepares this array. -/
theorem loop3 (X : HbBuf (F := F) c a4) (G : HbBuf (F := F) c a10) {β : Type} (kk : PUnit → Prog (TpuEff nD τ sig (Elt F) (Λ₀ F) .tc) β) (Q : β → sProp 𝕄) :
    iprop(hbPt c a4 X ∗ hbPt c a10 G) ⊢ iprop((∀ f, (hbPt c a4 X ∗ hbPt c a10 f ∗ ⌜a10.view.read (Elt F) f = prepV (a4.view.read (Elt F) X)⌝)
        -∗ wp frame (wpE (defs₀ (F := F)) 𝒱₀ (c : Thread nD τ) none) Set.univ (kk ⟨⟩) Q)
      -∗ wp frame (wpE (defs₀ (F := F)) 𝒱₀ (c : Thread nD τ) none) Set.univ
        (Scf.Loop.for k0_t3_loop k0_t3_ok ⟨⟩ (k0_t3_body i a2 g2 a3 g3 a4 g4 a5 g5 a6 g6 a7 g7 a8 g8 a9 g9 a10 g10 k0_pay283 k0_pay284) >>= kk) Q) := by
  have es : a4.view.set = Finset.univ := g4.set_eq_univ
  have ed : a10.view.set = Finset.univ := g10.set_eq_univ
  have h0 : iprop(hbPt c a4 X ∗ hbPt c a10 G) ⊢ (loopInv_k0_t3 (F := F) 𝒱₀ c none Set.univ i a2 g2 a3 g3 a4 g4 a5 g5 a6 g6 a7 g7 a8 g8 a9 g9 a10 g10 k0_pay283 k0_pay284 X G).inv 0 ⟨⟩ := by
    show _ ⊢ inv_k0_t3 (F := F) 𝒱₀ c none i a2 g2 a3 g3 a4 g4 a5 g5 a6 g6 a7 g7 a8 g8 a9 g9 a10 g10 k0_pay283 k0_pay284 X G 0 ()
    unfold inv_k0_t3
    rw [es, ed]
    iintro ⟨HX, HG⟩
    isplitl [HX]; · iexact HX
    iexists _
    isplitl [HG]; · iexact HG
    ipureintro
    rfl
  have h1 : ∀ acc, (loopInv_k0_t3 (F := F) 𝒱₀ c none Set.univ i a2 g2 a3 g3 a4 g4 a5 g5 a6 g6 a7 g7 a8 g8 a9 g9 a10 g10 k0_pay283 k0_pay284 X G).inv (Scf.trips k0_t3_loop.lb k0_t3_loop.ub k0_t3_loop.st) acc ⊢ iprop(∃ f, hbPt c a4 X ∗ hbPt c a10 f ∗ ⌜a10.view.read (Elt F) f = prepV (a4.view.read (Elt F) X)⌝) := by
    intro acc
    show inv_k0_t3 (F := F) 𝒱₀ c none i a2 g2 a3 g3 a4 g4 a5 g5 a6 g6 a7 g7 a8 g8 a9 g9 a10 g10 k0_pay283 k0_pay284 X G k0_t3_loop.trips acc ⊢ _
    unfold inv_k0_t3
    rw [es, ed]
    iintro ⟨HX, ⟨%f, HG, %h⟩⟩
    iexists f
    isplitl [HX]; · iexact HX
    isplitl [HG]; · iexact HG
    ipureintro
    rw [h]
    exact prepped3 c i a2 a3 a4 g2 g3 g4 a5 a6 g5 g6 a7 g7 a8 a9 a10 g8 g9 g10 X G
  have hx : iprop(hbPt c a4 X ∗ hbPt c a10 G) ⊢ iprop((∀ acc, (loopInv_k0_t3 (F := F) 𝒱₀ c none Set.univ i a2 g2 a3 g3 a4 g4 a5 g5 a6 g6 a7 g7 a8 g8 a9 g9 a10 g10 k0_pay283 k0_pay284 X G).inv (Scf.trips k0_t3_loop.lb k0_t3_loop.ub k0_t3_loop.st) acc -∗ wp frame (wpE (defs₀ (F := F)) 𝒱₀ (c : Thread nD τ) none) Set.univ (kk ⟨⟩) Q)
      -∗ wp frame (wpE (defs₀ (F := F)) 𝒱₀ (c : Thread nD τ) none) Set.univ
        (Scf.Loop.for k0_t3_loop k0_t3_ok ⟨⟩ (k0_t3_body i a2 g2 a3 g3 a4 g4 a5 g5 a6 g6 a7 g7 a8 g8 a9 g9 a10 g10 k0_pay283 k0_pay284) >>= kk) Q) :=
    h0.trans (exec_loop frame (wpE (defs₀ (F := F)) 𝒱₀ (c : Thread nD τ) none) Set.univ _ _ _ _ _ _ (loopInv_k0_t3 (F := F) 𝒱₀ c none Set.univ i a2 g2 a3 g3 a4 g4 a5 g5 a6 g6 a7 g7 a8 g8 a9 g9 a10 g10 k0_pay283 k0_pay284 X G))
  iintro H Hk
  ihave H3 := hx $$ H
  iapply H3
  iintro %acc H
  ihave H2 := (h1 acc) $$ H
  icases H2 with ⟨%f, H2⟩
  iapply Hk
  iexact H2

set_option maxHeartbeats 4000000 in
/-- The whole body at a grid point. -/
theorem body (x2 : HbBuf (F := F) c a2) (x3 : HbBuf (F := F) c a3) (x4 : HbBuf (F := F) c a4) (x5 : HbBuf (F := F) c a5) (x6 : HbBuf (F := F) c a6)
    (f7 : HbBuf (F := F) c a7) (d8 : HbBuf (F := F) c a8) (d9 : HbBuf (F := F) c a9) (d10 : HbBuf (F := F) c a10) (K : PUnit → sProp 𝕄) :
    iprop((hbPt c a2 x2 ∗ hbPt c a3 x3 ∗ hbPt c a4 x4 ∗ hbPt c a5 x5 ∗ hbPt c a6 x6) ∗ hbPt c a7 f7 ∗ (hbPt c a8 d8 ∗ hbPt c a9 d9 ∗ hbPt c a10 d10)
      ∗ (∀ f8 f9 f10 f, ((hbPt c a2 x2 ∗ hbPt c a3 x3 ∗ hbPt c a4 x4 ∗ hbPt c a5 x5 ∗ hbPt c a6 x6) ∗ hbPt c a7 f ∗ (hbPt c a8 f8 ∗ hbPt c a9 f9 ∗ hbPt c a10 f10)
        ∗ ⌜a7.view.read (Elt F) f = oArr k0_pay275 k0_pay276 (prepQ (a2.view.read (Elt F) x2) (a5.view.read (Elt F) x5)) (prepK (a3.view.read (Elt F) x3) (a6.view.read (Elt F) x6)) (prepV (a4.view.read (Elt F) x4))⌝) -∗ K ⟨⟩))
      ⊢ wp frame (wpE (defs₀ (F := F)) 𝒱₀ (c : Thread nD τ) none) Set.univ (cc0_sb_attn_fwd_skel i a2 g2 a3 g3 a4 g4 a5 g5 a6 g6 a7 g7 a8 g8 a9 g9 a10 g10) K := by
  unfold cc0_sb_attn_fwd_skel
  simp only [k0_part30_eq_skeleton, k0_part31_eq_skeleton, k0_part32_eq_skeleton, k0_part33_eq_skeleton, k0_part34_eq_skeleton, k0_part35_eq_skeleton, k0_part36_eq_skeleton]
  unfold k0_part30_skel k0_part31_skel k0_part32_skel k0_part33_skel k0_part34_skel k0_part35_skel k0_part36_skel
  simp only [Prog.lift, Prog.bind_op, Prog.bind_ret, Prog.pure_eq_ret, Prog.bind_assoc]
  rw [show Scalar.select (Scalar.cmpi .eq 128#32 0#32) 1#32 128#32 = 128#32 by decide, show Scalar.cmpi .slt 128#32 0#32 = 0#1 by decide]
  iintro ⟨⟨H2, H3, H4, H5, H6⟩, H7, ⟨H8, H9, H10⟩, Hk⟩
  iapply (loop1 c i a2 a3 a4 g2 g3 g4 a5 a6 g5 g6 a7 g7 a8 a9 a10 g8 g9 g10 x2 x5 d8) $$ [H2 H5 H8]
  · isplitl [H2]; · iexact H2
    isplitl [H5]; · iexact H5
    iexact H8
  iintro %f8 ⟨H2, H5, H8, %e8⟩
  iapply (loop2 c i a2 a3 a4 g2 g3 g4 a5 a6 g5 g6 a7 g7 a8 a9 a10 g8 g9 g10 x3 x6 d9) $$ [H3 H6 H9]
  · isplitl [H3]; · iexact H3
    isplitl [H6]; · iexact H6
    iexact H9
  iintro %f9 ⟨H3, H6, H9, %e9⟩
  iapply (loop3 c i a2 a3 a4 g2 g3 g4 a5 a6 g5 g6 a7 g7 a8 a9 a10 g8 g9 g10 x4 d10) $$ [H4 H10]
  · isplitl [H4]; · iexact H4
    iexact H10
  iintro %f10 ⟨H4, H10, %e10⟩
  iapply (wp_load 𝒱₀ (c : Thread nD τ) none Set.univ (m := a8) (Finset.subset_univ _)) $$ H8; iintro H8
  iapply (wp_load 𝒱₀ (c : Thread nD τ) none Set.univ (m := a8) (Finset.subset_univ _)) $$ H8; iintro H8
  iapply (wp_load 𝒱₀ (c : Thread nD τ) none Set.univ (m := a8) (Finset.subset_univ _)) $$ H8; iintro H8
  iapply (wp_load 𝒱₀ (c : Thread nD τ) none Set.univ (m := a8) (Finset.subset_univ _)) $$ H8; iintro H8
  iapply (wp_load 𝒱₀ (c : Thread nD τ) none Set.univ (m := a9) (Finset.subset_univ _)) $$ H9; iintro H9
  iapply (wp_load 𝒱₀ (c : Thread nD τ) none Set.univ (m := a9) (Finset.subset_univ _)) $$ H9; iintro H9
  iapply (wp_load 𝒱₀ (c : Thread nD τ) none Set.univ (m := a9) (Finset.subset_univ _)) $$ H9; iintro H9
  iapply (wp_load 𝒱₀ (c : Thread nD τ) none Set.univ (m := a10) (Finset.subset_univ _)) $$ H10; iintro H10
  iapply (wp_load 𝒱₀ (c : Thread nD τ) none Set.univ (m := a10) (Finset.subset_univ _)) $$ H10; iintro H10
  iapply (wp_load 𝒱₀ (c : Thread nD τ) none Set.univ (m := a10) (Finset.subset_univ _)) $$ H10; iintro H10
  rw [read_lo a8.view f8 _ _ 0 (by omega) rfl, read_lo a8.view f8 _ _ 1 (by omega) rfl, read_hi a8.view f8 _ _ 0 (by omega) rfl, read_hi a8.view f8 _ _ 1 (by omega) rfl,
    read_blk a9.view f9 _ _ 0 (by omega) rfl, read_blk a9.view f9 _ _ 1 (by omega) rfl, read_blk a10.view f10 _ _ 0 (by omega) rfl, read_blk a10.view f10 _ _ 1 (by omega) rfl]
  iapply (wp_call_spec 𝒱₀ (c : Thread nD τ) none Set.univ (spec c a9 a10 f9 f10 (out (0, (st1 k0_pay275 k0_pay276 (a8.view.read (Elt F) f8) (a9.view.read (Elt F) f9) (a10.view.read (Elt F) f10) 0), (top (st1 k0_pay275 k0_pay276 (a8.view.read (Elt F) f8) (a9.view.read (Elt F) f9) (a10.view.read (Elt F) f10) 0).r0 (st1 k0_pay275 k0_pay276 (a8.view.read (Elt F) f8) (a9.view.read (Elt F) f9) (a10.view.read (Elt F) f10) 0).r1)))) 0
    (fun u hu => nomatch hu) (spec1 c a9 a10 f9 f10 g9 g10 i (qpair (a8.view.read (Elt F) f8) 0) k0_pay275 Set.univ (st1 k0_pay275 k0_pay276 (a8.view.read (Elt F) f8) (a9.view.read (Elt F) f9) (a10.view.read (Elt F) f10) 0) (top (st1 k0_pay275 k0_pay276 (a8.view.read (Elt F) f8) (a9.view.read (Elt F) f9) (a10.view.read (Elt F) f10) 0).r0 (st1 k0_pay275 k0_pay276 (a8.view.read (Elt F) f8) (a9.view.read (Elt F) f9) (a10.view.read (Elt F) f10) 0).r1)))
  rw [spec_apply]; unfold held
  isplitl [H9 H10]
  · isplitl [H9]; · iexact H9
    iexact H10
  iintro ⟨H9, H10⟩
  rw [show out (0, (st1 k0_pay275 k0_pay276 (a8.view.read (Elt F) f8) (a9.view.read (Elt F) f9) (a10.view.read (Elt F) f10) 0), (top (st1 k0_pay275 k0_pay276 (a8.view.read (Elt F) f8) (a9.view.read (Elt F) f9) (a10.view.read (Elt F) f10) 0).r0 (st1 k0_pay275 k0_pay276 (a8.view.read (Elt F) f8) (a9.view.read (Elt F) f9) (a10.view.read (Elt F) f10) 0).r1)) = (kb 0, (st1 k0_pay275 k0_pay276 (a8.view.read (Elt F) f8) (a9.view.read (Elt F) f9) (a10.view.read (Elt F) f10) 0).r0, (st1 k0_pay275 k0_pay276 (a8.view.read (Elt F) f8) (a9.view.read (Elt F) f9) (a10.view.read (Elt F) f10) 0).r1, (st1 k0_pay275 k0_pay276 (a8.view.read (Elt F) f8) (a9.view.read (Elt F) f9) (a10.view.read (Elt F) f10) 0).acc, (top (st1 k0_pay275 k0_pay276 (a8.view.read (Elt F) f8) (a9.view.read (Elt F) f9) (a10.view.read (Elt F) f10) 0).r0 (st1 k0_pay275 k0_pay276 (a8.view.read (Elt F) f8) (a9.view.read (Elt F) f9) (a10.view.read (Elt F) f10) 0).r1)) from rfl]
  iapply (wp_call_spec 𝒱₀ (c : Thread nD τ) none Set.univ (spec c a9 a10 f9 f10 (out (0, (st1 k0_pay275 k0_pay276 (a8.view.read (Elt F) f8) (a9.view.read (Elt F) f9) (a10.view.read (Elt F) f10) 0), (top (st1 k0_pay275 k0_pay276 (a8.view.read (Elt F) f8) (a9.view.read (Elt F) f9) (a10.view.read (Elt F) f10) 0).r0 (st1 k0_pay275 k0_pay276 (a8.view.read (Elt F) f8) (a9.view.read (Elt F) f9) (a10.view.read (Elt F) f10) 0).r1)))) 0
    (fun u hu => nomatch hu) (spec2 c a9 a10 f9 f10 g9 g10 i (qpair (a8.view.read (Elt F) f8) 0) k0_pay275 Set.univ (st1 k0_pay275 k0_pay276 (a8.view.read (Elt F) f8) (a9.view.read (Elt F) f9) (a10.view.read (Elt F) f10) 0) (top (st1 k0_pay275 k0_pay276 (a8.view.read (Elt F) f8) (a9.view.read (Elt F) f9) (a10.view.read (Elt F) f10) 0).r0 (st1 k0_pay275 k0_pay276 (a8.view.read (Elt F) f8) (a9.view.read (Elt F) f9) (a10.view.read (Elt F) f10) 0).r1)))
  rw [spec_apply]; unfold held
  isplitl [H9 H10]
  · isplitl [H9]; · iexact H9
    iexact H10
  iintro ⟨H9, H10⟩
  rw [show out (0, (st1 k0_pay275 k0_pay276 (a8.view.read (Elt F) f8) (a9.view.read (Elt F) f9) (a10.view.read (Elt F) f10) 0), (top (st1 k0_pay275 k0_pay276 (a8.view.read (Elt F) f8) (a9.view.read (Elt F) f9) (a10.view.read (Elt F) f10) 0).r0 (st1 k0_pay275 k0_pay276 (a8.view.read (Elt F) f8) (a9.view.read (Elt F) f9) (a10.view.read (Elt F) f10) 0).r1)) = (kb 0, (st1 k0_pay275 k0_pay276 (a8.view.read (Elt F) f8) (a9.view.read (Elt F) f9) (a10.view.read (Elt F) f10) 0).r0, (st1 k0_pay275 k0_pay276 (a8.view.read (Elt F) f8) (a9.view.read (Elt F) f9) (a10.view.read (Elt F) f10) 0).r1, (st1 k0_pay275 k0_pay276 (a8.view.read (Elt F) f8) (a9.view.read (Elt F) f9) (a10.view.read (Elt F) f10) 0).acc, (top (st1 k0_pay275 k0_pay276 (a8.view.read (Elt F) f8) (a9.view.read (Elt F) f9) (a10.view.read (Elt F) f10) 0).r0 (st1 k0_pay275 k0_pay276 (a8.view.read (Elt F) f8) (a9.view.read (Elt F) f9) (a10.view.read (Elt F) f10) 0).r1)) from rfl]
  iapply (wp_load 𝒱₀ (c : Thread nD τ) none Set.univ (m := a7) (Finset.subset_univ _)) $$ H7; iintro H7
  iapply (wp_store 𝒱₀ (c : Thread nD τ) none Set.univ (m := a7) (r := Rect.unit (s := S1x4096x128) ![0, 0, 0] S1x128x128.size inb_S1x4096x128_S1x128x128_0_0_0) (Mk := Finset.univ) (Finset.subset_univ _)) $$ H7; iintro H7
  iapply (wp_call_spec 𝒱₀ (c : Thread nD τ) none Set.univ (spec c a9 a10 f9 f10 (out (0, (st2 k0_pay275 k0_pay276 (a8.view.read (Elt F) f8) (a9.view.read (Elt F) f9) (a10.view.read (Elt F) f10) 0), (top (st2 k0_pay275 k0_pay276 (a8.view.read (Elt F) f8) (a9.view.read (Elt F) f9) (a10.view.read (Elt F) f10) 0).r0 (st2 k0_pay275 k0_pay276 (a8.view.read (Elt F) f8) (a9.view.read (Elt F) f9) (a10.view.read (Elt F) f10) 0).r1)))) 0
    (fun u hu => nomatch hu) (spec3 c a9 a10 f9 f10 g9 g10 i (qpair (a8.view.read (Elt F) f8) 1) k0_pay275 Set.univ (st2 k0_pay275 k0_pay276 (a8.view.read (Elt F) f8) (a9.view.read (Elt F) f9) (a10.view.read (Elt F) f10) 0) (top (st2 k0_pay275 k0_pay276 (a8.view.read (Elt F) f8) (a9.view.read (Elt F) f9) (a10.view.read (Elt F) f10) 0).r0 (st2 k0_pay275 k0_pay276 (a8.view.read (Elt F) f8) (a9.view.read (Elt F) f9) (a10.view.read (Elt F) f10) 0).r1)))
  rw [spec_apply]; unfold held
  isplitl [H9 H10]
  · isplitl [H9]; · iexact H9
    iexact H10
  iintro ⟨H9, H10⟩
  rw [show out (0, (st2 k0_pay275 k0_pay276 (a8.view.read (Elt F) f8) (a9.view.read (Elt F) f9) (a10.view.read (Elt F) f10) 0), (top (st2 k0_pay275 k0_pay276 (a8.view.read (Elt F) f8) (a9.view.read (Elt F) f9) (a10.view.read (Elt F) f10) 0).r0 (st2 k0_pay275 k0_pay276 (a8.view.read (Elt F) f8) (a9.view.read (Elt F) f9) (a10.view.read (Elt F) f10) 0).r1)) = (kb 0, (st2 k0_pay275 k0_pay276 (a8.view.read (Elt F) f8) (a9.view.read (Elt F) f9) (a10.view.read (Elt F) f10) 0).r0, (st2 k0_pay275 k0_pay276 (a8.view.read (Elt F) f8) (a9.view.read (Elt F) f9) (a10.view.read (Elt F) f10) 0).r1, (st2 k0_pay275 k0_pay276 (a8.view.read (Elt F) f8) (a9.view.read (Elt F) f9) (a10.view.read (Elt F) f10) 0).acc, (top (st2 k0_pay275 k0_pay276 (a8.view.read (Elt F) f8) (a9.view.read (Elt F) f9) (a10.view.read (Elt F) f10) 0).r0 (st2 k0_pay275 k0_pay276 (a8.view.read (Elt F) f8) (a9.view.read (Elt F) f9) (a10.view.read (Elt F) f10) 0).r1)) from rfl]
  iapply (wp_call_spec 𝒱₀ (c : Thread nD τ) none Set.univ (spec c a9 a10 f9 f10 (out (0, (st2 k0_pay275 k0_pay276 (a8.view.read (Elt F) f8) (a9.view.read (Elt F) f9) (a10.view.read (Elt F) f10) 0), (top (st2 k0_pay275 k0_pay276 (a8.view.read (Elt F) f8) (a9.view.read (Elt F) f9) (a10.view.read (Elt F) f10) 0).r0 (st2 k0_pay275 k0_pay276 (a8.view.read (Elt F) f8) (a9.view.read (Elt F) f9) (a10.view.read (Elt F) f10) 0).r1)))) 0
    (fun u hu => nomatch hu) (spec4 c a9 a10 f9 f10 g9 g10 i (qpair (a8.view.read (Elt F) f8) 1) k0_pay275 Set.univ (st2 k0_pay275 k0_pay276 (a8.view.read (Elt F) f8) (a9.view.read (Elt F) f9) (a10.view.read (Elt F) f10) 0) (top (st2 k0_pay275 k0_pay276 (a8.view.read (Elt F) f8) (a9.view.read (Elt F) f9) (a10.view.read (Elt F) f10) 0).r0 (st2 k0_pay275 k0_pay276 (a8.view.read (Elt F) f8) (a9.view.read (Elt F) f9) (a10.view.read (Elt F) f10) 0).r1)))
  rw [spec_apply]; unfold held
  isplitl [H9 H10]
  · isplitl [H9]; · iexact H9
    iexact H10
  iintro ⟨H9, H10⟩
  rw [show out (0, (st2 k0_pay275 k0_pay276 (a8.view.read (Elt F) f8) (a9.view.read (Elt F) f9) (a10.view.read (Elt F) f10) 0), (top (st2 k0_pay275 k0_pay276 (a8.view.read (Elt F) f8) (a9.view.read (Elt F) f9) (a10.view.read (Elt F) f10) 0).r0 (st2 k0_pay275 k0_pay276 (a8.view.read (Elt F) f8) (a9.view.read (Elt F) f9) (a10.view.read (Elt F) f10) 0).r1)) = (kb 0, (st2 k0_pay275 k0_pay276 (a8.view.read (Elt F) f8) (a9.view.read (Elt F) f9) (a10.view.read (Elt F) f10) 0).r0, (st2 k0_pay275 k0_pay276 (a8.view.read (Elt F) f8) (a9.view.read (Elt F) f9) (a10.view.read (Elt F) f10) 0).r1, (st2 k0_pay275 k0_pay276 (a8.view.read (Elt F) f8) (a9.view.read (Elt F) f9) (a10.view.read (Elt F) f10) 0).acc, (top (st2 k0_pay275 k0_pay276 (a8.view.read (Elt F) f8) (a9.view.read (Elt F) f9) (a10.view.read (Elt F) f10) 0).r0 (st2 k0_pay275 k0_pay276 (a8.view.read (Elt F) f8) (a9.view.read (Elt F) f9) (a10.view.read (Elt F) f10) 0).r1)) from rfl]
  iapply (wp_load 𝒱₀ (c : Thread nD τ) none Set.univ (m := a7) (Finset.subset_univ _)) $$ H7; iintro H7
  iapply (wp_store 𝒱₀ (c : Thread nD τ) none Set.univ (m := a7) (r := Rect.unit (s := S1x4096x128) ![0, 128, 0] S1x128x128.size inb_S1x4096x128_S1x128x128_0_128_0) (Mk := Finset.univ) (Finset.subset_univ _)) $$ H7; iintro H7
  have h0 : iprop(hbPt c a8 f8 ∗ held c a9 a10 f9 f10 ∗ ∃ f, hbPt c a7 f ∗ ⌜∀ y : S1x4096x128.Idx, (y 1).val < 256 * (0 + 1) → a7.view.read (Elt F) f y = oArr k0_pay275 k0_pay276 (a8.view.read (Elt F) f8) (a9.view.read (Elt F) f9) (a10.view.read (Elt F) f10) y⌝) ⊢ (inv4 c i a2 a3 a4 g2 g3 g4 a5 a6 g5 g6 a7 g7 a8 a9 a10 g8 g9 g10 f8 f9 f10 k0_pay275 k0_pay276).inv 0 () := Entails.rfl
  have h1 : ∀ acc, (inv4 c i a2 a3 a4 g2 g3 g4 a5 a6 g5 g6 a7 g7 a8 a9 a10 g8 g9 g10 f8 f9 f10 k0_pay275 k0_pay276).inv (Scf.trips k0_t4_loop.lb k0_t4_loop.ub k0_t4_loop.st) acc ⊢ iprop(hbPt c a8 f8 ∗ held c a9 a10 f9 f10 ∗ ∃ f, hbPt c a7 f ∗ ⌜∀ y : S1x4096x128.Idx, (y 1).val < 256 * (k0_t4_loop.trips + 1) → a7.view.read (Elt F) f y = oArr k0_pay275 k0_pay276 (a8.view.read (Elt F) f8) (a9.view.read (Elt F) f9) (a10.view.read (Elt F) f10) y⌝) := fun acc => Entails.rfl
  have htr : k0_t4_loop.trips = 15 := by decide +kernel
  rw [htr] at h1
  iapply (exec_loop frame (wpE (defs₀ (F := F)) 𝒱₀ (c : Thread nD τ) none) Set.univ _ _ _ _ _ _ (inv4 c i a2 a3 a4 g2 g3 g4 a5 a6 g5 g6 a7 g7 a8 a9 a10 g8 g9 g10 f8 f9 f10 k0_pay275 k0_pay276)) $$ [H7 H8 H9 H10]
  · iapply h0
    isplitl [H8]; · iexact H8
    unfold held
    isplitl [H9 H10]
    · isplitl [H9]; · iexact H9
      iexact H10
    iexists _
    isplitl [H7]; · iexact H7
    ipureintro
    intro y hy
    rw [show k0_pay4 (st2 k0_pay275 k0_pay276 (a8.view.read (Elt F) f8) (a9.view.read (Elt F) f9) (a10.view.read (Elt F) f10) 0).acc = oRows k0_pay275 k0_pay276 (a8.view.read (Elt F) f8) (a9.view.read (Elt F) f9) (a10.view.read (Elt F) f10) 1 from rfl,
      show k0_pay2 (st1 k0_pay275 k0_pay276 (a8.view.read (Elt F) f8) (a9.view.read (Elt F) f9) (a10.view.read (Elt F) f10) 0).acc = oRows k0_pay275 k0_pay276 (a8.view.read (Elt F) f8) (a9.view.read (Elt F) f9) (a10.view.read (Elt F) f10) 0 from rfl]
    refine (read_rows_put k0_pay275 k0_pay276 (a8.view.read (Elt F) f8) (a9.view.read (Elt F) f9) (a10.view.read (Elt F) f10) a7.view f7 ![0, 128, 0] inb_S1x4096x128_S1x128x128_0_128_0 1 rfl
      [⟨Rect.unit (s := S1x4096x128) ![0, 0, 0] S1x128x128.size inb_S1x4096x128_S1x128x128_0_0_0, oRows k0_pay275 k0_pay276 (a8.view.read (Elt F) f8) (a9.view.read (Elt F) f9) (a10.view.read (Elt F) f10) 0⟩] y).trans ?_
    rw [read_rows_put k0_pay275 k0_pay276 (a8.view.read (Elt F) f8) (a9.view.read (Elt F) f9) (a10.view.read (Elt F) f10) a7.view f7 ![0, 0, 0] inb_S1x4096x128_S1x128x128_0_0_0 0 rfl]
    by_cases h3 : (y 1).val / 128 = 1
    · rw [if_pos h3]
    rw [if_neg h3, if_pos (by omega)]
  iintro %acc H
  ihave H2' := (h1 acc) $$ H
  unfold held
  icases H2' with ⟨H8, ⟨H9, H10⟩, ⟨%f, H7, %h⟩⟩
  rw [wp_ret]; imodintro
  iapply Hk
  isplitl [H2 H3 H4 H5 H6]
  · isplitl [H2]; · iexact H2
    isplitl [H3]; · iexact H3
    isplitl [H4]; · iexact H4
    isplitl [H5]; · iexact H5
    iexact H6
  isplitl [H7]; · iexact H7
  isplitl [H8 H9 H10]
  · isplitl [H8]; · iexact H8
    isplitl [H9]; · iexact H9
    iexact H10
  ipureintro
  rw [← e8, ← e9, ← e10]
  funext y
  have h1 : (y 1).val < 4096 := (y 1).isLt
  exact h y (by omega)
end

end Cert.Attn
-- ==== Proof.AttnFrame.lean ====
module

public import proofs.«01_k».proof.Proof.Gen.Kernel3Ideal.Launch
public import proofs.«01_k».proof.Proof.Gen.Kernel3Ideal.Skeleton
public import proofs.«01_k».proof.Proof.Gen.Kernel3Ideal.Points
public import proofs.«01_k».proof.Proof.AttnRun
public import Idealize.ShloMosaic.Lib.Pipeline.Frame
public import Idealize.ShloMosaic.Lib.Pipeline.FrameBody
public import Idealize.ShloMosaic.Lib.Tactic
public import Idealize.ShloMosaic.Lib.Claim

@[expose] public section

set_option maxRecDepth 16384

/-!
# The attention forward call: its run

What every grid point finds and leaves, and from it the whole call's run: it ends, the arguments are unchanged, and the result holds `oArr` of every pair of heads.
-/

noncomputable section

namespace Cert.Attn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The core's buffers when the call begins: after the host lines before it. -/
abbrev V (c : Dev nD) (b : Ref sig .tc) : Buf (Elt F) ((c : Thread nD τ).loc b) :=
  StableHlo.after (List.flatten [hostOps0, hostOps0_1, hostOps0_2]) (fun b => m (c, b)) b

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor

/-- The host lines, then the call. -/
theorem host_then_call : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨fresh0, fresh1, fresh2⟩) main_chain

/-- A buffer no host line writes is as launched. -/
theorem kept (c : Dev nD) (b : Ref sig .tc) (h : b ≠ main_c ∧ b ≠ main_call0_v0 ∧ b ≠ main_v0 ∧ b ≠ main_v1 ∧ b ≠ main_v2 ∧ b ≠ main_v3 ∧ b ≠ main_v4 ∧ b ≠ main_v5 ∧ b ≠ main_v6) :
    V m c b = m ((c : Thread nD τ).loc b) := by
  obtain ⟨h0, h1, h2, h3, h4, h5, h6, h7, h8⟩ := h
  refine StableHlo.after_of_forall_not_mem (b := Proc.devRef .tc b) _ _ (List.forall_iff_forall_mem.mp ?_)
  simp only [hostOps0, hostOps0_1, hostOps0_2, List.flatten_cons, List.flatten_nil, List.append_nil, List.cons_append, List.nil_append, List.Forall,
    StableHlo.nullary_writes, StableHlo.unary_writes, StableHlo.binary_writes, StableHlo.reshape_writes, Finset.mem_singleton]
  exact ⟨StableHlo.devRef_ne_of_ne h0, StableHlo.devRef_ne_of_ne h1, StableHlo.devRef_ne_of_ne h2, StableHlo.devRef_ne_of_ne h3, StableHlo.devRef_ne_of_ne h4,
    StableHlo.devRef_ne_of_ne h5, StableHlo.devRef_ne_of_ne h6, StableHlo.devRef_ne_of_ne h7, StableHlo.devRef_ne_of_ne h8⟩

/-- A window's block at a point. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- What a point leaves in the result's block. -/
def outBlk (c : Dev nD) (t : Fin (cfg0 (F := F)).N) : Vec F S1x4096x128 .f32 :=
  oArr k0_pay275 k0_pay276 (prepQ (iblk m c 0 t) (iblk m c 3 t)) (prepK (iblk m c 1 t) (iblk m c 4 t)) (prepV (iblk m c 2 t))

/-- The proof data: inputs at their blocks, the result's block as above, each shared array in equal parts. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk m c t
    | ⟨_ + 6, h⟩ => absurd h (Nat.not_lt.2 (Nat.le_add_left _ _))
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]
theorem after_0 (c : Dev nD) (t : Fin (cfg0 (F := F)).N) : (dats m 0 c).after 0 t = iblk m c 0 t := by dsimp only [dats]; rfl
theorem before_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem after_1 (c : Dev nD) (t : Fin (cfg0 (F := F)).N) : (dats m 0 c).after 1 t = iblk m c 1 t := by dsimp only [dats]; rfl
theorem before_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem after_2 (c : Dev nD) (t : Fin (cfg0 (F := F)).N) : (dats m 0 c).after 2 t = iblk m c 2 t := by dsimp only [dats]; rfl
theorem before_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem after_3 (c : Dev nD) (t : Fin (cfg0 (F := F)).N) : (dats m 0 c).after 3 t = iblk m c 3 t := by dsimp only [dats]; rfl
theorem before_3 (c : Dev nD) (t : Fin (cfg0 (F := F)).N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem after_4 (c : Dev nD) (t : Fin (cfg0 (F := F)).N) : (dats m 0 c).after 4 t = iblk m c 4 t := by dsimp only [dats]; rfl
theorem before_4 (c : Dev nD) (t : Fin (cfg0 (F := F)).N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem after_5 (c : Dev nD) (t : Fin (cfg0 (F := F)).N) : (dats m 0 c).after 5 t = outBlk m c t := by dsimp only [dats]; rfl

/-- The whole body, its buffers owned at what they read. -/
theorem body_owned (c : Dev nD) (i : grid0.Coords) (a2 a3 a4 : Memref sig .tc .vmem S1x4096x128 .f32) (g2 : a2.IsWhole) (g3 : a3.IsWhole) (g4 : a4.IsWhole)
    (a5 a6 : Memref sig .tc .vmem S1x128 .f32) (g5 : a5.IsWhole) (g6 : a6.IsWhole) (a7 : Memref sig .tc .vmem S1x4096x128 .f32) (g7 : a7.IsWhole)
    (a8 a9 a10 : Memref sig .tc .vmem S32x256x128 .bf16) (g8 : a8.IsWhole) (g9 : a9.IsWhole) (g10 : a10.IsWhole)
    (X2 X3 X4 : Vec F S1x4096x128 .f32) (X5 X6 : Vec F S1x128 .f32) (K : PUnit → sProp 𝕄) :
    iprop(owns (c : Thread nD τ) a2 fullShare X2 ∗ owns (c : Thread nD τ) a3 fullShare X3 ∗ owns (c : Thread nD τ) a4 fullShare X4 ∗ owns (c : Thread nD τ) a5 fullShare X5 ∗ owns (c : Thread nD τ) a6 fullShare X6 ∗ (∃ d, owns (c : Thread nD τ) a7 fullShare d)
      ∗ ((∃ f : HbBuf (F := F) c a8, hbPt c a8 f) ∗ (∃ f : HbBuf (F := F) c a9, hbPt c a9 f) ∗ (∃ f : HbBuf (F := F) c a10, hbPt c a10 f))
      ∗ ((owns (c : Thread nD τ) a2 fullShare X2 ∗ owns (c : Thread nD τ) a3 fullShare X3 ∗ owns (c : Thread nD τ) a4 fullShare X4 ∗ owns (c : Thread nD τ) a5 fullShare X5 ∗ owns (c : Thread nD τ) a6 fullShare X6
          ∗ owns (c : Thread nD τ) a7 fullShare (oArr k0_pay275 k0_pay276 (prepQ X2 X5) (prepK X3 X6) (prepV X4))
          ∗ (∃ f : HbBuf (F := F) c a8, hbPt c a8 f) ∗ (∃ f : HbBuf (F := F) c a9, hbPt c a9 f) ∗ (∃ f : HbBuf (F := F) c a10, hbPt c a10 f)) -∗ K ⟨⟩))
      ⊢ wp frame (wpE (defs₀ (F := F)) 𝒱₀ (c : Thread nD τ) none) Set.univ (cc0_sb_attn_fwd_skel i a2 g2 a3 g3 a4 g4 a5 g5 a6 g6 a7 g7 a8 g8 a9 g9 a10 g10) K := by
  unfold owns
  rw [g2.set_eq_univ, g3.set_eq_univ, g4.set_eq_univ, g5.set_eq_univ, g6.set_eq_univ, g7.set_eq_univ]
  iintro ⟨⟨%x2, %e2, H2⟩, ⟨%x3, %e3, H3⟩, ⟨%x4, %e4, H4⟩, ⟨%x5, %e5, H5⟩, ⟨%x6, %e6, H6⟩, ⟨%d7, %x7, %e7, H7⟩, ⟨⟨%d8, S8⟩, ⟨%d9, S9⟩, ⟨%d10, S10⟩⟩, Hk⟩
  iapply (body c i a2 a3 a4 g2 g3 g4 a5 a6 g5 g6 a7 g7 a8 a9 a10 g8 g9 g10 x2 x3 x4 x5 x6 x7 d8 d9 d10 K)
  isplitl [H2 H3 H4 H5 H6]
  · isplitl [H2]; · iexact H2
    isplitl [H3]; · iexact H3
    isplitl [H4]; · iexact H4
    isplitl [H5]; · iexact H5
    iexact H6
  isplitl [H7]; · iexact H7
  isplitl [S8 S9 S10]
  · isplitl [S8]; · iexact S8
    isplitl [S9]; · iexact S9
    iexact S10
  iintro %f8 %f9 %f10 %f ⟨⟨H2, H3, H4, H5, H6⟩, H7, ⟨S8, S9, S10⟩, %ef⟩
  iapply Hk
  isplitl [H2]
  · iexists x2; isplitr; · ipureintro; exact e2
    iexact H2
  isplitl [H3]
  · iexists x3; isplitr; · ipureintro; exact e3
    iexact H3
  isplitl [H4]
  · iexists x4; isplitr; · ipureintro; exact e4
    iexact H4
  isplitl [H5]
  · iexists x5; isplitr; · ipureintro; exact e5
    iexact H5
  isplitl [H6]
  · iexists x6; isplitr; · ipureintro; exact e6
    iexact H6
  isplitl [H7]
  · iexists f; isplitr; · ipureintro; rw [ef, e2, e3, e4, e5, e6]
    iexact H7
  isplitl [S8]; · iexists _; iexact S8
  isplitl [S9]; · iexists _; iexact S9
  iexists _; iexact S10

/-! ## The body at a point -/

def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 3200000 in
/-- The body at any point. -/
theorem sound_body (c : Dev nD) (t : Fin (cfg0 (F := F)).N) :
    bodyPre m c t ⊢ wp frame (wpE (defs₀ (F := F)) 𝒱₀ c none) Set.univ (bodyAt0 t) (fun _ => bodyPost m c t) := by
  have hb := body_owned (F := F) c (grid0.coords t) (win0_0.stage ((cfg0 (F := F)).slots t 0)) (win0_1.stage ((cfg0 (F := F)).slots t 1)) (win0_2.stage ((cfg0 (F := F)).slots t 2)) (hstage0_0 (((cfg0 (F := F)).slots t 0).cast nbuf0_0)) (hstage0_1 (((cfg0 (F := F)).slots t 1).cast nbuf0_1)) (hstage0_2 (((cfg0 (F := F)).slots t 2).cast nbuf0_2)) (win0_3.stage ((cfg0 (F := F)).slots t 3)) (win0_4.stage ((cfg0 (F := F)).slots t 4)) (hstage0_3 (((cfg0 (F := F)).slots t 3).cast nbuf0_3)) (hstage0_4 (((cfg0 (F := F)).slots t 4).cast nbuf0_4)) (win0_5.stage ((cfg0 (F := F)).slots t 5)) (hstage0_5 (((cfg0 (F := F)).slots t 5).cast nbuf0_5)) (Memref.whole cc0_scratch0) (Memref.whole cc0_scratch1) (Memref.whole cc0_scratch2) (Memref.isWhole_whole _) (Memref.isWhole_whole _) (Memref.isWhole_whole _)
  unfold bodyPre bodyPost bodyAt0
  simp only [before_0, before_1, before_2, before_3, before_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after_0, after_1, after_2, after_3, after_4, after_5,
    cc0_sb_attn_fwd_eq_skeleton]
  unfold Pipeline.ΦA
  rw [scopedRest0_eq]
  iintro ⟨⟨⟨⟨%d8, S8⟩, ⟨%d9, S9⟩, ⟨%d10, S10⟩⟩, Hr⟩, Ho, ⟨%d0, H0⟩, ⟨%d1, H1⟩, ⟨%d2, H2⟩, ⟨%d3, H3⟩, ⟨%d4, H4⟩, ⟨%d5, H5⟩⟩
  iapply (hb (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [S8 S9 S10]
  · isplitl [S8]; · iexists _; iexact S8
    isplitl [S9]; · iexists _; iexact S9
    iexists _; iexact S10
  iintro ⟨H0, H1, H2, H3, H4, H5, S8, S9, S10⟩
  isplitl [Hr S8 S9 S10]
  · isplitl [S8 S9 S10]
    · isplitl [S8]; · iexact S8
      isplitl [S9]; · iexact S9
      iexact S10
    iexact Hr
  isplitl [Ho]; · iexact Ho
  isplitl [H0]; · iexact H0
  isplitl [H1]; · iexact H1
  isplitl [H2]; · iexact H2
  isplitl [H3]; · iexact H3
  isplitl [H4]; · iexact H4
  iexact H5

theorem row (t : Fin (cfg0 (F := F)).N) : defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, row]
  exact triple_restated (sound_body m c t) rfl .rfl fun _ => .rfl

/-! ## The run -/

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m) (hmain := host_then_call m) (hA := A_eq m) (hΦ := fun _ _ => rfl)

/-- The arguments are unchanged and no counter is left up. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c =>
    ⟨(h.1 c).2 main_arg0 (Pipeline.mem_restRefs_of main_arg0 (by decide) (show ∀ w : Fin 6, (spec0 w).arr.view.ref ≠ main_arg0 by decide)) |>.trans (kept m c main_arg0 (by decide)),
     (h.1 c).2 main_arg1 (Pipeline.mem_restRefs_of main_arg1 (by decide) (show ∀ w : Fin 6, (spec0 w).arr.view.ref ≠ main_arg1 by decide)) |>.trans (kept m c main_arg1 (by decide)),
     (h.1 c).2 main_arg2 (Pipeline.mem_restRefs_of main_arg2 (by decide) (show ∀ w : Fin 6, (spec0 w).arr.view.ref ≠ main_arg2 by decide)) |>.trans (kept m c main_arg2 (by decide))⟩, h.2⟩) (run_quiescent m ρ)

end Cert.Attn

end
-- ==== Proof.AttnReal.lean ====
/- The attention over real arguments: the normalised queries and keys, the scores, and the weighted sum of the values. -/
module

public import proofs.«01_k».proof.Proof.Lift
public import Idealize.ShloMosaic.Lib.Pointwise.Index

@[expose] public section

noncomputable section

namespace Cert.Attn

open Idealize.ShloMosaic Cert.Lift

/-- The call's arguments: the in projection's rows and the weights of the two norms. -/
structure Args where
  p : Fin 2 → Fin 4096 → Fin 6672 → ℝ
  qw : Fin 64 → ℝ
  kw : Fin 64 → ℝ

/-- A head's row divided by its root mean square and scaled by the norm's weights. -/
def nrm (x w : Fin 64 → ℝ) (d : Fin 64) : ℝ := x d * (Real.sqrt ((∑ k, x k * x k) / 64 + eps))⁻¹ * w d

theorem msq_pos (x : Fin 64 → ℝ) : 0 < (∑ k, x k * x k) / 64 + eps :=
  add_pos_of_nonneg_of_pos (div_nonneg (Finset.sum_nonneg fun k _ => mul_self_nonneg _) (by norm_num)) eps_pos

/-- The logarithm of the sigmoid, and that of the rest. -/
def ls (z : ℝ) : ℝ := min z 0 - Real.log (1 + Real.exp (-|z|))
def lk (z : ℝ) : ℝ := ls z - z

theorem one_add_exp_pos (z : ℝ) : 0 < 1 + Real.exp z := add_pos one_pos (Real.exp_pos z)

/-- The same two by the larger of the score and zero. -/
theorem ls_eq (z : ℝ) : -(max (-z) 0 + Real.log (1 + Real.exp (-|z|))) = ls z := by
  unfold ls
  rcases le_total z 0 with h | h
  · rw [max_eq_left (by linarith), min_eq_left h]; ring
  · rw [max_eq_right (by linarith), min_eq_right h]; ring

theorem lk_eq (z : ℝ) : -(max z 0 + Real.log (1 + Real.exp (-|z|))) = lk z := by
  unfold lk ls
  rcases le_total z 0 with h | h
  · rw [max_eq_right h, min_eq_left h]; ring
  · rw [max_eq_left h, min_eq_right h]; ring

section
variable (Z : ℕ → ℕ → ℝ)
/-- The weight of key `j` for query `i`: the later keys up to the query have left it their rest. -/
def wt (i j : ℕ) : ℝ := Real.exp (ls (Z i j) + ∑ k ∈ Finset.Ico (j + 1) i, lk (Z i k))
/-- The attention of query `i`. -/
def att (V : ℕ → ℝ) (i : ℕ) : ℝ := ∑ j ∈ Finset.range i, wt Z i j * V j
end

/-- A row's number. -/
def row4096 (n : ℕ) : Fin 4096 := ⟨n % 4096, Nat.mod_lt _ (by decide)⟩

namespace Args
variable (a : Args)
def q (b : Fin 2) (h : Fin 16) (r : Fin 4096) : Fin 64 → ℝ := nrm (fun d => a.p b r ⟨h.val * 64 + d.val, by omega⟩) a.qw
def k (b : Fin 2) (h : Fin 16) (r : Fin 4096) : Fin 64 → ℝ := nrm (fun d => a.p b r ⟨1024 + (h.val * 64 + d.val), by omega⟩) a.kw
def v (b : Fin 2) (h : Fin 16) (r : Fin 4096) (d : Fin 64) : ℝ := a.p b r ⟨2048 + (h.val * 64 + d.val), by omega⟩
/-- The score of query `i` and key `j`. -/
def sc (b : Fin 2) (h : Fin 16) (i j : ℕ) : ℝ := (∑ d, a.q b h (row4096 i) d * a.k b h (row4096 j) d) * (1 / 8)
/-- The call's result. -/
def o (b : Fin 2) (r : Fin 4096) (c : Fin 1024) : ℝ :=
  att (a.sc b ⟨c.val / 64, by omega⟩) (fun j => a.v b ⟨c.val / 64, by omega⟩ (row4096 j) ⟨c.val % 64, by omega⟩) r.val
end Args

end Cert.Attn

end
-- ==== Proof.AttnStep.lean ====
/- One key block of the attention over real blocks, and the query block's loop over the key blocks. -/
module

public import proofs.«01_k».proof.Proof.AttnReal
public import proofs.«01_k».proof.Proof.AttnModel
public import Idealize.ShloMosaic.Lib.Pointwise
public import Idealize.ShloMosaic.Lib.WordCmp

@[expose] public section

set_option maxRecDepth 16384

noncomputable section

namespace Cert.Attn

open Cert.Kernel3Ideal Cert.Kernel3Ideal.Gen Idealize.ShloMosaic Cert.Lift

abbrev M128 := Fin 128 → Fin 128 → ℝ
abbrev M256 := Fin 128 → Fin 256 → ℝ

/-- A column of the left and of the right half. -/
abbrev lft (j : Fin 128) : Fin 256 := ⟨j.val, by omega⟩
abbrev rgt (j : Fin 128) : Fin 256 := ⟨128 + j.val, by omega⟩

theorem zz_eq (q : M128) (k : Fin 256 → Fin 128 → ℝ) : zz (F := Ideal) (up2 q) (up3 (k := 1) fun _ => k) = up2 fun i j => ∑ d, q i d * k j d := by
  funext i; idx_vars i
  pointwise [zz]
  simp only [up2_ix, up3_ix, bits_zero, ← EReal.coe_mul, coe_sum, ← EReal.coe_add, zero_add]

theorem half0_eq (x : M256) : half0 (F := Ideal) (up2 x) = up2 fun i j => x i (lft j) := by
  funext i; idx_vars i
  pointwise [half0]
  rfl

theorem half1_eq (x : M256) : half1 (F := Ideal) (up2 x) = up2 fun i j => x i (rgt j) := by
  funext i; idx_vars i
  pointwise [half1]
  rfl

theorem lsig_eq (z : M128) : lsig (F := Ideal) (up2 z) = up2 fun i j => ls (z i j) := by
  funext i; idx_vars i
  pointwise [lsig]
  simp only [up2_ix]
  show min ((z i0 i1 : ℝ) : EReal) 0 - Ideal.log (1 + Ideal.exp (0 - max ((z i0 i1 : ℝ) : EReal) (-((z i0 i1 : ℝ) : EReal)))) = _
  rw [← EReal.coe_neg, ← EReal.coe_zero, ← EReal.coe_strictMono.monotone.map_max, ← EReal.coe_strictMono.monotone.map_min, ← EReal.coe_sub, zero_sub, Ideal.exp_coe, ← EReal.coe_one,
    ← EReal.coe_add, Ideal.log_coe, if_neg (not_le.mpr (one_add_exp_pos _)), ← EReal.coe_sub]
  rfl

theorem lrest_eq (z : M128) : lrest (F := Ideal) (up2 z) = up2 fun i j => lk (z i j) := by
  funext i; idx_vars i
  show lsig (F := Ideal) (up2 z) (ix2 i0 i1) - up2 z (ix2 i0 i1) = _
  rw [lsig_eq]
  exact (EReal.coe_sub _ _).symm

theorem mk_at (i j : Fin 128) : k0_pay276 (ix2 i j) = BitVec.ofBool (decide (j.val < i.val)) := by
  unfold k0_pay276
  pointwise
  exact WordCmp.cmpi_slt_ofNat (by omega) (by omega)

theorem lmask_eq (x : M128) : lmask (F := Ideal) k0_pay276 (up2 x) = up2 fun i j => if j.val < i.val then x i j else 0 := by
  funext i; idx_vars i
  show (if k0_pay276 (ix2 i0 i1) = 1#1 then ((x i0 i1 : ℝ) : EReal) else Ideal.ofBits .f32 0x00000000#32) = ((if i1.val < i0.val then x i0 i1 else 0 : ℝ) : EReal)
  rw [mk_at, bits_zero]
  by_cases h : i1.val < i0.val
  · rw [if_pos h, decide_eq_true h]; rfl
  · rw [if_neg h, decide_eq_false h]; rfl

/-- The matrix of the sums. -/
def uu (j : Fin 256) (n : Fin 256) : ℝ := if 128 ≤ n.val ∨ n.val < j.val % 128 then 1 else 0

/-- The remainder of a row's number, as the kernel takes it. -/
theorem rem_word : ∀ j : Fin 256, (Scalar.select
            (IntOp.andi
              (IntOp.xori
                (IntOp.cmpi CmpIPredicate.slt
                  (IntOp.remsi ArithUnit.vector (BitVec.ofNat 32 j.val)
                    (Scalar.select (Scalar.cmpi CmpIPredicate.eq 128#32 0#32) 1#32 128#32))
                  0#32)
                (Scalar.cmpi CmpIPredicate.slt (Scalar.select (Scalar.cmpi CmpIPredicate.eq 128#32 0#32) 1#32 128#32)
                  0#32))
              (IntOp.cmpi CmpIPredicate.ne
                (IntOp.remsi ArithUnit.vector (BitVec.ofNat 32 j.val)
                  (Scalar.select (Scalar.cmpi CmpIPredicate.eq 128#32 0#32) 1#32 128#32))
                0#32))
            (IntOp.addi
              (IntOp.remsi ArithUnit.vector (BitVec.ofNat 32 j.val)
                (Scalar.select (Scalar.cmpi CmpIPredicate.eq 128#32 0#32) 1#32 128#32))
              (Scalar.select (Scalar.cmpi CmpIPredicate.eq 128#32 0#32) 1#32 128#32))
            (IntOp.remsi ArithUnit.vector (BitVec.ofNat 32 j.val)
              (Scalar.select (Scalar.cmpi CmpIPredicate.eq 128#32 0#32) 1#32 128#32))) = BitVec.ofNat 32 (j.val % 128) := by decide +kernel

theorem uo_eq : k0_pay275 (F := Ideal) = up2 uu := by
  funext i; idx_vars i
  unfold k0_pay275
  pointwise
  rw [rem_word i0, WordCmp.cmpi_sgt_ofNat (by omega) (by omega), show (128#32 : BitVec 32) = BitVec.ofNat 32 128 from rfl, WordCmp.cmpi_sge_ofNat (by omega) (by omega)]
  show _ = ((uu i0 i1 : ℝ) : EReal)
  unfold uu
  by_cases h : 128 ≤ i1.val
  · rw [if_pos (.inl h), decide_eq_true h]
    by_cases h' : i1.val < i0.val % 128
    · rw [decide_eq_true h']; rfl
    · rw [decide_eq_false h']; rfl
  · rw [decide_eq_false h]
    by_cases h' : i1.val < i0.val % 128
    · rw [if_pos (.inr h'), decide_eq_true h']; rfl
    · rw [if_neg (by omega), decide_eq_false h']; rfl

theorem csum_eq (l : M128) : csum (F := Ideal) (up2 uu) (up2 l) = up2 fun i n => ∑ j, l i j * uu (lft j) n := by
  funext i; idx_vars i
  pointwise [csum]
  simp only [up2_ix, ← EReal.coe_sub, sub_self, ← EReal.coe_mul, coe_sum, ← EReal.coe_add, zero_mul, Finset.sum_const_zero, add_zero]

theorem wts_eq (la r : M128) (cs : M256) : wts (F := Ideal) (up2 la) (up2 r) (up2 cs) = up2 fun i j => Real.exp (la i j + r i j + cs i (lft j)) := by
  unfold wts
  rw [half0_eq]
  funext i; idx_vars i
  show Ideal.exp (((la i0 i1 : ℝ) : EReal) + ((r i0 i1 : ℝ) : EReal) + ((cs i0 (lft i1) : ℝ) : EReal)) = _
  rw [← EReal.coe_add, ← EReal.coe_add, Ideal.exp_coe]
  rfl

theorem wv_eq (w0 w1 : M128) (v : Fin 256 → Fin 128 → ℝ) : wv (F := Ideal) (up2 w0) (up2 w1) (up3 (k := 1) fun _ => v)
    = up2 fun i l => (∑ j, w0 i j * v (lft j) l) + ∑ j, w1 i j * v (rgt j) l := by
  funext i; idx_vars i
  pointwise [wv]
  simp only [up2_ix, up3_ix, ← EReal.coe_mul, coe_sum, ← EReal.coe_add]

/-! ## The sums over blocks of keys -/

/-- A sum over part of a block. -/
theorem part_sum (g : ℕ → ℝ) (c lo hi : ℕ) (h : hi ≤ 128) :
    (∑ j : Fin 128, if lo ≤ j.val ∧ j.val < hi then g (c + j.val) else 0) = ∑ k ∈ Finset.Ico (c + lo) (c + hi), g k := by
  rw [Fin.sum_univ_eq_sum_range (fun j => if lo ≤ j ∧ j < hi then g (c + j) else 0) 128, ← Finset.sum_filter]
  refine Finset.sum_nbij' (fun a => c + a) (fun k => k - c) (fun a ha => ?_) (fun k hk => ?_) (fun a ha => ?_) (fun k hk => ?_) (fun a ha => rfl)
  · rw [Finset.mem_filter, Finset.mem_range] at ha; rw [Finset.mem_Ico]; omega
  · rw [Finset.mem_Ico] at hk; rw [Finset.mem_filter, Finset.mem_range]; omega
  · show c + a - c = a; omega
  · rw [Finset.mem_Ico] at hk; show c + (k - c) = k; omega

/-- The lane's head: whether the lane belongs to the second head of the pair. -/
def sel (Z0 Z1 : ℕ → ℕ → ℝ) (l : Fin 128) : ℕ → ℕ → ℝ := if l.val < 64 then Z0 else Z1

section
variable (Z0 Z1 : ℕ → ℕ → ℝ) (V : Fin 128 → ℕ → ℝ) (n : ℕ)

/-- The rests of the keys from block `m` on. -/
def rr (Z : ℕ → ℕ → ℝ) (m : ℕ) (i : Fin 128) : ℝ := ∑ k ∈ Finset.Ico (128 * m) (128 * n + i.val), lk (Z (128 * n + i.val) k)
/-- The weighted values of the keys from block `m` on. -/
def aa (m : ℕ) (i l : Fin 128) : ℝ := ∑ j ∈ Finset.Ico (128 * m) (128 * n + i.val), wt (sel Z0 Z1 l) (128 * n + i.val) j * V l j
/-- What is carried once the keys from block `m` on are taken. -/
def ss (m : ℕ) : St Ideal := ⟨up2 fun i (_ : Fin 128) => rr n Z0 m i, up2 fun i (_ : Fin 128) => rr n Z1 m i, up2 (aa Z0 Z1 V n m)⟩

/-- A block of keys, both heads: the scores it gives. -/
def KeyOf (q : M128) (m : ℕ) (k : Fin 256 → Fin 128 → ℝ) : Prop := ∀ i j : Fin 128,
  (∑ d, q i d * k (lft j) d = Z0 (128 * n + i.val) (128 * m + j.val)) ∧ (∑ d, q i d * k (rgt j) d = Z1 (128 * n + i.val) (128 * m + j.val))
/-- A block of values, each head's in its own lanes. -/
def ValOf (m : ℕ) (v : Fin 256 → Fin 128 → ℝ) : Prop := ∀ j l : Fin 128,
  v (lft j) l = (if l.val < 64 then V l (128 * m + j.val) else 0) ∧ v (rgt j) l = (if l.val < 64 then 0 else V l (128 * m + j.val))

variable {Z0 Z1 V n} {q : M128} {m : ℕ} {k v : Fin 256 → Fin 128 → ℝ}

theorem z0_eq (hk : KeyOf Z0 Z1 n q m k) : half0 (zz (F := Ideal) (up2 q) (up3 (k := 1) fun _ => k)) = up2 fun i j => Z0 (128 * n + i.val) (128 * m + j.val) := by
  rw [zz_eq, half0_eq]; exact congrArg up2 (funext fun i => funext fun j => (hk i j).1)
theorem z1_eq (hk : KeyOf Z0 Z1 n q m k) : half1 (zz (F := Ideal) (up2 q) (up3 (k := 1) fun _ => k)) = up2 fun i j => Z1 (128 * n + i.val) (128 * m + j.val) := by
  rw [zz_eq, half1_eq]; exact congrArg up2 (funext fun i => funext fun j => (hk i j).2)

/-- The sums of a block's rests: those after a key, and all. -/
theorem uu_lft (g : ℕ → ℝ) (c hi : ℕ) (h : hi ≤ 128) (j : Fin 128) : ∑ x : Fin 128, (if x.val < hi then g (c + x.val) else 0) * uu (lft x) (lft j) = ∑ k ∈ Finset.Ico (c + (j.val + 1)) (c + hi), g k := by
  rw [← part_sum g c (j.val + 1) hi h]
  refine Finset.sum_congr rfl fun x _ => ?_
  have hx : uu (lft x) (lft j) = if j.val < x.val then 1 else 0 := by
    unfold uu
    refine if_congr ?_ rfl rfl
    show 128 ≤ j.val ∨ j.val < x.val % 128 ↔ _
    omega
  rw [hx]
  by_cases h1 : x.val < hi <;> by_cases h2 : j.val < x.val
  · rw [if_pos h1, if_pos h2, if_pos ⟨h2, h1⟩, mul_one]
  · rw [if_neg h2, if_neg (show ¬(j.val + 1 ≤ x.val ∧ x.val < hi) by omega), mul_zero]
  · rw [if_neg h1, if_neg (show ¬(j.val + 1 ≤ x.val ∧ x.val < hi) by omega), zero_mul]
  · rw [if_neg h1, if_neg (show ¬(j.val + 1 ≤ x.val ∧ x.val < hi) by omega), zero_mul]
theorem uu_rgt (g : ℕ → ℝ) (c hi : ℕ) (h : hi ≤ 128) (j : Fin 128) : ∑ x : Fin 128, (if x.val < hi then g (c + x.val) else 0) * uu (lft x) (rgt j) = ∑ k ∈ Finset.Ico c (c + hi), g k := by
  refine Eq.trans ?_ (part_sum g c 0 hi h)
  refine Finset.sum_congr rfl fun x _ => ?_
  have hx : uu (lft x) (rgt j) = 1 := if_pos (.inl (by show 128 ≤ 128 + j.val; omega))
  rw [hx, mul_one]
  exact if_congr (by omega) rfl rfl

/-- The values of a block, in the lane's head. -/
theorem wv_sum (w0 w1 : M128) (W : ℕ → ℝ) (hi : ℕ) (h : hi ≤ 128) (hv : ValOf V m v) (i l : Fin 128)
    (h0 : l.val < 64 → ∀ j : Fin 128, w0 i j = if j.val < hi then W (128 * m + j.val) else 0)
    (h1 : ¬l.val < 64 → ∀ j : Fin 128, w1 i j = if j.val < hi then W (128 * m + j.val) else 0) :
    (∑ j, w0 i j * v (lft j) l) + ∑ j, w1 i j * v (rgt j) l = ∑ k ∈ Finset.Ico (128 * m) (128 * m + hi), W k * V l k := by
  refine Eq.trans ?_ (part_sum (fun k => W k * V l k) (128 * m) 0 hi h)
  by_cases hl : l.val < 64
  · have e1 : ∑ j, w1 i j * v (rgt j) l = 0 := Finset.sum_eq_zero fun j _ => by rw [(hv j l).2, if_pos hl, mul_zero]
    rw [e1, add_zero]
    refine Finset.sum_congr rfl fun j _ => ?_
    rw [h0 hl j, (hv j l).1, if_pos hl, ite_mul, zero_mul]
    exact if_congr (by omega) rfl rfl
  · have e1 : ∑ j, w0 i j * v (lft j) l = 0 := Finset.sum_eq_zero fun j _ => by rw [(hv j l).1, if_neg hl, mul_zero]
    rw [e1, zero_add]
    refine Finset.sum_congr rfl fun j _ => ?_
    rw [h1 hl j, (hv j l).2, if_neg hl, ite_mul, zero_mul]
    exact if_congr (by omega) rfl rfl

/-- The weights of a block off the diagonal, and of the diagonal block. -/
theorem wt_off (Z : ℕ → ℕ → ℝ) (hm : m + 1 ≤ n) (i j : Fin 128) :
    Real.exp (ls (Z (128 * n + i.val) (128 * m + j.val)) + rr n Z (m + 1) i + ∑ k ∈ Finset.Ico (128 * m + (j.val + 1)) (128 * m + 128), lk (Z (128 * n + i.val) k))
      = wt Z (128 * n + i.val) (128 * m + j.val) := by
  unfold wt rr
  rw [add_assoc, add_comm (∑ k ∈ _, _), show 128 * (m + 1) = 128 * m + 128 by omega, Finset.sum_Ico_consecutive _ (by omega) (by omega)]
  rfl
theorem rr_step (Z : ℕ → ℕ → ℝ) (hm : m + 1 ≤ n) (i : Fin 128) :
    rr n Z (m + 1) i + ∑ k ∈ Finset.Ico (128 * m) (128 * m + 128), lk (Z (128 * n + i.val) k) = rr n Z m i := by
  unfold rr
  rw [add_comm, show 128 * (m + 1) = 128 * m + 128 by omega, Finset.sum_Ico_consecutive _ (by omega) (by omega)]

theorem tstep_eq (hm : m + 1 ≤ n) (hk : KeyOf Z0 Z1 n q m k) (hv : ValOf V m v) :
    tstep (F := Ideal) (up2 q) (up2 uu) (up3 (k := 1) fun _ => k) (up3 (k := 1) fun _ => v) (ss Z0 Z1 V n (m + 1)) = ss Z0 Z1 V n m := by
  have c0 : ∀ (Z : ℕ → ℕ → ℝ) (i : Fin 128) (j : Fin 128), ∑ x : Fin 128, lk (Z (128 * n + i.val) (128 * m + x.val)) * uu (lft x) (lft j)
      = ∑ k ∈ Finset.Ico (128 * m + (j.val + 1)) (128 * m + 128), lk (Z (128 * n + i.val) k) := fun Z i j => by
    rw [← uu_lft (fun k => lk (Z (128 * n + i.val) k)) (128 * m) 128 le_rfl j]
    exact Finset.sum_congr rfl fun x _ => by rw [if_pos x.isLt]
  have c1 : ∀ (Z : ℕ → ℕ → ℝ) (i : Fin 128) (j : Fin 128), ∑ x : Fin 128, lk (Z (128 * n + i.val) (128 * m + x.val)) * uu (lft x) (rgt j)
      = ∑ k ∈ Finset.Ico (128 * m) (128 * m + 128), lk (Z (128 * n + i.val) k) := fun Z i j => by
    rw [← uu_rgt (fun k => lk (Z (128 * n + i.val) k)) (128 * m) 128 le_rfl j]
    exact Finset.sum_congr rfl fun x _ => by rw [if_pos x.isLt]
  unfold tstep ss
  rw [z0_eq hk, z1_eq hk]
  simp only [lsig_eq, lrest_eq, csum_eq, wts_eq, wv_eq, half1_eq, c0, c1, wt_off _ hm]
  congr 1
  · funext i; idx_vars i
    exact (EReal.coe_add _ _).symm.trans (congrArg _ (rr_step Z0 hm i0))
  · funext i; idx_vars i
    exact (EReal.coe_add _ _).symm.trans (congrArg _ (rr_step Z1 hm i0))
  · funext i; idx_vars i
    refine (EReal.coe_add _ _).symm.trans (congrArg _ ?_)
    have e := wv_sum (fun i j => wt Z0 (128 * n + i.val) (128 * m + j.val)) (fun i j => wt Z1 (128 * n + i.val) (128 * m + j.val)) (fun k => wt (sel Z0 Z1 i1) (128 * n + i0.val) k) 128 le_rfl hv i0 i1
      (fun h j => by rw [if_pos j.isLt, sel, if_pos h]) (fun h j => by rw [if_pos j.isLt, sel, if_neg h])
    show aa Z0 Z1 V n (m + 1) i0 i1 + ((∑ j, wt Z0 (128 * n + i0.val) (128 * m + j.val) * v (lft j) i1) + ∑ j, wt Z1 (128 * n + i0.val) (128 * m + j.val) * v (rgt j) i1) = _
    rw [e]
    unfold aa
    rw [add_comm, show 128 * (m + 1) = 128 * m + 128 by omega, Finset.sum_Ico_consecutive _ (by omega) (by omega)]
    rfl

theorem mstep_eq (hk : KeyOf Z0 Z1 n q n k) (hv : ValOf V n v) :
    mstep (F := Ideal) k0_pay276 (up2 q) (up2 uu) (up3 (k := 1) fun _ => k) (up3 (k := 1) fun _ => v) st0 = ss Z0 Z1 V n n := by
  have c0 : ∀ (Z : ℕ → ℕ → ℝ) (i : Fin 128) (j : Fin 128), ∑ x : Fin 128, (if x.val < i.val then lk (Z (128 * n + i.val) (128 * n + x.val)) else 0) * uu (lft x) (lft j)
      = ∑ k ∈ Finset.Ico (128 * n + (j.val + 1)) (128 * n + i.val), lk (Z (128 * n + i.val) k) := fun Z i j =>
    uu_lft (fun k => lk (Z (128 * n + i.val) k)) (128 * n) i.val i.isLt.le j
  have c1 : ∀ (Z : ℕ → ℕ → ℝ) (i : Fin 128) (j : Fin 128), ∑ x : Fin 128, (if x.val < i.val then lk (Z (128 * n + i.val) (128 * n + x.val)) else 0) * uu (lft x) (rgt j)
      = rr n Z n i := fun Z i j => uu_rgt (fun k => lk (Z (128 * n + i.val) k)) (128 * n) i.val i.isLt.le j
  have z : zero (F := Ideal) = up2 fun _ _ => 0 := by
    funext x; exact bits_zero
  unfold mstep st0 ss
  rw [z, z0_eq hk, z1_eq hk]
  simp only [lsig_eq, lrest_eq, lmask_eq, csum_eq, wts_eq, wv_eq, half1_eq, c0, c1]
  congr 1
  · funext i; idx_vars i
    exact (EReal.coe_add _ _).symm.trans (congrArg _ (zero_add _))
  · funext i; idx_vars i
    exact (EReal.coe_add _ _).symm.trans (congrArg _ (zero_add _))
  · funext i; idx_vars i
    refine (EReal.coe_add _ _).symm.trans (congrArg _ ((zero_add _).trans ?_))
    refine wv_sum (fun i j => if j.val < i.val then Real.exp (ls (Z0 (128 * n + i.val) (128 * n + j.val)) + 0 + ∑ k ∈ Finset.Ico (128 * n + (j.val + 1)) (128 * n + i.val), lk (Z0 (128 * n + i.val) k)) else 0)
      (fun i j => if j.val < i.val then Real.exp (ls (Z1 (128 * n + i.val) (128 * n + j.val)) + 0 + ∑ k ∈ Finset.Ico (128 * n + (j.val + 1)) (128 * n + i.val), lk (Z1 (128 * n + i.val) k)) else 0)
      (fun k => wt (sel Z0 Z1 i1) (128 * n + i0.val) k) i0.val i0.isLt.le hv i0 i1 (fun h j => ?_) (fun h j => ?_)
    · rw [sel, if_pos h, add_zero]; rfl
    · rw [sel, if_neg h, add_zero]; rfl

/-! ## A query block -/

/-- The early exit is turned off: every carried sum is at least minus infinity. -/
theorem goes_true (x : Ideal .f32) : goes (F := Ideal) x = true := by
  unfold goes
  refine decide_eq_true ?_
  show BitVec.ofBool (decide ((⊥ : EReal) ≤ x)) = 1#1
  rw [decide_eq_true bot_le]; rfl

section
variable {Q X Y : Vec Ideal S32x256x128 .bf16}

/-- Every key block up to the query's and its values, as the two heads' scores and the lanes' values. -/
def BlocksOf (Z0 Z1 : ℕ → ℕ → ℝ) (V : Fin 128 → ℕ → ℝ) (n : ℕ) (X Y : Vec Ideal S32x256x128 .bf16) (q : M128) : Prop :=
  ∀ m ≤ n, ∃ k v : Fin 256 → Fin 128 → ℝ, blk X m = (up3 (k := 1) fun _ => k) ∧ blk Y m = (up3 (k := 1) fun _ => v) ∧ KeyOf Z0 Z1 n q m k ∧ ValOf V m v

theorem tstep_blk (hb : BlocksOf Z0 Z1 V n X Y q) {m : ℕ} (hm : m + 1 ≤ n) :
    tstep (F := Ideal) (up2 q) (up2 uu) (blk X m) (blk Y m) (ss Z0 Z1 V n (m + 1)) = ss Z0 Z1 V n m := by
  obtain ⟨k, v, ek, ev, hk, hv⟩ := hb m (by omega)
  rw [ek, ev]
  exact tstep_eq hm hk hv

theorem mstep_blk (hb : BlocksOf Z0 Z1 V n X Y q) :
    mstep (F := Ideal) k0_pay276 (up2 q) (up2 uu) (blk X n) (blk Y n) st0 = ss Z0 Z1 V n n := by
  obtain ⟨k, v, ek, ev, hk, hv⟩ := hb n le_rfl
  rw [ek, ev]
  exact mstep_eq hk hv

theorem two_eq (hb : BlocksOf Z0 Z1 V n X Y q) : ∀ (m : ℕ), m ≤ n → ∀ x, ∃ x', two (F := Ideal) (up2 q) (up2 uu) X Y m (ss Z0 Z1 V n m) x = (m % 2, ss Z0 Z1 V n (m % 2), x') := by
  intro m
  induction m using Nat.strong_induction_on with
  | _ m ih =>
    intro hm x
    match m, ih, hm with
    | 0, _, _ => exact ⟨x, rfl⟩
    | 1, _, _ => exact ⟨x, rfl⟩
    | m + 2, ih, hm =>
      rw [two, if_pos (goes_true x)]
      dsimp only
      rw [tstep_blk hb (show m + 1 + 1 ≤ n from hm), tstep_blk hb (show m + 1 ≤ n by omega), show (m + 2) % 2 = m % 2 by omega]
      exact ih m (by omega) (by omega) _

theorem one_eq (hb : BlocksOf Z0 Z1 V n X Y q) : ∀ (m : ℕ), m ≤ n → ∀ x, ∃ x', one (F := Ideal) (up2 q) (up2 uu) X Y m (ss Z0 Z1 V n m) x = (0, ss Z0 Z1 V n 0, x') := by
  intro m
  induction m with
  | zero => exact fun _ x => ⟨x, rfl⟩
  | succ m ih =>
    intro hm x
    rw [one, if_pos (goes_true x)]
    dsimp only
    rw [tstep_blk hb hm]
    exact ih (by omega) _

theorem oBlk_eq (hq : qpair Q n = up2 q) (hb : BlocksOf Z0 Z1 V n X Y q) : oBlk (F := Ideal) (up2 uu) k0_pay276 Q X Y n = up2 (aa Z0 Z1 V n 0) := by
  match n, hq, hb with
  | 0, hq, hb =>
    rw [oBlk, st1, hq, mstep_blk hb]; rfl
  | 1, hq, hb =>
    rw [oBlk, st2, st1, hq, mstep_blk hb, tstep_blk hb le_rfl]; rfl
  | n + 2, hq, hb =>
    rw [oBlk, st3, st2, st1, hq, mstep_blk hb, tstep_blk hb (show n + 1 + 1 ≤ n + 2 from le_rfl), tstep_blk hb (show n + 1 ≤ n + 2 by omega)]
    obtain ⟨x', e⟩ := two_eq hb n (by omega) (top (ss Z0 Z1 V (n + 2) n).r0 (ss Z0 Z1 V (n + 2) n).r1)
    rw [e]
    dsimp only
    obtain ⟨x'', e'⟩ := one_eq hb (n % 2) (by omega) x'
    rw [e']
    rfl
end
end

end Cert.Attn

end
-- ==== Proof.AttnHeads.lean ====
/- The prepared queries, keys and values over real rows: each head's lanes normalised by that head's mean square. -/
module

public import proofs.«01_k».proof.Proof.AttnStep
public import proofs.«01_k».proof.Proof.AttnPrepQ
public import proofs.«01_k».proof.Proof.AttnPrepK
public import proofs.«01_k».proof.Proof.AttnPrepV

@[expose] public section

set_option maxRecDepth 16384

noncomputable section

namespace Cert.Attn

open Cert.Kernel3Ideal Cert.Kernel3Ideal.Gen Idealize.ShloMosaic Cert.Lift

/-- Whether two lanes belong to the same head. -/
def hh (j : Fin 256) (l : Fin 128) : ℝ := if 64 ≤ j.val % 128 ↔ 64 ≤ l.val then 1 else 0

theorem hh_nonneg (j : Fin 256) (l : Fin 128) : 0 ≤ hh j l := by
  unfold hh; split <;> norm_num

/-- Whether a row lies in the second head's lanes, as a word. -/
theorem row_word : ∀ r : Fin 256,
    BitVec.setWidth 32 (IntOp.cmpi .sge
      (Scalar.select
        (IntOp.andi
          (IntOp.xori (IntOp.cmpi .slt (IntOp.remsi .vector (BitVec.ofNat 32 r.val) (Scalar.select (Scalar.cmpi .eq 128#32 0#32) 1#32 128#32)) 0#32)
            (Scalar.cmpi .slt (Scalar.select (Scalar.cmpi .eq 128#32 0#32) 1#32 128#32) 0#32))
          (IntOp.cmpi .ne (IntOp.remsi .vector (BitVec.ofNat 32 r.val) (Scalar.select (Scalar.cmpi .eq 128#32 0#32) 1#32 128#32)) 0#32))
        (IntOp.addi (IntOp.remsi .vector (BitVec.ofNat 32 r.val) (Scalar.select (Scalar.cmpi .eq 128#32 0#32) 1#32 128#32))
          (Scalar.select (Scalar.cmpi .eq 128#32 0#32) 1#32 128#32))
        (IntOp.remsi .vector (BitVec.ofNat 32 r.val) (Scalar.select (Scalar.cmpi .eq 128#32 0#32) 1#32 128#32)))
      64#32) = if 64 ≤ r.val % 128 then 1#32 else 0#32 := by
  decide +kernel

/-- Whether a lane belongs to the second head, as a word. -/
theorem lane_word : ∀ l : Fin 128, BitVec.setWidth 32 (IntOp.cmpi .sge (BitVec.ofNat 32 l.val) 64#32) = if 64 ≤ l.val then 1#32 else 0#32 := by
  decide +kernel

theorem ind_eq2 : k0_pay285 (F := Ideal) k0_pay284 = up2 hh := by
  funext i; idx_vars i
  unfold k0_pay285 k0_pay284
  pointwise
  rw [row_word i0, lane_word i1]
  show _ = ((hh i0 i1 : ℝ) : EReal)
  unfold hh
  by_cases h0 : 64 ≤ i0.val % 128 <;> by_cases h1 : 64 ≤ i1.val
  · rw [if_pos h0, if_pos h1, if_pos (by simp only [h0, h1])]; rfl
  · rw [if_pos h0, if_neg h1, if_neg (by simp only [h0, h1, true_iff, not_false_eq_true])]; rfl
  · rw [if_neg h0, if_pos h1, if_neg (by simp only [h0, h1, iff_true, not_false_eq_true])]; rfl
  · rw [if_neg h0, if_neg h1, if_pos (by simp only [h0, h1])]; rfl

theorem ind_eq1 : k0_pay281 (F := Ideal) 128#32 k0_pay278 k0_pay279 k0_pay280 0#1 = up2 hh := by
  exact Eq.trans (funext fun i => rfl) ind_eq2

theorem sel_at (r : Fin 2048) (l : Fin 128) : k0_pay277 (ix2 r l) = BitVec.ofBool (decide (l.val < 64)) := by
  unfold k0_pay277
  pointwise
  exact WordCmp.cmpi_slt_ofNat (by omega) (by omega)

/-- A row of both heads' lanes normalised head by head. -/
def nh (x w : Fin 128 → ℝ) (l : Fin 128) : ℝ := x l * (Real.sqrt ((∑ j, x j * x j * hh (lft j) l) * (1 / 64) + eps))⁻¹ * w l

theorem nh_pos (x : Fin 128 → ℝ) (l : Fin 128) : 0 < (∑ j, x j * x j * hh (lft j) l) * (1 / 64) + eps :=
  add_pos_of_nonneg_of_pos (mul_nonneg (Finset.sum_nonneg fun j _ => mul_nonneg (mul_self_nonneg _) (hh_nonneg _ _)) (by norm_num)) eps_pos

theorem bits_64th : Ideal.ofBits .f32 0x3C800000#32 = (((1 : ℝ) / 64 : ℝ) : EReal) := by
  simp [Ideal.ofBits, Ideal.ieee, ← EReal.coe_mul]; norm_num
theorem bits_8th : Ideal.ofBits .f32 0x3E000000#32 = (((1 : ℝ) / 8 : ℝ) : EReal) := by
  simp [Ideal.ofBits, Ideal.ieee, ← EReal.coe_mul]; norm_num

theorem pay76_eq (x : Fin 2048 → Fin 128 → ℝ) (w : Fin 128 → ℝ) :
    k0_pay76 (F := Ideal) (up2 hh) (up3 (k := 1) fun _ => x) (up2 fun _ : Fin 1 => w) = up2 fun r => nh (x r) w := by
  funext i; idx_vars i
  unfold k0_pay76
  pointwise
  rw [bits_64th, show Ideal.ofBits .f32 897988541#32 = ((eps : ℝ) : EReal) from bits_eps]
  simp only [up2_ix, up3_ix, ← EReal.coe_mul, coe_sum, ← EReal.coe_sub, sub_self, zero_mul, Finset.sum_const_zero, add_zero, ← EReal.coe_add]
  rw [Lift.coe_rsqrt (nh_pos (x i0) i1)]
  rfl

theorem pay35_eq (x : Fin 2048 → Fin 128 → ℝ) (w : Fin 128 → ℝ) :
    k0_pay35 (F := Ideal) (up2 hh) (up3 (k := 1) fun _ => x) (up2 fun _ : Fin 1 => w) = up2 fun r l => nh (x r) w l * (1 / 8) := by
  funext i
  show k0_pay76 (F := Ideal) (up2 hh) (up3 (k := 1) fun _ => x) (up2 fun _ : Fin 1 => w) i * Ideal.ofBits .f32 0x3E000000#32 = _
  rw [pay76_eq, bits_8th]
  exact (EReal.coe_mul _ _).symm

/-- One head's lanes are kept. -/
theorem keep_lo (f : Fin 2048 → Fin 128 → ℝ) : (fun i => Scalar.select (k0_pay277 i) (up2 f i) (Ideal.ofBits .f32 0x00000000#32)) = up2 fun r l => if l.val < 64 then f r l else 0 := by
  funext i; idx_vars i
  rw [sel_at, bits_zero]
  show (if BitVec.ofBool (decide (i1.val < 64)) = 1#1 then ((f i0 i1 : ℝ) : EReal) else _) = ((if i1.val < 64 then f i0 i1 else 0 : ℝ) : EReal)
  by_cases h : i1.val < 64
  · rw [if_pos h, decide_eq_true h]; rfl
  · rw [if_neg h, decide_eq_false h]; rfl
theorem keep_hi (f : Fin 2048 → Fin 128 → ℝ) : (fun i => Scalar.select (k0_pay277 i) (Ideal.ofBits .f32 0x00000000#32) (up2 f i)) = up2 fun r l => if l.val < 64 then 0 else f r l := by
  funext i; idx_vars i
  rw [sel_at, bits_zero]
  show (if BitVec.ofBool (decide (i1.val < 64)) = 1#1 then _ else ((f i0 i1 : ℝ) : EReal)) = ((if i1.val < 64 then 0 else f i0 i1 : ℝ) : EReal)
  by_cases h : i1.val < 64
  · rw [if_pos h, decide_eq_true h]; rfl
  · rw [if_neg h, decide_eq_false h]; rfl

/-! ## The prepared arrays -/

theorem rows_eq (x : Fin 4096 → Fin 128 → ℝ) (k : ℕ) : rows (F := Ideal) (up3 (k := 1) fun _ => x) k = up3 (k := 1) fun _ r => x (row4096 (2048 * k + r.val)) := rfl

/-- A block of a prepared array. -/
theorem prep_blk (A B : ℕ → FVec Ideal S2048x128 .bf16) (f g : Fin 4096 → Fin 128 → ℝ) (hA : ∀ k, A k = up2 fun r => f (row4096 (2048 * k + r.val)))
    (hB : ∀ k, B k = up2 fun r => g (row4096 (2048 * k + r.val))) (m : ℕ) (hm : m < 32) :
    blk (prep A B) m = up3 (k := 1) (n := 256) (m := 128) fun _ j l => if j.val < 128 then f (row4096 (128 * m + j.val)) l else g (row4096 (128 * m + (j.val - 128))) l := by
  funext i
  have e : ∀ j : ℕ, j < 128 → row4096 (2048 * (m % 32 / 16) + (128 * (m % 32 % 16) + j) % 2048) = row4096 (128 * m + j) := fun j hj => congrArg row4096 (by omega)
  have h1 : (i 1).val < 256 := (i 1).isLt
  unfold blk prep
  rw [hA, hB]
  show (if (i 1).val < 128 then ((f (row4096 (2048 * (m % 32 / 16) + (128 * (m % 32 % 16) + (i 1).val) % 2048)) (i 2) : ℝ) : EReal)
    else ((g (row4096 (2048 * (m % 32 / 16) + (128 * (m % 32 % 16) + ((i 1).val - 128)) % 2048)) (i 2) : ℝ) : EReal)) = ((if (i 1).val < 128 then _ else _ : ℝ) : EReal)
  by_cases h : (i 1).val < 128
  · rw [if_pos h, if_pos h, e _ h]
  · rw [if_neg h, if_neg h, e _ (by omega)]

theorem qpair_eq (A B : ℕ → FVec Ideal S2048x128 .bf16) (f g : Fin 4096 → Fin 128 → ℝ) (hA : ∀ k, A k = up2 fun r => f (row4096 (2048 * k + r.val)))
    (hB : ∀ k, B k = up2 fun r => g (row4096 (2048 * k + r.val))) (m : ℕ) (hm : m < 32) :
    qpair (prep A B) m = up2 fun i l => f (row4096 (128 * m + i.val)) l + g (row4096 (128 * m + i.val)) l := by
  have e := fun y : S1x256x128.Idx => congrFun (prep_blk A B f g hA hB m hm) y
  funext i; idx_vars i
  have e0 : lo (prep A B) m (ix3 0 i0 i1) = ((f (row4096 (128 * m + i0.val)) i1 : ℝ) : EReal) := by
    refine (e (ix3 0 (lft i0) i1)).trans (congrArg Real.toEReal (if_pos i0.isLt))
  have e1 : hi (prep A B) m (ix3 0 i0 i1) = ((g (row4096 (128 * m + i0.val)) i1 : ℝ) : EReal) := by
    refine (e (ix3 0 (rgt i0) i1)).trans (congrArg Real.toEReal ((if_neg (by show ¬128 + i0.val < 128; omega)).trans ?_))
    show g (row4096 (128 * m + (128 + i0.val - 128))) i1 = _
    rw [Nat.add_sub_cancel_left]
  pointwise [qpair]
  rw [e0, e1]
  exact (EReal.coe_add _ _).symm

/-! ## The two heads of a column block -/

/-- The lanes of the first head. -/
def flo (f : Fin 128 → ℝ) (d : Fin 64) : ℝ := f ⟨d.val, by omega⟩
/-- The lanes of the second head. -/
def fhi (f : Fin 128 → ℝ) (d : Fin 64) : ℝ := f ⟨64 + d.val, by omega⟩

theorem sum_heads (f : Fin 128 → ℝ) : ∑ l, f l = ∑ d, flo f d + ∑ d, fhi f d := Fin.sum_univ_add (a := 64) (b := 64) f

theorem nh_lo (x w : Fin 128 → ℝ) (d : Fin 64) : flo (nh x w) d = nrm (flo x) (flo w) d := by
  have e : ∑ j, x j * x j * hh (lft j) ⟨d.val, by omega⟩ = ∑ k, flo x k * flo x k := by
    rw [sum_heads, show (∑ k, flo x k * flo x k) = ∑ k, flo x k * flo x k + ∑ k : Fin 64, (0 : ℝ) by rw [Finset.sum_const_zero, add_zero]]
    refine congrArg₂ (· + ·) (Finset.sum_congr rfl fun k _ => ?_) (Finset.sum_congr rfl fun k _ => ?_)
    · refine (congrArg (x ⟨k.val, _⟩ * x ⟨k.val, _⟩ * ·) (if_pos ?_)).trans (mul_one _)
      show 64 ≤ k.val % 128 ↔ 64 ≤ d.val
      omega
    · refine (congrArg (x ⟨64 + k.val, _⟩ * x ⟨64 + k.val, _⟩ * ·) (if_neg ?_)).trans (mul_zero _)
      show ¬(64 ≤ (64 + k.val) % 128 ↔ 64 ≤ d.val)
      omega
  show x ⟨d.val, _⟩ * (Real.sqrt ((∑ j, x j * x j * hh (lft j) ⟨d.val, _⟩) * (1 / 64) + eps))⁻¹ * w ⟨d.val, _⟩ = _
  rw [e, mul_one_div]
  rfl
theorem nh_hi (x w : Fin 128 → ℝ) (d : Fin 64) : fhi (nh x w) d = nrm (fhi x) (fhi w) d := by
  have e : ∑ j, x j * x j * hh (lft j) ⟨64 + d.val, by omega⟩ = ∑ k, fhi x k * fhi x k := by
    rw [sum_heads, show (∑ k, fhi x k * fhi x k) = ∑ k : Fin 64, (0 : ℝ) + ∑ k, fhi x k * fhi x k by rw [Finset.sum_const_zero, zero_add]]
    refine congrArg₂ (· + ·) (Finset.sum_congr rfl fun k _ => ?_) (Finset.sum_congr rfl fun k _ => ?_)
    · refine (congrArg (x ⟨k.val, _⟩ * x ⟨k.val, _⟩ * ·) (if_neg ?_)).trans (mul_zero _)
      show ¬(64 ≤ k.val % 128 ↔ 64 ≤ 64 + d.val)
      omega
    · refine (congrArg (x ⟨64 + k.val, _⟩ * x ⟨64 + k.val, _⟩ * ·) (if_pos ?_)).trans (mul_one _)
      show 64 ≤ (64 + k.val) % 128 ↔ 64 ≤ 64 + d.val
      omega
  show x ⟨64 + d.val, _⟩ * (Real.sqrt ((∑ j, x j * x j * hh (lft j) ⟨64 + d.val, _⟩) * (1 / 64) + eps))⁻¹ * w ⟨64 + d.val, _⟩ = _
  rw [e, mul_one_div]
  rfl

/-- The score of one head: the product of a normalised query and a normalised key, over eight. -/
def score (x y w u : Fin 64 → ℝ) : ℝ := (∑ d, nrm x w d * nrm y u d) * (1 / 8)

theorem score_lo (x y w u : Fin 128 → ℝ) :
    ∑ l, nh x w l * (1 / 8) * (if l.val < 64 then nh y u l else 0) = score (flo x) (flo y) (flo w) (flo u) := by
  rw [sum_heads, score, Finset.sum_mul, show (∑ d, fhi (fun l => nh x w l * (1 / 8) * (if l.val < 64 then nh y u l else 0)) d) = 0 from
    Finset.sum_eq_zero fun d _ => (congrArg (nh x w ⟨64 + d.val, _⟩ * (1 / 8) * ·) (if_neg (by show ¬64 + d.val < 64; omega))).trans (mul_zero _), add_zero]
  refine Finset.sum_congr rfl fun d _ => ?_
  refine (congrArg (nh x w ⟨d.val, _⟩ * (1 / 8) * ·) (if_pos d.isLt)).trans ?_
  rw [← nh_lo x w d, ← nh_lo y u d]
  exact mul_right_comm _ _ _
theorem score_hi (x y w u : Fin 128 → ℝ) :
    ∑ l, nh x w l * (1 / 8) * (if l.val < 64 then 0 else nh y u l) = score (fhi x) (fhi y) (fhi w) (fhi u) := by
  rw [sum_heads, score, Finset.sum_mul, show (∑ d, flo (fun l => nh x w l * (1 / 8) * (if l.val < 64 then 0 else nh y u l)) d) = 0 from
    Finset.sum_eq_zero fun d _ => (congrArg (nh x w ⟨d.val, _⟩ * (1 / 8) * ·) (if_pos d.isLt)).trans (mul_zero _), zero_add]
  refine Finset.sum_congr rfl fun d _ => ?_
  refine (congrArg (nh x w ⟨64 + d.val, _⟩ * (1 / 8) * ·) (if_neg (by show ¬64 + d.val < 64; omega))).trans ?_
  rw [← nh_hi x w d, ← nh_hi y u d]
  exact mul_right_comm _ _ _

section
variable (xq xk xv : Fin 4096 → Fin 128 → ℝ) (wq wk : Fin 128 → ℝ)

def sc0 (i j : ℕ) : ℝ := score (flo (xq (row4096 i))) (flo (xk (row4096 j))) (flo wq) (flo wk)
def sc1 (i j : ℕ) : ℝ := score (fhi (xq (row4096 i))) (fhi (xk (row4096 j))) (fhi wq) (fhi wk)

theorem q_eq (n : ℕ) (hn : n < 32) : qpair (prepQ (F := Ideal) (up3 (k := 1) fun _ => xq) (up2 fun _ : Fin 1 => wq)) n =
    up2 fun i l => nh (xq (row4096 (128 * n + i.val))) wq l * (1 / 8) := by
  refine (qpair_eq _ _ (fun r l => if l.val < 64 then nh (xq r) wq l * (1 / 8) else 0) (fun r l => if l.val < 64 then 0 else nh (xq r) wq l * (1 / 8)) ?_ ?_ n hn).trans ?_
  · intro k
    rw [ind_eq1, rows_eq, ← keep_lo fun r l => nh (xq (row4096 (2048 * k + r.val))) wq l * (1 / 8), ← pay35_eq]
    rfl
  · intro k
    rw [ind_eq1, rows_eq, ← keep_hi fun r l => nh (xq (row4096 (2048 * k + r.val))) wq l * (1 / 8), ← pay35_eq]
    rfl
  · refine congrArg up2 (funext fun i => funext fun l => ?_)
    by_cases h : l.val < 64
    · rw [if_pos h, if_pos h, add_zero]
    · rw [if_neg h, if_neg h, zero_add]

theorem k_eq (m : ℕ) (hm : m < 32) : blk (prepK (F := Ideal) (up3 (k := 1) fun _ => xk) (up2 fun _ : Fin 1 => wk)) m =
    up3 (k := 1) (n := 256) (m := 128) fun _ j l => if j.val < 128 then (if l.val < 64 then nh (xk (row4096 (128 * m + j.val))) wk l else 0)
      else if l.val < 64 then 0 else nh (xk (row4096 (128 * m + (j.val - 128)))) wk l := by
  refine prep_blk _ _ (fun r l => if l.val < 64 then nh (xk r) wk l else 0) (fun r l => if l.val < 64 then 0 else nh (xk r) wk l) ?_ ?_ m hm
  · intro k
    rw [ind_eq2, rows_eq, ← keep_lo fun r l => nh (xk (row4096 (2048 * k + r.val))) wk l, ← pay76_eq]
    rfl
  · intro k
    rw [ind_eq2, rows_eq, ← keep_hi fun r l => nh (xk (row4096 (2048 * k + r.val))) wk l, ← pay76_eq]
    rfl

theorem pay117_eq (x : Fin 2048 → Fin 128 → ℝ) : k0_pay117 (F := Ideal) (up3 (k := 1) fun _ => x) = up2 x := by
  funext i; idx_vars i
  unfold k0_pay117
  pointwise
  rfl

theorem v_eq (m : ℕ) (hm : m < 32) : blk (prepV (F := Ideal) (up3 (k := 1) fun _ => xv)) m =
    up3 (k := 1) (n := 256) (m := 128) fun _ j l => if j.val < 128 then (if l.val < 64 then xv (row4096 (128 * m + j.val)) l else 0)
      else if l.val < 64 then 0 else xv (row4096 (128 * m + (j.val - 128))) l := by
  refine prep_blk _ _ (fun r l => if l.val < 64 then xv r l else 0) (fun r l => if l.val < 64 then 0 else xv r l) ?_ ?_ m hm
  · intro k
    rw [rows_eq, ← keep_lo fun r l => xv (row4096 (2048 * k + r.val)) l, ← pay117_eq]
    rfl
  · intro k
    rw [rows_eq, ← keep_hi fun r l => xv (row4096 (2048 * k + r.val)) l, ← pay117_eq]
    rfl

theorem blocks_eq (n : ℕ) (hn : n < 32) : BlocksOf (sc0 xq xk wq wk) (sc1 xq xk wq wk) (fun l j => xv (row4096 j) l) n
    (prepK (F := Ideal) (up3 (k := 1) fun _ => xk) (up2 fun _ : Fin 1 => wk)) (prepV (F := Ideal) (up3 (k := 1) fun _ => xv))
    (fun i l => nh (xq (row4096 (128 * n + i.val))) wq l * (1 / 8)) := by
  intro m hm
  refine ⟨_, _, k_eq xk wk m (by omega), v_eq xv m (by omega), fun i j => ⟨?_, ?_⟩, fun j l => ⟨?_, ?_⟩⟩
  · refine (Finset.sum_congr rfl fun d _ => congrArg (_ * ·) (if_pos j.isLt)).trans ?_
    exact score_lo _ _ _ _
  · refine (Finset.sum_congr rfl fun d _ => congrArg (_ * ·) ((if_neg (by show ¬128 + j.val < 128; omega)).trans ?_)).trans (score_hi _ (xk (row4096 (128 * m + j.val))) _ wk)
    rw [show (rgt j).val - 128 = j.val from Nat.add_sub_cancel_left 128 j.val]
  · exact if_pos j.isLt
  · refine (if_neg (by show ¬128 + j.val < 128; omega)).trans ?_
    rw [show (rgt j).val - 128 = j.val from Nat.add_sub_cancel_left 128 j.val]

/-- The result of one column block: the attention of its two heads, lane by lane. -/
theorem oArr_eq : oArr (F := Ideal) k0_pay275 k0_pay276 (prepQ (up3 (k := 1) fun _ => xq) (up2 fun _ : Fin 1 => wq))
    (prepK (up3 (k := 1) fun _ => xk) (up2 fun _ : Fin 1 => wk)) (prepV (up3 (k := 1) fun _ => xv)) =
    up3 (k := 1) (n := 4096) (m := 128) fun _ r l => att (sel (sc0 xq xk wq wk) (sc1 xq xk wq wk) l) (fun j => xv (row4096 j) l) r.val := by
  funext y
  have h1 : (y 1).val < 4096 := (y 1).isLt
  have e : 128 * ((y 1).val / 128) + (y 1).val % 128 = (y 1).val := Nat.div_add_mod _ _
  unfold oArr
  rw [uo_eq, oBlk_eq (q_eq xq wq _ (by omega)) (blocks_eq xq xk xv wq wk _ (by omega))]
  refine congrArg Real.toEReal ?_
  show (∑ j ∈ Finset.Ico (128 * 0) (128 * ((y 1).val / 128) + (y 1).val % 128), wt _ (128 * ((y 1).val / 128) + (y 1).val % 128) j * _) = _
  rw [e, Nat.mul_zero, Nat.Ico_zero_eq_range]
  rfl
end

end Cert.Attn

end
-- ==== Proof.AttnHost.lean ====
/- The attention call over real arguments: what the host operations before the region leave, each window's block, and
   the result's array. -/
module

public import proofs.«01_k».proof.Proof.AttnFrame
public import proofs.«01_k».proof.Proof.AttnHeads
public import Idealize.ShloMosaic.Lib.Pipeline.ValueKit
public import Idealize.ShloMosaic.Lib.KernelVsHost

@[expose] public section

set_option maxRecDepth 16384

noncomputable section

namespace Cert.Attn

open Cert.Kernel3Ideal Cert.Kernel3Ideal.Gen Idealize.ShloMosaic Idealize.ShloMosaic.TcCoe Cert.Lift

/-! ## A column block's two heads, as heads of the arguments -/

section
variable (a : Args) (b : Fin 2) (p : Fin 8)
def Args.xq (r : Fin 4096) (l : Fin 128) : ℝ := a.p b r ⟨128 * p.val + l.val, by omega⟩
def Args.xk (r : Fin 4096) (l : Fin 128) : ℝ := a.p b r ⟨1024 + (128 * p.val + l.val), by omega⟩
def Args.xv (r : Fin 4096) (l : Fin 128) : ℝ := a.p b r ⟨2048 + (128 * p.val + l.val), by omega⟩

/-- A head's weights, laid out for both. -/
def tile (w : Fin 64 → ℝ) (l : Fin 128) : ℝ := w ⟨l.val % 64, by omega⟩

theorem tile_lo (w : Fin 64 → ℝ) : flo (tile w) = w := funext fun d => congrArg w (Fin.ext (Nat.mod_eq_of_lt d.isLt))
theorem tile_hi (w : Fin 64 → ℝ) : fhi (tile w) = w := funext fun d => congrArg w (Fin.ext (by show (64 + d.val) % 64 = d.val; omega))

theorem sc0_eq : sc0 (a.xq b p) (a.xk b p) (tile a.qw) (tile a.kw) = a.sc b ⟨2 * p.val, by omega⟩ := by
  funext i j
  unfold sc0 score Args.sc Args.q Args.k
  rw [tile_lo, tile_lo,
    show flo (a.xq b p (row4096 i)) = fun d : Fin 64 => a.p b (row4096 i) ⟨2 * p.val * 64 + d.val, by omega⟩ from
      funext fun d => congrArg (a.p b (row4096 i)) (Fin.ext (by show 128 * p.val + d.val = 2 * p.val * 64 + d.val; omega)),
    show flo (a.xk b p (row4096 j)) = fun d : Fin 64 => a.p b (row4096 j) ⟨1024 + (2 * p.val * 64 + d.val), by omega⟩ from
      funext fun d => congrArg (a.p b (row4096 j)) (Fin.ext (by show 1024 + (128 * p.val + d.val) = 1024 + (2 * p.val * 64 + d.val); omega))]
theorem sc1_eq : sc1 (a.xq b p) (a.xk b p) (tile a.qw) (tile a.kw) = a.sc b ⟨2 * p.val + 1, by omega⟩ := by
  funext i j
  unfold sc1 score Args.sc Args.q Args.k
  rw [tile_hi, tile_hi,
    show fhi (a.xq b p (row4096 i)) = fun d : Fin 64 => a.p b (row4096 i) ⟨(2 * p.val + 1) * 64 + d.val, by omega⟩ from
      funext fun d => congrArg (a.p b (row4096 i)) (Fin.ext (by show 128 * p.val + (64 + d.val) = (2 * p.val + 1) * 64 + d.val; omega)),
    show fhi (a.xk b p (row4096 j)) = fun d : Fin 64 => a.p b (row4096 j) ⟨1024 + ((2 * p.val + 1) * 64 + d.val), by omega⟩ from
      funext fun d => congrArg (a.p b (row4096 j)) (Fin.ext (by show 1024 + (128 * p.val + (64 + d.val)) = 1024 + ((2 * p.val + 1) * 64 + d.val); omega))]

theorem o_eq (r : Fin 4096) (l : Fin 128) : att (sel (sc0 (a.xq b p) (a.xk b p) (tile a.qw) (tile a.kw)) (sc1 (a.xq b p) (a.xk b p) (tile a.qw) (tile a.kw)) l)
    (fun j => a.xv b p (row4096 j) l) r.val = a.o b r ⟨128 * p.val + l.val, by omega⟩ := by
  rw [sc0_eq, sc1_eq]
  unfold Args.o
  refine congrArg₂ (fun Z V => att Z V r.val) ?_ (funext fun j => ?_)
  · unfold sel
    by_cases h : l.val < 64
    · rw [if_pos h]
      exact congrArg (a.sc b) (Fin.ext (by show 2 * p.val = (128 * p.val + l.val) / 64; omega))
    · rw [if_neg h]
      exact congrArg (a.sc b) (Fin.ext (by show 2 * p.val + 1 = (128 * p.val + l.val) / 64; omega))
  · refine congrArg (a.p b (row4096 j)) (Fin.ext ?_)
    show 2048 + (128 * p.val + l.val) = 2048 + ((128 * p.val + l.val) / 64 * 64 + (128 * p.val + l.val) % 64)
    omega
end

variable (m : (ℓ : Loc nD τ sig) → Buf (Elt Ideal) ℓ)

/-- Device `c`'s arguments are the lifts of `a`. -/
structure Holds (c : Dev nD) (a : Args) : Prop where
  p : m ((c : Thread nD τ).loc main_arg0) = up3 a.p
  qw : m ((c : Thread nD τ).loc main_arg1) = up2 fun _ : Fin 1 => a.qw
  kw : m ((c : Thread nD τ).loc main_arg2) = up2 fun _ : Fin 1 => a.kw

variable {m} {c : Dev nD} {a : Args} (h : Holds m c a)

theorem wi0 : ∀ t : Fin (cfg0 (F := Ideal)).N, win0_0.index t = ![t.val / 8, 0, t.val % 8] := (by decide +kernel : ∀ t : Fin grid0.N, win0_0.index t = ![t.val / 8, 0, t.val % 8])
theorem wi1 : ∀ t : Fin (cfg0 (F := Ideal)).N, win0_1.index t = ![t.val / 8, 0, 8 + t.val % 8] := (by decide +kernel : ∀ t : Fin grid0.N, win0_1.index t = ![t.val / 8, 0, 8 + t.val % 8])
theorem wi2 : ∀ t : Fin (cfg0 (F := Ideal)).N, win0_2.index t = ![t.val / 8, 0, 16 + t.val % 8] := (by decide +kernel : ∀ t : Fin grid0.N, win0_2.index t = ![t.val / 8, 0, 16 + t.val % 8])
theorem wi3 : ∀ t : Fin (cfg0 (F := Ideal)).N, win0_3.index t = ![0, 0] := (by decide +kernel : ∀ t : Fin grid0.N, win0_3.index t = ![0, 0])
theorem wi4 : ∀ t : Fin (cfg0 (F := Ideal)).N, win0_4.index t = ![0, 0] := (by decide +kernel : ∀ t : Fin grid0.N, win0_4.index t = ![0, 0])
theorem wi5 : ∀ t : Fin (cfg0 (F := Ideal)).N, win0_5.index t = ![t.val / 8, 0, t.val % 8] := (by decide +kernel : ∀ t : Fin grid0.N, win0_5.index t = ![t.val / 8, 0, t.val % 8])

/-- A head's weights copied for the second head. -/
theorem tile_at (w : Fin 64 → ℝ) : shapeCast S1x128 (broadcastInDim S1x1x2x64 ![0, 1, 2, 3] bcast_S1x1x1x64_S1x1x2x64_0_1_2_3
    (shapeCast S1x1x1x64 (up2 fun _ : Fin 1 => w) shapeCasts_S1x64_S1x1x1x64)) shapeCasts_S1x1x2x64_S1x128 = up2 fun _ : Fin 1 => tile w := by
  funext i; idx_vars i
  have h0 : i0.val < 1 := i0.isLt
  have h1 : i1.val < 128 := i1.isLt
  refine (shapeCast_apply _ _ _ (ix4 (n0 := 1) (n1 := 1) (n2 := 2) (n3 := 64) 0 0 ⟨i1.val / 64, by omega⟩ ⟨i1.val % 64, by omega⟩) ?_).trans ?_
  · rw [Shape.rowMajor_val_two, Shape.rowMajor_val_four]
    show ((0 * 1 + 0) * 2 + i1.val / 64) * 64 + i1.val % 64 = i0.val * 128 + i1.val
    omega
  refine (broadcastInDim_apply _ _ _ _ (ix4 (n0 := 1) (n1 := 1) (n2 := 1) (n3 := 64) 0 0 0 ⟨i1.val % 64, by omega⟩) fun x => by fin_cases x <;> rfl).trans ?_
  refine (shapeCast_apply _ _ _ (ix2 (n0 := 1) (n1 := 64) 0 ⟨i1.val % 64, by omega⟩) ?_).trans rfl
  rw [Shape.rowMajor_val_two, Shape.rowMajor_val_four]
  show 0 * 64 + i1.val % 64 = ((0 * 1 + 0) * 1 + 0) * 64 + i1.val % 64
  omega

include h

theorem V_v0 (b : Fin 2) (r : Fin 4096) (j : Fin 7168) (hj : j.val < 6672) : V m c main_v0 (ix3 b r j) = ((a.p b r ⟨j.val, hj⟩ : ℝ) : EReal) := by
  have e : V m c main_v0 = pad S2x4096x7168 ![0, 0, 0] ![0, 0, 496] ![0, 0, 0] (m ((c : Thread nD τ).loc main_arg0)) (sitofp (F := Ideal) .f32 (constantI S_ 32 0#32))
      pads_S2x4096x6672_S2x4096x7168_000_000_04960 h_S_ := by
    unfold V
    simp only [hostOps0, hostOps0_1, hostOps0_2, List.flatten_cons, List.flatten_nil, List.append_nil, List.cons_append, List.nil_append]
    after_results
    rfl
  rw [e, h.p]
  refine (pad_apply_of_inside _ _ _ _ _ _ _ _ (ix3 b r ⟨j.val, hj⟩) fun i => ?_).trans rfl
  fin_cases i <;> simp [ix3]

theorem V_v3 : V m c main_v3 = up2 fun _ : Fin 1 => tile a.qw := by
  unfold V
  simp only [hostOps0, hostOps0_1, hostOps0_2, List.flatten_cons, List.flatten_nil, List.append_nil, List.cons_append, List.nil_append]
  after_results
  refine Eq.trans ?_ (tile_at a.qw)
  rw [← h.qw]
  rfl

theorem V_v6 : V m c main_v6 = up2 fun _ : Fin 1 => tile a.kw := by
  unfold V
  simp only [hostOps0, hostOps0_1, hostOps0_2, List.flatten_cons, List.flatten_nil, List.append_nil, List.cons_append, List.nil_append]
  after_results
  refine Eq.trans ?_ (tile_at a.kw)
  rw [← h.kw]
  rfl

/-! ## The windows' blocks -/

section
variable (t : Fin (cfg0 (F := Ideal)).N) (b : Fin 2) (p : Fin 8) (ht : t.val = 8 * b.val + p.val)
include ht

theorem iblk_0 : iblk m c 0 t = up3 (k := 1) fun _ => a.xq b p := by
  funext i; idx_vars i
  blk_simp [iblk]
  have h0 : i0.val < 1 := i0.isLt
  have ei : win0_0.index t = ![b.val, 0, p.val] := by rw [wi0, show t.val / 8 = b.val by omega, show t.val % 8 = p.val by omega]
  have e : (win0_0.blk t).view.emb (ix3 i0 i1 i2) = ix3 b i1 ⟨128 * p.val + i2.val, by omega⟩ := by blk_ext [ei]
  rw [e, V_v0 h _ _ _ (by show 128 * p.val + i2.val < 6672; omega)]
  rfl

theorem iblk_1 : iblk m c 1 t = up3 (k := 1) fun _ => a.xk b p := by
  funext i; idx_vars i
  blk_simp [iblk]
  have h0 : i0.val < 1 := i0.isLt
  have ei : win0_1.index t = ![b.val, 0, 8 + p.val] := by rw [wi1, show t.val / 8 = b.val by omega, show t.val % 8 = p.val by omega]
  have e : (win0_1.blk t).view.emb (ix3 i0 i1 i2) = ix3 b i1 ⟨1024 + (128 * p.val + i2.val), by omega⟩ := by blk_ext [ei]
  rw [e, V_v0 h _ _ _ (by show 1024 + (128 * p.val + i2.val) < 6672; omega)]
  rfl

theorem iblk_2 : iblk m c 2 t = up3 (k := 1) fun _ => a.xv b p := by
  funext i; idx_vars i
  blk_simp [iblk]
  have h0 : i0.val < 1 := i0.isLt
  have ei : win0_2.index t = ![b.val, 0, 16 + p.val] := by rw [wi2, show t.val / 8 = b.val by omega, show t.val % 8 = p.val by omega]
  have e : (win0_2.blk t).view.emb (ix3 i0 i1 i2) = ix3 b i1 ⟨2048 + (128 * p.val + i2.val), by omega⟩ := by blk_ext [ei]
  rw [e, V_v0 h _ _ _ (by show 2048 + (128 * p.val + i2.val) < 6672; omega)]
  rfl

omit ht in
theorem iblk_3 : iblk m c 3 t = up2 fun _ : Fin 1 => tile a.qw := by
  funext i; idx_vars i
  blk_simp [iblk]
  have e : (win0_3.blk t).view.emb (ix2 i0 i1) = ix2 i0 i1 := by blk_ext [wi3]
  rw [e, V_v3 h]

omit ht in
theorem iblk_4 : iblk m c 4 t = up2 fun _ : Fin 1 => tile a.kw := by
  funext i; idx_vars i
  blk_simp [iblk]
  have e : (win0_4.blk t).view.emb (ix2 i0 i1) = ix2 i0 i1 := by blk_ext [wi4]
  rw [e, V_v6 h]

/-- What a point leaves in the result's block. -/
theorem outBlk_eq : outBlk m c t = up3 (k := 1) (n := 4096) (m := 128) fun _ r l => a.o b r ⟨128 * p.val + l.val, by omega⟩ := by
  unfold outBlk
  rw [iblk_0 h t b p ht, iblk_1 h t b p ht, iblk_2 h t b p ht, iblk_3 h t, iblk_4 h t]
  refine (oArr_eq _ _ _ _ _).trans (congrArg up3 (funext fun _ => funext fun r => funext fun l => ?_))
  exact o_eq a b p r l
end

/-! ## The array -/

theorem arr5 : (dats m 0 c).arrAt 5 (cfg0 (F := Ideal)).N = up3 (k := 2) (n := 4096) (m := 1024) a.o :=
  (dats m 0 c).arrAt_eq_of_covers 5 (up3 (k := 2) (n := 4096) (m := 1024) a.o) (by decide +kernel) fun t hf y => by
    have hN : t.val < 16 := t.isLt
    blk_simp
    rw [after_5, outBlk_eq h t ⟨t.val / 8, by omega⟩ ⟨t.val % 8, by omega⟩ (by show t.val = 8 * (t.val / 8) + t.val % 8; omega)]
    idx_vars y
    have h0 : y0.val < 1 := y0.isLt
    have e : (win0_5.blk t).view.emb (ix3 y0 y1 y2) = ix3 (n0 := 2) (n1 := 4096) (n2 := 1024) ⟨t.val / 8, by omega⟩ y1 ⟨128 * (t.val % 8) + y2.val, by omega⟩ := by blk_ext [wi5]
    rw [e]; rfl

end Cert.Attn

end
-- ==== Proof.AttnRef.lean ====
/- The attention's reference over real arguments, stage by stage. -/
module

public import proofs.«01_k».proof.Proof.AttnReal
public import proofs.«01_k».proof.Proof.Gen.Reference3Ideal.Read
public import Idealize.ShloMosaic.Lib.WordCmp

@[expose] public section

set_option maxRecDepth 16384

noncomputable section

namespace Cert.Attn.Ref

open Cert.Reference3Ideal Cert.Reference3Ideal.Value Cert.Reference3Ideal.Read Idealize.ShloMosaic Cert.Lift

/-- A real four-axis array as one of extended reals. -/
def up4 {n₀ n₁ n₂ n₃ : ℕ} (f : Fin n₀ → Fin n₁ → Fin n₂ → Fin n₃ → ℝ) : (⟨4, ![n₀, n₁, n₂, n₃]⟩ : Shape).Idx → EReal :=
  fun i => ((f (i 0) (i 1) (i 2) (i 3) : ℝ) : EReal)

theorem bits_64 : Ideal.ofBits .f32 0x42800000#32 = ((64 : ℝ) : EReal) := by
  simp [Ideal.ofBits, Ideal.ieee, ← EReal.coe_mul]; norm_num
theorem bits_eighth : Ideal.ofBits .f32 0x3E000000#32 = (((1 : ℝ) / 8 : ℝ) : EReal) := by
  simp [Ideal.ofBits, Ideal.ieee, ← EReal.coe_mul]; norm_num

theorem foldl_sum {α : Type*} (g : α → EReal) (l : List α) (v : EReal) : l.foldl (fun r n => r + g n) v = v + (l.map g).sum := by
  induction l generalizing v with
  | nil => simp
  | cons x l ih => rw [List.foldl_cons, ih, List.map_cons, List.sum_cons, add_assoc]

/-- The positions of a window of one row of `N` columns. -/
def winEquiv (N : ℕ) : (⟨4, ![1, 1, 1, N]⟩ : Shape).Idx ≃ Fin N where
  toFun i := i 3
  invFun k := ix4 0 0 0 k
  left_inv i := by
    funext a
    match a with
    | ⟨0, _⟩ => exact (Subsingleton.elim (α := Fin 1) _ _)
    | ⟨1, _⟩ => exact (Subsingleton.elim (α := Fin 1) _ _)
    | ⟨2, _⟩ => exact (Subsingleton.elim (α := Fin 1) _ _)
    | ⟨3, _⟩ => rfl
  right_inv k := rfl

/-- The running sum from the last column back. -/
theorem back_sum {A B C N M : ℕ} (x : FVec Ideal (⟨4, ![A, B, C, N]⟩ : Shape) .f32) (init : FVec Ideal S_ .f32) (hi : ∀ i, init i = ((0 : ℝ) : EReal)) (f : ℕ → ℝ)
    (h : (⟨4, ![A, B, C, N]⟩ : Shape).ReduceWindows (![1, 1, 1, N] : Fin 4 → ℕ) ![1, 1, 1, 1] ![0, 0, 0, 0] ![0, 0, 0, M] (⟨4, ![A, B, C, N]⟩ : Shape)) (hu : 0 < S_.numel)
    (i0 : Fin A) (i1 : Fin B) (i2 : Fin C) (i3 : Fin N) (hx : ∀ k : Fin N, x (ix4 i0 i1 i2 k) = ((f k.val : ℝ) : EReal)) :
    Host.reduceWindowAdd (![1, 1, 1, N] : Fin 4 → ℕ) ![1, 1, 1, 1] ![0, 0, 0, 0] ![0, 0, 0, M] x init h hu (ix4 i0 i1 i2 i3)
      = ((∑ k ∈ Finset.Ico i3.val N, f k : ℝ) : EReal) := by
  have e0 : Host.reduceWindowAdd (![1, 1, 1, N] : Fin 4 → ℕ) ![1, 1, 1, 1] ![0, 0, 0, 0] ![0, 0, 0, M] x init h hu
    = Host.reduceWindow (· + ·) (![1, 1, 1, N] : Fin 4 → ℕ) ![1, 1, 1, 1] ![0, 0, 0, 0] ![0, 0, 0, M] x (fun _ : (⟨0, ![]⟩ : Shape).Idx => init (Shape.Idx.first hu)) h := rfl
  rw [e0]
  unfold Host.reduceWindow
  refine (foldl_sum _ _ _).trans ?_
  rw [hi, EReal.coe_zero, zero_add, ← Fin.sum_univ_def]
  refine ((Equiv.sum_comp (⟨4, ![1, 1, 1, N]⟩ : Shape).rowMajor _).symm.trans (Equiv.sum_comp (winEquiv N).symm _).symm).trans ?_
  have h3 := i3.isLt
  refine (Finset.sum_congr rfl fun k _ => (?_ : _ = (((if i3.val + k.val < N then f (i3.val + k.val) else 0) : ℝ) : EReal))).trans ?_
  · have hk : (winEquiv N).symm k = ix4 0 0 0 k := rfl
    simp only [Equiv.symm_apply_apply, hk]
    split
    · next hin =>
      have h3' : i3.val * 1 + k.val - 0 < N := (hin 3).2
      rw [if_pos (by omega), ← hx ⟨i3.val + k.val, by omega⟩]
      refine congrArg x (funext fun a => Fin.ext ?_)
      match a with
      | ⟨0, _⟩ => show i0.val * 1 + 0 - 0 = i0.val; omega
      | ⟨1, _⟩ => show i1.val * 1 + 0 - 0 = i1.val; omega
      | ⟨2, _⟩ => show i2.val * 1 + 0 - 0 = i2.val; omega
      | ⟨3, _⟩ => show i3.val * 1 + k.val - 0 = i3.val + k.val; omega
    · next hin =>
      rw [if_neg fun hlt => hin fun a => by
        match a with
        | ⟨0, _⟩ => show 0 ≤ i0.val * 1 + 0 ∧ i0.val * 1 + 0 - 0 < A; omega
        | ⟨1, _⟩ => show 0 ≤ i1.val * 1 + 0 ∧ i1.val * 1 + 0 - 0 < B; omega
        | ⟨2, _⟩ => show 0 ≤ i2.val * 1 + 0 ∧ i2.val * 1 + 0 - 0 < C; omega
        | ⟨3, _⟩ => show 0 ≤ i3.val * 1 + k.val ∧ i3.val * 1 + k.val - 0 < N; omega]
      exact EReal.coe_zero.symm
  · rw [coe_sum]
    refine congrArg _ ?_
    rw [Fin.sum_univ_eq_sum_range (fun k => if i3.val + k < N then f (i3.val + k) else 0) N, Finset.sum_Ico_eq_sum_range, ← Finset.sum_filter]
    refine Finset.sum_congr (Finset.ext fun n => ?_) fun _ _ => rfl
    rw [Finset.mem_filter, Finset.mem_range, Finset.mem_range]
    omega

variable (a : Args)

theorem row_eq (r : Fin 4096) : row4096 r.val = r := Fin.ext (Nat.mod_eq_of_lt r.isLt)

/-- The number of a head's lane among all lanes. -/
theorem lane_idx (b r h d : ℕ) (hr : r < 4096) (hh : h < 16) (hd : d < 64) : (((b * 4096 + r) * 16 + h) * 64 + d) / 4194304 = b
    ∧ (((b * 4096 + r) * 16 + h) * 64 + d) / 1024 % 4096 = r ∧ (((b * 4096 + r) * 16 + h) * 64 + d) % 1024 = h * 64 + d := by omega

theorem up3_at {k n m : ℕ} (f : Fin k → Fin n → Fin m → ℝ) (i : (⟨3, ![k, n, m]⟩ : Shape).Idx) (x : Fin k) (y : Fin n) (z : Fin m)
    (h0 : (i 0).val = x.val) (h1 : (i 1).val = y.val) (h2 : (i 2).val = z.val) : up3 f i = ((f x y z : ℝ) : EReal) := by
  obtain rfl : i 0 = x := Fin.ext h0
  obtain rfl : i 1 = y := Fin.ext h1
  obtain rfl : i 2 = z := Fin.ext h2
  rfl

theorem r_v5 : val_main_v5 (F := Ideal) (up3 a.p) = up4 (n₀ := 2) (n₁ := 4096) (n₂ := 16) (n₃ := 64) fun b r h d => a.p b r ⟨h.val * 64 + d.val, by omega⟩ := by
  funext i
  rw [val_main_v5_apply, val_main_v0_apply]
  obtain ⟨e0, e1, e2⟩ := lane_idx (i 0).val (i 1).val (i 2).val (i 3).val (i 1).isLt (i 2).isLt (i 3).isLt
  refine up3_at a.p _ _ _ _ e0 e1 ?_
  show ((((i 0).val * 4096 + (i 1).val) * 16 + (i 2).val) * 64 + (i 3).val) % 1024 = _
  rw [e2]

theorem r_v12 : val_main_v12 (F := Ideal) (up3 a.p) = up4 (n₀ := 2) (n₁ := 4096) (n₂ := 16) (n₃ := 1) fun b r h _ => (∑ k, (fun d : Fin 64 => a.p b r ⟨h.val * 64 + d.val, by omega⟩) k * (fun d : Fin 64 => a.p b r ⟨h.val * 64 + d.val, by omega⟩) k) / 64 + eps := by
  funext i
  rw [val_main_v12_apply, val_main_v10_apply, val_main_v8_apply, val_main_v9_apply, val_main_v11_apply, val_main_v7_apply]
  have e : ∀ k, val_main_v6 (F := Ideal) (up3 a.p) (idx_main_v7 (idx_main_v8 i) k) = _ := fun k => by rw [val_main_v6_apply, r_v5]
  rw [Finset.sum_congr rfl fun k _ => e k]
  refine (congrArg (_ + ·) bits_eps).trans ((congrArg (· + _) ?_).trans (EReal.coe_add _ _).symm)
  refine (congrArg (Ideal.div _) bits_64).trans (Eq.trans (congrArg (Ideal.div · _) ?_) (coe_div (show (64 : ℝ) ≠ 0 by norm_num)))
  refine (congrArg (· + _) bits_zero).trans ((zero_add _).trans ?_)
  exact (Finset.sum_congr rfl fun k _ => (EReal.coe_mul _ _).symm).trans (coe_sum _ _)

theorem r_v18 : val_main_v18 (F := Ideal) (up3 a.p) (up2 fun _ : Fin 1 => a.qw) = up4 (n₀ := 2) (n₁ := 4096) (n₂ := 16) (n₃ := 64) fun b r h d => a.q b h r d := by
  funext i
  rw [val_main_v18_apply, val_main_v15_apply, val_main_v14_apply, val_main_v13_apply, val_main_v17_apply, val_main_v16_apply, val_main_v3_apply, r_v5, r_v12]
  have ew : up2 (n := 1) (m := 64) (fun _ => a.qw) (idx_main_v3 (idx_main_v16 (idx_main_v17 i))) = ((a.qw (i 3) : ℝ) : EReal) :=
    congrArg (fun k : Fin 64 => ((a.qw k : ℝ) : EReal)) (Fin.ext (show (i 3).val % 64 = (i 3).val from Nat.mod_eq_of_lt (i 3).isLt))
  rw [ew]
  refine (congrArg (fun e => (_ * e) * _) (coe_rsqrt (msq_pos _))).trans ?_
  refine (congrArg (· * _) (EReal.coe_mul _ _).symm).trans (EReal.coe_mul _ _).symm

theorem r_v19 : val_main_v19 (F := Ideal) (up3 a.p) = up4 (n₀ := 2) (n₁ := 4096) (n₂ := 16) (n₃ := 64) fun b r h d => a.p b r ⟨1024 + (h.val * 64 + d.val), by omega⟩ := by
  funext i
  rw [val_main_v19_apply, val_main_v1_apply]
  obtain ⟨e0, e1, e2⟩ := lane_idx (i 0).val (i 1).val (i 2).val (i 3).val (i 1).isLt (i 2).isLt (i 3).isLt
  refine up3_at a.p _ _ _ _ e0 e1 ?_
  show 1024 + ((((i 0).val * 4096 + (i 1).val) * 16 + (i 2).val) * 64 + (i 3).val) % 1024 = _
  rw [e2]

theorem r_v26 : val_main_v26 (F := Ideal) (up3 a.p) = up4 (n₀ := 2) (n₁ := 4096) (n₂ := 16) (n₃ := 1) fun b r h _ => (∑ k, (fun d : Fin 64 => a.p b r ⟨1024 + (h.val * 64 + d.val), by omega⟩) k * (fun d : Fin 64 => a.p b r ⟨1024 + (h.val * 64 + d.val), by omega⟩) k) / 64 + eps := by
  funext i
  rw [val_main_v26_apply, val_main_v24_apply, val_main_v22_apply, val_main_v23_apply, val_main_v25_apply, val_main_v21_apply]
  have e : ∀ k, val_main_v20 (F := Ideal) (up3 a.p) (idx_main_v21 (idx_main_v22 i) k) = _ := fun k => by rw [val_main_v20_apply, r_v19]
  rw [Finset.sum_congr rfl fun k _ => e k]
  refine (congrArg (_ + ·) bits_eps).trans ((congrArg (· + _) ?_).trans (EReal.coe_add _ _).symm)
  refine (congrArg (Ideal.div _) bits_64).trans (Eq.trans (congrArg (Ideal.div · _) ?_) (coe_div (show (64 : ℝ) ≠ 0 by norm_num)))
  refine (congrArg (· + _) bits_zero).trans ((zero_add _).trans ?_)
  exact (Finset.sum_congr rfl fun k _ => (EReal.coe_mul _ _).symm).trans (coe_sum _ _)

theorem r_v32 : val_main_v32 (F := Ideal) (up3 a.p) (up2 fun _ : Fin 1 => a.kw) = up4 (n₀ := 2) (n₁ := 4096) (n₂ := 16) (n₃ := 64) fun b r h d => a.k b h r d := by
  funext i
  rw [val_main_v32_apply, val_main_v29_apply, val_main_v28_apply, val_main_v27_apply, val_main_v31_apply, val_main_v30_apply, val_main_v4_apply, r_v19, r_v26]
  have ew : up2 (n := 1) (m := 64) (fun _ => a.kw) (idx_main_v4 (idx_main_v30 (idx_main_v31 i))) = ((a.kw (i 3) : ℝ) : EReal) :=
    congrArg (fun k : Fin 64 => ((a.kw k : ℝ) : EReal)) (Fin.ext (show (i 3).val % 64 = (i 3).val from Nat.mod_eq_of_lt (i 3).isLt))
  rw [ew]
  refine (congrArg (fun e => (_ * e) * _) (coe_rsqrt (msq_pos _))).trans ?_
  refine (congrArg (· * _) (EReal.coe_mul _ _).symm).trans (EReal.coe_mul _ _).symm

theorem r_v33 : val_main_v33 (F := Ideal) (up3 a.p) = up4 (n₀ := 2) (n₁ := 4096) (n₂ := 16) (n₃ := 64) fun b r h d => a.v b h r d := by
  funext i
  rw [val_main_v33_apply, val_main_v2_apply]
  obtain ⟨e0, e1, e2⟩ := lane_idx (i 0).val (i 1).val (i 2).val (i 3).val (i 1).isLt (i 2).isLt (i 3).isLt
  refine up3_at a.p _ _ _ _ e0 e1 ?_
  show 2048 + ((((i 0).val * 4096 + (i 1).val) * 16 + (i 2).val) * 64 + (i 3).val) % 1024 = _
  rw [e2]

theorem r_v36 : val_main_v36 (F := Ideal) (up3 a.p) (up2 fun _ : Fin 1 => a.qw) (up2 fun _ : Fin 1 => a.kw)
    = up4 (n₀ := 2) (n₁ := 16) (n₂ := 4096) (n₃ := 4096) fun b h i j => a.sc b h i.val j.val := by
  funext i
  rw [val_main_v36_apply, val_main_v35_apply, val_main_v34_apply, r_v18, r_v32]
  refine (congrArg (_ * ·) bits_eighth).trans ((congrArg (· * _) ?_).trans (EReal.coe_mul _ _).symm)
  refine (Finset.sum_congr rfl fun k _ => (EReal.coe_mul _ _).symm).trans ((coe_sum _ _).trans ?_)
  refine congrArg _ (Finset.sum_congr rfl fun k _ => ?_)
  show a.q (i 0) (i 1) (i 2) k * a.k (i 0) (i 1) (i 3) k = _
  rw [row_eq (i 2), row_eq (i 3)]

/-- The logarithm of a sigmoid as the reference takes it. -/
theorem softplus (x : EReal) (y : ℝ) (hx : x = (y : EReal)) (c0 c2 : EReal) (h0 : c0 = ((0 : ℝ) : EReal)) (h2 : c2 = ((0 : ℝ) : EReal)) (u : EReal) :
    FloatOps.hostNegf (F := Ideal) (φ := .f32) (Scalar.select (FloatOps.cmpf (F := Ideal) (φ := .f32) .une (FloatOps.subf (F := Ideal) (φ := .f32) x c2) (FloatOps.subf (F := Ideal) (φ := .f32) x c2)) u
      (FloatOps.addf (F := Ideal) (φ := .f32) (FloatOps.maximumf (F := Ideal) (φ := .f32) x c0) (FloatOps.hostUnary (F := Ideal) (φ := .f32) .log1p (FloatOps.hostUnary (F := Ideal) (φ := .f32) .exp
        (FloatOps.hostNegf (F := Ideal) (φ := .f32) (FloatOps.hostAbsf (F := Ideal) (φ := .f32) (FloatOps.subf (F := Ideal) (φ := .f32) x c2)))))))
    = ((-(max y 0 + Real.log (1 + Real.exp (-|y|))) : ℝ) : EReal) := by
  subst hx h0 h2
  have e1 : FloatOps.cmpf (F := Ideal) (φ := .f32) .une (FloatOps.subf (F := Ideal) (φ := .f32) (y : EReal) ((0 : ℝ) : EReal)) (FloatOps.subf (F := Ideal) (φ := .f32) (y : EReal) ((0 : ℝ) : EReal)) = 0#1 := by
    show BitVec.ofBool (decide (_ ≠ _)) = _
    rw [decide_eq_false (fun h => h rfl)]; rfl
  rw [e1]
  show -(max (y : EReal) ((0 : ℝ) : EReal) + Ideal.log1p (Ideal.exp (-(max ((y : EReal) - ((0 : ℝ) : EReal)) (-((y : EReal) - ((0 : ℝ) : EReal))))))) = _
  rw [← EReal.coe_sub, sub_zero, ← EReal.coe_neg, ← EReal.coe_strictMono.monotone.map_max, ← EReal.coe_strictMono.monotone.map_max, ← EReal.coe_neg, Ideal.exp_coe, Ideal.log1p, ← EReal.coe_one, ← EReal.coe_add,
    Ideal.log_coe, if_neg (not_le.mpr (one_add_exp_pos _)), ← EReal.coe_add, ← EReal.coe_neg]
  rfl

theorem neg_neg_coe (z : ℝ) : -(-(z : EReal)) = (z : EReal) := neg_neg _

theorem r_v44 : val_main_v44 (F := Ideal) (up3 a.p) (up2 fun _ : Fin 1 => a.qw) (up2 fun _ : Fin 1 => a.kw) = up4 (n₀ := 2) (n₁ := 16) (n₂ := 4096) (n₃ := 4096) fun b h i j => lk (a.sc b h i.val j.val) := by
  funext i
  rw [val_main_v44_apply, val_main_call0_v1_apply, val_main_call0_call0_v4_apply, val_main_call0_call0_v11_apply, val_main_call0_call0_v10_apply, val_main_call0_call0_v9_apply, val_main_call0_call0_v8_apply, val_main_call0_call0_v7_apply, val_main_call0_call0_v1_apply, val_main_call0_call0_v3_apply, val_main_call0_call0_v0_apply, val_main_call0_call0_v2_apply, val_main_call0_v0_apply, val_main_v43_apply, r_v36]
  refine (softplus _ (a.sc (i 0) (i 1) (i 2).val (i 3).val) (neg_neg_coe _) _ _ bits_zero bits_zero _).trans ?_
  exact congrArg _ (lk_eq _)

theorem r_v48 : val_main_v48 (F := Ideal) (up3 a.p) (up2 fun _ : Fin 1 => a.qw) (up2 fun _ : Fin 1 => a.kw) = up4 (n₀ := 2) (n₁ := 16) (n₂ := 4096) (n₃ := 4096) fun b h i j => ls (a.sc b h i.val j.val) := by
  funext i
  rw [val_main_v48_apply, val_main_call3_v1_apply, val_main_call3_call0_v4_apply, val_main_call3_call0_v11_apply, val_main_call3_call0_v10_apply, val_main_call3_call0_v9_apply, val_main_call3_call0_v8_apply, val_main_call3_call0_v7_apply, val_main_call3_call0_v1_apply, val_main_call3_call0_v3_apply, val_main_call3_call0_v0_apply, val_main_call3_call0_v2_apply, val_main_call3_v0_apply, r_v36]
  refine (softplus _ (-a.sc (i 0) (i 1) (i 2).val (i 3).val) (EReal.coe_neg _).symm _ _ bits_zero bits_zero _).trans ?_
  exact congrArg _ ((by rw [abs_neg]; exact ls_eq _))

/-- The mask chooses the earlier keys. -/
theorem masked (i : S2x16x4096x4096.Idx) (x y : EReal) : Scalar.select (val_main_v42 (F := Ideal) (idx_main_call1_v1 i)) x y = if (i 3).val < (i 2).val then x else y := by
  have h2 : (i 2).val < 4096 := (i 2).isLt
  have h3 : (i 3).val < 4096 := (i 3).isLt
  rw [val_main_v42_apply, val_main_v40_apply, val_main_v41_apply, val_main_v38_apply, val_main_v39_apply, val_main_v37_apply, val_main_v37_apply]
  show (if IntOp.cmpi .slt (BitVec.ofNat 32 (i 3).val) (BitVec.ofNat 32 (i 2).val) = 1#1 then x else y) = _
  exact if_congr (WordCmp.cmpi_slt_ofNat_eq_one_iff (by omega) (by omega)) rfl rfl

theorem r_v45 : val_main_v45 (F := Ideal) (up3 a.p) (up2 fun _ : Fin 1 => a.qw) (up2 fun _ : Fin 1 => a.kw) = up4 (n₀ := 2) (n₁ := 16) (n₂ := 4096) (n₃ := 4096) fun b h i j => if j.val < i.val then lk (a.sc b h i.val j.val) else 0 := by
  funext i
  rw [val_main_v45_apply, val_main_call1_v1_apply, masked, val_main_call1_v2_apply, val_main_call1_v0_apply, r_v44]
  show (if (i 3).val < (i 2).val then ((lk (a.sc (i 0) (i 1) (i 2).val (i 3).val) : ℝ) : EReal) else Ideal.ofBits .f32 0x00000000#32) = ((if (i 3).val < (i 2).val then _ else _ : ℝ) : EReal)
  rw [bits_zero]
  split <;> rfl

theorem r_v47 : val_main_v47 (F := Ideal) (up3 a.p) (up2 fun _ : Fin 1 => a.qw) (up2 fun _ : Fin 1 => a.kw) = up4 (n₀ := 2) (n₁ := 16) (n₂ := 4096) (n₃ := 4096) fun b h i j => ∑ k ∈ Finset.Ico (j.val + 1) i.val, lk (a.sc b h i.val k) := by
  funext i
  rw [val_main_v47_apply]
  have e : val_main_v46 (F := Ideal) (up3 a.p) (up2 fun _ : Fin 1 => a.qw) (up2 fun _ : Fin 1 => a.kw) i = ((∑ k ∈ Finset.Ico (i 3).val 4096, (if k < (i 2).val then lk (a.sc (i 0) (i 1) (i 2).val k) else 0) : ℝ) : EReal) := by
    unfold val_main_v46
    conv_lhs => rw [eq_ix4 i]
    refine back_sum (A := 2) (B := 16) (C := 4096) (N := 4096) (M := 4095) _ _ (fun k => ?_) (fun k => if k < (i 2).val then lk (a.sc (i 0) (i 1) (i 2).val k) else 0) _ _ (i 0) (i 1) (i 2) (i 3) (fun k => ?_)
    · rw [val_main_call2_v0_apply]; exact bits_zero
    · rw [r_v45]; rfl
  rw [e, r_v45]
  refine (EReal.coe_sub _ _).symm.trans (congrArg _ ?_)
  have h2 : (i 2).val < 4096 := (i 2).isLt
  have h3 : (i 3).val < 4096 := (i 3).isLt
  rw [Finset.sum_eq_sum_Ico_succ_bot h3, add_sub_cancel_left, ← Finset.sum_filter]
  refine Finset.sum_congr (Finset.ext fun n => ?_) fun _ _ => rfl
  rw [Finset.mem_filter, Finset.mem_Ico, Finset.mem_Ico]
  omega

theorem r_v51 : val_main_v51 (F := Ideal) (up3 a.p) (up2 fun _ : Fin 1 => a.qw) (up2 fun _ : Fin 1 => a.kw) = up4 (n₀ := 2) (n₁ := 16) (n₂ := 4096) (n₃ := 4096) fun b h i j => if j.val < i.val then wt (a.sc b h) i.val j.val else 0 := by
  funext i
  rw [val_main_v51_apply, val_main_call4_v1_apply, masked, val_main_call4_v2_apply, val_main_call4_v0_apply, val_main_v50_apply, val_main_v49_apply, r_v48, r_v47]
  show (if (i 3).val < (i 2).val then Ideal.exp (((ls (a.sc (i 0) (i 1) (i 2).val (i 3).val) : ℝ) : EReal) + ((∑ k ∈ Finset.Ico ((i 3).val + 1) (i 2).val, lk (a.sc (i 0) (i 1) (i 2).val k) : ℝ) : EReal)) else Ideal.ofBits .f32 0x00000000#32)
    = ((if (i 3).val < (i 2).val then _ else _ : ℝ) : EReal)
  rw [bits_zero, ← EReal.coe_add, Ideal.exp_coe]
  split <;> rfl

theorem r_v52 : val_main_v52 (F := Ideal) (up3 a.p) (up2 fun _ : Fin 1 => a.qw) (up2 fun _ : Fin 1 => a.kw) = up4 (n₀ := 2) (n₁ := 16) (n₂ := 64) (n₃ := 4096) fun b h d i => att (a.sc b h) (fun j => a.v b h (row4096 j) d) i.val := by
  funext i
  rw [val_main_v52_apply, r_v33, r_v51]
  refine (Finset.sum_congr rfl fun k _ => (EReal.coe_mul _ _).symm).trans ((coe_sum _ _).trans (congrArg _ ?_))
  have e : ∀ k : Fin 4096, _ = (fun k : ℕ => if k < (i 3).val then wt (a.sc (i 0) (i 1)) (i 3).val k * a.v (i 0) (i 1) (row4096 k) (i 2) else 0) k.val := fun k => by
    show a.v (i 0) (i 1) k (i 2) * (if k.val < (i 3).val then wt (a.sc (i 0) (i 1)) (i 3).val k.val else 0) = _
    dsimp only
    rw [row_eq k]
    split
    · ring
    · ring
  refine (Finset.sum_congr rfl fun k _ => e k).trans ((Fin.sum_univ_eq_sum_range (fun k : ℕ => if k < (i 3).val then wt (a.sc (i 0) (i 1)) (i 3).val k * a.v (i 0) (i 1) (row4096 k) (i 2) else 0) 4096).trans ?_)
  have h3 : (i 3).val < 4096 := (i 3).isLt
  rw [← Finset.sum_filter]
  refine Finset.sum_congr (Finset.ext fun n => ?_) fun _ _ => rfl
  rw [Finset.mem_filter, Finset.mem_range, Finset.mem_range]
  omega

theorem r_v54 : val_main_v54 (F := Ideal) (up3 a.p) (up2 fun _ : Fin 1 => a.qw) (up2 fun _ : Fin 1 => a.kw) = up3 (k := 2) (n := 4096) (m := 1024) a.o := by
  funext i
  rw [val_main_v54_apply, val_main_v53_apply, r_v52]
  have h0 : (i 0).val < 2 := (i 0).isLt
  have h1 : (i 1).val < 4096 := (i 1).isLt
  have h2 : (i 2).val < 1024 := (i 2).isLt
  refine congrArg Real.toEReal ?_
  have e0 : (idx_main_v53 (idx_main_v54 i)) 0 = i 0 := Fin.ext (show (((i 0).val * 4096 + (i 1).val) * 1024 + (i 2).val) / 4194304 = (i 0).val by omega)
  have e1 : (idx_main_v53 (idx_main_v54 i)) 1 = (⟨(i 2).val / 64, by omega⟩ : Fin 16) := Fin.ext (show (((i 0).val * 4096 + (i 1).val) * 1024 + (i 2).val) / 64 % 16 = (i 2).val / 64 by omega)
  have e2 : (idx_main_v53 (idx_main_v54 i)) 2 = (⟨(i 2).val % 64, by omega⟩ : Fin 64) := Fin.ext (show (((i 0).val * 4096 + (i 1).val) * 1024 + (i 2).val) % 64 = (i 2).val % 64 by omega)
  have e3 : (idx_main_v53 (idx_main_v54 i)) 3 = i 1 := Fin.ext (show (((i 0).val * 4096 + (i 1).val) * 1024 + (i 2).val) / 1024 % 4096 = (i 1).val by omega)
  show att (a.sc _ _) (fun j => a.v _ _ _ _) _ = _
  rw [e0, e1, e2, e3]
  rfl

end Cert.Attn.Ref

end
-- ==== Proof.AttnClaim.lean ====
/- The attention call's value claim: the precondition read, and the two programs' results the same lifts. -/
module

public import proofs.«01_k».proof.Defs
public import proofs.«01_k».proof.Proof.Gen.Pre_finite3
public import proofs.«01_k».proof.Proof.Gen.Reference3Ideal.Run
public import proofs.«01_k».proof.Proof.GatePre
public import proofs.«01_k».proof.Proof.AttnHost
public import proofs.«01_k».proof.Proof.AttnRef

@[expose] public section

noncomputable section

namespace Cert.Attn

open Idealize.ShloMosaic Idealize.SL.Sem Cert.Lift
open Cert.KernelIdeal.Gate (finite_of bits_inf andi_parts)

section
open Cert.Kernel3Ideal Cert.Kernel3Ideal.Gen Idealize.ShloMosaic.TcCoe

/-- Under the precondition device `c`'s arguments are lifts of real arrays. -/
theorem exists_args (m : (ℓ : Loc nD τ sig) → Buf (Elt Ideal) ℓ) (c : Dev nD)
    (h : Cert.Pre_finite3.fn (F := Ideal) (m ((c.tc : Thread nD τ).loc main_arg0)) (m ((c.tc : Thread nD τ).loc main_arg1))
      (m ((c.tc : Thread nD τ).loc main_arg2)) = fun _ => 1#1) : ∃ a : Args, Holds m c a := by
  have h := congrFun h (fun k => k.elim0)
  unfold Cert.Pre_finite3.fn at h
  obtain ⟨h, h2⟩ := andi_parts _ _ _ h
  obtain ⟨h0, h1⟩ := andi_parts _ _ _ h
  have f0 := finite_of (m ((c.tc : Thread nD τ).loc main_arg0)) _ (fun _ => bits_inf) _ _ _ _ h0
  have f1 := finite_of (m ((c.tc : Thread nD τ).loc main_arg1)) _ (fun _ => bits_inf) _ _ _ _ h1
  have f2 := finite_of (m ((c.tc : Thread nD τ).loc main_arg2)) _ (fun _ => bits_inf) _ _ _ _ h2
  refine ⟨⟨fun b s d => (m ((c.tc : Thread nD τ).loc main_arg0) (ix3 b s d)).toReal, fun d => (m ((c.tc : Thread nD τ).loc main_arg1) (ix2 (n0 := 1) 0 d)).toReal,
    fun d => (m ((c.tc : Thread nD τ).loc main_arg2) (ix2 (n0 := 1) 0 d)).toReal⟩, ?_, ?_, ?_⟩
  · funext i; idx_vars i; exact (f0 _).symm
  · funext i; obtain ⟨p, q, rfl⟩ : ∃ (p : Fin 1) (q : Fin 64), i = ix2 p q := ⟨i 0, i 1, eq_ix2 i⟩
    obtain rfl : p = 0 := Subsingleton.elim _ _
    exact (f1 _).symm
  · funext i; obtain ⟨p, q, rfl⟩ : ∃ (p : Fin 1) (q : Fin 64), i = ix2 p q := ⟨i 0, i 1, eq_ix2 i⟩
    obtain rfl : p = 0 := Subsingleton.elim _ _
    exact (f2 _).symm

/-- The argument arrays hold what they held at the start. -/
theorem args_kept (m : (ℓ : Loc nD τ sig) → Buf (Elt Ideal) ℓ) (c : Dev nD) (b : Ref sig .tc) (hr : b ∈ Pipeline.restRefs sig spec0)
    (hb : b ≠ main_c ∧ b ≠ main_call0_v0 ∧ b ≠ main_v0 ∧ b ≠ main_v1 ∧ b ≠ main_v2 ∧ b ≠ main_v3 ∧ b ≠ main_v4 ∧ b ≠ main_v5 ∧ b ≠ main_v6) (r)
    (h : Pipeline.FramePost cfgs (dats m) 0 (V m) r) : r.2.mem ((c.tc : Thread nD τ).loc b) = m ((c.tc : Thread nD τ).loc b) :=
  ((h c).2 b hr).trans (kept m c b hb)

/-- The run with the result's array. -/
theorem run_arrays (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v7) = (dats m 0 c).arrAt 5 (cfg0 (F := Ideal)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1 c).1 5,
    args_kept m c main_arg0 (Pipeline.mem_restRefs_of main_arg0 (by decide) (show ∀ w : Fin 6, (spec0 w).arr.view.ref ≠ main_arg0 by decide)) (by decide) r h.1,
    args_kept m c main_arg1 (Pipeline.mem_restRefs_of main_arg1 (by decide) (show ∀ w : Fin 6, (spec0 w).arr.view.ref ≠ main_arg1 by decide)) (by decide) r h.1,
    args_kept m c main_arg2 (Pipeline.mem_restRefs_of main_arg2 (by decide) (show ∀ w : Fin 6, (spec0 w).arr.view.ref ≠ main_arg2 by decide)) (by decide) r h.1⟩) (run_quiescent m ρ)
end

open Cert.Reference3Ideal.Value Cert.Reference3Ideal.Read in
theorem algebraic : Cert.algebraic_Kernel3Ideal_Reference3Ideal_pre_finite3 := by
  intro m g m' g' hpre hargs
  choose a ha using fun c => exists_args m c (hpre c)
  refine ⟨fun c => up3 (k := 2) (n := 4096) (m := 1024) (a c).o, ?_, ?_⟩
  · refine (θ_run _ _ _).mono (fun r h c => ?_) (run_arrays m g)
    obtain ⟨h0, hr⟩ := h c
    exact ⟨h0.trans (arr5 (ha c)), hr⟩
  · refine (θ_run _ _ _).mono (fun r h c => ?_) (Cert.Reference3Ideal.Value.run m' g')
    obtain ⟨h0, hr⟩ := h c
    obtain ⟨e0, e1, e2⟩ := hargs c
    have e0 := e0.trans (ha c).p
    have e1 := e1.trans (ha c).qw
    have e2 := e2.trans (ha c).kw
    have s0 := val_main_v54_eq (F := Ideal) m' c
    rw [e0, e1, e2] at s0
    exact ⟨h0.trans (s0.trans (Ref.r_v54 (a c))), hr⟩

end Cert.Attn

end
-- ==== Proof.ScanPair.lean ====
/- One pair of heads of one chunk, as the kernel's body computes it: the output's piece and the state's, over real blocks. -/
module

public import proofs.«01_k».proof.Proof.Lift
public import proofs.«01_k».proof.Proof.Gen.Kernel6Ideal.Skeleton

@[expose] public section

set_option maxRecDepth 16384

noncomputable section

namespace Cert.Kernel6Ideal.Scan

open Cert.Kernel6Ideal Cert.Kernel6Ideal.Gen Idealize.ShloMosaic Cert.Lift

/-- The lanes' numbers, over a square and over a row. -/
abbrev lanes : IVec S128x128 32 := iota .tc S128x128 32 [1] iota_S128x128_d1_w32
abbrev lanes1 : IVec S1x128 32 := iota .tc S1x128 32 [1] iota_S1x128_d1_w32

/-- One lane of a square as a column: the sum over the lanes with the others zeroed. -/
def lane (h : BitVec 32) (v : FVec Ideal S128x128 .f32) : FVec Ideal S128x1 .f32 :=
  shapeCast S128x1 (multiReduction .add [1] S128 (select (cmpi .eq lanes (broadcast S128x128 h)) v
    (broadcast S128x128 (Scalar.ofBits .f32 0x00000000#32))) 0x00000000#32 reduces_S128x128_S128 (.inl rfl) rfl) shapeCasts_S128_S128x1

/-- One lane of a row as a single value. -/
def lane1 (h : BitVec 32) (v : Vec Ideal S1x128 .f32) : FVec Ideal S1x1 .f32 :=
  shapeCast S1x1 (multiReduction .add [1] S1 (select (cmpi .eq lanes1 (broadcast S1x128 h)) v
    (broadcast S1x128 (Scalar.ofBits .f32 0x00000000#32))) 0x00000000#32 reduces_S1x128_S1 (.inl rfl) rfl) shapeCasts_S1_S1x1

/-- Two single values laid over the halves of a row. -/
def row2 (a b : FVec Ideal S1x1 .f32) : FVec Ideal S1x128 .f32 :=
  select k0_pay5 (broadcastTo S1x128 (shapeCast S1x1 a shapeCasts_S1x1_S1x1) broadcasts_S1x1_S1x128)
    (broadcastTo S1x128 (shapeCast S1x1 b shapeCasts_S1x1_S1x1) broadcasts_S1x1_S1x128)

/-- The pair's scaled inputs: each head's, times its step sizes. -/
def scaled (h0 h1 : BitVec 32) (xs dtv : FVec Ideal S128x128 .f32) : FVec Ideal S128x128 .f32 :=
  mulf xs (k0_pay31 k0_pay4 (lane h0 dtv) (lane h1 dtv))

/-- The pair's new state. -/
def stG (h0 h1 : BitVec 32) (xs : FVec Ideal S128x128 .f32) (bt : FVec Ideal S128x128 .bf16) (ac dtv : FVec Ideal S128x128 .f32)
    (la : Vec Ideal S1x128 .f32) (st : Vec Ideal S1x128x128 .f32) : FVec Ideal S1x128x128 .f32 :=
  k0_pay43 bt (k0_pay31 k0_pay4 (lane h0 ac) (lane h1 ac)) (row2 (lane1 h0 la) (lane1 h1 la)) (scaled h0 h1 xs dtv) (k0_pay35 st)

/-- The pair's output. -/
def yG (h0 h1 : BitVec 32) (xs : FVec Ideal S128x128 .f32) (cb : FVec Ideal S128x128 .bf16) (cbm ac dtv : FVec Ideal S128x128 .f32)
    (dk : Vec Ideal S1x128 .f32) (r0 r1 : Vec Ideal S1x128 .f32) (st : Vec Ideal S1x128x128 .f32) : FVec Ideal S1x128x128 .f32 :=
  k0_pay42 (k0_pay40 k0_pay4 k0_pay6 cbm (lane h1 ac) (scaled h0 h1 xs dtv) (k0_pay37 k0_pay4 cb (lane h0 ac) (lane h1 ac) st)
      (k0_pay38 k0_pay6 (lane h0 ac) r0) (select k0_pay4 (scaled h0 h1 xs dtv) (broadcast S128x128 (Scalar.ofBits .f32 0x00000000#32))) r1)
    (mulf (broadcastTo S128x128 (row2 (lane1 h0 (shapeCast S1x128 dk shapeCasts_S1x128_S1x128)) (lane1 h1 (shapeCast S1x128 dk shapeCasts_S1x128_S1x128)))
      broadcasts_S1x128_S128x128) xs)

theorem sel_eq (h k : Fin 128) (x y : EReal) : Scalar.select (IntOp.cmpi .eq (BitVec.ofNat 32 k.val) (BitVec.ofNat 32 h.val)) x y = if k = h then x else y := by
  have e : IntOp.cmpi .eq (BitVec.ofNat 32 k.val) (BitVec.ofNat 32 h.val) = if k = h then 1#1 else 0#1 := by revert h k; decide +kernel
  rw [e]; split_ifs <;> rfl

theorem sel_half (k : Fin 128) (x y : EReal) : Scalar.select (IntOp.cmpi .slt (BitVec.ofNat 32 k.val) 64#32) x y = if k.val < 64 then x else y := by
  have e : IntOp.cmpi .slt (BitVec.ofNat 32 k.val) 64#32 = if k.val < 64 then 1#1 else 0#1 := by revert k; decide +kernel
  rw [e]; split_ifs <;> rfl

theorem sel_half' (k : Fin 128) (x y : EReal) :
    Scalar.select (IntOp.xori (IntOp.cmpi .slt (BitVec.ofNat 32 k.val) 64#32) 1#1) x y = if k.val < 64 then y else x := by
  have e : IntOp.xori (IntOp.cmpi .slt (BitVec.ofNat 32 k.val) 64#32) 1#1 = if k.val < 64 then 0#1 else 1#1 := by revert k; decide +kernel
  rw [e]; split_ifs <;> rfl

theorem sel_le (k i : Fin 128) (x y : EReal) :
    Scalar.select (IntOp.cmpi .sle (BitVec.ofNat 32 k.val) (BitVec.ofNat 32 i.val)) x y = if k.val ≤ i.val then x else y := by
  have e : IntOp.cmpi .sle (BitVec.ofNat 32 k.val) (BitVec.ofNat 32 i.val) = if k.val ≤ i.val then 1#1 else 0#1 := by revert k i; decide +kernel
  rw [e]; split_ifs <;> rfl

theorem coe_ite (p : Prop) [Decidable p] (x y : ℝ) : (if p then ((x : ℝ) : EReal) else ((y : ℝ) : EReal)) = ((if p then x else y : ℝ) : EReal) := by
  split_ifs <;> rfl

theorem coe_ite_zero (p : Prop) [Decidable p] (x : ℝ) : (if p then ((x : ℝ) : EReal) else 0) = ((if p then x else 0 : ℝ) : EReal) := by
  split_ifs <;> rfl

theorem coe_zero_ite (p : Prop) [Decidable p] (x : ℝ) : (if p then (0 : EReal) else ((x : ℝ) : EReal)) = ((if p then 0 else x : ℝ) : EReal) := by
  split_ifs <;> rfl

theorem lane_eq (h : Fin 128) (f : Fin 128 → Fin 128 → ℝ) : lane (BitVec.ofNat 32 h.val) (up2 f) = up2 fun i _ => f i h := by
  funext i; idx_vars i
  pointwise [lane]
  simp only [sel_eq, up2_ix, Finset.sum_ite_eq', Finset.mem_univ, if_true]

theorem lane1_eq (h : Fin 128) (f : Fin 1 → Fin 128 → ℝ) : lane1 (BitVec.ofNat 32 h.val) (up2 f) = up2 fun i _ => f i h := by
  funext i; idx_vars i
  pointwise [lane1]
  simp only [sel_eq, up2_ix, Finset.sum_ite_eq', Finset.mem_univ, if_true, Fin.eq_zero i0]

theorem row2_eq (a b : Fin 1 → Fin 1 → ℝ) : row2 (up2 a) (up2 b) = up2 fun _ q => if q.val < 64 then a 0 0 else b 0 0 := by
  funext i; idx_vars i
  pointwise [row2, k0_pay5]
  simp only [sel_half, up2_ix, coe_ite]

theorem cols_eq (a b : Fin 128 → Fin 1 → ℝ) : k0_pay31 (F := Ideal) k0_pay4 (up2 a) (up2 b) = up2 fun k q => if q.val < 64 then a k 0 else b k 0 := by
  funext i; idx_vars i
  pointwise [k0_pay31, k0_pay4]
  simp only [sel_half, up2_ix, coe_ite]

variable (h0 h1 : Fin 128) (xs B C ac dtv CB : Fin 128 → Fin 128 → ℝ) (la dk r0 r1 : Fin 1 → Fin 128 → ℝ) (st : Fin 1 → Fin 128 → Fin 128 → ℝ)

/-- The pair's lane of a half. -/
def hd (h0 h1 q : Fin 128) : Fin 128 := if q.val < 64 then h0 else h1

theorem hd_fn (f : Fin 128 → ℝ) (q : Fin 128) : (if q.val < 64 then f h0 else f h1) = f (hd h0 h1 q) := by unfold hd; split_ifs <;> rfl

theorem scaled_eq : scaled (BitVec.ofNat 32 h0.val) (BitVec.ofNat 32 h1.val) (up2 xs) (up2 dtv) = up2 fun k q => xs k q * dtv k (hd h0 h1 q) := by
  unfold scaled
  rw [lane_eq, lane_eq, cols_eq]
  simp only [hd_fn]
  funext i; idx_vars i
  pointwise
  simp only [up2_ix, ← EReal.coe_mul]

theorem stG_eq : stG (BitVec.ofNat 32 h0.val) (BitVec.ofNat 32 h1.val) (up2 xs) (up2 B) (up2 ac) (up2 dtv) (up2 la) (up3 st)
    = up3 fun o n q => st o n q * Real.exp (la 0 (hd h0 h1 q))
      + ∑ k, B n k * (xs k q * dtv k (hd h0 h1 q) * Real.exp (la 0 (hd h0 h1 q) - ac k (hd h0 h1 q))) := by
  unfold stG
  rw [scaled_eq, lane_eq, lane_eq, cols_eq, lane1_eq, lane1_eq, row2_eq]
  simp only [hd_fn]
  funext i; idx_vars i
  pointwise [k0_pay43, k0_pay35]
  simp only [up2_ix, up3_ix, ← EReal.coe_sub, Ideal.exp_coe, ← EReal.coe_mul, coe_sum, ← EReal.coe_add]
  rw [Fin.eq_zero i0]

theorem in_eq (a b : Fin 128 → Fin 1 → ℝ) : k0_pay37 (F := Ideal) k0_pay4 (up2 C) (up2 a) (up2 b) (up3 st)
    = up2 fun i q => (∑ n, C i n * st 0 n q) * Real.exp (if q.val < 64 then a i 0 else b i 0) := by
  unfold k0_pay37
  rw [cols_eq]
  funext i; idx_vars i
  pointwise [k0_pay35]
  simp only [up2_ix, up3_ix, ← EReal.coe_sub, Ideal.exp_coe, ← EReal.coe_mul, coe_sum, ← EReal.coe_add]

theorem decay_eq (a : Fin 128 → Fin 1 → ℝ) (r : Fin 1 → Fin 128 → ℝ) : k0_pay38 (F := Ideal) k0_pay6 (up2 a) (up2 r)
    = up2 fun i k => if k.val ≤ i.val then Real.exp (a i 0 - r 0 k) else 0 := by
  funext i; idx_vars i
  pointwise [k0_pay38, k0_pay6]
  simp only [sel_le, up2_ix, ← EReal.coe_sub, Ideal.exp_coe, coe_ite_zero]

theorem half_eq (x : Fin 128 → Fin 128 → ℝ) : select (k0_pay4) (up2 x : FVec Ideal S128x128 .f32) (broadcast S128x128 (Scalar.ofBits (F := Ideal) .f32 0x00000000#32))
    = up2 fun k q => if q.val < 64 then x k q else 0 := by
  funext i; idx_vars i
  pointwise [k0_pay4]
  simp only [sel_half, up2_ix, coe_ite_zero]

theorem two_eq (a : Fin 128 → Fin 1 → ℝ) (x y0 L X : Fin 128 → Fin 128 → ℝ) (r : Fin 1 → Fin 128 → ℝ) :
    k0_pay40 (F := Ideal) k0_pay4 k0_pay6 (up2 CB) (up2 a) (up2 x) (up2 y0) (up2 L) (up2 X) (up2 r)
    = up2 fun i q => y0 i q + (∑ k, CB i k * L i k * X k q)
      + ∑ k, if q.val < 64 then 0 else if k.val ≤ i.val then CB i k * Real.exp (a i 0 - r 0 k) * x k q else 0 := by
  funext i; idx_vars i
  pointwise [k0_pay40, k0_pay4, k0_pay6]
  simp only [sel_le, sel_half', up2_ix, ← EReal.coe_sub, Ideal.exp_coe, coe_ite_zero, coe_zero_ite, ← EReal.coe_mul, coe_sum, ← EReal.coe_add]

/-- The two heads' parts of a lane: only its own head's stays. -/
theorem heads_sum (x : Fin 128 → Fin 128 → ℝ) (q : Fin 128) (i : Fin 128) :
    (∑ k, CB i k * (if k.val ≤ i.val then Real.exp (ac i h0 - ac k h0) else 0) * (if q.val < 64 then x k q else 0))
      + (∑ k, if q.val < 64 then 0 else if k.val ≤ i.val then CB i k * Real.exp (ac i h1 - ac k h1) * x k q else 0)
    = ∑ k, CB i k * (if k.val ≤ i.val then Real.exp (ac i (hd h0 h1 q) - ac k (hd h0 h1 q)) else 0) * x k q := by
  rw [← Finset.sum_add_distrib]
  refine Finset.sum_congr rfl fun k _ => ?_
  unfold hd
  split_ifs <;> ring

theorem yG_eq : yG (BitVec.ofNat 32 h0.val) (BitVec.ofNat 32 h1.val) (up2 xs) (up2 C) (up2 CB) (up2 ac) (up2 dtv) (up2 dk)
      (up2 fun _ k => ac k h0) (up2 fun _ k => ac k h1) (up3 st)
    = up3 fun _ i q => (∑ n, C i n * st 0 n q) * Real.exp (ac i (hd h0 h1 q))
      + (∑ k, CB i k * (if k.val ≤ i.val then Real.exp (ac i (hd h0 h1 q) - ac k (hd h0 h1 q)) else 0) * (xs k q * dtv k (hd h0 h1 q)))
      + dk 0 (hd h0 h1 q) * xs i q := by
  have ed : shapeCast S1x128 (up2 dk : Vec Ideal S1x128 .f32) shapeCasts_S1x128_S1x128 = up2 dk := by
    funext i; idx_vars i
    pointwise
  unfold yG
  rw [scaled_eq, half_eq, lane_eq, lane_eq, in_eq, decay_eq, two_eq, ed, lane1_eq, lane1_eq, row2_eq]
  simp only [hd_fn]
  funext i; idx_vars i
  pointwise [k0_pay42]
  simp only [up2_ix, up3_ix, ← EReal.coe_mul, ← EReal.coe_add, add_assoc]
  rw [← add_assoc (Finset.sum _ _) (Finset.sum _ _)]
  have e := heads_sum (h0 := h0) (h1 := h1) (ac := ac) (CB := CB) (fun k q => xs k q * dtv k (hd h0 h1 q)) i2 i1
  rw [e]

end Cert.Kernel6Ideal.Scan

end
-- ==== Proof.ScanBody.lean ====
/- One chunk of the scan, as the kernel's body computes it: the output block, the carried states and the states' block, out of the
   pairs of heads. -/
module

public import proofs.«01_k».proof.Proof.ScanPair
public import proofs.«01_k».proof.Proof.Gen.Kernel6Ideal.Value
public import Idealize.ShloMosaic.Lib.WritesUnit
public import Idealize.ShloMosaic.Lib.Pipeline.ReadBack
public import Idealize.ShloMosaic.Lib.Pipeline.ValueKit
public import Idealize.ShloMosaic.Lib.KernelVsHost

@[expose] public section

set_option maxRecDepth 65536

noncomputable section

namespace Cert.Kernel6Ideal.Scan

open Cert.Kernel6Ideal Cert.Kernel6Ideal.Gen Idealize.ShloMosaic Idealize.ShloMosaic.View Cert.Lift

variable (ux : FVec Ideal S128x1024 .f32) (ub : FVec Ideal S128x512 .f32) (ac dtv : FVec Ideal S128x128 .f32)
  (dk la : Vec Ideal S1x128 .f32) (r : Fin 16 → Vec Ideal S1x128 .f32) (s : Fin 8 → Vec Ideal S1x128x128 .f32)

/-- The output block of one chunk: the eight pairs side by side. -/
def yBlk : S1x128x1024.Idx → Ideal .f32 :=
  View.canon (Val := Elt Ideal) (e := .f32) [
    ⟨Rect.unit ![0, 0, 896] ![1, 128, 128] inb_S1x128x1024_S1x128x128_0_0_896, yG 14#32 15#32 (k0_pay152 ux) (k0_pay94 ub) (k0_pay95 ub) ac dtv dk (r 14) (r 15) (s 7)⟩,
    ⟨Rect.unit ![0, 0, 768] ![1, 128, 128] inb_S1x128x1024_S1x128x128_0_0_768, yG 12#32 13#32 (k0_pay138 ux) (k0_pay94 ub) (k0_pay95 ub) ac dtv dk (r 12) (r 13) (s 6)⟩,
    ⟨Rect.unit ![0, 0, 640] ![1, 128, 128] inb_S1x128x1024_S1x128x128_0_0_640, yG 10#32 11#32 (k0_pay121 ux) (k0_pay94 ub) (k0_pay95 ub) ac dtv dk (r 10) (r 11) (s 5)⟩,
    ⟨Rect.unit ![0, 0, 512] ![1, 128, 128] inb_S1x128x1024_S1x128x128_0_0_512, yG 8#32 9#32 (k0_pay105 ux) (k0_pay94 ub) (k0_pay95 ub) ac dtv dk (r 8) (r 9) (s 4)⟩,
    ⟨Rect.unit ![0, 0, 384] ![1, 128, 128] inb_S1x128x1024_S1x128x128_0_0_384, yG 6#32 7#32 (k0_pay83 ux) (k0_pay23 ub) (k0_pay24 ub) ac dtv dk (r 6) (r 7) (s 3)⟩,
    ⟨Rect.unit ![0, 0, 256] ![1, 128, 128] inb_S1x128x1024_S1x128x128_0_0_256, yG 4#32 5#32 (k0_pay66 ux) (k0_pay23 ub) (k0_pay24 ub) ac dtv dk (r 4) (r 5) (s 2)⟩,
    ⟨Rect.unit ![0, 0, 128] ![1, 128, 128] inb_S1x128x1024_S1x128x128_0_0_128, yG 2#32 3#32 (k0_pay50 ux) (k0_pay23 ub) (k0_pay24 ub) ac dtv dk (r 2) (r 3) (s 1)⟩,
    ⟨Rect.unit ![0, 0, 0] ![1, 128, 128] inb_S1x128x1024_S1x128x128_0_0_0, yG 0#32 1#32 (k0_pay33 ux) (k0_pay23 ub) (k0_pay24 ub) ac dtv dk (r 0) (r 1) (s 0)⟩]

/-- The states after one chunk. -/
def cBlk (L : List (View.Piece (Elt Ideal) S8x128x128 .f32)) : S8x128x128.Idx → Ideal .f32 :=
  View.canon (Val := Elt Ideal) (e := .f32) ([
    ⟨Rect.unit ![7, 0, 0] ![1, 128, 128] inb_S8x128x128_S1x128x128_7_0_0, stG 14#32 15#32 (k0_pay152 ux) (k0_pay96 ub) ac dtv la (s 7)⟩,
    ⟨Rect.unit ![6, 0, 0] ![1, 128, 128] inb_S8x128x128_S1x128x128_6_0_0, stG 12#32 13#32 (k0_pay138 ux) (k0_pay96 ub) ac dtv la (s 6)⟩,
    ⟨Rect.unit ![5, 0, 0] ![1, 128, 128] inb_S8x128x128_S1x128x128_5_0_0, stG 10#32 11#32 (k0_pay121 ux) (k0_pay96 ub) ac dtv la (s 5)⟩,
    ⟨Rect.unit ![4, 0, 0] ![1, 128, 128] inb_S8x128x128_S1x128x128_4_0_0, stG 8#32 9#32 (k0_pay105 ux) (k0_pay96 ub) ac dtv la (s 4)⟩,
    ⟨Rect.unit ![3, 0, 0] ![1, 128, 128] inb_S8x128x128_S1x128x128_3_0_0, stG 6#32 7#32 (k0_pay83 ux) (k0_pay25 ub) ac dtv la (s 3)⟩,
    ⟨Rect.unit ![2, 0, 0] ![1, 128, 128] inb_S8x128x128_S1x128x128_2_0_0, stG 4#32 5#32 (k0_pay66 ux) (k0_pay25 ub) ac dtv la (s 2)⟩,
    ⟨Rect.unit ![1, 0, 0] ![1, 128, 128] inb_S8x128x128_S1x128x128_1_0_0, stG 2#32 3#32 (k0_pay50 ux) (k0_pay25 ub) ac dtv la (s 1)⟩,
    ⟨Rect.unit ![0, 0, 0] ![1, 128, 128] inb_S8x128x128_S1x128x128_0_0_0, stG 0#32 1#32 (k0_pay33 ux) (k0_pay25 ub) ac dtv la (s 0)⟩] ++ L)
/-- The states before one chunk, as they are given out. -/
def sBlk : S1x1x8x128x128.Idx → Ideal .f32 :=
  View.canon (Val := Elt Ideal) (e := .f32) [
    ⟨Rect.unit ![0, 0, 7, 0, 0] ![1, 1, 1, 128, 128] inb_S1x1x8x128x128_S1x1x1x128x128_0_0_7_0_0, k0_pay36 (s 7)⟩,
    ⟨Rect.unit ![0, 0, 6, 0, 0] ![1, 1, 1, 128, 128] inb_S1x1x8x128x128_S1x1x1x128x128_0_0_6_0_0, k0_pay36 (s 6)⟩,
    ⟨Rect.unit ![0, 0, 5, 0, 0] ![1, 1, 1, 128, 128] inb_S1x1x8x128x128_S1x1x1x128x128_0_0_5_0_0, k0_pay36 (s 5)⟩,
    ⟨Rect.unit ![0, 0, 4, 0, 0] ![1, 1, 1, 128, 128] inb_S1x1x8x128x128_S1x1x1x128x128_0_0_4_0_0, k0_pay36 (s 4)⟩,
    ⟨Rect.unit ![0, 0, 3, 0, 0] ![1, 1, 1, 128, 128] inb_S1x1x8x128x128_S1x1x1x128x128_0_0_3_0_0, k0_pay36 (s 3)⟩,
    ⟨Rect.unit ![0, 0, 2, 0, 0] ![1, 1, 1, 128, 128] inb_S1x1x8x128x128_S1x1x1x128x128_0_0_2_0_0, k0_pay36 (s 2)⟩,
    ⟨Rect.unit ![0, 0, 1, 0, 0] ![1, 1, 1, 128, 128] inb_S1x1x8x128x128_S1x1x1x128x128_0_0_1_0_0, k0_pay36 (s 1)⟩,
    ⟨Rect.unit ![0, 0, 0, 0, 0] ![1, 1, 1, 128, 128] inb_S1x1x8x128x128_S1x1x1x128x128_0_0_0_0_0, k0_pay36 (s 0)⟩]

def extRead1 (m : (ℓ : Loc nD τ sig) → Buf (Elt Ideal) ℓ) (c : Dev nD) (t : Fin cfg0.N) (d : ℕ) (hd : ∀ k, (![d, 0] : Fin 2 → Nat) k + S128x1024.size k ≤ S136x1024.size k) : Vec Ideal S128x1024 .f32 :=
  (View.whole cc0_scratch1).readCov (Val := Elt Ideal)
    [⟨Rect.unit ![8, 0] ![128, 1024] inb_S136x1024_S128x1024_8_0, k0_pay8 (iblk m c 0 t)⟩,
      ⟨Rect.unit ![0, 0] ![8, 1024] inb_S136x1024_S8x1024_0_0, k0_pay7 (grid0.coords t) (iblk m c 2 t)⟩]
    (Rect.unit (s := S136x1024) ![d, 0] S128x1024.size hd).toLoadRect

def extRead2 (m : (ℓ : Loc nD τ sig) → Buf (Elt Ideal) ℓ) (c : Dev nD) (t : Fin cfg0.N) (d : ℕ) (hd : ∀ k, (![d, 0] : Fin 2 → Nat) k + S128x512.size k ≤ S136x512.size k) : Vec Ideal S128x512 .f32 :=
  (View.whole cc0_scratch2).readCov (Val := Elt Ideal)
    [⟨Rect.unit ![8, 0] ![128, 512] inb_S136x512_S128x512_8_0, k0_pay13 (k0_pay12 (iblk m c 1 t))⟩,
      ⟨Rect.unit ![0, 0] ![8, 512] inb_S136x512_S8x512_0_0,
        k0_pay11 (Scalar.cmpi CmpIPredicate.eq (BitVec.ofNat 32 (grid0.coords t 1).val) 0#32) (iblk m c 3 t)⟩]
    (Rect.unit (s := S136x512) ![d, 0] S128x512.size hd).toLoadRect

variable (m : (ℓ : Loc nD τ sig) → Buf (Elt Ideal) ℓ) (c : Dev nD) (t : Fin cfg0.N)

/-- The convolved inputs of one chunk. -/
def uxOf : FVec Ideal S128x1024 .f32 :=
  k0_pay10
    (k0_pay9 (iblk m c 7 t) (extRead1 m c t 5 inb_S136x1024_S128x1024_5_0) (View.ld (iblk m c 5 t) (Rect.unit (s := S4x1024) ![0, 0] S1x1024.size inb_S4x1024_S1x1024_0_0)))
    (extRead1 m c t 6 inb_S136x1024_S128x1024_6_0) (View.ld (iblk m c 5 t) (Rect.unit (s := S4x1024) ![1, 0] S1x1024.size inb_S4x1024_S1x1024_1_0))
    (extRead1 m c t 7 inb_S136x1024_S128x1024_7_0) (View.ld (iblk m c 5 t) (Rect.unit (s := S4x1024) ![2, 0] S1x1024.size inb_S4x1024_S1x1024_2_0))
    (extRead1 m c t 8 inb_S136x1024_S128x1024_8_0) (View.ld (iblk m c 5 t) (Rect.unit (s := S4x1024) ![3, 0] S1x1024.size inb_S4x1024_S1x1024_3_0))

/-- The convolved gates of one chunk. -/
def ubOf : FVec Ideal S128x512 .f32 :=
  k0_pay16
    (k0_pay14 (iblk m c 8 t) (extRead2 m c t 5 inb_S136x512_S128x512_5_0) (View.ld (iblk m c 6 t) (Rect.unit (s := S4x512) ![0, 0] S1x512.size inb_S4x512_S1x512_0_0))
      (extRead2 m c t 6 inb_S136x512_S128x512_6_0) (View.ld (iblk m c 6 t) (Rect.unit (s := S4x512) ![1, 0] S1x512.size inb_S4x512_S1x512_1_0))
      (extRead2 m c t 7 inb_S136x512_S128x512_7_0) (View.ld (iblk m c 6 t) (Rect.unit (s := S4x512) ![2, 0] S1x512.size inb_S4x512_S1x512_2_0))
      (extRead2 m c t 8 inb_S136x512_S128x512_8_0) (View.ld (iblk m c 6 t) (Rect.unit (s := S4x512) ![3, 0] S1x512.size inb_S4x512_S1x512_3_0)))
    (k0_pay15 (iblk m c 8 t) (extRead2 m c t 5 inb_S136x512_S128x512_5_0) (View.ld (iblk m c 6 t) (Rect.unit (s := S4x512) ![0, 0] S1x512.size inb_S4x512_S1x512_0_0))
      (extRead2 m c t 6 inb_S136x512_S128x512_6_0) (View.ld (iblk m c 6 t) (Rect.unit (s := S4x512) ![1, 0] S1x512.size inb_S4x512_S1x512_1_0))
      (extRead2 m c t 7 inb_S136x512_S128x512_7_0) (View.ld (iblk m c 6 t) (Rect.unit (s := S4x512) ![2, 0] S1x512.size inb_S4x512_S1x512_2_0))
      (extRead2 m c t 8 inb_S136x512_S128x512_8_0) (View.ld (iblk m c 6 t) (Rect.unit (s := S4x512) ![3, 0] S1x512.size inb_S4x512_S1x512_3_0)))

/-- The running sums of one chunk, the step sizes, the last row of sums, and the sums' columns as rows. -/
def acOf : FVec Ideal S128x128 .f32 := k0_pay18 (iblk m c 4 t) (iblk m c 9 t) (iblk m c 10 t)
def dtOf : FVec Ideal S128x128 .f32 := k0_pay17 (iblk m c 4 t) (iblk m c 9 t)
def laOf : Vec Ideal S1x128 .f32 :=
  (View.whole cc0_scratch3).readCov (Val := Elt Ideal) [⟨Rect.unit ![0, 0] ![128, 128] inb_S128x128_S128x128_0_0, k0_pay19 (iblk m c 4 t) (iblk m c 9 t) (iblk m c 10 t)⟩]
    (Rect.unit (s := S128x128) ![127, 0] S1x128.size inb_S128x128_S1x128_127_0).toLoadRect
theorem row_inb (h : Fin 16) : ∀ k, (![h.val, 0] : Fin 2 → Nat) k + S1x128.size k ≤ S128x128.size k := by revert h; decide
theorem st_inb (j : Fin 8) : ∀ k, (![j.val, 0, 0] : Fin 3 → Nat) k + S1x128x128.size k ≤ S8x128x128.size k := by revert j; decide
def rowOf (h : Fin 16) : Vec Ideal S1x128 .f32 :=
  (View.whole cc0_scratch4).readCov (Val := Elt Ideal) [⟨Rect.unit ![0, 0] ![128, 128] inb_S128x128_S128x128_0_0, k0_pay21 (k0_pay20 (iblk m c 4 t) (iblk m c 9 t) (iblk m c 10 t))⟩]
    (Rect.unit (s := S128x128) ![h.val, 0] S1x128.size (row_inb h)).toLoadRect
/-- One pair's states out of all of them. -/
def stOf (w : Vec Ideal S8x128x128 .f32) (j : Fin 8) : Vec Ideal S1x128x128 .f32 :=
  View.ld (Val := Elt Ideal) (S := S8x128x128) w (Rect.unit (s := S8x128x128) ![j.val, 0, 0] S1x128x128.size (st_inb j))

theorem yB (h0 : ¬ t.val % 32 = 0) : (outsAt0 m c t.val t.isLt).1
    = yBlk (uxOf m c t) (ubOf m c t) (acOf m c t) (dtOf m c t) (iblk m c 11 t) (rowOf m c t) (stOf (outsAt0 m c (t.val - 1) (by omega)).2.2) := by
  rw [outsAt0_B m c t h0]; dsimp only; frame_out
  simp only [read_unread_whole]
  rfl

theorem cB (h0 : ¬ t.val % 32 = 0) : (outsAt0 m c t.val t.isLt).2.2
    = cBlk (uxOf m c t) (ubOf m c t) (acOf m c t) (dtOf m c t) (laOf m c t) (stOf (outsAt0 m c (t.val - 1) (by omega)).2.2) [] := by
  rw [outsAt0_B m c t h0]; dsimp only; frame_out
  simp only [read_unread_whole]
  rfl

theorem sB (h0 : ¬ t.val % 32 = 0) : (outsAt0 m c t.val t.isLt).2.1 = sBlk (stOf (outsAt0 m c (t.val - 1) (by omega)).2.2) := by
  rw [outsAt0_B m c t h0]; dsimp only; frame_out
  simp only [read_unread_whole]
  rfl

/-- A read of one pair's states passes over the write of another's. -/
theorem rd_skip {L : List (View.Piece (Elt Ideal) S8x128x128 .f32)} {j k : ℕ} {hj hk} {w} (h : k ≠ j) :
    (View.whole cc0_scratch0).readCov (Val := Elt Ideal) (⟨Rect.unit (s := S8x128x128) ![k, 0, 0] ![1, 128, 128] hk, w⟩ :: L) (Rect.unit (s := S8x128x128) ![j, 0, 0] ![1, 128, 128] hj).toLoadRect
      = (View.whole cc0_scratch0).readCov (Val := Elt Ideal) L (Rect.unit (s := S8x128x128) ![j, 0, 0] ![1, 128, 128] hj).toLoadRect := by
  have h1 : j + 1 ≤ 8 := hj 0
  have h2 : k + 1 ≤ 8 := hk 0
  refine View.readCov_skip _ _ _ _ _ ?_
  have h3 : j < 8 := h1
  have h4 : k < 8 := h2
  clear h1 h2
  interval_cases j <;> interval_cases k <;> first | rfl | exact absurd rfl h

/-- A read of one pair's states after the fill reads the fill. -/
theorem rd_fill {j : ℕ} {hj h0} :
    (View.whole cc0_scratch0).readCov (Val := Elt Ideal) [⟨Rect.unit (s := S8x128x128) ![0, 0, 0] ![8, 128, 128] h0, k0_pay3 (F := Ideal)⟩] (Rect.unit (s := S8x128x128) ![j, 0, 0] ![1, 128, 128] hj).toLoadRect
      = (up3 fun _ _ _ => 0 : Vec Ideal S1x128x128 .f32) := by
  refine (View.readCov_fill _ h0 _ _ _ (by intro a; fin_cases a <;> rfl)).trans ?_
  funext i
  exact bits_zero

/-- What the earlier pairs wrote leaves the filled zero where the later ones read. -/
theorem rd1 {hj hf} {h0 w0} :
    (View.whole cc0_scratch0).readCov (Val := Elt Ideal) [⟨Rect.unit (s := S8x128x128) ![0, 0, 0] ![1, 128, 128] h0, w0⟩, ⟨Rect.unit (s := S8x128x128) ![0, 0, 0] ![8, 128, 128] hf, k0_pay3 (F := Ideal)⟩]
      (Rect.unit (s := S8x128x128) ![1, 0, 0] ![1, 128, 128] hj).toLoadRect = (up3 fun _ _ _ => 0 : Vec Ideal S1x128x128 .f32) := by
  iterate 1 rw [rd_skip (by decide)]
  exact rd_fill

theorem rd2 {hj hf} {h0 w0} {h1 w1} :
    (View.whole cc0_scratch0).readCov (Val := Elt Ideal) [⟨Rect.unit (s := S8x128x128) ![1, 0, 0] ![1, 128, 128] h1, w1⟩, ⟨Rect.unit (s := S8x128x128) ![0, 0, 0] ![1, 128, 128] h0, w0⟩, ⟨Rect.unit (s := S8x128x128) ![0, 0, 0] ![8, 128, 128] hf, k0_pay3 (F := Ideal)⟩]
      (Rect.unit (s := S8x128x128) ![2, 0, 0] ![1, 128, 128] hj).toLoadRect = (up3 fun _ _ _ => 0 : Vec Ideal S1x128x128 .f32) := by
  iterate 2 rw [rd_skip (by decide)]
  exact rd_fill

theorem rd3 {hj hf} {h0 w0} {h1 w1} {h2 w2} :
    (View.whole cc0_scratch0).readCov (Val := Elt Ideal) [⟨Rect.unit (s := S8x128x128) ![2, 0, 0] ![1, 128, 128] h2, w2⟩, ⟨Rect.unit (s := S8x128x128) ![1, 0, 0] ![1, 128, 128] h1, w1⟩, ⟨Rect.unit (s := S8x128x128) ![0, 0, 0] ![1, 128, 128] h0, w0⟩, ⟨Rect.unit (s := S8x128x128) ![0, 0, 0] ![8, 128, 128] hf, k0_pay3 (F := Ideal)⟩]
      (Rect.unit (s := S8x128x128) ![3, 0, 0] ![1, 128, 128] hj).toLoadRect = (up3 fun _ _ _ => 0 : Vec Ideal S1x128x128 .f32) := by
  iterate 3 rw [rd_skip (by decide)]
  exact rd_fill

theorem rd4 {hj hf} {h0 w0} {h1 w1} {h2 w2} {h3 w3} :
    (View.whole cc0_scratch0).readCov (Val := Elt Ideal) [⟨Rect.unit (s := S8x128x128) ![3, 0, 0] ![1, 128, 128] h3, w3⟩, ⟨Rect.unit (s := S8x128x128) ![2, 0, 0] ![1, 128, 128] h2, w2⟩, ⟨Rect.unit (s := S8x128x128) ![1, 0, 0] ![1, 128, 128] h1, w1⟩, ⟨Rect.unit (s := S8x128x128) ![0, 0, 0] ![1, 128, 128] h0, w0⟩, ⟨Rect.unit (s := S8x128x128) ![0, 0, 0] ![8, 128, 128] hf, k0_pay3 (F := Ideal)⟩]
      (Rect.unit (s := S8x128x128) ![4, 0, 0] ![1, 128, 128] hj).toLoadRect = (up3 fun _ _ _ => 0 : Vec Ideal S1x128x128 .f32) := by
  iterate 4 rw [rd_skip (by decide)]
  exact rd_fill

theorem rd5 {hj hf} {h0 w0} {h1 w1} {h2 w2} {h3 w3} {h4 w4} :
    (View.whole cc0_scratch0).readCov (Val := Elt Ideal) [⟨Rect.unit (s := S8x128x128) ![4, 0, 0] ![1, 128, 128] h4, w4⟩, ⟨Rect.unit (s := S8x128x128) ![3, 0, 0] ![1, 128, 128] h3, w3⟩, ⟨Rect.unit (s := S8x128x128) ![2, 0, 0] ![1, 128, 128] h2, w2⟩, ⟨Rect.unit (s := S8x128x128) ![1, 0, 0] ![1, 128, 128] h1, w1⟩, ⟨Rect.unit (s := S8x128x128) ![0, 0, 0] ![1, 128, 128] h0, w0⟩, ⟨Rect.unit (s := S8x128x128) ![0, 0, 0] ![8, 128, 128] hf, k0_pay3 (F := Ideal)⟩]
      (Rect.unit (s := S8x128x128) ![5, 0, 0] ![1, 128, 128] hj).toLoadRect = (up3 fun _ _ _ => 0 : Vec Ideal S1x128x128 .f32) := by
  iterate 5 rw [rd_skip (by decide)]
  exact rd_fill

theorem rd6 {hj hf} {h0 w0} {h1 w1} {h2 w2} {h3 w3} {h4 w4} {h5 w5} :
    (View.whole cc0_scratch0).readCov (Val := Elt Ideal) [⟨Rect.unit (s := S8x128x128) ![5, 0, 0] ![1, 128, 128] h5, w5⟩, ⟨Rect.unit (s := S8x128x128) ![4, 0, 0] ![1, 128, 128] h4, w4⟩, ⟨Rect.unit (s := S8x128x128) ![3, 0, 0] ![1, 128, 128] h3, w3⟩, ⟨Rect.unit (s := S8x128x128) ![2, 0, 0] ![1, 128, 128] h2, w2⟩, ⟨Rect.unit (s := S8x128x128) ![1, 0, 0] ![1, 128, 128] h1, w1⟩, ⟨Rect.unit (s := S8x128x128) ![0, 0, 0] ![1, 128, 128] h0, w0⟩, ⟨Rect.unit (s := S8x128x128) ![0, 0, 0] ![8, 128, 128] hf, k0_pay3 (F := Ideal)⟩]
      (Rect.unit (s := S8x128x128) ![6, 0, 0] ![1, 128, 128] hj).toLoadRect = (up3 fun _ _ _ => 0 : Vec Ideal S1x128x128 .f32) := by
  iterate 6 rw [rd_skip (by decide)]
  exact rd_fill

theorem rd7 {hj hf} {h0 w0} {h1 w1} {h2 w2} {h3 w3} {h4 w4} {h5 w5} {h6 w6} :
    (View.whole cc0_scratch0).readCov (Val := Elt Ideal) [⟨Rect.unit (s := S8x128x128) ![6, 0, 0] ![1, 128, 128] h6, w6⟩, ⟨Rect.unit (s := S8x128x128) ![5, 0, 0] ![1, 128, 128] h5, w5⟩, ⟨Rect.unit (s := S8x128x128) ![4, 0, 0] ![1, 128, 128] h4, w4⟩, ⟨Rect.unit (s := S8x128x128) ![3, 0, 0] ![1, 128, 128] h3, w3⟩, ⟨Rect.unit (s := S8x128x128) ![2, 0, 0] ![1, 128, 128] h2, w2⟩, ⟨Rect.unit (s := S8x128x128) ![1, 0, 0] ![1, 128, 128] h1, w1⟩, ⟨Rect.unit (s := S8x128x128) ![0, 0, 0] ![1, 128, 128] h0, w0⟩, ⟨Rect.unit (s := S8x128x128) ![0, 0, 0] ![8, 128, 128] hf, k0_pay3 (F := Ideal)⟩]
      (Rect.unit (s := S8x128x128) ![7, 0, 0] ![1, 128, 128] hj).toLoadRect = (up3 fun _ _ _ => 0 : Vec Ideal S1x128x128 .f32) := by
  iterate 7 rw [rd_skip (by decide)]
  exact rd_fill

/-- No state yet: every pair's is zero. -/
def stZero (_ : Fin 8) : Vec Ideal S1x128x128 .f32 := up3 fun _ _ _ => 0

theorem sA (h0 : t.val % 32 = 0) : (outsAt0 m c t.val t.isLt).2.1 = sBlk stZero := by
  rw [outsAt0_A m c t h0]; dsimp only; frame_out
  rw [rd7, rd6, rd5, rd4, rd3, rd2, rd1, rd_fill]
  rfl

theorem yA (h0 : t.val % 32 = 0) : (outsAt0 m c t.val t.isLt).1
    = yBlk (uxOf m c t) (ubOf m c t) (acOf m c t) (dtOf m c t) (iblk m c 11 t) (rowOf m c t) stZero := by
  rw [outsAt0_A m c t h0]; dsimp only; frame_out
  rw [rd7, rd6, rd5, rd4, rd3, rd2, rd1, rd_fill]
  rfl

theorem cA (h0 : t.val % 32 = 0) : (outsAt0 m c t.val t.isLt).2.2
    = cBlk (uxOf m c t) (ubOf m c t) (acOf m c t) (dtOf m c t) (laOf m c t) stZero [⟨Rect.unit (s := S8x128x128) ![0, 0, 0] S8x128x128.size inb_S8x128x128_S8x128x128_0_0_0, k0_pay3 (F := Ideal)⟩] := by
  rw [outsAt0_A m c t h0]; dsimp only; frame_out
  rw [rd7, rd6, rd5, rd4, rd3, rd2, rd1, rd_fill]
  rfl

end Cert.Kernel6Ideal.Scan
end
-- ==== Proof.ScanModel.lean ====
/- The chunked scan over the reals: sums over a whole sequence of 4096 steps, split at the chunks of 128. -/
module

public import Idealize.ShloMosaic.Init
public import proofs.«01_k».proof.Proof.Lift

@[expose] public section

noncomputable section

namespace Cert.Scan

/-- Step `i` of chunk `c`. -/
def tok (c : Fin 32) (i : Fin 128) : Fin 4096 := ⟨128 * c.val + i.val, by omega⟩

theorem sum_chunks (g : Fin 4096 → ℝ) : ∑ s, g s = ∑ c : Fin 32, ∑ i : Fin 128, g (tok c i) := by
  rw [← Fintype.sum_prod_type' (f := fun (c : Fin 32) (i : Fin 128) => g (tok c i))]
  refine (Fintype.sum_equiv (finProdFinEquiv : Fin 32 × Fin 128 ≃ Fin (32 * 128)) _ _ fun p => ?_).symm
  congr 1
  exact Fin.ext (by simp only [tok, finProdFinEquiv_apply_val]; omega)

/-- A sum over the steps before a chunk and some of the chunk's own. -/
theorem split (c : Fin 32) (g : Fin 4096 → ℝ) (Q : Fin 4096 → Prop) [DecidablePred Q] (R : Fin 128 → Prop) [DecidablePred R]
    (h0 : ∀ (c' : Fin 32) (k : Fin 128), c'.val < c.val → Q (tok c' k)) (h1 : ∀ (c' : Fin 32) (k : Fin 128), c.val < c'.val → ¬Q (tok c' k))
    (hR : ∀ k, Q (tok c k) ↔ R k) :
    (∑ s, if Q s then g s else 0) = (∑ s, if s.val < 128 * c.val then g s else 0) + ∑ k, if R k then g (tok c k) else 0 := by
  rw [sum_chunks, sum_chunks (fun s => if s.val < 128 * c.val then g s else 0)]
  have e : ∀ c' : Fin 32, (∑ k, if Q (tok c' k) then g (tok c' k) else 0)
      = (∑ k, if (tok c' k).val < 128 * c.val then g (tok c' k) else 0) + if c' = c then ∑ k, (if R k then g (tok c k) else 0) else 0 := by
    intro c'
    rcases lt_trichotomy c'.val c.val with h | h | h
    · have hn : c' ≠ c := fun e => by subst e; omega
      have ht : ∀ k : Fin 128, (tok c' k).val < 128 * c.val := fun k => by have := k.isLt; simp only [tok]; omega
      simp only [h0 c' _ h, ht, hn, if_true, if_false, add_zero]
    · obtain rfl : c' = c := Fin.ext h
      have ht : ∀ k : Fin 128, ¬(tok c' k).val < 128 * c'.val := fun k => by simp only [tok]; omega
      simp only [hR, ht, if_true, if_false, Finset.sum_const_zero, zero_add]
    · have hn : c' ≠ c := fun e => by subst e; omega
      have ht : ∀ k : Fin 128, ¬(tok c' k).val < 128 * c.val := fun k => by simp only [tok]; omega
      simp only [h1 c' _ h, ht, hn, if_false, Finset.sum_const_zero, add_zero]
  rw [Finset.sum_congr rfl fun c' _ => e c', Finset.sum_add_distrib, Finset.sum_ite_eq' Finset.univ c]
  simp only [Finset.mem_univ, if_true]

variable (f x : Fin 4096 → ℝ) (B C : Fin 4096 → Fin 128 → ℝ)

/-- The decay exponents' sum up to a step. -/
def cum (t : Fin 4096) : ℝ := ∑ s, if s.val ≤ t.val then f s else 0

/-- The decay exponents' sum up to chunk `c`. -/
def ends (c : ℕ) : ℝ := ∑ s : Fin 4096, if s.val < 128 * c then f s else 0

/-- The decay exponents' sum inside a chunk. -/
def acs (c : Fin 32) (i : Fin 128) : ℝ := ∑ k : Fin 128, if k.val ≤ i.val then f (tok c k) else 0

/-- The scan's output at a step: the sum over the steps up to it, each decayed by the steps between. -/
def out (t : Fin 4096) : ℝ :=
  ∑ s, if s.val ≤ t.val then x s * ((∑ n, C t n * B s n) * Real.exp (cum f t - cum f s)) else 0

/-- The state before chunk `c`. -/
def carried (c : ℕ) (n : Fin 128) : ℝ :=
  ∑ s : Fin 4096, if s.val < 128 * c then B s n * (Real.exp (ends f c - cum f s) * x s) else 0

theorem cum_tok (c : Fin 32) (i : Fin 128) : cum f (tok c i) = ends f c.val + acs f c i :=
  split c f (fun s => s.val ≤ (tok c i).val) (fun k => k.val ≤ i.val) (fun c' k h => by simp only [tok]; omega)
    (fun c' k h => by simp only [tok]; omega) (fun k => by simp only [tok]; omega)

theorem acs_last (c : Fin 32) : acs f c 127 = ∑ k : Fin 128, f (tok c k) :=
  Finset.sum_congr rfl fun k _ => if_pos (by have := k.isLt; show k.val ≤ 127; omega)

theorem before_succ (c : Fin 32) (g : Fin 4096 → ℝ) : (∑ s : Fin 4096, if s.val < 128 * (c.val + 1) then g s else 0)
    = (∑ s : Fin 4096, if s.val < 128 * c.val then g s else 0) + ∑ k, g (tok c k) := by
  rw [split c g (fun s => s.val < 128 * (c.val + 1)) (fun _ => True) (fun c' k h => by simp only [tok]; omega)
    (fun c' k h => by simp only [tok]; omega) (fun k => iff_of_true (by have := k.isLt; simp only [tok]; omega) trivial)]
  simp only [if_true]

theorem ends_succ (c : Fin 32) : ends f (c.val + 1) = ends f c.val + acs f c 127 := by
  rw [acs_last]; exact before_succ c f

theorem carried_zero (n : Fin 128) : carried f x B 0 n = 0 := by
  simp only [carried, Nat.mul_zero, Nat.not_lt_zero, if_false, Finset.sum_const_zero]

theorem carried_succ (c : Fin 32) (n : Fin 128) : carried f x B (c.val + 1) n
    = carried f x B c.val n * Real.exp (acs f c 127) + ∑ k, B (tok c k) n * (x (tok c k) * Real.exp (acs f c 127 - acs f c k)) := by
  rw [carried, before_succ c (fun s => B s n * (Real.exp (ends f (c.val + 1) - cum f s) * x s)), carried, Finset.sum_mul]
  congr 1
  · refine Finset.sum_congr rfl fun s _ => ?_
    rw [ends_succ]
    split_ifs
    · rw [show ends f c.val + acs f c 127 - cum f s = (ends f c.val - cum f s) + acs f c 127 by ring, Real.exp_add]; ring
    · rw [zero_mul]
  · refine Finset.sum_congr rfl fun k _ => ?_
    rw [ends_succ, cum_tok, show ends f c.val + acs f c 127 - (ends f c.val + acs f c k) = acs f c 127 - acs f c k by ring]; ring

theorem out_tok (c : Fin 32) (i : Fin 128) : out f x B C (tok c i)
    = (∑ n, C (tok c i) n * carried f x B c.val n) * Real.exp (acs f c i)
      + ∑ k : Fin 128, (∑ n, C (tok c i) n * B (tok c k) n) * (if k.val ≤ i.val then Real.exp (acs f c i - acs f c k) else 0) * x (tok c k) := by
  rw [out, split c (fun s => x s * ((∑ n, C (tok c i) n * B s n) * Real.exp (cum f (tok c i) - cum f s)))
    (fun s => s.val ≤ (tok c i).val) (fun k => k.val ≤ i.val) (fun c' k h => by simp only [tok]; omega)
    (fun c' k h => by simp only [tok]; omega) (fun k => by simp only [tok]; omega)]
  congr 1
  · simp only [carried, Finset.mul_sum, Finset.sum_mul]
    rw [Finset.sum_comm]
    refine Finset.sum_congr rfl fun s _ => ?_
    rw [cum_tok]
    split_ifs
    · refine Finset.sum_congr rfl fun n _ => ?_
      rw [show ends f c.val + acs f c i - cum f s = (ends f c.val - cum f s) + acs f c i by ring, Real.exp_add]; ring
    · simp only [mul_zero, zero_mul, Finset.sum_const_zero]
  · refine Finset.sum_congr rfl fun k _ => ?_
    rw [cum_tok, cum_tok, show ends f c.val + acs f c i - (ends f c.val + acs f c k) = acs f c i - acs f c k by ring]
    split_ifs
    · ring
    · ring

end Cert.Scan

end
-- ==== Proof.ScanArgs.lean ====
/- The convolution and the scan over real arguments: what both programs compute. -/
module

public import proofs.«01_k».proof.Proof.ScanModel

@[expose] public section

noncomputable section

namespace Cert.Scan

open Cert.Lift

/-- The arguments: the projections, the convolution's taps and bias, the step sizes' bias, the decays' logarithms and the skips. -/
structure Args where
  proj : Fin 2 → Fin 4096 → Fin 6672 → ℝ
  cw : Fin 4 → Fin 1536 → ℝ
  cb : Fin 1536 → ℝ
  dtb : Fin 16 → ℝ
  alog : Fin 16 → ℝ
  dsk : Fin 16 → ℝ

/-- The softplus. -/
def sp (x : ℝ) : ℝ := max x 0 + Real.log (1 + Real.exp (0 - max x (-x)))

variable (a : Args) (b : Fin 2)

/-- A channel to be convolved, `d` positions back. -/
def raw (s : Fin 4096) (j : Fin 1536) : ℝ := a.proj b s ⟨5120 + j.val, by omega⟩
def col (d : ℕ) (s : Fin 4096) (j : Fin 1536) : ℝ := if s.val < d then 0 else raw a b ⟨s.val - d, by omega⟩ j
def pre (s : Fin 4096) (j : Fin 1536) : ℝ :=
  a.cb j + col a b 3 s j * a.cw 0 j + col a b 2 s j * a.cw 1 j + col a b 1 s j * a.cw 2 j + col a b 0 s j * a.cw 3 j
def u (s : Fin 4096) (j : Fin 1536) : ℝ := pre a b s j * sg (pre a b s j)

/-- The inputs, the gates of a group, the step sizes and the decays of a head. -/
def inp (s : Fin 4096) (p : Fin 1024) : ℝ := u a b s ⟨p.val, by omega⟩
def gate (s : Fin 4096) (k : Fin 512) : ℝ := u a b s ⟨1024 + k.val, by omega⟩
def Bg (g : Fin 2) (s : Fin 4096) (n : Fin 128) : ℝ := gate a b s ⟨128 * g.val + n.val, by omega⟩
def Cg (g : Fin 2) (s : Fin 4096) (n : Fin 128) : ℝ := gate a b s ⟨256 + 128 * g.val + n.val, by omega⟩
def dt (s : Fin 4096) (h : Fin 16) : ℝ := sp (a.proj b s ⟨6656 + h.val, by omega⟩ + a.dtb h)
def dA (s : Fin 4096) (h : Fin 16) : ℝ := dt a b s h * -Real.exp (a.alog h)

/-- A channel's head and group. -/
def hd16 (p : Fin 1024) : Fin 16 := ⟨p.val / 64, by omega⟩
def gr (p : Fin 1024) : Fin 2 := ⟨p.val / 512, by omega⟩

/-- A channel's scaled input. -/
def sc (p : Fin 1024) (s : Fin 4096) : ℝ := inp a b s p * dt a b s (hd16 p)

/-- The output, and the states before each chunk. -/
def Y (s : Fin 4096) (p : Fin 1024) : ℝ :=
  out (fun s => dA a b s (hd16 p)) (sc a b p) (Bg a b (gr p)) (Cg a b (gr p)) s + a.dsk (hd16 p) * inp a b s p
def S (c : ℕ) (p : Fin 1024) (n : Fin 128) : ℝ := carried (fun s => dA a b s (hd16 p)) (sc a b p) (Bg a b (gr p)) c n

/-- The heads' values on all the lanes: zeros beyond the heads, before the softplus and the exponential. -/
def lanes16 (v : Fin 16 → ℝ) (h : Fin 128) : ℝ := if h' : h.val < 16 then v ⟨h.val, h'⟩ else 0
def dtP (s : Fin 4096) (h : Fin 128) : ℝ := sp (lanes16 (fun h => a.proj b s ⟨6656 + h.val, by omega⟩) h + lanes16 a.dtb h)
def dAP (s : Fin 4096) (h : Fin 128) : ℝ := dtP a b s h * (0 - Real.exp (lanes16 a.alog h))

theorem dtP_head (s : Fin 4096) (h : Fin 16) : dtP a b s ⟨h.val, by omega⟩ = dt a b s h := by
  simp only [dtP, lanes16, h.isLt, dif_pos]; rfl

theorem dAP_head (s : Fin 4096) (h : Fin 16) : dAP a b s ⟨h.val, by omega⟩ = dA a b s h := by
  unfold dAP dA
  rw [dtP_head, zero_sub]
  simp only [lanes16, h.isLt, dif_pos]

end Cert.Scan
end
-- ==== Proof.ScanPrep.lean ====
/- The convolved inputs and gates, the step sizes and the decays' running sums of one chunk, over real blocks. -/
module

public import proofs.«01_k».proof.Proof.ScanBody
public import proofs.«01_k».proof.Proof.ScanArgs

@[expose] public section

set_option maxRecDepth 16384

noncomputable section

namespace Cert.Kernel6Ideal.Scan

open Cert.Kernel6Ideal Cert.Kernel6Ideal.Gen Idealize.ShloMosaic Cert.Lift Cert.Scan

/-- The rows before a chunk and the chunk's own. -/
def ext {n : ℕ} (H : Fin 8 → Fin n → ℝ) (X : Fin 128 → Fin n → ℝ) (r : ℕ) (p : Fin n) : ℝ :=
  if h : r < 8 then H ⟨r, h⟩ p else if h' : r - 8 < 128 then X ⟨r - 8, h'⟩ p else 0

theorem ext_canon {n : ℕ} (h8 : ∀ k, (![8, 0] : Fin 2 → ℕ) k + (![128, n] : Fin 2 → ℕ) k ≤ (![136, n] : Fin 2 → ℕ) k)
    (h0 : ∀ k, (![0, 0] : Fin 2 → ℕ) k + (![8, n] : Fin 2 → ℕ) k ≤ (![136, n] : Fin 2 → ℕ) k)
    (H : Fin 8 → Fin n → ℝ) (X : Fin 128 → Fin n → ℝ) (r : Fin 136) (p : Fin n) :
    View.canon (Val := Elt Ideal) (s := ⟨2, ![136, n]⟩) (e := .f32)
      [⟨Rect.unit (s := ⟨2, ![136, n]⟩) ![8, 0] ![128, n] h8, up2 X⟩, ⟨Rect.unit (s := ⟨2, ![136, n]⟩) ![0, 0] ![8, n] h0, up2 H⟩] (ix2 r p)
      = ((ext H X r.val p : ℝ) : EReal) := by
  unfold ext
  by_cases h : r.val < 8
  · rw [dif_pos h, View.canon_cons_of_not_mem]
    · have e : (ix2 r p : (⟨2, ![136, n]⟩ : Shape).Idx) = (Rect.unit (s := ⟨2, ![136, n]⟩) ![0, 0] ![8, n] h0).emb (ix2 ⟨r.val, h⟩ p) := by
        funext k; refine Fin.ext ?_
        match k with
        | ⟨0, _⟩ => exact ((Rect.idx_unit_val (s := ⟨2, ![136, n]⟩) ![0, 0] ![8, n] h0 (ix2 ⟨r.val, h⟩ p) 0).trans (Nat.zero_add _)).symm
        | ⟨1, _⟩ => exact ((Rect.idx_unit_val (s := ⟨2, ![136, n]⟩) ![0, 0] ![8, n] h0 (ix2 ⟨r.val, h⟩ p) 1).trans (Nat.zero_add _)).symm
      rw [e]
      exact View.canon_cons_emb _ _ _ _
    · intro hm
      obtain ⟨x, hx⟩ := (Rect.unit (s := ⟨2, ![136, n]⟩) ![8, 0] ![128, n] h8).toLoadRect.exists_idx_of_mem hm
      have := congrArg (fun i => (i (0 : Fin 2)).val) hx
      have e := Rect.idx_unit_val (s := ⟨2, ![136, n]⟩) ![8, 0] ![128, n] h8 x 0
      have e' : r.val = 8 + (x 0).val := this.symm.trans e
      omega
  · have hr := r.isLt
    rw [dif_neg h, dif_pos (by omega : r.val - 8 < 128)]
    have e : (ix2 r p : (⟨2, ![136, n]⟩ : Shape).Idx) = (Rect.unit (s := ⟨2, ![136, n]⟩) ![8, 0] ![128, n] h8).emb (ix2 ⟨r.val - 8, by omega⟩ p) := by
      funext k; refine Fin.ext ?_
      match k with
      | ⟨0, _⟩ => exact ((Rect.idx_unit_val (s := ⟨2, ![136, n]⟩) ![8, 0] ![128, n] h8 (ix2 ⟨r.val - 8, by omega⟩ p) 0).trans (Nat.add_sub_cancel' (Nat.le_of_not_lt h))).symm
      | ⟨1, _⟩ => exact ((Rect.idx_unit_val (s := ⟨2, ![136, n]⟩) ![8, 0] ![128, n] h8 (ix2 ⟨r.val - 8, by omega⟩ p) 1).trans (Nat.zero_add _)).symm
    rw [e]
    exact View.canon_cons_emb _ _ _ _

/-- A convolution's silu. -/
def silu (z : ℝ) : ℝ := z * sg z

theorem silu_tanh (z : ℝ) : z * (1 / 2 * Real.tanh (1 / 2 * z) + 1 / 2) = silu z := by rw [half_tanh]; rfl

theorem pay10_eq (b w0 w1 w2 w3 : Fin 1 → Fin 1024 → ℝ) (r5 r6 r7 r8 : Fin 128 → Fin 1024 → ℝ) :
    k0_pay10 (F := Ideal) (k0_pay9 (up2 b) (up2 r5) (up2 w0)) (up2 r6) (up2 w1) (up2 r7) (up2 w2) (up2 r8) (up2 w3)
    = up2 fun i p => silu (b 0 p + r5 i p * w0 0 p + r6 i p * w1 0 p + r7 i p * w2 0 p + r8 i p * w3 0 p) := by
  funext i; idx_vars i
  pointwise [k0_pay10, k0_pay9]
  simp only [up2_ix, bits_half, ← EReal.coe_mul, ← EReal.coe_add, Ideal.tanh_coe, silu_tanh]

theorem pay16_eq (b w0 w1 w2 w3 : Fin 1 → Fin 512 → ℝ) (r5 r6 r7 r8 : Fin 128 → Fin 512 → ℝ) :
    k0_pay16 (F := Ideal) (k0_pay14 (up2 b) (up2 r5) (up2 w0) (up2 r6) (up2 w1) (up2 r7) (up2 w2) (up2 r8) (up2 w3))
      (k0_pay15 (up2 b) (up2 r5) (up2 w0) (up2 r6) (up2 w1) (up2 r7) (up2 w2) (up2 r8) (up2 w3))
    = up2 fun i p => silu (b 0 p + r5 i p * w0 0 p + r6 i p * w1 0 p + r7 i p * w2 0 p + r8 i p * w3 0 p) := by
  funext i; idx_vars i
  pointwise [k0_pay16, k0_pay15, k0_pay14]
  simp only [up2_ix, bits_half, ← EReal.coe_mul, ← EReal.coe_add, Ideal.tanh_coe, silu_tanh]

theorem log_pos (x : ℝ) : Ideal.log (1 + ((Real.exp x : ℝ) : EReal)) = ((Real.log (1 + Real.exp x) : ℝ) : EReal) := by
  rw [← EReal.coe_one, ← EReal.coe_add, Ideal.log_coe, if_neg (by have := Real.exp_pos x; linarith)]

theorem coe_max (x y : ℝ) : max (x : EReal) (y : EReal) = ((max x y : ℝ) : EReal) := (EReal.coe_strictMono.monotone.map_max).symm

theorem absf_coe (x : ℝ) : FloatOps.absf (F := Ideal) (φ := .f32) (x : EReal) = ((max x (-x) : ℝ) : EReal) := by
  rw [← coe_max, EReal.coe_neg]; rfl

theorem pay17_eq (x : Fin 128 → Fin 128 → ℝ) (w : Fin 1 → Fin 128 → ℝ) :
    k0_pay17 (F := Ideal) (up3 fun _ => x) (up2 w) = up2 fun i h => sp (x i h + w 0 h) := by
  funext i; idx_vars i
  pointwise [k0_pay17]
  simp only [up2_ix, up3_ix, bits_one, ← EReal.coe_zero, ← EReal.coe_add, ← EReal.coe_neg, ← EReal.coe_sub, absf_coe, Ideal.exp_coe, coe_max, log_pos]
  exact (EReal.coe_add _ _).symm

theorem pay18_eq (x : Fin 128 → Fin 128 → ℝ) (w l : Fin 1 → Fin 128 → ℝ) :
    k0_pay18 (F := Ideal) (up3 fun _ => x) (up2 w) (up2 l)
      = up2 fun i h => ∑ k, if k.val ≤ i.val then sp (x k h + w 0 h) * (0 - Real.exp (l 0 h)) else 0 := by
  funext i; idx_vars i
  unfold k0_pay18
  rw [pay17_eq]
  pointwise
  simp only [sel_le, up2_ix, ← EReal.coe_zero, Ideal.exp_coe, ← EReal.coe_sub, ← EReal.coe_mul, coe_ite, coe_sum, ← EReal.coe_add, sub_self, ite_self, Finset.sum_const_zero, add_zero]

variable (m : (ℓ : Loc nD τ sig) → Buf (Elt Ideal) ℓ) (c : Dev nD) (t : Fin cfg0.N)

/-- The rows read for a tap. -/
theorem extRead1_eq {X : Fin 128 → Fin 1024 → ℝ} {H : Fin 8 → Fin 1024 → ℝ} (e0 : iblk m c 0 t = up3 fun _ => X) (e2 : k0_pay7 (grid0.coords t) (iblk m c 2 t) = up2 H)
    (d : ℕ) (hd) : extRead1 m c t d hd = up2 fun i p => ext H X (d + i.val) p := by
  have hd' : d + 128 ≤ 136 := hd 0
  have e8 : k0_pay8 (F := Ideal) (up3 fun _ => X) = up2 X := by
    funext i; idx_vars i; pointwise [k0_pay8]; simp only [up2_ix, up3_ix]
  unfold extRead1
  rw [View.readCov_eq_canon', e0, e2, e8]
  funext i; idx_vars i
  have e : (Rect.unit (s := S136x1024) ![d, 0] S128x1024.size hd).toLoadRect.idx (ix2 i0 i1) = ix2 ⟨d + i0.val, by omega⟩ i1 := by
    funext k; refine Fin.ext ((Rect.idx_unit_val (s := S136x1024) ![d, 0] S128x1024.size hd (ix2 i0 i1) k).trans ?_)
    match k with
    | ⟨0, _⟩ => rfl
    | ⟨1, _⟩ => exact Nat.zero_add _
  rw [e]
  exact ext_canon _ _ H X _ i1

theorem extRead2_eq {X : Fin 128 → Fin 512 → ℝ} {H : Fin 8 → Fin 512 → ℝ} (e1 : iblk m c 1 t = up3 fun _ => X)
    (e3 : k0_pay11 (Scalar.cmpi CmpIPredicate.eq (BitVec.ofNat 32 (grid0.coords t 1).val) 0#32) (iblk m c 3 t) = up2 H)
    (d : ℕ) (hd) : extRead2 m c t d hd = up2 fun i p => ext H X (d + i.val) p := by
  have hd' : d + 128 ≤ 136 := hd 0
  have e8 : k0_pay13 (F := Ideal) (k0_pay12 (up3 fun _ => X)) = up2 X := by
    funext i; idx_vars i; pointwise [k0_pay13, k0_pay12]; simp only [up2_ix, up3_ix]
  unfold extRead2
  rw [View.readCov_eq_canon', e1, e3, e8]
  funext i; idx_vars i
  have e : (Rect.unit (s := S136x512) ![d, 0] S128x512.size hd).toLoadRect.idx (ix2 i0 i1) = ix2 ⟨d + i0.val, by omega⟩ i1 := by
    funext k; refine Fin.ext ((Rect.idx_unit_val (s := S136x512) ![d, 0] S128x512.size hd (ix2 i0 i1) k).trans ?_)
    match k with
    | ⟨0, _⟩ => rfl
    | ⟨1, _⟩ => exact Nat.zero_add _
  rw [e]
  exact ext_canon _ _ H X _ i1

/-- One tap's row of weights. -/
theorem tap_eq {n : ℕ} (w : Fin 4 → Fin n → ℝ) (k : Fin 4) (hk : ∀ x, (![k.val, 0] : Fin 2 → ℕ) x + (![1, n] : Fin 2 → ℕ) x ≤ (![4, n] : Fin 2 → ℕ) x) :
    View.ld (Val := Elt Ideal) (S := ⟨2, ![4, n]⟩) (e' := .f32) (up2 w) (Rect.unit (s := ⟨2, ![4, n]⟩) ![k.val, 0] ![1, n] hk) = up2 fun _ => w k := by
  funext i
  have h0 : (i 0).val < 1 := (i 0).isLt
  refine (View.ld_unit_apply_of _ _ _ _ i (ix2 k (i 1)) ?_).trans rfl
  intro x
  match x with
  | ⟨0, _⟩ => show k.val = k.val + (i 0).val; omega
  | ⟨1, _⟩ => exact (Nat.zero_add _).symm

theorem uxOf_eq {X H} {w : Fin 4 → Fin 1024 → ℝ} {b : Fin 1 → Fin 1024 → ℝ} (e0 : iblk m c 0 t = up3 fun _ => X) (e2 : k0_pay7 (grid0.coords t) (iblk m c 2 t) = up2 H)
    (e5 : iblk m c 5 t = up2 w) (e7 : iblk m c 7 t = up2 b) :
    uxOf m c t = up2 fun i p => silu (b 0 p + ext H X (5 + i.val) p * w 0 p + ext H X (6 + i.val) p * w 1 p + ext H X (7 + i.val) p * w 2 p + ext H X (8 + i.val) p * w 3 p) := by
  unfold uxOf
  rw [extRead1_eq m c t e0 e2, extRead1_eq m c t e0 e2, extRead1_eq m c t e0 e2, extRead1_eq m c t e0 e2, e5, e7]
  refine Eq.trans ?_ (pay10_eq b (fun _ => w 0) (fun _ => w 1) (fun _ => w 2) (fun _ => w 3) _ _ _ _)
  rw [← tap_eq w 0 inb_S4x1024_S1x1024_0_0, ← tap_eq w 1 inb_S4x1024_S1x1024_1_0, ← tap_eq w 2 inb_S4x1024_S1x1024_2_0, ← tap_eq w 3 inb_S4x1024_S1x1024_3_0]
  rfl

theorem ubOf_eq {X H} {w : Fin 4 → Fin 512 → ℝ} {b : Fin 1 → Fin 512 → ℝ} (e1 : iblk m c 1 t = up3 fun _ => X)
    (e3 : k0_pay11 (Scalar.cmpi CmpIPredicate.eq (BitVec.ofNat 32 (grid0.coords t 1).val) 0#32) (iblk m c 3 t) = up2 H)
    (e6 : iblk m c 6 t = up2 w) (e8 : iblk m c 8 t = up2 b) :
    ubOf m c t = up2 fun i p => silu (b 0 p + ext H X (5 + i.val) p * w 0 p + ext H X (6 + i.val) p * w 1 p + ext H X (7 + i.val) p * w 2 p + ext H X (8 + i.val) p * w 3 p) := by
  unfold ubOf
  rw [extRead2_eq m c t e1 e3, extRead2_eq m c t e1 e3, extRead2_eq m c t e1 e3, extRead2_eq m c t e1 e3, e6, e8]
  refine Eq.trans ?_ (pay16_eq b (fun _ => w 0) (fun _ => w 1) (fun _ => w 2) (fun _ => w 3) _ _ _ _)
  rw [← tap_eq w 0 inb_S4x512_S1x512_0_0, ← tap_eq w 1 inb_S4x512_S1x512_1_0, ← tap_eq w 2 inb_S4x512_S1x512_2_0, ← tap_eq w 3 inb_S4x512_S1x512_3_0]
  rfl

/-- The last row of the running sums, and a head's column of them as a row. -/
theorem laOf_eq {f : Fin 128 → Fin 128 → ℝ} (e : acOf m c t = up2 f) : laOf m c t = up2 fun _ h => f 127 h := by
  have e' : k0_pay19 (iblk m c 4 t) (iblk m c 9 t) (iblk m c 10 t) = up2 f := by
    unfold k0_pay19
    rw [← e]
    exact shapeCast_self _ _
  unfold laOf
  rw [e']
  refine (View.readCov_fill _ inb_S128x128_S128x128_0_0 _ _ _ (by intro a; fin_cases a <;> rfl)).trans ?_
  funext i; idx_vars i
  exact View.ld_unit_apply_of _ _ _ _ _ (ix2 127 i1) (by intro k; fin_cases k <;> simp)

theorem rowOf_eq {f : Fin 128 → Fin 128 → ℝ} (e : acOf m c t = up2 f) : rowOf m c t = fun h => up2 fun _ k => f k ⟨h.val, by omega⟩ := by
  have e' : k0_pay21 (k0_pay20 (iblk m c 4 t) (iblk m c 9 t) (iblk m c 10 t)) = up2 fun i k => f k i := by
    unfold k0_pay20
    rw [show k0_pay18 (iblk m c 4 t) (iblk m c 9 t) (iblk m c 10 t) = up2 f from e]
    funext i; idx_vars i
    pointwise [k0_pay21]; simp only [up2_ix]
  funext h
  unfold rowOf
  rw [e']
  refine (View.readCov_fill _ inb_S128x128_S128x128_0_0 _ _ _ (by intro a; fin_cases a <;> rfl)).trans ?_
  funext i; idx_vars i
  exact View.ld_unit_apply_of _ _ _ _ _ (ix2 ⟨h.val, by omega⟩ i1) (by intro k; fin_cases k <;> simp)

/-- One pair's states out of all of them. -/
theorem stOf_eq (f : Fin 8 → Fin 128 → Fin 128 → ℝ) : stOf (up3 f) = fun j => up3 fun _ => f j := by
  funext j i; idx_vars i
  unfold stOf
  exact View.ld_unit_apply_of _ _ _ _ _ (ix3 j i1 i2) (by intro k; fin_cases k <;> simp)

end Cert.Kernel6Ideal.Scan
end
-- ==== Proof.ScanHost.lean ====
/- The blocks the scan reads, from real arguments. -/
module

public import proofs.«01_k».proof.Proof.ScanPrep
public import proofs.«01_k».proof.Proof.Gen.Kernel6Ideal.Value
public import Idealize.ShloMosaic.Lib.Pipeline.ValueKit
public import Idealize.ShloMosaic.Lib.KernelVsHost

@[expose] public section

set_option maxRecDepth 16384

noncomputable section

namespace Cert.Kernel6Ideal.Scan

open Cert.Kernel6Ideal Cert.Kernel6Ideal.Gen Idealize.ShloMosaic Idealize.ShloMosaic.TcCoe Cert.Lift Cert.Scan

variable (m : (ℓ : Loc nD τ sig) → Buf (Elt Ideal) ℓ) (c : Dev nD)

/-- The arguments on a device are the real ones. -/
structure IsReal (a : Args) : Prop where
  h0 : m ((c : Thread nD τ).loc main_arg0) = up3 a.proj
  h1 : m ((c : Thread nD τ).loc main_arg1) = up3 fun _ => a.cw
  h2 : m ((c : Thread nD τ).loc main_arg2) = up2 fun _ => a.cb
  h3 : m ((c : Thread nD τ).loc main_arg3) = up2 fun _ => a.dtb
  h4 : m ((c : Thread nD τ).loc main_arg4) = up2 fun _ => a.alog
  h5 : m ((c : Thread nD τ).loc main_arg5) = up2 fun _ => a.dsk

/-- The projections on all the columns. -/
def projP (a : Args) (b : Fin 2) (s : Fin 4096) (q : Fin 7168) : ℝ := if h : q.val < 6672 then a.proj b s ⟨q.val, h⟩ else 0

theorem zero_fill (i : S_.Idx) : (sitofp (F := Ideal) .f32 (constantI S_ 32 0#32)) i = 0 :=
  show (((0#32).toInt : ℝ) : EReal) = 0 by norm_num

theorem pad3_eq (f : Fin 2 → Fin 4096 → Fin 6672 → ℝ) :
    pad S2x4096x7168 ![0, 0, 0] ![0, 0, 496] ![0, 0, 0] (up3 f) (sitofp (F := Ideal) .f32 (constantI S_ 32 0#32)) pads_S2x4096x6672_S2x4096x7168_000_000_04960 h_S_
      = up3 fun b s q => if h : q.val < 6672 then f b s ⟨q.val, h⟩ else 0 := by
  funext i; idx_vars i
  by_cases h : i2.val < 6672
  · rw [pad_apply_of_inside _ _ _ _ _ _ _ _ (ix3 i0 i1 ⟨i2.val, h⟩) (by intro k; fin_cases k <;> simp [ix3]), up3_ix, up3_ix, dif_pos h]
  · rw [pad_apply_of_not_inside _ _ _ _ _ _ _ _ 2 (by simp [ix3]; omega), zero_fill, up3_ix, dif_neg h, EReal.coe_zero]

theorem pad2_eq (f : Fin 16 → ℝ) :
    pad S1x128 ![0, 0] ![0, 112] ![0, 0] (up2 fun _ => f) (sitofp (F := Ideal) .f32 (constantI S_ 32 0#32)) pads_S1x16_S1x128_000_01120 h_S_
      = up2 fun _ => lanes16 f := by
  funext i; idx_vars i
  unfold lanes16
  by_cases h : i1.val < 16
  · rw [pad_apply_of_inside _ _ _ _ _ _ _ _ (ix2 i0 ⟨i1.val, h⟩) (by intro k; fin_cases k <;> simp [ix2]), up2_ix, up2_ix, dif_pos h]
  · rw [pad_apply_of_not_inside _ _ _ _ _ _ _ _ 1 (by simp [ix2]; omega), zero_fill, up2_ix, dif_neg h, EReal.coe_zero]

theorem tapsX_eq (f : Fin 4 → Fin 1536 → ℝ) :
    shapeCast S4x1024 (extractStridedSlice S1x4x1024 ![0, 0, 0] (up3 fun _ => f : Vec Ideal S1x4x1536 .f32) slices_S1x4x1536_S1x4x1024_0_0_0) shapeCasts_S1x4x1024_S4x1024
      = up2 fun k p => f k ⟨p.val, by omega⟩ := by
  funext i; idx_vars i
  refine (shapeCast_apply _ _ (ix2 i0 i1) (ix3 0 i0 i1) ?_).trans ?_
  · refine (Shape.rowMajor_val_three (d := ![1, 4, 1024]) _).trans (Eq.trans ?_ (Shape.rowMajor_val_two (d := ![4, 1024]) _).symm)
    show (0 * 4 + i0.val) * 1024 + i1.val = i0.val * 1024 + i1.val
    omega
  · exact extractStridedSlice_apply _ _ _ _ (ix3 0 i0 ⟨i1.val, by omega⟩) (by intro k; fin_cases k <;> simp [ix3])

theorem tapsB_eq (f : Fin 4 → Fin 1536 → ℝ) :
    shapeCast S4x512 (extractStridedSlice S1x4x512 ![0, 0, 1024] (up3 fun _ => f : Vec Ideal S1x4x1536 .f32) slices_S1x4x1536_S1x4x512_0_0_1024) shapeCasts_S1x4x512_S4x512
      = up2 fun k p => f k ⟨1024 + p.val, by omega⟩ := by
  funext i; idx_vars i
  refine (shapeCast_apply _ _ (ix2 i0 i1) (ix3 0 i0 i1) ?_).trans ?_
  · refine (Shape.rowMajor_val_three (d := ![1, 4, 512]) _).trans (Eq.trans ?_ (Shape.rowMajor_val_two (d := ![4, 512]) _).symm)
    show (0 * 4 + i0.val) * 512 + i1.val = i0.val * 512 + i1.val
    omega
  · exact extractStridedSlice_apply _ _ _ _ (ix3 0 i0 ⟨1024 + i1.val, by omega⟩) (by intro k; fin_cases k <;> simp [ix3])

variable {m c} {a : Args} (hr : IsReal m c a)
include hr

theorem V_v0 : V m c main_v0 = up3 (projP a) := by
  unfold V
  simp only [hostOps0, hostOps0_1, hostOps0_2, hostOps0_3, hostOps0_4, hostOps0_5, hostOps0_6, hostOps0_7, List.flatten_cons, List.flatten_nil, List.append_nil, List.cons_append, List.nil_append]
  after_results
  refine Eq.trans ?_ (pad3_eq a.proj)
  rw [← hr.h0]
  rfl

theorem V_v2 : V m c main_v2 = up2 fun k p => a.cw k ⟨p.val, by omega⟩ := by
  unfold V
  simp only [hostOps0, hostOps0_1, hostOps0_2, hostOps0_3, hostOps0_4, hostOps0_5, hostOps0_6, hostOps0_7, List.flatten_cons, List.flatten_nil, List.append_nil, List.cons_append, List.nil_append]
  after_results
  refine Eq.trans ?_ (tapsX_eq a.cw)
  rw [← hr.h1]
  rfl

theorem V_v4 : V m c main_v4 = up2 fun k p => a.cw k ⟨1024 + p.val, by omega⟩ := by
  unfold V
  simp only [hostOps0, hostOps0_1, hostOps0_2, hostOps0_3, hostOps0_4, hostOps0_5, hostOps0_6, hostOps0_7, List.flatten_cons, List.flatten_nil, List.append_nil, List.cons_append, List.nil_append]
  after_results
  refine Eq.trans ?_ (tapsB_eq a.cw)
  rw [← hr.h1]
  rfl

theorem V_v5 : V m c main_v5 = up2 fun _ p => a.cb ⟨p.val, by omega⟩ := by
  unfold V
  simp only [hostOps0, hostOps0_1, hostOps0_2, hostOps0_3, hostOps0_4, hostOps0_5, hostOps0_6, hostOps0_7, List.flatten_cons, List.flatten_nil, List.append_nil, List.cons_append, List.nil_append]
  after_results
  show extractStridedSlice S1x1024 ![0, 0] (m ((c : Thread nD τ).loc main_arg2)) slices_S1x1536_S1x1024_0_0 = _
  rw [hr.h2]
  funext i; idx_vars i
  exact extractStridedSlice_apply _ _ _ _ (ix2 0 ⟨i1.val, by omega⟩) (by intro k; fin_cases k <;> simp [ix2])

theorem V_v6 : V m c main_v6 = up2 fun _ p => a.cb ⟨1024 + p.val, by omega⟩ := by
  unfold V
  simp only [hostOps0, hostOps0_1, hostOps0_2, hostOps0_3, hostOps0_4, hostOps0_5, hostOps0_6, hostOps0_7, List.flatten_cons, List.flatten_nil, List.append_nil, List.cons_append, List.nil_append]
  after_results
  show extractStridedSlice S1x512 ![0, 1024] (m ((c : Thread nD τ).loc main_arg2)) slices_S1x1536_S1x512_0_1024 = _
  rw [hr.h2]
  funext i; idx_vars i
  exact extractStridedSlice_apply _ _ _ _ (ix2 0 ⟨1024 + i1.val, by omega⟩) (by intro k; fin_cases k <;> simp [ix2])

theorem V_v7 : V m c main_v7 = up2 fun _ => lanes16 a.dtb := by
  unfold V
  simp only [hostOps0, hostOps0_1, hostOps0_2, hostOps0_3, hostOps0_4, hostOps0_5, hostOps0_6, hostOps0_7, List.flatten_cons, List.flatten_nil, List.append_nil, List.cons_append, List.nil_append]
  after_results
  refine Eq.trans ?_ (pad2_eq a.dtb)
  rw [← hr.h3]
  rfl

theorem V_v8 : V m c main_v8 = up2 fun _ => lanes16 a.alog := by
  unfold V
  simp only [hostOps0, hostOps0_1, hostOps0_2, hostOps0_3, hostOps0_4, hostOps0_5, hostOps0_6, hostOps0_7, List.flatten_cons, List.flatten_nil, List.append_nil, List.cons_append, List.nil_append]
  after_results
  refine Eq.trans ?_ (pad2_eq a.alog)
  rw [← hr.h4]
  rfl

theorem V_v9 : V m c main_v9 = up2 fun _ => lanes16 a.dsk := by
  unfold V
  simp only [hostOps0, hostOps0_1, hostOps0_2, hostOps0_3, hostOps0_4, hostOps0_5, hostOps0_6, hostOps0_7, List.flatten_cons, List.flatten_nil, List.append_nil, List.cons_append, List.nil_append]
  after_results
  refine Eq.trans ?_ (pad2_eq a.dsk)
  rw [← hr.h5]
  rfl

end Cert.Kernel6Ideal.Scan
end
-- ==== Proof.ScanBlocks.lean ====
/- One chunk's convolved inputs, gates, step sizes and decays' sums, from real arguments. -/
module

public import proofs.«01_k».proof.Proof.ScanHost

@[expose] public section

set_option maxRecDepth 16384

noncomputable section

namespace Cert.Kernel6Ideal.Scan

open Cert.Kernel6Ideal Cert.Kernel6Ideal.Gen Idealize.ShloMosaic Idealize.ShloMosaic.TcCoe Cert.Lift Cert.Scan

/-- A point's batch row and chunk. -/
def bt (t : Fin cfg0.N) : Fin 2 := ⟨t.val / 32, by have : t.val < 64 := t.isLt; omega⟩
def ck (t : Fin cfg0.N) : Fin 32 := ⟨t.val % 32, by omega⟩

theorem w0 : ∀ t : Fin cfg0.N, win0_0.index t = ![t.val / 32, t.val % 32, 5] := (by decide +kernel : ∀ t : Fin grid0.N, win0_0.index t = ![t.val / 32, t.val % 32, 5])
theorem w1 : ∀ t : Fin cfg0.N, win0_1.index t = ![t.val / 32, t.val % 32, 12] := (by decide +kernel : ∀ t : Fin grid0.N, win0_1.index t = ![t.val / 32, t.val % 32, 12])
theorem w2 : ∀ t : Fin cfg0.N, win0_2.index t = ![t.val / 32, 16 * (t.val % 32) - 1, 5] := (by decide +kernel : ∀ t : Fin grid0.N, win0_2.index t = ![t.val / 32, 16 * (t.val % 32) - 1, 5])
theorem w3 : ∀ t : Fin cfg0.N, win0_3.index t = ![t.val / 32, 16 * (t.val % 32) - 1, 12] := (by decide +kernel : ∀ t : Fin grid0.N, win0_3.index t = ![t.val / 32, 16 * (t.val % 32) - 1, 12])
theorem w4 : ∀ t : Fin cfg0.N, win0_4.index t = ![t.val / 32, t.val % 32, 52] := (by decide +kernel : ∀ t : Fin grid0.N, win0_4.index t = ![t.val / 32, t.val % 32, 52])
theorem w5 : ∀ t : Fin cfg0.N, win0_5.index t = ![0, 0] := (by decide +kernel : ∀ t : Fin grid0.N, win0_5.index t = ![0, 0])
theorem w6 : ∀ t : Fin cfg0.N, win0_6.index t = ![0, 0] := (by decide +kernel : ∀ t : Fin grid0.N, win0_6.index t = ![0, 0])
theorem w7 : ∀ t : Fin cfg0.N, win0_7.index t = ![0, 0] := (by decide +kernel : ∀ t : Fin grid0.N, win0_7.index t = ![0, 0])
theorem w8 : ∀ t : Fin cfg0.N, win0_8.index t = ![0, 0] := (by decide +kernel : ∀ t : Fin grid0.N, win0_8.index t = ![0, 0])
theorem w9 : ∀ t : Fin cfg0.N, win0_9.index t = ![0, 0] := (by decide +kernel : ∀ t : Fin grid0.N, win0_9.index t = ![0, 0])
theorem w10 : ∀ t : Fin cfg0.N, win0_10.index t = ![0, 0] := (by decide +kernel : ∀ t : Fin grid0.N, win0_10.index t = ![0, 0])
theorem w11 : ∀ t : Fin cfg0.N, win0_11.index t = ![0, 0] := (by decide +kernel : ∀ t : Fin grid0.N, win0_11.index t = ![0, 0])

theorem first_eq : ∀ t : Fin cfg0.N, Scalar.cmpi CmpIPredicate.eq (BitVec.ofNat 32 (grid0.coords t 1).val) 0#32 = if t.val % 32 = 0 then 1#1 else 0#1 :=
  (by decide +kernel : ∀ t : Fin grid0.N, Scalar.cmpi CmpIPredicate.eq (BitVec.ofNat 32 (grid0.coords t 1).val) 0#32 = if t.val % 32 = 0 then 1#1 else 0#1)

theorem inner_lt (a : Args) (b : Fin 2) (s : Fin 4096) (q : Fin 7168) (j : Fin 1536) (h : q.val = 5120 + j.val) : projP a b s q = raw a b s j := by
  unfold projP raw
  rw [dif_pos (by omega)]
  exact congrArg (a.proj b s) (Fin.ext h)

variable {m : (ℓ : Loc nD τ sig) → Buf (Elt Ideal) ℓ} {c : Dev nD} {a : Args} (hr : IsReal m c a) (t : Fin cfg0.N)

/-- The rows before a chunk, zero before the first. -/
def halo (a : Args) (t : Fin cfg0.N) (j : Fin 1536) (r : Fin 8) : ℝ :=
  if h : t.val % 32 = 0 then 0 else raw a (bt t) ⟨128 * (t.val % 32) - 8 + r.val, by omega⟩ j

theorem halo_ext {n : ℕ} (j : Fin n → Fin 1536) (d : ℕ) (hd : d ≤ 3) (i : Fin 128) (p : Fin n) :
    ext (fun r p => halo a t (j p) r) (fun i p => raw a (bt t) (tok (ck t) i) (j p)) (8 - d + i.val) p = col a (bt t) d (tok (ck t) i) (j p) := by
  have hi := i.isLt
  have hm : t.val % 32 < 32 := Nat.mod_lt _ (by decide)
  unfold ext col halo
  have ht : (tok (ck t) i).val = 128 * (t.val % 32) + i.val := rfl
  by_cases h : 8 - d + i.val < 8
  · rw [dif_pos h]
    dsimp only
    by_cases h0 : t.val % 32 = 0
    · rw [dif_pos h0, if_pos (by omega)]
    · rw [dif_neg h0, if_neg (by omega)]
      refine congrArg (fun s => raw a (bt t) s (j p)) (Fin.ext ?_)
      show 128 * (t.val % 32) - 8 + (8 - d + i.val) = (tok (ck t) i).val - d
      omega
  · rw [dif_neg h, dif_pos (by omega), if_neg (by omega)]
    refine congrArg (fun s => raw a (bt t) s (j p)) (Fin.ext ?_)
    show 128 * (t.val % 32) + (8 - d + i.val - 8) = (tok (ck t) i).val - d
    omega

include hr

theorem blk0 : iblk m c 0 t = up3 fun _ i p => raw a (bt t) (tok (ck t) i) ⟨p.val, by omega⟩ := by
  funext y; idx_vars y
  have ht : t.val < 64 := t.isLt
  blk_simp [iblk]
  have e : (win0_0.blk t).view.emb (ix3 y0 y1 y2) = ix3 (⟨t.val / 32, by omega⟩ : Fin 2) (⟨128 * (t.val % 32) + y1.val, by omega⟩ : Fin 4096) ⟨5120 + y2.val, by omega⟩ := by blk_ext [w0]
  rw [e, V_v0 hr]
  exact congrArg (fun r : ℝ => (r : EReal)) (inner_lt a (bt t) (tok (ck t) y1) _ ⟨y2.val, by omega⟩ rfl)

theorem blk1 : iblk m c 1 t = up3 fun _ i p => raw a (bt t) (tok (ck t) i) ⟨1024 + p.val, by omega⟩ := by
  funext y; idx_vars y
  have ht : t.val < 64 := t.isLt
  blk_simp [iblk]
  have e : (win0_1.blk t).view.emb (ix3 y0 y1 y2) = ix3 (⟨t.val / 32, by omega⟩ : Fin 2) (⟨128 * (t.val % 32) + y1.val, by omega⟩ : Fin 4096) ⟨6144 + y2.val, by omega⟩ := by blk_ext [w1]
  rw [e, V_v0 hr]
  exact congrArg (fun r : ℝ => (r : EReal)) (inner_lt a (bt t) (tok (ck t) y1) _ ⟨1024 + y2.val, by omega⟩ (by show 6144 + y2.val = 5120 + (1024 + y2.val); omega))

theorem pay7_eq : k0_pay7 (grid0.coords t) (iblk m c 2 t) = up2 fun r p => halo a t ⟨p.val, by omega⟩ r := by
  funext y; idx_vars y
  have ht : t.val < 64 := t.isLt
  unfold halo
  by_cases h : t.val % 32 = 0
  · unfold k0_pay7
    rw [first_eq, if_pos h]
    pointwise
    simp only [up2_ix, dif_pos h, EReal.coe_zero]
  · unfold k0_pay7
    rw [first_eq, if_neg h]
    pointwise
    blk_simp [iblk]
    have e : (win0_2.blk t).view.emb (ix3 0 y0 y1) = ix3 (⟨t.val / 32, by omega⟩ : Fin 2) ⟨128 * (t.val % 32) - 8 + y0.val, by omega⟩ ⟨5120 + y1.val, by omega⟩ := by blk_ext [w2]
    rw [e, V_v0 hr, up2_ix, dif_neg h]
    exact congrArg (fun r : ℝ => (r : EReal)) (inner_lt a (bt t) _ _ ⟨y1.val, by omega⟩ rfl)

theorem pay11_eq : k0_pay11 (Scalar.cmpi CmpIPredicate.eq (BitVec.ofNat 32 (grid0.coords t 1).val) 0#32) (iblk m c 3 t) = up2 fun r p => halo a t ⟨1024 + p.val, by omega⟩ r := by
  funext y; idx_vars y
  have ht : t.val < 64 := t.isLt
  unfold halo
  by_cases h : t.val % 32 = 0
  · unfold k0_pay11
    rw [first_eq, if_pos h]
    pointwise
    simp only [up2_ix, dif_pos h, EReal.coe_zero]
  · unfold k0_pay11
    rw [first_eq, if_neg h]
    pointwise
    blk_simp [iblk]
    have e : (win0_3.blk t).view.emb (ix3 0 y0 y1) = ix3 (⟨t.val / 32, by omega⟩ : Fin 2) ⟨128 * (t.val % 32) - 8 + y0.val, by omega⟩ ⟨6144 + y1.val, by omega⟩ := by blk_ext [w3]
    rw [e, V_v0 hr, up2_ix, dif_neg h]
    exact congrArg (fun r : ℝ => (r : EReal)) (inner_lt a (bt t) _ _ ⟨1024 + y1.val, by omega⟩ (by show 6144 + y1.val = 5120 + (1024 + y1.val); omega))

theorem blk4 : iblk m c 4 t = up3 fun _ i h => lanes16 (fun h => a.proj (bt t) (tok (ck t) i) ⟨6656 + h.val, by omega⟩) h := by
  funext y; idx_vars y
  have ht : t.val < 64 := t.isLt
  blk_simp [iblk]
  have e : (win0_4.blk t).view.emb (ix3 y0 y1 y2) = ix3 (⟨t.val / 32, by omega⟩ : Fin 2) (⟨128 * (t.val % 32) + y1.val, by omega⟩ : Fin 4096) ⟨6656 + y2.val, by omega⟩ := by blk_ext [w4]
  rw [e, V_v0 hr, up3_ix, up3_ix]
  refine congrArg (fun r : ℝ => (r : EReal)) ?_
  unfold projP lanes16
  by_cases h : y2.val < 16
  · rw [dif_pos h, dif_pos (by show 6656 + y2.val < 6672; omega)]
    rfl
  · rw [dif_neg h, dif_neg (by show ¬ (6656 + y2.val < 6672); omega)]

theorem blk5 : iblk m c 5 t = up2 fun k p => a.cw k ⟨p.val, by omega⟩ := by
  funext y; idx_vars y
  blk_simp [iblk]
  have e : (win0_5.blk t).view.emb (ix2 y0 y1) = ix2 y0 y1 := by blk_ext [w5]
  rw [e, V_v2 hr]

theorem blk6 : iblk m c 6 t = up2 fun k p => a.cw k ⟨1024 + p.val, by omega⟩ := by
  funext y; idx_vars y
  blk_simp [iblk]
  have e : (win0_6.blk t).view.emb (ix2 y0 y1) = ix2 y0 y1 := by blk_ext [w6]
  rw [e, V_v4 hr]

theorem blk7 : iblk m c 7 t = up2 fun _ p => a.cb ⟨p.val, by omega⟩ := by
  funext y; idx_vars y
  blk_simp [iblk]
  have e : (win0_7.blk t).view.emb (ix2 y0 y1) = ix2 y0 y1 := by blk_ext [w7]
  rw [e, V_v5 hr]

theorem blk8 : iblk m c 8 t = up2 fun _ p => a.cb ⟨1024 + p.val, by omega⟩ := by
  funext y; idx_vars y
  blk_simp [iblk]
  have e : (win0_8.blk t).view.emb (ix2 y0 y1) = ix2 y0 y1 := by blk_ext [w8]
  rw [e, V_v6 hr]

theorem blk9 : iblk m c 9 t = up2 fun _ => lanes16 a.dtb := by
  funext y; idx_vars y
  blk_simp [iblk]
  have e : (win0_9.blk t).view.emb (ix2 y0 y1) = ix2 y0 y1 := by blk_ext [w9]
  rw [e, V_v7 hr]

theorem blk10 : iblk m c 10 t = up2 fun _ => lanes16 a.alog := by
  funext y; idx_vars y
  blk_simp [iblk]
  have e : (win0_10.blk t).view.emb (ix2 y0 y1) = ix2 y0 y1 := by blk_ext [w10]
  rw [e, V_v8 hr]

theorem blk11 : iblk m c 11 t = up2 fun _ => lanes16 a.dsk := by
  funext y; idx_vars y
  blk_simp [iblk]
  have e : (win0_11.blk t).view.emb (ix2 y0 y1) = ix2 y0 y1 := by blk_ext [w11]
  rw [e, V_v9 hr]

/-- The values of a chunk. -/
theorem ux_eq : uxOf m c t = up2 fun i p => inp a (bt t) (tok (ck t) i) p := by
  rw [uxOf_eq m c t (blk0 hr t) (pay7_eq hr t) (blk5 hr t) (blk7 hr t)]
  refine congrArg up2 (funext fun i => funext fun p => ?_)
  have h3 := halo_ext (a := a) t (fun p : Fin 1024 => ⟨p.val, by omega⟩) 3 (by decide) i p
  have h2 := halo_ext (a := a) t (fun p : Fin 1024 => ⟨p.val, by omega⟩) 2 (by decide) i p
  have h1 := halo_ext (a := a) t (fun p : Fin 1024 => ⟨p.val, by omega⟩) 1 (by decide) i p
  have h0 := halo_ext (a := a) t (fun p : Fin 1024 => ⟨p.val, by omega⟩) 0 (by decide) i p
  norm_num only at h0 h1 h2 h3
  rw [h0, h1, h2, h3]
  rfl

theorem ub_eq : ubOf m c t = up2 fun i k => gate a (bt t) (tok (ck t) i) k := by
  rw [ubOf_eq m c t (blk1 hr t) (pay11_eq hr t) (blk6 hr t) (blk8 hr t)]
  refine congrArg up2 (funext fun i => funext fun p => ?_)
  have h3 := halo_ext (a := a) t (fun p : Fin 512 => ⟨1024 + p.val, by omega⟩) 3 (by decide) i p
  have h2 := halo_ext (a := a) t (fun p : Fin 512 => ⟨1024 + p.val, by omega⟩) 2 (by decide) i p
  have h1 := halo_ext (a := a) t (fun p : Fin 512 => ⟨1024 + p.val, by omega⟩) 1 (by decide) i p
  have h0 := halo_ext (a := a) t (fun p : Fin 512 => ⟨1024 + p.val, by omega⟩) 0 (by decide) i p
  norm_num only at h0 h1 h2 h3
  rw [h0, h1, h2, h3]
  rfl

theorem dt_eq : dtOf m c t = up2 fun i h => dtP a (bt t) (tok (ck t) i) h := by
  unfold dtOf
  rw [blk4 hr t, blk9 hr t, pay17_eq]
  rfl

theorem ac_eq : acOf m c t = up2 fun i h => acs (fun s => dAP a (bt t) s h) (ck t) i := by
  unfold acOf
  rw [blk4 hr t, blk9 hr t, blk10 hr t, pay18_eq]
  rfl

end Cert.Kernel6Ideal.Scan
end
-- ==== Proof.ScanTiles.lean ====
/- The blocks of one chunk over real blocks: the outputs, the states after the chunk and the states before it. -/
module

public import proofs.«01_k».proof.Proof.ScanBody

@[expose] public section

set_option maxRecDepth 16384

noncomputable section

namespace Cert.Kernel6Ideal.Scan

open Cert.Kernel6Ideal Cert.Kernel6Ideal.Gen Idealize.ShloMosaic Cert.Lift

/-- A channel out of its pair and its lane; a channel's head, pair, lane and group. -/
def chan (j : Fin 8) (q : Fin 128) : Fin 1024 := ⟨128 * j.val + q.val, by omega⟩
def head (p : Fin 1024) : Fin 128 := ⟨p.val / 64, by omega⟩
def pair (p : Fin 1024) : Fin 8 := ⟨p.val / 128, by omega⟩
def inPair (p : Fin 1024) : Fin 128 := ⟨p.val % 128, by omega⟩
def grp (j : Fin 8) : Fin 2 := ⟨j.val / 4, by omega⟩

variable (U : Fin 128 → Fin 1024 → ℝ) (W : Fin 128 → Fin 512 → ℝ) (ac d : Fin 128 → Fin 128 → ℝ) (dk : Fin 1 → Fin 128 → ℝ)
  (st : Fin 8 → Fin 128 → Fin 128 → ℝ)

/-- A group's input and output gates, and their products. -/
def Bm (g : Fin 2) (k n : Fin 128) : ℝ := W k ⟨128 * g.val + n.val, by omega⟩
def Cm (g : Fin 2) (k n : Fin 128) : ℝ := W k ⟨256 + 128 * g.val + n.val, by omega⟩
def CBm (g : Fin 2) (i k : Fin 128) : ℝ := ∑ n, Cm W g i n * Bm W g k n

/-- One output of a chunk. -/
def yR (i : Fin 128) (p : Fin 1024) : ℝ :=
  (∑ n, Cm W (grp (pair p)) i n * st (pair p) n (inPair p)) * Real.exp (ac i (head p))
    + (∑ k, CBm W (grp (pair p)) i k * (if k.val ≤ i.val then Real.exp (ac i (head p) - ac k (head p)) else 0) * (U k p * d k (head p)))
    + dk 0 (head p) * U i p

/-- One state after a chunk. -/
def cR (j : Fin 8) (n q : Fin 128) : ℝ :=
  st j n q * Real.exp (ac 127 (head (chan j q)))
    + ∑ k, Bm W (grp j) k n * (U k (chan j q) * d k (head (chan j q)) * Real.exp (ac 127 (head (chan j q)) - ac k (head (chan j q))))

theorem pay33_eq : k0_pay33 (F := Ideal) (up2 U : FVec Ideal S128x1024 .f32) = up2 fun k q => U k (chan 0 q) := by
  funext i; idx_vars i; pointwise [k0_pay33]; simp only [up2_ix]; congr 2; ext; simp [chan]
theorem pay50_eq : k0_pay50 (F := Ideal) (up2 U : FVec Ideal S128x1024 .f32) = up2 fun k q => U k (chan 1 q) := by
  funext i; idx_vars i; pointwise [k0_pay50]; simp only [up2_ix]; congr 2
theorem pay66_eq : k0_pay66 (F := Ideal) (up2 U : FVec Ideal S128x1024 .f32) = up2 fun k q => U k (chan 2 q) := by
  funext i; idx_vars i; pointwise [k0_pay66]; simp only [up2_ix]; congr 2
theorem pay83_eq : k0_pay83 (F := Ideal) (up2 U : FVec Ideal S128x1024 .f32) = up2 fun k q => U k (chan 3 q) := by
  funext i; idx_vars i; pointwise [k0_pay83]; simp only [up2_ix]; congr 2
theorem pay105_eq : k0_pay105 (F := Ideal) (up2 U : FVec Ideal S128x1024 .f32) = up2 fun k q => U k (chan 4 q) := by
  funext i; idx_vars i; pointwise [k0_pay105]; simp only [up2_ix]; congr 2
theorem pay121_eq : k0_pay121 (F := Ideal) (up2 U : FVec Ideal S128x1024 .f32) = up2 fun k q => U k (chan 5 q) := by
  funext i; idx_vars i; pointwise [k0_pay121]; simp only [up2_ix]; congr 2
theorem pay138_eq : k0_pay138 (F := Ideal) (up2 U : FVec Ideal S128x1024 .f32) = up2 fun k q => U k (chan 6 q) := by
  funext i; idx_vars i; pointwise [k0_pay138]; simp only [up2_ix]; congr 2
theorem pay152_eq : k0_pay152 (F := Ideal) (up2 U : FVec Ideal S128x1024 .f32) = up2 fun k q => U k (chan 7 q) := by
  funext i; idx_vars i; pointwise [k0_pay152]; simp only [up2_ix]; congr 2
theorem pay23_eq : k0_pay23 (F := Ideal) (up2 W : FVec Ideal S128x512 .f32) = up2 (Cm W 0) := by
  funext i; idx_vars i; pointwise [k0_pay23]; simp only [up2_ix]; congr 2
theorem pay94_eq : k0_pay94 (F := Ideal) (up2 W : FVec Ideal S128x512 .f32) = up2 (Cm W 1) := by
  funext i; idx_vars i; pointwise [k0_pay94]; simp only [up2_ix]; congr 2
theorem pay22_eq : k0_pay22 (F := Ideal) (up2 W : FVec Ideal S128x512 .f32) = up2 (Bm W 0) := by
  funext i; idx_vars i; pointwise [k0_pay22]; simp only [up2_ix]; unfold Bm; congr 2; ext; simp
theorem pay93_eq : k0_pay93 (F := Ideal) (up2 W : FVec Ideal S128x512 .f32) = up2 (Bm W 1) := by
  funext i; idx_vars i; pointwise [k0_pay93]; simp only [up2_ix]; congr 2
theorem pay24_eq : k0_pay24 (F := Ideal) (up2 W : FVec Ideal S128x512 .f32) = up2 (CBm W 0) := by
  unfold k0_pay24; rw [pay22_eq, pay23_eq]
  funext i; idx_vars i; pointwise; simp only [up2_ix, ← EReal.coe_mul, coe_sum]; rfl
theorem pay95_eq : k0_pay95 (F := Ideal) (up2 W : FVec Ideal S128x512 .f32) = up2 (CBm W 1) := by
  unfold k0_pay95; rw [pay93_eq, pay94_eq]
  funext i; idx_vars i; pointwise; simp only [up2_ix, ← EReal.coe_mul, coe_sum]; rfl
theorem pay25_eq : k0_pay25 (F := Ideal) (up2 W : FVec Ideal S128x512 .f32) = up2 fun n k => Bm W 0 k n := by
  unfold k0_pay25; rw [pay22_eq]
  funext i; idx_vars i; pointwise; simp only [up2_ix]
theorem pay96_eq : k0_pay96 (F := Ideal) (up2 W : FVec Ideal S128x512 .f32) = up2 fun n k => Bm W 1 k n := by
  unfold k0_pay96; rw [pay93_eq]
  funext i; idx_vars i; pointwise; simp only [up2_ix]

theorem pair_chan (j : Fin 8) (q : Fin 128) : pair (chan j q) = j := by ext; simp only [pair, chan]; omega
theorem inPair_chan (j : Fin 8) (q : Fin 128) : inPair (chan j q) = q := by ext; simp only [inPair, chan]; omega
theorem head_chan (j : Fin 8) (h0 h1 q : Fin 128) (e0 : h0.val = 2 * j.val) (e1 : h1.val = 2 * j.val + 1) : hd h0 h1 q = head (chan j q) := by
  ext; unfold hd; split_ifs <;> simp only [head, chan] <;> omega

theorem yR_chan (j : Fin 8) (h0 h1 : Fin 128) (e0 : h0.val = 2 * j.val) (e1 : h1.val = 2 * j.val + 1) (i q : Fin 128) :
    yR U W ac d dk st i (chan j q) = (∑ n, Cm W (grp j) i n * st j n q) * Real.exp (ac i (hd h0 h1 q))
      + (∑ k, CBm W (grp j) i k * (if k.val ≤ i.val then Real.exp (ac i (hd h0 h1 q) - ac k (hd h0 h1 q)) else 0) * (U k (chan j q) * d k (hd h0 h1 q)))
      + dk 0 (hd h0 h1 q) * U i (chan j q) := by
  unfold yR
  rw [pair_chan, inPair_chan, ← head_chan j h0 h1 q e0 e1]

theorem cR_chan (j : Fin 8) (h0 h1 : Fin 128) (e0 : h0.val = 2 * j.val) (e1 : h1.val = 2 * j.val + 1) (n q : Fin 128) :
    cR U W ac d st j n q = st j n q * Real.exp (ac 127 (hd h0 h1 q))
      + ∑ k, Bm W (grp j) k n * (U k (chan j q) * d k (hd h0 h1 q) * Real.exp (ac 127 (hd h0 h1 q) - ac k (hd h0 h1 q))) := by
  unfold cR
  rw [← head_chan j h0 h1 q e0 e1]

/-- One pair's outputs are its lanes' of the block. -/
theorem y_tile (j : Fin 8) (h0 h1 : Fin 128) (e0 : h0.val = 2 * j.val) (e1 : h1.val = 2 * j.val + 1)
    (x : S1x128x128.Idx) (y : S1x128x1024.Idx) (hy1 : (y 1).val = (x 1).val) (hy2 : (y 2).val = 128 * j.val + (x 2).val) :
    yG (BitVec.ofNat 32 h0.val) (BitVec.ofNat 32 h1.val) (up2 fun k q => U k (chan j q)) (up2 (Cm W (grp j))) (up2 (CBm W (grp j))) (up2 ac) (up2 d) (up2 dk)
      (up2 fun _ k => ac k h0) (up2 fun _ k => ac k h1) (up3 fun _ => st j) x
    = (up3 fun _ i p => yR U W ac d dk st i p : Vec Ideal S1x128x1024 .f32) y := by
  rw [yG_eq]
  have ey1 : y 1 = x 1 := Fin.ext hy1
  have ey2 : y 2 = chan j (x 2) := Fin.ext hy2
  show (((_ : ℝ) : EReal)) = ((yR U W ac d dk st (y 1) (y 2) : ℝ) : EReal)
  rw [ey1, ey2]
  exact congrArg (fun r : ℝ => (r : EReal)) (yR_chan U W ac d dk st j h0 h1 e0 e1 (x 1) (x 2)).symm

/-- One pair's states are its block of all of them. -/
theorem c_tile (j : Fin 8) (h0 h1 : Fin 128) (e0 : h0.val = 2 * j.val) (e1 : h1.val = 2 * j.val + 1)
    (x : S1x128x128.Idx) (y : S8x128x128.Idx) (hy0 : (y 0).val = j.val + (x 0).val) (hy1 : (y 1).val = (x 1).val) (hy2 : (y 2).val = (x 2).val) :
    stG (BitVec.ofNat 32 h0.val) (BitVec.ofNat 32 h1.val) (up2 fun k q => U k (chan j q)) (up2 fun n k => Bm W (grp j) k n) (up2 ac) (up2 d) (up2 fun _ h => ac 127 h)
      (up3 fun _ => st j) x
    = (up3 (cR U W ac d st) : Vec Ideal S8x128x128 .f32) y := by
  rw [stG_eq]
  have ey0 : y 0 = j := Fin.ext (by have := (x 0).isLt; have e : (x 0).val < 1 := this; omega)
  have ey1 : y 1 = x 1 := Fin.ext hy1
  have ey2 : y 2 = x 2 := Fin.ext hy2
  show (((_ : ℝ) : EReal)) = ((cR U W ac d st (y 0) (y 1) (y 2) : ℝ) : EReal)
  rw [ey0, ey1, ey2]
  exact congrArg (fun r : ℝ => (r : EReal)) (cR_chan U W ac d st j h0 h1 e0 e1 (x 1) (x 2)).symm

theorem yBlk_eq : yBlk (up2 U) (up2 W) (up2 ac) (up2 d) (up2 dk) (fun h => up2 fun _ k => ac k ⟨h.val, by omega⟩) (fun j => up3 fun _ => st j)
    = (up3 fun _ i p => yR U W ac d dk st i p : Vec Ideal S1x128x1024 .f32) := by
  unfold yBlk
  rw [pay33_eq, pay50_eq, pay66_eq, pay83_eq, pay105_eq, pay121_eq, pay138_eq, pay152_eq, pay23_eq, pay24_eq, pay94_eq, pay95_eq]
  funext y
  canon_tiles x hx using View.cover_of_tiled_head _ _ _ (by rfl) y
  · exact y_tile U W ac d dk st 7 14 15 rfl rfl x y hx1 hx2
  · exact y_tile U W ac d dk st 6 12 13 rfl rfl x y hx1 hx2
  · exact y_tile U W ac d dk st 5 10 11 rfl rfl x y hx1 hx2
  · exact y_tile U W ac d dk st 4 8 9 rfl rfl x y hx1 hx2
  · exact y_tile U W ac d dk st 3 6 7 rfl rfl x y hx1 hx2
  · exact y_tile U W ac d dk st 2 4 5 rfl rfl x y hx1 hx2
  · exact y_tile U W ac d dk st 1 2 3 rfl rfl x y hx1 hx2
  · exact y_tile U W ac d dk st 0 0 1 rfl rfl x y hx1 (by simpa using hx2)

/-- What was there before does not show where the later pieces cover. -/
theorem canon_append {s : Shape} (L₁ L₂ : List (View.Piece (Elt Ideal) s .f32)) (y : s.Idx) (h : ∃ p ∈ L₁, y ∈ p.1.set) :
    View.canon (L₁ ++ L₂) y = View.canon L₁ y := by
  induction L₁ with
  | nil => obtain ⟨p, hp, _⟩ := h; exact absurd hp (List.not_mem_nil)
  | cons p L ih =>
    rw [List.cons_append]
    obtain ⟨r, w⟩ := p
    by_cases hy : y ∈ r.set
    · obtain ⟨x, rfl⟩ := r.exists_idx_of_mem hy
      exact (View.canon_cons_emb r w _ x).trans (View.canon_cons_emb r w _ x).symm
    · rw [View.canon_cons_of_not_mem _ _ hy, View.canon_cons_of_not_mem _ _ hy]
      refine ih ?_
      obtain ⟨q, hq, hyq⟩ := h
      rcases List.mem_cons.1 hq with rfl | hq
      · exact absurd hyq hy
      · exact ⟨q, hq, hyq⟩

theorem cBlk_eq (L) : cBlk (up2 U) (up2 W) (up2 ac) (up2 d) (up2 fun _ h => ac 127 h) (fun j => up3 fun _ => st j) L
    = (up3 (cR U W ac d st) : Vec Ideal S8x128x128 .f32) := by
  unfold cBlk
  rw [pay33_eq, pay50_eq, pay66_eq, pay83_eq, pay105_eq, pay121_eq, pay138_eq, pay152_eq, pay25_eq, pay96_eq]
  funext y
  rw [canon_append _ _ _ (View.cover_of_tiled_head _ _ _ (by rfl) y)]
  canon_tiles x hx using View.cover_of_tiled_head _ _ _ (by rfl) y
  · exact c_tile U W ac d st 7 14 15 rfl rfl x y hx0 hx1 hx2
  · exact c_tile U W ac d st 6 12 13 rfl rfl x y hx0 hx1 hx2
  · exact c_tile U W ac d st 5 10 11 rfl rfl x y hx0 hx1 hx2
  · exact c_tile U W ac d st 4 8 9 rfl rfl x y hx0 hx1 hx2
  · exact c_tile U W ac d st 3 6 7 rfl rfl x y hx0 hx1 hx2
  · exact c_tile U W ac d st 2 4 5 rfl rfl x y hx0 hx1 hx2
  · exact c_tile U W ac d st 1 2 3 rfl rfl x y hx0 hx1 hx2
  · exact c_tile U W ac d st 0 0 1 rfl rfl x y (by simpa using hx0) hx1 hx2

/-- One pair's states, as they are given out. -/
theorem s_tile (j : Fin 8) (x : S1x1x1x128x128.Idx) (y : S1x1x8x128x128.Idx) (h2 : (y 2).val = j.val + (x 2).val) (h3 : (y 3).val = (x 3).val) (h4 : (y 4).val = (x 4).val) :
    k0_pay36 (F := Ideal) (up3 fun _ => st j) x = ((st (y 2) (y 3) (y 4) : ℝ) : EReal) := by
  have e2 : y 2 = j := Fin.ext (by have := (x 2).isLt; have e : (x 2).val < 1 := this; omega)
  have e3 : y 3 = x 3 := Fin.ext h3
  have e4 : y 4 = x 4 := Fin.ext h4
  rw [e2, e3, e4]
  idx_vars x
  pointwise [k0_pay36, k0_pay35]
  simp only [up3_ix]

theorem sBlk_eq : sBlk (fun j => up3 fun _ => st j) = fun y => ((st (y 2) (y 3) (y 4) : ℝ) : EReal) := by
  unfold sBlk
  funext y
  canon_tiles x hx using View.cover_of_tiled_head _ _ _ (by rfl) y
  · exact s_tile st 7 x y hx2 hx3 hx4
  · exact s_tile st 6 x y hx2 hx3 hx4
  · exact s_tile st 5 x y hx2 hx3 hx4
  · exact s_tile st 4 x y hx2 hx3 hx4
  · exact s_tile st 3 x y hx2 hx3 hx4
  · exact s_tile st 2 x y hx2 hx3 hx4
  · exact s_tile st 1 x y hx2 hx3 hx4
  · exact s_tile st 0 x y (by simpa using hx2) hx3 hx4

end Cert.Kernel6Ideal.Scan
end
-- ==== Proof.ScanStep.lean ====
/- The scan, chunk by chunk, against the real one. -/
module

public import proofs.«01_k».proof.Proof.ScanBlocks
public import proofs.«01_k».proof.Proof.ScanTiles

@[expose] public section

set_option maxRecDepth 16384

noncomputable section

namespace Cert.Kernel6Ideal.Scan

open Cert.Kernel6Ideal Cert.Kernel6Ideal.Gen Idealize.ShloMosaic Idealize.ShloMosaic.TcCoe Cert.Lift Cert.Scan

section Real

variable (a : Args) (b : Fin 2) (k : Fin 32)

/-- A chunk's values: inputs, gates, decays' sums, step sizes, and the states before it. -/
def kU (i : Fin 128) (p : Fin 1024) : ℝ := inp a b (tok k i) p
def kW (i : Fin 128) (n : Fin 512) : ℝ := gate a b (tok k i) n
def kA (i h : Fin 128) : ℝ := acs (fun s => dAP a b s h) k i
def kD (i h : Fin 128) : ℝ := dtP a b (tok k i) h
def kS (j : Fin 8) (n q : Fin 128) : ℝ := S a b k.val (chan j q) n

theorem grp_chan (j : Fin 8) (q : Fin 128) : gr (chan j q) = grp j := by ext; simp only [gr, chan, grp]; omega
theorem chan_pair (p : Fin 1024) : chan (pair p) (inPair p) = p := by ext; simp only [chan, pair, inPair]; omega
theorem grp_pair (p : Fin 1024) : grp (pair p) = gr p := by rw [← grp_chan _ (inPair p), chan_pair]

theorem kA_head (i : Fin 128) (p : Fin 1024) : kA a b k i (head p) = acs (fun s => dA a b s (hd16 p)) k i :=
  congrArg (fun f => acs f k i) (funext fun s => dAP_head a b s (hd16 p))
theorem kD_head (i : Fin 128) (p : Fin 1024) : kD a b k i (head p) = dt a b (tok k i) (hd16 p) :=
  dtP_head a b (tok k i) (hd16 p)

theorem y_real (i : Fin 128) (p : Fin 1024) :
    yR (kU a b k) (kW a b k) (kA a b k) (kD a b k) (fun _ => lanes16 a.dsk) (kS a b k) i p = Y a b (tok k i) p := by
  have hs : ∀ n, kS a b k (pair p) n (inPair p) = carried (fun s => dA a b s (hd16 p)) (sc a b p) (Bg a b (gr p)) k.val n := fun n => by
    unfold kS; rw [chan_pair]; rfl
  have hk : lanes16 a.dsk (head p) = a.dsk (hd16 p) := dif_pos (hd16 p).isLt
  unfold yR Y
  rw [out_tok, grp_pair]
  simp only [hs, hk, kA_head, kD_head]
  rfl

theorem c_real (j : Fin 8) (n q : Fin 128) :
    cR (kU a b k) (kW a b k) (kA a b k) (kD a b k) (kS a b k) j n q = S a b (k.val + 1) (chan j q) n := by
  have hs : kS a b k j n q = carried (fun s => dA a b s (hd16 (chan j q))) (sc a b (chan j q)) (Bg a b (grp j)) k.val n := by
    rw [← grp_chan j q]; rfl
  unfold cR S
  rw [carried_succ, grp_chan]
  simp only [hs, kA_head, kD_head]
  rfl

theorem kS_zero (h : k.val = 0) (j : Fin 8) (n q : Fin 128) : kS a b k j n q = 0 := by
  unfold kS S; rw [h]; exact carried_zero _ _ _ _

end Real

variable {m : (ℓ : Loc nD τ sig) → Buf (Elt Ideal) ℓ} {c : Dev nD} {a : Args} (hr : IsReal m c a)

theorem before_zero (t : Fin cfg0.N) (h0 : t.val % 32 = 0) : stZero = fun j => up3 fun _ => kS a (bt t) (ck t) j := by
  funext j y
  exact congrArg (fun r : ℝ => (r : EReal)) (kS_zero a (bt t) (ck t) h0 j (y 1) (y 2)).symm

include hr

theorem args_eq (t : Fin cfg0.N) : uxOf m c t = up2 (kU a (bt t) (ck t)) ∧ ubOf m c t = up2 (kW a (bt t) (ck t)) ∧ acOf m c t = up2 (kA a (bt t) (ck t))
    ∧ dtOf m c t = up2 (kD a (bt t) (ck t)) ∧ iblk m c 11 t = up2 (fun _ => lanes16 a.dsk)
    ∧ rowOf m c t = (fun h => up2 fun _ k => kA a (bt t) (ck t) k ⟨h.val, by omega⟩) ∧ laOf m c t = up2 fun _ h => kA a (bt t) (ck t) 127 h :=
  ⟨ux_eq hr t, ub_eq hr t, ac_eq hr t, dt_eq hr t, blk11 hr t, rowOf_eq m c t (ac_eq hr t), laOf_eq m c t (ac_eq hr t)⟩

theorem carried_step (t : Fin cfg0.N) (L) :
    cBlk (uxOf m c t) (ubOf m c t) (acOf m c t) (dtOf m c t) (laOf m c t) (fun j => up3 fun _ => kS a (bt t) (ck t) j) L
      = up3 fun j n q => S a (bt t) ((ck t).val + 1) (chan j q) n := by
  obtain ⟨e0, e1, e2, e3, -, -, e6⟩ := args_eq hr t
  rw [e0, e1, e2, e3, e6, cBlk_eq]
  exact congrArg up3 (funext fun j => funext fun n => funext fun q => c_real a (bt t) (ck t) j n q)

theorem y_step (t : Fin cfg0.N) :
    yBlk (uxOf m c t) (ubOf m c t) (acOf m c t) (dtOf m c t) (iblk m c 11 t) (rowOf m c t) (fun j => up3 fun _ => kS a (bt t) (ck t) j)
      = up3 fun _ i p => Y a (bt t) (tok (ck t) i) p := by
  obtain ⟨e0, e1, e2, e3, e4, e5, -⟩ := args_eq hr t
  rw [e0, e1, e2, e3, e4, e5, yBlk_eq]
  exact congrArg up3 (funext fun _ => funext fun i => funext fun p => y_real a (bt t) (ck t) i p)

theorem before_next (t : Fin cfg0.N) (h0 : ¬ t.val % 32 = 0)
    (ih : ∀ t' : Fin cfg0.N, t'.val + 1 = t.val → (outsAt0 m c t'.val t'.isLt).2.2 = up3 fun j n q => S a (bt t') ((ck t').val + 1) (chan j q) n) :
    stOf (outsAt0 m c (t.val - 1) (by omega)).2.2 = fun j => up3 fun _ => kS a (bt t) (ck t) j := by
  have h := ih ⟨t.val - 1, by omega⟩ (by show t.val - 1 + 1 = t.val; omega)
  have eb : bt ⟨t.val - 1, by omega⟩ = bt t := Fin.ext (by show (t.val - 1) / 32 = t.val / 32; omega)
  have ek : (ck ⟨t.val - 1, by omega⟩).val + 1 = (ck t).val := by show (t.val - 1) % 32 + 1 = t.val % 32; omega
  rw [eb, ek] at h
  exact (congrArg stOf h).trans (stOf_eq _)

theorem carried_at (n : ℕ) : ∀ t : Fin cfg0.N, t.val = n → (outsAt0 m c t.val t.isLt).2.2 = up3 fun j n q => S a (bt t) ((ck t).val + 1) (chan j q) n := by
  induction n with
  | zero =>
    intro t ht
    have h0 : t.val % 32 = 0 := by omega
    rw [cA m c t h0, before_zero (a := a) t h0, carried_step hr]
  | succ n ih =>
    intro t ht
    by_cases h0 : t.val % 32 = 0
    · rw [cA m c t h0, before_zero (a := a) t h0, carried_step hr]
    · rw [cB m c t h0, before_next hr t h0 fun t' h' => ih t' (by omega), carried_step hr]

/-- The states a point begins with. -/
theorem before_at (t : Fin cfg0.N) (h0 : ¬ t.val % 32 = 0) :
    stOf (outsAt0 m c (t.val - 1) (by omega)).2.2 = fun j => up3 fun _ => kS a (bt t) (ck t) j :=
  before_next hr t h0 fun t' _ => carried_at hr t'.val t' rfl

theorem y_at (t : Fin cfg0.N) : (outsAt0 m c t.val t.isLt).1 = up3 fun _ i p => Y a (bt t) (tok (ck t) i) p := by
  by_cases h0 : t.val % 32 = 0
  · rw [yA m c t h0, before_zero (a := a) t h0, y_step hr]
  · rw [yB m c t h0, before_at hr t h0, y_step hr]

theorem s_at (t : Fin cfg0.N) : (outsAt0 m c t.val t.isLt).2.1 = fun y => ((kS a (bt t) (ck t) (y 2) (y 3) (y 4) : ℝ) : EReal) := by
  by_cases h0 : t.val % 32 = 0
  · rw [sA m c t h0, before_zero (a := a) t h0, sBlk_eq]
  · rw [sB m c t h0, before_at hr t h0, sBlk_eq]

end Cert.Kernel6Ideal.Scan
end
-- ==== Proof.ScanArr.lean ====
/- The scan's two results as whole arrays. -/
module

public import proofs.«01_k».proof.Proof.ScanStep

@[expose] public section

set_option maxRecDepth 16384

noncomputable section

namespace Cert.Kernel6Ideal.Scan

open Cert.Kernel6Ideal Cert.Kernel6Ideal.Gen Idealize.ShloMosaic Idealize.ShloMosaic.TcCoe Cert.Lift Cert.Scan

theorem w12 : ∀ t : Fin cfg0.N, win0_12.index t = ![t.val / 32, t.val % 32, 0] := (by decide +kernel : ∀ t : Fin grid0.N, win0_12.index t = ![t.val / 32, t.val % 32, 0])
theorem w13 : ∀ t : Fin cfg0.N, win0_13.index t = ![t.val / 32, t.val % 32, 0, 0, 0] := (by decide +kernel : ∀ t : Fin grid0.N, win0_13.index t = ![t.val / 32, t.val % 32, 0, 0, 0])

/-- The states before the chunks. -/
def states (a : Args) : (⟨5, ![2, 32, 8, 128, 128]⟩ : Shape).Idx → EReal := fun i => ((S a (i 0) (i 1).val (chan (i 2) (i 4)) (i 3) : ℝ) : EReal)

variable {m : (ℓ : Loc nD τ sig) → Buf (Elt Ideal) ℓ} {c : Dev nD} {a : Args} (hr : IsReal m c a)
include hr

theorem arr12 : (dats m 0 c).arrAt 12 cfg0.N = up3 (Y a) :=
  (dats m 0 c).arrAt_eq_of_covers 12 (up3 (Y a)) (by decide +kernel) fun t hf y => by
    have ht : t.val < 64 := t.isLt
    blk_simp
    rw [after0_12]
    idx_vars y
    have e : (win0_12.blk t).view.emb (ix3 y0 y1 y2) = ix3 (⟨t.val / 32, by omega⟩ : Fin 2) (⟨128 * (t.val % 32) + y1.val, by omega⟩ : Fin 4096) y2 := by blk_ext [w12]
    rw [e, y_at hr]
    rfl

theorem arr13 : (dats m 0 c).arrAt 13 cfg0.N = states a :=
  (dats m 0 c).arrAt_eq_of_covers 13 (states a) (by decide +kernel) fun t hf y => by
    have ht : t.val < 64 := t.isLt
    blk_simp
    rw [after0_13]
    idx_vars y
    have e : (win0_13.blk t).view.emb (ix5 y0 y1 y2 y3 y4) = ix5 (⟨t.val / 32, by omega⟩ : Fin 2) (⟨t.val % 32, by omega⟩ : Fin 32) y2 y3 y4 := by blk_ext [w13]
    rw [e, s_at hr]
    rfl

end Cert.Kernel6Ideal.Scan
end
-- ==== Proof.ScanRef.lean ====
/- The scan's reference over real arguments, stage by stage. -/
module

public import proofs.«01_k».proof.Proof.ScanArgs
public import proofs.«01_k».proof.Proof.AttnRef
public import proofs.«01_k».proof.Proof.Gen.Reference6Ideal.Read
public import Idealize.ShloMosaic.Lib.WordCmp

@[expose] public section

set_option maxRecDepth 16384

noncomputable section

namespace Cert.Scan.Ref

open Cert.Reference6Ideal Cert.Reference6Ideal.Value Cert.Reference6Ideal.Read Idealize.ShloMosaic Cert.Lift Cert.Scan
open Cert.Attn.Ref (up4 up3_at)

variable (a : Args)

/-- The arguments as arrays. -/
abbrev P : (⟨3, ![2, 4096, 6672]⟩ : Shape).Idx → EReal := up3 a.proj
abbrev W : (⟨3, ![1, 4, 1536]⟩ : Shape).Idx → EReal := up3 fun _ => a.cw
abbrev Bi : (⟨2, ![1, 1536]⟩ : Shape).Idx → EReal := up2 fun _ => a.cb
abbrev T : (⟨2, ![1, 16]⟩ : Shape).Idx → EReal := up2 fun _ => a.dtb
abbrev L : (⟨2, ![1, 16]⟩ : Shape).Idx → EReal := up2 fun _ => a.alog
abbrev D : (⟨2, ![1, 16]⟩ : Shape).Idx → EReal := up2 fun _ => a.dsk

theorem up2_at {k n : ℕ} (f : Fin k → Fin n → ℝ) (i : (⟨2, ![k, n]⟩ : Shape).Idx) (x : Fin k) (y : Fin n) (h0 : (i 0).val = x.val) (h1 : (i 1).val = y.val) :
    up2 f i = ((f x y : ℝ) : EReal) := by
  obtain rfl : i 0 = x := Fin.ext h0
  obtain rfl : i 1 = y := Fin.ext h1
  rfl

theorem r_v7 (b : Fin 2) (s : Fin 4099) (j : Fin 1536) :
    val_main_v7 (F := Ideal) (P a) (ix3 b s j) = ((if h : s.val < 3 then 0 else raw a b ⟨s.val - 3, by omega⟩ j : ℝ) : EReal) := by
  unfold val_main_v7
  by_cases h : s.val < 3
  · rw [dif_pos h]
    refine (concatenate_pair_apply_left (t := S2x4099x1536) (s₁ := S2x3x1536) (s₂ := S2x4096x1536) 1 _ _ _ (ix3 b s j) rfl (ix3 b ⟨s.val, h⟩ j) (by intro k; fin_cases k <;> rfl)).trans ?_
    rw [val_main_v6_apply, val_main_cst_apply]
    exact bits_zero
  · rw [dif_neg h]
    refine (concatenate_pair_apply_right (t := S2x4099x1536) (s₁ := S2x3x1536) (s₂ := S2x4096x1536) 1 _ _ _ (ix3 b s j) rfl rfl (ix3 b ⟨s.val - 3, by omega⟩ j) (by intro k hk; fin_cases k <;> first | rfl | exact absurd rfl hk) (Nat.sub_add_cancel (Nat.le_of_not_lt h))).trans ?_
    rw [val_main_v0_apply]
    exact up3_at a.proj _ _ _ ⟨5120 + j.val, by omega⟩ rfl rfl rfl

theorem tap0 (b : Fin 2) (s : Fin 4096) (j : Fin 1536) : val_main_v12 (F := Ideal) (W a) (ix3 b s j) = ((a.cw 0 j : ℝ) : EReal) := by
  rw [val_main_v12_apply, val_main_v11_apply, val_main_v10_apply, val_main_v9_apply, val_main_v2_apply]
  refine up3_at (fun _ => a.cw) _ 0 0 j rfl ?_ ?_
  · show (0 * 1536 + j.val % 1536) / 1536 % 4 = 0
    omega
  · show (0 * 1536 + j.val % 1536) % 1536 = j.val
    omega
theorem tap1 (b : Fin 2) (s : Fin 4096) (j : Fin 1536) : val_main_v21 (F := Ideal) (W a) (ix3 b s j) = ((a.cw 1 j : ℝ) : EReal) := by
  rw [val_main_v21_apply, val_main_v20_apply, val_main_v19_apply, val_main_v18_apply, val_main_v2_apply]
  refine up3_at (fun _ => a.cw) _ 0 1 j rfl ?_ ?_
  · show ((1 + 0) * 1536 + j.val % 1536) / 1536 % 4 = 1
    omega
  · show ((1 + 0) * 1536 + j.val % 1536) % 1536 = j.val
    omega
theorem tap2 (b : Fin 2) (s : Fin 4096) (j : Fin 1536) : val_main_v28 (F := Ideal) (W a) (ix3 b s j) = ((a.cw 2 j : ℝ) : EReal) := by
  rw [val_main_v28_apply, val_main_v27_apply, val_main_v26_apply, val_main_v25_apply, val_main_v2_apply]
  refine up3_at (fun _ => a.cw) _ 0 2 j rfl ?_ ?_
  · show ((2 + 0) * 1536 + j.val % 1536) / 1536 % 4 = 2
    omega
  · show ((2 + 0) * 1536 + j.val % 1536) % 1536 = j.val
    omega
theorem tap3 (b : Fin 2) (s : Fin 4096) (j : Fin 1536) : val_main_v35 (F := Ideal) (W a) (ix3 b s j) = ((a.cw 3 j : ℝ) : EReal) := by
  rw [val_main_v35_apply, val_main_v34_apply, val_main_v33_apply, val_main_v32_apply, val_main_v2_apply]
  refine up3_at (fun _ => a.cw) _ 0 3 j rfl ?_ ?_
  · show ((3 + 0) * 1536 + j.val % 1536) / 1536 % 4 = 3
    omega
  · show ((3 + 0) * 1536 + j.val % 1536) % 1536 = j.val
    omega
theorem bias (b : Fin 2) (s : Fin 4096) (j : Fin 1536) : val_main_v15 (F := Ideal) (Bi a) (ix3 b s j) = ((a.cb j : ℝ) : EReal) := by
  rw [val_main_v15_apply, val_main_v14_apply, val_main_v3_apply]
  exact up2_at (fun _ => a.cb) _ 0 j rfl (Nat.mod_eq_of_lt j.isLt)

/-- A row some positions back. -/
theorem back (d : ℕ) (hd : d ≤ 3) (b : Fin 2) (s : Fin 4096) (j : Fin 1536) (i : S2x4099x1536.Idx) (h0 : (i 0).val = b.val) (h1 : (i 1).val = 3 - d + s.val) (h2 : (i 2).val = j.val) :
    val_main_v7 (F := Ideal) (P a) i = ((col a b d s j : ℝ) : EReal) := by
  have e : i = ix3 b ⟨3 - d + s.val, by omega⟩ j := by
    funext k
    match k with
    | ⟨0, _⟩ => exact Fin.ext h0
    | ⟨1, _⟩ => exact Fin.ext h1
    | ⟨2, _⟩ => exact Fin.ext h2
  rw [e, r_v7]
  unfold col
  refine congrArg (fun r : ℝ => (r : EReal)) ?_
  by_cases h : s.val < d
  · rw [if_pos h, dif_pos (by show 3 - d + s.val < 3; omega)]
  · rw [if_neg h, dif_neg (by show ¬ (3 - d + s.val < 3); omega)]
    exact congrArg (fun s => raw a b s j) (Fin.ext (by show 3 - d + s.val - 3 = s.val - d; omega))

theorem r_v37 : val_main_v37 (F := Ideal) (P a) (W a) (Bi a) = up3 (pre a) := by
  funext i; idx_vars i
  rw [val_main_v37_apply, val_main_v30_apply, val_main_v23_apply, val_main_v16_apply, val_main_v13_apply, val_main_v22_apply, val_main_v29_apply, val_main_v36_apply,
    val_main_v8_apply, val_main_v17_apply, val_main_v24_apply, val_main_v31_apply, tap0, tap1, tap2, tap3, bias,
    back a 3 (by decide) i0 i1 i2 _ rfl (Nat.zero_add _).symm rfl, back a 2 (by decide) i0 i1 i2 _ rfl rfl rfl, back a 1 (by decide) i0 i1 i2 _ rfl rfl rfl, back a 0 (by decide) i0 i1 i2 _ rfl rfl rfl]
  show ((_ + _ * _) + _ * _ + _ * _ + _ * _ : EReal) = _
  simp only [← EReal.coe_mul, ← EReal.coe_add]
  rfl

theorem r_v38 : val_main_v38 (F := Ideal) (P a) (W a) (Bi a) = up3 (u a) := by
  funext i; idx_vars i
  rw [val_main_v38_apply, val_main_call0_v5_apply, val_main_call0_v3_apply, val_main_call0_v4_apply, val_main_call0_v2_apply, val_main_call0_v1_apply, val_main_call0_v0_apply, r_v37, val_main_call0_cst_apply, val_main_call0_cst_0_apply, up3_ix]
  show ((pre a i0 i1 i2 : ℝ) : EReal) * Ideal.div (Ideal.ofBits .f32 0x3F800000#32) (Ideal.ofBits .f32 0x3F800000#32 + Ideal.exp (-((pre a i0 i1 i2 : ℝ) : EReal))) = _
  rw [bits_one, ← EReal.coe_neg, Ideal.exp_coe, ← EReal.coe_add, coe_div (by have := Real.exp_pos (-(pre a i0 i1 i2)); linarith), ← EReal.coe_mul]
  rfl

/-- A head's channel, and its group. -/
def ch (h : Fin 16) (d : Fin 64) : Fin 1024 := ⟨64 * h.val + d.val, by omega⟩
def g8 (h : Fin 16) : Fin 2 := ⟨h.val / 8, by omega⟩

theorem hd_ch (h : Fin 16) (d : Fin 64) : hd16 (ch h d) = h := by ext; simp only [hd16, ch]; omega
theorem gr_ch (h : Fin 16) (d : Fin 64) : gr (ch h d) = g8 h := by ext; simp only [gr, ch, g8]; omega

theorem r_v42 (b : Fin 2) (s : Fin 4096) (h : Fin 16) (d : Fin 64) : val_main_v42 (F := Ideal) (P a) (W a) (Bi a) (ix4 b s h d) = ((inp a b s (ch h d) : ℝ) : EReal) := by
  rw [val_main_v42_apply, val_main_v39_apply, r_v38]
  have hb := b.isLt; have hs := s.isLt; have hh := h.isLt; have hd := d.isLt
  refine up3_at (u a) _ b s ⟨(ch h d).val, by omega⟩ ?_ ?_ ?_
  · show (((b.val * 4096 + s.val) * 16 + h.val) * 64 + d.val) / 4194304 = b.val
    omega
  · show (((b.val * 4096 + s.val) * 16 + h.val) * 64 + d.val) / 1024 % 4096 = s.val
    omega
  · show (((b.val * 4096 + s.val) * 16 + h.val) * 64 + d.val) % 1024 = 64 * h.val + d.val
    omega

/-- A softplus as it is computed. -/
theorem softplus (x : EReal) (y : ℝ) (hx : x = (y : EReal)) (c0 c2 w : EReal) (h0 : c0 = ((0 : ℝ) : EReal)) (h2 : c2 = ((0 : ℝ) : EReal)) :
    Scalar.select (FloatOps.cmpf (F := Ideal) (φ := .f32) .une (FloatOps.subf (F := Ideal) (φ := .f32) x c2) (FloatOps.subf (F := Ideal) (φ := .f32) x c2)) w
      (FloatOps.addf (F := Ideal) (φ := .f32) (FloatOps.maximumf (F := Ideal) (φ := .f32) x c0) (FloatOps.hostUnary (F := Ideal) (φ := .f32) .log1p (FloatOps.hostUnary (F := Ideal) (φ := .f32) .exp
        (FloatOps.hostNegf (F := Ideal) (φ := .f32) (FloatOps.hostAbsf (F := Ideal) (φ := .f32) (FloatOps.subf (F := Ideal) (φ := .f32) x c2))))))
    = ((sp y : ℝ) : EReal) := by
  refine (neg_neg _).symm.trans ((congrArg Neg.neg (Cert.Attn.Ref.softplus x y hx c0 c2 h0 h2 w)).trans ((EReal.coe_neg _).symm.trans (congrArg (fun r : ℝ => (r : EReal)) ?_)))
  rw [neg_neg, sp, zero_sub]
  rfl

theorem r_v46 : val_main_v46 (F := Ideal) (P a) (T a) = up3 (dt a) := by
  funext i; idx_vars i
  rw [val_main_v46_apply, val_main_call1_v4_apply, val_main_call1_v11_apply, val_main_call1_v10_apply, val_main_call1_v9_apply, val_main_call1_v8_apply, val_main_call1_v7_apply, val_main_call1_v1_apply, val_main_call1_v3_apply,
    val_main_call1_v0_apply, val_main_call1_v2_apply, val_main_call1_cst_apply]
  refine softplus _ _ ?_ _ _ _ bits_zero bits_zero
  rw [val_main_v45_apply, val_main_v1_apply, val_main_v44_apply, val_main_v43_apply, val_main_v4_apply]
  have e1 : P a (idx_main_v1 (ix3 i0 i1 i2)) = ((a.proj i0 i1 ⟨6656 + i2.val, by omega⟩ : ℝ) : EReal) := up3_at a.proj _ _ _ _ rfl rfl rfl
  have e2 : T a (idx_main_v4 (idx_main_v43 (idx_main_v44 (ix3 i0 i1 i2)))) = ((a.dtb i2 : ℝ) : EReal) := up2_at (fun _ => a.dtb) _ 0 _ rfl (Nat.mod_eq_of_lt i2.isLt)
  rw [e1, e2]
  exact (EReal.coe_add _ _).symm

theorem r_v61 : val_main_v61 (F := Ideal) (P a) (T a) (L a) = up3 (dA a) := by
  funext i; idx_vars i
  rw [val_main_v61_apply, val_main_v60_apply, val_main_v59_apply, val_main_v48_apply, val_main_v47_apply, val_main_v5_apply, r_v46]
  have e2 : L a (idx_main_v5 (idx_main_v59 (idx_main_v60 (ix3 i0 i1 i2)))) = ((a.alog i2 : ℝ) : EReal) := up2_at (fun _ => a.alog) _ 0 _ rfl (Nat.mod_eq_of_lt i2.isLt)
  rw [e2]
  show ((dt a i0 i1 i2 : ℝ) : EReal) * -(Ideal.exp ((a.alog i2 : ℝ) : EReal)) = _
  rw [Ideal.exp_coe, ← EReal.coe_neg, ← EReal.coe_mul]
  rfl

theorem i52 (b : Fin 2) (s : Fin 4096) (h : Fin 16) (n : Fin 128) : idx_main_v52 (ix4 b s h n) = ix5 b s (g8 h) ⟨h.val % 8, by omega⟩ n := by
  have hb := b.isLt; have hs := s.isLt; have hh := h.isLt; have hn := n.isLt
  funext k
  match k with
  | ⟨0, _⟩ => exact Fin.ext (show (((b.val * 4096 + s.val) * 16 + h.val) * 128 + n.val) / 8388608 = b.val by omega)
  | ⟨1, _⟩ => exact Fin.ext (show (((b.val * 4096 + s.val) * 16 + h.val) * 128 + n.val) / 2048 % 4096 = s.val by omega)
  | ⟨2, _⟩ => exact Fin.ext (show (((b.val * 4096 + s.val) * 16 + h.val) * 128 + n.val) / 1024 % 2 = h.val / 8 by omega)
  | ⟨3, _⟩ => exact Fin.ext (show (((b.val * 4096 + s.val) * 16 + h.val) * 128 + n.val) / 128 % 8 = h.val % 8 by omega)
  | ⟨4, _⟩ => exact Fin.ext (show (((b.val * 4096 + s.val) * 16 + h.val) * 128 + n.val) % 128 = n.val by omega)

theorem i51 (b : Fin 2) (s : Fin 4096) (g : Fin 2) (e : Fin 8) (n : Fin 128) : idx_main_v51 (ix5 b s g e n) = ix4 b s g n := by
  funext k; match k with | ⟨0, _⟩ => rfl | ⟨1, _⟩ => rfl | ⟨2, _⟩ => rfl | ⟨3, _⟩ => rfl

theorem i49 (b : Fin 2) (s : Fin 4096) (g : Fin 2) (n : Fin 128) : idx_main_v49 (ix4 b s g n) = ix3 b s ⟨128 * g.val + n.val, by omega⟩ := by
  have hb := b.isLt; have hs := s.isLt; have hh := g.isLt; have hn := n.isLt
  funext k
  match k with
  | ⟨0, _⟩ => exact Fin.ext (show (((b.val * 4096 + s.val) * 2 + g.val) * 128 + n.val) / 1048576 = b.val by omega)
  | ⟨1, _⟩ => exact Fin.ext (show (((b.val * 4096 + s.val) * 2 + g.val) * 128 + n.val) / 256 % 4096 = s.val by omega)
  | ⟨2, _⟩ => exact Fin.ext (show (((b.val * 4096 + s.val) * 2 + g.val) * 128 + n.val) % 256 = 128 * g.val + n.val by omega)

theorem r_v52 : val_main_v52 (F := Ideal) (P a) (W a) (Bi a) = up4 (n₀ := 2) (n₁ := 4096) (n₂ := 16) (n₃ := 128) fun b s h n => Bg a b (g8 h) s n := by
  funext i; idx_vars i
  rw [val_main_v52_apply, i52, val_main_v51_apply, i51, val_main_v49_apply, i49, val_main_v40_apply, r_v38]
  exact up3_at (u a) _ i0 i1 ⟨1024 + (128 * (g8 i2).val + i3.val), by omega⟩ rfl rfl rfl

theorem r_v54 : val_main_v54 (F := Ideal) (P a) (W a) (Bi a) = up4 (n₀ := 2) (n₁ := 4096) (n₂ := 16) (n₃ := 128) fun b s h n => Cg a b (g8 h) s n := by
  funext i; idx_vars i
  rw [val_main_v54_apply, show idx_main_v54 (ix4 i0 i1 i2 i3) = _ from i52 i0 i1 i2 i3, val_main_v53_apply, show idx_main_v53 _ = _ from i51 i0 i1 (g8 i2) _ i3, val_main_v50_apply, show idx_main_v50 _ = _ from i49 i0 i1 (g8 i2) i3,
    val_main_v41_apply, r_v38]
  exact up3_at (u a) _ i0 i1 ⟨1024 + (256 + 128 * (g8 i2).val + i3.val), by omega⟩ rfl rfl (by show 1280 + (128 * (g8 i2).val + i3.val) = 1024 + (256 + 128 * (g8 i2).val + i3.val); omega)

theorem r_v58 : val_main_v58 (F := Ideal) (P a) (W a) (Bi a) (T a) = up4 (n₀ := 2) (n₁ := 4096) (n₂ := 16) (n₃ := 64) fun b s h d => sc a b (ch h d) s := by
  funext i; idx_vars i
  rw [val_main_v58_apply, r_v42, val_main_v57_apply, val_main_v56_apply, r_v46]
  refine (EReal.coe_mul _ _).symm.trans (congrArg (fun r : ℝ => (r : EReal)) ?_)
  show inp a i0 i1 (ch i2 i3) * dt a i0 i1 i2 = inp a i0 i1 (ch i2 i3) * dt a i0 i1 (hd16 (ch i2 i3))
  rw [hd_ch]

/-- A chosen one or zero, and a product with it. -/
theorem pick {p : Prop} [Decidable p] (c : BitVec 1) (h : c = 1#1 ↔ p) (x y : ℝ) :
    Scalar.select c (x : EReal) (y : EReal) = ((if p then x else y : ℝ) : EReal) := by
  show (if c = 1#1 then (x : EReal) else (y : EReal)) = _
  by_cases hp : p
  · rw [if_pos (h.mpr hp), if_pos hp]
  · rw [if_neg (fun e => hp (h.mp e)), if_neg hp]

theorem r_v67 : val_main_v67 (F := Ideal) = up2 (n := 4096) (m := 4096) fun t s => if s.val ≤ t.val then 1 else 0 := by
  funext i; idx_vars i
  rw [val_main_v67_apply, val_main_call2_v0_apply, val_main_call2_v1_apply, val_main_cst_0_apply, val_main_cst_1_apply, val_main_v66_apply, val_main_v64_apply, val_main_v65_apply, val_main_v62_apply, val_main_v63_apply,
    val_main_v55_apply, val_main_v55_apply]
  show Scalar.select (IntOp.cmpi .sle (BitVec.ofNat 32 i1.val) (BitVec.ofNat 32 i0.val)) (Ideal.ofBits .f32 0x3F800000#32) (Ideal.ofBits .f32 0x00000000#32) = _
  rw [bits_one, bits_zero]
  exact pick _ (WordCmp.cmpi_sle_ofNat_eq_one_iff (by omega) (by omega)) 1 0

theorem r_v69 : val_main_v69 (F := Ideal) (P a) (T a) (L a) = up3 (k := 2) (n := 4096) (m := 16) fun b s h => cum (fun s => dA a b s h) s := by
  funext i; idx_vars i
  rw [val_main_v69_apply, val_main_v68_apply, r_v61, r_v67]
  refine (Finset.sum_congr rfl fun k _ => (EReal.coe_mul _ _).symm).trans ((coe_sum _ _).trans (congrArg (fun r : ℝ => (r : EReal)) ?_))
  refine Finset.sum_congr rfl fun k _ => ?_
  show dA a i0 k i2 * (if k.val ≤ i1.val then 1 else 0) = if k.val ≤ i1.val then dA a i0 k i2 else 0
  rw [mul_ite, mul_one, mul_zero]

theorem r_v81 : val_main_v81 (F := Ideal) (P a) (T a) (L a) = up4 (n₀ := 2) (n₁ := 4096) (n₂ := 4096) (n₃ := 16) fun b t s h =>
    if s.val ≤ t.val then Real.exp (cum (fun s => dA a b s h) t - cum (fun s => dA a b s h) s) else 0 := by
  funext i; idx_vars i
  rw [val_main_v81_apply, val_main_v80_apply, val_main_v79_apply, val_main_v77_apply, val_main_v78_apply, val_main_v75_apply, val_main_v76_apply, r_v69, val_main_call3_v1_apply, val_main_call3_v2_apply, val_main_call3_v0_apply,
    val_main_cst_2_apply, val_main_v74_apply, val_main_v72_apply, val_main_v73_apply, val_main_v70_apply, val_main_v71_apply, val_main_v55_apply, val_main_v55_apply]
  show Scalar.select (IntOp.cmpi .sge (BitVec.ofNat 32 i1.val) (BitVec.ofNat 32 i2.val))
    (Ideal.exp (((cum (fun s => dA a i0 s i3) i1 : ℝ) : EReal) - ((cum (fun s => dA a i0 s i3) i2 : ℝ) : EReal))) (Ideal.ofBits .f32 0x00000000#32) = _
  rw [← EReal.coe_sub, Ideal.exp_coe, bits_zero]
  exact pick _ (WordCmp.cmpi_sge_ofNat_eq_one_iff (by omega) (by omega)) _ 0

theorem r_v82 : val_main_v82 (F := Ideal) (P a) (W a) (Bi a) = up4 (n₀ := 2) (n₁ := 16) (n₂ := 4096) (n₃ := 4096) fun b h s t => ∑ n, Cg a b (g8 h) t n * Bg a b (g8 h) s n := by
  funext i; idx_vars i
  rw [val_main_v82_apply, r_v52, r_v54]
  refine (Finset.sum_congr rfl fun k _ => (EReal.coe_mul _ _).symm).trans ((coe_sum _ _).trans (congrArg (fun r : ℝ => (r : EReal)) ?_))
  exact Finset.sum_congr rfl fun k _ => mul_comm _ _

theorem r_v86 : val_main_v86 (F := Ideal) (P a) (W a) (Bi a) (T a) (L a) = up4 (n₀ := 2) (n₁ := 4096) (n₂ := 16) (n₃ := 64) fun b t h d =>
    out (fun s => dA a b s h) (sc a b (ch h d)) (Bg a b (g8 h)) (Cg a b (g8 h)) t := by
  funext i; idx_vars i
  rw [val_main_v86_apply, val_main_v85_apply, r_v58]
  have e : ∀ k, val_main_v84 (F := Ideal) (P a) (W a) (Bi a) (T a) (L a) (ridx_main_v85 (idx_main_v86 (ix4 i0 i1 i2 i3)) k)
    = (((∑ n, Cg a i0 (g8 i2) i1 n * Bg a i0 (g8 i2) k n) * (if k.val ≤ i1.val then Real.exp (cum (fun s => dA a i0 s i2) i1 - cum (fun s => dA a i0 s i2) k) else 0) : ℝ) : EReal) := fun k => by
    rw [val_main_v84_apply, val_main_v83_apply, r_v81, r_v82]
    exact (EReal.coe_mul _ _).symm
  rw [Finset.sum_congr rfl fun k _ => congrArg (_ * ·) (e k)]
  refine (Finset.sum_congr rfl fun k _ => (EReal.coe_mul _ _).symm).trans ((coe_sum _ _).trans (congrArg (fun r : ℝ => (r : EReal)) ?_))
  unfold out
  refine Finset.sum_congr rfl fun k _ => ?_
  show sc a i0 (ch i2 i3) k * ((∑ n, Cg a i0 (g8 i2) i1 n * Bg a i0 (g8 i2) k n) * (if k.val ≤ i1.val then Real.exp (cum (fun s => dA a i0 s i2) i1 - cum (fun s => dA a i0 s i2) k) else 0))
    = if k.val ≤ i1.val then sc a i0 (ch i2 i3) k * ((∑ n, Cg a i0 (g8 i2) i1 n * Bg a i0 (g8 i2) k n) * Real.exp (cum (fun s => dA a i0 s i2) i1 - cum (fun s => dA a i0 s i2) k)) else 0
  split_ifs
  · rfl
  · rw [mul_zero, mul_zero]

theorem r_v123 : val_main_v123 (F := Ideal) (P a) (W a) (Bi a) (T a) (L a) (D a) = up3 (Y a) := by
  funext i; idx_vars i
  have hb := i0.isLt; have hs := i1.isLt; have hp := i2.isLt
  have e : idx_main_v123 (ix3 i0 i1 i2) = ix4 i0 i1 (hd16 i2) (⟨i2.val % 64, by omega⟩ : Fin 64) := by
    funext k
    match k with
    | ⟨0, _⟩ => exact Fin.ext (show ((i0.val * 4096 + i1.val) * 1024 + i2.val) / 4194304 = i0.val by omega)
    | ⟨1, _⟩ => exact Fin.ext (show ((i0.val * 4096 + i1.val) * 1024 + i2.val) / 1024 % 4096 = i1.val by omega)
    | ⟨2, _⟩ => exact Fin.ext (show ((i0.val * 4096 + i1.val) * 1024 + i2.val) / 64 % 16 = i2.val / 64 by omega)
    | ⟨3, _⟩ => exact Fin.ext (show ((i0.val * 4096 + i1.val) * 1024 + i2.val) % 64 = i2.val % 64 by omega)
  have ec : ch (hd16 i2) ⟨i2.val % 64, by omega⟩ = i2 := by ext; simp only [ch, hd16]; omega
  rw [val_main_v123_apply, e, val_main_v122_apply, r_v86, val_main_v121_apply, r_v42, val_main_v120_apply, val_main_v119_apply, val_main_v118_apply, val_main_v117_apply]
  have ed : D a (idx_main_v117 (idx_main_v118 (idx_main_v119 (idx_main_v120 (ix4 i0 i1 (hd16 i2) (⟨i2.val % 64, by omega⟩ : Fin 64)))))) = ((a.dsk (hd16 i2) : ℝ) : EReal) :=
    up2_at (fun _ => a.dsk) _ 0 _ rfl (Nat.mod_eq_of_lt (hd16 i2).isLt)
  rw [ed, ec]
  refine (congrArg (_ + ·) (EReal.coe_mul _ _).symm).trans ((EReal.coe_add _ _).symm.trans (congrArg (fun r : ℝ => (r : EReal)) ?_))
  show out _ (sc a i0 (ch (hd16 i2) ⟨i2.val % 64, _⟩)) (Bg a i0 (g8 (hd16 i2))) (Cg a i0 (g8 (hd16 i2))) i1 + _ = _
  rw [← gr_ch (hd16 i2) ⟨i2.val % 64, by omega⟩, ec]
  rfl

/-- The step a chunk begins with. -/
theorem start (c : Fin 32) : IntOp.muli (128#32) (BitVec.ofNat 32 c.val) = BitVec.ofNat 32 (128 * c.val) := by
  show (128#32) * BitVec.ofNat 32 c.val = _
  rw [BitVec.ofNat_mul]

theorem r_v95 : val_main_v95 (F := Ideal) = up2 (n := 32) (m := 4096) fun c s => if s.val < 128 * c.val then 1 else 0 := by
  funext i; idx_vars i
  rw [val_main_v95_apply, val_main_call4_v0_apply, val_main_call4_v1_apply, val_main_cst_3_apply, val_main_cst_4_apply, val_main_v94_apply, val_main_v92_apply, val_main_v93_apply, val_main_v90_apply, val_main_v91_apply,
    val_main_v55_apply, val_main_v89_apply, val_main_v88_apply, val_main_v87_apply, val_main_c_apply]
  show Scalar.select (IntOp.cmpi .slt (BitVec.ofNat 32 i1.val) (IntOp.muli (128#32) (BitVec.ofNat 32 i0.val))) (Ideal.ofBits .f32 0x3F800000#32) (Ideal.ofBits .f32 0x00000000#32) = _
  rw [bits_one, bits_zero, start]
  exact pick _ (WordCmp.cmpi_slt_ofNat_eq_one_iff (by omega) (by omega)) 1 0

theorem r_v97 : val_main_v97 (F := Ideal) (P a) (T a) (L a) = up3 (k := 2) (n := 32) (m := 16) fun b c h => ends (fun s => dA a b s h) c.val := by
  funext i; idx_vars i
  rw [val_main_v97_apply, val_main_v96_apply, r_v61, r_v95]
  refine (Finset.sum_congr rfl fun k _ => (EReal.coe_mul _ _).symm).trans ((coe_sum _ _).trans (congrArg (fun r : ℝ => (r : EReal)) ?_))
  refine Finset.sum_congr rfl fun k _ => ?_
  show dA a i0 k i2 * (if k.val < 128 * i1.val then 1 else 0) = if k.val < 128 * i1.val then dA a i0 k i2 else 0
  rw [mul_ite, mul_one, mul_zero]

theorem r_v109 : val_main_v109 (F := Ideal) (P a) (T a) (L a) = up4 (n₀ := 2) (n₁ := 32) (n₂ := 4096) (n₃ := 16) fun b c s h =>
    if s.val < 128 * c.val then Real.exp (ends (fun s => dA a b s h) c.val - cum (fun s => dA a b s h) s) else 0 := by
  funext i; idx_vars i
  rw [val_main_v109_apply, val_main_v108_apply, val_main_v107_apply, val_main_v105_apply, val_main_v106_apply, val_main_v103_apply, val_main_v104_apply, r_v69, r_v97, val_main_call5_v1_apply, val_main_call5_v2_apply,
    val_main_call5_v0_apply, val_main_cst_5_apply, val_main_v102_apply, val_main_v100_apply, val_main_v101_apply, val_main_v98_apply, val_main_v99_apply, val_main_v55_apply, val_main_v89_apply, val_main_v88_apply,
    val_main_v87_apply, val_main_c_apply]
  show Scalar.select (IntOp.cmpi .slt (BitVec.ofNat 32 i2.val) (IntOp.muli (128#32) (BitVec.ofNat 32 i1.val)))
    (Ideal.exp (((ends (fun s => dA a i0 s i3) i1.val : ℝ) : EReal) - ((cum (fun s => dA a i0 s i3) i2 : ℝ) : EReal))) (Ideal.ofBits .f32 0x00000000#32) = _
  rw [← EReal.coe_sub, Ideal.exp_coe, bits_zero, start]
  exact pick _ (WordCmp.cmpi_slt_ofNat_eq_one_iff (by omega) (by omega)) _ 0

theorem r_v116 (b : Fin 2) (c : Fin 32) (n : Fin 128) (h : Fin 16) (d : Fin 64) : val_main_v116 (F := Ideal) (P a) (W a) (Bi a) (T a) (L a) (ix5 b c n h d)
    = ((carried (fun s => dA a b s h) (sc a b (ch h d)) (Bg a b (g8 h)) c.val n : ℝ) : EReal) := by
  rw [val_main_v116_apply, val_main_v115_apply, r_v52]
  have e : ∀ k, val_main_v114 (F := Ideal) (P a) (W a) (Bi a) (T a) (L a) (ridx_main_v115 (idx_main_v116 (ix5 b c n h d)) k)
    = (((if k.val < 128 * c.val then Real.exp (ends (fun s => dA a b s h) c.val - cum (fun s => dA a b s h) k) else 0) * sc a b (ch h d) k : ℝ) : EReal) := fun k => by
    rw [val_main_v114_apply, val_main_v112_apply, val_main_v113_apply, val_main_v110_apply, val_main_v111_apply, r_v109, r_v58]
    exact (EReal.coe_mul _ _).symm
  rw [Finset.sum_congr rfl fun k _ => congrArg (_ * ·) (e k)]
  refine (Finset.sum_congr rfl fun k _ => (EReal.coe_mul _ _).symm).trans ((coe_sum _ _).trans (congrArg (fun r : ℝ => (r : EReal)) ?_))
  unfold carried
  refine Finset.sum_congr rfl fun k _ => ?_
  show Bg a b (g8 h) k n * ((if k.val < 128 * c.val then Real.exp (ends (fun s => dA a b s h) c.val - cum (fun s => dA a b s h) k) else 0) * sc a b (ch h d) k) = _
  split_ifs
  · rfl
  · rw [zero_mul, mul_zero]

theorem r_v125 (b : Fin 2) (c : Fin 32) (j : Fin 8) (n q : Fin 128) : val_main_v125 (F := Ideal) (P a) (W a) (Bi a) (T a) (L a) (ix5 b c j n q)
    = ((S a b c.val ⟨128 * j.val + q.val, by omega⟩ n : ℝ) : EReal) := by
  have hb := b.isLt; have hc := c.isLt; have hj := j.isLt; have hn := n.isLt; have hq := q.isLt
  have e : idx_main_v124 (idx_main_v125 (ix5 b c j n q)) = ix5 b c n (hd16 ⟨128 * j.val + q.val, by omega⟩) (⟨q.val % 64, by omega⟩ : Fin 64) := by
    funext k
    match k with
    | ⟨0, _⟩ => exact Fin.ext (show ((((b.val * 32 + c.val) * 128 + n.val) * 8 + j.val) * 128 + q.val) / 4194304 = b.val by omega)
    | ⟨1, _⟩ => exact Fin.ext (show ((((b.val * 32 + c.val) * 128 + n.val) * 8 + j.val) * 128 + q.val) / 131072 % 32 = c.val by omega)
    | ⟨2, _⟩ => exact Fin.ext (show ((((b.val * 32 + c.val) * 128 + n.val) * 8 + j.val) * 128 + q.val) / 1024 % 128 = n.val by omega)
    | ⟨3, _⟩ => exact Fin.ext (show ((((b.val * 32 + c.val) * 128 + n.val) * 8 + j.val) * 128 + q.val) / 64 % 16 = (128 * j.val + q.val) / 64 by omega)
    | ⟨4, _⟩ => exact Fin.ext (show ((((b.val * 32 + c.val) * 128 + n.val) * 8 + j.val) * 128 + q.val) % 64 = q.val % 64 by omega)
  have ec : ch (hd16 ⟨128 * j.val + q.val, by omega⟩) ⟨q.val % 64, by omega⟩ = ⟨128 * j.val + q.val, by omega⟩ := by ext; simp only [ch, hd16]; omega
  rw [val_main_v125_apply, val_main_v124_apply, e, r_v116, ec, ← gr_ch _ ⟨q.val % 64, by omega⟩, ec]
  rfl

end Cert.Scan.Ref
end
-- ==== Proof.ScanClaim.lean ====
/- The scan call's value claim: the precondition read, and the two programs' results the same lifts. -/
module

public import proofs.«01_k».proof.Defs
public import proofs.«01_k».proof.Proof.Gen.Pre_finite6
public import proofs.«01_k».proof.Proof.Gen.Reference6Ideal.Run
public import proofs.«01_k».proof.Proof.GatePre
public import proofs.«01_k».proof.Proof.ScanArr
public import proofs.«01_k».proof.Proof.ScanRef

@[expose] public section

noncomputable section

namespace Cert.Scan

open Idealize.ShloMosaic Idealize.SL.Sem Cert.Lift
open Cert.KernelIdeal.Gate (finite_of bits_inf andi_parts)

/-- A row all of whose entries are finite is the lift of its real parts. -/
theorem row_real {k : ℕ} (x : (⟨2, ![1, k]⟩ : Shape).Idx → EReal) (f : ∀ i, ((x i).toReal : EReal) = x i) :
    x = up2 fun _ d => (x (ix2 (n0 := 1) 0 d)).toReal := by
  funext i
  obtain ⟨p, q, rfl⟩ : ∃ (p : Fin 1) (q : Fin k), i = ix2 p q := ⟨i 0, i 1, eq_ix2 i⟩
  obtain rfl : p = 0 := Subsingleton.elim _ _
  exact (f _).symm

section
open Cert.Kernel6Ideal Cert.Kernel6Ideal.Gen Cert.Kernel6Ideal.Scan Idealize.ShloMosaic.TcCoe

/-- Under the precondition device `c`'s arguments are lifts of real arrays. -/
theorem exists_args (m : (ℓ : Loc nD τ sig) → Buf (Elt Ideal) ℓ) (c : Dev nD)
    (h : Cert.Pre_finite6.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) : ∃ a : Args, IsReal m c a := by
  have h := congrFun h (fun k => k.elim0)
  unfold Cert.Pre_finite6.fn Cert.Pre_finite6.fn_part1 at h
  obtain ⟨h, h5⟩ := andi_parts _ _ _ h
  obtain ⟨h, h4⟩ := andi_parts _ _ _ h
  obtain ⟨h, h3⟩ := andi_parts _ _ _ h
  obtain ⟨h, h2⟩ := andi_parts _ _ _ h
  obtain ⟨h0, h1⟩ := andi_parts _ _ _ h
  have f0 := finite_of (m ((c.tc : Thread nD τ).loc main_arg0)) _ (fun _ => bits_inf) _ _ _ _ h0
  have f1 := finite_of (m ((c.tc : Thread nD τ).loc main_arg1)) _ (fun _ => bits_inf) _ _ _ _ h1
  have f2 := finite_of (m ((c.tc : Thread nD τ).loc main_arg2)) _ (fun _ => bits_inf) _ _ _ _ h2
  have f3 := finite_of (m ((c.tc : Thread nD τ).loc main_arg3)) _ (fun _ => bits_inf) _ _ _ _ h3
  have f4 := finite_of (m ((c.tc : Thread nD τ).loc main_arg4)) _ (fun _ => bits_inf) _ _ _ _ h4
  have f5 := finite_of (m ((c.tc : Thread nD τ).loc main_arg5)) _ (fun _ => bits_inf) _ _ _ _ h5
  refine ⟨⟨fun b s d => (m ((c.tc : Thread nD τ).loc main_arg0) (ix3 b s d)).toReal,
    fun t d => (m ((c.tc : Thread nD τ).loc main_arg1) (ix3 (n0 := 1) 0 t d)).toReal,
    fun d => (m ((c.tc : Thread nD τ).loc main_arg2) (ix2 (n0 := 1) 0 d)).toReal,
    fun d => (m ((c.tc : Thread nD τ).loc main_arg3) (ix2 (n0 := 1) 0 d)).toReal,
    fun d => (m ((c.tc : Thread nD τ).loc main_arg4) (ix2 (n0 := 1) 0 d)).toReal,
    fun d => (m ((c.tc : Thread nD τ).loc main_arg5) (ix2 (n0 := 1) 0 d)).toReal⟩,
    ?_, ?_, row_real _ f2, row_real _ f3, row_real _ f4, row_real _ f5⟩
  · funext i; idx_vars i; exact (f0 _).symm
  · funext i; obtain ⟨p, t, q, rfl⟩ : ∃ (p : Fin 1) (t : Fin 4) (q : Fin 1536), i = ix3 p t q := ⟨i 0, i 1, i 2, eq_ix3 i⟩
    obtain rfl : p = 0 := Subsingleton.elim _ _
    exact (f1 _).symm
end

/-- The reference's chunk states are the same lift as the kernel's. -/
theorem ref_states (a : Args) : Cert.Reference6Ideal.Read.val_main_v125 (F := Ideal) (Ref.P a) (Ref.W a) (Ref.Bi a) (Ref.T a) (Ref.L a)
    = Cert.Kernel6Ideal.Scan.states a := by
  funext i; idx_vars i; exact Ref.r_v125 a _ _ _ _ _

open Cert.Reference6Ideal.Value Cert.Reference6Ideal.Read Cert.Kernel6Ideal.Scan in
theorem algebraic : Cert.algebraic_Kernel6Ideal_Reference6Ideal_pre_finite6 := by
  intro m g m' g' hpre hargs
  choose a ha using fun c => exists_args m c (hpre c)
  refine ⟨fun c => up3 (Y (a c)), fun c => states (a c), ?_, ?_⟩
  · refine (θ_run _ _ _).mono (fun r h c => ?_) (Cert.Kernel6Ideal.Value.run_blocks m g)
    obtain ⟨h0, h1, hr⟩ := h c
    exact ⟨h0.trans (arr12 (ha c)), h1.trans (arr13 (ha c)), hr⟩
  · refine (θ_run _ _ _).mono (fun r h c => ?_) (Cert.Reference6Ideal.Value.run m' g')
    obtain ⟨h0, h1, hr⟩ := h c
    obtain ⟨e0, e1, e2, e3, e4, e5⟩ := hargs c
    have e0 := e0.trans (ha c).h0
    have e1 := e1.trans (ha c).h1
    have e2 := e2.trans (ha c).h2
    have e3 := e3.trans (ha c).h3
    have e4 := e4.trans (ha c).h4
    have e5 := e5.trans (ha c).h5
    have s0 := val_main_v123_eq (F := Ideal) m' c
    rw [e0, e1, e2, e3, e4, e5] at s0
    have s1 := val_main_v125_eq (F := Ideal) m' c
    rw [e0, e1, e2, e3, e4] at s1
    exact ⟨h0.trans (s0.trans (Ref.r_v123 (a c))), h1.trans (s1.trans (ref_states (a c))), hr⟩

end Cert.Scan

end
-- ==== Proof.GradClaim.lean ====
/- The in projection's weight gradient: the kernel's accumulated products are the reference's. -/
module

public import proofs.«01_k».proof.Defs
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Lift
public import Idealize.ShloMosaic.Lib.Pipeline.ValueKit
public import Idealize.ShloMosaic.Lib.KernelVsHost

@[expose] public section

set_option maxRecDepth 16384

noncomputable section

namespace Cert.Grad

open Idealize.ShloMosaic

abbrev Rows := (⟨2, ![8192, 1024]⟩ : Shape).Idx → EReal
abbrev Cots := (⟨2, ![8192, 6672]⟩ : Shape).Idx → EReal

/-- The normalised input at a row and a feature, zero past the last row. -/
def hn (x : Rows) (r : ℕ) (i : Fin 1024) : EReal := if h : r < 8192 then x (ix2 ⟨r, h⟩ i) else 0

/-- The cotangent at a row and a column, zero past the last row and in the padding columns. -/
def cot (g : Cots) (r j : ℕ) : EReal := if h : r < 8192 ∧ j < 6672 then g (ix2 ⟨r, h.1⟩ ⟨j, h.2⟩) else 0

/-- The weight's gradient, summed over the first `n` rows. -/
def upTo (x : Rows) (g : Cots) (i : Fin 1024) (j n : ℕ) : EReal := ∑ r ∈ Finset.range n, hn x r i * cot g r j

theorem upTo_add (x : Rows) (g : Cots) (i : Fin 1024) (j n : ℕ) (a p : Fin 1024 → EReal)
    (ha : ∀ k, a k = hn x (n + k.val) i) (hp : ∀ k, p k = cot g (n + k.val) j) :
    upTo x g i j n + ∑ k : Fin 1024, a k * p k = upTo x g i j (n + 1024) := by
  unfold upTo
  rw [Finset.sum_range_add, ← Fin.sum_univ_eq_sum_range (fun k => hn x (n + k) i * cot g (n + k) j)]
  simp only [ha, hp]

theorem upTo_zero (x : Rows) (g : Cots) (i : Fin 1024) (j : ℕ) : upTo x g i j 0 = 0 := Finset.sum_range_zero _

end Cert.Grad

namespace Cert.Reference7Ideal.Grad

open Cert.Reference7Ideal Cert.Reference7Ideal.Gen Cert.Reference7Ideal.Read Idealize.ShloMosaic Cert.Grad

theorem r_v21 (x : (⟨S2x4096x1024, .f32⟩ : BufTy).Contents (Elt Ideal)) (w : (⟨S1x1024, .f32⟩ : BufTy).Contents (Elt Ideal)) (g : (⟨S2x4096x6672, .f32⟩ : BufTy).Contents (Elt Ideal)) :
    val_main_v21 (F := Ideal) x w g = fun i => upTo (val_main_v15 (F := Ideal) x w) (val_main_v17 (F := Ideal) g) (i 0) (i 1).val 8192 := by
  funext i; idx_vars i
  unfold upTo
  rw [← Fin.sum_univ_eq_sum_range (fun r => hn (val_main_v15 (F := Ideal) x w) r i0 * cot (val_main_v17 (F := Ideal) g) r i1.val)]
  unfold val_main_v21
  by_cases hj : i1.val < 6672
  · refine (concatenate_pair_apply_left (s₁ := S1024x6672) (s₂ := S1024x496) 1 _ _ _ (ix2 i0 i1) rfl (ix2 i0 ⟨i1.val, hj⟩) (by intro b; fin_cases b <;> rfl)).trans ?_
    rw [val_main_v19_apply, val_main_v18_apply]
    refine Finset.sum_congr rfl fun r _ => ?_
    rw [mul_comm]
    unfold hn cot
    rw [dif_pos r.isLt, dif_pos ⟨r.isLt, hj⟩]
    congr 2 <;> (funext a; match a with | ⟨0, _⟩ => rfl | ⟨1, _⟩ => rfl)
  · have := i1.isLt
    refine (concatenate_pair_apply_right (s₁ := S1024x6672) (s₂ := S1024x496) 1 _ _ _ (ix2 i0 i1) rfl rfl (ix2 i0 ⟨i1.val - 6672, by omega⟩) (by intro b hb; match b, hb with | ⟨0, _⟩, _ => rfl | ⟨1, _⟩, hb => exact absurd rfl hb) (Nat.sub_add_cancel (by omega))).trans ?_
    rw [val_main_v20_apply]
    have z : val_main_cst_3 (F := Ideal) (idx_main_v20 (ix2 i0 ⟨i1.val - 6672, by omega⟩)) = ((0 : ℝ) : EReal) := Cert.Lift.bits_zero
    rw [z]
    refine (Finset.sum_eq_zero fun r _ => ?_).symm
    unfold cot
    rw [dif_neg fun q => hj q.2, mul_zero]

end Cert.Reference7Ideal.Grad

namespace Cert.Kernel7Ideal.Grad

open Cert.Kernel7Ideal Cert.Kernel7Ideal.Gen Idealize.ShloMosaic Idealize.ShloMosaic.TcCoe Cert.Grad

variable (m : (ℓ : Loc nD τ sig) → Buf (Elt Ideal) ℓ) (c : Dev nD)

theorem e0 : ∀ t : Fin cfg0.N, win0_0.index t = ![0, t.val % 8] := (by decide +kernel : ∀ t : Fin grid0.N, win0_0.index t = ![0, t.val % 8])
theorem e1 : ∀ t : Fin cfg0.N, t.val < 8 → win0_1.index t = ![t.val % 8, 0] := (by decide +kernel : ∀ t : Fin grid0.N, t.val < 8 → win0_1.index t = ![t.val % 8, 0])
theorem e2 : ∀ t : Fin cfg0.N, t.val / 8 = 1 → win0_2.index t = ![t.val % 8, 0] := (by decide +kernel : ∀ t : Fin grid0.N, t.val / 8 = 1 → win0_2.index t = ![t.val % 8, 0])
theorem e3 : ∀ t : Fin cfg0.N, t.val / 8 = 2 → win0_3.index t = ![t.val % 8, 0] := (by decide +kernel : ∀ t : Fin grid0.N, t.val / 8 = 2 → win0_3.index t = ![t.val % 8, 0])
theorem e4 : ∀ t : Fin cfg0.N, 3 ≤ t.val / 8 ∧ t.val / 8 ≤ 4 → win0_4.index t = ![t.val % 8, t.val / 8 - 3] :=
  (by decide +kernel : ∀ t : Fin grid0.N, 3 ≤ t.val / 8 ∧ t.val / 8 ≤ 4 → win0_4.index t = ![t.val % 8, t.val / 8 - 3])
theorem e5 : ∀ t : Fin cfg0.N, 40 ≤ t.val → win0_5.index t = ![t.val % 8, t.val / 8 - 5] :=
  (by decide +kernel : ∀ t : Fin grid0.N, 40 ≤ t.val → win0_5.index t = ![t.val % 8, t.val / 8 - 5])
theorem e6 : ∀ t : Fin cfg0.N, win0_6.index t = ![0, t.val / 8] := (by decide +kernel : ∀ t : Fin grid0.N, win0_6.index t = ![0, t.val / 8])

/-- The normalised input and the cotangent on a device, both by rows of the flattened batch. -/
abbrev rows : Rows := Cert.Reference7Ideal.Read.val_main_v15 (F := Ideal) (m ((c : Thread nD τ).loc main_arg0)) (m ((c : Thread nD τ).loc main_arg1))
abbrev cots : Cots := Cert.Reference7Ideal.Read.val_main_v17 (F := Ideal) (m ((c : Thread nD τ).loc main_arg2))

theorem zero_int (j : S_.Idx) : sitofp (F := Ideal) .bf16 (constantI S_ 32 0#32) j = 0 := by
  show ((((0#32 : BitVec 32).toInt : ℝ)) : EReal) = _
  norm_num

/-! ## What the host prepares -/

theorem V_v14 : V m c main_v14 = rows m c := by
  unfold V
  simp only [hostOps0, hostOps0_1, hostOps0_2, List.flatten_cons, List.flatten_nil, List.append_nil, List.cons_append, List.nil_append]
  after_results
  rfl

theorem V_v17 : V m c main_v17 = cots m c := by
  unfold V
  simp only [hostOps0, hostOps0_1, hostOps0_2, List.flatten_cons, List.flatten_nil, List.append_nil, List.cons_append, List.nil_append]
  after_results
  rfl

theorem V_v16 (i : Fin 1024) (r : Fin 8192) : V m c main_v16 (ix2 i r) = hn (rows m c) r.val i := by
  have e : V m c main_v16 = transpose S1024x8192 [1, 0] (V m c main_v14) transposes_S8192x1024_S1024x8192_1_0 := by
    unfold V
    simp only [hostOps0, hostOps0_1, hostOps0_2, List.flatten_cons, List.flatten_nil, List.append_nil, List.cons_append, List.nil_append]
    after_results
    rfl
  rw [e, V_v14]
  unfold hn
  rw [dif_pos r.isLt]
  exact transpose_apply [1, 0] (rows m c) transposes_S8192x1024_S1024x8192_1_0 (ix2 i r) (ix2 r i) (fun b => match b with | ⟨0, _⟩ => rfl | ⟨1, _⟩ => rfl)

theorem V_v19 (r : Fin 8192) (j : Fin 7168) : V m c main_v19 (ix2 r j) = cot (cots m c) r.val j.val := by
  have e : V m c main_v19 = pad S8192x7168 ![0, 0] ![0, 496] ![0, 0] (V m c main_v17) (sitofp (F := Ideal) .bf16 (constantI S_ 32 0#32))
      pads_S8192x6672_S8192x7168_000_04960 h_S_ := by
    unfold V
    simp only [hostOps0, hostOps0_1, hostOps0_2, List.flatten_cons, List.flatten_nil, List.append_nil, List.cons_append, List.nil_append]
    after_results
    rfl
  rw [e, V_v17]
  unfold cot
  by_cases hj : j.val < 6672
  · rw [dif_pos ⟨r.isLt, hj⟩]
    refine (pad_apply_of_inside _ _ _ _ _ _ _ _ (ix2 r ⟨j.val, hj⟩) fun i => ?_).trans rfl
    fin_cases i <;> simp [ix2]
  · rw [dif_neg fun q => hj q.2]
    refine (pad_apply_of_not_inside _ _ _ _ _ _ _ _ 1 ?_).trans (zero_int _)
    show ¬(0 ≤ j.val ∧ (j.val - 0) % (0 + 1) = 0 ∧ (j.val - 0) / (0 + 1) < 6672)
    omega

/-- A slice of the padded cotangent, `w` columns from column `o`. -/
theorem piece {w o : ℕ} (hw : o + w ≤ 7168) (h : S8192x7168.Slices ![0, o] ⟨2, ![8192, w]⟩) (r : Fin 8192) (j : Fin w) :
    extractStridedSlice (⟨2, ![8192, w]⟩ : Shape) ![0, o] (V m c main_v19) h (ix2 r j) = cot (cots m c) r.val (o + j.val) := by
  refine (extractStridedSlice_apply _ _ _ _ (ix2 r ⟨o + j.val, by have := j.isLt; omega⟩) fun i => ?_).trans (V_v19 m c r _)
  fin_cases i <;> simp [ix2]

theorem V_v20 : V m c main_v20 = extractStridedSlice S8192x1024 ![0, 0] (V m c main_v19) slices_S8192x7168_S8192x1024_0_0 := by
  unfold V
  simp only [hostOps0, hostOps0_1, hostOps0_2, List.flatten_cons, List.flatten_nil, List.append_nil, List.cons_append, List.nil_append]
  after_results

theorem V_v21 : V m c main_v21 = extractStridedSlice S8192x1024 ![0, 1024] (V m c main_v19) slices_S8192x7168_S8192x1024_0_1024 := by
  unfold V
  simp only [hostOps0, hostOps0_1, hostOps0_2, List.flatten_cons, List.flatten_nil, List.append_nil, List.cons_append, List.nil_append]
  after_results

theorem V_v22 : V m c main_v22 = extractStridedSlice S8192x1024 ![0, 2048] (V m c main_v19) slices_S8192x7168_S8192x1024_0_2048 := by
  unfold V
  simp only [hostOps0, hostOps0_1, hostOps0_2, List.flatten_cons, List.flatten_nil, List.append_nil, List.cons_append, List.nil_append]
  after_results

theorem V_v23 : V m c main_v23 = extractStridedSlice S8192x2048 ![0, 3072] (V m c main_v19) slices_S8192x7168_S8192x2048_0_3072 := by
  unfold V
  simp only [hostOps0, hostOps0_1, hostOps0_2, List.flatten_cons, List.flatten_nil, List.append_nil, List.cons_append, List.nil_append]
  after_results

theorem V_v24 : V m c main_v24 = extractStridedSlice S8192x2048 ![0, 5120] (V m c main_v19) slices_S8192x7168_S8192x2048_0_5120 := by
  unfold V
  simp only [hostOps0, hostOps0_1, hostOps0_2, List.flatten_cons, List.flatten_nil, List.append_nil, List.cons_append, List.nil_append]
  after_results

/-! ## The windows' blocks -/

theorem iblk0 (t : Fin cfg0.N) (i k : Fin 1024) : iblk m c 0 t (ix2 i k) = hn (rows m c) (1024 * (t.val % 8) + k.val) i := by
  blk_simp [iblk]
  have e : (win0_0.blk t).view.emb (ix2 i k) = ix2 i ⟨1024 * (t.val % 8) + k.val, by omega⟩ := by blk_ext [e0]
  rw [e]
  exact V_v16 m c _ _

/-- What the active piece's block holds at a grid point. -/
def Active (p : Vec Ideal S1024x1024 .bf16) (t : ℕ) : Prop :=
  ∀ k q : Fin 1024, p (ix2 k q) = cot (cots m c) (1024 * (t % 8) + k.val) (1024 * (t / 8) + q.val)

theorem iblk1 (t : Fin cfg0.N) (h : t.val < 8) : Active m c (iblk m c 1 t) t.val := fun k q => by
  blk_simp [iblk]
  have e : (win0_1.blk t).view.emb (ix2 k q) = ix2 ⟨1024 * (t.val % 8) + k.val, by omega⟩ q := by blk_ext [e1 t h]
  rw [e]
  refine (congrFun (V_v20 m c) _).trans ((piece m c (by norm_num) _ _ q).trans (congrArg (cot _ _) ?_))
  omega

theorem iblk2 (t : Fin cfg0.N) (h : t.val / 8 = 1) : Active m c (iblk m c 2 t) t.val := fun k q => by
  blk_simp [iblk]
  have e : (win0_2.blk t).view.emb (ix2 k q) = ix2 ⟨1024 * (t.val % 8) + k.val, by omega⟩ q := by blk_ext [e2 t h]
  rw [e]
  refine (congrFun (V_v21 m c) _).trans ((piece m c (by norm_num) _ _ q).trans (congrArg (cot _ _) ?_))
  omega

theorem iblk3 (t : Fin cfg0.N) (h : t.val / 8 = 2) : Active m c (iblk m c 3 t) t.val := fun k q => by
  blk_simp [iblk]
  have e : (win0_3.blk t).view.emb (ix2 k q) = ix2 ⟨1024 * (t.val % 8) + k.val, by omega⟩ q := by blk_ext [e3 t h]
  rw [e]
  refine (congrFun (V_v22 m c) _).trans ((piece m c (by norm_num) _ _ q).trans (congrArg (cot _ _) ?_))
  omega

theorem iblk4 (t : Fin cfg0.N) (h : 3 ≤ t.val / 8 ∧ t.val / 8 ≤ 4) : Active m c (iblk m c 4 t) t.val := fun k q => by
  blk_simp [iblk]
  have e : (win0_4.blk t).view.emb (ix2 k q) = ix2 ⟨1024 * (t.val % 8) + k.val, by omega⟩ ⟨1024 * (t.val / 8 - 3) + q.val, by omega⟩ := by blk_ext [e4 t h]
  rw [e]
  refine (congrFun (V_v23 m c) _).trans ((piece m c (by norm_num) _ _ _).trans (congrArg (cot _ _) ?_))
  show 3072 + (1024 * (t.val / 8 - 3) + q.val) = _
  omega

theorem iblk5 (t : Fin cfg0.N) (h : 40 ≤ t.val) : Active m c (iblk m c 5 t) t.val := fun k q => by
  have hN : t.val < 56 := t.isLt
  blk_simp [iblk]
  have e : (win0_5.blk t).view.emb (ix2 k q) = ix2 ⟨1024 * (t.val % 8) + k.val, by omega⟩ ⟨1024 * (t.val / 8 - 5) + q.val, by omega⟩ := by blk_ext [e5 t h]
  rw [e]
  refine (congrFun (V_v24 m c) _).trans ((piece m c (by norm_num) _ _ _).trans (congrArg (cot _ _) ?_))
  show 5120 + (1024 * (t.val / 8 - 5) + q.val) = _
  omega

/-! ## The accumulation -/

theorem pay (s : Vec Ideal S1024x1024 .f32) (a p : Vec Ideal S1024x1024 .bf16) (i q : Fin 1024) :
    k0_pay2 s a p (ix2 i q) = s (ix2 i q) + ∑ k : Fin 1024, a (ix2 i k) * p (ix2 k q) := by
  pointwise [k0_pay2]

theorem pay0 (i q : Fin 1024) : k0_pay1 (F := Ideal) (ix2 i q) = 0 := Cert.Lift.bits_zero.trans EReal.coe_zero

/-- At the first row block of a column block the products are added to zeros. -/
theorem first (t : Fin cfg0.N) (h : t.val % 8 = 0) :
    ∃ p, Active m c p t.val ∧ outsAt0 m c t.val t.isLt = k0_pay2 (k0_pay1 (F := Ideal)) (iblk m c 0 t) p := by
  have hN : t.val < 56 := t.isLt
  by_cases a1 : t.val < 8
  · refine ⟨_, iblk1 m c t a1, ?_⟩
    rw [outsAt0_A m c t h a1 (by omega) (by omega) (by omega) (by omega)]
    unfold out0_A_6; frame_out
  by_cases a2 : t.val / 8 = 1
  · refine ⟨_, iblk2 m c t a2, ?_⟩
    rw [outsAt0_C m c t h a1 (by omega) (by omega) (by omega) (by omega)]
    unfold out0_C_6; frame_out; rfl
  by_cases a3 : t.val / 8 = 2
  · refine ⟨_, iblk3 m c t a3, ?_⟩
    rw [outsAt0_E m c t h a1 (by omega) (by omega) (by omega) (by omega)]
    unfold out0_E_6; frame_out; rfl
  by_cases a4 : 3 ≤ t.val / 8 ∧ t.val / 8 ≤ 4
  · refine ⟨_, iblk4 m c t a4, ?_⟩
    rw [outsAt0_G m c t h a1 (by omega) (by omega) (by omega) (by omega)]
    unfold out0_G_6; frame_out; rfl
  · have a5 : 40 ≤ t.val := by omega
    refine ⟨_, iblk5 m c t a5, ?_⟩
    rw [outsAt0_I m c t h a1 (by omega) (by omega) (by omega) a5]
    unfold out0_I_6; frame_out; rfl

/-- At a later row block they are added to what the point before left. -/
theorem later (t : Fin cfg0.N) (h : ¬t.val % 8 = 0) :
    ∃ p, Active m c p t.val ∧ outsAt0 m c t.val t.isLt
      = k0_pay2 (outsAt0 m c (t.val - 1) (Nat.lt_of_le_of_lt (Nat.sub_le _ _) t.isLt)) (iblk m c 0 t) p := by
  have hN : t.val < 56 := t.isLt
  by_cases a1 : t.val < 8
  · refine ⟨_, iblk1 m c t a1, ?_⟩
    rw [outsAt0_B m c t h a1 (by omega) (by omega) (by omega) (by omega)]
    unfold out0_B_6; frame_out
  by_cases a2 : t.val / 8 = 1
  · refine ⟨_, iblk2 m c t a2, ?_⟩
    rw [outsAt0_D m c t h a1 (by omega) (by omega) (by omega) (by omega)]
    unfold out0_D_6; frame_out; rfl
  by_cases a3 : t.val / 8 = 2
  · refine ⟨_, iblk3 m c t a3, ?_⟩
    rw [outsAt0_F m c t h a1 (by omega) (by omega) (by omega) (by omega)]
    unfold out0_F_6; frame_out; rfl
  by_cases a4 : 3 ≤ t.val / 8 ∧ t.val / 8 ≤ 4
  · refine ⟨_, iblk4 m c t a4, ?_⟩
    rw [outsAt0_H m c t h a1 (by omega) (by omega) (by omega) (by omega)]
    unfold out0_H_6; frame_out; rfl
  · have a5 : 40 ≤ t.val := by omega
    refine ⟨_, iblk5 m c t a5, ?_⟩
    rw [outsAt0_J m c t h a1 (by omega) (by omega) (by omega) a5]
    unfold out0_J_6; frame_out; rfl

theorem acc (n : ℕ) : ∀ hn : n < cfg0.N, ∀ i q : Fin 1024,
    outsAt0 m c n hn (ix2 i q) = upTo (rows m c) (cots m c) i (1024 * (n / 8) + q.val) (1024 * (n % 8) + 1024) := by
  induction n with
  | zero =>
    intro hn i q
    obtain ⟨p, hp, e⟩ := first m c ⟨0, hn⟩ rfl
    rw [e, pay, pay0, ← upTo_zero (rows m c) (cots m c) i (1024 * (0 / 8) + q.val)]
    exact upTo_add _ _ _ _ _ _ _ (fun k => iblk0 m c _ i k) fun k => hp k q
  | succ n ih =>
    intro hn i q
    by_cases h : (n + 1) % 8 = 0
    · obtain ⟨p, hp, e⟩ := first m c ⟨n + 1, hn⟩ h
      rw [e, pay, pay0, h, ← upTo_zero (rows m c) (cots m c) i (1024 * ((n + 1) / 8) + q.val)]
      refine upTo_add _ _ _ _ _ _ _ (fun k => (iblk0 m c _ i k).trans ?_) fun k => (hp k q).trans ?_ <;>
        (show _ = _; rw [show (n + 1) % 8 = 0 from h])
    · obtain ⟨p, hp, e⟩ := later m c ⟨n + 1, hn⟩ h
      rw [e, pay]
      have es := ih (by omega) i q
      rw [show n / 8 = (n + 1) / 8 by omega, show 1024 * (n % 8) + 1024 = 1024 * ((n + 1) % 8) by omega] at es
      refine (congrArg (· + _) es).trans ?_
      exact upTo_add _ _ _ _ _ _ _ (fun k => iblk0 m c _ i k) fun k => hp k q

theorem arr6 : (dats m 0 c).arrAt 6 cfg0.N = fun i => upTo (rows m c) (cots m c) (i 0) (i 1).val 8192 :=
  (dats m 0 c).arrAt_eq_of_covers 6 (fun i => upTo (rows m c) (cots m c) (i 0) (i 1).val 8192) (by decide +kernel) fun t hf y => by
    blk_simp
    rw [after0_6]
    idx_vars y
    have hN : t.val < 56 := t.isLt
    have h7 : t.val % 8 = 7 := (by decide +kernel : ∀ t : Fin grid0.N, (win0_6).flush t = true → t.val % 8 = 7) t hf
    have e : (win0_6.blk t).view.emb (ix2 y0 y1) = ix2 y0 ⟨1024 * (t.val / 8) + y1.val, by omega⟩ := by blk_ext [e6]
    have ei : win0_6.index t 1 = t.val / 8 := by rw [e6]; rfl
    rw [e, acc, h7, ei, Nat.mul_comm (t.val / 8)]
    rfl

end Cert.Kernel7Ideal.Grad

namespace Cert.Grad

open Idealize.ShloMosaic Idealize.ShloMosaic.TcCoe Idealize.SL.Sem Cert.Reference7Ideal.Value Cert.Reference7Ideal.Read

theorem algebraic : Cert.algebraic_Kernel7Ideal_Reference7Ideal := by
  intro m g m' g' _ hargs
  refine ⟨fun c i => upTo (Cert.Kernel7Ideal.Grad.rows m c) (Cert.Kernel7Ideal.Grad.cots m c) (i 0) (i 1).val 8192, ?_, ?_⟩
  · refine (θ_run _ _ _).mono (fun r h c => ?_) (Cert.Kernel7Ideal.Value.run_blocks m g)
    obtain ⟨h0, hr⟩ := h c
    exact ⟨h0.trans (Cert.Kernel7Ideal.Grad.arr6 m c), hr⟩
  · refine (θ_run _ _ _).mono (fun r h c => ?_) (Cert.Reference7Ideal.Value.run m' g')
    obtain ⟨h0, hr⟩ := h c
    obtain ⟨e0, e1, e2⟩ := hargs c
    rw [e0, e1, e2] at h0
    exact ⟨h0.trans ((val_main_v21_eq _ _ _).trans (Cert.Reference7Ideal.Grad.r_v21 _ _ _)), hr⟩

end Cert.Grad

end
-- ==== Proof.AddClaim.lean ====
/- The sum of the chips' parts: the kernel's sums are the reference's. -/
module

public import proofs.«01_k».proof.Defs
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Reference11
public import proofs.«01_k».proof.Proof.Gen.Reference11.Run
public import Idealize.ShloMosaic.Lib.Pipeline.ValueKit
public import Idealize.ShloMosaic.Lib.KernelVsHost

@[expose] public section

set_option maxRecDepth 16384

noncomputable section

namespace Cert.Add

open Idealize.ShloMosaic

variable {F : FTy → Type} [FloatOps F]

/-- The own part's entry and the three received ones', added in this order. -/
def total (a : Vec F ⟨2, ![512, 1792]⟩ .f32) (b : Vec F ⟨3, ![3, 512, 1792]⟩ .bf16) (i : Fin 512) (j : Fin 1792) : F .f32 :=
  FloatOps.addf (FloatOps.addf (FloatOps.addf (a (ix2 i j)) (FloatOps.extf .f32 (by decide) (b (ix3 0 i j)))) (FloatOps.extf .f32 (by decide) (b (ix3 1 i j))))
    (FloatOps.extf .f32 (by decide) (b (ix3 2 i j)))

end Cert.Add

namespace Cert.Reference11Ideal.Add

open Cert.Reference11Ideal Cert.Reference11Ideal.Gen Cert.Reference11Ideal.Read Idealize.ShloMosaic Cert.Add

variable {F : FTy → Type} [FloatOps F]

theorem idx (i : Fin 512) (j : Fin 1792) : idx_main_v2 (ix2 i j) = ix3 0 i j := by
  funext a; refine Fin.ext ?_
  have hi := i.isLt
  have hj := j.isLt
  match a with
  | ⟨0, _⟩ => rfl
  | ⟨1, _⟩ => show (i.val * 1792 + j.val) / 1792 % 512 = i.val; omega
  | ⟨2, _⟩ => show (i.val * 1792 + j.val) % 1792 = j.val; omega

theorem r_v9 (a : (⟨S512x1792, .f32⟩ : BufTy).Contents (Elt F)) (b : (⟨S3x512x1792, .bf16⟩ : BufTy).Contents (Elt F)) :
    val_main_v9 (F := F) a b = fun i => total a b (i 0) (i 1) := by
  funext i; idx_vars i
  rw [val_main_v9_apply, val_main_v6_apply, val_main_v3_apply, val_main_v2_apply, val_main_v5_apply, val_main_v8_apply, idx i0 i1]
  rw [show idx_main_v5 (ix2 i0 i1) = ix3 0 i0 i1 from idx i0 i1, show idx_main_v8 (ix2 i0 i1) = ix3 0 i0 i1 from idx i0 i1]
  rw [val_main_v1_apply, val_main_v4_apply, val_main_v7_apply, val_main_v0_apply, val_main_v0_apply, val_main_v0_apply]
  unfold total
  congr 3 <;> (try congr 2) <;> (funext a; match a with | ⟨0, _⟩ => rfl | ⟨1, _⟩ => rfl | ⟨2, _⟩ => rfl)

end Cert.Reference11Ideal.Add

namespace Cert.Kernel11Ideal.Add

open Cert.Kernel11Ideal Cert.Kernel11Ideal.Gen Idealize.ShloMosaic Idealize.ShloMosaic.TcCoe Cert.Add

variable {F : FTy → Type} [FloatOps F]
variable (m : (ℓ : Loc nD τ sig) → Buf (Elt F) ℓ) (c : Dev nD)

theorem e0 : ∀ t : Fin cfg0.N, win0_0.index t = ![t.val, 0] := (by decide +kernel : ∀ t : Fin grid0.N, win0_0.index t = ![t.val, 0])
theorem e1 : ∀ t : Fin cfg0.N, win0_1.index t = ![0, t.val, 0] := (by decide +kernel : ∀ t : Fin grid0.N, win0_1.index t = ![0, t.val, 0])
theorem e2 : ∀ t : Fin cfg0.N, win0_2.index t = ![t.val, 0] := (by decide +kernel : ∀ t : Fin grid0.N, win0_2.index t = ![t.val, 0])

/-- A device's own part and the received ones. -/
abbrev own : Vec F ⟨2, ![512, 1792]⟩ .f32 := m ((c : Thread nD τ).loc main_arg0)
abbrev parts : Vec F ⟨3, ![3, 512, 1792]⟩ .bf16 := m ((c : Thread nD τ).loc main_arg1)

theorem iblk0 (t : Fin cfg0.N) (i : Fin 256) (j : Fin 1792) :
    iblk m c 0 t (ix2 i j) = own m c (ix2 ⟨256 * t.val + i.val, by have : t.val < 2 := t.isLt; omega⟩ j) := by
  blk_simp [iblk]
  have ht : t.val < 2 := t.isLt
  have e : (win0_0.blk t).view.emb (ix2 i j) = ix2 ⟨256 * t.val + i.val, by omega⟩ j := by blk_ext [e0]
  rw [e]

theorem iblk1 (t : Fin cfg0.N) (k : Fin 3) (i : Fin 256) (j : Fin 1792) :
    iblk m c 1 t (ix3 k i j) = parts m c (ix3 k ⟨256 * t.val + i.val, by have : t.val < 2 := t.isLt; omega⟩ j) := by
  blk_simp [iblk]
  have ht : t.val < 2 := t.isLt
  have e : (win0_1.blk t).view.emb (ix3 k i j) = ix3 k ⟨256 * t.val + i.val, by omega⟩ j := by blk_ext [e1]
  rw [e]

theorem arr2 : (dats m 0 c).arrAt 2 cfg0.N = fun i => total (own m c) (parts m c) (i 0) (i 1) :=
  (dats m 0 c).arrAt_eq_of_covers 2 (fun i => total (own m c) (parts m c) (i 0) (i 1)) (by decide +kernel) fun t hf y => by
    blk_simp
    rw [after0_2]
    idx_vars y
    have ht : t.val < 2 := t.isLt
    have e : (win0_2.blk t).view.emb (ix2 y0 y1) = ix2 ⟨256 * t.val + y0.val, by omega⟩ y1 := by blk_ext [e2]
    rw [e]
    unfold out0_2
    frame_out
    pointwise [k0_pay1]
    rw [iblk0, iblk1, iblk1, iblk1]
    rfl

end Cert.Kernel11Ideal.Add

namespace Cert.Add

open Idealize.ShloMosaic Idealize.ShloMosaic.TcCoe Idealize.SL.Sem Cert.Reference11Ideal.Read

variable {F : FTy → Type} [FloatOps F]

/-- The two programs' runs, over any floating-point values, from equal arguments leave the same results. -/
theorem agree (m : (ℓ : Loc Cert.Kernel11Ideal.nD Cert.Kernel11Ideal.τ Cert.Kernel11Ideal.sig) → Buf (Elt F) ℓ) (g : Dev Cert.Kernel11Ideal.nD → PrngReg)
    (m' : (ℓ : Loc Cert.Reference11Ideal.nD Cert.Reference11Ideal.τ Cert.Reference11Ideal.sig) → Buf (Elt F) ℓ) (g' : Dev Cert.Reference11Ideal.nD → PrngReg)
    (hargs : ∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) :
    ∃ v0 : (c : Dev Cert.Kernel11Ideal.nD) → Buf (Elt F) ((c.tc : Thread Cert.Kernel11Ideal.nD Cert.Kernel11Ideal.τ).loc Cert.Kernel11Ideal.main_v0),
      θ_run (Cert.Kernel11Ideal.defs (F := F)) (onTc (τ := Cert.Kernel11Ideal.τ) (Cert.Kernel11Ideal.main (F := F))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := F)) (onTc (τ := Cert.Reference11Ideal.τ) (Cert.Reference11Ideal.main (F := F))) ⟨m', fun _ => 0, g'⟩ (fun r => ∀ c : Dev Cert.Reference11Ideal.nD,
          r.2.mem ((c.tc : Thread Cert.Reference11Ideal.nD Cert.Reference11Ideal.τ).loc Cert.Reference11Ideal.main_v9) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)) := by
  refine ⟨fun c i => total (Cert.Kernel11Ideal.Add.own m c) (Cert.Kernel11Ideal.Add.parts m c) (i 0) (i 1), ?_, ?_⟩
  · refine (θ_run _ _ _).mono (fun r h c => ?_) (Cert.Kernel11Ideal.Value.run_blocks m g)
    obtain ⟨h0, hr⟩ := h c
    exact ⟨h0.trans (Cert.Kernel11Ideal.Add.arr2 m c), hr⟩
  · refine (θ_run _ _ _).mono (fun r h c => ?_) (Cert.Reference11Ideal.Value.run m' g')
    obtain ⟨h0, hr⟩ := h c
    obtain ⟨e0, e1⟩ := hargs c
    rw [e0, e1] at h0
    exact ⟨h0.trans ((val_main_v9_eq _ _).trans (Cert.Reference11Ideal.Add.r_v9 _ _)), hr⟩

theorem algebraic : Cert.algebraic_Kernel11Ideal_Reference11Ideal := fun m g m' g' _ hargs => agree m g m' g' hargs

/-- At the printed words too: the printed programs have the same text. -/
theorem bitexact : Cert.bitexact_Kernel11_Reference11 := fun m g m' g' _ hargs =>
  Eq.mp (by sl_kernel_rfl) (agree (F := Bits) m g m' g' hargs)

end Cert.Add

end
-- ==== Proof.StackClaim.lean ====
/- The packing of the gathered shards: the kernel's rows are the reference's. -/
module

public import proofs.«01_k».proof.Defs
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Reference12
public import proofs.«01_k».proof.Proof.Gen.Reference12.Run
public import Idealize.ShloMosaic.Lib.Pipeline.ValueKit
public import Idealize.ShloMosaic.Lib.KernelVsHost

@[expose] public section

set_option maxRecDepth 16384

noncomputable section

namespace Cert.Stack

open Idealize.ShloMosaic

variable {F : FTy → Type} [FloatOps F]

/-- The shards' rows one shard under the other, then rows of zeros. -/
def packed {n : ℕ} (g : Vec F ⟨3, ![4, 1668, n]⟩ .bf16) (i : ℕ) (j : Fin n) : F .bf16 :=
  if h : i < 6672 then g (ix3 ⟨i / 1668, by omega⟩ ⟨i % 1668, by omega⟩ j) else Scalar.ofBits .bf16 0x0000#16

theorem packed_lt {n : ℕ} (g : Vec F ⟨3, ![4, 1668, n]⟩ .bf16) (k : Fin 4) (r : Fin 1668) (j : Fin n) (i : ℕ) (h : i = 1668 * k.val + r.val) :
    packed g i j = g (ix3 k r j) := by
  unfold packed
  have hk := k.isLt
  have hr := r.isLt
  rw [dif_pos (by omega)]
  congr 2
  · exact Fin.ext (by show i / 1668 = k.val; omega)
  · exact Fin.ext (by show i % 1668 = r.val; omega)

theorem packed_ge {n : ℕ} (g : Vec F ⟨3, ![4, 1668, n]⟩ .bf16) (j : Fin n) (i : ℕ) (h : ¬i < 6672) : packed g i j = Scalar.ofBits .bf16 0x0000#16 := dif_neg h

end Cert.Stack

namespace Cert.Reference12Ideal.Stack

open Cert.Reference12Ideal Cert.Reference12Ideal.Gen Cert.Reference12Ideal.Read Idealize.ShloMosaic Cert.Stack

variable {F : FTy → Type} [FloatOps F]

theorem r_v2 (g : (⟨S4x1668x1024, .bf16⟩ : BufTy).Contents (Elt F)) : val_main_v2 (F := F) g = fun i => packed (n := 1024) g (i 0).val (i 1) := by
  funext i; idx_vars i
  have := i0.isLt
  unfold val_main_v2
  by_cases hi : i0.val < 6672
  · refine (concatenate_pair_apply_left (s₁ := S6672x1024) (s₂ := S496x1024) 0 _ _ _ (ix2 i0 i1) rfl (ix2 ⟨i0.val, hi⟩ i1) (by intro b; fin_cases b <;> rfl)).trans ?_
    rw [val_main_v0_apply]
    refine Eq.trans (congrArg g ?_) (packed_lt (n := 1024) g ⟨i0.val / 1668, by omega⟩ ⟨i0.val % 1668, by omega⟩ i1 i0.val (by show _ = 1668 * (i0.val / 1668) + i0.val % 1668; omega)).symm
    have hj := i1.isLt
    funext a; refine Fin.ext ?_
    match a with
    | ⟨0, _⟩ => show (i0.val * 1024 + i1.val) / 1708032 = i0.val / 1668; omega
    | ⟨1, _⟩ => show (i0.val * 1024 + i1.val) / 1024 % 1668 = i0.val % 1668; omega
    | ⟨2, _⟩ => show (i0.val * 1024 + i1.val) % 1024 = i1.val; omega
  · refine (concatenate_pair_apply_right (s₁ := S6672x1024) (s₂ := S496x1024) 0 _ _ _ (ix2 i0 i1) rfl rfl (ix2 ⟨i0.val - 6672, by omega⟩ i1) (by intro b hb; match b, hb with | ⟨0, _⟩, hb => exact absurd rfl hb | ⟨1, _⟩, _ => rfl) (Nat.sub_add_cancel (by omega))).trans ?_
    rw [val_main_v1_apply]
    exact (packed_ge (n := 1024) g i1 i0.val hi).symm

end Cert.Reference12Ideal.Stack

namespace Cert.Kernel12Ideal.Stack

open Cert.Kernel12Ideal Cert.Kernel12Ideal.Gen Idealize.ShloMosaic Idealize.ShloMosaic.TcCoe Cert.Stack

variable {F : FTy → Type} [FloatOps F]
variable (m : (ℓ : Loc nD τ sig) → Buf (Elt F) ℓ) (c : Dev nD)

theorem e0 : ∀ t : Fin cfg0.N, win0_0.index t = ![0, 0, t.val] := (by decide +kernel : ∀ t : Fin grid0.N, win0_0.index t = ![0, 0, t.val])
theorem e1 : ∀ t : Fin cfg0.N, win0_1.index t = ![0, t.val] := (by decide +kernel : ∀ t : Fin grid0.N, win0_1.index t = ![0, t.val])

/-- The gathered shards on a device. -/
abbrev shards : Vec F ⟨3, ![4, 1668, 1024]⟩ .bf16 := m ((c : Thread nD τ).loc main_arg0)

theorem iblk0 (t : Fin cfg0.N) (k : Fin 4) (r : Fin 1668) (q : Fin 128) :
    iblk m c 0 t (ix3 k r q) = shards m c (ix3 k r ⟨128 * t.val + q.val, by have : t.val < 8 := t.isLt; omega⟩) := by
  blk_simp [iblk]
  have ht : t.val < 8 := t.isLt
  have e : (win0_0.blk t).view.emb (ix3 k r q) = ix3 k r ⟨128 * t.val + q.val, by omega⟩ := by blk_ext [e0]
  rw [e]

/-- One shard's block, at the rows where it is stored. -/
theorem row (x : Vec F S4x1668x128 .bf16) (k : Fin 4) (off : Fin 3 → ℕ) (h : off = ![k.val, 0, 0]) (inb : ∀ a, off a + S1x1668x128.size a ≤ S4x1668x128.size a) (i : S1668x128.Idx) (y : S7168x128.Idx)
    (h0 : (y 0).val = 1668 * k.val + (i 0).val) (h1 : (y 1).val = (i 1).val) :
    shapeCast S1668x128 (View.ld (Val := Elt F) x (Rect.unit (s := S4x1668x128) off S1x1668x128.size inb)) shapeCasts_S1x1668x128_S1668x128 i = packed (n := 128) x (y 0).val (y 1) := by
  subst h
  idx_vars i
  rw [packed_lt (n := 128) x k i0 (y 1) (y 0).val h0, show y 1 = i1 from Fin.ext h1]
  refine (shapeCast_apply _ shapeCasts_S1x1668x128_S1668x128 (ix2 i0 i1) (ix3 0 i0 i1) ?_).trans ?_
  · refine (Shape.rowMajor_val_three (d := ![1, 1668, 128]) _).trans (Eq.trans ?_ (Shape.rowMajor_val_two (d := ![1668, 128]) _).symm)
    show (0 * 1668 + i0.val) * 128 + i1.val = i0.val * 128 + i1.val
    omega
  · exact View.ld_unit_apply_of x _ _ inb _ (ix3 k i0 i1) (fun a => match a with
      | ⟨0, _⟩ => rfl
      | ⟨1, _⟩ => (Nat.zero_add _).symm
      | ⟨2, _⟩ => (Nat.zero_add _).symm)

/-- What a point leaves: the shards' blocks one under the other, then zeros. -/
theorem outs (t : Fin cfg0.N) (y : S7168x128.Idx) : outsAt0 m c t y = packed (n := 128) (iblk m c 0 t) (y 0).val (y 1) := by
  unfold outsAt0 out0_A_1
  frame_out
  canon_tiles x hx using View.cover_of_tiledBy _ ![4, 128] (by sl_kernel_rfl) y
  · exact (packed_ge (n := 128) _ _ _ (by omega)).symm
  · exact row _ 3 _ rfl _ x y (by show _ = 1668 * 3 + _; omega) (by omega)
  · exact row _ 2 _ rfl _ x y (by show _ = 1668 * 2 + _; omega) (by omega)
  · exact row _ 1 _ rfl _ x y (by show _ = 1668 * 1 + _; omega) (by omega)
  · exact row _ 0 _ rfl _ x y (by show _ = 1668 * 0 + _; omega) (by omega)

theorem arr1 : (dats m 0 c).arrAt 1 cfg0.N = fun i => packed (n := 1024) (shards m c) (i 0).val (i 1) :=
  (dats m 0 c).arrAt_eq_of_covers 1 (fun i => packed (n := 1024) (shards m c) (i 0).val (i 1)) (by decide +kernel) fun t hf y => by
    blk_simp
    rw [after0_1]
    idx_vars y
    have ht : t.val < 8 := t.isLt
    have e : (win0_1.blk t).view.emb (ix2 y0 y1) = ix2 y0 ⟨128 * t.val + y1.val, by omega⟩ := by blk_ext [e1]
    have ei : win0_1.index t 0 = 0 := by rw [e1]; rfl
    rw [e, outs, ei, Nat.zero_mul, Nat.zero_add]
    show packed (n := 128) _ y0.val y1 = packed (n := 1024) _ y0.val _
    unfold packed
    by_cases h : y0.val < 6672
    · rw [dif_pos h, dif_pos h]
      exact iblk0 m c t _ _ _
    · rw [dif_neg h, dif_neg h]

end Cert.Kernel12Ideal.Stack

namespace Cert.Stack

open Idealize.ShloMosaic Idealize.ShloMosaic.TcCoe Idealize.SL.Sem Cert.Reference12Ideal.Read

variable {F : FTy → Type} [FloatOps F]

/-- The two programs' runs, over any floating-point values, from equal arguments leave the same results. -/
theorem agree (m : (ℓ : Loc Cert.Kernel12Ideal.nD Cert.Kernel12Ideal.τ Cert.Kernel12Ideal.sig) → Buf (Elt F) ℓ) (g : Dev Cert.Kernel12Ideal.nD → PrngReg)
    (m' : (ℓ : Loc Cert.Reference12Ideal.nD Cert.Reference12Ideal.τ Cert.Reference12Ideal.sig) → Buf (Elt F) ℓ) (g' : Dev Cert.Reference12Ideal.nD → PrngReg)
    (hargs : ∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)) :
    ∃ v0 : (c : Dev Cert.Kernel12Ideal.nD) → Buf (Elt F) ((c.tc : Thread Cert.Kernel12Ideal.nD Cert.Kernel12Ideal.τ).loc Cert.Kernel12Ideal.main_v0),
      θ_run (Cert.Kernel12Ideal.defs (F := F)) (onTc (τ := Cert.Kernel12Ideal.τ) (Cert.Kernel12Ideal.main (F := F))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ θ_run (Cert.Reference12Ideal.defs (F := F)) (onTc (τ := Cert.Reference12Ideal.τ) (Cert.Reference12Ideal.main (F := F))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)) := by
  refine ⟨fun c i => packed (n := 1024) (Cert.Kernel12Ideal.Stack.shards m c) (i 0).val (i 1), ?_, ?_⟩
  · refine (θ_run _ _ _).mono (fun r h c => ?_) (Cert.Kernel12Ideal.Value.run_blocks m g)
    obtain ⟨h0, hr⟩ := h c
    exact ⟨h0.trans (Cert.Kernel12Ideal.Stack.arr1 m c), hr⟩
  · refine (θ_run _ _ _).mono (fun r h c => ?_) (Cert.Reference12Ideal.Value.run m' g')
    obtain ⟨h0, hr⟩ := h c
    rw [hargs c] at h0
    exact ⟨h0.trans ((val_main_v2_eq _).trans (Cert.Reference12Ideal.Stack.r_v2 _)), hr⟩

theorem algebraic : Cert.algebraic_Kernel12Ideal_Reference12Ideal := fun m g m' g' _ hargs => agree m g m' g' hargs

/-- At the printed words too: the printed programs have the same text. -/
theorem bitexact : Cert.bitexact_Kernel12_Reference12 := fun m g m' g' _ hargs =>
  Eq.mp (by sl_kernel_rfl) (agree (F := Bits) m g m' g' hargs)

end Cert.Stack

end
-- ==== Proof.AdamClaim.lean ====
/- The optimiser: the kernel's elementwise step is the reference's. -/
module

public import proofs.«01_k».proof.Defs
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Lift
public import Idealize.ShloMosaic.Lib.Pipeline.ValueKit
public import Idealize.ShloMosaic.Lib.KernelVsHost

@[expose] public section

set_option maxRecDepth 16384

noncomputable section

namespace Cert.Adam

open Idealize.ShloMosaic

abbrev Shard := (⟨3, ![1, 1024, 1668]⟩ : Shape).Idx → EReal

/-- The two moving averages and the step, of one entry's weight, gradient and averages. -/
def newM (g m : EReal) : EReal := Ideal.ofBits .f32 0x3F666666#32 * m + Ideal.ofBits .f32 0x3DCCCCCD#32 * g
def newV (g v : EReal) : EReal := Ideal.ofBits .f32 0x3F7FBE77#32 * v + Ideal.ofBits .f32 0x3A83126F#32 * (g * g)
def step (w g m v : EReal) : EReal :=
  Ideal.ofBits .f32 0xBA83126F#32 * (Ideal.div (Ideal.div (newM g m) (Ideal.ofBits .f32 0x3F26BD02#32))
    (Ideal.sqrt (Ideal.div (newV g v) (Ideal.ofBits .f32 0x3C231ACC#32)) + Ideal.ofBits .f32 0x322BCC77#32)
    + Ideal.ofBits .f32 0x3C23D70A#32 * w)

/-- An array's entry at a row and a column of its transpose. -/
def turned (a : Shard) (i : Fin 1668) (j : Fin 1024) : EReal := a (ix3 0 j i)

end Cert.Adam

namespace Cert.Reference10Ideal.Adam

open Cert.Reference10Ideal Cert.Reference10Ideal.Gen Cert.Reference10Ideal.Read Idealize.ShloMosaic Cert.Adam

variable (w g m v : (⟨S1x1024x1668, .f32⟩ : BufTy).Contents (Elt Ideal))

theorem idx (i : Fin 1668) (j : Fin 1024) : idx_main_v24 (idx_main_v25 (ix2 i j)) = ix3 0 j i := by
  funext a; refine Fin.ext ?_
  have hi := i.isLt
  have hj := j.isLt
  match a with
  | ⟨0, _⟩ => rfl
  | ⟨1, _⟩ => show (j.val * 1668 + i.val) / 1668 % 1024 = j.val; omega
  | ⟨2, _⟩ => show (j.val * 1668 + i.val) % 1668 = i.val; omega

theorem r_v27 : val_main_v27 (F := Ideal) g m = fun i => newM (turned g (i 0) (i 1)) (turned m (i 0) (i 1)) := by
  funext i; idx_vars i
  rw [val_main_v27_apply, val_main_v26_apply]
  exact (congrArg (val_main_v4 (F := Ideal) g m) (idx i0 i1)).trans rfl

theorem r_v29 : val_main_v29 (F := Ideal) g v = fun i => newV (turned g (i 0) (i 1)) (turned v (i 0) (i 1)) := by
  funext i; idx_vars i
  rw [val_main_v29_apply, val_main_v28_apply]
  exact (congrArg (val_main_v10 (F := Ideal) g v) (idx i0 i1)).trans rfl

theorem r_v25 : val_main_v25 (F := Ideal) w g m v
    = fun i => step (turned w (i 0) (i 1)) (turned g (i 0) (i 1)) (turned m (i 0) (i 1)) (turned v (i 0) (i 1)) := by
  funext i; idx_vars i
  rw [val_main_v25_apply, val_main_v24_apply]
  exact (congrArg (val_main_v23 (F := Ideal) w g m v) (idx i0 i1)).trans rfl

end Cert.Reference10Ideal.Adam

namespace Cert.Kernel10Ideal.Adam

open Cert.Kernel10Ideal Cert.Kernel10Ideal.Gen Idealize.ShloMosaic Idealize.ShloMosaic.TcCoe Cert.Adam

variable (m : (ℓ : Loc nD τ sig) → Buf (Elt Ideal) ℓ) (c : Dev nD)

theorem e0 : ∀ t : Fin cfg0.N, win0_0.index t = ![0, t.val] := (by decide +kernel : ∀ t : Fin grid0.N, win0_0.index t = ![0, t.val])
theorem e1 : ∀ t : Fin cfg0.N, win0_1.index t = ![0, t.val] := (by decide +kernel : ∀ t : Fin grid0.N, win0_1.index t = ![0, t.val])
theorem e2 : ∀ t : Fin cfg0.N, win0_2.index t = ![0, t.val] := (by decide +kernel : ∀ t : Fin grid0.N, win0_2.index t = ![0, t.val])
theorem e3 : ∀ t : Fin cfg0.N, win0_3.index t = ![0, t.val] := (by decide +kernel : ∀ t : Fin grid0.N, win0_3.index t = ![0, t.val])
theorem e4 : ∀ t : Fin cfg0.N, win0_4.index t = ![0, t.val] := (by decide +kernel : ∀ t : Fin grid0.N, win0_4.index t = ![0, t.val])
theorem e5 : ∀ t : Fin cfg0.N, win0_5.index t = ![0, t.val] := (by decide +kernel : ∀ t : Fin grid0.N, win0_5.index t = ![0, t.val])
theorem e6 : ∀ t : Fin cfg0.N, win0_6.index t = ![0, t.val] := (by decide +kernel : ∀ t : Fin grid0.N, win0_6.index t = ![0, t.val])

/-- The weight, its gradient and the two averages on a device. -/
abbrev argW : Shard := m ((c : Thread nD τ).loc main_arg0)
abbrev argG : Shard := m ((c : Thread nD τ).loc main_arg1)
abbrev argM : Shard := m ((c : Thread nD τ).loc main_arg2)
abbrev argV : Shard := m ((c : Thread nD τ).loc main_arg3)

theorem flipped (a : Shard) (i : Fin 1668) (j : Fin 1024) :
    transpose S1668x1024 [1, 0] (shapeCast S1024x1668 (a : Vec Ideal S1x1024x1668 .f32) shapeCasts_S1x1024x1668_S1024x1668) transposes_S1024x1668_S1668x1024_1_0 (ix2 i j) = turned a i j := by
  refine (transpose_apply [1, 0] _ _ (ix2 i j) (ix2 j i) (fun b => match b with | ⟨0, _⟩ => rfl | ⟨1, _⟩ => rfl)).trans ?_
  refine shapeCast_apply a shapeCasts_S1x1024x1668_S1024x1668 (ix2 j i) (ix3 0 j i) ?_
  refine (Shape.rowMajor_val_three (d := ![1, 1024, 1668]) _).trans (Eq.trans ?_ (Shape.rowMajor_val_two (d := ![1024, 1668]) _).symm)
  show (0 * 1024 + j.val) * 1668 + i.val = j.val * 1668 + i.val
  omega

theorem iblk0 (t : Fin cfg0.N) (i : Fin 1668) (q : Fin 128) :
    iblk m c 0 t (ix2 i q) = turned (argW m c) i ⟨128 * t.val + q.val, by have : t.val < 8 := t.isLt; omega⟩ := by
  blk_simp [iblk]
  have ht : t.val < 8 := t.isLt
  have e : (win0_0.blk t).view.emb (ix2 i q) = ix2 i ⟨128 * t.val + q.val, by omega⟩ := by blk_ext [e0]
  rw [e, ← flipped]
  unfold V
  simp only [hostOps0, List.flatten_cons, List.flatten_nil, List.append_nil, List.cons_append, List.nil_append]
  after_results
  rfl

theorem iblk1 (t : Fin cfg0.N) (i : Fin 1668) (q : Fin 128) :
    iblk m c 1 t (ix2 i q) = turned (argG m c) i ⟨128 * t.val + q.val, by have : t.val < 8 := t.isLt; omega⟩ := by
  blk_simp [iblk]
  have ht : t.val < 8 := t.isLt
  have e : (win0_1.blk t).view.emb (ix2 i q) = ix2 i ⟨128 * t.val + q.val, by omega⟩ := by blk_ext [e1]
  rw [e, ← flipped]
  unfold V
  simp only [hostOps0, List.flatten_cons, List.flatten_nil, List.append_nil, List.cons_append, List.nil_append]
  after_results
  rfl

theorem iblk2 (t : Fin cfg0.N) (i : Fin 1668) (q : Fin 128) :
    iblk m c 2 t (ix2 i q) = turned (argM m c) i ⟨128 * t.val + q.val, by have : t.val < 8 := t.isLt; omega⟩ := by
  blk_simp [iblk]
  have ht : t.val < 8 := t.isLt
  have e : (win0_2.blk t).view.emb (ix2 i q) = ix2 i ⟨128 * t.val + q.val, by omega⟩ := by blk_ext [e2]
  rw [e, ← flipped]
  unfold V
  simp only [hostOps0, List.flatten_cons, List.flatten_nil, List.append_nil, List.cons_append, List.nil_append]
  after_results
  rfl

theorem iblk3 (t : Fin cfg0.N) (i : Fin 1668) (q : Fin 128) :
    iblk m c 3 t (ix2 i q) = turned (argV m c) i ⟨128 * t.val + q.val, by have : t.val < 8 := t.isLt; omega⟩ := by
  blk_simp [iblk]
  have ht : t.val < 8 := t.isLt
  have e : (win0_3.blk t).view.emb (ix2 i q) = ix2 i ⟨128 * t.val + q.val, by omega⟩ := by blk_ext [e3]
  rw [e, ← flipped]
  unfold V
  simp only [hostOps0, List.flatten_cons, List.flatten_nil, List.append_nil, List.cons_append, List.nil_append]
  after_results
  rfl

theorem pay2 (g x : Vec Ideal S1668x128 .f32) (i : Fin 1668) (q : Fin 128) : k0_pay2 g x (ix2 i q) = newM (g (ix2 i q)) (x (ix2 i q)) := by
  pointwise [k0_pay2, k0_pay1, newM]

theorem pay3 (g x : Vec Ideal S1668x128 .f32) (i : Fin 1668) (q : Fin 128) : k0_pay3 g x (ix2 i q) = newV (g (ix2 i q)) (x (ix2 i q)) := by
  pointwise [k0_pay3, k0_pay1, newV]

theorem pay4 (g x y w : Vec Ideal S1668x128 .f32) (i : Fin 1668) (q : Fin 128) :
    k0_pay4 g x y w (ix2 i q) = step (w (ix2 i q)) (g (ix2 i q)) (x (ix2 i q)) (y (ix2 i q)) := by
  pointwise [k0_pay4, k0_pay3, k0_pay2, k0_pay1, step, newM, newV]

theorem arr4 : (dats m 0 c).arrAt 4 cfg0.N = fun i => step (turned (argW m c) (i 0) (i 1)) (turned (argG m c) (i 0) (i 1)) (turned (argM m c) (i 0) (i 1)) (turned (argV m c) (i 0) (i 1)) :=
  (dats m 0 c).arrAt_eq_of_covers 4 (fun i => step (turned (argW m c) (i 0) (i 1)) (turned (argG m c) (i 0) (i 1)) (turned (argM m c) (i 0) (i 1)) (turned (argV m c) (i 0) (i 1))) (by decide +kernel) fun t hf y => by
    blk_simp
    rw [after0_4]
    idx_vars y
    have ht : t.val < 8 := t.isLt
    have ei : win0_4.index t 1 = t.val := by rw [e4]; rfl
    have e : (win0_4.blk t).view.emb (ix2 y0 y1) = ix2 y0 ⟨128 * t.val + y1.val, by omega⟩ := by blk_ext [e4]
    rw [e]
    unfold out0_4
    frame_out
    rw [pay4, iblk0, iblk1, iblk2, iblk3]
    rfl

theorem arr5 : (dats m 0 c).arrAt 5 cfg0.N = fun i => newM (turned (argG m c) (i 0) (i 1)) (turned (argM m c) (i 0) (i 1)) :=
  (dats m 0 c).arrAt_eq_of_covers 5 (fun i => newM (turned (argG m c) (i 0) (i 1)) (turned (argM m c) (i 0) (i 1))) (by decide +kernel) fun t hf y => by
    blk_simp
    rw [after0_5]
    idx_vars y
    have ht : t.val < 8 := t.isLt
    have ei : win0_5.index t 1 = t.val := by rw [e5]; rfl
    have e : (win0_5.blk t).view.emb (ix2 y0 y1) = ix2 y0 ⟨128 * t.val + y1.val, by omega⟩ := by blk_ext [e5]
    rw [e]
    unfold out0_5
    frame_out
    rw [pay2, iblk1, iblk2]
    rfl

theorem arr6 : (dats m 0 c).arrAt 6 cfg0.N = fun i => newV (turned (argG m c) (i 0) (i 1)) (turned (argV m c) (i 0) (i 1)) :=
  (dats m 0 c).arrAt_eq_of_covers 6 (fun i => newV (turned (argG m c) (i 0) (i 1)) (turned (argV m c) (i 0) (i 1))) (by decide +kernel) fun t hf y => by
    blk_simp
    rw [after0_6]
    idx_vars y
    have ht : t.val < 8 := t.isLt
    have ei : win0_6.index t 1 = t.val := by rw [e6]; rfl
    have e : (win0_6.blk t).view.emb (ix2 y0 y1) = ix2 y0 ⟨128 * t.val + y1.val, by omega⟩ := by blk_ext [e6]
    rw [e]
    unfold out0_6
    frame_out
    rw [pay3, iblk1, iblk3]
    rfl

end Cert.Kernel10Ideal.Adam

namespace Cert.Adam

open Idealize.ShloMosaic Idealize.ShloMosaic.TcCoe Idealize.SL.Sem Cert.Reference10Ideal.Value Cert.Reference10Ideal.Read Cert.Kernel10Ideal.Adam

theorem algebraic : Cert.algebraic_Kernel10Ideal_Reference10Ideal := by
  intro m g m' g' _ hargs
  refine ⟨fun c i => step (turned (argW m c) (i 0) (i 1)) (turned (argG m c) (i 0) (i 1)) (turned (argM m c) (i 0) (i 1)) (turned (argV m c) (i 0) (i 1)),
    fun c i => newM (turned (argG m c) (i 0) (i 1)) (turned (argM m c) (i 0) (i 1)),
    fun c i => newV (turned (argG m c) (i 0) (i 1)) (turned (argV m c) (i 0) (i 1)), ?_, ?_⟩
  · refine (θ_run _ _ _).mono (fun r h c => ?_) (Cert.Kernel10Ideal.Value.run_blocks m g)
    obtain ⟨h0, h1, h2, hr⟩ := h c
    exact ⟨h0.trans (arr4 m c), h1.trans (arr5 m c), h2.trans (arr6 m c), hr⟩
  · refine (θ_run _ _ _).mono (fun r h c => ?_) (Cert.Reference10Ideal.Value.run m' g')
    obtain ⟨h0, h1, h2, hr⟩ := h c
    obtain ⟨e0, e1, e2, e3⟩ := hargs c
    rw [e0, e1, e2, e3] at h0
    rw [e1, e2] at h1
    rw [e1, e3] at h2
    exact ⟨h0.trans ((val_main_v25_eq _ _ _ _).trans (Cert.Reference10Ideal.Adam.r_v25 _ _ _ _)),
      h1.trans ((val_main_v27_eq _ _).trans (Cert.Reference10Ideal.Adam.r_v27 _ _)),
      h2.trans ((val_main_v29_eq _ _).trans (Cert.Reference10Ideal.Adam.r_v29 _ _)), hr⟩

end Cert.Adam

end
-- ==== Proof.WoutClaim.lean ====
/- The output projection's weight gradient: the kernel's accumulated products are the reference's. -/
module

public import proofs.«01_k».proof.Defs
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Lift
public import Idealize.ShloMosaic.Lib.Pipeline.ValueKit
public import Idealize.ShloMosaic.Lib.KernelVsHost

@[expose] public section

set_option maxRecDepth 16384

noncomputable section

namespace Cert.Wout

open Idealize.ShloMosaic

abbrev Mixed := (⟨2, ![8192, 2048]⟩ : Shape).Idx → EReal
abbrev Cots := (⟨2, ![8192, 1024]⟩ : Shape).Idx → EReal

/-- The mixed activations and the cotangent at a row, zero past the last row and column. -/
def act (x : Mixed) (r i : ℕ) : EReal := if h : r < 8192 ∧ i < 2048 then x (ix2 ⟨r, h.1⟩ ⟨i, h.2⟩) else 0
def cot (g : Cots) (r : ℕ) (j : Fin 1024) : EReal := if h : r < 8192 then g (ix2 ⟨r, h⟩ j) else 0

/-- The weight's gradient, summed over the first `n` rows. -/
def upTo (x : Mixed) (g : Cots) (i : ℕ) (j : Fin 1024) (n : ℕ) : EReal := ∑ r ∈ Finset.range n, act x r i * cot g r j

theorem upTo_add (x : Mixed) (g : Cots) (i : ℕ) (j : Fin 1024) (n : ℕ) (a p : Fin 512 → EReal)
    (ha : ∀ k, a k = act x (n + k.val) i) (hp : ∀ k, p k = cot g (n + k.val) j) :
    upTo x g i j n + ∑ k : Fin 512, a k * p k = upTo x g i j (n + 512) := by
  unfold upTo
  rw [Finset.sum_range_add, ← Fin.sum_univ_eq_sum_range (fun k => act x (n + k) i * cot g (n + k) j)]
  simp only [ha, hp]

end Cert.Wout

namespace Cert.Reference9Ideal.Wout

open Cert.Reference9Ideal Cert.Reference9Ideal.Gen Cert.Reference9Ideal.Read Idealize.ShloMosaic Cert.Wout

theorem r_v40 (o : (⟨S2x4096x1024, .f32⟩ : BufTy).Contents (Elt Ideal)) (p : (⟨S2x4096x6672, .f32⟩ : BufTy).Contents (Elt Ideal)) (y : (⟨S2x4096x1024, .f32⟩ : BufTy).Contents (Elt Ideal))
    (u w : (⟨S1x1024, .f32⟩ : BufTy).Contents (Elt Ideal)) (g : (⟨S2x4096x1024, .f32⟩ : BufTy).Contents (Elt Ideal)) :
    val_main_v40 (F := Ideal) o p y u w g = fun i => upTo (val_main_v36 (F := Ideal) o p y u w) (val_main_v38 (F := Ideal) g) (i 0).val (i 1) 8192 := by
  funext i; idx_vars i
  unfold upTo
  rw [← Fin.sum_univ_eq_sum_range (fun r => act (val_main_v36 (F := Ideal) o p y u w) r i0.val * cot (val_main_v38 (F := Ideal) g) r i1), val_main_v40_apply, val_main_v39_apply]
  refine Finset.sum_congr rfl fun r _ => ?_
  rw [mul_comm]
  unfold act cot
  rw [dif_pos r.isLt, dif_pos ⟨r.isLt, i0.isLt⟩]
  congr 2 <;> (funext a; match a with | ⟨0, _⟩ => rfl | ⟨1, _⟩ => rfl)

end Cert.Reference9Ideal.Wout

namespace Cert.Kernel9Ideal.Wout

open Cert.Kernel9Ideal Cert.Kernel9Ideal.Gen Idealize.ShloMosaic Idealize.ShloMosaic.TcCoe Cert.Wout

variable (m : (ℓ : Loc nD τ sig) → Buf (Elt Ideal) ℓ) (c : Dev nD)

theorem e0 : ∀ t : Fin cfg0.N, win0_0.index t = ![t.val / 16, t.val % 16] := (by decide +kernel : ∀ t : Fin grid0.N, win0_0.index t = ![t.val / 16, t.val % 16])
theorem e1 : ∀ t : Fin cfg0.N, win0_1.index t = ![t.val % 16, 0] := (by decide +kernel : ∀ t : Fin grid0.N, win0_1.index t = ![t.val % 16, 0])
theorem e2 : ∀ t : Fin cfg0.N, win0_2.index t = ![t.val / 16, 0] := (by decide +kernel : ∀ t : Fin grid0.N, win0_2.index t = ![t.val / 16, 0])

/-- The mixed activations and the cotangent on a device, both by rows of the flattened batch. -/
abbrev mixed : Mixed := Cert.Reference9Ideal.Read.val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4))
abbrev cots : Cots := Cert.Reference9Ideal.Read.val_main_v38 (F := Ideal) (m ((c : Thread nD τ).loc main_arg5))

theorem V_v35 : V m c main_v35 = mixed m c := by
  unfold V
  simp only [hostOps0, hostOps0_1, hostOps0_2, hostOps0_3, hostOps0_4, List.flatten_cons, List.flatten_nil, List.append_nil, List.cons_append, List.nil_append]
  after_results
  rfl

theorem V_v39 : V m c main_v39 = cots m c := by
  unfold V
  simp only [hostOps0, hostOps0_1, hostOps0_2, hostOps0_3, hostOps0_4, List.flatten_cons, List.flatten_nil, List.append_nil, List.cons_append, List.nil_append]
  after_results
  rfl

theorem V_v37 (i : Fin 2048) (r : Fin 8192) : V m c main_v37 (ix2 i r) = act (mixed m c) r.val i.val := by
  have e : V m c main_v37 = transpose S2048x8192 [1, 0] (V m c main_v35) transposes_S8192x2048_S2048x8192_1_0 := by
    unfold V
    simp only [hostOps0, hostOps0_1, hostOps0_2, hostOps0_3, hostOps0_4, List.flatten_cons, List.flatten_nil, List.append_nil, List.cons_append, List.nil_append]
    after_results
    rfl
  rw [e, V_v35]
  unfold act
  rw [dif_pos ⟨r.isLt, i.isLt⟩]
  exact transpose_apply [1, 0] (mixed m c) transposes_S8192x2048_S2048x8192_1_0 (ix2 i r) (ix2 r i) (fun b => match b with | ⟨0, _⟩ => rfl | ⟨1, _⟩ => rfl)

theorem iblk0 (t : Fin cfg0.N) (i : Fin 1024) (k : Fin 512) :
    iblk m c 0 t (ix2 i k) = act (mixed m c) (512 * (t.val % 16) + k.val) (1024 * (t.val / 16) + i.val) := by
  blk_simp [iblk]
  have ht : t.val < 32 := t.isLt
  have e : (win0_0.blk t).view.emb (ix2 i k) = ix2 ⟨1024 * (t.val / 16) + i.val, by omega⟩ ⟨512 * (t.val % 16) + k.val, by omega⟩ := by blk_ext [e0]
  rw [e]
  exact V_v37 m c _ _

theorem iblk1 (t : Fin cfg0.N) (k : Fin 512) (q : Fin 1024) : iblk m c 1 t (ix2 k q) = cot (cots m c) (512 * (t.val % 16) + k.val) q := by
  blk_simp [iblk]
  have e : (win0_1.blk t).view.emb (ix2 k q) = ix2 ⟨512 * (t.val % 16) + k.val, by omega⟩ q := by blk_ext [e1]
  rw [e]
  unfold cot
  rw [dif_pos (by omega)]
  exact congrFun (V_v39 m c) _

theorem pay (s : Vec Ideal S1024x1024 .f32) (a : Vec Ideal S1024x512 .bf16) (p : Vec Ideal S512x1024 .bf16) (i q : Fin 1024) :
    k0_pay2 s a p (ix2 i q) = s (ix2 i q) + ∑ k : Fin 512, a (ix2 i k) * p (ix2 k q) := by
  pointwise [k0_pay2]

theorem pay0 (i q : Fin 1024) : k0_pay1 (F := Ideal) (ix2 i q) = 0 := Cert.Lift.bits_zero.trans EReal.coe_zero

/-- At the first row block of a column block the products are added to zeros, at a later one to what the point before left. -/
theorem first (t : Fin cfg0.N) (h : t.val % 16 = 0) : outsAt0 m c t.val t.isLt = k0_pay2 (k0_pay1 (F := Ideal)) (iblk m c 0 t) (iblk m c 1 t) := by
  rw [outsAt0_A m c t h]
  unfold out0_A_2; frame_out

theorem later (t : Fin cfg0.N) (h : ¬t.val % 16 = 0) :
    outsAt0 m c t.val t.isLt = k0_pay2 (outsAt0 m c (t.val - 1) (Nat.lt_of_le_of_lt (Nat.sub_le _ _) t.isLt)) (iblk m c 0 t) (iblk m c 1 t) := by
  rw [outsAt0_B m c t h]
  unfold out0_B_2; frame_out

/-- A point adds its 512 rows' products. -/
theorem grow (t : Fin cfg0.N) (i q : Fin 1024) (s : Vec Ideal S1024x1024 .f32)
    (hs : s (ix2 i q) = upTo (mixed m c) (cots m c) (1024 * (t.val / 16) + i.val) q (512 * (t.val % 16))) :
    k0_pay2 s (iblk m c 0 t) (iblk m c 1 t) (ix2 i q) = upTo (mixed m c) (cots m c) (1024 * (t.val / 16) + i.val) q (512 * (t.val % 16) + 512) := by
  rw [pay, hs]
  exact upTo_add _ _ _ _ _ _ _ (fun k => iblk0 m c t i k) fun k => iblk1 m c t k q

theorem acc (n : ℕ) : ∀ hn : n < cfg0.N, ∀ i q : Fin 1024,
    outsAt0 m c n hn (ix2 i q) = upTo (mixed m c) (cots m c) (1024 * (n / 16) + i.val) q (512 * (n % 16) + 512) := by
  induction n with
  | zero =>
    intro hn i q
    rw [first m c ⟨0, hn⟩ rfl]
    exact grow m c ⟨0, hn⟩ i q _ ((pay0 i q).trans (Finset.sum_range_zero _).symm)
  | succ n ih =>
    intro hn i q
    by_cases h : (n + 1) % 16 = 0
    · rw [first m c ⟨n + 1, hn⟩ h]
      refine grow m c ⟨n + 1, hn⟩ i q _ ((pay0 i q).trans ?_)
      show _ = upTo _ _ _ _ (512 * ((n + 1) % 16))
      rw [h]
      exact (Finset.sum_range_zero _).symm
    · rw [later m c ⟨n + 1, hn⟩ h]
      refine grow m c ⟨n + 1, hn⟩ i q _ ((ih (by omega) i q).trans ?_)
      show _ = upTo _ _ (1024 * ((n + 1) / 16) + i.val) _ (512 * ((n + 1) % 16))
      rw [show n / 16 = (n + 1) / 16 by omega, show 512 * (n % 16) + 512 = 512 * ((n + 1) % 16) by omega]

theorem arr2 : (dats m 0 c).arrAt 2 cfg0.N = fun i => upTo (mixed m c) (cots m c) (i 0).val (i 1) 8192 :=
  (dats m 0 c).arrAt_eq_of_covers 2 (fun i => upTo (mixed m c) (cots m c) (i 0).val (i 1) 8192) (by decide +kernel) fun t hf y => by
    blk_simp
    rw [after0_2]
    idx_vars y
    have ht : t.val < 32 := t.isLt
    have h7 : t.val % 16 = 15 := (by decide +kernel : ∀ t : Fin grid0.N, (win0_2).flush t = true → t.val % 16 = 15) t hf
    have e : (win0_2.blk t).view.emb (ix2 y0 y1) = ix2 ⟨1024 * (t.val / 16) + y0.val, by omega⟩ y1 := by blk_ext [e2]
    have ei : win0_2.index t 0 = t.val / 16 := by rw [e2]; rfl
    rw [e, acc, h7, ei, Nat.mul_comm (t.val / 16)]
    rfl

end Cert.Kernel9Ideal.Wout

namespace Cert.Wout

open Idealize.ShloMosaic Idealize.ShloMosaic.TcCoe Idealize.SL.Sem Cert.Reference9Ideal.Value Cert.Reference9Ideal.Read

theorem algebraic : Cert.algebraic_Kernel9Ideal_Reference9Ideal := by
  intro m g m' g' _ hargs
  refine ⟨fun c i => upTo (Cert.Kernel9Ideal.Wout.mixed m c) (Cert.Kernel9Ideal.Wout.cots m c) (i 0).val (i 1) 8192, ?_, ?_⟩
  · refine (θ_run _ _ _).mono (fun r h c => ?_) (Cert.Kernel9Ideal.Value.run_blocks m g)
    obtain ⟨h0, hr⟩ := h c
    exact ⟨h0.trans (Cert.Kernel9Ideal.Wout.arr2 m c), hr⟩
  · refine (θ_run _ _ _).mono (fun r h c => ?_) (Cert.Reference9Ideal.Value.run m' g')
    obtain ⟨h0, hr⟩ := h c
    obtain ⟨e0, e1, e2, e3, e4, e5⟩ := hargs c
    have e := val_main_v40_eq (F := Ideal) m' c
    rw [e0, e1, e2, e3, e4, e5] at e
    exact ⟨h0.trans (e.trans (Cert.Reference9Ideal.Wout.r_v40 _ _ _ _ _ _)), hr⟩

end Cert.Wout

end
-- ==== Proof.InprojClaim.lean ====
/- The in projection: the kernel's blocks of products are the reference's. -/
module

public import proofs.«01_k».proof.Defs
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Lift
public import Idealize.ShloMosaic.Lib.Pipeline.ValueKit
public import Idealize.ShloMosaic.Lib.KernelVsHost

@[expose] public section

set_option maxRecDepth 16384

noncomputable section

namespace Cert.Inproj

open Idealize.ShloMosaic

abbrev Rows := (⟨2, ![8192, 1024]⟩ : Shape).Idx → EReal
abbrev Weight := (⟨2, ![1024, 6672]⟩ : Shape).Idx → EReal

/-- The weight at a feature and a column, zero in the padding columns. -/
def col (w : Weight) (d : Fin 1024) (j : ℕ) : EReal := if h : j < 6672 then w (ix2 d ⟨j, h⟩) else 0

/-- The projection at a row and a column. -/
def proj (x : Rows) (w : Weight) (r : Fin 8192) (j : ℕ) : EReal := ∑ d : Fin 1024, x (ix2 r d) * col w d j

end Cert.Inproj

namespace Cert.Reference8Ideal.Inproj

open Cert.Reference8Ideal Cert.Reference8Ideal.Gen Cert.Reference8Ideal.Read Idealize.ShloMosaic Cert.Inproj

theorem r_v18 (x : (⟨S2x4096x1024, .f32⟩ : BufTy).Contents (Elt Ideal)) (w : (⟨S1x1024, .f32⟩ : BufTy).Contents (Elt Ideal)) (a : (⟨S1x1024x6672, .f32⟩ : BufTy).Contents (Elt Ideal)) :
    val_main_v18 (F := Ideal) x w a = fun i => proj (val_main_v14 (F := Ideal) x w) (val_main_v15 (F := Ideal) a) (i 0) (i 1).val := by
  funext i; idx_vars i
  unfold proj val_main_v18
  by_cases hj : i1.val < 6672
  · refine (concatenate_pair_apply_left (s₁ := S8192x6672) (s₂ := S8192x496) 1 _ _ _ (ix2 i0 i1) rfl (ix2 i0 ⟨i1.val, hj⟩) (by intro b; fin_cases b <;> rfl)).trans ?_
    rw [val_main_v16_apply]
    refine Finset.sum_congr rfl fun r _ => ?_
    unfold col
    rw [dif_pos hj]
    congr 2 <;> (funext a; match a with | ⟨0, _⟩ => rfl | ⟨1, _⟩ => rfl)
  · have := i1.isLt
    refine (concatenate_pair_apply_right (s₁ := S8192x6672) (s₂ := S8192x496) 1 _ _ _ (ix2 i0 i1) rfl rfl (ix2 i0 ⟨i1.val - 6672, by omega⟩) (by intro b hb; match b, hb with | ⟨0, _⟩, _ => rfl | ⟨1, _⟩, hb => exact absurd rfl hb) (Nat.sub_add_cancel (by omega))).trans ?_
    rw [val_main_v17_apply]
    have z : val_main_cst_2 (F := Ideal) (idx_main_v17 (ix2 i0 ⟨i1.val - 6672, by omega⟩)) = ((0 : ℝ) : EReal) := Cert.Lift.bits_zero
    rw [z]
    refine (Finset.sum_eq_zero fun r _ => ?_).symm
    unfold col
    rw [dif_neg hj, mul_zero]

end Cert.Reference8Ideal.Inproj

namespace Cert.Kernel8Ideal.Inproj

open Cert.Kernel8Ideal Cert.Kernel8Ideal.Gen Idealize.ShloMosaic Idealize.ShloMosaic.TcCoe Cert.Inproj

variable (m : (ℓ : Loc nD τ sig) → Buf (Elt Ideal) ℓ) (c : Dev nD)

theorem e0 : ∀ t : Fin cfg0.N, win0_0.index t = ![t.val / 7, 0] := (by decide +kernel : ∀ t : Fin grid0.N, win0_0.index t = ![t.val / 7, 0])
theorem e1 : ∀ t : Fin cfg0.N, win0_1.index t = ![t.val % 7, 0] := (by decide +kernel : ∀ t : Fin grid0.N, win0_1.index t = ![t.val % 7, 0])
theorem e2 : ∀ t : Fin cfg0.N, win0_2.index t = ![t.val / 7, t.val % 7] := (by decide +kernel : ∀ t : Fin grid0.N, win0_2.index t = ![t.val / 7, t.val % 7])

/-- The normalised input by rows of the flattened batch, and the weight, on a device. -/
abbrev rows : Rows := Cert.Reference8Ideal.Read.val_main_v14 (F := Ideal) (m ((c : Thread nD τ).loc main_arg0)) (m ((c : Thread nD τ).loc main_arg1))
abbrev wts : Weight := Cert.Reference8Ideal.Read.val_main_v15 (F := Ideal) (m ((c : Thread nD τ).loc main_arg2))

theorem zero_int (j : S_.Idx) : sitofp (F := Ideal) .bf16 (constantI S_ 32 0#32) j = 0 := by
  show ((((0#32 : BitVec 32).toInt : ℝ)) : EReal) = _
  norm_num

theorem V_v15 : V m c main_v15 = rows m c := by
  unfold V
  simp only [hostOps0, hostOps0_1, List.flatten_cons, List.flatten_nil, List.append_nil, List.cons_append, List.nil_append]
  after_results
  rfl

theorem V_v17 : V m c main_v17 = transpose S6672x1024 [1, 0] (wts m c) transposes_S1024x6672_S6672x1024_1_0 := by
  unfold V
  simp only [hostOps0, hostOps0_1, List.flatten_cons, List.flatten_nil, List.append_nil, List.cons_append, List.nil_append]
  after_results
  rfl

theorem V_v19 (j : Fin 7168) (d : Fin 1024) : V m c main_v19 (ix2 j d) = col (wts m c) d j.val := by
  have e : V m c main_v19 = pad S7168x1024 ![0, 0] ![496, 0] ![0, 0] (V m c main_v17) (sitofp (F := Ideal) .bf16 (constantI S_ 32 0#32))
      pads_S6672x1024_S7168x1024_04960_000 h_S_ := by
    unfold V
    simp only [hostOps0, hostOps0_1, List.flatten_cons, List.flatten_nil, List.append_nil, List.cons_append, List.nil_append]
    after_results
    rfl
  rw [e, V_v17]
  unfold col
  by_cases hj : j.val < 6672
  · rw [dif_pos hj]
    refine (pad_apply_of_inside _ _ _ _ _ _ _ _ (ix2 ⟨j.val, hj⟩ d) fun i => ?_).trans ?_
    · fin_cases i <;> simp [ix2]
    · exact transpose_apply [1, 0] (wts m c) transposes_S1024x6672_S6672x1024_1_0 _ (ix2 d ⟨j.val, hj⟩) (fun b => match b with | ⟨0, _⟩ => rfl | ⟨1, _⟩ => rfl)
  · rw [dif_neg hj]
    refine (pad_apply_of_not_inside _ _ _ _ _ _ _ _ 0 ?_).trans (zero_int _)
    show ¬(0 ≤ j.val ∧ (j.val - 0) % (0 + 1) = 0 ∧ (j.val - 0) / (0 + 1) < 6672)
    omega

theorem iblk0 (t : Fin cfg0.N) (i d : Fin 1024) :
    iblk m c 0 t (ix2 i d) = rows m c (ix2 ⟨1024 * (t.val / 7) + i.val, by have : t.val < 56 := t.isLt; omega⟩ d) := by
  blk_simp [iblk]
  have ht : t.val < 56 := t.isLt
  have e : (win0_0.blk t).view.emb (ix2 i d) = ix2 ⟨1024 * (t.val / 7) + i.val, by omega⟩ d := by blk_ext [e0]
  rw [e]
  exact congrFun (V_v15 m c) _

theorem iblk1 (t : Fin cfg0.N) (q d : Fin 1024) : iblk m c 1 t (ix2 q d) = col (wts m c) d (1024 * (t.val % 7) + q.val) := by
  blk_simp [iblk]
  have e : (win0_1.blk t).view.emb (ix2 q d) = ix2 ⟨1024 * (t.val % 7) + q.val, by omega⟩ d := by blk_ext [e1]
  rw [e]
  exact V_v19 m c _ _

theorem pay (a p : Vec Ideal S1024x1024 .bf16) (i q : Fin 1024) : k0_pay1 a p (ix2 i q) = ∑ d : Fin 1024, a (ix2 i d) * p (ix2 q d) := by
  pointwise [k0_pay1]

theorem arr2 : (dats m 0 c).arrAt 2 cfg0.N = fun i => proj (rows m c) (wts m c) (i 0) (i 1).val :=
  (dats m 0 c).arrAt_eq_of_covers 2 (fun i => proj (rows m c) (wts m c) (i 0) (i 1).val) (by decide +kernel) fun t hf y => by
    blk_simp
    rw [after0_2]
    idx_vars y
    have ht : t.val < 56 := t.isLt
    have e : (win0_2.blk t).view.emb (ix2 y0 y1) = ix2 ⟨1024 * (t.val / 7) + y0.val, by omega⟩ ⟨1024 * (t.val % 7) + y1.val, by omega⟩ := by blk_ext [e2]
    have ei : win0_2.index t 1 = t.val % 7 := by rw [e2]; rfl
    rw [e, ei, Nat.mul_comm (t.val % 7)]
    unfold out0_2
    frame_out
    rw [pay]
    simp only [iblk0, iblk1]
    rfl

end Cert.Kernel8Ideal.Inproj

namespace Cert.Inproj

open Idealize.ShloMosaic Idealize.ShloMosaic.TcCoe Idealize.SL.Sem Cert.Reference8Ideal.Value Cert.Reference8Ideal.Read

theorem algebraic : Cert.algebraic_Kernel8Ideal_Reference8Ideal := by
  intro m g m' g' _ hargs
  refine ⟨fun c i => proj (Cert.Kernel8Ideal.Inproj.rows m c) (Cert.Kernel8Ideal.Inproj.wts m c) (i 0) (i 1).val, ?_, ?_⟩
  · refine (θ_run _ _ _).mono (fun r h c => ?_) (Cert.Kernel8Ideal.Value.run_blocks m g)
    obtain ⟨h0, hr⟩ := h c
    exact ⟨h0.trans (Cert.Kernel8Ideal.Inproj.arr2 m c), hr⟩
  · refine (θ_run _ _ _).mono (fun r h c => ?_) (Cert.Reference8Ideal.Value.run m' g')
    obtain ⟨h0, hr⟩ := h c
    obtain ⟨e0, e1, e2⟩ := hargs c
    rw [e0, e1, e2] at h0
    exact ⟨h0.trans ((val_main_v18_eq _ _ _).trans (Cert.Reference8Ideal.Inproj.r_v18 _ _ _)), hr⟩

end Cert.Inproj

end
-- ==== Proof.lean ====
module

public import proofs.«01_k».proof.Proof.AttnDFrame
public import proofs.«01_k».proof.Proof.AttnDBitsFrame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Pre_finite
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Loops
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Loops
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite3
public import proofs.«01_k».proof.Proof.Gen.Pre_finite6
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11
public import proofs.«01_k».proof.Proof.Gen.Reference11Ideal
public import proofs.«01_k».proof.Proof.Gen.Kernel11Ideal.Value
public import proofs.«01_k».proof.Proof.Gen.Reference11Ideal.Run
public import proofs.«01_k».proof.Proof.Gen.Reference11.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12
public import proofs.«01_k».proof.Proof.Gen.Reference12Ideal
public import proofs.«01_k».proof.Proof.Gen.Kernel12Ideal.Value
public import proofs.«01_k».proof.Proof.Gen.Reference12Ideal.Run
public import proofs.«01_k».proof.Proof.Gen.Reference12.Run
public import proofs.«01_k».proof.Proof.Gen.Reference12Ideal.Read
public import proofs.«01_k».proof.Proof.GateClaim
public import proofs.«01_k».proof.Proof.NormClaim
public import proofs.«01_k».proof.Proof.DhnClaim
public import proofs.«01_k».proof.Proof.AttnClaim
public import proofs.«01_k».proof.Proof.ScanClaim
public import proofs.«01_k».proof.Proof.GradClaim
public import proofs.«01_k».proof.Proof.AddClaim
public import proofs.«01_k».proof.Proof.StackClaim
public import proofs.«01_k».proof.Proof.AdamClaim
public import proofs.«01_k».proof.Proof.WoutClaim
public import proofs.«01_k».proof.Proof.InprojClaim
public import proofs.«01_k».proof.Proof.AttnBitsFrame
public import Idealize.ShloMosaic.Adequacy
public import Idealize.ShloMosaic.Init

@[expose] public section

noncomputable section

namespace Cert.Proof

open Idealize.ShloMosaic Idealize.SL.Sem Cert.Kernel

/-- The gate call's reference: its run, with the values dropped; it declares no semaphore. -/
theorem gate_reference : Cert.quiescent_ReferenceIdeal (hReferenceIdeal := Cert.ReferenceIdeal.Gen.facts) := fun m ρ _ =>
  (θ_run Cert.ReferenceIdeal.defs _ _).mono (fun r h => ⟨fun c => (h c).2.2.2.2.2.2.2.2, sem_eq_zero_of_no_sems (by decide) r.2⟩)
    (Cert.ReferenceIdeal.Value.run (F := Ideal) m ρ)

/-- The in projection's gradient call's reference: its run, with the values dropped; it declares no semaphore. -/
theorem dhn_reference : Cert.quiescent_Reference2Ideal (hReference2Ideal := Cert.Reference2Ideal.Gen.facts) := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The printed call's frame is the one run's at the printed words: the two programs have the same text. -/
theorem dhn_frame : Cert.quiescent_Kernel2 (hKernel2 := Cert.Kernel2.Gen.facts) := fun m ρ _ =>
  Eq.mp (by sl_kernel_rfl) (Cert.Dhn.frame (F := Bits) m ρ)

/-- The attention's reference: its run, with the values dropped; it declares no semaphore. -/
theorem attention_reference : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The attention's ideal program names one constant, the threshold of the early exit. -/
theorem attention_named : Cert.preserves_Kernel3_Kernel3Ideal :=
  IdealRules.named_const.statement Cert.Kernel3Ideal.κ "exit" .f32 0xC2D20000#32 ⊥ rfl

/-- The pre-norm's reference: its run, with the values dropped; it declares no semaphore. -/
theorem norm_reference : Cert.quiescent_Reference5Ideal (hReference5Ideal := Cert.Reference5Ideal.Gen.facts) := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- The scan's reference: its run, with the values dropped; it declares no semaphore. -/
theorem scan_reference : Cert.quiescent_Reference6Ideal (hReference6Ideal := Cert.Reference6Ideal.Gen.facts) := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- The in projection's weight gradient's reference: its run, with the values dropped; it declares no semaphore. -/
theorem grad_reference : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

/-- The in projection's reference: its run, with the value dropped; it declares no semaphore. -/
theorem inproj_reference : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

/-- The output projection's weight gradient's reference: its run, with the value dropped; it declares no semaphore. -/
theorem wout_reference : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

/-- The optimiser's reference: its run, with the values dropped; it declares no semaphore. -/
theorem adam_reference : Cert.quiescent_Reference10Ideal (hReference10Ideal := Cert.Reference10Ideal.Gen.facts) := fun m ρ _ =>
  (θ_run Cert.Reference10Ideal.defs _ _).mono (fun r h => ⟨fun c => (h c).2.2.2, sem_eq_zero_of_no_sems (by decide) r.2⟩)
    (Cert.Reference10Ideal.Value.run (F := Ideal) m ρ)

/-- The sum of the chips' parts's reference: its run, with the value dropped; it declares no semaphore. -/
theorem add_reference : Cert.quiescent_Reference11Ideal (hReference11Ideal := Cert.Reference11Ideal.Gen.facts) := fun m ρ _ =>
  (θ_run Cert.Reference11Ideal.defs _ _).mono (fun r h => ⟨fun c => (h c).2, sem_eq_zero_of_no_sems (by decide) r.2⟩)
    (Cert.Reference11Ideal.Value.run (F := Ideal) m ρ)

/-- The same of the printed program. -/
theorem add_reference_words : Cert.quiescent_Reference11 (hReference11 := Cert.Reference11.Gen.facts) := fun m ρ _ =>
  (θ_run Cert.Reference11.defs _ _).mono (fun r h => ⟨fun c => (h c).2, sem_eq_zero_of_no_sems (by decide) r.2⟩)
    (Cert.Reference11.Value.run (F := Bits) m ρ)

/-- The packing's reference: its run, with the value dropped; it declares no semaphore. -/
theorem stack_reference : Cert.quiescent_Reference12Ideal (hReference12Ideal := Cert.Reference12Ideal.Gen.facts) := fun m ρ _ =>
  (θ_run Cert.Reference12Ideal.defs _ _).mono (fun r h => ⟨fun c => (h c).2, sem_eq_zero_of_no_sems (by decide) r.2⟩)
    (Cert.Reference12Ideal.Value.run (F := Ideal) m ρ)

/-- The same of the printed program. -/
theorem stack_reference_words : Cert.quiescent_Reference12 (hReference12 := Cert.Reference12.Gen.facts) := fun m ρ _ =>
  (θ_run Cert.Reference12.defs _ _).mono (fun r h => ⟨fun c => (h c).2, sem_eq_zero_of_no_sems (by decide) r.2⟩)
    (Cert.Reference12.Value.run (F := Bits) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts, Cert.Reference11.Gen.facts,
  Cert.Kernel12.Gen.facts, Cert.Kernel12Ideal.Gen.facts, Cert.Reference12Ideal.Gen.facts, Cert.Reference12.Gen.facts,
  Cert.Kernel13.Gen.facts, Cert.Kernel13Ideal.Gen.facts,
  Cert.Pre_finite.Gen.facts, Cert.Pre_finite2.Gen.facts, Cert.Pre_finite3.Gen.facts, Cert.Pre_finite6.Gen.facts,
  fun m ρ _ => Cert.Kernel.Gen.frame m ρ, fun m ρ _ => Cert.KernelIdeal.Gen.frame m ρ, fun m ρ _ => Cert.KernelIdeal.Gen.frame m ρ,
  gate_reference, fun m ρ _ => gate_reference m ρ trivial,
  dhn_frame, fun m ρ _ => Cert.Dhn.frame m ρ, fun m ρ _ => Cert.Dhn.frame m ρ,
  dhn_reference, fun m ρ _ => dhn_reference m ρ trivial,
  fun m ρ _ => Cert.AttnBits.frame (F := Bits) m ρ, fun m ρ _ => Cert.Attn.frame (F := Ideal) m ρ, fun m ρ _ => Cert.Attn.frame (F := Ideal) m ρ,
  attention_reference, fun m ρ _ => attention_reference m ρ trivial,
  fun m ρ _ => Cert.Kernel4.Gen.frame m ρ, fun m ρ _ => Cert.Kernel4Ideal.Gen.frame m ρ,
  fun m ρ _ => Cert.Kernel5.Gen.frame m ρ, fun m ρ _ => Cert.Kernel5Ideal.Gen.frame m ρ, norm_reference,
  fun m ρ _ => Cert.Kernel6.Gen.frame m ρ, fun m ρ _ => Cert.Kernel6Ideal.Gen.frame m ρ, fun m ρ _ => Cert.Kernel6Ideal.Gen.frame m ρ,
  scan_reference, fun m ρ _ => scan_reference m ρ trivial,
  fun m ρ _ => Cert.Kernel7.Gen.frame m ρ, fun m ρ _ => Cert.Kernel7Ideal.Gen.frame m ρ, grad_reference,
  fun m ρ _ => Cert.Kernel8.Gen.frame m ρ, fun m ρ _ => Cert.Kernel8Ideal.Gen.frame m ρ, inproj_reference,
  fun m ρ _ => Cert.Kernel9.Gen.frame m ρ, fun m ρ _ => Cert.Kernel9Ideal.Gen.frame m ρ, wout_reference,
  fun m ρ _ => Cert.Kernel10.Gen.frame m ρ, fun m ρ _ => Cert.Kernel10Ideal.Gen.frame m ρ, adam_reference,
  fun m ρ _ => Cert.Kernel11.Gen.frame m ρ, fun m ρ _ => Cert.Kernel11Ideal.Gen.frame m ρ, add_reference, add_reference_words,
  fun m ρ _ => Cert.Kernel12.Gen.frame m ρ, fun m ρ _ => Cert.Kernel12Ideal.Gen.frame m ρ, stack_reference, stack_reference_words,
  fun m ρ _ => Cert.AttnDBits.frame (F := Bits) m ρ, fun m ρ _ => Cert.AttnD.frame (F := Ideal) m ρ,
  trivial, Cert.Gate.algebraic, trivial, Cert.Dhn.algebraic, attention_named, Cert.Attn.algebraic,
  trivial, trivial, Cert.Norm.algebraic, trivial, Cert.Scan.algebraic, trivial, Cert.Grad.algebraic,
  trivial, Cert.Inproj.algebraic, trivial, Cert.Wout.algebraic, trivial, Cert.Adam.algebraic,
  trivial, Cert.Add.algebraic, Cert.Add.bitexact, trivial, Cert.Stack.algebraic, Cert.Stack.bitexact, trivial⟩

end Cert.Proof

end
